-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhReferenceIdeal (m : (ℓ : Loc Cert.DhReferenceIdeal.nD Cert.DhReferenceIdeal.τ Cert.DhReferenceIdeal.sig) → Buf (Elt Ideal) ℓ) : Prop :=
  True

def Pre_Dx2 (m : (ℓ : Loc Cert.Dx2.nD Cert.Dx2.τ Cert.Dx2.sig) → Buf (Elt Bits) ℓ) : Prop :=
  True

def Pre_Dx2Ideal (m : (ℓ : Loc Cert.Dx2Ideal.nD Cert.Dx2Ideal.τ Cert.Dx2Ideal.sig) → Buf (Elt Ideal) ℓ) : Prop :=
  True

def Pre_Dx2ReferenceIdeal (m : (ℓ : Loc Cert.Dx2ReferenceIdeal.nD Cert.Dx2ReferenceIdeal.τ Cert.Dx2ReferenceIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxReferenceIdeal (m : (ℓ : Loc Cert.DxReferenceIdeal.nD Cert.DxReferenceIdeal.τ Cert.DxReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_DwDownS (m : (ℓ : Loc Cert.DwDownS.nD Cert.DwDownS.τ Cert.DwDownS.sig) → Buf (Elt Bits) ℓ) : Prop :=
  True

def Pre_DwDownSIdeal (m : (ℓ : Loc Cert.DwDownSIdeal.nD Cert.DwDownSIdeal.τ Cert.DwDownSIdeal.sig) → Buf (Elt Ideal) ℓ) : Prop :=
  True

def Pre_DwDownSReferenceIdeal (m : (ℓ : Loc Cert.DwDownSReferenceIdeal.nD Cert.DwDownSReferenceIdeal.τ Cert.DwDownSReferenceIdeal.sig) → Buf (Elt Ideal) ℓ) : Prop :=
  True

def Pre_DwDownO (m : (ℓ : Loc Cert.DwDownO.nD Cert.DwDownO.τ Cert.DwDownO.sig) → Buf (Elt Bits) ℓ) : Prop :=
  True

def Pre_DwDownOIdeal (m : (ℓ : Loc Cert.DwDownOIdeal.nD Cert.DwDownOIdeal.τ Cert.DwDownOIdeal.sig) → Buf (Elt Ideal) ℓ) : Prop :=
  True

def Pre_DwDownOReferenceIdeal (m : (ℓ : Loc Cert.DwDownOReferenceIdeal.nD Cert.DwDownOReferenceIdeal.τ Cert.DwDownOReferenceIdeal.sig) → Buf (Elt Ideal) ℓ) : Prop :=
  True

def Pre_DwUpS (m : (ℓ : Loc Cert.DwUpS.nD Cert.DwUpS.τ Cert.DwUpS.sig) → Buf (Elt Bits) ℓ) : Prop :=
  True

def Pre_DwUpSIdeal (m : (ℓ : Loc Cert.DwUpSIdeal.nD Cert.DwUpSIdeal.τ Cert.DwUpSIdeal.sig) → Buf (Elt Ideal) ℓ) : Prop :=
  True

def Pre_DwUpSReferenceIdeal (m : (ℓ : Loc Cert.DwUpSReferenceIdeal.nD Cert.DwUpSReferenceIdeal.τ Cert.DwUpSReferenceIdeal.sig) → Buf (Elt Ideal) ℓ) : Prop :=
  True

def Pre_DwUpO (m : (ℓ : Loc Cert.DwUpO.nD Cert.DwUpO.τ Cert.DwUpO.sig) → Buf (Elt Bits) ℓ) : Prop :=
  True

def Pre_DwUpOIdeal (m : (ℓ : Loc Cert.DwUpOIdeal.nD Cert.DwUpOIdeal.τ Cert.DwUpOIdeal.sig) → Buf (Elt Ideal) ℓ) : Prop :=
  True

def Pre_DwUpOReferenceIdeal (m : (ℓ : Loc Cert.DwUpOReferenceIdeal.nD Cert.DwUpOReferenceIdeal.τ Cert.DwUpOReferenceIdeal.sig) → Buf (Elt Ideal) ℓ) : Prop :=
  True

def Pre_O (m : (ℓ : Loc Cert.O.nD Cert.O.τ Cert.O.sig) → Buf (Elt Bits) ℓ) : Prop :=
  True

def Pre_OIdeal (m : (ℓ : Loc Cert.OIdeal.nD Cert.OIdeal.τ Cert.OIdeal.sig) → Buf (Elt Ideal) ℓ) : Prop :=
  True

def Pre_OReferenceIdeal (m : (ℓ : Loc Cert.OReferenceIdeal.nD Cert.OReferenceIdeal.τ Cert.OReferenceIdeal.sig) → Buf (Elt Ideal) ℓ) : Prop :=
  True

def Pre_DwOS (m : (ℓ : Loc Cert.DwOS.nD Cert.DwOS.τ Cert.DwOS.sig) → Buf (Elt Bits) ℓ) : Prop :=
  True

def Pre_DwOSIdeal (m : (ℓ : Loc Cert.DwOSIdeal.nD Cert.DwOSIdeal.τ Cert.DwOSIdeal.sig) → Buf (Elt Ideal) ℓ) : Prop :=
  True

def Pre_DwOSReferenceIdeal (m : (ℓ : Loc Cert.DwOSReferenceIdeal.nD Cert.DwOSReferenceIdeal.τ Cert.DwOSReferenceIdeal.sig) → Buf (Elt Ideal) ℓ) : Prop :=
  True

def Pre_DwOO (m : (ℓ : Loc Cert.DwOO.nD Cert.DwOO.τ Cert.DwOO.sig) → Buf (Elt Bits) ℓ) : Prop :=
  True

def Pre_DwOOIdeal (m : (ℓ : Loc Cert.DwOOIdeal.nD Cert.DwOOIdeal.τ Cert.DwOOIdeal.sig) → Buf (Elt Ideal) ℓ) : Prop :=
  True

def Pre_DwOOReferenceIdeal (m : (ℓ : Loc Cert.DwOOReferenceIdeal.nD Cert.DwOOReferenceIdeal.τ Cert.DwOOReferenceIdeal.sig) → Buf (Elt Ideal) ℓ) : Prop :=
  True

def Pre_DwBrS (m : (ℓ : Loc Cert.DwBrS.nD Cert.DwBrS.τ Cert.DwBrS.sig) → Buf (Elt Bits) ℓ) : Prop :=
  True

def Pre_DwBrSIdeal (m : (ℓ : Loc Cert.DwBrSIdeal.nD Cert.DwBrSIdeal.τ Cert.DwBrSIdeal.sig) → Buf (Elt Ideal) ℓ) : Prop :=
  True

def Pre_DwBrSReferenceIdeal (m : (ℓ : Loc Cert.DwBrSReferenceIdeal.nD Cert.DwBrSReferenceIdeal.τ Cert.DwBrSReferenceIdeal.sig) → Buf (Elt Ideal) ℓ) : Prop :=
  True

def Pre_DwBrO (m : (ℓ : Loc Cert.DwBrO.nD Cert.DwBrO.τ Cert.DwBrO.sig) → Buf (Elt Bits) ℓ) : Prop :=
  True

def Pre_DwBrOIdeal (m : (ℓ : Loc Cert.DwBrOIdeal.nD Cert.DwBrOIdeal.τ Cert.DwBrOIdeal.sig) → Buf (Elt Ideal) ℓ) : Prop :=
  True

def Pre_DwBrOReferenceIdeal (m : (ℓ : Loc Cert.DwBrOReferenceIdeal.nD Cert.DwBrOReferenceIdeal.τ Cert.DwBrOReferenceIdeal.sig) → Buf (Elt Ideal) ℓ) : Prop :=
  True

def Pre_DwXoS (m : (ℓ : Loc Cert.DwXoS.nD Cert.DwXoS.τ Cert.DwXoS.sig) → Buf (Elt Bits) ℓ) : Prop :=
  True

def Pre_DwXoSIdeal (m : (ℓ : Loc Cert.DwXoSIdeal.nD Cert.DwXoSIdeal.τ Cert.DwXoSIdeal.sig) → Buf (Elt Ideal) ℓ) : Prop :=
  True

def Pre_DwXoSReferenceIdeal (m : (ℓ : Loc Cert.DwXoSReferenceIdeal.nD Cert.DwXoSReferenceIdeal.τ Cert.DwXoSReferenceIdeal.sig) → Buf (Elt Ideal) ℓ) : Prop :=
  True

def Pre_DwXoO (m : (ℓ : Loc Cert.DwXoO.nD Cert.DwXoO.τ Cert.DwXoO.sig) → Buf (Elt Bits) ℓ) : Prop :=
  True

def Pre_DwXoOIdeal (m : (ℓ : Loc Cert.DwXoOIdeal.nD Cert.DwXoOIdeal.τ Cert.DwXoOIdeal.sig) → Buf (Elt Ideal) ℓ) : Prop :=
  True

def Pre_DwXoOReferenceIdeal (m : (ℓ : Loc Cert.DwXoOReferenceIdeal.nD Cert.DwXoOReferenceIdeal.τ Cert.DwXoOReferenceIdeal.sig) → Buf (Elt Ideal) ℓ) : Prop :=
  True

def Pre_DwXqS (m : (ℓ : Loc Cert.DwXqS.nD Cert.DwXqS.τ Cert.DwXqS.sig) → Buf (Elt Bits) ℓ) : Prop :=
  True

def Pre_DwXqSIdeal (m : (ℓ : Loc Cert.DwXqSIdeal.nD Cert.DwXqSIdeal.τ Cert.DwXqSIdeal.sig) → Buf (Elt Ideal) ℓ) : Prop :=
  True

def Pre_DwXqSReferenceIdeal (m : (ℓ : Loc Cert.DwXqSReferenceIdeal.nD Cert.DwXqSReferenceIdeal.τ Cert.DwXqSReferenceIdeal.sig) → Buf (Elt Ideal) ℓ) : Prop :=
  True

def Pre_DwXqO (m : (ℓ : Loc Cert.DwXqO.nD Cert.DwXqO.τ Cert.DwXqO.sig) → Buf (Elt Bits) ℓ) : Prop :=
  True

def Pre_DwXqOIdeal (m : (ℓ : Loc Cert.DwXqOIdeal.nD Cert.DwXqOIdeal.τ Cert.DwXqOIdeal.sig) → Buf (Elt Ideal) ℓ) : Prop :=
  True

def Pre_DwXqOReferenceIdeal (m : (ℓ : Loc Cert.DwXqOReferenceIdeal.nD Cert.DwXqOReferenceIdeal.τ Cert.DwXqOReferenceIdeal.sig) → Buf (Elt Ideal) ℓ) : Prop :=
  True

def Pre_DwKvS (m : (ℓ : Loc Cert.DwKvS.nD Cert.DwKvS.τ Cert.DwKvS.sig) → Buf (Elt Bits) ℓ) : Prop :=
  True

def Pre_DwKvSIdeal (m : (ℓ : Loc Cert.DwKvSIdeal.nD Cert.DwKvSIdeal.τ Cert.DwKvSIdeal.sig) → Buf (Elt Ideal) ℓ) : Prop :=
  True

def Pre_DwKvSReferenceIdeal (m : (ℓ : Loc Cert.DwKvSReferenceIdeal.nD Cert.DwKvSReferenceIdeal.τ Cert.DwKvSReferenceIdeal.sig) → Buf (Elt Ideal) ℓ) : Prop :=
  True

def Pre_DwKvO (m : (ℓ : Loc Cert.DwKvO.nD Cert.DwKvO.τ Cert.DwKvO.sig) → Buf (Elt Bits) ℓ) : Prop :=
  True

def Pre_DwKvOIdeal (m : (ℓ : Loc Cert.DwKvOIdeal.nD Cert.DwKvOIdeal.τ Cert.DwKvOIdeal.sig) → Buf (Elt Ideal) ℓ) : Prop :=
  True

def Pre_DwKvOReferenceIdeal (m : (ℓ : Loc Cert.DwKvOReferenceIdeal.nD Cert.DwKvOReferenceIdeal.τ Cert.DwKvOReferenceIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_Sum (m : (ℓ : Loc Cert.Sum.nD Cert.Sum.τ Cert.Sum.sig) → Buf (Elt Bits) ℓ) : Prop :=
  True

def Pre_SumIdeal (m : (ℓ : Loc Cert.SumIdeal.nD Cert.SumIdeal.τ Cert.SumIdeal.sig) → Buf (Elt Ideal) ℓ) : Prop :=
  True

def Pre_SumReferenceIdeal (m : (ℓ : Loc Cert.SumReferenceIdeal.nD Cert.SumReferenceIdeal.τ Cert.SumReferenceIdeal.sig) → Buf (Elt Ideal) ℓ) : Prop :=
  True

def Pre_AdamO (m : (ℓ : Loc Cert.AdamO.nD Cert.AdamO.τ Cert.AdamO.sig) → Buf (Elt Bits) ℓ) : Prop :=
  True

def Pre_AdamOIdeal (m : (ℓ : Loc Cert.AdamOIdeal.nD Cert.AdamOIdeal.τ Cert.AdamOIdeal.sig) → Buf (Elt Ideal) ℓ) : Prop :=
  True

def Pre_AdamOReferenceIdeal (m : (ℓ : Loc Cert.AdamOReferenceIdeal.nD Cert.AdamOReferenceIdeal.τ Cert.AdamOReferenceIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpReferenceIdeal (m : (ℓ : Loc Cert.AdamUpReferenceIdeal.nD Cert.AdamUpReferenceIdeal.τ Cert.AdamUpReferenceIdeal.sig) → Buf (Elt Ideal) ℓ) : Prop :=
  True

def Pre_AdamBr (m : (ℓ : Loc Cert.AdamBr.nD Cert.AdamBr.τ Cert.AdamBr.sig) → Buf (Elt Bits) ℓ) : Prop :=
  True

def Pre_AdamBrIdeal (m : (ℓ : Loc Cert.AdamBrIdeal.nD Cert.AdamBrIdeal.τ Cert.AdamBrIdeal.sig) → Buf (Elt Ideal) ℓ) : Prop :=
  True

def Pre_AdamBrReferenceIdeal (m : (ℓ : Loc Cert.AdamBrReferenceIdeal.nD Cert.AdamBrReferenceIdeal.τ Cert.AdamBrReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvReferenceIdeal (m : (ℓ : Loc Cert.AdamKvReferenceIdeal.nD Cert.AdamKvReferenceIdeal.τ Cert.AdamKvReferenceIdeal.sig) → Buf (Elt Ideal) ℓ) : Prop :=
  True

def Pre_AdamXq (m : (ℓ : Loc Cert.AdamXq.nD Cert.AdamXq.τ Cert.AdamXq.sig) → Buf (Elt Bits) ℓ) : Prop :=
  True

def Pre_AdamXqIdeal (m : (ℓ : Loc Cert.AdamXqIdeal.nD Cert.AdamXqIdeal.τ Cert.AdamXqIdeal.sig) → Buf (Elt Ideal) ℓ) : Prop :=
  True

def Pre_AdamXqReferenceIdeal (m : (ℓ : Loc Cert.AdamXqReferenceIdeal.nD Cert.AdamXqReferenceIdeal.τ Cert.AdamXqReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2))
      ∧ r.2.sem = fun _ => 0)

def quiescent_DhReferenceIdeal [hDhReferenceIdeal : Cert.DhReferenceIdeal.Facts] : Prop :=
  ∀ (m : (ℓ : Loc Cert.DhReferenceIdeal.nD Cert.DhReferenceIdeal.τ Cert.DhReferenceIdeal.sig) → Buf (Elt Ideal) ℓ) (g : Dev Cert.DhReferenceIdeal.nD → PrngReg), Pre_DhReferenceIdeal m →
    θ_run (Cert.DhReferenceIdeal.defs (F := Ideal)) (onTc (τ := Cert.DhReferenceIdeal.τ) (Cert.DhReferenceIdeal.main (F := Ideal))) ⟨m, fun _ => 0, g⟩ (fun r => (∀ c : Dev Cert.DhReferenceIdeal.nD,
      r.2.mem ((c.tc : Thread Cert.DhReferenceIdeal.nD Cert.DhReferenceIdeal.τ).loc Cert.DhReferenceIdeal.main_arg0) = m ((c.tc : Thread Cert.DhReferenceIdeal.nD Cert.DhReferenceIdeal.τ).loc Cert.DhReferenceIdeal.main_arg0)
      ∧ r.2.mem ((c.tc : Thread Cert.DhReferenceIdeal.nD Cert.DhReferenceIdeal.τ).loc Cert.DhReferenceIdeal.main_arg1) = m ((c.tc : Thread Cert.DhReferenceIdeal.nD Cert.DhReferenceIdeal.τ).loc Cert.DhReferenceIdeal.main_arg1)
      ∧ r.2.mem ((c.tc : Thread Cert.DhReferenceIdeal.nD Cert.DhReferenceIdeal.τ).loc Cert.DhReferenceIdeal.main_arg2) = m ((c.tc : Thread Cert.DhReferenceIdeal.nD Cert.DhReferenceIdeal.τ).loc Cert.DhReferenceIdeal.main_arg2))
      ∧ r.2.sem = fun _ => 0)

def quiescent_Dx2 [hDx2 : Cert.Dx2.Facts] : Prop :=
  ∀ (m : (ℓ : Loc Cert.Dx2.nD Cert.Dx2.τ Cert.Dx2.sig) → Buf (Elt Bits) ℓ) (g : Dev Cert.Dx2.nD → PrngReg), Pre_Dx2 m →
    θ_run (Cert.Dx2.defs (F := Bits)) (onTc (τ := Cert.Dx2.τ) (Cert.Dx2.main (F := Bits))) ⟨m, fun _ => 0, g⟩ (fun r => (∀ c : Dev Cert.Dx2.nD,
      r.2.mem ((c.tc : Thread Cert.Dx2.nD Cert.Dx2.τ).loc Cert.Dx2.main_arg0) = m ((c.tc : Thread Cert.Dx2.nD Cert.Dx2.τ).loc Cert.Dx2.main_arg0)
      ∧ r.2.mem ((c.tc : Thread Cert.Dx2.nD Cert.Dx2.τ).loc Cert.Dx2.main_arg1) = m ((c.tc : Thread Cert.Dx2.nD Cert.Dx2.τ).loc Cert.Dx2.main_arg1)
      ∧ r.2.mem ((c.tc : Thread Cert.Dx2.nD Cert.Dx2.τ).loc Cert.Dx2.main_arg2) = m ((c.tc : Thread Cert.Dx2.nD Cert.Dx2.τ).loc Cert.Dx2.main_arg2))
      ∧ r.2.sem = fun _ => 0)

def quiescent_Dx2Ideal [hDx2Ideal : Cert.Dx2Ideal.Facts] : Prop :=
  ∀ (m : (ℓ : Loc Cert.Dx2Ideal.nD Cert.Dx2Ideal.τ Cert.Dx2Ideal.sig) → Buf (Elt Ideal) ℓ) (g : Dev Cert.Dx2Ideal.nD → PrngReg), Pre_Dx2Ideal m →
    θ_run (Cert.Dx2Ideal.defs (F := Ideal)) (onTc (τ := Cert.Dx2Ideal.τ) (Cert.Dx2Ideal.main (F := Ideal))) ⟨m, fun _ => 0, g⟩ (fun r => (∀ c : Dev Cert.Dx2Ideal.nD,
      r.2.mem ((c.tc : Thread Cert.Dx2Ideal.nD Cert.Dx2Ideal.τ).loc Cert.Dx2Ideal.main_arg0) = m ((c.tc : Thread Cert.Dx2Ideal.nD Cert.Dx2Ideal.τ).loc Cert.Dx2Ideal.main_arg0)
      ∧ r.2.mem ((c.tc : Thread Cert.Dx2Ideal.nD Cert.Dx2Ideal.τ).loc Cert.Dx2Ideal.main_arg1) = m ((c.tc : Thread Cert.Dx2Ideal.nD Cert.Dx2Ideal.τ).loc Cert.Dx2Ideal.main_arg1)
      ∧ r.2.mem ((c.tc : Thread Cert.Dx2Ideal.nD Cert.Dx2Ideal.τ).loc Cert.Dx2Ideal.main_arg2) = m ((c.tc : Thread Cert.Dx2Ideal.nD Cert.Dx2Ideal.τ).loc Cert.Dx2Ideal.main_arg2))
      ∧ r.2.sem = fun _ => 0)

def quiescent_Dx2ReferenceIdeal [hDx2ReferenceIdeal : Cert.Dx2ReferenceIdeal.Facts] : Prop :=
  ∀ (m : (ℓ : Loc Cert.Dx2ReferenceIdeal.nD Cert.Dx2ReferenceIdeal.τ Cert.Dx2ReferenceIdeal.sig) → Buf (Elt Ideal) ℓ) (g : Dev Cert.Dx2ReferenceIdeal.nD → PrngReg), Pre_Dx2ReferenceIdeal m →
    θ_run (Cert.Dx2ReferenceIdeal.defs (F := Ideal)) (onTc (τ := Cert.Dx2ReferenceIdeal.τ) (Cert.Dx2ReferenceIdeal.main (F := Ideal))) ⟨m, fun _ => 0, g⟩ (fun r => (∀ c : Dev Cert.Dx2ReferenceIdeal.nD,
      r.2.mem ((c.tc : Thread Cert.Dx2ReferenceIdeal.nD Cert.Dx2ReferenceIdeal.τ).loc Cert.Dx2ReferenceIdeal.main_arg0) = m ((c.tc : Thread Cert.Dx2ReferenceIdeal.nD Cert.Dx2ReferenceIdeal.τ).loc Cert.Dx2ReferenceIdeal.main_arg0)
      ∧ r.2.mem ((c.tc : Thread Cert.Dx2ReferenceIdeal.nD Cert.Dx2ReferenceIdeal.τ).loc Cert.Dx2ReferenceIdeal.main_arg1) = m ((c.tc : Thread Cert.Dx2ReferenceIdeal.nD Cert.Dx2ReferenceIdeal.τ).loc Cert.Dx2ReferenceIdeal.main_arg1)
      ∧ r.2.mem ((c.tc : Thread Cert.Dx2ReferenceIdeal.nD Cert.Dx2ReferenceIdeal.τ).loc Cert.Dx2ReferenceIdeal.main_arg2) = m ((c.tc : Thread Cert.Dx2ReferenceIdeal.nD Cert.Dx2ReferenceIdeal.τ).loc Cert.Dx2ReferenceIdeal.main_arg2))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2)
      ∧ r.2.mem ((c.tc : Thread Cert.DxReferenceIdeal.nD Cert.DxReferenceIdeal.τ).loc Cert.DxReferenceIdeal.main_arg3) = m ((c.tc : Thread Cert.DxReferenceIdeal.nD Cert.DxReferenceIdeal.τ).loc Cert.DxReferenceIdeal.main_arg3)
      ∧ r.2.mem ((c.tc : Thread Cert.DxReferenceIdeal.nD Cert.DxReferenceIdeal.τ).loc Cert.DxReferenceIdeal.main_arg4) = m ((c.tc : Thread Cert.DxReferenceIdeal.nD Cert.DxReferenceIdeal.τ).loc Cert.DxReferenceIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_DwDownS [hDwDownS : Cert.DwDownS.Facts] : Prop :=
  ∀ (m : (ℓ : Loc Cert.DwDownS.nD Cert.DwDownS.τ Cert.DwDownS.sig) → Buf (Elt Bits) ℓ) (g : Dev Cert.DwDownS.nD → PrngReg), Pre_DwDownS m →
    θ_run (Cert.DwDownS.defs (F := Bits)) (onTc (τ := Cert.DwDownS.τ) (Cert.DwDownS.main (F := Bits))) ⟨m, fun _ => 0, g⟩ (fun r => (∀ c : Dev Cert.DwDownS.nD,
      r.2.mem ((c.tc : Thread Cert.DwDownS.nD Cert.DwDownS.τ).loc Cert.DwDownS.main_arg0) = m ((c.tc : Thread Cert.DwDownS.nD Cert.DwDownS.τ).loc Cert.DwDownS.main_arg0)
      ∧ r.2.mem ((c.tc : Thread Cert.DwDownS.nD Cert.DwDownS.τ).loc Cert.DwDownS.main_arg1) = m ((c.tc : Thread Cert.DwDownS.nD Cert.DwDownS.τ).loc Cert.DwDownS.main_arg1))
      ∧ r.2.sem = fun _ => 0)

def quiescent_DwDownSIdeal [hDwDownSIdeal : Cert.DwDownSIdeal.Facts] : Prop :=
  ∀ (m : (ℓ : Loc Cert.DwDownSIdeal.nD Cert.DwDownSIdeal.τ Cert.DwDownSIdeal.sig) → Buf (Elt Ideal) ℓ) (g : Dev Cert.DwDownSIdeal.nD → PrngReg), Pre_DwDownSIdeal m →
    θ_run (Cert.DwDownSIdeal.defs (F := Ideal)) (onTc (τ := Cert.DwDownSIdeal.τ) (Cert.DwDownSIdeal.main (F := Ideal))) ⟨m, fun _ => 0, g⟩ (fun r => (∀ c : Dev Cert.DwDownSIdeal.nD,
      r.2.mem ((c.tc : Thread Cert.DwDownSIdeal.nD Cert.DwDownSIdeal.τ).loc Cert.DwDownSIdeal.main_arg0) = m ((c.tc : Thread Cert.DwDownSIdeal.nD Cert.DwDownSIdeal.τ).loc Cert.DwDownSIdeal.main_arg0)
      ∧ r.2.mem ((c.tc : Thread Cert.DwDownSIdeal.nD Cert.DwDownSIdeal.τ).loc Cert.DwDownSIdeal.main_arg1) = m ((c.tc : Thread Cert.DwDownSIdeal.nD Cert.DwDownSIdeal.τ).loc Cert.DwDownSIdeal.main_arg1))
      ∧ r.2.sem = fun _ => 0)

def quiescent_DwDownSReferenceIdeal [hDwDownSReferenceIdeal : Cert.DwDownSReferenceIdeal.Facts] : Prop :=
  ∀ (m : (ℓ : Loc Cert.DwDownSReferenceIdeal.nD Cert.DwDownSReferenceIdeal.τ Cert.DwDownSReferenceIdeal.sig) → Buf (Elt Ideal) ℓ) (g : Dev Cert.DwDownSReferenceIdeal.nD → PrngReg), Pre_DwDownSReferenceIdeal m →
    θ_run (Cert.DwDownSReferenceIdeal.defs (F := Ideal)) (onTc (τ := Cert.DwDownSReferenceIdeal.τ) (Cert.DwDownSReferenceIdeal.main (F := Ideal))) ⟨m, fun _ => 0, g⟩ (fun r => (∀ c : Dev Cert.DwDownSReferenceIdeal.nD,
      r.2.mem ((c.tc : Thread Cert.DwDownSReferenceIdeal.nD Cert.DwDownSReferenceIdeal.τ).loc Cert.DwDownSReferenceIdeal.main_arg0) = m ((c.tc : Thread Cert.DwDownSReferenceIdeal.nD Cert.DwDownSReferenceIdeal.τ).loc Cert.DwDownSReferenceIdeal.main_arg0)
      ∧ r.2.mem ((c.tc : Thread Cert.DwDownSReferenceIdeal.nD Cert.DwDownSReferenceIdeal.τ).loc Cert.DwDownSReferenceIdeal.main_arg1) = m ((c.tc : Thread Cert.DwDownSReferenceIdeal.nD Cert.DwDownSReferenceIdeal.τ).loc Cert.DwDownSReferenceIdeal.main_arg1))
      ∧ r.2.sem = fun _ => 0)

def quiescent_DwDownO [hDwDownO : Cert.DwDownO.Facts] : Prop :=
  ∀ (m : (ℓ : Loc Cert.DwDownO.nD Cert.DwDownO.τ Cert.DwDownO.sig) → Buf (Elt Bits) ℓ) (g : Dev Cert.DwDownO.nD → PrngReg), Pre_DwDownO m →
    θ_run (Cert.DwDownO.defs (F := Bits)) (onTc (τ := Cert.DwDownO.τ) (Cert.DwDownO.main (F := Bits))) ⟨m, fun _ => 0, g⟩ (fun r => (∀ c : Dev Cert.DwDownO.nD,
      r.2.mem ((c.tc : Thread Cert.DwDownO.nD Cert.DwDownO.τ).loc Cert.DwDownO.main_arg0) = m ((c.tc : Thread Cert.DwDownO.nD Cert.DwDownO.τ).loc Cert.DwDownO.main_arg0)
      ∧ r.2.mem ((c.tc : Thread Cert.DwDownO.nD Cert.DwDownO.τ).loc Cert.DwDownO.main_arg1) = m ((c.tc : Thread Cert.DwDownO.nD Cert.DwDownO.τ).loc Cert.DwDownO.main_arg1)
      ∧ r.2.mem ((c.tc : Thread Cert.DwDownO.nD Cert.DwDownO.τ).loc Cert.DwDownO.main_arg2) = m ((c.tc : Thread Cert.DwDownO.nD Cert.DwDownO.τ).loc Cert.DwDownO.main_arg2))
      ∧ r.2.sem = fun _ => 0)

def quiescent_DwDownOIdeal [hDwDownOIdeal : Cert.DwDownOIdeal.Facts] : Prop :=
  ∀ (m : (ℓ : Loc Cert.DwDownOIdeal.nD Cert.DwDownOIdeal.τ Cert.DwDownOIdeal.sig) → Buf (Elt Ideal) ℓ) (g : Dev Cert.DwDownOIdeal.nD → PrngReg), Pre_DwDownOIdeal m →
    θ_run (Cert.DwDownOIdeal.defs (F := Ideal)) (onTc (τ := Cert.DwDownOIdeal.τ) (Cert.DwDownOIdeal.main (F := Ideal))) ⟨m, fun _ => 0, g⟩ (fun r => (∀ c : Dev Cert.DwDownOIdeal.nD,
      r.2.mem ((c.tc : Thread Cert.DwDownOIdeal.nD Cert.DwDownOIdeal.τ).loc Cert.DwDownOIdeal.main_arg0) = m ((c.tc : Thread Cert.DwDownOIdeal.nD Cert.DwDownOIdeal.τ).loc Cert.DwDownOIdeal.main_arg0)
      ∧ r.2.mem ((c.tc : Thread Cert.DwDownOIdeal.nD Cert.DwDownOIdeal.τ).loc Cert.DwDownOIdeal.main_arg1) = m ((c.tc : Thread Cert.DwDownOIdeal.nD Cert.DwDownOIdeal.τ).loc Cert.DwDownOIdeal.main_arg1)
      ∧ r.2.mem ((c.tc : Thread Cert.DwDownOIdeal.nD Cert.DwDownOIdeal.τ).loc Cert.DwDownOIdeal.main_arg2) = m ((c.tc : Thread Cert.DwDownOIdeal.nD Cert.DwDownOIdeal.τ).loc Cert.DwDownOIdeal.main_arg2))
      ∧ r.2.sem = fun _ => 0)

def quiescent_DwDownOReferenceIdeal [hDwDownOReferenceIdeal : Cert.DwDownOReferenceIdeal.Facts] : Prop :=
  ∀ (m : (ℓ : Loc Cert.DwDownOReferenceIdeal.nD Cert.DwDownOReferenceIdeal.τ Cert.DwDownOReferenceIdeal.sig) → Buf (Elt Ideal) ℓ) (g : Dev Cert.DwDownOReferenceIdeal.nD → PrngReg), Pre_DwDownOReferenceIdeal m →
    θ_run (Cert.DwDownOReferenceIdeal.defs (F := Ideal)) (onTc (τ := Cert.DwDownOReferenceIdeal.τ) (Cert.DwDownOReferenceIdeal.main (F := Ideal))) ⟨m, fun _ => 0, g⟩ (fun r => (∀ c : Dev Cert.DwDownOReferenceIdeal.nD,
      r.2.mem ((c.tc : Thread Cert.DwDownOReferenceIdeal.nD Cert.DwDownOReferenceIdeal.τ).loc Cert.DwDownOReferenceIdeal.main_arg0) = m ((c.tc : Thread Cert.DwDownOReferenceIdeal.nD Cert.DwDownOReferenceIdeal.τ).loc Cert.DwDownOReferenceIdeal.main_arg0)
      ∧ r.2.mem ((c.tc : Thread Cert.DwDownOReferenceIdeal.nD Cert.DwDownOReferenceIdeal.τ).loc Cert.DwDownOReferenceIdeal.main_arg1) = m ((c.tc : Thread Cert.DwDownOReferenceIdeal.nD Cert.DwDownOReferenceIdeal.τ).loc Cert.DwDownOReferenceIdeal.main_arg1)
      ∧ r.2.mem ((c.tc : Thread Cert.DwDownOReferenceIdeal.nD Cert.DwDownOReferenceIdeal.τ).loc Cert.DwDownOReferenceIdeal.main_arg2) = m ((c.tc : Thread Cert.DwDownOReferenceIdeal.nD Cert.DwDownOReferenceIdeal.τ).loc Cert.DwDownOReferenceIdeal.main_arg2))
      ∧ r.2.sem = fun _ => 0)

def quiescent_DwUpS [hDwUpS : Cert.DwUpS.Facts] : Prop :=
  ∀ (m : (ℓ : Loc Cert.DwUpS.nD Cert.DwUpS.τ Cert.DwUpS.sig) → Buf (Elt Bits) ℓ) (g : Dev Cert.DwUpS.nD → PrngReg), Pre_DwUpS m →
    θ_run (Cert.DwUpS.defs (F := Bits)) (onTc (τ := Cert.DwUpS.τ) (Cert.DwUpS.main (F := Bits))) ⟨m, fun _ => 0, g⟩ (fun r => (∀ c : Dev Cert.DwUpS.nD,
      r.2.mem ((c.tc : Thread Cert.DwUpS.nD Cert.DwUpS.τ).loc Cert.DwUpS.main_arg0) = m ((c.tc : Thread Cert.DwUpS.nD Cert.DwUpS.τ).loc Cert.DwUpS.main_arg0)
      ∧ r.2.mem ((c.tc : Thread Cert.DwUpS.nD Cert.DwUpS.τ).loc Cert.DwUpS.main_arg1) = m ((c.tc : Thread Cert.DwUpS.nD Cert.DwUpS.τ).loc Cert.DwUpS.main_arg1))
      ∧ r.2.sem = fun _ => 0)

def quiescent_DwUpSIdeal [hDwUpSIdeal : Cert.DwUpSIdeal.Facts] : Prop :=
  ∀ (m : (ℓ : Loc Cert.DwUpSIdeal.nD Cert.DwUpSIdeal.τ Cert.DwUpSIdeal.sig) → Buf (Elt Ideal) ℓ) (g : Dev Cert.DwUpSIdeal.nD → PrngReg), Pre_DwUpSIdeal m →
    θ_run (Cert.DwUpSIdeal.defs (F := Ideal)) (onTc (τ := Cert.DwUpSIdeal.τ) (Cert.DwUpSIdeal.main (F := Ideal))) ⟨m, fun _ => 0, g⟩ (fun r => (∀ c : Dev Cert.DwUpSIdeal.nD,
      r.2.mem ((c.tc : Thread Cert.DwUpSIdeal.nD Cert.DwUpSIdeal.τ).loc Cert.DwUpSIdeal.main_arg0) = m ((c.tc : Thread Cert.DwUpSIdeal.nD Cert.DwUpSIdeal.τ).loc Cert.DwUpSIdeal.main_arg0)
      ∧ r.2.mem ((c.tc : Thread Cert.DwUpSIdeal.nD Cert.DwUpSIdeal.τ).loc Cert.DwUpSIdeal.main_arg1) = m ((c.tc : Thread Cert.DwUpSIdeal.nD Cert.DwUpSIdeal.τ).loc Cert.DwUpSIdeal.main_arg1))
      ∧ r.2.sem = fun _ => 0)

def quiescent_DwUpSReferenceIdeal [hDwUpSReferenceIdeal : Cert.DwUpSReferenceIdeal.Facts] : Prop :=
  ∀ (m : (ℓ : Loc Cert.DwUpSReferenceIdeal.nD Cert.DwUpSReferenceIdeal.τ Cert.DwUpSReferenceIdeal.sig) → Buf (Elt Ideal) ℓ) (g : Dev Cert.DwUpSReferenceIdeal.nD → PrngReg), Pre_DwUpSReferenceIdeal m →
    θ_run (Cert.DwUpSReferenceIdeal.defs (F := Ideal)) (onTc (τ := Cert.DwUpSReferenceIdeal.τ) (Cert.DwUpSReferenceIdeal.main (F := Ideal))) ⟨m, fun _ => 0, g⟩ (fun r => (∀ c : Dev Cert.DwUpSReferenceIdeal.nD,
      r.2.mem ((c.tc : Thread Cert.DwUpSReferenceIdeal.nD Cert.DwUpSReferenceIdeal.τ).loc Cert.DwUpSReferenceIdeal.main_arg0) = m ((c.tc : Thread Cert.DwUpSReferenceIdeal.nD Cert.DwUpSReferenceIdeal.τ).loc Cert.DwUpSReferenceIdeal.main_arg0)
      ∧ r.2.mem ((c.tc : Thread Cert.DwUpSReferenceIdeal.nD Cert.DwUpSReferenceIdeal.τ).loc Cert.DwUpSReferenceIdeal.main_arg1) = m ((c.tc : Thread Cert.DwUpSReferenceIdeal.nD Cert.DwUpSReferenceIdeal.τ).loc Cert.DwUpSReferenceIdeal.main_arg1))
      ∧ r.2.sem = fun _ => 0)

def quiescent_DwUpO [hDwUpO : Cert.DwUpO.Facts] : Prop :=
  ∀ (m : (ℓ : Loc Cert.DwUpO.nD Cert.DwUpO.τ Cert.DwUpO.sig) → Buf (Elt Bits) ℓ) (g : Dev Cert.DwUpO.nD → PrngReg), Pre_DwUpO m →
    θ_run (Cert.DwUpO.defs (F := Bits)) (onTc (τ := Cert.DwUpO.τ) (Cert.DwUpO.main (F := Bits))) ⟨m, fun _ => 0, g⟩ (fun r => (∀ c : Dev Cert.DwUpO.nD,
      r.2.mem ((c.tc : Thread Cert.DwUpO.nD Cert.DwUpO.τ).loc Cert.DwUpO.main_arg0) = m ((c.tc : Thread Cert.DwUpO.nD Cert.DwUpO.τ).loc Cert.DwUpO.main_arg0)
      ∧ r.2.mem ((c.tc : Thread Cert.DwUpO.nD Cert.DwUpO.τ).loc Cert.DwUpO.main_arg1) = m ((c.tc : Thread Cert.DwUpO.nD Cert.DwUpO.τ).loc Cert.DwUpO.main_arg1)
      ∧ r.2.mem ((c.tc : Thread Cert.DwUpO.nD Cert.DwUpO.τ).loc Cert.DwUpO.main_arg2) = m ((c.tc : Thread Cert.DwUpO.nD Cert.DwUpO.τ).loc Cert.DwUpO.main_arg2))
      ∧ r.2.sem = fun _ => 0)

def quiescent_DwUpOIdeal [hDwUpOIdeal : Cert.DwUpOIdeal.Facts] : Prop :=
  ∀ (m : (ℓ : Loc Cert.DwUpOIdeal.nD Cert.DwUpOIdeal.τ Cert.DwUpOIdeal.sig) → Buf (Elt Ideal) ℓ) (g : Dev Cert.DwUpOIdeal.nD → PrngReg), Pre_DwUpOIdeal m →
    θ_run (Cert.DwUpOIdeal.defs (F := Ideal)) (onTc (τ := Cert.DwUpOIdeal.τ) (Cert.DwUpOIdeal.main (F := Ideal))) ⟨m, fun _ => 0, g⟩ (fun r => (∀ c : Dev Cert.DwUpOIdeal.nD,
      r.2.mem ((c.tc : Thread Cert.DwUpOIdeal.nD Cert.DwUpOIdeal.τ).loc Cert.DwUpOIdeal.main_arg0) = m ((c.tc : Thread Cert.DwUpOIdeal.nD Cert.DwUpOIdeal.τ).loc Cert.DwUpOIdeal.main_arg0)
      ∧ r.2.mem ((c.tc : Thread Cert.DwUpOIdeal.nD Cert.DwUpOIdeal.τ).loc Cert.DwUpOIdeal.main_arg1) = m ((c.tc : Thread Cert.DwUpOIdeal.nD Cert.DwUpOIdeal.τ).loc Cert.DwUpOIdeal.main_arg1)
      ∧ r.2.mem ((c.tc : Thread Cert.DwUpOIdeal.nD Cert.DwUpOIdeal.τ).loc Cert.DwUpOIdeal.main_arg2) = m ((c.tc : Thread Cert.DwUpOIdeal.nD Cert.DwUpOIdeal.τ).loc Cert.DwUpOIdeal.main_arg2))
      ∧ r.2.sem = fun _ => 0)

def quiescent_DwUpOReferenceIdeal [hDwUpOReferenceIdeal : Cert.DwUpOReferenceIdeal.Facts] : Prop :=
  ∀ (m : (ℓ : Loc Cert.DwUpOReferenceIdeal.nD Cert.DwUpOReferenceIdeal.τ Cert.DwUpOReferenceIdeal.sig) → Buf (Elt Ideal) ℓ) (g : Dev Cert.DwUpOReferenceIdeal.nD → PrngReg), Pre_DwUpOReferenceIdeal m →
    θ_run (Cert.DwUpOReferenceIdeal.defs (F := Ideal)) (onTc (τ := Cert.DwUpOReferenceIdeal.τ) (Cert.DwUpOReferenceIdeal.main (F := Ideal))) ⟨m, fun _ => 0, g⟩ (fun r => (∀ c : Dev Cert.DwUpOReferenceIdeal.nD,
      r.2.mem ((c.tc : Thread Cert.DwUpOReferenceIdeal.nD Cert.DwUpOReferenceIdeal.τ).loc Cert.DwUpOReferenceIdeal.main_arg0) = m ((c.tc : Thread Cert.DwUpOReferenceIdeal.nD Cert.DwUpOReferenceIdeal.τ).loc Cert.DwUpOReferenceIdeal.main_arg0)
      ∧ r.2.mem ((c.tc : Thread Cert.DwUpOReferenceIdeal.nD Cert.DwUpOReferenceIdeal.τ).loc Cert.DwUpOReferenceIdeal.main_arg1) = m ((c.tc : Thread Cert.DwUpOReferenceIdeal.nD Cert.DwUpOReferenceIdeal.τ).loc Cert.DwUpOReferenceIdeal.main_arg1)
      ∧ r.2.mem ((c.tc : Thread Cert.DwUpOReferenceIdeal.nD Cert.DwUpOReferenceIdeal.τ).loc Cert.DwUpOReferenceIdeal.main_arg2) = m ((c.tc : Thread Cert.DwUpOReferenceIdeal.nD Cert.DwUpOReferenceIdeal.τ).loc Cert.DwUpOReferenceIdeal.main_arg2))
      ∧ r.2.sem = fun _ => 0)

def quiescent_O [hO : Cert.O.Facts] : Prop :=
  ∀ (m : (ℓ : Loc Cert.O.nD Cert.O.τ Cert.O.sig) → Buf (Elt Bits) ℓ) (g : Dev Cert.O.nD → PrngReg), Pre_O m →
    θ_run (Cert.O.defs (F := Bits)) (onTc (τ := Cert.O.τ) (Cert.O.main (F := Bits))) ⟨m, fun _ => 0, g⟩ (fun r => (∀ c : Dev Cert.O.nD,
      r.2.mem ((c.tc : Thread Cert.O.nD Cert.O.τ).loc Cert.O.main_arg0) = m ((c.tc : Thread Cert.O.nD Cert.O.τ).loc Cert.O.main_arg0)
      ∧ r.2.mem ((c.tc : Thread Cert.O.nD Cert.O.τ).loc Cert.O.main_arg1) = m ((c.tc : Thread Cert.O.nD Cert.O.τ).loc Cert.O.main_arg1)
      ∧ r.2.mem ((c.tc : Thread Cert.O.nD Cert.O.τ).loc Cert.O.main_arg2) = m ((c.tc : Thread Cert.O.nD Cert.O.τ).loc Cert.O.main_arg2))
      ∧ r.2.sem = fun _ => 0)

def quiescent_OIdeal [hOIdeal : Cert.OIdeal.Facts] : Prop :=
  ∀ (m : (ℓ : Loc Cert.OIdeal.nD Cert.OIdeal.τ Cert.OIdeal.sig) → Buf (Elt Ideal) ℓ) (g : Dev Cert.OIdeal.nD → PrngReg), Pre_OIdeal m →
    θ_run (Cert.OIdeal.defs (F := Ideal)) (onTc (τ := Cert.OIdeal.τ) (Cert.OIdeal.main (F := Ideal))) ⟨m, fun _ => 0, g⟩ (fun r => (∀ c : Dev Cert.OIdeal.nD,
      r.2.mem ((c.tc : Thread Cert.OIdeal.nD Cert.OIdeal.τ).loc Cert.OIdeal.main_arg0) = m ((c.tc : Thread Cert.OIdeal.nD Cert.OIdeal.τ).loc Cert.OIdeal.main_arg0)
      ∧ r.2.mem ((c.tc : Thread Cert.OIdeal.nD Cert.OIdeal.τ).loc Cert.OIdeal.main_arg1) = m ((c.tc : Thread Cert.OIdeal.nD Cert.OIdeal.τ).loc Cert.OIdeal.main_arg1)
      ∧ r.2.mem ((c.tc : Thread Cert.OIdeal.nD Cert.OIdeal.τ).loc Cert.OIdeal.main_arg2) = m ((c.tc : Thread Cert.OIdeal.nD Cert.OIdeal.τ).loc Cert.OIdeal.main_arg2))
      ∧ r.2.sem = fun _ => 0)

def quiescent_OReferenceIdeal [hOReferenceIdeal : Cert.OReferenceIdeal.Facts] : Prop :=
  ∀ (m : (ℓ : Loc Cert.OReferenceIdeal.nD Cert.OReferenceIdeal.τ Cert.OReferenceIdeal.sig) → Buf (Elt Ideal) ℓ) (g : Dev Cert.OReferenceIdeal.nD → PrngReg), Pre_OReferenceIdeal m →
    θ_run (Cert.OReferenceIdeal.defs (F := Ideal)) (onTc (τ := Cert.OReferenceIdeal.τ) (Cert.OReferenceIdeal.main (F := Ideal))) ⟨m, fun _ => 0, g⟩ (fun r => (∀ c : Dev Cert.OReferenceIdeal.nD,
      r.2.mem ((c.tc : Thread Cert.OReferenceIdeal.nD Cert.OReferenceIdeal.τ).loc Cert.OReferenceIdeal.main_arg0) = m ((c.tc : Thread Cert.OReferenceIdeal.nD Cert.OReferenceIdeal.τ).loc Cert.OReferenceIdeal.main_arg0)
      ∧ r.2.mem ((c.tc : Thread Cert.OReferenceIdeal.nD Cert.OReferenceIdeal.τ).loc Cert.OReferenceIdeal.main_arg1) = m ((c.tc : Thread Cert.OReferenceIdeal.nD Cert.OReferenceIdeal.τ).loc Cert.OReferenceIdeal.main_arg1)
      ∧ r.2.mem ((c.tc : Thread Cert.OReferenceIdeal.nD Cert.OReferenceIdeal.τ).loc Cert.OReferenceIdeal.main_arg2) = m ((c.tc : Thread Cert.OReferenceIdeal.nD Cert.OReferenceIdeal.τ).loc Cert.OReferenceIdeal.main_arg2))
      ∧ r.2.sem = fun _ => 0)

def quiescent_DwOS [hDwOS : Cert.DwOS.Facts] : Prop :=
  ∀ (m : (ℓ : Loc Cert.DwOS.nD Cert.DwOS.τ Cert.DwOS.sig) → Buf (Elt Bits) ℓ) (g : Dev Cert.DwOS.nD → PrngReg), Pre_DwOS m →
    θ_run (Cert.DwOS.defs (F := Bits)) (onTc (τ := Cert.DwOS.τ) (Cert.DwOS.main (F := Bits))) ⟨m, fun _ => 0, g⟩ (fun r => (∀ c : Dev Cert.DwOS.nD,
      r.2.mem ((c.tc : Thread Cert.DwOS.nD Cert.DwOS.τ).loc Cert.DwOS.main_arg0) = m ((c.tc : Thread Cert.DwOS.nD Cert.DwOS.τ).loc Cert.DwOS.main_arg0)
      ∧ r.2.mem ((c.tc : Thread Cert.DwOS.nD Cert.DwOS.τ).loc Cert.DwOS.main_arg1) = m ((c.tc : Thread Cert.DwOS.nD Cert.DwOS.τ).loc Cert.DwOS.main_arg1))
      ∧ r.2.sem = fun _ => 0)

def quiescent_DwOSIdeal [hDwOSIdeal : Cert.DwOSIdeal.Facts] : Prop :=
  ∀ (m : (ℓ : Loc Cert.DwOSIdeal.nD Cert.DwOSIdeal.τ Cert.DwOSIdeal.sig) → Buf (Elt Ideal) ℓ) (g : Dev Cert.DwOSIdeal.nD → PrngReg), Pre_DwOSIdeal m →
    θ_run (Cert.DwOSIdeal.defs (F := Ideal)) (onTc (τ := Cert.DwOSIdeal.τ) (Cert.DwOSIdeal.main (F := Ideal))) ⟨m, fun _ => 0, g⟩ (fun r => (∀ c : Dev Cert.DwOSIdeal.nD,
      r.2.mem ((c.tc : Thread Cert.DwOSIdeal.nD Cert.DwOSIdeal.τ).loc Cert.DwOSIdeal.main_arg0) = m ((c.tc : Thread Cert.DwOSIdeal.nD Cert.DwOSIdeal.τ).loc Cert.DwOSIdeal.main_arg0)
      ∧ r.2.mem ((c.tc : Thread Cert.DwOSIdeal.nD Cert.DwOSIdeal.τ).loc Cert.DwOSIdeal.main_arg1) = m ((c.tc : Thread Cert.DwOSIdeal.nD Cert.DwOSIdeal.τ).loc Cert.DwOSIdeal.main_arg1))
      ∧ r.2.sem = fun _ => 0)

def quiescent_DwOSReferenceIdeal [hDwOSReferenceIdeal : Cert.DwOSReferenceIdeal.Facts] : Prop :=
  ∀ (m : (ℓ : Loc Cert.DwOSReferenceIdeal.nD Cert.DwOSReferenceIdeal.τ Cert.DwOSReferenceIdeal.sig) → Buf (Elt Ideal) ℓ) (g : Dev Cert.DwOSReferenceIdeal.nD → PrngReg), Pre_DwOSReferenceIdeal m →
    θ_run (Cert.DwOSReferenceIdeal.defs (F := Ideal)) (onTc (τ := Cert.DwOSReferenceIdeal.τ) (Cert.DwOSReferenceIdeal.main (F := Ideal))) ⟨m, fun _ => 0, g⟩ (fun r => (∀ c : Dev Cert.DwOSReferenceIdeal.nD,
      r.2.mem ((c.tc : Thread Cert.DwOSReferenceIdeal.nD Cert.DwOSReferenceIdeal.τ).loc Cert.DwOSReferenceIdeal.main_arg0) = m ((c.tc : Thread Cert.DwOSReferenceIdeal.nD Cert.DwOSReferenceIdeal.τ).loc Cert.DwOSReferenceIdeal.main_arg0)
      ∧ r.2.mem ((c.tc : Thread Cert.DwOSReferenceIdeal.nD Cert.DwOSReferenceIdeal.τ).loc Cert.DwOSReferenceIdeal.main_arg1) = m ((c.tc : Thread Cert.DwOSReferenceIdeal.nD Cert.DwOSReferenceIdeal.τ).loc Cert.DwOSReferenceIdeal.main_arg1))
      ∧ r.2.sem = fun _ => 0)

def quiescent_DwOO [hDwOO : Cert.DwOO.Facts] : Prop :=
  ∀ (m : (ℓ : Loc Cert.DwOO.nD Cert.DwOO.τ Cert.DwOO.sig) → Buf (Elt Bits) ℓ) (g : Dev Cert.DwOO.nD → PrngReg), Pre_DwOO m →
    θ_run (Cert.DwOO.defs (F := Bits)) (onTc (τ := Cert.DwOO.τ) (Cert.DwOO.main (F := Bits))) ⟨m, fun _ => 0, g⟩ (fun r => (∀ c : Dev Cert.DwOO.nD,
      r.2.mem ((c.tc : Thread Cert.DwOO.nD Cert.DwOO.τ).loc Cert.DwOO.main_arg0) = m ((c.tc : Thread Cert.DwOO.nD Cert.DwOO.τ).loc Cert.DwOO.main_arg0)
      ∧ r.2.mem ((c.tc : Thread Cert.DwOO.nD Cert.DwOO.τ).loc Cert.DwOO.main_arg1) = m ((c.tc : Thread Cert.DwOO.nD Cert.DwOO.τ).loc Cert.DwOO.main_arg1)
      ∧ r.2.mem ((c.tc : Thread Cert.DwOO.nD Cert.DwOO.τ).loc Cert.DwOO.main_arg2) = m ((c.tc : Thread Cert.DwOO.nD Cert.DwOO.τ).loc Cert.DwOO.main_arg2))
      ∧ r.2.sem = fun _ => 0)

def quiescent_DwOOIdeal [hDwOOIdeal : Cert.DwOOIdeal.Facts] : Prop :=
  ∀ (m : (ℓ : Loc Cert.DwOOIdeal.nD Cert.DwOOIdeal.τ Cert.DwOOIdeal.sig) → Buf (Elt Ideal) ℓ) (g : Dev Cert.DwOOIdeal.nD → PrngReg), Pre_DwOOIdeal m →
    θ_run (Cert.DwOOIdeal.defs (F := Ideal)) (onTc (τ := Cert.DwOOIdeal.τ) (Cert.DwOOIdeal.main (F := Ideal))) ⟨m, fun _ => 0, g⟩ (fun r => (∀ c : Dev Cert.DwOOIdeal.nD,
      r.2.mem ((c.tc : Thread Cert.DwOOIdeal.nD Cert.DwOOIdeal.τ).loc Cert.DwOOIdeal.main_arg0) = m ((c.tc : Thread Cert.DwOOIdeal.nD Cert.DwOOIdeal.τ).loc Cert.DwOOIdeal.main_arg0)
      ∧ r.2.mem ((c.tc : Thread Cert.DwOOIdeal.nD Cert.DwOOIdeal.τ).loc Cert.DwOOIdeal.main_arg1) = m ((c.tc : Thread Cert.DwOOIdeal.nD Cert.DwOOIdeal.τ).loc Cert.DwOOIdeal.main_arg1)
      ∧ r.2.mem ((c.tc : Thread Cert.DwOOIdeal.nD Cert.DwOOIdeal.τ).loc Cert.DwOOIdeal.main_arg2) = m ((c.tc : Thread Cert.DwOOIdeal.nD Cert.DwOOIdeal.τ).loc Cert.DwOOIdeal.main_arg2))
      ∧ r.2.sem = fun _ => 0)

def quiescent_DwOOReferenceIdeal [hDwOOReferenceIdeal : Cert.DwOOReferenceIdeal.Facts] : Prop :=
  ∀ (m : (ℓ : Loc Cert.DwOOReferenceIdeal.nD Cert.DwOOReferenceIdeal.τ Cert.DwOOReferenceIdeal.sig) → Buf (Elt Ideal) ℓ) (g : Dev Cert.DwOOReferenceIdeal.nD → PrngReg), Pre_DwOOReferenceIdeal m →
    θ_run (Cert.DwOOReferenceIdeal.defs (F := Ideal)) (onTc (τ := Cert.DwOOReferenceIdeal.τ) (Cert.DwOOReferenceIdeal.main (F := Ideal))) ⟨m, fun _ => 0, g⟩ (fun r => (∀ c : Dev Cert.DwOOReferenceIdeal.nD,
      r.2.mem ((c.tc : Thread Cert.DwOOReferenceIdeal.nD Cert.DwOOReferenceIdeal.τ).loc Cert.DwOOReferenceIdeal.main_arg0) = m ((c.tc : Thread Cert.DwOOReferenceIdeal.nD Cert.DwOOReferenceIdeal.τ).loc Cert.DwOOReferenceIdeal.main_arg0)
      ∧ r.2.mem ((c.tc : Thread Cert.DwOOReferenceIdeal.nD Cert.DwOOReferenceIdeal.τ).loc Cert.DwOOReferenceIdeal.main_arg1) = m ((c.tc : Thread Cert.DwOOReferenceIdeal.nD Cert.DwOOReferenceIdeal.τ).loc Cert.DwOOReferenceIdeal.main_arg1)
      ∧ r.2.mem ((c.tc : Thread Cert.DwOOReferenceIdeal.nD Cert.DwOOReferenceIdeal.τ).loc Cert.DwOOReferenceIdeal.main_arg2) = m ((c.tc : Thread Cert.DwOOReferenceIdeal.nD Cert.DwOOReferenceIdeal.τ).loc Cert.DwOOReferenceIdeal.main_arg2))
      ∧ r.2.sem = fun _ => 0)

def quiescent_DwBrS [hDwBrS : Cert.DwBrS.Facts] : Prop :=
  ∀ (m : (ℓ : Loc Cert.DwBrS.nD Cert.DwBrS.τ Cert.DwBrS.sig) → Buf (Elt Bits) ℓ) (g : Dev Cert.DwBrS.nD → PrngReg), Pre_DwBrS m →
    θ_run (Cert.DwBrS.defs (F := Bits)) (onTc (τ := Cert.DwBrS.τ) (Cert.DwBrS.main (F := Bits))) ⟨m, fun _ => 0, g⟩ (fun r => (∀ c : Dev Cert.DwBrS.nD,
      r.2.mem ((c.tc : Thread Cert.DwBrS.nD Cert.DwBrS.τ).loc Cert.DwBrS.main_arg0) = m ((c.tc : Thread Cert.DwBrS.nD Cert.DwBrS.τ).loc Cert.DwBrS.main_arg0)
      ∧ r.2.mem ((c.tc : Thread Cert.DwBrS.nD Cert.DwBrS.τ).loc Cert.DwBrS.main_arg1) = m ((c.tc : Thread Cert.DwBrS.nD Cert.DwBrS.τ).loc Cert.DwBrS.main_arg1))
      ∧ r.2.sem = fun _ => 0)

def quiescent_DwBrSIdeal [hDwBrSIdeal : Cert.DwBrSIdeal.Facts] : Prop :=
  ∀ (m : (ℓ : Loc Cert.DwBrSIdeal.nD Cert.DwBrSIdeal.τ Cert.DwBrSIdeal.sig) → Buf (Elt Ideal) ℓ) (g : Dev Cert.DwBrSIdeal.nD → PrngReg), Pre_DwBrSIdeal m →
    θ_run (Cert.DwBrSIdeal.defs (F := Ideal)) (onTc (τ := Cert.DwBrSIdeal.τ) (Cert.DwBrSIdeal.main (F := Ideal))) ⟨m, fun _ => 0, g⟩ (fun r => (∀ c : Dev Cert.DwBrSIdeal.nD,
      r.2.mem ((c.tc : Thread Cert.DwBrSIdeal.nD Cert.DwBrSIdeal.τ).loc Cert.DwBrSIdeal.main_arg0) = m ((c.tc : Thread Cert.DwBrSIdeal.nD Cert.DwBrSIdeal.τ).loc Cert.DwBrSIdeal.main_arg0)
      ∧ r.2.mem ((c.tc : Thread Cert.DwBrSIdeal.nD Cert.DwBrSIdeal.τ).loc Cert.DwBrSIdeal.main_arg1) = m ((c.tc : Thread Cert.DwBrSIdeal.nD Cert.DwBrSIdeal.τ).loc Cert.DwBrSIdeal.main_arg1))
      ∧ r.2.sem = fun _ => 0)

def quiescent_DwBrSReferenceIdeal [hDwBrSReferenceIdeal : Cert.DwBrSReferenceIdeal.Facts] : Prop :=
  ∀ (m : (ℓ : Loc Cert.DwBrSReferenceIdeal.nD Cert.DwBrSReferenceIdeal.τ Cert.DwBrSReferenceIdeal.sig) → Buf (Elt Ideal) ℓ) (g : Dev Cert.DwBrSReferenceIdeal.nD → PrngReg), Pre_DwBrSReferenceIdeal m →
    θ_run (Cert.DwBrSReferenceIdeal.defs (F := Ideal)) (onTc (τ := Cert.DwBrSReferenceIdeal.τ) (Cert.DwBrSReferenceIdeal.main (F := Ideal))) ⟨m, fun _ => 0, g⟩ (fun r => (∀ c : Dev Cert.DwBrSReferenceIdeal.nD,
      r.2.mem ((c.tc : Thread Cert.DwBrSReferenceIdeal.nD Cert.DwBrSReferenceIdeal.τ).loc Cert.DwBrSReferenceIdeal.main_arg0) = m ((c.tc : Thread Cert.DwBrSReferenceIdeal.nD Cert.DwBrSReferenceIdeal.τ).loc Cert.DwBrSReferenceIdeal.main_arg0)
      ∧ r.2.mem ((c.tc : Thread Cert.DwBrSReferenceIdeal.nD Cert.DwBrSReferenceIdeal.τ).loc Cert.DwBrSReferenceIdeal.main_arg1) = m ((c.tc : Thread Cert.DwBrSReferenceIdeal.nD Cert.DwBrSReferenceIdeal.τ).loc Cert.DwBrSReferenceIdeal.main_arg1))
      ∧ r.2.sem = fun _ => 0)

def quiescent_DwBrO [hDwBrO : Cert.DwBrO.Facts] : Prop :=
  ∀ (m : (ℓ : Loc Cert.DwBrO.nD Cert.DwBrO.τ Cert.DwBrO.sig) → Buf (Elt Bits) ℓ) (g : Dev Cert.DwBrO.nD → PrngReg), Pre_DwBrO m →
    θ_run (Cert.DwBrO.defs (F := Bits)) (onTc (τ := Cert.DwBrO.τ) (Cert.DwBrO.main (F := Bits))) ⟨m, fun _ => 0, g⟩ (fun r => (∀ c : Dev Cert.DwBrO.nD,
      r.2.mem ((c.tc : Thread Cert.DwBrO.nD Cert.DwBrO.τ).loc Cert.DwBrO.main_arg0) = m ((c.tc : Thread Cert.DwBrO.nD Cert.DwBrO.τ).loc Cert.DwBrO.main_arg0)
      ∧ r.2.mem ((c.tc : Thread Cert.DwBrO.nD Cert.DwBrO.τ).loc Cert.DwBrO.main_arg1) = m ((c.tc : Thread Cert.DwBrO.nD Cert.DwBrO.τ).loc Cert.DwBrO.main_arg1)
      ∧ r.2.mem ((c.tc : Thread Cert.DwBrO.nD Cert.DwBrO.τ).loc Cert.DwBrO.main_arg2) = m ((c.tc : Thread Cert.DwBrO.nD Cert.DwBrO.τ).loc Cert.DwBrO.main_arg2))
      ∧ r.2.sem = fun _ => 0)

def quiescent_DwBrOIdeal [hDwBrOIdeal : Cert.DwBrOIdeal.Facts] : Prop :=
  ∀ (m : (ℓ : Loc Cert.DwBrOIdeal.nD Cert.DwBrOIdeal.τ Cert.DwBrOIdeal.sig) → Buf (Elt Ideal) ℓ) (g : Dev Cert.DwBrOIdeal.nD → PrngReg), Pre_DwBrOIdeal m →
    θ_run (Cert.DwBrOIdeal.defs (F := Ideal)) (onTc (τ := Cert.DwBrOIdeal.τ) (Cert.DwBrOIdeal.main (F := Ideal))) ⟨m, fun _ => 0, g⟩ (fun r => (∀ c : Dev Cert.DwBrOIdeal.nD,
      r.2.mem ((c.tc : Thread Cert.DwBrOIdeal.nD Cert.DwBrOIdeal.τ).loc Cert.DwBrOIdeal.main_arg0) = m ((c.tc : Thread Cert.DwBrOIdeal.nD Cert.DwBrOIdeal.τ).loc Cert.DwBrOIdeal.main_arg0)
      ∧ r.2.mem ((c.tc : Thread Cert.DwBrOIdeal.nD Cert.DwBrOIdeal.τ).loc Cert.DwBrOIdeal.main_arg1) = m ((c.tc : Thread Cert.DwBrOIdeal.nD Cert.DwBrOIdeal.τ).loc Cert.DwBrOIdeal.main_arg1)
      ∧ r.2.mem ((c.tc : Thread Cert.DwBrOIdeal.nD Cert.DwBrOIdeal.τ).loc Cert.DwBrOIdeal.main_arg2) = m ((c.tc : Thread Cert.DwBrOIdeal.nD Cert.DwBrOIdeal.τ).loc Cert.DwBrOIdeal.main_arg2))
      ∧ r.2.sem = fun _ => 0)

def quiescent_DwBrOReferenceIdeal [hDwBrOReferenceIdeal : Cert.DwBrOReferenceIdeal.Facts] : Prop :=
  ∀ (m : (ℓ : Loc Cert.DwBrOReferenceIdeal.nD Cert.DwBrOReferenceIdeal.τ Cert.DwBrOReferenceIdeal.sig) → Buf (Elt Ideal) ℓ) (g : Dev Cert.DwBrOReferenceIdeal.nD → PrngReg), Pre_DwBrOReferenceIdeal m →
    θ_run (Cert.DwBrOReferenceIdeal.defs (F := Ideal)) (onTc (τ := Cert.DwBrOReferenceIdeal.τ) (Cert.DwBrOReferenceIdeal.main (F := Ideal))) ⟨m, fun _ => 0, g⟩ (fun r => (∀ c : Dev Cert.DwBrOReferenceIdeal.nD,
      r.2.mem ((c.tc : Thread Cert.DwBrOReferenceIdeal.nD Cert.DwBrOReferenceIdeal.τ).loc Cert.DwBrOReferenceIdeal.main_arg0) = m ((c.tc : Thread Cert.DwBrOReferenceIdeal.nD Cert.DwBrOReferenceIdeal.τ).loc Cert.DwBrOReferenceIdeal.main_arg0)
      ∧ r.2.mem ((c.tc : Thread Cert.DwBrOReferenceIdeal.nD Cert.DwBrOReferenceIdeal.τ).loc Cert.DwBrOReferenceIdeal.main_arg1) = m ((c.tc : Thread Cert.DwBrOReferenceIdeal.nD Cert.DwBrOReferenceIdeal.τ).loc Cert.DwBrOReferenceIdeal.main_arg1)
      ∧ r.2.mem ((c.tc : Thread Cert.DwBrOReferenceIdeal.nD Cert.DwBrOReferenceIdeal.τ).loc Cert.DwBrOReferenceIdeal.main_arg2) = m ((c.tc : Thread Cert.DwBrOReferenceIdeal.nD Cert.DwBrOReferenceIdeal.τ).loc Cert.DwBrOReferenceIdeal.main_arg2))
      ∧ r.2.sem = fun _ => 0)

def quiescent_DwXoS [hDwXoS : Cert.DwXoS.Facts] : Prop :=
  ∀ (m : (ℓ : Loc Cert.DwXoS.nD Cert.DwXoS.τ Cert.DwXoS.sig) → Buf (Elt Bits) ℓ) (g : Dev Cert.DwXoS.nD → PrngReg), Pre_DwXoS m →
    θ_run (Cert.DwXoS.defs (F := Bits)) (onTc (τ := Cert.DwXoS.τ) (Cert.DwXoS.main (F := Bits))) ⟨m, fun _ => 0, g⟩ (fun r => (∀ c : Dev Cert.DwXoS.nD,
      r.2.mem ((c.tc : Thread Cert.DwXoS.nD Cert.DwXoS.τ).loc Cert.DwXoS.main_arg0) = m ((c.tc : Thread Cert.DwXoS.nD Cert.DwXoS.τ).loc Cert.DwXoS.main_arg0)
      ∧ r.2.mem ((c.tc : Thread Cert.DwXoS.nD Cert.DwXoS.τ).loc Cert.DwXoS.main_arg1) = m ((c.tc : Thread Cert.DwXoS.nD Cert.DwXoS.τ).loc Cert.DwXoS.main_arg1))
      ∧ r.2.sem = fun _ => 0)

def quiescent_DwXoSIdeal [hDwXoSIdeal : Cert.DwXoSIdeal.Facts] : Prop :=
  ∀ (m : (ℓ : Loc Cert.DwXoSIdeal.nD Cert.DwXoSIdeal.τ Cert.DwXoSIdeal.sig) → Buf (Elt Ideal) ℓ) (g : Dev Cert.DwXoSIdeal.nD → PrngReg), Pre_DwXoSIdeal m →
    θ_run (Cert.DwXoSIdeal.defs (F := Ideal)) (onTc (τ := Cert.DwXoSIdeal.τ) (Cert.DwXoSIdeal.main (F := Ideal))) ⟨m, fun _ => 0, g⟩ (fun r => (∀ c : Dev Cert.DwXoSIdeal.nD,
      r.2.mem ((c.tc : Thread Cert.DwXoSIdeal.nD Cert.DwXoSIdeal.τ).loc Cert.DwXoSIdeal.main_arg0) = m ((c.tc : Thread Cert.DwXoSIdeal.nD Cert.DwXoSIdeal.τ).loc Cert.DwXoSIdeal.main_arg0)
      ∧ r.2.mem ((c.tc : Thread Cert.DwXoSIdeal.nD Cert.DwXoSIdeal.τ).loc Cert.DwXoSIdeal.main_arg1) = m ((c.tc : Thread Cert.DwXoSIdeal.nD Cert.DwXoSIdeal.τ).loc Cert.DwXoSIdeal.main_arg1))
      ∧ r.2.sem = fun _ => 0)

def quiescent_DwXoSReferenceIdeal [hDwXoSReferenceIdeal : Cert.DwXoSReferenceIdeal.Facts] : Prop :=
  ∀ (m : (ℓ : Loc Cert.DwXoSReferenceIdeal.nD Cert.DwXoSReferenceIdeal.τ Cert.DwXoSReferenceIdeal.sig) → Buf (Elt Ideal) ℓ) (g : Dev Cert.DwXoSReferenceIdeal.nD → PrngReg), Pre_DwXoSReferenceIdeal m →
    θ_run (Cert.DwXoSReferenceIdeal.defs (F := Ideal)) (onTc (τ := Cert.DwXoSReferenceIdeal.τ) (Cert.DwXoSReferenceIdeal.main (F := Ideal))) ⟨m, fun _ => 0, g⟩ (fun r => (∀ c : Dev Cert.DwXoSReferenceIdeal.nD,
      r.2.mem ((c.tc : Thread Cert.DwXoSReferenceIdeal.nD Cert.DwXoSReferenceIdeal.τ).loc Cert.DwXoSReferenceIdeal.main_arg0) = m ((c.tc : Thread Cert.DwXoSReferenceIdeal.nD Cert.DwXoSReferenceIdeal.τ).loc Cert.DwXoSReferenceIdeal.main_arg0)
      ∧ r.2.mem ((c.tc : Thread Cert.DwXoSReferenceIdeal.nD Cert.DwXoSReferenceIdeal.τ).loc Cert.DwXoSReferenceIdeal.main_arg1) = m ((c.tc : Thread Cert.DwXoSReferenceIdeal.nD Cert.DwXoSReferenceIdeal.τ).loc Cert.DwXoSReferenceIdeal.main_arg1))
      ∧ r.2.sem = fun _ => 0)

def quiescent_DwXoO [hDwXoO : Cert.DwXoO.Facts] : Prop :=
  ∀ (m : (ℓ : Loc Cert.DwXoO.nD Cert.DwXoO.τ Cert.DwXoO.sig) → Buf (Elt Bits) ℓ) (g : Dev Cert.DwXoO.nD → PrngReg), Pre_DwXoO m →
    θ_run (Cert.DwXoO.defs (F := Bits)) (onTc (τ := Cert.DwXoO.τ) (Cert.DwXoO.main (F := Bits))) ⟨m, fun _ => 0, g⟩ (fun r => (∀ c : Dev Cert.DwXoO.nD,
      r.2.mem ((c.tc : Thread Cert.DwXoO.nD Cert.DwXoO.τ).loc Cert.DwXoO.main_arg0) = m ((c.tc : Thread Cert.DwXoO.nD Cert.DwXoO.τ).loc Cert.DwXoO.main_arg0)
      ∧ r.2.mem ((c.tc : Thread Cert.DwXoO.nD Cert.DwXoO.τ).loc Cert.DwXoO.main_arg1) = m ((c.tc : Thread Cert.DwXoO.nD Cert.DwXoO.τ).loc Cert.DwXoO.main_arg1)
      ∧ r.2.mem ((c.tc : Thread Cert.DwXoO.nD Cert.DwXoO.τ).loc Cert.DwXoO.main_arg2) = m ((c.tc : Thread Cert.DwXoO.nD Cert.DwXoO.τ).loc Cert.DwXoO.main_arg2))
      ∧ r.2.sem = fun _ => 0)

def quiescent_DwXoOIdeal [hDwXoOIdeal : Cert.DwXoOIdeal.Facts] : Prop :=
  ∀ (m : (ℓ : Loc Cert.DwXoOIdeal.nD Cert.DwXoOIdeal.τ Cert.DwXoOIdeal.sig) → Buf (Elt Ideal) ℓ) (g : Dev Cert.DwXoOIdeal.nD → PrngReg), Pre_DwXoOIdeal m →
    θ_run (Cert.DwXoOIdeal.defs (F := Ideal)) (onTc (τ := Cert.DwXoOIdeal.τ) (Cert.DwXoOIdeal.main (F := Ideal))) ⟨m, fun _ => 0, g⟩ (fun r => (∀ c : Dev Cert.DwXoOIdeal.nD,
      r.2.mem ((c.tc : Thread Cert.DwXoOIdeal.nD Cert.DwXoOIdeal.τ).loc Cert.DwXoOIdeal.main_arg0) = m ((c.tc : Thread Cert.DwXoOIdeal.nD Cert.DwXoOIdeal.τ).loc Cert.DwXoOIdeal.main_arg0)
      ∧ r.2.mem ((c.tc : Thread Cert.DwXoOIdeal.nD Cert.DwXoOIdeal.τ).loc Cert.DwXoOIdeal.main_arg1) = m ((c.tc : Thread Cert.DwXoOIdeal.nD Cert.DwXoOIdeal.τ).loc Cert.DwXoOIdeal.main_arg1)
      ∧ r.2.mem ((c.tc : Thread Cert.DwXoOIdeal.nD Cert.DwXoOIdeal.τ).loc Cert.DwXoOIdeal.main_arg2) = m ((c.tc : Thread Cert.DwXoOIdeal.nD Cert.DwXoOIdeal.τ).loc Cert.DwXoOIdeal.main_arg2))
      ∧ r.2.sem = fun _ => 0)

def quiescent_DwXoOReferenceIdeal [hDwXoOReferenceIdeal : Cert.DwXoOReferenceIdeal.Facts] : Prop :=
  ∀ (m : (ℓ : Loc Cert.DwXoOReferenceIdeal.nD Cert.DwXoOReferenceIdeal.τ Cert.DwXoOReferenceIdeal.sig) → Buf (Elt Ideal) ℓ) (g : Dev Cert.DwXoOReferenceIdeal.nD → PrngReg), Pre_DwXoOReferenceIdeal m →
    θ_run (Cert.DwXoOReferenceIdeal.defs (F := Ideal)) (onTc (τ := Cert.DwXoOReferenceIdeal.τ) (Cert.DwXoOReferenceIdeal.main (F := Ideal))) ⟨m, fun _ => 0, g⟩ (fun r => (∀ c : Dev Cert.DwXoOReferenceIdeal.nD,
      r.2.mem ((c.tc : Thread Cert.DwXoOReferenceIdeal.nD Cert.DwXoOReferenceIdeal.τ).loc Cert.DwXoOReferenceIdeal.main_arg0) = m ((c.tc : Thread Cert.DwXoOReferenceIdeal.nD Cert.DwXoOReferenceIdeal.τ).loc Cert.DwXoOReferenceIdeal.main_arg0)
      ∧ r.2.mem ((c.tc : Thread Cert.DwXoOReferenceIdeal.nD Cert.DwXoOReferenceIdeal.τ).loc Cert.DwXoOReferenceIdeal.main_arg1) = m ((c.tc : Thread Cert.DwXoOReferenceIdeal.nD Cert.DwXoOReferenceIdeal.τ).loc Cert.DwXoOReferenceIdeal.main_arg1)
      ∧ r.2.mem ((c.tc : Thread Cert.DwXoOReferenceIdeal.nD Cert.DwXoOReferenceIdeal.τ).loc Cert.DwXoOReferenceIdeal.main_arg2) = m ((c.tc : Thread Cert.DwXoOReferenceIdeal.nD Cert.DwXoOReferenceIdeal.τ).loc Cert.DwXoOReferenceIdeal.main_arg2))
      ∧ r.2.sem = fun _ => 0)

def quiescent_DwXqS [hDwXqS : Cert.DwXqS.Facts] : Prop :=
  ∀ (m : (ℓ : Loc Cert.DwXqS.nD Cert.DwXqS.τ Cert.DwXqS.sig) → Buf (Elt Bits) ℓ) (g : Dev Cert.DwXqS.nD → PrngReg), Pre_DwXqS m →
    θ_run (Cert.DwXqS.defs (F := Bits)) (onTc (τ := Cert.DwXqS.τ) (Cert.DwXqS.main (F := Bits))) ⟨m, fun _ => 0, g⟩ (fun r => (∀ c : Dev Cert.DwXqS.nD,
      r.2.mem ((c.tc : Thread Cert.DwXqS.nD Cert.DwXqS.τ).loc Cert.DwXqS.main_arg0) = m ((c.tc : Thread Cert.DwXqS.nD Cert.DwXqS.τ).loc Cert.DwXqS.main_arg0)
      ∧ r.2.mem ((c.tc : Thread Cert.DwXqS.nD Cert.DwXqS.τ).loc Cert.DwXqS.main_arg1) = m ((c.tc : Thread Cert.DwXqS.nD Cert.DwXqS.τ).loc Cert.DwXqS.main_arg1))
      ∧ r.2.sem = fun _ => 0)

def quiescent_DwXqSIdeal [hDwXqSIdeal : Cert.DwXqSIdeal.Facts] : Prop :=
  ∀ (m : (ℓ : Loc Cert.DwXqSIdeal.nD Cert.DwXqSIdeal.τ Cert.DwXqSIdeal.sig) → Buf (Elt Ideal) ℓ) (g : Dev Cert.DwXqSIdeal.nD → PrngReg), Pre_DwXqSIdeal m →
    θ_run (Cert.DwXqSIdeal.defs (F := Ideal)) (onTc (τ := Cert.DwXqSIdeal.τ) (Cert.DwXqSIdeal.main (F := Ideal))) ⟨m, fun _ => 0, g⟩ (fun r => (∀ c : Dev Cert.DwXqSIdeal.nD,
      r.2.mem ((c.tc : Thread Cert.DwXqSIdeal.nD Cert.DwXqSIdeal.τ).loc Cert.DwXqSIdeal.main_arg0) = m ((c.tc : Thread Cert.DwXqSIdeal.nD Cert.DwXqSIdeal.τ).loc Cert.DwXqSIdeal.main_arg0)
      ∧ r.2.mem ((c.tc : Thread Cert.DwXqSIdeal.nD Cert.DwXqSIdeal.τ).loc Cert.DwXqSIdeal.main_arg1) = m ((c.tc : Thread Cert.DwXqSIdeal.nD Cert.DwXqSIdeal.τ).loc Cert.DwXqSIdeal.main_arg1))
      ∧ r.2.sem = fun _ => 0)

def quiescent_DwXqSReferenceIdeal [hDwXqSReferenceIdeal : Cert.DwXqSReferenceIdeal.Facts] : Prop :=
  ∀ (m : (ℓ : Loc Cert.DwXqSReferenceIdeal.nD Cert.DwXqSReferenceIdeal.τ Cert.DwXqSReferenceIdeal.sig) → Buf (Elt Ideal) ℓ) (g : Dev Cert.DwXqSReferenceIdeal.nD → PrngReg), Pre_DwXqSReferenceIdeal m →
    θ_run (Cert.DwXqSReferenceIdeal.defs (F := Ideal)) (onTc (τ := Cert.DwXqSReferenceIdeal.τ) (Cert.DwXqSReferenceIdeal.main (F := Ideal))) ⟨m, fun _ => 0, g⟩ (fun r => (∀ c : Dev Cert.DwXqSReferenceIdeal.nD,
      r.2.mem ((c.tc : Thread Cert.DwXqSReferenceIdeal.nD Cert.DwXqSReferenceIdeal.τ).loc Cert.DwXqSReferenceIdeal.main_arg0) = m ((c.tc : Thread Cert.DwXqSReferenceIdeal.nD Cert.DwXqSReferenceIdeal.τ).loc Cert.DwXqSReferenceIdeal.main_arg0)
      ∧ r.2.mem ((c.tc : Thread Cert.DwXqSReferenceIdeal.nD Cert.DwXqSReferenceIdeal.τ).loc Cert.DwXqSReferenceIdeal.main_arg1) = m ((c.tc : Thread Cert.DwXqSReferenceIdeal.nD Cert.DwXqSReferenceIdeal.τ).loc Cert.DwXqSReferenceIdeal.main_arg1))
      ∧ r.2.sem = fun _ => 0)

def quiescent_DwXqO [hDwXqO : Cert.DwXqO.Facts] : Prop :=
  ∀ (m : (ℓ : Loc Cert.DwXqO.nD Cert.DwXqO.τ Cert.DwXqO.sig) → Buf (Elt Bits) ℓ) (g : Dev Cert.DwXqO.nD → PrngReg), Pre_DwXqO m →
    θ_run (Cert.DwXqO.defs (F := Bits)) (onTc (τ := Cert.DwXqO.τ) (Cert.DwXqO.main (F := Bits))) ⟨m, fun _ => 0, g⟩ (fun r => (∀ c : Dev Cert.DwXqO.nD,
      r.2.mem ((c.tc : Thread Cert.DwXqO.nD Cert.DwXqO.τ).loc Cert.DwXqO.main_arg0) = m ((c.tc : Thread Cert.DwXqO.nD Cert.DwXqO.τ).loc Cert.DwXqO.main_arg0)
      ∧ r.2.mem ((c.tc : Thread Cert.DwXqO.nD Cert.DwXqO.τ).loc Cert.DwXqO.main_arg1) = m ((c.tc : Thread Cert.DwXqO.nD Cert.DwXqO.τ).loc Cert.DwXqO.main_arg1)
      ∧ r.2.mem ((c.tc : Thread Cert.DwXqO.nD Cert.DwXqO.τ).loc Cert.DwXqO.main_arg2) = m ((c.tc : Thread Cert.DwXqO.nD Cert.DwXqO.τ).loc Cert.DwXqO.main_arg2))
      ∧ r.2.sem = fun _ => 0)

def quiescent_DwXqOIdeal [hDwXqOIdeal : Cert.DwXqOIdeal.Facts] : Prop :=
  ∀ (m : (ℓ : Loc Cert.DwXqOIdeal.nD Cert.DwXqOIdeal.τ Cert.DwXqOIdeal.sig) → Buf (Elt Ideal) ℓ) (g : Dev Cert.DwXqOIdeal.nD → PrngReg), Pre_DwXqOIdeal m →
    θ_run (Cert.DwXqOIdeal.defs (F := Ideal)) (onTc (τ := Cert.DwXqOIdeal.τ) (Cert.DwXqOIdeal.main (F := Ideal))) ⟨m, fun _ => 0, g⟩ (fun r => (∀ c : Dev Cert.DwXqOIdeal.nD,
      r.2.mem ((c.tc : Thread Cert.DwXqOIdeal.nD Cert.DwXqOIdeal.τ).loc Cert.DwXqOIdeal.main_arg0) = m ((c.tc : Thread Cert.DwXqOIdeal.nD Cert.DwXqOIdeal.τ).loc Cert.DwXqOIdeal.main_arg0)
      ∧ r.2.mem ((c.tc : Thread Cert.DwXqOIdeal.nD Cert.DwXqOIdeal.τ).loc Cert.DwXqOIdeal.main_arg1) = m ((c.tc : Thread Cert.DwXqOIdeal.nD Cert.DwXqOIdeal.τ).loc Cert.DwXqOIdeal.main_arg1)
      ∧ r.2.mem ((c.tc : Thread Cert.DwXqOIdeal.nD Cert.DwXqOIdeal.τ).loc Cert.DwXqOIdeal.main_arg2) = m ((c.tc : Thread Cert.DwXqOIdeal.nD Cert.DwXqOIdeal.τ).loc Cert.DwXqOIdeal.main_arg2))
      ∧ r.2.sem = fun _ => 0)

def quiescent_DwXqOReferenceIdeal [hDwXqOReferenceIdeal : Cert.DwXqOReferenceIdeal.Facts] : Prop :=
  ∀ (m : (ℓ : Loc Cert.DwXqOReferenceIdeal.nD Cert.DwXqOReferenceIdeal.τ Cert.DwXqOReferenceIdeal.sig) → Buf (Elt Ideal) ℓ) (g : Dev Cert.DwXqOReferenceIdeal.nD → PrngReg), Pre_DwXqOReferenceIdeal m →
    θ_run (Cert.DwXqOReferenceIdeal.defs (F := Ideal)) (onTc (τ := Cert.DwXqOReferenceIdeal.τ) (Cert.DwXqOReferenceIdeal.main (F := Ideal))) ⟨m, fun _ => 0, g⟩ (fun r => (∀ c : Dev Cert.DwXqOReferenceIdeal.nD,
      r.2.mem ((c.tc : Thread Cert.DwXqOReferenceIdeal.nD Cert.DwXqOReferenceIdeal.τ).loc Cert.DwXqOReferenceIdeal.main_arg0) = m ((c.tc : Thread Cert.DwXqOReferenceIdeal.nD Cert.DwXqOReferenceIdeal.τ).loc Cert.DwXqOReferenceIdeal.main_arg0)
      ∧ r.2.mem ((c.tc : Thread Cert.DwXqOReferenceIdeal.nD Cert.DwXqOReferenceIdeal.τ).loc Cert.DwXqOReferenceIdeal.main_arg1) = m ((c.tc : Thread Cert.DwXqOReferenceIdeal.nD Cert.DwXqOReferenceIdeal.τ).loc Cert.DwXqOReferenceIdeal.main_arg1)
      ∧ r.2.mem ((c.tc : Thread Cert.DwXqOReferenceIdeal.nD Cert.DwXqOReferenceIdeal.τ).loc Cert.DwXqOReferenceIdeal.main_arg2) = m ((c.tc : Thread Cert.DwXqOReferenceIdeal.nD Cert.DwXqOReferenceIdeal.τ).loc Cert.DwXqOReferenceIdeal.main_arg2))
      ∧ r.2.sem = fun _ => 0)

def quiescent_DwKvS [hDwKvS : Cert.DwKvS.Facts] : Prop :=
  ∀ (m : (ℓ : Loc Cert.DwKvS.nD Cert.DwKvS.τ Cert.DwKvS.sig) → Buf (Elt Bits) ℓ) (g : Dev Cert.DwKvS.nD → PrngReg), Pre_DwKvS m →
    θ_run (Cert.DwKvS.defs (F := Bits)) (onTc (τ := Cert.DwKvS.τ) (Cert.DwKvS.main (F := Bits))) ⟨m, fun _ => 0, g⟩ (fun r => (∀ c : Dev Cert.DwKvS.nD,
      r.2.mem ((c.tc : Thread Cert.DwKvS.nD Cert.DwKvS.τ).loc Cert.DwKvS.main_arg0) = m ((c.tc : Thread Cert.DwKvS.nD Cert.DwKvS.τ).loc Cert.DwKvS.main_arg0)
      ∧ r.2.mem ((c.tc : Thread Cert.DwKvS.nD Cert.DwKvS.τ).loc Cert.DwKvS.main_arg1) = m ((c.tc : Thread Cert.DwKvS.nD Cert.DwKvS.τ).loc Cert.DwKvS.main_arg1))
      ∧ r.2.sem = fun _ => 0)

def quiescent_DwKvSIdeal [hDwKvSIdeal : Cert.DwKvSIdeal.Facts] : Prop :=
  ∀ (m : (ℓ : Loc Cert.DwKvSIdeal.nD Cert.DwKvSIdeal.τ Cert.DwKvSIdeal.sig) → Buf (Elt Ideal) ℓ) (g : Dev Cert.DwKvSIdeal.nD → PrngReg), Pre_DwKvSIdeal m →
    θ_run (Cert.DwKvSIdeal.defs (F := Ideal)) (onTc (τ := Cert.DwKvSIdeal.τ) (Cert.DwKvSIdeal.main (F := Ideal))) ⟨m, fun _ => 0, g⟩ (fun r => (∀ c : Dev Cert.DwKvSIdeal.nD,
      r.2.mem ((c.tc : Thread Cert.DwKvSIdeal.nD Cert.DwKvSIdeal.τ).loc Cert.DwKvSIdeal.main_arg0) = m ((c.tc : Thread Cert.DwKvSIdeal.nD Cert.DwKvSIdeal.τ).loc Cert.DwKvSIdeal.main_arg0)
      ∧ r.2.mem ((c.tc : Thread Cert.DwKvSIdeal.nD Cert.DwKvSIdeal.τ).loc Cert.DwKvSIdeal.main_arg1) = m ((c.tc : Thread Cert.DwKvSIdeal.nD Cert.DwKvSIdeal.τ).loc Cert.DwKvSIdeal.main_arg1))
      ∧ r.2.sem = fun _ => 0)

def quiescent_DwKvSReferenceIdeal [hDwKvSReferenceIdeal : Cert.DwKvSReferenceIdeal.Facts] : Prop :=
  ∀ (m : (ℓ : Loc Cert.DwKvSReferenceIdeal.nD Cert.DwKvSReferenceIdeal.τ Cert.DwKvSReferenceIdeal.sig) → Buf (Elt Ideal) ℓ) (g : Dev Cert.DwKvSReferenceIdeal.nD → PrngReg), Pre_DwKvSReferenceIdeal m →
    θ_run (Cert.DwKvSReferenceIdeal.defs (F := Ideal)) (onTc (τ := Cert.DwKvSReferenceIdeal.τ) (Cert.DwKvSReferenceIdeal.main (F := Ideal))) ⟨m, fun _ => 0, g⟩ (fun r => (∀ c : Dev Cert.DwKvSReferenceIdeal.nD,
      r.2.mem ((c.tc : Thread Cert.DwKvSReferenceIdeal.nD Cert.DwKvSReferenceIdeal.τ).loc Cert.DwKvSReferenceIdeal.main_arg0) = m ((c.tc : Thread Cert.DwKvSReferenceIdeal.nD Cert.DwKvSReferenceIdeal.τ).loc Cert.DwKvSReferenceIdeal.main_arg0)
      ∧ r.2.mem ((c.tc : Thread Cert.DwKvSReferenceIdeal.nD Cert.DwKvSReferenceIdeal.τ).loc Cert.DwKvSReferenceIdeal.main_arg1) = m ((c.tc : Thread Cert.DwKvSReferenceIdeal.nD Cert.DwKvSReferenceIdeal.τ).loc Cert.DwKvSReferenceIdeal.main_arg1))
      ∧ r.2.sem = fun _ => 0)

def quiescent_DwKvO [hDwKvO : Cert.DwKvO.Facts] : Prop :=
  ∀ (m : (ℓ : Loc Cert.DwKvO.nD Cert.DwKvO.τ Cert.DwKvO.sig) → Buf (Elt Bits) ℓ) (g : Dev Cert.DwKvO.nD → PrngReg), Pre_DwKvO m →
    θ_run (Cert.DwKvO.defs (F := Bits)) (onTc (τ := Cert.DwKvO.τ) (Cert.DwKvO.main (F := Bits))) ⟨m, fun _ => 0, g⟩ (fun r => (∀ c : Dev Cert.DwKvO.nD,
      r.2.mem ((c.tc : Thread Cert.DwKvO.nD Cert.DwKvO.τ).loc Cert.DwKvO.main_arg0) = m ((c.tc : Thread Cert.DwKvO.nD Cert.DwKvO.τ).loc Cert.DwKvO.main_arg0)
      ∧ r.2.mem ((c.tc : Thread Cert.DwKvO.nD Cert.DwKvO.τ).loc Cert.DwKvO.main_arg1) = m ((c.tc : Thread Cert.DwKvO.nD Cert.DwKvO.τ).loc Cert.DwKvO.main_arg1)
      ∧ r.2.mem ((c.tc : Thread Cert.DwKvO.nD Cert.DwKvO.τ).loc Cert.DwKvO.main_arg2) = m ((c.tc : Thread Cert.DwKvO.nD Cert.DwKvO.τ).loc Cert.DwKvO.main_arg2))
      ∧ r.2.sem = fun _ => 0)

def quiescent_DwKvOIdeal [hDwKvOIdeal : Cert.DwKvOIdeal.Facts] : Prop :=
  ∀ (m : (ℓ : Loc Cert.DwKvOIdeal.nD Cert.DwKvOIdeal.τ Cert.DwKvOIdeal.sig) → Buf (Elt Ideal) ℓ) (g : Dev Cert.DwKvOIdeal.nD → PrngReg), Pre_DwKvOIdeal m →
    θ_run (Cert.DwKvOIdeal.defs (F := Ideal)) (onTc (τ := Cert.DwKvOIdeal.τ) (Cert.DwKvOIdeal.main (F := Ideal))) ⟨m, fun _ => 0, g⟩ (fun r => (∀ c : Dev Cert.DwKvOIdeal.nD,
      r.2.mem ((c.tc : Thread Cert.DwKvOIdeal.nD Cert.DwKvOIdeal.τ).loc Cert.DwKvOIdeal.main_arg0) = m ((c.tc : Thread Cert.DwKvOIdeal.nD Cert.DwKvOIdeal.τ).loc Cert.DwKvOIdeal.main_arg0)
      ∧ r.2.mem ((c.tc : Thread Cert.DwKvOIdeal.nD Cert.DwKvOIdeal.τ).loc Cert.DwKvOIdeal.main_arg1) = m ((c.tc : Thread Cert.DwKvOIdeal.nD Cert.DwKvOIdeal.τ).loc Cert.DwKvOIdeal.main_arg1)
      ∧ r.2.mem ((c.tc : Thread Cert.DwKvOIdeal.nD Cert.DwKvOIdeal.τ).loc Cert.DwKvOIdeal.main_arg2) = m ((c.tc : Thread Cert.DwKvOIdeal.nD Cert.DwKvOIdeal.τ).loc Cert.DwKvOIdeal.main_arg2))
      ∧ r.2.sem = fun _ => 0)

def quiescent_DwKvOReferenceIdeal [hDwKvOReferenceIdeal : Cert.DwKvOReferenceIdeal.Facts] : Prop :=
  ∀ (m : (ℓ : Loc Cert.DwKvOReferenceIdeal.nD Cert.DwKvOReferenceIdeal.τ Cert.DwKvOReferenceIdeal.sig) → Buf (Elt Ideal) ℓ) (g : Dev Cert.DwKvOReferenceIdeal.nD → PrngReg), Pre_DwKvOReferenceIdeal m →
    θ_run (Cert.DwKvOReferenceIdeal.defs (F := Ideal)) (onTc (τ := Cert.DwKvOReferenceIdeal.τ) (Cert.DwKvOReferenceIdeal.main (F := Ideal))) ⟨m, fun _ => 0, g⟩ (fun r => (∀ c : Dev Cert.DwKvOReferenceIdeal.nD,
      r.2.mem ((c.tc : Thread Cert.DwKvOReferenceIdeal.nD Cert.DwKvOReferenceIdeal.τ).loc Cert.DwKvOReferenceIdeal.main_arg0) = m ((c.tc : Thread Cert.DwKvOReferenceIdeal.nD Cert.DwKvOReferenceIdeal.τ).loc Cert.DwKvOReferenceIdeal.main_arg0)
      ∧ r.2.mem ((c.tc : Thread Cert.DwKvOReferenceIdeal.nD Cert.DwKvOReferenceIdeal.τ).loc Cert.DwKvOReferenceIdeal.main_arg1) = m ((c.tc : Thread Cert.DwKvOReferenceIdeal.nD Cert.DwKvOReferenceIdeal.τ).loc Cert.DwKvOReferenceIdeal.main_arg1)
      ∧ r.2.mem ((c.tc : Thread Cert.DwKvOReferenceIdeal.nD Cert.DwKvOReferenceIdeal.τ).loc Cert.DwKvOReferenceIdeal.main_arg2) = m ((c.tc : Thread Cert.DwKvOReferenceIdeal.nD Cert.DwKvOReferenceIdeal.τ).loc Cert.DwKvOReferenceIdeal.main_arg2))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3))
      ∧ r.2.sem = fun _ => 0)

def quiescent_Sum [hSum : Cert.Sum.Facts] : Prop :=
  ∀ (m : (ℓ : Loc Cert.Sum.nD Cert.Sum.τ Cert.Sum.sig) → Buf (Elt Bits) ℓ) (g : Dev Cert.Sum.nD → PrngReg), Pre_Sum m →
    θ_run (Cert.Sum.defs (F := Bits)) (onTc (τ := Cert.Sum.τ) (Cert.Sum.main (F := Bits))) ⟨m, fun _ => 0, g⟩ (fun r => (∀ c : Dev Cert.Sum.nD,
      r.2.mem ((c.tc : Thread Cert.Sum.nD Cert.Sum.τ).loc Cert.Sum.main_arg0) = m ((c.tc : Thread Cert.Sum.nD Cert.Sum.τ).loc Cert.Sum.main_arg0))
      ∧ r.2.sem = fun _ => 0)

def quiescent_SumIdeal [hSumIdeal : Cert.SumIdeal.Facts] : Prop :=
  ∀ (m : (ℓ : Loc Cert.SumIdeal.nD Cert.SumIdeal.τ Cert.SumIdeal.sig) → Buf (Elt Ideal) ℓ) (g : Dev Cert.SumIdeal.nD → PrngReg), Pre_SumIdeal m →
    θ_run (Cert.SumIdeal.defs (F := Ideal)) (onTc (τ := Cert.SumIdeal.τ) (Cert.SumIdeal.main (F := Ideal))) ⟨m, fun _ => 0, g⟩ (fun r => (∀ c : Dev Cert.SumIdeal.nD,
      r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ r.2.sem = fun _ => 0)

def quiescent_SumReferenceIdeal [hSumReferenceIdeal : Cert.SumReferenceIdeal.Facts] : Prop :=
  ∀ (m : (ℓ : Loc Cert.SumReferenceIdeal.nD Cert.SumReferenceIdeal.τ Cert.SumReferenceIdeal.sig) → Buf (Elt Ideal) ℓ) (g : Dev Cert.SumReferenceIdeal.nD → PrngReg), Pre_SumReferenceIdeal m →
    θ_run (Cert.SumReferenceIdeal.defs (F := Ideal)) (onTc (τ := Cert.SumReferenceIdeal.τ) (Cert.SumReferenceIdeal.main (F := Ideal))) ⟨m, fun _ => 0, g⟩ (fun r => (∀ c : Dev Cert.SumReferenceIdeal.nD,
      r.2.mem ((c.tc : Thread Cert.SumReferenceIdeal.nD Cert.SumReferenceIdeal.τ).loc Cert.SumReferenceIdeal.main_arg0) = m ((c.tc : Thread Cert.SumReferenceIdeal.nD Cert.SumReferenceIdeal.τ).loc Cert.SumReferenceIdeal.main_arg0))
      ∧ r.2.sem = fun _ => 0)

def quiescent_AdamO [hAdamO : Cert.AdamO.Facts] : Prop :=
  ∀ (m : (ℓ : Loc Cert.AdamO.nD Cert.AdamO.τ Cert.AdamO.sig) → Buf (Elt Bits) ℓ) (g : Dev Cert.AdamO.nD → PrngReg), Pre_AdamO m →
    θ_run (Cert.AdamO.defs (F := Bits)) (onTc (τ := Cert.AdamO.τ) (Cert.AdamO.main (F := Bits))) ⟨m, fun _ => 0, g⟩ (fun r => (∀ c : Dev Cert.AdamO.nD,
      r.2.mem ((c.tc : Thread Cert.AdamO.nD Cert.AdamO.τ).loc Cert.AdamO.main_arg0) = m ((c.tc : Thread Cert.AdamO.nD Cert.AdamO.τ).loc Cert.AdamO.main_arg0)
      ∧ r.2.mem ((c.tc : Thread Cert.AdamO.nD Cert.AdamO.τ).loc Cert.AdamO.main_arg1) = m ((c.tc : Thread Cert.AdamO.nD Cert.AdamO.τ).loc Cert.AdamO.main_arg1)
      ∧ r.2.mem ((c.tc : Thread Cert.AdamO.nD Cert.AdamO.τ).loc Cert.AdamO.main_arg2) = m ((c.tc : Thread Cert.AdamO.nD Cert.AdamO.τ).loc Cert.AdamO.main_arg2)
      ∧ r.2.mem ((c.tc : Thread Cert.AdamO.nD Cert.AdamO.τ).loc Cert.AdamO.main_arg3) = m ((c.tc : Thread Cert.AdamO.nD Cert.AdamO.τ).loc Cert.AdamO.main_arg3)
      ∧ r.2.mem ((c.tc : Thread Cert.AdamO.nD Cert.AdamO.τ).loc Cert.AdamO.main_arg4) = m ((c.tc : Thread Cert.AdamO.nD Cert.AdamO.τ).loc Cert.AdamO.main_arg4))
      ∧ r.2.sem = fun _ => 0)

def quiescent_AdamOIdeal [hAdamOIdeal : Cert.AdamOIdeal.Facts] : Prop :=
  ∀ (m : (ℓ : Loc Cert.AdamOIdeal.nD Cert.AdamOIdeal.τ Cert.AdamOIdeal.sig) → Buf (Elt Ideal) ℓ) (g : Dev Cert.AdamOIdeal.nD → PrngReg), Pre_AdamOIdeal m →
    θ_run (Cert.AdamOIdeal.defs (F := Ideal)) (onTc (τ := Cert.AdamOIdeal.τ) (Cert.AdamOIdeal.main (F := Ideal))) ⟨m, fun _ => 0, g⟩ (fun r => (∀ c : Dev Cert.AdamOIdeal.nD,
      r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
      ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
      ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
      ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3)
      ∧ r.2.mem ((c.tc : Thread Cert.AdamOIdeal.nD Cert.AdamOIdeal.τ).loc Cert.AdamOIdeal.main_arg4) = m ((c.tc : Thread Cert.AdamOIdeal.nD Cert.AdamOIdeal.τ).loc Cert.AdamOIdeal.main_arg4))
      ∧ r.2.sem = fun _ => 0)

def quiescent_AdamOReferenceIdeal [hAdamOReferenceIdeal : Cert.AdamOReferenceIdeal.Facts] : Prop :=
  ∀ (m : (ℓ : Loc Cert.AdamOReferenceIdeal.nD Cert.AdamOReferenceIdeal.τ Cert.AdamOReferenceIdeal.sig) → Buf (Elt Ideal) ℓ) (g : Dev Cert.AdamOReferenceIdeal.nD → PrngReg), Pre_AdamOReferenceIdeal m →
    θ_run (Cert.AdamOReferenceIdeal.defs (F := Ideal)) (onTc (τ := Cert.AdamOReferenceIdeal.τ) (Cert.AdamOReferenceIdeal.main (F := Ideal))) ⟨m, fun _ => 0, g⟩ (fun r => (∀ c : Dev Cert.AdamOReferenceIdeal.nD,
      r.2.mem ((c.tc : Thread Cert.AdamOReferenceIdeal.nD Cert.AdamOReferenceIdeal.τ).loc Cert.AdamOReferenceIdeal.main_arg0) = m ((c.tc : Thread Cert.AdamOReferenceIdeal.nD Cert.AdamOReferenceIdeal.τ).loc Cert.AdamOReferenceIdeal.main_arg0)
      ∧ r.2.mem ((c.tc : Thread Cert.AdamOReferenceIdeal.nD Cert.AdamOReferenceIdeal.τ).loc Cert.AdamOReferenceIdeal.main_arg1) = m ((c.tc : Thread Cert.AdamOReferenceIdeal.nD Cert.AdamOReferenceIdeal.τ).loc Cert.AdamOReferenceIdeal.main_arg1)
      ∧ r.2.mem ((c.tc : Thread Cert.AdamOReferenceIdeal.nD Cert.AdamOReferenceIdeal.τ).loc Cert.AdamOReferenceIdeal.main_arg2) = m ((c.tc : Thread Cert.AdamOReferenceIdeal.nD Cert.AdamOReferenceIdeal.τ).loc Cert.AdamOReferenceIdeal.main_arg2)
      ∧ r.2.mem ((c.tc : Thread Cert.AdamOReferenceIdeal.nD Cert.AdamOReferenceIdeal.τ).loc Cert.AdamOReferenceIdeal.main_arg3) = m ((c.tc : Thread Cert.AdamOReferenceIdeal.nD Cert.AdamOReferenceIdeal.τ).loc Cert.AdamOReferenceIdeal.main_arg3)
      ∧ r.2.mem ((c.tc : Thread Cert.AdamOReferenceIdeal.nD Cert.AdamOReferenceIdeal.τ).loc Cert.AdamOReferenceIdeal.main_arg4) = m ((c.tc : Thread Cert.AdamOReferenceIdeal.nD Cert.AdamOReferenceIdeal.τ).loc Cert.AdamOReferenceIdeal.main_arg4))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_AdamUpReferenceIdeal [hAdamUpReferenceIdeal : Cert.AdamUpReferenceIdeal.Facts] : Prop :=
  ∀ (m : (ℓ : Loc Cert.AdamUpReferenceIdeal.nD Cert.AdamUpReferenceIdeal.τ Cert.AdamUpReferenceIdeal.sig) → Buf (Elt Ideal) ℓ) (g : Dev Cert.AdamUpReferenceIdeal.nD → PrngReg), Pre_AdamUpReferenceIdeal m →
    θ_run (Cert.AdamUpReferenceIdeal.defs (F := Ideal)) (onTc (τ := Cert.AdamUpReferenceIdeal.τ) (Cert.AdamUpReferenceIdeal.main (F := Ideal))) ⟨m, fun _ => 0, g⟩ (fun r => (∀ c : Dev Cert.AdamUpReferenceIdeal.nD,
      r.2.mem ((c.tc : Thread Cert.AdamUpReferenceIdeal.nD Cert.AdamUpReferenceIdeal.τ).loc Cert.AdamUpReferenceIdeal.main_arg0) = m ((c.tc : Thread Cert.AdamUpReferenceIdeal.nD Cert.AdamUpReferenceIdeal.τ).loc Cert.AdamUpReferenceIdeal.main_arg0)
      ∧ r.2.mem ((c.tc : Thread Cert.AdamUpReferenceIdeal.nD Cert.AdamUpReferenceIdeal.τ).loc Cert.AdamUpReferenceIdeal.main_arg1) = m ((c.tc : Thread Cert.AdamUpReferenceIdeal.nD Cert.AdamUpReferenceIdeal.τ).loc Cert.AdamUpReferenceIdeal.main_arg1)
      ∧ r.2.mem ((c.tc : Thread Cert.AdamUpReferenceIdeal.nD Cert.AdamUpReferenceIdeal.τ).loc Cert.AdamUpReferenceIdeal.main_arg2) = m ((c.tc : Thread Cert.AdamUpReferenceIdeal.nD Cert.AdamUpReferenceIdeal.τ).loc Cert.AdamUpReferenceIdeal.main_arg2)
      ∧ r.2.mem ((c.tc : Thread Cert.AdamUpReferenceIdeal.nD Cert.AdamUpReferenceIdeal.τ).loc Cert.AdamUpReferenceIdeal.main_arg3) = m ((c.tc : Thread Cert.AdamUpReferenceIdeal.nD Cert.AdamUpReferenceIdeal.τ).loc Cert.AdamUpReferenceIdeal.main_arg3)
      ∧ r.2.mem ((c.tc : Thread Cert.AdamUpReferenceIdeal.nD Cert.AdamUpReferenceIdeal.τ).loc Cert.AdamUpReferenceIdeal.main_arg4) = m ((c.tc : Thread Cert.AdamUpReferenceIdeal.nD Cert.AdamUpReferenceIdeal.τ).loc Cert.AdamUpReferenceIdeal.main_arg4))
      ∧ r.2.sem = fun _ => 0)

def quiescent_AdamBr [hAdamBr : Cert.AdamBr.Facts] : Prop :=
  ∀ (m : (ℓ : Loc Cert.AdamBr.nD Cert.AdamBr.τ Cert.AdamBr.sig) → Buf (Elt Bits) ℓ) (g : Dev Cert.AdamBr.nD → PrngReg), Pre_AdamBr m →
    θ_run (Cert.AdamBr.defs (F := Bits)) (onTc (τ := Cert.AdamBr.τ) (Cert.AdamBr.main (F := Bits))) ⟨m, fun _ => 0, g⟩ (fun r => (∀ c : Dev Cert.AdamBr.nD,
      r.2.mem ((c.tc : Thread Cert.AdamBr.nD Cert.AdamBr.τ).loc Cert.AdamBr.main_arg0) = m ((c.tc : Thread Cert.AdamBr.nD Cert.AdamBr.τ).loc Cert.AdamBr.main_arg0)
      ∧ r.2.mem ((c.tc : Thread Cert.AdamBr.nD Cert.AdamBr.τ).loc Cert.AdamBr.main_arg1) = m ((c.tc : Thread Cert.AdamBr.nD Cert.AdamBr.τ).loc Cert.AdamBr.main_arg1)
      ∧ r.2.mem ((c.tc : Thread Cert.AdamBr.nD Cert.AdamBr.τ).loc Cert.AdamBr.main_arg2) = m ((c.tc : Thread Cert.AdamBr.nD Cert.AdamBr.τ).loc Cert.AdamBr.main_arg2)
      ∧ r.2.mem ((c.tc : Thread Cert.AdamBr.nD Cert.AdamBr.τ).loc Cert.AdamBr.main_arg3) = m ((c.tc : Thread Cert.AdamBr.nD Cert.AdamBr.τ).loc Cert.AdamBr.main_arg3)
      ∧ r.2.mem ((c.tc : Thread Cert.AdamBr.nD Cert.AdamBr.τ).loc Cert.AdamBr.main_arg4) = m ((c.tc : Thread Cert.AdamBr.nD Cert.AdamBr.τ).loc Cert.AdamBr.main_arg4))
      ∧ r.2.sem = fun _ => 0)

def quiescent_AdamBrIdeal [hAdamBrIdeal : Cert.AdamBrIdeal.Facts] : Prop :=
  ∀ (m : (ℓ : Loc Cert.AdamBrIdeal.nD Cert.AdamBrIdeal.τ Cert.AdamBrIdeal.sig) → Buf (Elt Ideal) ℓ) (g : Dev Cert.AdamBrIdeal.nD → PrngReg), Pre_AdamBrIdeal m →
    θ_run (Cert.AdamBrIdeal.defs (F := Ideal)) (onTc (τ := Cert.AdamBrIdeal.τ) (Cert.AdamBrIdeal.main (F := Ideal))) ⟨m, fun _ => 0, g⟩ (fun r => (∀ c : Dev Cert.AdamBrIdeal.nD,
      r.2.mem ((c.tc : Thread Cert.AdamBrIdeal.nD Cert.AdamBrIdeal.τ).loc Cert.AdamBrIdeal.main_arg0) = m ((c.tc : Thread Cert.AdamBrIdeal.nD Cert.AdamBrIdeal.τ).loc Cert.AdamBrIdeal.main_arg0)
      ∧ r.2.mem ((c.tc : Thread Cert.AdamBrIdeal.nD Cert.AdamBrIdeal.τ).loc Cert.AdamBrIdeal.main_arg1) = m ((c.tc : Thread Cert.AdamBrIdeal.nD Cert.AdamBrIdeal.τ).loc Cert.AdamBrIdeal.main_arg1)
      ∧ r.2.mem ((c.tc : Thread Cert.AdamBrIdeal.nD Cert.AdamBrIdeal.τ).loc Cert.AdamBrIdeal.main_arg2) = m ((c.tc : Thread Cert.AdamBrIdeal.nD Cert.AdamBrIdeal.τ).loc Cert.AdamBrIdeal.main_arg2)
      ∧ r.2.mem ((c.tc : Thread Cert.AdamBrIdeal.nD Cert.AdamBrIdeal.τ).loc Cert.AdamBrIdeal.main_arg3) = m ((c.tc : Thread Cert.AdamBrIdeal.nD Cert.AdamBrIdeal.τ).loc Cert.AdamBrIdeal.main_arg3)
      ∧ r.2.mem ((c.tc : Thread Cert.AdamBrIdeal.nD Cert.AdamBrIdeal.τ).loc Cert.AdamBrIdeal.main_arg4) = m ((c.tc : Thread Cert.AdamBrIdeal.nD Cert.AdamBrIdeal.τ).loc Cert.AdamBrIdeal.main_arg4))
      ∧ r.2.sem = fun _ => 0)

def quiescent_AdamBrReferenceIdeal [hAdamBrReferenceIdeal : Cert.AdamBrReferenceIdeal.Facts] : Prop :=
  ∀ (m : (ℓ : Loc Cert.AdamBrReferenceIdeal.nD Cert.AdamBrReferenceIdeal.τ Cert.AdamBrReferenceIdeal.sig) → Buf (Elt Ideal) ℓ) (g : Dev Cert.AdamBrReferenceIdeal.nD → PrngReg), Pre_AdamBrReferenceIdeal m →
    θ_run (Cert.AdamBrReferenceIdeal.defs (F := Ideal)) (onTc (τ := Cert.AdamBrReferenceIdeal.τ) (Cert.AdamBrReferenceIdeal.main (F := Ideal))) ⟨m, fun _ => 0, g⟩ (fun r => (∀ c : Dev Cert.AdamBrReferenceIdeal.nD,
      r.2.mem ((c.tc : Thread Cert.AdamBrReferenceIdeal.nD Cert.AdamBrReferenceIdeal.τ).loc Cert.AdamBrReferenceIdeal.main_arg0) = m ((c.tc : Thread Cert.AdamBrReferenceIdeal.nD Cert.AdamBrReferenceIdeal.τ).loc Cert.AdamBrReferenceIdeal.main_arg0)
      ∧ r.2.mem ((c.tc : Thread Cert.AdamBrReferenceIdeal.nD Cert.AdamBrReferenceIdeal.τ).loc Cert.AdamBrReferenceIdeal.main_arg1) = m ((c.tc : Thread Cert.AdamBrReferenceIdeal.nD Cert.AdamBrReferenceIdeal.τ).loc Cert.AdamBrReferenceIdeal.main_arg1)
      ∧ r.2.mem ((c.tc : Thread Cert.AdamBrReferenceIdeal.nD Cert.AdamBrReferenceIdeal.τ).loc Cert.AdamBrReferenceIdeal.main_arg2) = m ((c.tc : Thread Cert.AdamBrReferenceIdeal.nD Cert.AdamBrReferenceIdeal.τ).loc Cert.AdamBrReferenceIdeal.main_arg2)
      ∧ r.2.mem ((c.tc : Thread Cert.AdamBrReferenceIdeal.nD Cert.AdamBrReferenceIdeal.τ).loc Cert.AdamBrReferenceIdeal.main_arg3) = m ((c.tc : Thread Cert.AdamBrReferenceIdeal.nD Cert.AdamBrReferenceIdeal.τ).loc Cert.AdamBrReferenceIdeal.main_arg3)
      ∧ r.2.mem ((c.tc : Thread Cert.AdamBrReferenceIdeal.nD Cert.AdamBrReferenceIdeal.τ).loc Cert.AdamBrReferenceIdeal.main_arg4) = m ((c.tc : Thread Cert.AdamBrReferenceIdeal.nD Cert.AdamBrReferenceIdeal.τ).loc Cert.AdamBrReferenceIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3)
      ∧ r.2.mem ((c.tc : Thread Cert.AdamInReferenceIdeal.nD Cert.AdamInReferenceIdeal.τ).loc Cert.AdamInReferenceIdeal.main_arg4) = m ((c.tc : Thread Cert.AdamInReferenceIdeal.nD Cert.AdamInReferenceIdeal.τ).loc Cert.AdamInReferenceIdeal.main_arg4))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3)
      ∧ r.2.mem ((c.tc : Thread Cert.AdamKv.nD Cert.AdamKv.τ).loc Cert.AdamKv.main_arg4) = m ((c.tc : Thread Cert.AdamKv.nD Cert.AdamKv.τ).loc Cert.AdamKv.main_arg4))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3)
      ∧ r.2.mem ((c.tc : Thread Cert.AdamKvIdeal.nD Cert.AdamKvIdeal.τ).loc Cert.AdamKvIdeal.main_arg4) = m ((c.tc : Thread Cert.AdamKvIdeal.nD Cert.AdamKvIdeal.τ).loc Cert.AdamKvIdeal.main_arg4))
      ∧ r.2.sem = fun _ => 0)

def quiescent_AdamKvReferenceIdeal [hAdamKvReferenceIdeal : Cert.AdamKvReferenceIdeal.Facts] : Prop :=
  ∀ (m : (ℓ : Loc Cert.AdamKvReferenceIdeal.nD Cert.AdamKvReferenceIdeal.τ Cert.AdamKvReferenceIdeal.sig) → Buf (Elt Ideal) ℓ) (g : Dev Cert.AdamKvReferenceIdeal.nD → PrngReg), Pre_AdamKvReferenceIdeal m →
    θ_run (Cert.AdamKvReferenceIdeal.defs (F := Ideal)) (onTc (τ := Cert.AdamKvReferenceIdeal.τ) (Cert.AdamKvReferenceIdeal.main (F := Ideal))) ⟨m, fun _ => 0, g⟩ (fun r => (∀ c : Dev Cert.AdamKvReferenceIdeal.nD,
      r.2.mem ((c.tc : Thread Cert.AdamKvReferenceIdeal.nD Cert.AdamKvReferenceIdeal.τ).loc Cert.AdamKvReferenceIdeal.main_arg0) = m ((c.tc : Thread Cert.AdamKvReferenceIdeal.nD Cert.AdamKvReferenceIdeal.τ).loc Cert.AdamKvReferenceIdeal.main_arg0)
      ∧ r.2.mem ((c.tc : Thread Cert.AdamKvReferenceIdeal.nD Cert.AdamKvReferenceIdeal.τ).loc Cert.AdamKvReferenceIdeal.main_arg1) = m ((c.tc : Thread Cert.AdamKvReferenceIdeal.nD Cert.AdamKvReferenceIdeal.τ).loc Cert.AdamKvReferenceIdeal.main_arg1)
      ∧ r.2.mem ((c.tc : Thread Cert.AdamKvReferenceIdeal.nD Cert.AdamKvReferenceIdeal.τ).loc Cert.AdamKvReferenceIdeal.main_arg2) = m ((c.tc : Thread Cert.AdamKvReferenceIdeal.nD Cert.AdamKvReferenceIdeal.τ).loc Cert.AdamKvReferenceIdeal.main_arg2)
      ∧ r.2.mem ((c.tc : Thread Cert.AdamKvReferenceIdeal.nD Cert.AdamKvReferenceIdeal.τ).loc Cert.AdamKvReferenceIdeal.main_arg3) = m ((c.tc : Thread Cert.AdamKvReferenceIdeal.nD Cert.AdamKvReferenceIdeal.τ).loc Cert.AdamKvReferenceIdeal.main_arg3)
      ∧ r.2.mem ((c.tc : Thread Cert.AdamKvReferenceIdeal.nD Cert.AdamKvReferenceIdeal.τ).loc Cert.AdamKvReferenceIdeal.main_arg4) = m ((c.tc : Thread Cert.AdamKvReferenceIdeal.nD Cert.AdamKvReferenceIdeal.τ).loc Cert.AdamKvReferenceIdeal.main_arg4))
      ∧ r.2.sem = fun _ => 0)

def quiescent_AdamXq [hAdamXq : Cert.AdamXq.Facts] : Prop :=
  ∀ (m : (ℓ : Loc Cert.AdamXq.nD Cert.AdamXq.τ Cert.AdamXq.sig) → Buf (Elt Bits) ℓ) (g : Dev Cert.AdamXq.nD → PrngReg), Pre_AdamXq m →
    θ_run (Cert.AdamXq.defs (F := Bits)) (onTc (τ := Cert.AdamXq.τ) (Cert.AdamXq.main (F := Bits))) ⟨m, fun _ => 0, g⟩ (fun r => (∀ c : Dev Cert.AdamXq.nD,
      r.2.mem ((c.tc : Thread Cert.AdamXq.nD Cert.AdamXq.τ).loc Cert.AdamXq.main_arg0) = m ((c.tc : Thread Cert.AdamXq.nD Cert.AdamXq.τ).loc Cert.AdamXq.main_arg0)
      ∧ r.2.mem ((c.tc : Thread Cert.AdamXq.nD Cert.AdamXq.τ).loc Cert.AdamXq.main_arg1) = m ((c.tc : Thread Cert.AdamXq.nD Cert.AdamXq.τ).loc Cert.AdamXq.main_arg1)
      ∧ r.2.mem ((c.tc : Thread Cert.AdamXq.nD Cert.AdamXq.τ).loc Cert.AdamXq.main_arg2) = m ((c.tc : Thread Cert.AdamXq.nD Cert.AdamXq.τ).loc Cert.AdamXq.main_arg2)
      ∧ r.2.mem ((c.tc : Thread Cert.AdamXq.nD Cert.AdamXq.τ).loc Cert.AdamXq.main_arg3) = m ((c.tc : Thread Cert.AdamXq.nD Cert.AdamXq.τ).loc Cert.AdamXq.main_arg3)
      ∧ r.2.mem ((c.tc : Thread Cert.AdamXq.nD Cert.AdamXq.τ).loc Cert.AdamXq.main_arg4) = m ((c.tc : Thread Cert.AdamXq.nD Cert.AdamXq.τ).loc Cert.AdamXq.main_arg4))
      ∧ r.2.sem = fun _ => 0)

def quiescent_AdamXqIdeal [hAdamXqIdeal : Cert.AdamXqIdeal.Facts] : Prop :=
  ∀ (m : (ℓ : Loc Cert.AdamXqIdeal.nD Cert.AdamXqIdeal.τ Cert.AdamXqIdeal.sig) → Buf (Elt Ideal) ℓ) (g : Dev Cert.AdamXqIdeal.nD → PrngReg), Pre_AdamXqIdeal m →
    θ_run (Cert.AdamXqIdeal.defs (F := Ideal)) (onTc (τ := Cert.AdamXqIdeal.τ) (Cert.AdamXqIdeal.main (F := Ideal))) ⟨m, fun _ => 0, g⟩ (fun r => (∀ c : Dev Cert.AdamXqIdeal.nD,
      r.2.mem ((c.tc : Thread Cert.AdamXqIdeal.nD Cert.AdamXqIdeal.τ).loc Cert.AdamXqIdeal.main_arg0) = m ((c.tc : Thread Cert.AdamXqIdeal.nD Cert.AdamXqIdeal.τ).loc Cert.AdamXqIdeal.main_arg0)
      ∧ r.2.mem ((c.tc : Thread Cert.AdamXqIdeal.nD Cert.AdamXqIdeal.τ).loc Cert.AdamXqIdeal.main_arg1) = m ((c.tc : Thread Cert.AdamXqIdeal.nD Cert.AdamXqIdeal.τ).loc Cert.AdamXqIdeal.main_arg1)
      ∧ r.2.mem ((c.tc : Thread Cert.AdamXqIdeal.nD Cert.AdamXqIdeal.τ).loc Cert.AdamXqIdeal.main_arg2) = m ((c.tc : Thread Cert.AdamXqIdeal.nD Cert.AdamXqIdeal.τ).loc Cert.AdamXqIdeal.main_arg2)
      ∧ r.2.mem ((c.tc : Thread Cert.AdamXqIdeal.nD Cert.AdamXqIdeal.τ).loc Cert.AdamXqIdeal.main_arg3) = m ((c.tc : Thread Cert.AdamXqIdeal.nD Cert.AdamXqIdeal.τ).loc Cert.AdamXqIdeal.main_arg3)
      ∧ r.2.mem ((c.tc : Thread Cert.AdamXqIdeal.nD Cert.AdamXqIdeal.τ).loc Cert.AdamXqIdeal.main_arg4) = m ((c.tc : Thread Cert.AdamXqIdeal.nD Cert.AdamXqIdeal.τ).loc Cert.AdamXqIdeal.main_arg4))
      ∧ r.2.sem = fun _ => 0)

def quiescent_AdamXqReferenceIdeal [hAdamXqReferenceIdeal : Cert.AdamXqReferenceIdeal.Facts] : Prop :=
  ∀ (m : (ℓ : Loc Cert.AdamXqReferenceIdeal.nD Cert.AdamXqReferenceIdeal.τ Cert.AdamXqReferenceIdeal.sig) → Buf (Elt Ideal) ℓ) (g : Dev Cert.AdamXqReferenceIdeal.nD → PrngReg), Pre_AdamXqReferenceIdeal m →
    θ_run (Cert.AdamXqReferenceIdeal.defs (F := Ideal)) (onTc (τ := Cert.AdamXqReferenceIdeal.τ) (Cert.AdamXqReferenceIdeal.main (F := Ideal))) ⟨m, fun _ => 0, g⟩ (fun r => (∀ c : Dev Cert.AdamXqReferenceIdeal.nD,
      r.2.mem ((c.tc : Thread Cert.AdamXqReferenceIdeal.nD Cert.AdamXqReferenceIdeal.τ).loc Cert.AdamXqReferenceIdeal.main_arg0) = m ((c.tc : Thread Cert.AdamXqReferenceIdeal.nD Cert.AdamXqReferenceIdeal.τ).loc Cert.AdamXqReferenceIdeal.main_arg0)
      ∧ r.2.mem ((c.tc : Thread Cert.AdamXqReferenceIdeal.nD Cert.AdamXqReferenceIdeal.τ).loc Cert.AdamXqReferenceIdeal.main_arg1) = m ((c.tc : Thread Cert.AdamXqReferenceIdeal.nD Cert.AdamXqReferenceIdeal.τ).loc Cert.AdamXqReferenceIdeal.main_arg1)
      ∧ r.2.mem ((c.tc : Thread Cert.AdamXqReferenceIdeal.nD Cert.AdamXqReferenceIdeal.τ).loc Cert.AdamXqReferenceIdeal.main_arg2) = m ((c.tc : Thread Cert.AdamXqReferenceIdeal.nD Cert.AdamXqReferenceIdeal.τ).loc Cert.AdamXqReferenceIdeal.main_arg2)
      ∧ r.2.mem ((c.tc : Thread Cert.AdamXqReferenceIdeal.nD Cert.AdamXqReferenceIdeal.τ).loc Cert.AdamXqReferenceIdeal.main_arg3) = m ((c.tc : Thread Cert.AdamXqReferenceIdeal.nD Cert.AdamXqReferenceIdeal.τ).loc Cert.AdamXqReferenceIdeal.main_arg3)
      ∧ r.2.mem ((c.tc : Thread Cert.AdamXqReferenceIdeal.nD Cert.AdamXqReferenceIdeal.τ).loc Cert.AdamXqReferenceIdeal.main_arg4) = m ((c.tc : Thread Cert.AdamXqReferenceIdeal.nD Cert.AdamXqReferenceIdeal.τ).loc Cert.AdamXqReferenceIdeal.main_arg4))
      ∧ r.2.sem = fun _ => 0)

def preserves_Kernel_KernelIdeal : Prop :=
  IdealRules.named_const.Statement Cert.KernelIdeal.κ "cubic" .f32 0x3D372713#32 ((8943 / 200000 : ℝ) : EReal)
  ∧ IdealRules.named_const.Statement Cert.KernelIdeal.κ "cubic3" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_v168) = v2 c
          ∧ r.2.mem ((c.tc : Thread Cert.ReferenceIdeal.nD Cert.ReferenceIdeal.τ).loc Cert.ReferenceIdeal.main_v169) = v3 c
          ∧ r.2.mem ((c.tc : Thread Cert.ReferenceIdeal.nD Cert.ReferenceIdeal.τ).loc Cert.ReferenceIdeal.main_v170) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Dh_DhIdeal : Prop :=
  True

def algebraic_DhIdeal_DhReferenceIdeal [hDhIdeal : Cert.DhIdeal.Facts] [hDhReferenceIdeal : Cert.DhReferenceIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhReferenceIdeal.nD Cert.DhReferenceIdeal.τ Cert.DhReferenceIdeal.sig) → Buf (Elt Ideal) ℓ) (g' : Dev Cert.DhReferenceIdeal.nD → PrngReg), Pre_DhIdeal m →
    (∀ c : Dev Cert.DhIdeal.nD,
      m' ((c.tc : Thread Cert.DhReferenceIdeal.nD Cert.DhReferenceIdeal.τ).loc Cert.DhReferenceIdeal.main_arg0) = m ((c.tc : Thread Cert.DhIdeal.nD Cert.DhIdeal.τ).loc Cert.DhIdeal.main_arg0)
      ∧ m' ((c.tc : Thread Cert.DhReferenceIdeal.nD Cert.DhReferenceIdeal.τ).loc Cert.DhReferenceIdeal.main_arg1) = m ((c.tc : Thread Cert.DhIdeal.nD Cert.DhIdeal.τ).loc Cert.DhIdeal.main_arg1)
      ∧ m' ((c.tc : Thread Cert.DhReferenceIdeal.nD Cert.DhReferenceIdeal.τ).loc Cert.DhReferenceIdeal.main_arg2) = m ((c.tc : Thread Cert.DhIdeal.nD Cert.DhIdeal.τ).loc Cert.DhIdeal.main_arg2)) →
    ∃ (v0 : (c : Dev Cert.DhIdeal.nD) → Buf (Elt Ideal) ((c.tc : Thread Cert.DhIdeal.nD Cert.DhIdeal.τ).loc Cert.DhIdeal.main_v0)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2))
      ∧ θ_run (Cert.DhReferenceIdeal.defs (F := Ideal)) (onTc (τ := Cert.DhReferenceIdeal.τ) (Cert.DhReferenceIdeal.main (F := Ideal))) ⟨m', fun _ => 0, g'⟩ (fun r => ∀ c : Dev Cert.DhReferenceIdeal.nD,
          r.2.mem ((c.tc : Thread Cert.DhReferenceIdeal.nD Cert.DhReferenceIdeal.τ).loc Cert.DhReferenceIdeal.main_v15) = v0 c
          ∧ r.2.mem ((c.tc : Thread Cert.DhReferenceIdeal.nD Cert.DhReferenceIdeal.τ).loc Cert.DhReferenceIdeal.main_arg0) = m' ((c.tc : Thread Cert.DhReferenceIdeal.nD Cert.DhReferenceIdeal.τ).loc Cert.DhReferenceIdeal.main_arg0)
          ∧ r.2.mem ((c.tc : Thread Cert.DhReferenceIdeal.nD Cert.DhReferenceIdeal.τ).loc Cert.DhReferenceIdeal.main_arg1) = m' ((c.tc : Thread Cert.DhReferenceIdeal.nD Cert.DhReferenceIdeal.τ).loc Cert.DhReferenceIdeal.main_arg1)
          ∧ r.2.mem ((c.tc : Thread Cert.DhReferenceIdeal.nD Cert.DhReferenceIdeal.τ).loc Cert.DhReferenceIdeal.main_arg2) = m' ((c.tc : Thread Cert.DhReferenceIdeal.nD Cert.DhReferenceIdeal.τ).loc Cert.DhReferenceIdeal.main_arg2))

def preserves_Dx2_Dx2Ideal : Prop :=
  True

def algebraic_Dx2Ideal_Dx2ReferenceIdeal [hDx2Ideal : Cert.Dx2Ideal.Facts] [hDx2ReferenceIdeal : Cert.Dx2ReferenceIdeal.Facts] : Prop :=
  ∀ (m : (ℓ : Loc Cert.Dx2Ideal.nD Cert.Dx2Ideal.τ Cert.Dx2Ideal.sig) → Buf (Elt Ideal) ℓ) (g : Dev Cert.Dx2Ideal.nD → PrngReg)
    (m' : (ℓ : Loc Cert.Dx2ReferenceIdeal.nD Cert.Dx2ReferenceIdeal.τ Cert.Dx2ReferenceIdeal.sig) → Buf (Elt Ideal) ℓ) (g' : Dev Cert.Dx2ReferenceIdeal.nD → PrngReg), Pre_Dx2Ideal m →
    (∀ c : Dev Cert.Dx2Ideal.nD,
      m' ((c.tc : Thread Cert.Dx2ReferenceIdeal.nD Cert.Dx2ReferenceIdeal.τ).loc Cert.Dx2ReferenceIdeal.main_arg0) = m ((c.tc : Thread Cert.Dx2Ideal.nD Cert.Dx2Ideal.τ).loc Cert.Dx2Ideal.main_arg0)
      ∧ m' ((c.tc : Thread Cert.Dx2ReferenceIdeal.nD Cert.Dx2ReferenceIdeal.τ).loc Cert.Dx2ReferenceIdeal.main_arg1) = m ((c.tc : Thread Cert.Dx2Ideal.nD Cert.Dx2Ideal.τ).loc Cert.Dx2Ideal.main_arg1)
      ∧ m' ((c.tc : Thread Cert.Dx2ReferenceIdeal.nD Cert.Dx2ReferenceIdeal.τ).loc Cert.Dx2ReferenceIdeal.main_arg2) = m ((c.tc : Thread Cert.Dx2Ideal.nD Cert.Dx2Ideal.τ).loc Cert.Dx2Ideal.main_arg2)) →
    ∃ (v0 : (c : Dev Cert.Dx2Ideal.nD) → Buf (Elt Ideal) ((c.tc : Thread Cert.Dx2Ideal.nD Cert.Dx2Ideal.τ).loc Cert.Dx2Ideal.main_v0)),
      θ_run (Cert.Dx2Ideal.defs (F := Ideal)) (onTc (τ := Cert.Dx2Ideal.τ) (Cert.Dx2Ideal.main (F := Ideal))) ⟨m, fun _ => 0, g⟩ (fun r => ∀ c : Dev Cert.Dx2Ideal.nD,
          r.2.mem ((c.tc : Thread Cert.Dx2Ideal.nD Cert.Dx2Ideal.τ).loc Cert.Dx2Ideal.main_v0) = v0 c
          ∧ r.2.mem ((c.tc : Thread Cert.Dx2Ideal.nD Cert.Dx2Ideal.τ).loc Cert.Dx2Ideal.main_arg0) = m ((c.tc : Thread Cert.Dx2Ideal.nD Cert.Dx2Ideal.τ).loc Cert.Dx2Ideal.main_arg0)
          ∧ r.2.mem ((c.tc : Thread Cert.Dx2Ideal.nD Cert.Dx2Ideal.τ).loc Cert.Dx2Ideal.main_arg1) = m ((c.tc : Thread Cert.Dx2Ideal.nD Cert.Dx2Ideal.τ).loc Cert.Dx2Ideal.main_arg1)
          ∧ r.2.mem ((c.tc : Thread Cert.Dx2Ideal.nD Cert.Dx2Ideal.τ).loc Cert.Dx2Ideal.main_arg2) = m ((c.tc : Thread Cert.Dx2Ideal.nD Cert.Dx2Ideal.τ).loc Cert.Dx2Ideal.main_arg2))
      ∧ θ_run (Cert.Dx2ReferenceIdeal.defs (F := Ideal)) (onTc (τ := Cert.Dx2ReferenceIdeal.τ) (Cert.Dx2ReferenceIdeal.main (F := Ideal))) ⟨m', fun _ => 0, g'⟩ (fun r => ∀ c : Dev Cert.Dx2ReferenceIdeal.nD,
          r.2.mem ((c.tc : Thread Cert.Dx2ReferenceIdeal.nD Cert.Dx2ReferenceIdeal.τ).loc Cert.Dx2ReferenceIdeal.main_v9) = v0 c
          ∧ r.2.mem ((c.tc : Thread Cert.Dx2ReferenceIdeal.nD Cert.Dx2ReferenceIdeal.τ).loc Cert.Dx2ReferenceIdeal.main_arg0) = m' ((c.tc : Thread Cert.Dx2ReferenceIdeal.nD Cert.Dx2ReferenceIdeal.τ).loc Cert.Dx2ReferenceIdeal.main_arg0)
          ∧ r.2.mem ((c.tc : Thread Cert.Dx2ReferenceIdeal.nD Cert.Dx2ReferenceIdeal.τ).loc Cert.Dx2ReferenceIdeal.main_arg1) = m' ((c.tc : Thread Cert.Dx2ReferenceIdeal.nD Cert.Dx2ReferenceIdeal.τ).loc Cert.Dx2ReferenceIdeal.main_arg1)
          ∧ r.2.mem ((c.tc : Thread Cert.Dx2ReferenceIdeal.nD Cert.Dx2ReferenceIdeal.τ).loc Cert.Dx2ReferenceIdeal.main_arg2) = m' ((c.tc : Thread Cert.Dx2ReferenceIdeal.nD Cert.Dx2ReferenceIdeal.τ).loc Cert.Dx2ReferenceIdeal.main_arg2))

def preserves_Dx_DxIdeal : Prop :=
  True

def algebraic_DxIdeal_DxReferenceIdeal [hDxIdeal : Cert.DxIdeal.Facts] [hDxReferenceIdeal : Cert.DxReferenceIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxIdeal m →
    (∀ c : Dev Cert.DxIdeal.nD,
      m' ((c.tc : Thread Cert.DxReferenceIdeal.nD Cert.DxReferenceIdeal.τ).loc Cert.DxReferenceIdeal.main_arg0) = m ((c.tc : Thread Cert.DxIdeal.nD Cert.DxIdeal.τ).loc Cert.DxIdeal.main_arg0)
      ∧ m' ((c.tc : Thread Cert.DxReferenceIdeal.nD Cert.DxReferenceIdeal.τ).loc Cert.DxReferenceIdeal.main_arg1) = m ((c.tc : Thread Cert.DxIdeal.nD Cert.DxIdeal.τ).loc Cert.DxIdeal.main_arg1)
      ∧ m' ((c.tc : Thread Cert.DxReferenceIdeal.nD Cert.DxReferenceIdeal.τ).loc Cert.DxReferenceIdeal.main_arg2) = m ((c.tc : Thread Cert.DxIdeal.nD Cert.DxIdeal.τ).loc Cert.DxIdeal.main_arg2)
      ∧ m' ((c.tc : Thread Cert.DxReferenceIdeal.nD Cert.DxReferenceIdeal.τ).loc Cert.DxReferenceIdeal.main_arg3) = m ((c.tc : Thread Cert.DxIdeal.nD Cert.DxIdeal.τ).loc Cert.DxIdeal.main_arg3)
      ∧ m' ((c.tc : Thread Cert.DxReferenceIdeal.nD Cert.DxReferenceIdeal.τ).loc Cert.DxReferenceIdeal.main_arg4) = m ((c.tc : Thread Cert.DxIdeal.nD Cert.DxIdeal.τ).loc Cert.DxIdeal.main_arg4)) →
    ∃ (v0 : (c : Dev Cert.DxIdeal.nD) → Buf (Elt Ideal) ((c.tc : Thread Cert.DxIdeal.nD Cert.DxIdeal.τ).loc Cert.DxIdeal.main_v0)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v0) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v21) = v0 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1)
          ∧ r.2.mem ((c.tc : Thread Cert.DxReferenceIdeal.nD Cert.DxReferenceIdeal.τ).loc Cert.DxReferenceIdeal.main_arg2) = m' ((c.tc : Thread Cert.DxReferenceIdeal.nD Cert.DxReferenceIdeal.τ).loc Cert.DxReferenceIdeal.main_arg2)
          ∧ r.2.mem ((c.tc : Thread Cert.DxReferenceIdeal.nD Cert.DxReferenceIdeal.τ).loc Cert.DxReferenceIdeal.main_arg3) = m' ((c.tc : Thread Cert.DxReferenceIdeal.nD Cert.DxReferenceIdeal.τ).loc Cert.DxReferenceIdeal.main_arg3)
          ∧ r.2.mem ((c.tc : Thread Cert.DxReferenceIdeal.nD Cert.DxReferenceIdeal.τ).loc Cert.DxReferenceIdeal.main_arg4) = m' ((c.tc : Thread Cert.DxReferenceIdeal.nD Cert.DxReferenceIdeal.τ).loc Cert.DxReferenceIdeal.main_arg4))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v3) = v0 c
          ∧ r.2.mem ((c.tc : Thread Cert.UpReferenceIdeal.nD Cert.UpReferenceIdeal.τ).loc Cert.UpReferenceIdeal.main_v6) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v5) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v2) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_DwDownS_DwDownSIdeal : Prop :=
  True

def algebraic_DwDownSIdeal_DwDownSReferenceIdeal [hDwDownSIdeal : Cert.DwDownSIdeal.Facts] [hDwDownSReferenceIdeal : Cert.DwDownSReferenceIdeal.Facts] : Prop :=
  ∀ (m : (ℓ : Loc Cert.DwDownSIdeal.nD Cert.DwDownSIdeal.τ Cert.DwDownSIdeal.sig) → Buf (Elt Ideal) ℓ) (g : Dev Cert.DwDownSIdeal.nD → PrngReg)
    (m' : (ℓ : Loc Cert.DwDownSReferenceIdeal.nD Cert.DwDownSReferenceIdeal.τ Cert.DwDownSReferenceIdeal.sig) → Buf (Elt Ideal) ℓ) (g' : Dev Cert.DwDownSReferenceIdeal.nD → PrngReg), Pre_DwDownSIdeal m →
    (∀ c : Dev Cert.DwDownSIdeal.nD,
      m' ((c.tc : Thread Cert.DwDownSReferenceIdeal.nD Cert.DwDownSReferenceIdeal.τ).loc Cert.DwDownSReferenceIdeal.main_arg0) = m ((c.tc : Thread Cert.DwDownSIdeal.nD Cert.DwDownSIdeal.τ).loc Cert.DwDownSIdeal.main_arg0)
      ∧ m' ((c.tc : Thread Cert.DwDownSReferenceIdeal.nD Cert.DwDownSReferenceIdeal.τ).loc Cert.DwDownSReferenceIdeal.main_arg1) = m ((c.tc : Thread Cert.DwDownSIdeal.nD Cert.DwDownSIdeal.τ).loc Cert.DwDownSIdeal.main_arg1)) →
    ∃ (v0 : (c : Dev Cert.DwDownSIdeal.nD) → Buf (Elt Ideal) ((c.tc : Thread Cert.DwDownSIdeal.nD Cert.DwDownSIdeal.τ).loc Cert.DwDownSIdeal.main_v3)),
      θ_run (Cert.DwDownSIdeal.defs (F := Ideal)) (onTc (τ := Cert.DwDownSIdeal.τ) (Cert.DwDownSIdeal.main (F := Ideal))) ⟨m, fun _ => 0, g⟩ (fun r => ∀ c : Dev Cert.DwDownSIdeal.nD,
          r.2.mem ((c.tc : Thread Cert.DwDownSIdeal.nD Cert.DwDownSIdeal.τ).loc Cert.DwDownSIdeal.main_v3) = v0 c
          ∧ r.2.mem ((c.tc : Thread Cert.DwDownSIdeal.nD Cert.DwDownSIdeal.τ).loc Cert.DwDownSIdeal.main_arg0) = m ((c.tc : Thread Cert.DwDownSIdeal.nD Cert.DwDownSIdeal.τ).loc Cert.DwDownSIdeal.main_arg0)
          ∧ r.2.mem ((c.tc : Thread Cert.DwDownSIdeal.nD Cert.DwDownSIdeal.τ).loc Cert.DwDownSIdeal.main_arg1) = m ((c.tc : Thread Cert.DwDownSIdeal.nD Cert.DwDownSIdeal.τ).loc Cert.DwDownSIdeal.main_arg1))
      ∧ θ_run (Cert.DwDownSReferenceIdeal.defs (F := Ideal)) (onTc (τ := Cert.DwDownSReferenceIdeal.τ) (Cert.DwDownSReferenceIdeal.main (F := Ideal))) ⟨m', fun _ => 0, g'⟩ (fun r => ∀ c : Dev Cert.DwDownSReferenceIdeal.nD,
          r.2.mem ((c.tc : Thread Cert.DwDownSReferenceIdeal.nD Cert.DwDownSReferenceIdeal.τ).loc Cert.DwDownSReferenceIdeal.main_v7) = v0 c
          ∧ r.2.mem ((c.tc : Thread Cert.DwDownSReferenceIdeal.nD Cert.DwDownSReferenceIdeal.τ).loc Cert.DwDownSReferenceIdeal.main_arg0) = m' ((c.tc : Thread Cert.DwDownSReferenceIdeal.nD Cert.DwDownSReferenceIdeal.τ).loc Cert.DwDownSReferenceIdeal.main_arg0)
          ∧ r.2.mem ((c.tc : Thread Cert.DwDownSReferenceIdeal.nD Cert.DwDownSReferenceIdeal.τ).loc Cert.DwDownSReferenceIdeal.main_arg1) = m' ((c.tc : Thread Cert.DwDownSReferenceIdeal.nD Cert.DwDownSReferenceIdeal.τ).loc Cert.DwDownSReferenceIdeal.main_arg1))

def preserves_DwDownO_DwDownOIdeal : Prop :=
  True

def algebraic_DwDownOIdeal_DwDownOReferenceIdeal [hDwDownOIdeal : Cert.DwDownOIdeal.Facts] [hDwDownOReferenceIdeal : Cert.DwDownOReferenceIdeal.Facts] : Prop :=
  ∀ (m : (ℓ : Loc Cert.DwDownOIdeal.nD Cert.DwDownOIdeal.τ Cert.DwDownOIdeal.sig) → Buf (Elt Ideal) ℓ) (g : Dev Cert.DwDownOIdeal.nD → PrngReg)
    (m' : (ℓ : Loc Cert.DwDownOReferenceIdeal.nD Cert.DwDownOReferenceIdeal.τ Cert.DwDownOReferenceIdeal.sig) → Buf (Elt Ideal) ℓ) (g' : Dev Cert.DwDownOReferenceIdeal.nD → PrngReg), Pre_DwDownOIdeal m →
    (∀ c : Dev Cert.DwDownOIdeal.nD,
      m' ((c.tc : Thread Cert.DwDownOReferenceIdeal.nD Cert.DwDownOReferenceIdeal.τ).loc Cert.DwDownOReferenceIdeal.main_arg0) = m ((c.tc : Thread Cert.DwDownOIdeal.nD Cert.DwDownOIdeal.τ).loc Cert.DwDownOIdeal.main_arg0)
      ∧ m' ((c.tc : Thread Cert.DwDownOReferenceIdeal.nD Cert.DwDownOReferenceIdeal.τ).loc Cert.DwDownOReferenceIdeal.main_arg1) = m ((c.tc : Thread Cert.DwDownOIdeal.nD Cert.DwDownOIdeal.τ).loc Cert.DwDownOIdeal.main_arg1)
      ∧ m' ((c.tc : Thread Cert.DwDownOReferenceIdeal.nD Cert.DwDownOReferenceIdeal.τ).loc Cert.DwDownOReferenceIdeal.main_arg2) = m ((c.tc : Thread Cert.DwDownOIdeal.nD Cert.DwDownOIdeal.τ).loc Cert.DwDownOIdeal.main_arg2)) →
    ∃ (v0 : (c : Dev Cert.DwDownOIdeal.nD) → Buf (Elt Ideal) ((c.tc : Thread Cert.DwDownOIdeal.nD Cert.DwDownOIdeal.τ).loc Cert.DwDownOIdeal.main_v1)),
      θ_run (Cert.DwDownOIdeal.defs (F := Ideal)) (onTc (τ := Cert.DwDownOIdeal.τ) (Cert.DwDownOIdeal.main (F := Ideal))) ⟨m, fun _ => 0, g⟩ (fun r => ∀ c : Dev Cert.DwDownOIdeal.nD,
          r.2.mem ((c.tc : Thread Cert.DwDownOIdeal.nD Cert.DwDownOIdeal.τ).loc Cert.DwDownOIdeal.main_v1) = v0 c
          ∧ r.2.mem ((c.tc : Thread Cert.DwDownOIdeal.nD Cert.DwDownOIdeal.τ).loc Cert.DwDownOIdeal.main_arg0) = m ((c.tc : Thread Cert.DwDownOIdeal.nD Cert.DwDownOIdeal.τ).loc Cert.DwDownOIdeal.main_arg0)
          ∧ r.2.mem ((c.tc : Thread Cert.DwDownOIdeal.nD Cert.DwDownOIdeal.τ).loc Cert.DwDownOIdeal.main_arg1) = m ((c.tc : Thread Cert.DwDownOIdeal.nD Cert.DwDownOIdeal.τ).loc Cert.DwDownOIdeal.main_arg1)
          ∧ r.2.mem ((c.tc : Thread Cert.DwDownOIdeal.nD Cert.DwDownOIdeal.τ).loc Cert.DwDownOIdeal.main_arg2) = m ((c.tc : Thread Cert.DwDownOIdeal.nD Cert.DwDownOIdeal.τ).loc Cert.DwDownOIdeal.main_arg2))
      ∧ θ_run (Cert.DwDownOReferenceIdeal.defs (F := Ideal)) (onTc (τ := Cert.DwDownOReferenceIdeal.τ) (Cert.DwDownOReferenceIdeal.main (F := Ideal))) ⟨m', fun _ => 0, g'⟩ (fun r => ∀ c : Dev Cert.DwDownOReferenceIdeal.nD,
          r.2.mem ((c.tc : Thread Cert.DwDownOReferenceIdeal.nD Cert.DwDownOReferenceIdeal.τ).loc Cert.DwDownOReferenceIdeal.main_v9) = v0 c
          ∧ r.2.mem ((c.tc : Thread Cert.DwDownOReferenceIdeal.nD Cert.DwDownOReferenceIdeal.τ).loc Cert.DwDownOReferenceIdeal.main_arg0) = m' ((c.tc : Thread Cert.DwDownOReferenceIdeal.nD Cert.DwDownOReferenceIdeal.τ).loc Cert.DwDownOReferenceIdeal.main_arg0)
          ∧ r.2.mem ((c.tc : Thread Cert.DwDownOReferenceIdeal.nD Cert.DwDownOReferenceIdeal.τ).loc Cert.DwDownOReferenceIdeal.main_arg1) = m' ((c.tc : Thread Cert.DwDownOReferenceIdeal.nD Cert.DwDownOReferenceIdeal.τ).loc Cert.DwDownOReferenceIdeal.main_arg1)
          ∧ r.2.mem ((c.tc : Thread Cert.DwDownOReferenceIdeal.nD Cert.DwDownOReferenceIdeal.τ).loc Cert.DwDownOReferenceIdeal.main_arg2) = m' ((c.tc : Thread Cert.DwDownOReferenceIdeal.nD Cert.DwDownOReferenceIdeal.τ).loc Cert.DwDownOReferenceIdeal.main_arg2))

def preserves_DwUpS_DwUpSIdeal : Prop :=
  True

def algebraic_DwUpSIdeal_DwUpSReferenceIdeal [hDwUpSIdeal : Cert.DwUpSIdeal.Facts] [hDwUpSReferenceIdeal : Cert.DwUpSReferenceIdeal.Facts] : Prop :=
  ∀ (m : (ℓ : Loc Cert.DwUpSIdeal.nD Cert.DwUpSIdeal.τ Cert.DwUpSIdeal.sig) → Buf (Elt Ideal) ℓ) (g : Dev Cert.DwUpSIdeal.nD → PrngReg)
    (m' : (ℓ : Loc Cert.DwUpSReferenceIdeal.nD Cert.DwUpSReferenceIdeal.τ Cert.DwUpSReferenceIdeal.sig) → Buf (Elt Ideal) ℓ) (g' : Dev Cert.DwUpSReferenceIdeal.nD → PrngReg), Pre_DwUpSIdeal m →
    (∀ c : Dev Cert.DwUpSIdeal.nD,
      m' ((c.tc : Thread Cert.DwUpSReferenceIdeal.nD Cert.DwUpSReferenceIdeal.τ).loc Cert.DwUpSReferenceIdeal.main_arg0) = m ((c.tc : Thread Cert.DwUpSIdeal.nD Cert.DwUpSIdeal.τ).loc Cert.DwUpSIdeal.main_arg0)
      ∧ m' ((c.tc : Thread Cert.DwUpSReferenceIdeal.nD Cert.DwUpSReferenceIdeal.τ).loc Cert.DwUpSReferenceIdeal.main_arg1) = m ((c.tc : Thread Cert.DwUpSIdeal.nD Cert.DwUpSIdeal.τ).loc Cert.DwUpSIdeal.main_arg1)) →
    ∃ (v0 : (c : Dev Cert.DwUpSIdeal.nD) → Buf (Elt Ideal) ((c.tc : Thread Cert.DwUpSIdeal.nD Cert.DwUpSIdeal.τ).loc Cert.DwUpSIdeal.main_v3)),
      θ_run (Cert.DwUpSIdeal.defs (F := Ideal)) (onTc (τ := Cert.DwUpSIdeal.τ) (Cert.DwUpSIdeal.main (F := Ideal))) ⟨m, fun _ => 0, g⟩ (fun r => ∀ c : Dev Cert.DwUpSIdeal.nD,
          r.2.mem ((c.tc : Thread Cert.DwUpSIdeal.nD Cert.DwUpSIdeal.τ).loc Cert.DwUpSIdeal.main_v3) = v0 c
          ∧ r.2.mem ((c.tc : Thread Cert.DwUpSIdeal.nD Cert.DwUpSIdeal.τ).loc Cert.DwUpSIdeal.main_arg0) = m ((c.tc : Thread Cert.DwUpSIdeal.nD Cert.DwUpSIdeal.τ).loc Cert.DwUpSIdeal.main_arg0)
          ∧ r.2.mem ((c.tc : Thread Cert.DwUpSIdeal.nD Cert.DwUpSIdeal.τ).loc Cert.DwUpSIdeal.main_arg1) = m ((c.tc : Thread Cert.DwUpSIdeal.nD Cert.DwUpSIdeal.τ).loc Cert.DwUpSIdeal.main_arg1))
      ∧ θ_run (Cert.DwUpSReferenceIdeal.defs (F := Ideal)) (onTc (τ := Cert.DwUpSReferenceIdeal.τ) (Cert.DwUpSReferenceIdeal.main (F := Ideal))) ⟨m', fun _ => 0, g'⟩ (fun r => ∀ c : Dev Cert.DwUpSReferenceIdeal.nD,
          r.2.mem ((c.tc : Thread Cert.DwUpSReferenceIdeal.nD Cert.DwUpSReferenceIdeal.τ).loc Cert.DwUpSReferenceIdeal.main_v7) = v0 c
          ∧ r.2.mem ((c.tc : Thread Cert.DwUpSReferenceIdeal.nD Cert.DwUpSReferenceIdeal.τ).loc Cert.DwUpSReferenceIdeal.main_arg0) = m' ((c.tc : Thread Cert.DwUpSReferenceIdeal.nD Cert.DwUpSReferenceIdeal.τ).loc Cert.DwUpSReferenceIdeal.main_arg0)
          ∧ r.2.mem ((c.tc : Thread Cert.DwUpSReferenceIdeal.nD Cert.DwUpSReferenceIdeal.τ).loc Cert.DwUpSReferenceIdeal.main_arg1) = m' ((c.tc : Thread Cert.DwUpSReferenceIdeal.nD Cert.DwUpSReferenceIdeal.τ).loc Cert.DwUpSReferenceIdeal.main_arg1))

def preserves_DwUpO_DwUpOIdeal : Prop :=
  True

def algebraic_DwUpOIdeal_DwUpOReferenceIdeal [hDwUpOIdeal : Cert.DwUpOIdeal.Facts] [hDwUpOReferenceIdeal : Cert.DwUpOReferenceIdeal.Facts] : Prop :=
  ∀ (m : (ℓ : Loc Cert.DwUpOIdeal.nD Cert.DwUpOIdeal.τ Cert.DwUpOIdeal.sig) → Buf (Elt Ideal) ℓ) (g : Dev Cert.DwUpOIdeal.nD → PrngReg)
    (m' : (ℓ : Loc Cert.DwUpOReferenceIdeal.nD Cert.DwUpOReferenceIdeal.τ Cert.DwUpOReferenceIdeal.sig) → Buf (Elt Ideal) ℓ) (g' : Dev Cert.DwUpOReferenceIdeal.nD → PrngReg), Pre_DwUpOIdeal m →
    (∀ c : Dev Cert.DwUpOIdeal.nD,
      m' ((c.tc : Thread Cert.DwUpOReferenceIdeal.nD Cert.DwUpOReferenceIdeal.τ).loc Cert.DwUpOReferenceIdeal.main_arg0) = m ((c.tc : Thread Cert.DwUpOIdeal.nD Cert.DwUpOIdeal.τ).loc Cert.DwUpOIdeal.main_arg0)
      ∧ m' ((c.tc : Thread Cert.DwUpOReferenceIdeal.nD Cert.DwUpOReferenceIdeal.τ).loc Cert.DwUpOReferenceIdeal.main_arg1) = m ((c.tc : Thread Cert.DwUpOIdeal.nD Cert.DwUpOIdeal.τ).loc Cert.DwUpOIdeal.main_arg1)
      ∧ m' ((c.tc : Thread Cert.DwUpOReferenceIdeal.nD Cert.DwUpOReferenceIdeal.τ).loc Cert.DwUpOReferenceIdeal.main_arg2) = m ((c.tc : Thread Cert.DwUpOIdeal.nD Cert.DwUpOIdeal.τ).loc Cert.DwUpOIdeal.main_arg2)) →
    ∃ (v0 : (c : Dev Cert.DwUpOIdeal.nD) → Buf (Elt Ideal) ((c.tc : Thread Cert.DwUpOIdeal.nD Cert.DwUpOIdeal.τ).loc Cert.DwUpOIdeal.main_v1)),
      θ_run (Cert.DwUpOIdeal.defs (F := Ideal)) (onTc (τ := Cert.DwUpOIdeal.τ) (Cert.DwUpOIdeal.main (F := Ideal))) ⟨m, fun _ => 0, g⟩ (fun r => ∀ c : Dev Cert.DwUpOIdeal.nD,
          r.2.mem ((c.tc : Thread Cert.DwUpOIdeal.nD Cert.DwUpOIdeal.τ).loc Cert.DwUpOIdeal.main_v1) = v0 c
          ∧ r.2.mem ((c.tc : Thread Cert.DwUpOIdeal.nD Cert.DwUpOIdeal.τ).loc Cert.DwUpOIdeal.main_arg0) = m ((c.tc : Thread Cert.DwUpOIdeal.nD Cert.DwUpOIdeal.τ).loc Cert.DwUpOIdeal.main_arg0)
          ∧ r.2.mem ((c.tc : Thread Cert.DwUpOIdeal.nD Cert.DwUpOIdeal.τ).loc Cert.DwUpOIdeal.main_arg1) = m ((c.tc : Thread Cert.DwUpOIdeal.nD Cert.DwUpOIdeal.τ).loc Cert.DwUpOIdeal.main_arg1)
          ∧ r.2.mem ((c.tc : Thread Cert.DwUpOIdeal.nD Cert.DwUpOIdeal.τ).loc Cert.DwUpOIdeal.main_arg2) = m ((c.tc : Thread Cert.DwUpOIdeal.nD Cert.DwUpOIdeal.τ).loc Cert.DwUpOIdeal.main_arg2))
      ∧ θ_run (Cert.DwUpOReferenceIdeal.defs (F := Ideal)) (onTc (τ := Cert.DwUpOReferenceIdeal.τ) (Cert.DwUpOReferenceIdeal.main (F := Ideal))) ⟨m', fun _ => 0, g'⟩ (fun r => ∀ c : Dev Cert.DwUpOReferenceIdeal.nD,
          r.2.mem ((c.tc : Thread Cert.DwUpOReferenceIdeal.nD Cert.DwUpOReferenceIdeal.τ).loc Cert.DwUpOReferenceIdeal.main_v9) = v0 c
          ∧ r.2.mem ((c.tc : Thread Cert.DwUpOReferenceIdeal.nD Cert.DwUpOReferenceIdeal.τ).loc Cert.DwUpOReferenceIdeal.main_arg0) = m' ((c.tc : Thread Cert.DwUpOReferenceIdeal.nD Cert.DwUpOReferenceIdeal.τ).loc Cert.DwUpOReferenceIdeal.main_arg0)
          ∧ r.2.mem ((c.tc : Thread Cert.DwUpOReferenceIdeal.nD Cert.DwUpOReferenceIdeal.τ).loc Cert.DwUpOReferenceIdeal.main_arg1) = m' ((c.tc : Thread Cert.DwUpOReferenceIdeal.nD Cert.DwUpOReferenceIdeal.τ).loc Cert.DwUpOReferenceIdeal.main_arg1)
          ∧ r.2.mem ((c.tc : Thread Cert.DwUpOReferenceIdeal.nD Cert.DwUpOReferenceIdeal.τ).loc Cert.DwUpOReferenceIdeal.main_arg2) = m' ((c.tc : Thread Cert.DwUpOReferenceIdeal.nD Cert.DwUpOReferenceIdeal.τ).loc Cert.DwUpOReferenceIdeal.main_arg2))

def preserves_O_OIdeal : Prop :=
  True

def algebraic_OIdeal_OReferenceIdeal [hOIdeal : Cert.OIdeal.Facts] [hOReferenceIdeal : Cert.OReferenceIdeal.Facts] : Prop :=
  ∀ (m : (ℓ : Loc Cert.OIdeal.nD Cert.OIdeal.τ Cert.OIdeal.sig) → Buf (Elt Ideal) ℓ) (g : Dev Cert.OIdeal.nD → PrngReg)
    (m' : (ℓ : Loc Cert.OReferenceIdeal.nD Cert.OReferenceIdeal.τ Cert.OReferenceIdeal.sig) → Buf (Elt Ideal) ℓ) (g' : Dev Cert.OReferenceIdeal.nD → PrngReg), Pre_OIdeal m →
    (∀ c : Dev Cert.OIdeal.nD,
      m' ((c.tc : Thread Cert.OReferenceIdeal.nD Cert.OReferenceIdeal.τ).loc Cert.OReferenceIdeal.main_arg0) = m ((c.tc : Thread Cert.OIdeal.nD Cert.OIdeal.τ).loc Cert.OIdeal.main_arg0)
      ∧ m' ((c.tc : Thread Cert.OReferenceIdeal.nD Cert.OReferenceIdeal.τ).loc Cert.OReferenceIdeal.main_arg1) = m ((c.tc : Thread Cert.OIdeal.nD Cert.OIdeal.τ).loc Cert.OIdeal.main_arg1)
      ∧ m' ((c.tc : Thread Cert.OReferenceIdeal.nD Cert.OReferenceIdeal.τ).loc Cert.OReferenceIdeal.main_arg2) = m ((c.tc : Thread Cert.OIdeal.nD Cert.OIdeal.τ).loc Cert.OIdeal.main_arg2)) →
    ∃ (v0 : (c : Dev Cert.OIdeal.nD) → Buf (Elt Ideal) ((c.tc : Thread Cert.OIdeal.nD Cert.OIdeal.τ).loc Cert.OIdeal.main_v0)),
      θ_run (Cert.OIdeal.defs (F := Ideal)) (onTc (τ := Cert.OIdeal.τ) (Cert.OIdeal.main (F := Ideal))) ⟨m, fun _ => 0, g⟩ (fun r => ∀ c : Dev Cert.OIdeal.nD,
          r.2.mem ((c.tc : Thread Cert.OIdeal.nD Cert.OIdeal.τ).loc Cert.OIdeal.main_v0) = v0 c
          ∧ r.2.mem ((c.tc : Thread Cert.OIdeal.nD Cert.OIdeal.τ).loc Cert.OIdeal.main_arg0) = m ((c.tc : Thread Cert.OIdeal.nD Cert.OIdeal.τ).loc Cert.OIdeal.main_arg0)
          ∧ r.2.mem ((c.tc : Thread Cert.OIdeal.nD Cert.OIdeal.τ).loc Cert.OIdeal.main_arg1) = m ((c.tc : Thread Cert.OIdeal.nD Cert.OIdeal.τ).loc Cert.OIdeal.main_arg1)
          ∧ r.2.mem ((c.tc : Thread Cert.OIdeal.nD Cert.OIdeal.τ).loc Cert.OIdeal.main_arg2) = m ((c.tc : Thread Cert.OIdeal.nD Cert.OIdeal.τ).loc Cert.OIdeal.main_arg2))
      ∧ θ_run (Cert.OReferenceIdeal.defs (F := Ideal)) (onTc (τ := Cert.OReferenceIdeal.τ) (Cert.OReferenceIdeal.main (F := Ideal))) ⟨m', fun _ => 0, g'⟩ (fun r => ∀ c : Dev Cert.OReferenceIdeal.nD,
          r.2.mem ((c.tc : Thread Cert.OReferenceIdeal.nD Cert.OReferenceIdeal.τ).loc Cert.OReferenceIdeal.main_v5) = v0 c
          ∧ r.2.mem ((c.tc : Thread Cert.OReferenceIdeal.nD Cert.OReferenceIdeal.τ).loc Cert.OReferenceIdeal.main_arg0) = m' ((c.tc : Thread Cert.OReferenceIdeal.nD Cert.OReferenceIdeal.τ).loc Cert.OReferenceIdeal.main_arg0)
          ∧ r.2.mem ((c.tc : Thread Cert.OReferenceIdeal.nD Cert.OReferenceIdeal.τ).loc Cert.OReferenceIdeal.main_arg1) = m' ((c.tc : Thread Cert.OReferenceIdeal.nD Cert.OReferenceIdeal.τ).loc Cert.OReferenceIdeal.main_arg1)
          ∧ r.2.mem ((c.tc : Thread Cert.OReferenceIdeal.nD Cert.OReferenceIdeal.τ).loc Cert.OReferenceIdeal.main_arg2) = m' ((c.tc : Thread Cert.OReferenceIdeal.nD Cert.OReferenceIdeal.τ).loc Cert.OReferenceIdeal.main_arg2))

def preserves_DwOS_DwOSIdeal : Prop :=
  True

def algebraic_DwOSIdeal_DwOSReferenceIdeal [hDwOSIdeal : Cert.DwOSIdeal.Facts] [hDwOSReferenceIdeal : Cert.DwOSReferenceIdeal.Facts] : Prop :=
  ∀ (m : (ℓ : Loc Cert.DwOSIdeal.nD Cert.DwOSIdeal.τ Cert.DwOSIdeal.sig) → Buf (Elt Ideal) ℓ) (g : Dev Cert.DwOSIdeal.nD → PrngReg)
    (m' : (ℓ : Loc Cert.DwOSReferenceIdeal.nD Cert.DwOSReferenceIdeal.τ Cert.DwOSReferenceIdeal.sig) → Buf (Elt Ideal) ℓ) (g' : Dev Cert.DwOSReferenceIdeal.nD → PrngReg), Pre_DwOSIdeal m →
    (∀ c : Dev Cert.DwOSIdeal.nD,
      m' ((c.tc : Thread Cert.DwOSReferenceIdeal.nD Cert.DwOSReferenceIdeal.τ).loc Cert.DwOSReferenceIdeal.main_arg0) = m ((c.tc : Thread Cert.DwOSIdeal.nD Cert.DwOSIdeal.τ).loc Cert.DwOSIdeal.main_arg0)
      ∧ m' ((c.tc : Thread Cert.DwOSReferenceIdeal.nD Cert.DwOSReferenceIdeal.τ).loc Cert.DwOSReferenceIdeal.main_arg1) = m ((c.tc : Thread Cert.DwOSIdeal.nD Cert.DwOSIdeal.τ).loc Cert.DwOSIdeal.main_arg1)) →
    ∃ (v0 : (c : Dev Cert.DwOSIdeal.nD) → Buf (Elt Ideal) ((c.tc : Thread Cert.DwOSIdeal.nD Cert.DwOSIdeal.τ).loc Cert.DwOSIdeal.main_v3)),
      θ_run (Cert.DwOSIdeal.defs (F := Ideal)) (onTc (τ := Cert.DwOSIdeal.τ) (Cert.DwOSIdeal.main (F := Ideal))) ⟨m, fun _ => 0, g⟩ (fun r => ∀ c : Dev Cert.DwOSIdeal.nD,
          r.2.mem ((c.tc : Thread Cert.DwOSIdeal.nD Cert.DwOSIdeal.τ).loc Cert.DwOSIdeal.main_v3) = v0 c
          ∧ r.2.mem ((c.tc : Thread Cert.DwOSIdeal.nD Cert.DwOSIdeal.τ).loc Cert.DwOSIdeal.main_arg0) = m ((c.tc : Thread Cert.DwOSIdeal.nD Cert.DwOSIdeal.τ).loc Cert.DwOSIdeal.main_arg0)
          ∧ r.2.mem ((c.tc : Thread Cert.DwOSIdeal.nD Cert.DwOSIdeal.τ).loc Cert.DwOSIdeal.main_arg1) = m ((c.tc : Thread Cert.DwOSIdeal.nD Cert.DwOSIdeal.τ).loc Cert.DwOSIdeal.main_arg1))
      ∧ θ_run (Cert.DwOSReferenceIdeal.defs (F := Ideal)) (onTc (τ := Cert.DwOSReferenceIdeal.τ) (Cert.DwOSReferenceIdeal.main (F := Ideal))) ⟨m', fun _ => 0, g'⟩ (fun r => ∀ c : Dev Cert.DwOSReferenceIdeal.nD,
          r.2.mem ((c.tc : Thread Cert.DwOSReferenceIdeal.nD Cert.DwOSReferenceIdeal.τ).loc Cert.DwOSReferenceIdeal.main_v7) = v0 c
          ∧ r.2.mem ((c.tc : Thread Cert.DwOSReferenceIdeal.nD Cert.DwOSReferenceIdeal.τ).loc Cert.DwOSReferenceIdeal.main_arg0) = m' ((c.tc : Thread Cert.DwOSReferenceIdeal.nD Cert.DwOSReferenceIdeal.τ).loc Cert.DwOSReferenceIdeal.main_arg0)
          ∧ r.2.mem ((c.tc : Thread Cert.DwOSReferenceIdeal.nD Cert.DwOSReferenceIdeal.τ).loc Cert.DwOSReferenceIdeal.main_arg1) = m' ((c.tc : Thread Cert.DwOSReferenceIdeal.nD Cert.DwOSReferenceIdeal.τ).loc Cert.DwOSReferenceIdeal.main_arg1))

def preserves_DwOO_DwOOIdeal : Prop :=
  True

def algebraic_DwOOIdeal_DwOOReferenceIdeal [hDwOOIdeal : Cert.DwOOIdeal.Facts] [hDwOOReferenceIdeal : Cert.DwOOReferenceIdeal.Facts] : Prop :=
  ∀ (m : (ℓ : Loc Cert.DwOOIdeal.nD Cert.DwOOIdeal.τ Cert.DwOOIdeal.sig) → Buf (Elt Ideal) ℓ) (g : Dev Cert.DwOOIdeal.nD → PrngReg)
    (m' : (ℓ : Loc Cert.DwOOReferenceIdeal.nD Cert.DwOOReferenceIdeal.τ Cert.DwOOReferenceIdeal.sig) → Buf (Elt Ideal) ℓ) (g' : Dev Cert.DwOOReferenceIdeal.nD → PrngReg), Pre_DwOOIdeal m →
    (∀ c : Dev Cert.DwOOIdeal.nD,
      m' ((c.tc : Thread Cert.DwOOReferenceIdeal.nD Cert.DwOOReferenceIdeal.τ).loc Cert.DwOOReferenceIdeal.main_arg0) = m ((c.tc : Thread Cert.DwOOIdeal.nD Cert.DwOOIdeal.τ).loc Cert.DwOOIdeal.main_arg0)
      ∧ m' ((c.tc : Thread Cert.DwOOReferenceIdeal.nD Cert.DwOOReferenceIdeal.τ).loc Cert.DwOOReferenceIdeal.main_arg1) = m ((c.tc : Thread Cert.DwOOIdeal.nD Cert.DwOOIdeal.τ).loc Cert.DwOOIdeal.main_arg1)
      ∧ m' ((c.tc : Thread Cert.DwOOReferenceIdeal.nD Cert.DwOOReferenceIdeal.τ).loc Cert.DwOOReferenceIdeal.main_arg2) = m ((c.tc : Thread Cert.DwOOIdeal.nD Cert.DwOOIdeal.τ).loc Cert.DwOOIdeal.main_arg2)) →
    ∃ (v0 : (c : Dev Cert.DwOOIdeal.nD) → Buf (Elt Ideal) ((c.tc : Thread Cert.DwOOIdeal.nD Cert.DwOOIdeal.τ).loc Cert.DwOOIdeal.main_v1)),
      θ_run (Cert.DwOOIdeal.defs (F := Ideal)) (onTc (τ := Cert.DwOOIdeal.τ) (Cert.DwOOIdeal.main (F := Ideal))) ⟨m, fun _ => 0, g⟩ (fun r => ∀ c : Dev Cert.DwOOIdeal.nD,
          r.2.mem ((c.tc : Thread Cert.DwOOIdeal.nD Cert.DwOOIdeal.τ).loc Cert.DwOOIdeal.main_v1) = v0 c
          ∧ r.2.mem ((c.tc : Thread Cert.DwOOIdeal.nD Cert.DwOOIdeal.τ).loc Cert.DwOOIdeal.main_arg0) = m ((c.tc : Thread Cert.DwOOIdeal.nD Cert.DwOOIdeal.τ).loc Cert.DwOOIdeal.main_arg0)
          ∧ r.2.mem ((c.tc : Thread Cert.DwOOIdeal.nD Cert.DwOOIdeal.τ).loc Cert.DwOOIdeal.main_arg1) = m ((c.tc : Thread Cert.DwOOIdeal.nD Cert.DwOOIdeal.τ).loc Cert.DwOOIdeal.main_arg1)
          ∧ r.2.mem ((c.tc : Thread Cert.DwOOIdeal.nD Cert.DwOOIdeal.τ).loc Cert.DwOOIdeal.main_arg2) = m ((c.tc : Thread Cert.DwOOIdeal.nD Cert.DwOOIdeal.τ).loc Cert.DwOOIdeal.main_arg2))
      ∧ θ_run (Cert.DwOOReferenceIdeal.defs (F := Ideal)) (onTc (τ := Cert.DwOOReferenceIdeal.τ) (Cert.DwOOReferenceIdeal.main (F := Ideal))) ⟨m', fun _ => 0, g'⟩ (fun r => ∀ c : Dev Cert.DwOOReferenceIdeal.nD,
          r.2.mem ((c.tc : Thread Cert.DwOOReferenceIdeal.nD Cert.DwOOReferenceIdeal.τ).loc Cert.DwOOReferenceIdeal.main_v9) = v0 c
          ∧ r.2.mem ((c.tc : Thread Cert.DwOOReferenceIdeal.nD Cert.DwOOReferenceIdeal.τ).loc Cert.DwOOReferenceIdeal.main_arg0) = m' ((c.tc : Thread Cert.DwOOReferenceIdeal.nD Cert.DwOOReferenceIdeal.τ).loc Cert.DwOOReferenceIdeal.main_arg0)
          ∧ r.2.mem ((c.tc : Thread Cert.DwOOReferenceIdeal.nD Cert.DwOOReferenceIdeal.τ).loc Cert.DwOOReferenceIdeal.main_arg1) = m' ((c.tc : Thread Cert.DwOOReferenceIdeal.nD Cert.DwOOReferenceIdeal.τ).loc Cert.DwOOReferenceIdeal.main_arg1)
          ∧ r.2.mem ((c.tc : Thread Cert.DwOOReferenceIdeal.nD Cert.DwOOReferenceIdeal.τ).loc Cert.DwOOReferenceIdeal.main_arg2) = m' ((c.tc : Thread Cert.DwOOReferenceIdeal.nD Cert.DwOOReferenceIdeal.τ).loc Cert.DwOOReferenceIdeal.main_arg2))

def preserves_DwBrS_DwBrSIdeal : Prop :=
  True

def algebraic_DwBrSIdeal_DwBrSReferenceIdeal [hDwBrSIdeal : Cert.DwBrSIdeal.Facts] [hDwBrSReferenceIdeal : Cert.DwBrSReferenceIdeal.Facts] : Prop :=
  ∀ (m : (ℓ : Loc Cert.DwBrSIdeal.nD Cert.DwBrSIdeal.τ Cert.DwBrSIdeal.sig) → Buf (Elt Ideal) ℓ) (g : Dev Cert.DwBrSIdeal.nD → PrngReg)
    (m' : (ℓ : Loc Cert.DwBrSReferenceIdeal.nD Cert.DwBrSReferenceIdeal.τ Cert.DwBrSReferenceIdeal.sig) → Buf (Elt Ideal) ℓ) (g' : Dev Cert.DwBrSReferenceIdeal.nD → PrngReg), Pre_DwBrSIdeal m →
    (∀ c : Dev Cert.DwBrSIdeal.nD,
      m' ((c.tc : Thread Cert.DwBrSReferenceIdeal.nD Cert.DwBrSReferenceIdeal.τ).loc Cert.DwBrSReferenceIdeal.main_arg0) = m ((c.tc : Thread Cert.DwBrSIdeal.nD Cert.DwBrSIdeal.τ).loc Cert.DwBrSIdeal.main_arg0)
      ∧ m' ((c.tc : Thread Cert.DwBrSReferenceIdeal.nD Cert.DwBrSReferenceIdeal.τ).loc Cert.DwBrSReferenceIdeal.main_arg1) = m ((c.tc : Thread Cert.DwBrSIdeal.nD Cert.DwBrSIdeal.τ).loc Cert.DwBrSIdeal.main_arg1)) →
    ∃ (v0 : (c : Dev Cert.DwBrSIdeal.nD) → Buf (Elt Ideal) ((c.tc : Thread Cert.DwBrSIdeal.nD Cert.DwBrSIdeal.τ).loc Cert.DwBrSIdeal.main_v3)),
      θ_run (Cert.DwBrSIdeal.defs (F := Ideal)) (onTc (τ := Cert.DwBrSIdeal.τ) (Cert.DwBrSIdeal.main (F := Ideal))) ⟨m, fun _ => 0, g⟩ (fun r => ∀ c : Dev Cert.DwBrSIdeal.nD,
          r.2.mem ((c.tc : Thread Cert.DwBrSIdeal.nD Cert.DwBrSIdeal.τ).loc Cert.DwBrSIdeal.main_v3) = v0 c
          ∧ r.2.mem ((c.tc : Thread Cert.DwBrSIdeal.nD Cert.DwBrSIdeal.τ).loc Cert.DwBrSIdeal.main_arg0) = m ((c.tc : Thread Cert.DwBrSIdeal.nD Cert.DwBrSIdeal.τ).loc Cert.DwBrSIdeal.main_arg0)
          ∧ r.2.mem ((c.tc : Thread Cert.DwBrSIdeal.nD Cert.DwBrSIdeal.τ).loc Cert.DwBrSIdeal.main_arg1) = m ((c.tc : Thread Cert.DwBrSIdeal.nD Cert.DwBrSIdeal.τ).loc Cert.DwBrSIdeal.main_arg1))
      ∧ θ_run (Cert.DwBrSReferenceIdeal.defs (F := Ideal)) (onTc (τ := Cert.DwBrSReferenceIdeal.τ) (Cert.DwBrSReferenceIdeal.main (F := Ideal))) ⟨m', fun _ => 0, g'⟩ (fun r => ∀ c : Dev Cert.DwBrSReferenceIdeal.nD,
          r.2.mem ((c.tc : Thread Cert.DwBrSReferenceIdeal.nD Cert.DwBrSReferenceIdeal.τ).loc Cert.DwBrSReferenceIdeal.main_v7) = v0 c
          ∧ r.2.mem ((c.tc : Thread Cert.DwBrSReferenceIdeal.nD Cert.DwBrSReferenceIdeal.τ).loc Cert.DwBrSReferenceIdeal.main_arg0) = m' ((c.tc : Thread Cert.DwBrSReferenceIdeal.nD Cert.DwBrSReferenceIdeal.τ).loc Cert.DwBrSReferenceIdeal.main_arg0)
          ∧ r.2.mem ((c.tc : Thread Cert.DwBrSReferenceIdeal.nD Cert.DwBrSReferenceIdeal.τ).loc Cert.DwBrSReferenceIdeal.main_arg1) = m' ((c.tc : Thread Cert.DwBrSReferenceIdeal.nD Cert.DwBrSReferenceIdeal.τ).loc Cert.DwBrSReferenceIdeal.main_arg1))

def preserves_DwBrO_DwBrOIdeal : Prop :=
  True

def algebraic_DwBrOIdeal_DwBrOReferenceIdeal [hDwBrOIdeal : Cert.DwBrOIdeal.Facts] [hDwBrOReferenceIdeal : Cert.DwBrOReferenceIdeal.Facts] : Prop :=
  ∀ (m : (ℓ : Loc Cert.DwBrOIdeal.nD Cert.DwBrOIdeal.τ Cert.DwBrOIdeal.sig) → Buf (Elt Ideal) ℓ) (g : Dev Cert.DwBrOIdeal.nD → PrngReg)
    (m' : (ℓ : Loc Cert.DwBrOReferenceIdeal.nD Cert.DwBrOReferenceIdeal.τ Cert.DwBrOReferenceIdeal.sig) → Buf (Elt Ideal) ℓ) (g' : Dev Cert.DwBrOReferenceIdeal.nD → PrngReg), Pre_DwBrOIdeal m →
    (∀ c : Dev Cert.DwBrOIdeal.nD,
      m' ((c.tc : Thread Cert.DwBrOReferenceIdeal.nD Cert.DwBrOReferenceIdeal.τ).loc Cert.DwBrOReferenceIdeal.main_arg0) = m ((c.tc : Thread Cert.DwBrOIdeal.nD Cert.DwBrOIdeal.τ).loc Cert.DwBrOIdeal.main_arg0)
      ∧ m' ((c.tc : Thread Cert.DwBrOReferenceIdeal.nD Cert.DwBrOReferenceIdeal.τ).loc Cert.DwBrOReferenceIdeal.main_arg1) = m ((c.tc : Thread Cert.DwBrOIdeal.nD Cert.DwBrOIdeal.τ).loc Cert.DwBrOIdeal.main_arg1)
      ∧ m' ((c.tc : Thread Cert.DwBrOReferenceIdeal.nD Cert.DwBrOReferenceIdeal.τ).loc Cert.DwBrOReferenceIdeal.main_arg2) = m ((c.tc : Thread Cert.DwBrOIdeal.nD Cert.DwBrOIdeal.τ).loc Cert.DwBrOIdeal.main_arg2)) →
    ∃ (v0 : (c : Dev Cert.DwBrOIdeal.nD) → Buf (Elt Ideal) ((c.tc : Thread Cert.DwBrOIdeal.nD Cert.DwBrOIdeal.τ).loc Cert.DwBrOIdeal.main_v1)),
      θ_run (Cert.DwBrOIdeal.defs (F := Ideal)) (onTc (τ := Cert.DwBrOIdeal.τ) (Cert.DwBrOIdeal.main (F := Ideal))) ⟨m, fun _ => 0, g⟩ (fun r => ∀ c : Dev Cert.DwBrOIdeal.nD,
          r.2.mem ((c.tc : Thread Cert.DwBrOIdeal.nD Cert.DwBrOIdeal.τ).loc Cert.DwBrOIdeal.main_v1) = v0 c
          ∧ r.2.mem ((c.tc : Thread Cert.DwBrOIdeal.nD Cert.DwBrOIdeal.τ).loc Cert.DwBrOIdeal.main_arg0) = m ((c.tc : Thread Cert.DwBrOIdeal.nD Cert.DwBrOIdeal.τ).loc Cert.DwBrOIdeal.main_arg0)
          ∧ r.2.mem ((c.tc : Thread Cert.DwBrOIdeal.nD Cert.DwBrOIdeal.τ).loc Cert.DwBrOIdeal.main_arg1) = m ((c.tc : Thread Cert.DwBrOIdeal.nD Cert.DwBrOIdeal.τ).loc Cert.DwBrOIdeal.main_arg1)
          ∧ r.2.mem ((c.tc : Thread Cert.DwBrOIdeal.nD Cert.DwBrOIdeal.τ).loc Cert.DwBrOIdeal.main_arg2) = m ((c.tc : Thread Cert.DwBrOIdeal.nD Cert.DwBrOIdeal.τ).loc Cert.DwBrOIdeal.main_arg2))
      ∧ θ_run (Cert.DwBrOReferenceIdeal.defs (F := Ideal)) (onTc (τ := Cert.DwBrOReferenceIdeal.τ) (Cert.DwBrOReferenceIdeal.main (F := Ideal))) ⟨m', fun _ => 0, g'⟩ (fun r => ∀ c : Dev Cert.DwBrOReferenceIdeal.nD,
          r.2.mem ((c.tc : Thread Cert.DwBrOReferenceIdeal.nD Cert.DwBrOReferenceIdeal.τ).loc Cert.DwBrOReferenceIdeal.main_v9) = v0 c
          ∧ r.2.mem ((c.tc : Thread Cert.DwBrOReferenceIdeal.nD Cert.DwBrOReferenceIdeal.τ).loc Cert.DwBrOReferenceIdeal.main_arg0) = m' ((c.tc : Thread Cert.DwBrOReferenceIdeal.nD Cert.DwBrOReferenceIdeal.τ).loc Cert.DwBrOReferenceIdeal.main_arg0)
          ∧ r.2.mem ((c.tc : Thread Cert.DwBrOReferenceIdeal.nD Cert.DwBrOReferenceIdeal.τ).loc Cert.DwBrOReferenceIdeal.main_arg1) = m' ((c.tc : Thread Cert.DwBrOReferenceIdeal.nD Cert.DwBrOReferenceIdeal.τ).loc Cert.DwBrOReferenceIdeal.main_arg1)
          ∧ r.2.mem ((c.tc : Thread Cert.DwBrOReferenceIdeal.nD Cert.DwBrOReferenceIdeal.τ).loc Cert.DwBrOReferenceIdeal.main_arg2) = m' ((c.tc : Thread Cert.DwBrOReferenceIdeal.nD Cert.DwBrOReferenceIdeal.τ).loc Cert.DwBrOReferenceIdeal.main_arg2))

def preserves_DwXoS_DwXoSIdeal : Prop :=
  True

def algebraic_DwXoSIdeal_DwXoSReferenceIdeal [hDwXoSIdeal : Cert.DwXoSIdeal.Facts] [hDwXoSReferenceIdeal : Cert.DwXoSReferenceIdeal.Facts] : Prop :=
  ∀ (m : (ℓ : Loc Cert.DwXoSIdeal.nD Cert.DwXoSIdeal.τ Cert.DwXoSIdeal.sig) → Buf (Elt Ideal) ℓ) (g : Dev Cert.DwXoSIdeal.nD → PrngReg)
    (m' : (ℓ : Loc Cert.DwXoSReferenceIdeal.nD Cert.DwXoSReferenceIdeal.τ Cert.DwXoSReferenceIdeal.sig) → Buf (Elt Ideal) ℓ) (g' : Dev Cert.DwXoSReferenceIdeal.nD → PrngReg), Pre_DwXoSIdeal m →
    (∀ c : Dev Cert.DwXoSIdeal.nD,
      m' ((c.tc : Thread Cert.DwXoSReferenceIdeal.nD Cert.DwXoSReferenceIdeal.τ).loc Cert.DwXoSReferenceIdeal.main_arg0) = m ((c.tc : Thread Cert.DwXoSIdeal.nD Cert.DwXoSIdeal.τ).loc Cert.DwXoSIdeal.main_arg0)
      ∧ m' ((c.tc : Thread Cert.DwXoSReferenceIdeal.nD Cert.DwXoSReferenceIdeal.τ).loc Cert.DwXoSReferenceIdeal.main_arg1) = m ((c.tc : Thread Cert.DwXoSIdeal.nD Cert.DwXoSIdeal.τ).loc Cert.DwXoSIdeal.main_arg1)) →
    ∃ (v0 : (c : Dev Cert.DwXoSIdeal.nD) → Buf (Elt Ideal) ((c.tc : Thread Cert.DwXoSIdeal.nD Cert.DwXoSIdeal.τ).loc Cert.DwXoSIdeal.main_v3)),
      θ_run (Cert.DwXoSIdeal.defs (F := Ideal)) (onTc (τ := Cert.DwXoSIdeal.τ) (Cert.DwXoSIdeal.main (F := Ideal))) ⟨m, fun _ => 0, g⟩ (fun r => ∀ c : Dev Cert.DwXoSIdeal.nD,
          r.2.mem ((c.tc : Thread Cert.DwXoSIdeal.nD Cert.DwXoSIdeal.τ).loc Cert.DwXoSIdeal.main_v3) = v0 c
          ∧ r.2.mem ((c.tc : Thread Cert.DwXoSIdeal.nD Cert.DwXoSIdeal.τ).loc Cert.DwXoSIdeal.main_arg0) = m ((c.tc : Thread Cert.DwXoSIdeal.nD Cert.DwXoSIdeal.τ).loc Cert.DwXoSIdeal.main_arg0)
          ∧ r.2.mem ((c.tc : Thread Cert.DwXoSIdeal.nD Cert.DwXoSIdeal.τ).loc Cert.DwXoSIdeal.main_arg1) = m ((c.tc : Thread Cert.DwXoSIdeal.nD Cert.DwXoSIdeal.τ).loc Cert.DwXoSIdeal.main_arg1))
      ∧ θ_run (Cert.DwXoSReferenceIdeal.defs (F := Ideal)) (onTc (τ := Cert.DwXoSReferenceIdeal.τ) (Cert.DwXoSReferenceIdeal.main (F := Ideal))) ⟨m', fun _ => 0, g'⟩ (fun r => ∀ c : Dev Cert.DwXoSReferenceIdeal.nD,
          r.2.mem ((c.tc : Thread Cert.DwXoSReferenceIdeal.nD Cert.DwXoSReferenceIdeal.τ).loc Cert.DwXoSReferenceIdeal.main_v7) = v0 c
          ∧ r.2.mem ((c.tc : Thread Cert.DwXoSReferenceIdeal.nD Cert.DwXoSReferenceIdeal.τ).loc Cert.DwXoSReferenceIdeal.main_arg0) = m' ((c.tc : Thread Cert.DwXoSReferenceIdeal.nD Cert.DwXoSReferenceIdeal.τ).loc Cert.DwXoSReferenceIdeal.main_arg0)
          ∧ r.2.mem ((c.tc : Thread Cert.DwXoSReferenceIdeal.nD Cert.DwXoSReferenceIdeal.τ).loc Cert.DwXoSReferenceIdeal.main_arg1) = m' ((c.tc : Thread Cert.DwXoSReferenceIdeal.nD Cert.DwXoSReferenceIdeal.τ).loc Cert.DwXoSReferenceIdeal.main_arg1))

def preserves_DwXoO_DwXoOIdeal : Prop :=
  True

def algebraic_DwXoOIdeal_DwXoOReferenceIdeal [hDwXoOIdeal : Cert.DwXoOIdeal.Facts] [hDwXoOReferenceIdeal : Cert.DwXoOReferenceIdeal.Facts] : Prop :=
  ∀ (m : (ℓ : Loc Cert.DwXoOIdeal.nD Cert.DwXoOIdeal.τ Cert.DwXoOIdeal.sig) → Buf (Elt Ideal) ℓ) (g : Dev Cert.DwXoOIdeal.nD → PrngReg)
    (m' : (ℓ : Loc Cert.DwXoOReferenceIdeal.nD Cert.DwXoOReferenceIdeal.τ Cert.DwXoOReferenceIdeal.sig) → Buf (Elt Ideal) ℓ) (g' : Dev Cert.DwXoOReferenceIdeal.nD → PrngReg), Pre_DwXoOIdeal m →
    (∀ c : Dev Cert.DwXoOIdeal.nD,
      m' ((c.tc : Thread Cert.DwXoOReferenceIdeal.nD Cert.DwXoOReferenceIdeal.τ).loc Cert.DwXoOReferenceIdeal.main_arg0) = m ((c.tc : Thread Cert.DwXoOIdeal.nD Cert.DwXoOIdeal.τ).loc Cert.DwXoOIdeal.main_arg0)
      ∧ m' ((c.tc : Thread Cert.DwXoOReferenceIdeal.nD Cert.DwXoOReferenceIdeal.τ).loc Cert.DwXoOReferenceIdeal.main_arg1) = m ((c.tc : Thread Cert.DwXoOIdeal.nD Cert.DwXoOIdeal.τ).loc Cert.DwXoOIdeal.main_arg1)
      ∧ m' ((c.tc : Thread Cert.DwXoOReferenceIdeal.nD Cert.DwXoOReferenceIdeal.τ).loc Cert.DwXoOReferenceIdeal.main_arg2) = m ((c.tc : Thread Cert.DwXoOIdeal.nD Cert.DwXoOIdeal.τ).loc Cert.DwXoOIdeal.main_arg2)) →
    ∃ (v0 : (c : Dev Cert.DwXoOIdeal.nD) → Buf (Elt Ideal) ((c.tc : Thread Cert.DwXoOIdeal.nD Cert.DwXoOIdeal.τ).loc Cert.DwXoOIdeal.main_v1)),
      θ_run (Cert.DwXoOIdeal.defs (F := Ideal)) (onTc (τ := Cert.DwXoOIdeal.τ) (Cert.DwXoOIdeal.main (F := Ideal))) ⟨m, fun _ => 0, g⟩ (fun r => ∀ c : Dev Cert.DwXoOIdeal.nD,
          r.2.mem ((c.tc : Thread Cert.DwXoOIdeal.nD Cert.DwXoOIdeal.τ).loc Cert.DwXoOIdeal.main_v1) = v0 c
          ∧ r.2.mem ((c.tc : Thread Cert.DwXoOIdeal.nD Cert.DwXoOIdeal.τ).loc Cert.DwXoOIdeal.main_arg0) = m ((c.tc : Thread Cert.DwXoOIdeal.nD Cert.DwXoOIdeal.τ).loc Cert.DwXoOIdeal.main_arg0)
          ∧ r.2.mem ((c.tc : Thread Cert.DwXoOIdeal.nD Cert.DwXoOIdeal.τ).loc Cert.DwXoOIdeal.main_arg1) = m ((c.tc : Thread Cert.DwXoOIdeal.nD Cert.DwXoOIdeal.τ).loc Cert.DwXoOIdeal.main_arg1)
          ∧ r.2.mem ((c.tc : Thread Cert.DwXoOIdeal.nD Cert.DwXoOIdeal.τ).loc Cert.DwXoOIdeal.main_arg2) = m ((c.tc : Thread Cert.DwXoOIdeal.nD Cert.DwXoOIdeal.τ).loc Cert.DwXoOIdeal.main_arg2))
      ∧ θ_run (Cert.DwXoOReferenceIdeal.defs (F := Ideal)) (onTc (τ := Cert.DwXoOReferenceIdeal.τ) (Cert.DwXoOReferenceIdeal.main (F := Ideal))) ⟨m', fun _ => 0, g'⟩ (fun r => ∀ c : Dev Cert.DwXoOReferenceIdeal.nD,
          r.2.mem ((c.tc : Thread Cert.DwXoOReferenceIdeal.nD Cert.DwXoOReferenceIdeal.τ).loc Cert.DwXoOReferenceIdeal.main_v9) = v0 c
          ∧ r.2.mem ((c.tc : Thread Cert.DwXoOReferenceIdeal.nD Cert.DwXoOReferenceIdeal.τ).loc Cert.DwXoOReferenceIdeal.main_arg0) = m' ((c.tc : Thread Cert.DwXoOReferenceIdeal.nD Cert.DwXoOReferenceIdeal.τ).loc Cert.DwXoOReferenceIdeal.main_arg0)
          ∧ r.2.mem ((c.tc : Thread Cert.DwXoOReferenceIdeal.nD Cert.DwXoOReferenceIdeal.τ).loc Cert.DwXoOReferenceIdeal.main_arg1) = m' ((c.tc : Thread Cert.DwXoOReferenceIdeal.nD Cert.DwXoOReferenceIdeal.τ).loc Cert.DwXoOReferenceIdeal.main_arg1)
          ∧ r.2.mem ((c.tc : Thread Cert.DwXoOReferenceIdeal.nD Cert.DwXoOReferenceIdeal.τ).loc Cert.DwXoOReferenceIdeal.main_arg2) = m' ((c.tc : Thread Cert.DwXoOReferenceIdeal.nD Cert.DwXoOReferenceIdeal.τ).loc Cert.DwXoOReferenceIdeal.main_arg2))

def preserves_DwXqS_DwXqSIdeal : Prop :=
  True

def algebraic_DwXqSIdeal_DwXqSReferenceIdeal [hDwXqSIdeal : Cert.DwXqSIdeal.Facts] [hDwXqSReferenceIdeal : Cert.DwXqSReferenceIdeal.Facts] : Prop :=
  ∀ (m : (ℓ : Loc Cert.DwXqSIdeal.nD Cert.DwXqSIdeal.τ Cert.DwXqSIdeal.sig) → Buf (Elt Ideal) ℓ) (g : Dev Cert.DwXqSIdeal.nD → PrngReg)
    (m' : (ℓ : Loc Cert.DwXqSReferenceIdeal.nD Cert.DwXqSReferenceIdeal.τ Cert.DwXqSReferenceIdeal.sig) → Buf (Elt Ideal) ℓ) (g' : Dev Cert.DwXqSReferenceIdeal.nD → PrngReg), Pre_DwXqSIdeal m →
    (∀ c : Dev Cert.DwXqSIdeal.nD,
      m' ((c.tc : Thread Cert.DwXqSReferenceIdeal.nD Cert.DwXqSReferenceIdeal.τ).loc Cert.DwXqSReferenceIdeal.main_arg0) = m ((c.tc : Thread Cert.DwXqSIdeal.nD Cert.DwXqSIdeal.τ).loc Cert.DwXqSIdeal.main_arg0)
      ∧ m' ((c.tc : Thread Cert.DwXqSReferenceIdeal.nD Cert.DwXqSReferenceIdeal.τ).loc Cert.DwXqSReferenceIdeal.main_arg1) = m ((c.tc : Thread Cert.DwXqSIdeal.nD Cert.DwXqSIdeal.τ).loc Cert.DwXqSIdeal.main_arg1)) →
    ∃ (v0 : (c : Dev Cert.DwXqSIdeal.nD) → Buf (Elt Ideal) ((c.tc : Thread Cert.DwXqSIdeal.nD Cert.DwXqSIdeal.τ).loc Cert.DwXqSIdeal.main_v3)),
      θ_run (Cert.DwXqSIdeal.defs (F := Ideal)) (onTc (τ := Cert.DwXqSIdeal.τ) (Cert.DwXqSIdeal.main (F := Ideal))) ⟨m, fun _ => 0, g⟩ (fun r => ∀ c : Dev Cert.DwXqSIdeal.nD,
          r.2.mem ((c.tc : Thread Cert.DwXqSIdeal.nD Cert.DwXqSIdeal.τ).loc Cert.DwXqSIdeal.main_v3) = v0 c
          ∧ r.2.mem ((c.tc : Thread Cert.DwXqSIdeal.nD Cert.DwXqSIdeal.τ).loc Cert.DwXqSIdeal.main_arg0) = m ((c.tc : Thread Cert.DwXqSIdeal.nD Cert.DwXqSIdeal.τ).loc Cert.DwXqSIdeal.main_arg0)
          ∧ r.2.mem ((c.tc : Thread Cert.DwXqSIdeal.nD Cert.DwXqSIdeal.τ).loc Cert.DwXqSIdeal.main_arg1) = m ((c.tc : Thread Cert.DwXqSIdeal.nD Cert.DwXqSIdeal.τ).loc Cert.DwXqSIdeal.main_arg1))
      ∧ θ_run (Cert.DwXqSReferenceIdeal.defs (F := Ideal)) (onTc (τ := Cert.DwXqSReferenceIdeal.τ) (Cert.DwXqSReferenceIdeal.main (F := Ideal))) ⟨m', fun _ => 0, g'⟩ (fun r => ∀ c : Dev Cert.DwXqSReferenceIdeal.nD,
          r.2.mem ((c.tc : Thread Cert.DwXqSReferenceIdeal.nD Cert.DwXqSReferenceIdeal.τ).loc Cert.DwXqSReferenceIdeal.main_v7) = v0 c
          ∧ r.2.mem ((c.tc : Thread Cert.DwXqSReferenceIdeal.nD Cert.DwXqSReferenceIdeal.τ).loc Cert.DwXqSReferenceIdeal.main_arg0) = m' ((c.tc : Thread Cert.DwXqSReferenceIdeal.nD Cert.DwXqSReferenceIdeal.τ).loc Cert.DwXqSReferenceIdeal.main_arg0)
          ∧ r.2.mem ((c.tc : Thread Cert.DwXqSReferenceIdeal.nD Cert.DwXqSReferenceIdeal.τ).loc Cert.DwXqSReferenceIdeal.main_arg1) = m' ((c.tc : Thread Cert.DwXqSReferenceIdeal.nD Cert.DwXqSReferenceIdeal.τ).loc Cert.DwXqSReferenceIdeal.main_arg1))

def preserves_DwXqO_DwXqOIdeal : Prop :=
  True

def algebraic_DwXqOIdeal_DwXqOReferenceIdeal [hDwXqOIdeal : Cert.DwXqOIdeal.Facts] [hDwXqOReferenceIdeal : Cert.DwXqOReferenceIdeal.Facts] : Prop :=
  ∀ (m : (ℓ : Loc Cert.DwXqOIdeal.nD Cert.DwXqOIdeal.τ Cert.DwXqOIdeal.sig) → Buf (Elt Ideal) ℓ) (g : Dev Cert.DwXqOIdeal.nD → PrngReg)
    (m' : (ℓ : Loc Cert.DwXqOReferenceIdeal.nD Cert.DwXqOReferenceIdeal.τ Cert.DwXqOReferenceIdeal.sig) → Buf (Elt Ideal) ℓ) (g' : Dev Cert.DwXqOReferenceIdeal.nD → PrngReg), Pre_DwXqOIdeal m →
    (∀ c : Dev Cert.DwXqOIdeal.nD,
      m' ((c.tc : Thread Cert.DwXqOReferenceIdeal.nD Cert.DwXqOReferenceIdeal.τ).loc Cert.DwXqOReferenceIdeal.main_arg0) = m ((c.tc : Thread Cert.DwXqOIdeal.nD Cert.DwXqOIdeal.τ).loc Cert.DwXqOIdeal.main_arg0)
      ∧ m' ((c.tc : Thread Cert.DwXqOReferenceIdeal.nD Cert.DwXqOReferenceIdeal.τ).loc Cert.DwXqOReferenceIdeal.main_arg1) = m ((c.tc : Thread Cert.DwXqOIdeal.nD Cert.DwXqOIdeal.τ).loc Cert.DwXqOIdeal.main_arg1)
      ∧ m' ((c.tc : Thread Cert.DwXqOReferenceIdeal.nD Cert.DwXqOReferenceIdeal.τ).loc Cert.DwXqOReferenceIdeal.main_arg2) = m ((c.tc : Thread Cert.DwXqOIdeal.nD Cert.DwXqOIdeal.τ).loc Cert.DwXqOIdeal.main_arg2)) →
    ∃ (v0 : (c : Dev Cert.DwXqOIdeal.nD) → Buf (Elt Ideal) ((c.tc : Thread Cert.DwXqOIdeal.nD Cert.DwXqOIdeal.τ).loc Cert.DwXqOIdeal.main_v1)),
      θ_run (Cert.DwXqOIdeal.defs (F := Ideal)) (onTc (τ := Cert.DwXqOIdeal.τ) (Cert.DwXqOIdeal.main (F := Ideal))) ⟨m, fun _ => 0, g⟩ (fun r => ∀ c : Dev Cert.DwXqOIdeal.nD,
          r.2.mem ((c.tc : Thread Cert.DwXqOIdeal.nD Cert.DwXqOIdeal.τ).loc Cert.DwXqOIdeal.main_v1) = v0 c
          ∧ r.2.mem ((c.tc : Thread Cert.DwXqOIdeal.nD Cert.DwXqOIdeal.τ).loc Cert.DwXqOIdeal.main_arg0) = m ((c.tc : Thread Cert.DwXqOIdeal.nD Cert.DwXqOIdeal.τ).loc Cert.DwXqOIdeal.main_arg0)
          ∧ r.2.mem ((c.tc : Thread Cert.DwXqOIdeal.nD Cert.DwXqOIdeal.τ).loc Cert.DwXqOIdeal.main_arg1) = m ((c.tc : Thread Cert.DwXqOIdeal.nD Cert.DwXqOIdeal.τ).loc Cert.DwXqOIdeal.main_arg1)
          ∧ r.2.mem ((c.tc : Thread Cert.DwXqOIdeal.nD Cert.DwXqOIdeal.τ).loc Cert.DwXqOIdeal.main_arg2) = m ((c.tc : Thread Cert.DwXqOIdeal.nD Cert.DwXqOIdeal.τ).loc Cert.DwXqOIdeal.main_arg2))
      ∧ θ_run (Cert.DwXqOReferenceIdeal.defs (F := Ideal)) (onTc (τ := Cert.DwXqOReferenceIdeal.τ) (Cert.DwXqOReferenceIdeal.main (F := Ideal))) ⟨m', fun _ => 0, g'⟩ (fun r => ∀ c : Dev Cert.DwXqOReferenceIdeal.nD,
          r.2.mem ((c.tc : Thread Cert.DwXqOReferenceIdeal.nD Cert.DwXqOReferenceIdeal.τ).loc Cert.DwXqOReferenceIdeal.main_v9) = v0 c
          ∧ r.2.mem ((c.tc : Thread Cert.DwXqOReferenceIdeal.nD Cert.DwXqOReferenceIdeal.τ).loc Cert.DwXqOReferenceIdeal.main_arg0) = m' ((c.tc : Thread Cert.DwXqOReferenceIdeal.nD Cert.DwXqOReferenceIdeal.τ).loc Cert.DwXqOReferenceIdeal.main_arg0)
          ∧ r.2.mem ((c.tc : Thread Cert.DwXqOReferenceIdeal.nD Cert.DwXqOReferenceIdeal.τ).loc Cert.DwXqOReferenceIdeal.main_arg1) = m' ((c.tc : Thread Cert.DwXqOReferenceIdeal.nD Cert.DwXqOReferenceIdeal.τ).loc Cert.DwXqOReferenceIdeal.main_arg1)
          ∧ r.2.mem ((c.tc : Thread Cert.DwXqOReferenceIdeal.nD Cert.DwXqOReferenceIdeal.τ).loc Cert.DwXqOReferenceIdeal.main_arg2) = m' ((c.tc : Thread Cert.DwXqOReferenceIdeal.nD Cert.DwXqOReferenceIdeal.τ).loc Cert.DwXqOReferenceIdeal.main_arg2))

def preserves_DwKvS_DwKvSIdeal : Prop :=
  True

def algebraic_DwKvSIdeal_DwKvSReferenceIdeal [hDwKvSIdeal : Cert.DwKvSIdeal.Facts] [hDwKvSReferenceIdeal : Cert.DwKvSReferenceIdeal.Facts] : Prop :=
  ∀ (m : (ℓ : Loc Cert.DwKvSIdeal.nD Cert.DwKvSIdeal.τ Cert.DwKvSIdeal.sig) → Buf (Elt Ideal) ℓ) (g : Dev Cert.DwKvSIdeal.nD → PrngReg)
    (m' : (ℓ : Loc Cert.DwKvSReferenceIdeal.nD Cert.DwKvSReferenceIdeal.τ Cert.DwKvSReferenceIdeal.sig) → Buf (Elt Ideal) ℓ) (g' : Dev Cert.DwKvSReferenceIdeal.nD → PrngReg), Pre_DwKvSIdeal m →
    (∀ c : Dev Cert.DwKvSIdeal.nD,
      m' ((c.tc : Thread Cert.DwKvSReferenceIdeal.nD Cert.DwKvSReferenceIdeal.τ).loc Cert.DwKvSReferenceIdeal.main_arg0) = m ((c.tc : Thread Cert.DwKvSIdeal.nD Cert.DwKvSIdeal.τ).loc Cert.DwKvSIdeal.main_arg0)
      ∧ m' ((c.tc : Thread Cert.DwKvSReferenceIdeal.nD Cert.DwKvSReferenceIdeal.τ).loc Cert.DwKvSReferenceIdeal.main_arg1) = m ((c.tc : Thread Cert.DwKvSIdeal.nD Cert.DwKvSIdeal.τ).loc Cert.DwKvSIdeal.main_arg1)) →
    ∃ (v0 : (c : Dev Cert.DwKvSIdeal.nD) → Buf (Elt Ideal) ((c.tc : Thread Cert.DwKvSIdeal.nD Cert.DwKvSIdeal.τ).loc Cert.DwKvSIdeal.main_v3)),
      θ_run (Cert.DwKvSIdeal.defs (F := Ideal)) (onTc (τ := Cert.DwKvSIdeal.τ) (Cert.DwKvSIdeal.main (F := Ideal))) ⟨m, fun _ => 0, g⟩ (fun r => ∀ c : Dev Cert.DwKvSIdeal.nD,
          r.2.mem ((c.tc : Thread Cert.DwKvSIdeal.nD Cert.DwKvSIdeal.τ).loc Cert.DwKvSIdeal.main_v3) = v0 c
          ∧ r.2.mem ((c.tc : Thread Cert.DwKvSIdeal.nD Cert.DwKvSIdeal.τ).loc Cert.DwKvSIdeal.main_arg0) = m ((c.tc : Thread Cert.DwKvSIdeal.nD Cert.DwKvSIdeal.τ).loc Cert.DwKvSIdeal.main_arg0)
          ∧ r.2.mem ((c.tc : Thread Cert.DwKvSIdeal.nD Cert.DwKvSIdeal.τ).loc Cert.DwKvSIdeal.main_arg1) = m ((c.tc : Thread Cert.DwKvSIdeal.nD Cert.DwKvSIdeal.τ).loc Cert.DwKvSIdeal.main_arg1))
      ∧ θ_run (Cert.DwKvSReferenceIdeal.defs (F := Ideal)) (onTc (τ := Cert.DwKvSReferenceIdeal.τ) (Cert.DwKvSReferenceIdeal.main (F := Ideal))) ⟨m', fun _ => 0, g'⟩ (fun r => ∀ c : Dev Cert.DwKvSReferenceIdeal.nD,
          r.2.mem ((c.tc : Thread Cert.DwKvSReferenceIdeal.nD Cert.DwKvSReferenceIdeal.τ).loc Cert.DwKvSReferenceIdeal.main_v7) = v0 c
          ∧ r.2.mem ((c.tc : Thread Cert.DwKvSReferenceIdeal.nD Cert.DwKvSReferenceIdeal.τ).loc Cert.DwKvSReferenceIdeal.main_arg0) = m' ((c.tc : Thread Cert.DwKvSReferenceIdeal.nD Cert.DwKvSReferenceIdeal.τ).loc Cert.DwKvSReferenceIdeal.main_arg0)
          ∧ r.2.mem ((c.tc : Thread Cert.DwKvSReferenceIdeal.nD Cert.DwKvSReferenceIdeal.τ).loc Cert.DwKvSReferenceIdeal.main_arg1) = m' ((c.tc : Thread Cert.DwKvSReferenceIdeal.nD Cert.DwKvSReferenceIdeal.τ).loc Cert.DwKvSReferenceIdeal.main_arg1))

def preserves_DwKvO_DwKvOIdeal : Prop :=
  True

def algebraic_DwKvOIdeal_DwKvOReferenceIdeal [hDwKvOIdeal : Cert.DwKvOIdeal.Facts] [hDwKvOReferenceIdeal : Cert.DwKvOReferenceIdeal.Facts] : Prop :=
  ∀ (m : (ℓ : Loc Cert.DwKvOIdeal.nD Cert.DwKvOIdeal.τ Cert.DwKvOIdeal.sig) → Buf (Elt Ideal) ℓ) (g : Dev Cert.DwKvOIdeal.nD → PrngReg)
    (m' : (ℓ : Loc Cert.DwKvOReferenceIdeal.nD Cert.DwKvOReferenceIdeal.τ Cert.DwKvOReferenceIdeal.sig) → Buf (Elt Ideal) ℓ) (g' : Dev Cert.DwKvOReferenceIdeal.nD → PrngReg), Pre_DwKvOIdeal m →
    (∀ c : Dev Cert.DwKvOIdeal.nD,
      m' ((c.tc : Thread Cert.DwKvOReferenceIdeal.nD Cert.DwKvOReferenceIdeal.τ).loc Cert.DwKvOReferenceIdeal.main_arg0) = m ((c.tc : Thread Cert.DwKvOIdeal.nD Cert.DwKvOIdeal.τ).loc Cert.DwKvOIdeal.main_arg0)
      ∧ m' ((c.tc : Thread Cert.DwKvOReferenceIdeal.nD Cert.DwKvOReferenceIdeal.τ).loc Cert.DwKvOReferenceIdeal.main_arg1) = m ((c.tc : Thread Cert.DwKvOIdeal.nD Cert.DwKvOIdeal.τ).loc Cert.DwKvOIdeal.main_arg1)
      ∧ m' ((c.tc : Thread Cert.DwKvOReferenceIdeal.nD Cert.DwKvOReferenceIdeal.τ).loc Cert.DwKvOReferenceIdeal.main_arg2) = m ((c.tc : Thread Cert.DwKvOIdeal.nD Cert.DwKvOIdeal.τ).loc Cert.DwKvOIdeal.main_arg2)) →
    ∃ (v0 : (c : Dev Cert.DwKvOIdeal.nD) → Buf (Elt Ideal) ((c.tc : Thread Cert.DwKvOIdeal.nD Cert.DwKvOIdeal.τ).loc Cert.DwKvOIdeal.main_v1)),
      θ_run (Cert.DwKvOIdeal.defs (F := Ideal)) (onTc (τ := Cert.DwKvOIdeal.τ) (Cert.DwKvOIdeal.main (F := Ideal))) ⟨m, fun _ => 0, g⟩ (fun r => ∀ c : Dev Cert.DwKvOIdeal.nD,
          r.2.mem ((c.tc : Thread Cert.DwKvOIdeal.nD Cert.DwKvOIdeal.τ).loc Cert.DwKvOIdeal.main_v1) = v0 c
          ∧ r.2.mem ((c.tc : Thread Cert.DwKvOIdeal.nD Cert.DwKvOIdeal.τ).loc Cert.DwKvOIdeal.main_arg0) = m ((c.tc : Thread Cert.DwKvOIdeal.nD Cert.DwKvOIdeal.τ).loc Cert.DwKvOIdeal.main_arg0)
          ∧ r.2.mem ((c.tc : Thread Cert.DwKvOIdeal.nD Cert.DwKvOIdeal.τ).loc Cert.DwKvOIdeal.main_arg1) = m ((c.tc : Thread Cert.DwKvOIdeal.nD Cert.DwKvOIdeal.τ).loc Cert.DwKvOIdeal.main_arg1)
          ∧ r.2.mem ((c.tc : Thread Cert.DwKvOIdeal.nD Cert.DwKvOIdeal.τ).loc Cert.DwKvOIdeal.main_arg2) = m ((c.tc : Thread Cert.DwKvOIdeal.nD Cert.DwKvOIdeal.τ).loc Cert.DwKvOIdeal.main_arg2))
      ∧ θ_run (Cert.DwKvOReferenceIdeal.defs (F := Ideal)) (onTc (τ := Cert.DwKvOReferenceIdeal.τ) (Cert.DwKvOReferenceIdeal.main (F := Ideal))) ⟨m', fun _ => 0, g'⟩ (fun r => ∀ c : Dev Cert.DwKvOReferenceIdeal.nD,
          r.2.mem ((c.tc : Thread Cert.DwKvOReferenceIdeal.nD Cert.DwKvOReferenceIdeal.τ).loc Cert.DwKvOReferenceIdeal.main_v9) = v0 c
          ∧ r.2.mem ((c.tc : Thread Cert.DwKvOReferenceIdeal.nD Cert.DwKvOReferenceIdeal.τ).loc Cert.DwKvOReferenceIdeal.main_arg0) = m' ((c.tc : Thread Cert.DwKvOReferenceIdeal.nD Cert.DwKvOReferenceIdeal.τ).loc Cert.DwKvOReferenceIdeal.main_arg0)
          ∧ r.2.mem ((c.tc : Thread Cert.DwKvOReferenceIdeal.nD Cert.DwKvOReferenceIdeal.τ).loc Cert.DwKvOReferenceIdeal.main_arg1) = m' ((c.tc : Thread Cert.DwKvOReferenceIdeal.nD Cert.DwKvOReferenceIdeal.τ).loc Cert.DwKvOReferenceIdeal.main_arg1)
          ∧ r.2.mem ((c.tc : Thread Cert.DwKvOReferenceIdeal.nD Cert.DwKvOReferenceIdeal.τ).loc Cert.DwKvOReferenceIdeal.main_arg2) = m' ((c.tc : Thread Cert.DwKvOReferenceIdeal.nD Cert.DwKvOReferenceIdeal.τ).loc Cert.DwKvOReferenceIdeal.main_arg2))

def preserves_Adam_AdamIdeal : Prop :=
  True

def algebraic_AdamIdeal_AdamReferenceIdeal [hAdamIdeal : Cert.AdamIdeal.Facts] [hAdamReferenceIdeal : Cert.AdamReferenceIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamIdeal m →
    (∀ c : Dev Cert.AdamIdeal.nD,
      m' ((c.tc : Thread Cert.AdamReferenceIdeal.nD Cert.AdamReferenceIdeal.τ).loc Cert.AdamReferenceIdeal.main_arg0) = m ((c.tc : Thread Cert.AdamIdeal.nD Cert.AdamIdeal.τ).loc Cert.AdamIdeal.main_arg0)
      ∧ m' ((c.tc : Thread Cert.AdamReferenceIdeal.nD Cert.AdamReferenceIdeal.τ).loc Cert.AdamReferenceIdeal.main_arg1) = m ((c.tc : Thread Cert.AdamIdeal.nD Cert.AdamIdeal.τ).loc Cert.AdamIdeal.main_arg1)
      ∧ m' ((c.tc : Thread Cert.AdamReferenceIdeal.nD Cert.AdamReferenceIdeal.τ).loc Cert.AdamReferenceIdeal.main_arg2) = m ((c.tc : Thread Cert.AdamIdeal.nD Cert.AdamIdeal.τ).loc Cert.AdamIdeal.main_arg2)
      ∧ m' ((c.tc : Thread Cert.AdamReferenceIdeal.nD Cert.AdamReferenceIdeal.τ).loc Cert.AdamReferenceIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v3_0)) (v1 : (c : Dev Cert.AdamIdeal.nD) → Buf (Elt Ideal) ((c.tc : Thread Cert.AdamIdeal.nD Cert.AdamIdeal.τ).loc Cert.AdamIdeal.main_v3_1)) (v2 : (c : Dev Cert.AdamIdeal.nD) → Buf (Elt Ideal) ((c.tc : Thread Cert.AdamIdeal.nD Cert.AdamIdeal.τ).loc Cert.AdamIdeal.main_v3_2)) (v3 : (c : Dev Cert.AdamIdeal.nD) → Buf (Elt Ideal) ((c.tc : Thread Cert.AdamIdeal.nD Cert.AdamIdeal.τ).loc Cert.AdamIdeal.main_v3_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v3_0) = v0 c
          ∧ r.2.mem ((c.tc : Thread Cert.AdamIdeal.nD Cert.AdamIdeal.τ).loc Cert.AdamIdeal.main_v3_1) = v1 c
          ∧ r.2.mem ((c.tc : Thread Cert.AdamIdeal.nD Cert.AdamIdeal.τ).loc Cert.AdamIdeal.main_v3_2) = v2 c
          ∧ r.2.mem ((c.tc : Thread Cert.AdamIdeal.nD Cert.AdamIdeal.τ).loc Cert.AdamIdeal.main_v3_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v24) = v0 c
          ∧ r.2.mem ((c.tc : Thread Cert.AdamReferenceIdeal.nD Cert.AdamReferenceIdeal.τ).loc Cert.AdamReferenceIdeal.main_v25) = v1 c
          ∧ r.2.mem ((c.tc : Thread Cert.AdamReferenceIdeal.nD Cert.AdamReferenceIdeal.τ).loc Cert.AdamReferenceIdeal.main_v26) = v2 c
          ∧ r.2.mem ((c.tc : Thread Cert.AdamReferenceIdeal.nD Cert.AdamReferenceIdeal.τ).loc Cert.AdamReferenceIdeal.main_v27) = v3 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3))

def preserves_Sum_SumIdeal : Prop :=
  True

def algebraic_SumIdeal_SumReferenceIdeal [hSumIdeal : Cert.SumIdeal.Facts] [hSumReferenceIdeal : Cert.SumReferenceIdeal.Facts] : Prop :=
  ∀ (m : (ℓ : Loc Cert.SumIdeal.nD Cert.SumIdeal.τ Cert.SumIdeal.sig) → Buf (Elt Ideal) ℓ) (g : Dev Cert.SumIdeal.nD → PrngReg)
    (m' : (ℓ : Loc Cert.SumReferenceIdeal.nD Cert.SumReferenceIdeal.τ Cert.SumReferenceIdeal.sig) → Buf (Elt Ideal) ℓ) (g' : Dev Cert.SumReferenceIdeal.nD → PrngReg), Pre_SumIdeal m →
    (∀ c : Dev Cert.SumIdeal.nD,
      m' ((c.tc : Thread Cert.SumReferenceIdeal.nD Cert.SumReferenceIdeal.τ).loc Cert.SumReferenceIdeal.main_arg0) = m ((c.tc : Thread Cert.SumIdeal.nD Cert.SumIdeal.τ).loc Cert.SumIdeal.main_arg0)) →
    ∃ (v0 : (c : Dev Cert.SumIdeal.nD) → Buf (Elt Ideal) ((c.tc : Thread Cert.SumIdeal.nD Cert.SumIdeal.τ).loc Cert.SumIdeal.main_v0)),
      θ_run (Cert.SumIdeal.defs (F := Ideal)) (onTc (τ := Cert.SumIdeal.τ) (Cert.SumIdeal.main (F := Ideal))) ⟨m, fun _ => 0, g⟩ (fun r => ∀ c : Dev Cert.SumIdeal.nD,
          r.2.mem ((c.tc : Thread Cert.SumIdeal.nD Cert.SumIdeal.τ).loc Cert.SumIdeal.main_v0) = v0 c
          ∧ r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ θ_run (Cert.SumReferenceIdeal.defs (F := Ideal)) (onTc (τ := Cert.SumReferenceIdeal.τ) (Cert.SumReferenceIdeal.main (F := Ideal))) ⟨m', fun _ => 0, g'⟩ (fun r => ∀ c : Dev Cert.SumReferenceIdeal.nD,
          r.2.mem ((c.tc : Thread Cert.SumReferenceIdeal.nD Cert.SumReferenceIdeal.τ).loc Cert.SumReferenceIdeal.main_v0) = v0 c
          ∧ r.2.mem ((c.tc : Thread Cert.SumReferenceIdeal.nD Cert.SumReferenceIdeal.τ).loc Cert.SumReferenceIdeal.main_arg0) = m' ((c.tc : Thread Cert.SumReferenceIdeal.nD Cert.SumReferenceIdeal.τ).loc Cert.SumReferenceIdeal.main_arg0))

def preserves_AdamO_AdamOIdeal : Prop :=
  True

def algebraic_AdamOIdeal_AdamOReferenceIdeal [hAdamOIdeal : Cert.AdamOIdeal.Facts] [hAdamOReferenceIdeal : Cert.AdamOReferenceIdeal.Facts] : Prop :=
  ∀ (m : (ℓ : Loc Cert.AdamOIdeal.nD Cert.AdamOIdeal.τ Cert.AdamOIdeal.sig) → Buf (Elt Ideal) ℓ) (g : Dev Cert.AdamOIdeal.nD → PrngReg)
    (m' : (ℓ : Loc Cert.AdamOReferenceIdeal.nD Cert.AdamOReferenceIdeal.τ Cert.AdamOReferenceIdeal.sig) → Buf (Elt Ideal) ℓ) (g' : Dev Cert.AdamOReferenceIdeal.nD → PrngReg), Pre_AdamOIdeal m →
    (∀ c : Dev Cert.AdamOIdeal.nD,
      m' ((c.tc : Thread Cert.AdamOReferenceIdeal.nD Cert.AdamOReferenceIdeal.τ).loc Cert.AdamOReferenceIdeal.main_arg0) = m ((c.tc : Thread Cert.AdamOIdeal.nD Cert.AdamOIdeal.τ).loc Cert.AdamOIdeal.main_arg0)
      ∧ m' ((c.tc : Thread Cert.AdamOReferenceIdeal.nD Cert.AdamOReferenceIdeal.τ).loc Cert.AdamOReferenceIdeal.main_arg1) = m ((c.tc : Thread Cert.AdamOIdeal.nD Cert.AdamOIdeal.τ).loc Cert.AdamOIdeal.main_arg1)
      ∧ m' ((c.tc : Thread Cert.AdamOReferenceIdeal.nD Cert.AdamOReferenceIdeal.τ).loc Cert.AdamOReferenceIdeal.main_arg2) = m ((c.tc : Thread Cert.AdamOIdeal.nD Cert.AdamOIdeal.τ).loc Cert.AdamOIdeal.main_arg2)
      ∧ m' ((c.tc : Thread Cert.AdamOReferenceIdeal.nD Cert.AdamOReferenceIdeal.τ).loc Cert.AdamOReferenceIdeal.main_arg3) = m ((c.tc : Thread Cert.AdamOIdeal.nD Cert.AdamOIdeal.τ).loc Cert.AdamOIdeal.main_arg3)
      ∧ m' ((c.tc : Thread Cert.AdamOReferenceIdeal.nD Cert.AdamOReferenceIdeal.τ).loc Cert.AdamOReferenceIdeal.main_arg4) = m ((c.tc : Thread Cert.AdamOIdeal.nD Cert.AdamOIdeal.τ).loc Cert.AdamOIdeal.main_arg4)) →
    ∃ (v0 : (c : Dev Cert.AdamOIdeal.nD) → Buf (Elt Ideal) ((c.tc : Thread Cert.AdamOIdeal.nD Cert.AdamOIdeal.τ).loc Cert.AdamOIdeal.main_v1_0)) (v1 : (c : Dev Cert.AdamOIdeal.nD) → Buf (Elt Ideal) ((c.tc : Thread Cert.AdamOIdeal.nD Cert.AdamOIdeal.τ).loc Cert.AdamOIdeal.main_v1_1)) (v2 : (c : Dev Cert.AdamOIdeal.nD) → Buf (Elt Ideal) ((c.tc : Thread Cert.AdamOIdeal.nD Cert.AdamOIdeal.τ).loc Cert.AdamOIdeal.main_v1_2)) (v3 : (c : Dev Cert.AdamOIdeal.nD) → Buf (Elt Ideal) ((c.tc : Thread Cert.AdamOIdeal.nD Cert.AdamOIdeal.τ).loc Cert.AdamOIdeal.main_v1_3)),
      θ_run (Cert.AdamOIdeal.defs (F := Ideal)) (onTc (τ := Cert.AdamOIdeal.τ) (Cert.AdamOIdeal.main (F := Ideal))) ⟨m, fun _ => 0, g⟩ (fun r => ∀ c : Dev Cert.AdamOIdeal.nD,
          r.2.mem ((c.tc : Thread Cert.AdamOIdeal.nD Cert.AdamOIdeal.τ).loc Cert.AdamOIdeal.main_v1_0) = v0 c
          ∧ r.2.mem ((c.tc : Thread Cert.AdamOIdeal.nD Cert.AdamOIdeal.τ).loc Cert.AdamOIdeal.main_v1_1) = v1 c
          ∧ r.2.mem ((c.tc : Thread Cert.AdamOIdeal.nD Cert.AdamOIdeal.τ).loc Cert.AdamOIdeal.main_v1_2) = v2 c
          ∧ r.2.mem ((c.tc : Thread Cert.AdamOIdeal.nD Cert.AdamOIdeal.τ).loc Cert.AdamOIdeal.main_v1_3) = v3 c
          ∧ r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
          ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
          ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
          ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3)
          ∧ r.2.mem ((c.tc : Thread Cert.AdamOIdeal.nD Cert.AdamOIdeal.τ).loc Cert.AdamOIdeal.main_arg4) = m ((c.tc : Thread Cert.AdamOIdeal.nD Cert.AdamOIdeal.τ).loc Cert.AdamOIdeal.main_arg4))
      ∧ θ_run (Cert.AdamOReferenceIdeal.defs (F := Ideal)) (onTc (τ := Cert.AdamOReferenceIdeal.τ) (Cert.AdamOReferenceIdeal.main (F := Ideal))) ⟨m', fun _ => 0, g'⟩ (fun r => ∀ c : Dev Cert.AdamOReferenceIdeal.nD,
          r.2.mem ((c.tc : Thread Cert.AdamOReferenceIdeal.nD Cert.AdamOReferenceIdeal.τ).loc Cert.AdamOReferenceIdeal.main_v2) = v0 c
          ∧ r.2.mem ((c.tc : Thread Cert.AdamOReferenceIdeal.nD Cert.AdamOReferenceIdeal.τ).loc Cert.AdamOReferenceIdeal.main_v26) = v1 c
          ∧ r.2.mem ((c.tc : Thread Cert.AdamOReferenceIdeal.nD Cert.AdamOReferenceIdeal.τ).loc Cert.AdamOReferenceIdeal.main_v7) = v2 c
          ∧ r.2.mem ((c.tc : Thread Cert.AdamOReferenceIdeal.nD Cert.AdamOReferenceIdeal.τ).loc Cert.AdamOReferenceIdeal.main_v13) = v3 c
          ∧ r.2.mem ((c.tc : Thread Cert.AdamOReferenceIdeal.nD Cert.AdamOReferenceIdeal.τ).loc Cert.AdamOReferenceIdeal.main_arg0) = m' ((c.tc : Thread Cert.AdamOReferenceIdeal.nD Cert.AdamOReferenceIdeal.τ).loc Cert.AdamOReferenceIdeal.main_arg0)
          ∧ r.2.mem ((c.tc : Thread Cert.AdamOReferenceIdeal.nD Cert.AdamOReferenceIdeal.τ).loc Cert.AdamOReferenceIdeal.main_arg1) = m' ((c.tc : Thread Cert.AdamOReferenceIdeal.nD Cert.AdamOReferenceIdeal.τ).loc Cert.AdamOReferenceIdeal.main_arg1)
          ∧ r.2.mem ((c.tc : Thread Cert.AdamOReferenceIdeal.nD Cert.AdamOReferenceIdeal.τ).loc Cert.AdamOReferenceIdeal.main_arg2) = m' ((c.tc : Thread Cert.AdamOReferenceIdeal.nD Cert.AdamOReferenceIdeal.τ).loc Cert.AdamOReferenceIdeal.main_arg2)
          ∧ r.2.mem ((c.tc : Thread Cert.AdamOReferenceIdeal.nD Cert.AdamOReferenceIdeal.τ).loc Cert.AdamOReferenceIdeal.main_arg3) = m' ((c.tc : Thread Cert.AdamOReferenceIdeal.nD Cert.AdamOReferenceIdeal.τ).loc Cert.AdamOReferenceIdeal.main_arg3)
          ∧ r.2.mem ((c.tc : Thread Cert.AdamOReferenceIdeal.nD Cert.AdamOReferenceIdeal.τ).loc Cert.AdamOReferenceIdeal.main_arg4) = m' ((c.tc : Thread Cert.AdamOReferenceIdeal.nD Cert.AdamOReferenceIdeal.τ).loc Cert.AdamOReferenceIdeal.main_arg4))

def preserves_AdamUp_AdamUpIdeal : Prop :=
  True

def algebraic_AdamUpIdeal_AdamUpReferenceIdeal [hAdamUpIdeal : Cert.AdamUpIdeal.Facts] [hAdamUpReferenceIdeal : Cert.AdamUpReferenceIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpReferenceIdeal.nD Cert.AdamUpReferenceIdeal.τ Cert.AdamUpReferenceIdeal.sig) → Buf (Elt Ideal) ℓ) (g' : Dev Cert.AdamUpReferenceIdeal.nD → PrngReg), Pre_AdamUpIdeal m →
    (∀ c : Dev Cert.AdamUpIdeal.nD,
      m' ((c.tc : Thread Cert.AdamUpReferenceIdeal.nD Cert.AdamUpReferenceIdeal.τ).loc Cert.AdamUpReferenceIdeal.main_arg0) = m ((c.tc : Thread Cert.AdamUpIdeal.nD Cert.AdamUpIdeal.τ).loc Cert.AdamUpIdeal.main_arg0)
      ∧ m' ((c.tc : Thread Cert.AdamUpReferenceIdeal.nD Cert.AdamUpReferenceIdeal.τ).loc Cert.AdamUpReferenceIdeal.main_arg1) = m ((c.tc : Thread Cert.AdamUpIdeal.nD Cert.AdamUpIdeal.τ).loc Cert.AdamUpIdeal.main_arg1)
      ∧ m' ((c.tc : Thread Cert.AdamUpReferenceIdeal.nD Cert.AdamUpReferenceIdeal.τ).loc Cert.AdamUpReferenceIdeal.main_arg2) = m ((c.tc : Thread Cert.AdamUpIdeal.nD Cert.AdamUpIdeal.τ).loc Cert.AdamUpIdeal.main_arg2)
      ∧ m' ((c.tc : Thread Cert.AdamUpReferenceIdeal.nD Cert.AdamUpReferenceIdeal.τ).loc Cert.AdamUpReferenceIdeal.main_arg3) = m ((c.tc : Thread Cert.AdamUpIdeal.nD Cert.AdamUpIdeal.τ).loc Cert.AdamUpIdeal.main_arg3)
      ∧ m' ((c.tc : Thread Cert.AdamUpReferenceIdeal.nD Cert.AdamUpReferenceIdeal.τ).loc Cert.AdamUpReferenceIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v1_0)) (v1 : (c : Dev Cert.AdamUpIdeal.nD) → Buf (Elt Ideal) ((c.tc : Thread Cert.AdamUpIdeal.nD Cert.AdamUpIdeal.τ).loc Cert.AdamUpIdeal.main_v1_1)) (v2 : (c : Dev Cert.AdamUpIdeal.nD) → Buf (Elt Ideal) ((c.tc : Thread Cert.AdamUpIdeal.nD Cert.AdamUpIdeal.τ).loc Cert.AdamUpIdeal.main_v1_2)) (v3 : (c : Dev Cert.AdamUpIdeal.nD) → Buf (Elt Ideal) ((c.tc : Thread Cert.AdamUpIdeal.nD Cert.AdamUpIdeal.τ).loc Cert.AdamUpIdeal.main_v1_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v1_0) = v0 c
          ∧ r.2.mem ((c.tc : Thread Cert.AdamUpIdeal.nD Cert.AdamUpIdeal.τ).loc Cert.AdamUpIdeal.main_v1_1) = v1 c
          ∧ r.2.mem ((c.tc : Thread Cert.AdamUpIdeal.nD Cert.AdamUpIdeal.τ).loc Cert.AdamUpIdeal.main_v1_2) = v2 c
          ∧ r.2.mem ((c.tc : Thread Cert.AdamUpIdeal.nD Cert.AdamUpIdeal.τ).loc Cert.AdamUpIdeal.main_v1_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.AdamUpReferenceIdeal.defs (F := Ideal)) (onTc (τ := Cert.AdamUpReferenceIdeal.τ) (Cert.AdamUpReferenceIdeal.main (F := Ideal))) ⟨m', fun _ => 0, g'⟩ (fun r => ∀ c : Dev Cert.AdamUpReferenceIdeal.nD,
          r.2.mem ((c.tc : Thread Cert.AdamUpReferenceIdeal.nD Cert.AdamUpReferenceIdeal.τ).loc Cert.AdamUpReferenceIdeal.main_v2) = v0 c
          ∧ r.2.mem ((c.tc : Thread Cert.AdamUpReferenceIdeal.nD Cert.AdamUpReferenceIdeal.τ).loc Cert.AdamUpReferenceIdeal.main_v26) = v1 c
          ∧ r.2.mem ((c.tc : Thread Cert.AdamUpReferenceIdeal.nD Cert.AdamUpReferenceIdeal.τ).loc Cert.AdamUpReferenceIdeal.main_v7) = v2 c
          ∧ r.2.mem ((c.tc : Thread Cert.AdamUpReferenceIdeal.nD Cert.AdamUpReferenceIdeal.τ).loc Cert.AdamUpReferenceIdeal.main_v13) = v3 c
          ∧ r.2.mem ((c.tc : Thread Cert.AdamUpReferenceIdeal.nD Cert.AdamUpReferenceIdeal.τ).loc Cert.AdamUpReferenceIdeal.main_arg0) = m' ((c.tc : Thread Cert.AdamUpReferenceIdeal.nD Cert.AdamUpReferenceIdeal.τ).loc Cert.AdamUpReferenceIdeal.main_arg0)
          ∧ r.2.mem ((c.tc : Thread Cert.AdamUpReferenceIdeal.nD Cert.AdamUpReferenceIdeal.τ).loc Cert.AdamUpReferenceIdeal.main_arg1) = m' ((c.tc : Thread Cert.AdamUpReferenceIdeal.nD Cert.AdamUpReferenceIdeal.τ).loc Cert.AdamUpReferenceIdeal.main_arg1)
          ∧ r.2.mem ((c.tc : Thread Cert.AdamUpReferenceIdeal.nD Cert.AdamUpReferenceIdeal.τ).loc Cert.AdamUpReferenceIdeal.main_arg2) = m' ((c.tc : Thread Cert.AdamUpReferenceIdeal.nD Cert.AdamUpReferenceIdeal.τ).loc Cert.AdamUpReferenceIdeal.main_arg2)
          ∧ r.2.mem ((c.tc : Thread Cert.AdamUpReferenceIdeal.nD Cert.AdamUpReferenceIdeal.τ).loc Cert.AdamUpReferenceIdeal.main_arg3) = m' ((c.tc : Thread Cert.AdamUpReferenceIdeal.nD Cert.AdamUpReferenceIdeal.τ).loc Cert.AdamUpReferenceIdeal.main_arg3)
          ∧ r.2.mem ((c.tc : Thread Cert.AdamUpReferenceIdeal.nD Cert.AdamUpReferenceIdeal.τ).loc Cert.AdamUpReferenceIdeal.main_arg4) = m' ((c.tc : Thread Cert.AdamUpReferenceIdeal.nD Cert.AdamUpReferenceIdeal.τ).loc Cert.AdamUpReferenceIdeal.main_arg4))

def preserves_AdamBr_AdamBrIdeal : Prop :=
  True

def algebraic_AdamBrIdeal_AdamBrReferenceIdeal [hAdamBrIdeal : Cert.AdamBrIdeal.Facts] [hAdamBrReferenceIdeal : Cert.AdamBrReferenceIdeal.Facts] : Prop :=
  ∀ (m : (ℓ : Loc Cert.AdamBrIdeal.nD Cert.AdamBrIdeal.τ Cert.AdamBrIdeal.sig) → Buf (Elt Ideal) ℓ) (g : Dev Cert.AdamBrIdeal.nD → PrngReg)
    (m' : (ℓ : Loc Cert.AdamBrReferenceIdeal.nD Cert.AdamBrReferenceIdeal.τ Cert.AdamBrReferenceIdeal.sig) → Buf (Elt Ideal) ℓ) (g' : Dev Cert.AdamBrReferenceIdeal.nD → PrngReg), Pre_AdamBrIdeal m →
    (∀ c : Dev Cert.AdamBrIdeal.nD,
      m' ((c.tc : Thread Cert.AdamBrReferenceIdeal.nD Cert.AdamBrReferenceIdeal.τ).loc Cert.AdamBrReferenceIdeal.main_arg0) = m ((c.tc : Thread Cert.AdamBrIdeal.nD Cert.AdamBrIdeal.τ).loc Cert.AdamBrIdeal.main_arg0)
      ∧ m' ((c.tc : Thread Cert.AdamBrReferenceIdeal.nD Cert.AdamBrReferenceIdeal.τ).loc Cert.AdamBrReferenceIdeal.main_arg1) = m ((c.tc : Thread Cert.AdamBrIdeal.nD Cert.AdamBrIdeal.τ).loc Cert.AdamBrIdeal.main_arg1)
      ∧ m' ((c.tc : Thread Cert.AdamBrReferenceIdeal.nD Cert.AdamBrReferenceIdeal.τ).loc Cert.AdamBrReferenceIdeal.main_arg2) = m ((c.tc : Thread Cert.AdamBrIdeal.nD Cert.AdamBrIdeal.τ).loc Cert.AdamBrIdeal.main_arg2)
      ∧ m' ((c.tc : Thread Cert.AdamBrReferenceIdeal.nD Cert.AdamBrReferenceIdeal.τ).loc Cert.AdamBrReferenceIdeal.main_arg3) = m ((c.tc : Thread Cert.AdamBrIdeal.nD Cert.AdamBrIdeal.τ).loc Cert.AdamBrIdeal.main_arg3)
      ∧ m' ((c.tc : Thread Cert.AdamBrReferenceIdeal.nD Cert.AdamBrReferenceIdeal.τ).loc Cert.AdamBrReferenceIdeal.main_arg4) = m ((c.tc : Thread Cert.AdamBrIdeal.nD Cert.AdamBrIdeal.τ).loc Cert.AdamBrIdeal.main_arg4)) →
    ∃ (v0 : (c : Dev Cert.AdamBrIdeal.nD) → Buf (Elt Ideal) ((c.tc : Thread Cert.AdamBrIdeal.nD Cert.AdamBrIdeal.τ).loc Cert.AdamBrIdeal.main_v1_0)) (v1 : (c : Dev Cert.AdamBrIdeal.nD) → Buf (Elt Ideal) ((c.tc : Thread Cert.AdamBrIdeal.nD Cert.AdamBrIdeal.τ).loc Cert.AdamBrIdeal.main_v1_1)) (v2 : (c : Dev Cert.AdamBrIdeal.nD) → Buf (Elt Ideal) ((c.tc : Thread Cert.AdamBrIdeal.nD Cert.AdamBrIdeal.τ).loc Cert.AdamBrIdeal.main_v1_2)) (v3 : (c : Dev Cert.AdamBrIdeal.nD) → Buf (Elt Ideal) ((c.tc : Thread Cert.AdamBrIdeal.nD Cert.AdamBrIdeal.τ).loc Cert.AdamBrIdeal.main_v1_3)),
      θ_run (Cert.AdamBrIdeal.defs (F := Ideal)) (onTc (τ := Cert.AdamBrIdeal.τ) (Cert.AdamBrIdeal.main (F := Ideal))) ⟨m, fun _ => 0, g⟩ (fun r => ∀ c : Dev Cert.AdamBrIdeal.nD,
          r.2.mem ((c.tc : Thread Cert.AdamBrIdeal.nD Cert.AdamBrIdeal.τ).loc Cert.AdamBrIdeal.main_v1_0) = v0 c
          ∧ r.2.mem ((c.tc : Thread Cert.AdamBrIdeal.nD Cert.AdamBrIdeal.τ).loc Cert.AdamBrIdeal.main_v1_1) = v1 c
          ∧ r.2.mem ((c.tc : Thread Cert.AdamBrIdeal.nD Cert.AdamBrIdeal.τ).loc Cert.AdamBrIdeal.main_v1_2) = v2 c
          ∧ r.2.mem ((c.tc : Thread Cert.AdamBrIdeal.nD Cert.AdamBrIdeal.τ).loc Cert.AdamBrIdeal.main_v1_3) = v3 c
          ∧ r.2.mem ((c.tc : Thread Cert.AdamBrIdeal.nD Cert.AdamBrIdeal.τ).loc Cert.AdamBrIdeal.main_arg0) = m ((c.tc : Thread Cert.AdamBrIdeal.nD Cert.AdamBrIdeal.τ).loc Cert.AdamBrIdeal.main_arg0)
          ∧ r.2.mem ((c.tc : Thread Cert.AdamBrIdeal.nD Cert.AdamBrIdeal.τ).loc Cert.AdamBrIdeal.main_arg1) = m ((c.tc : Thread Cert.AdamBrIdeal.nD Cert.AdamBrIdeal.τ).loc Cert.AdamBrIdeal.main_arg1)
          ∧ r.2.mem ((c.tc : Thread Cert.AdamBrIdeal.nD Cert.AdamBrIdeal.τ).loc Cert.AdamBrIdeal.main_arg2) = m ((c.tc : Thread Cert.AdamBrIdeal.nD Cert.AdamBrIdeal.τ).loc Cert.AdamBrIdeal.main_arg2)
          ∧ r.2.mem ((c.tc : Thread Cert.AdamBrIdeal.nD Cert.AdamBrIdeal.τ).loc Cert.AdamBrIdeal.main_arg3) = m ((c.tc : Thread Cert.AdamBrIdeal.nD Cert.AdamBrIdeal.τ).loc Cert.AdamBrIdeal.main_arg3)
          ∧ r.2.mem ((c.tc : Thread Cert.AdamBrIdeal.nD Cert.AdamBrIdeal.τ).loc Cert.AdamBrIdeal.main_arg4) = m ((c.tc : Thread Cert.AdamBrIdeal.nD Cert.AdamBrIdeal.τ).loc Cert.AdamBrIdeal.main_arg4))
      ∧ θ_run (Cert.AdamBrReferenceIdeal.defs (F := Ideal)) (onTc (τ := Cert.AdamBrReferenceIdeal.τ) (Cert.AdamBrReferenceIdeal.main (F := Ideal))) ⟨m', fun _ => 0, g'⟩ (fun r => ∀ c : Dev Cert.AdamBrReferenceIdeal.nD,
          r.2.mem ((c.tc : Thread Cert.AdamBrReferenceIdeal.nD Cert.AdamBrReferenceIdeal.τ).loc Cert.AdamBrReferenceIdeal.main_v2) = v0 c
          ∧ r.2.mem ((c.tc : Thread Cert.AdamBrReferenceIdeal.nD Cert.AdamBrReferenceIdeal.τ).loc Cert.AdamBrReferenceIdeal.main_v26) = v1 c
          ∧ r.2.mem ((c.tc : Thread Cert.AdamBrReferenceIdeal.nD Cert.AdamBrReferenceIdeal.τ).loc Cert.AdamBrReferenceIdeal.main_v7) = v2 c
          ∧ r.2.mem ((c.tc : Thread Cert.AdamBrReferenceIdeal.nD Cert.AdamBrReferenceIdeal.τ).loc Cert.AdamBrReferenceIdeal.main_v13) = v3 c
          ∧ r.2.mem ((c.tc : Thread Cert.AdamBrReferenceIdeal.nD Cert.AdamBrReferenceIdeal.τ).loc Cert.AdamBrReferenceIdeal.main_arg0) = m' ((c.tc : Thread Cert.AdamBrReferenceIdeal.nD Cert.AdamBrReferenceIdeal.τ).loc Cert.AdamBrReferenceIdeal.main_arg0)
          ∧ r.2.mem ((c.tc : Thread Cert.AdamBrReferenceIdeal.nD Cert.AdamBrReferenceIdeal.τ).loc Cert.AdamBrReferenceIdeal.main_arg1) = m' ((c.tc : Thread Cert.AdamBrReferenceIdeal.nD Cert.AdamBrReferenceIdeal.τ).loc Cert.AdamBrReferenceIdeal.main_arg1)
          ∧ r.2.mem ((c.tc : Thread Cert.AdamBrReferenceIdeal.nD Cert.AdamBrReferenceIdeal.τ).loc Cert.AdamBrReferenceIdeal.main_arg2) = m' ((c.tc : Thread Cert.AdamBrReferenceIdeal.nD Cert.AdamBrReferenceIdeal.τ).loc Cert.AdamBrReferenceIdeal.main_arg2)
          ∧ r.2.mem ((c.tc : Thread Cert.AdamBrReferenceIdeal.nD Cert.AdamBrReferenceIdeal.τ).loc Cert.AdamBrReferenceIdeal.main_arg3) = m' ((c.tc : Thread Cert.AdamBrReferenceIdeal.nD Cert.AdamBrReferenceIdeal.τ).loc Cert.AdamBrReferenceIdeal.main_arg3)
          ∧ r.2.mem ((c.tc : Thread Cert.AdamBrReferenceIdeal.nD Cert.AdamBrReferenceIdeal.τ).loc Cert.AdamBrReferenceIdeal.main_arg4) = m' ((c.tc : Thread Cert.AdamBrReferenceIdeal.nD Cert.AdamBrReferenceIdeal.τ).loc Cert.AdamBrReferenceIdeal.main_arg4))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)
      ∧ m' ((c.tc : Thread Cert.AdamInReferenceIdeal.nD Cert.AdamInReferenceIdeal.τ).loc Cert.AdamInReferenceIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v1_0)) (v1 : (c : Dev Cert.AdamInIdeal.nD) → Buf (Elt Ideal) ((c.tc : Thread Cert.AdamInIdeal.nD Cert.AdamInIdeal.τ).loc Cert.AdamInIdeal.main_v1_1)) (v2 : (c : Dev Cert.AdamInIdeal.nD) → Buf (Elt Ideal) ((c.tc : Thread Cert.AdamInIdeal.nD Cert.AdamInIdeal.τ).loc Cert.AdamInIdeal.main_v1_2)) (v3 : (c : Dev Cert.AdamInIdeal.nD) → Buf (Elt Ideal) ((c.tc : Thread Cert.AdamInIdeal.nD Cert.AdamInIdeal.τ).loc Cert.AdamInIdeal.main_v1_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v1_0) = v0 c
          ∧ r.2.mem ((c.tc : Thread Cert.AdamInIdeal.nD Cert.AdamInIdeal.τ).loc Cert.AdamInIdeal.main_v1_1) = v1 c
          ∧ r.2.mem ((c.tc : Thread Cert.AdamInIdeal.nD Cert.AdamInIdeal.τ).loc Cert.AdamInIdeal.main_v1_2) = v2 c
          ∧ r.2.mem ((c.tc : Thread Cert.AdamInIdeal.nD Cert.AdamInIdeal.τ).loc Cert.AdamInIdeal.main_v1_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v2) = v0 c
          ∧ r.2.mem ((c.tc : Thread Cert.AdamInReferenceIdeal.nD Cert.AdamInReferenceIdeal.τ).loc Cert.AdamInReferenceIdeal.main_v26) = v1 c
          ∧ r.2.mem ((c.tc : Thread Cert.AdamInReferenceIdeal.nD Cert.AdamInReferenceIdeal.τ).loc Cert.AdamInReferenceIdeal.main_v7) = v2 c
          ∧ r.2.mem ((c.tc : Thread Cert.AdamInReferenceIdeal.nD Cert.AdamInReferenceIdeal.τ).loc Cert.AdamInReferenceIdeal.main_v13) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3)
          ∧ r.2.mem ((c.tc : Thread Cert.AdamInReferenceIdeal.nD Cert.AdamInReferenceIdeal.τ).loc Cert.AdamInReferenceIdeal.main_arg4) = m' ((c.tc : Thread Cert.AdamInReferenceIdeal.nD Cert.AdamInReferenceIdeal.τ).loc Cert.AdamInReferenceIdeal.main_arg4))

def preserves_AdamKv_AdamKvIdeal : Prop :=
  True

def algebraic_AdamKvIdeal_AdamKvReferenceIdeal [hAdamKvIdeal : Cert.AdamKvIdeal.Facts] [hAdamKvReferenceIdeal : Cert.AdamKvReferenceIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvReferenceIdeal.nD Cert.AdamKvReferenceIdeal.τ Cert.AdamKvReferenceIdeal.sig) → Buf (Elt Ideal) ℓ) (g' : Dev Cert.AdamKvReferenceIdeal.nD → PrngReg), Pre_AdamKvIdeal m →
    (∀ c : Dev Cert.AdamKvIdeal.nD,
      m' ((c.tc : Thread Cert.AdamKvReferenceIdeal.nD Cert.AdamKvReferenceIdeal.τ).loc Cert.AdamKvReferenceIdeal.main_arg0) = m ((c.tc : Thread Cert.AdamKvIdeal.nD Cert.AdamKvIdeal.τ).loc Cert.AdamKvIdeal.main_arg0)
      ∧ m' ((c.tc : Thread Cert.AdamKvReferenceIdeal.nD Cert.AdamKvReferenceIdeal.τ).loc Cert.AdamKvReferenceIdeal.main_arg1) = m ((c.tc : Thread Cert.AdamKvIdeal.nD Cert.AdamKvIdeal.τ).loc Cert.AdamKvIdeal.main_arg1)
      ∧ m' ((c.tc : Thread Cert.AdamKvReferenceIdeal.nD Cert.AdamKvReferenceIdeal.τ).loc Cert.AdamKvReferenceIdeal.main_arg2) = m ((c.tc : Thread Cert.AdamKvIdeal.nD Cert.AdamKvIdeal.τ).loc Cert.AdamKvIdeal.main_arg2)
      ∧ m' ((c.tc : Thread Cert.AdamKvReferenceIdeal.nD Cert.AdamKvReferenceIdeal.τ).loc Cert.AdamKvReferenceIdeal.main_arg3) = m ((c.tc : Thread Cert.AdamKvIdeal.nD Cert.AdamKvIdeal.τ).loc Cert.AdamKvIdeal.main_arg3)
      ∧ m' ((c.tc : Thread Cert.AdamKvReferenceIdeal.nD Cert.AdamKvReferenceIdeal.τ).loc Cert.AdamKvReferenceIdeal.main_arg4) = m ((c.tc : Thread Cert.AdamKvIdeal.nD Cert.AdamKvIdeal.τ).loc Cert.AdamKvIdeal.main_arg4)) →
    ∃ (v0 : (c : Dev Cert.AdamKvIdeal.nD) → Buf (Elt Ideal) ((c.tc : Thread Cert.AdamKvIdeal.nD Cert.AdamKvIdeal.τ).loc Cert.AdamKvIdeal.main_v1_0)) (v1 : (c : Dev Cert.AdamKvIdeal.nD) → Buf (Elt Ideal) ((c.tc : Thread Cert.AdamKvIdeal.nD Cert.AdamKvIdeal.τ).loc Cert.AdamKvIdeal.main_v1_1)) (v2 : (c : Dev Cert.AdamKvIdeal.nD) → Buf (Elt Ideal) ((c.tc : Thread Cert.AdamKvIdeal.nD Cert.AdamKvIdeal.τ).loc Cert.AdamKvIdeal.main_v1_2)) (v3 : (c : Dev Cert.AdamKvIdeal.nD) → Buf (Elt Ideal) ((c.tc : Thread Cert.AdamKvIdeal.nD Cert.AdamKvIdeal.τ).loc Cert.AdamKvIdeal.main_v1_3)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v1_0) = v0 c
          ∧ r.2.mem ((c.tc : Thread Cert.AdamKvIdeal.nD Cert.AdamKvIdeal.τ).loc Cert.AdamKvIdeal.main_v1_1) = v1 c
          ∧ r.2.mem ((c.tc : Thread Cert.AdamKvIdeal.nD Cert.AdamKvIdeal.τ).loc Cert.AdamKvIdeal.main_v1_2) = v2 c
          ∧ r.2.mem ((c.tc : Thread Cert.AdamKvIdeal.nD Cert.AdamKvIdeal.τ).loc Cert.AdamKvIdeal.main_v1_3) = v3 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3)
          ∧ r.2.mem ((c.tc : Thread Cert.AdamKvIdeal.nD Cert.AdamKvIdeal.τ).loc Cert.AdamKvIdeal.main_arg4) = m ((c.tc : Thread Cert.AdamKvIdeal.nD Cert.AdamKvIdeal.τ).loc Cert.AdamKvIdeal.main_arg4))
      ∧ θ_run (Cert.AdamKvReferenceIdeal.defs (F := Ideal)) (onTc (τ := Cert.AdamKvReferenceIdeal.τ) (Cert.AdamKvReferenceIdeal.main (F := Ideal))) ⟨m', fun _ => 0, g'⟩ (fun r => ∀ c : Dev Cert.AdamKvReferenceIdeal.nD,
          r.2.mem ((c.tc : Thread Cert.AdamKvReferenceIdeal.nD Cert.AdamKvReferenceIdeal.τ).loc Cert.AdamKvReferenceIdeal.main_v2) = v0 c
          ∧ r.2.mem ((c.tc : Thread Cert.AdamKvReferenceIdeal.nD Cert.AdamKvReferenceIdeal.τ).loc Cert.AdamKvReferenceIdeal.main_v26) = v1 c
          ∧ r.2.mem ((c.tc : Thread Cert.AdamKvReferenceIdeal.nD Cert.AdamKvReferenceIdeal.τ).loc Cert.AdamKvReferenceIdeal.main_v7) = v2 c
          ∧ r.2.mem ((c.tc : Thread Cert.AdamKvReferenceIdeal.nD Cert.AdamKvReferenceIdeal.τ).loc Cert.AdamKvReferenceIdeal.main_v13) = v3 c
          ∧ r.2.mem ((c.tc : Thread Cert.AdamKvReferenceIdeal.nD Cert.AdamKvReferenceIdeal.τ).loc Cert.AdamKvReferenceIdeal.main_arg0) = m' ((c.tc : Thread Cert.AdamKvReferenceIdeal.nD Cert.AdamKvReferenceIdeal.τ).loc Cert.AdamKvReferenceIdeal.main_arg0)
          ∧ r.2.mem ((c.tc : Thread Cert.AdamKvReferenceIdeal.nD Cert.AdamKvReferenceIdeal.τ).loc Cert.AdamKvReferenceIdeal.main_arg1) = m' ((c.tc : Thread Cert.AdamKvReferenceIdeal.nD Cert.AdamKvReferenceIdeal.τ).loc Cert.AdamKvReferenceIdeal.main_arg1)
          ∧ r.2.mem ((c.tc : Thread Cert.AdamKvReferenceIdeal.nD Cert.AdamKvReferenceIdeal.τ).loc Cert.AdamKvReferenceIdeal.main_arg2) = m' ((c.tc : Thread Cert.AdamKvReferenceIdeal.nD Cert.AdamKvReferenceIdeal.τ).loc Cert.AdamKvReferenceIdeal.main_arg2)
          ∧ r.2.mem ((c.tc : Thread Cert.AdamKvReferenceIdeal.nD Cert.AdamKvReferenceIdeal.τ).loc Cert.AdamKvReferenceIdeal.main_arg3) = m' ((c.tc : Thread Cert.AdamKvReferenceIdeal.nD Cert.AdamKvReferenceIdeal.τ).loc Cert.AdamKvReferenceIdeal.main_arg3)
          ∧ r.2.mem ((c.tc : Thread Cert.AdamKvReferenceIdeal.nD Cert.AdamKvReferenceIdeal.τ).loc Cert.AdamKvReferenceIdeal.main_arg4) = m' ((c.tc : Thread Cert.AdamKvReferenceIdeal.nD Cert.AdamKvReferenceIdeal.τ).loc Cert.AdamKvReferenceIdeal.main_arg4))

def preserves_AdamXq_AdamXqIdeal : Prop :=
  True

def algebraic_AdamXqIdeal_AdamXqReferenceIdeal [hAdamXqIdeal : Cert.AdamXqIdeal.Facts] [hAdamXqReferenceIdeal : Cert.AdamXqReferenceIdeal.Facts] : Prop :=
  ∀ (m : (ℓ : Loc Cert.AdamXqIdeal.nD Cert.AdamXqIdeal.τ Cert.AdamXqIdeal.sig) → Buf (Elt Ideal) ℓ) (g : Dev Cert.AdamXqIdeal.nD → PrngReg)
    (m' : (ℓ : Loc Cert.AdamXqReferenceIdeal.nD Cert.AdamXqReferenceIdeal.τ Cert.AdamXqReferenceIdeal.sig) → Buf (Elt Ideal) ℓ) (g' : Dev Cert.AdamXqReferenceIdeal.nD → PrngReg), Pre_AdamXqIdeal m →
    (∀ c : Dev Cert.AdamXqIdeal.nD,
      m' ((c.tc : Thread Cert.AdamXqReferenceIdeal.nD Cert.AdamXqReferenceIdeal.τ).loc Cert.AdamXqReferenceIdeal.main_arg0) = m ((c.tc : Thread Cert.AdamXqIdeal.nD Cert.AdamXqIdeal.τ).loc Cert.AdamXqIdeal.main_arg0)
      ∧ m' ((c.tc : Thread Cert.AdamXqReferenceIdeal.nD Cert.AdamXqReferenceIdeal.τ).loc Cert.AdamXqReferenceIdeal.main_arg1) = m ((c.tc : Thread Cert.AdamXqIdeal.nD Cert.AdamXqIdeal.τ).loc Cert.AdamXqIdeal.main_arg1)
      ∧ m' ((c.tc : Thread Cert.AdamXqReferenceIdeal.nD Cert.AdamXqReferenceIdeal.τ).loc Cert.AdamXqReferenceIdeal.main_arg2) = m ((c.tc : Thread Cert.AdamXqIdeal.nD Cert.AdamXqIdeal.τ).loc Cert.AdamXqIdeal.main_arg2)
      ∧ m' ((c.tc : Thread Cert.AdamXqReferenceIdeal.nD Cert.AdamXqReferenceIdeal.τ).loc Cert.AdamXqReferenceIdeal.main_arg3) = m ((c.tc : Thread Cert.AdamXqIdeal.nD Cert.AdamXqIdeal.τ).loc Cert.AdamXqIdeal.main_arg3)
      ∧ m' ((c.tc : Thread Cert.AdamXqReferenceIdeal.nD Cert.AdamXqReferenceIdeal.τ).loc Cert.AdamXqReferenceIdeal.main_arg4) = m ((c.tc : Thread Cert.AdamXqIdeal.nD Cert.AdamXqIdeal.τ).loc Cert.AdamXqIdeal.main_arg4)) →
    ∃ (v0 : (c : Dev Cert.AdamXqIdeal.nD) → Buf (Elt Ideal) ((c.tc : Thread Cert.AdamXqIdeal.nD Cert.AdamXqIdeal.τ).loc Cert.AdamXqIdeal.main_v1_0)) (v1 : (c : Dev Cert.AdamXqIdeal.nD) → Buf (Elt Ideal) ((c.tc : Thread Cert.AdamXqIdeal.nD Cert.AdamXqIdeal.τ).loc Cert.AdamXqIdeal.main_v1_1)) (v2 : (c : Dev Cert.AdamXqIdeal.nD) → Buf (Elt Ideal) ((c.tc : Thread Cert.AdamXqIdeal.nD Cert.AdamXqIdeal.τ).loc Cert.AdamXqIdeal.main_v1_2)) (v3 : (c : Dev Cert.AdamXqIdeal.nD) → Buf (Elt Ideal) ((c.tc : Thread Cert.AdamXqIdeal.nD Cert.AdamXqIdeal.τ).loc Cert.AdamXqIdeal.main_v1_3)),
      θ_run (Cert.AdamXqIdeal.defs (F := Ideal)) (onTc (τ := Cert.AdamXqIdeal.τ) (Cert.AdamXqIdeal.main (F := Ideal))) ⟨m, fun _ => 0, g⟩ (fun r => ∀ c : Dev Cert.AdamXqIdeal.nD,
          r.2.mem ((c.tc : Thread Cert.AdamXqIdeal.nD Cert.AdamXqIdeal.τ).loc Cert.AdamXqIdeal.main_v1_0) = v0 c
          ∧ r.2.mem ((c.tc : Thread Cert.AdamXqIdeal.nD Cert.AdamXqIdeal.τ).loc Cert.AdamXqIdeal.main_v1_1) = v1 c
          ∧ r.2.mem ((c.tc : Thread Cert.AdamXqIdeal.nD Cert.AdamXqIdeal.τ).loc Cert.AdamXqIdeal.main_v1_2) = v2 c
          ∧ r.2.mem ((c.tc : Thread Cert.AdamXqIdeal.nD Cert.AdamXqIdeal.τ).loc Cert.AdamXqIdeal.main_v1_3) = v3 c
          ∧ r.2.mem ((c.tc : Thread Cert.AdamXqIdeal.nD Cert.AdamXqIdeal.τ).loc Cert.AdamXqIdeal.main_arg0) = m ((c.tc : Thread Cert.AdamXqIdeal.nD Cert.AdamXqIdeal.τ).loc Cert.AdamXqIdeal.main_arg0)
          ∧ r.2.mem ((c.tc : Thread Cert.AdamXqIdeal.nD Cert.AdamXqIdeal.τ).loc Cert.AdamXqIdeal.main_arg1) = m ((c.tc : Thread Cert.AdamXqIdeal.nD Cert.AdamXqIdeal.τ).loc Cert.AdamXqIdeal.main_arg1)
          ∧ r.2.mem ((c.tc : Thread Cert.AdamXqIdeal.nD Cert.AdamXqIdeal.τ).loc Cert.AdamXqIdeal.main_arg2) = m ((c.tc : Thread Cert.AdamXqIdeal.nD Cert.AdamXqIdeal.τ).loc Cert.AdamXqIdeal.main_arg2)
          ∧ r.2.mem ((c.tc : Thread Cert.AdamXqIdeal.nD Cert.AdamXqIdeal.τ).loc Cert.AdamXqIdeal.main_arg3) = m ((c.tc : Thread Cert.AdamXqIdeal.nD Cert.AdamXqIdeal.τ).loc Cert.AdamXqIdeal.main_arg3)
          ∧ r.2.mem ((c.tc : Thread Cert.AdamXqIdeal.nD Cert.AdamXqIdeal.τ).loc Cert.AdamXqIdeal.main_arg4) = m ((c.tc : Thread Cert.AdamXqIdeal.nD Cert.AdamXqIdeal.τ).loc Cert.AdamXqIdeal.main_arg4))
      ∧ θ_run (Cert.AdamXqReferenceIdeal.defs (F := Ideal)) (onTc (τ := Cert.AdamXqReferenceIdeal.τ) (Cert.AdamXqReferenceIdeal.main (F := Ideal))) ⟨m', fun _ => 0, g'⟩ (fun r => ∀ c : Dev Cert.AdamXqReferenceIdeal.nD,
          r.2.mem ((c.tc : Thread Cert.AdamXqReferenceIdeal.nD Cert.AdamXqReferenceIdeal.τ).loc Cert.AdamXqReferenceIdeal.main_v2) = v0 c
          ∧ r.2.mem ((c.tc : Thread Cert.AdamXqReferenceIdeal.nD Cert.AdamXqReferenceIdeal.τ).loc Cert.AdamXqReferenceIdeal.main_v26) = v1 c
          ∧ r.2.mem ((c.tc : Thread Cert.AdamXqReferenceIdeal.nD Cert.AdamXqReferenceIdeal.τ).loc Cert.AdamXqReferenceIdeal.main_v7) = v2 c
          ∧ r.2.mem ((c.tc : Thread Cert.AdamXqReferenceIdeal.nD Cert.AdamXqReferenceIdeal.τ).loc Cert.AdamXqReferenceIdeal.main_v13) = v3 c
          ∧ r.2.mem ((c.tc : Thread Cert.AdamXqReferenceIdeal.nD Cert.AdamXqReferenceIdeal.τ).loc Cert.AdamXqReferenceIdeal.main_arg0) = m' ((c.tc : Thread Cert.AdamXqReferenceIdeal.nD Cert.AdamXqReferenceIdeal.τ).loc Cert.AdamXqReferenceIdeal.main_arg0)
          ∧ r.2.mem ((c.tc : Thread Cert.AdamXqReferenceIdeal.nD Cert.AdamXqReferenceIdeal.τ).loc Cert.AdamXqReferenceIdeal.main_arg1) = m' ((c.tc : Thread Cert.AdamXqReferenceIdeal.nD Cert.AdamXqReferenceIdeal.τ).loc Cert.AdamXqReferenceIdeal.main_arg1)
          ∧ r.2.mem ((c.tc : Thread Cert.AdamXqReferenceIdeal.nD Cert.AdamXqReferenceIdeal.τ).loc Cert.AdamXqReferenceIdeal.main_arg2) = m' ((c.tc : Thread Cert.AdamXqReferenceIdeal.nD Cert.AdamXqReferenceIdeal.τ).loc Cert.AdamXqReferenceIdeal.main_arg2)
          ∧ r.2.mem ((c.tc : Thread Cert.AdamXqReferenceIdeal.nD Cert.AdamXqReferenceIdeal.τ).loc Cert.AdamXqReferenceIdeal.main_arg3) = m' ((c.tc : Thread Cert.AdamXqReferenceIdeal.nD Cert.AdamXqReferenceIdeal.τ).loc Cert.AdamXqReferenceIdeal.main_arg3)
          ∧ r.2.mem ((c.tc : Thread Cert.AdamXqReferenceIdeal.nD Cert.AdamXqReferenceIdeal.τ).loc Cert.AdamXqReferenceIdeal.main_arg4) = m' ((c.tc : Thread Cert.AdamXqReferenceIdeal.nD Cert.AdamXqReferenceIdeal.τ).loc Cert.AdamXqReferenceIdeal.main_arg4))

def Claim : Prop :=
  ∃ (hKernel : Cert.Kernel.Facts) (hKernelIdeal : Cert.KernelIdeal.Facts) (hReferenceIdeal : Cert.ReferenceIdeal.Facts) (hDh : Cert.Dh.Facts) (hDhIdeal : Cert.DhIdeal.Facts) (hDhReferenceIdeal : Cert.DhReferenceIdeal.Facts) (hDx2 : Cert.Dx2.Facts) (hDx2Ideal : Cert.Dx2Ideal.Facts) (hDx2ReferenceIdeal : Cert.Dx2ReferenceIdeal.Facts) (hDx : Cert.Dx.Facts) (hDxIdeal : Cert.DxIdeal.Facts) (hDxReferenceIdeal : Cert.DxReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hProj : Cert.Proj.Facts) (hProjIdeal : Cert.ProjIdeal.Facts) (hProjReferenceIdeal : Cert.ProjReferenceIdeal.Facts) (hDwDownS : Cert.DwDownS.Facts) (hDwDownSIdeal : Cert.DwDownSIdeal.Facts) (hDwDownSReferenceIdeal : Cert.DwDownSReferenceIdeal.Facts) (hDwDownO : Cert.DwDownO.Facts) (hDwDownOIdeal : Cert.DwDownOIdeal.Facts) (hDwDownOReferenceIdeal : Cert.DwDownOReferenceIdeal.Facts) (hDwUpS : Cert.DwUpS.Facts) (hDwUpSIdeal : Cert.DwUpSIdeal.Facts) (hDwUpSReferenceIdeal : Cert.DwUpSReferenceIdeal.Facts) (hDwUpO : Cert.DwUpO.Facts) (hDwUpOIdeal : Cert.DwUpOIdeal.Facts) (hDwUpOReferenceIdeal : Cert.DwUpOReferenceIdeal.Facts) (hO : Cert.O.Facts) (hOIdeal : Cert.OIdeal.Facts) (hOReferenceIdeal : Cert.OReferenceIdeal.Facts) (hDwOS : Cert.DwOS.Facts) (hDwOSIdeal : Cert.DwOSIdeal.Facts) (hDwOSReferenceIdeal : Cert.DwOSReferenceIdeal.Facts) (hDwOO : Cert.DwOO.Facts) (hDwOOIdeal : Cert.DwOOIdeal.Facts) (hDwOOReferenceIdeal : Cert.DwOOReferenceIdeal.Facts) (hDwBrS : Cert.DwBrS.Facts) (hDwBrSIdeal : Cert.DwBrSIdeal.Facts) (hDwBrSReferenceIdeal : Cert.DwBrSReferenceIdeal.Facts) (hDwBrO : Cert.DwBrO.Facts) (hDwBrOIdeal : Cert.DwBrOIdeal.Facts) (hDwBrOReferenceIdeal : Cert.DwBrOReferenceIdeal.Facts) (hDwXoS : Cert.DwXoS.Facts) (hDwXoSIdeal : Cert.DwXoSIdeal.Facts) (hDwXoSReferenceIdeal : Cert.DwXoSReferenceIdeal.Facts) (hDwXoO : Cert.DwXoO.Facts) (hDwXoOIdeal : Cert.DwXoOIdeal.Facts) (hDwXoOReferenceIdeal : Cert.DwXoOReferenceIdeal.Facts) (hDwXqS : Cert.DwXqS.Facts) (hDwXqSIdeal : Cert.DwXqSIdeal.Facts) (hDwXqSReferenceIdeal : Cert.DwXqSReferenceIdeal.Facts) (hDwXqO : Cert.DwXqO.Facts) (hDwXqOIdeal : Cert.DwXqOIdeal.Facts) (hDwXqOReferenceIdeal : Cert.DwXqOReferenceIdeal.Facts) (hDwKvS : Cert.DwKvS.Facts) (hDwKvSIdeal : Cert.DwKvSIdeal.Facts) (hDwKvSReferenceIdeal : Cert.DwKvSReferenceIdeal.Facts) (hDwKvO : Cert.DwKvO.Facts) (hDwKvOIdeal : Cert.DwKvOIdeal.Facts) (hDwKvOReferenceIdeal : Cert.DwKvOReferenceIdeal.Facts) (hAdam : Cert.Adam.Facts) (hAdamIdeal : Cert.AdamIdeal.Facts) (hAdamReferenceIdeal : Cert.AdamReferenceIdeal.Facts) (hSum : Cert.Sum.Facts) (hSumIdeal : Cert.SumIdeal.Facts) (hSumReferenceIdeal : Cert.SumReferenceIdeal.Facts) (hAdamO : Cert.AdamO.Facts) (hAdamOIdeal : Cert.AdamOIdeal.Facts) (hAdamOReferenceIdeal : Cert.AdamOReferenceIdeal.Facts) (hAdamUp : Cert.AdamUp.Facts) (hAdamUpIdeal : Cert.AdamUpIdeal.Facts) (hAdamUpReferenceIdeal : Cert.AdamUpReferenceIdeal.Facts) (hAdamBr : Cert.AdamBr.Facts) (hAdamBrIdeal : Cert.AdamBrIdeal.Facts) (hAdamBrReferenceIdeal : Cert.AdamBrReferenceIdeal.Facts) (hAdamIn : Cert.AdamIn.Facts) (hAdamInIdeal : Cert.AdamInIdeal.Facts) (hAdamInReferenceIdeal : Cert.AdamInReferenceIdeal.Facts) (hAdamKv : Cert.AdamKv.Facts) (hAdamKvIdeal : Cert.AdamKvIdeal.Facts) (hAdamKvReferenceIdeal : Cert.AdamKvReferenceIdeal.Facts) (hAdamXq : Cert.AdamXq.Facts) (hAdamXqIdeal : Cert.AdamXqIdeal.Facts) (hAdamXqReferenceIdeal : Cert.AdamXqReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dh (hDh := hDh)
    ∧ quiescent_DhIdeal (hDhIdeal := hDhIdeal)
    ∧ quiescent_DhReferenceIdeal (hDhReferenceIdeal := hDhReferenceIdeal)
    ∧ quiescent_Dx2 (hDx2 := hDx2)
    ∧ quiescent_Dx2Ideal (hDx2Ideal := hDx2Ideal)
    ∧ quiescent_Dx2ReferenceIdeal (hDx2ReferenceIdeal := hDx2ReferenceIdeal)
    ∧ quiescent_Dx (hDx := hDx)
    ∧ quiescent_DxIdeal (hDxIdeal := hDxIdeal)
    ∧ quiescent_DxReferenceIdeal (hDxReferenceIdeal := hDxReferenceIdeal)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_DwDownS (hDwDownS := hDwDownS)
    ∧ quiescent_DwDownSIdeal (hDwDownSIdeal := hDwDownSIdeal)
    ∧ quiescent_DwDownSReferenceIdeal (hDwDownSReferenceIdeal := hDwDownSReferenceIdeal)
    ∧ quiescent_DwDownO (hDwDownO := hDwDownO)
    ∧ quiescent_DwDownOIdeal (hDwDownOIdeal := hDwDownOIdeal)
    ∧ quiescent_DwDownOReferenceIdeal (hDwDownOReferenceIdeal := hDwDownOReferenceIdeal)
    ∧ quiescent_DwUpS (hDwUpS := hDwUpS)
    ∧ quiescent_DwUpSIdeal (hDwUpSIdeal := hDwUpSIdeal)
    ∧ quiescent_DwUpSReferenceIdeal (hDwUpSReferenceIdeal := hDwUpSReferenceIdeal)
    ∧ quiescent_DwUpO (hDwUpO := hDwUpO)
    ∧ quiescent_DwUpOIdeal (hDwUpOIdeal := hDwUpOIdeal)
    ∧ quiescent_DwUpOReferenceIdeal (hDwUpOReferenceIdeal := hDwUpOReferenceIdeal)
    ∧ quiescent_O (hO := hO)
    ∧ quiescent_OIdeal (hOIdeal := hOIdeal)
    ∧ quiescent_OReferenceIdeal (hOReferenceIdeal := hOReferenceIdeal)
    ∧ quiescent_DwOS (hDwOS := hDwOS)
    ∧ quiescent_DwOSIdeal (hDwOSIdeal := hDwOSIdeal)
    ∧ quiescent_DwOSReferenceIdeal (hDwOSReferenceIdeal := hDwOSReferenceIdeal)
    ∧ quiescent_DwOO (hDwOO := hDwOO)
    ∧ quiescent_DwOOIdeal (hDwOOIdeal := hDwOOIdeal)
    ∧ quiescent_DwOOReferenceIdeal (hDwOOReferenceIdeal := hDwOOReferenceIdeal)
    ∧ quiescent_DwBrS (hDwBrS := hDwBrS)
    ∧ quiescent_DwBrSIdeal (hDwBrSIdeal := hDwBrSIdeal)
    ∧ quiescent_DwBrSReferenceIdeal (hDwBrSReferenceIdeal := hDwBrSReferenceIdeal)
    ∧ quiescent_DwBrO (hDwBrO := hDwBrO)
    ∧ quiescent_DwBrOIdeal (hDwBrOIdeal := hDwBrOIdeal)
    ∧ quiescent_DwBrOReferenceIdeal (hDwBrOReferenceIdeal := hDwBrOReferenceIdeal)
    ∧ quiescent_DwXoS (hDwXoS := hDwXoS)
    ∧ quiescent_DwXoSIdeal (hDwXoSIdeal := hDwXoSIdeal)
    ∧ quiescent_DwXoSReferenceIdeal (hDwXoSReferenceIdeal := hDwXoSReferenceIdeal)
    ∧ quiescent_DwXoO (hDwXoO := hDwXoO)
    ∧ quiescent_DwXoOIdeal (hDwXoOIdeal := hDwXoOIdeal)
    ∧ quiescent_DwXoOReferenceIdeal (hDwXoOReferenceIdeal := hDwXoOReferenceIdeal)
    ∧ quiescent_DwXqS (hDwXqS := hDwXqS)
    ∧ quiescent_DwXqSIdeal (hDwXqSIdeal := hDwXqSIdeal)
    ∧ quiescent_DwXqSReferenceIdeal (hDwXqSReferenceIdeal := hDwXqSReferenceIdeal)
    ∧ quiescent_DwXqO (hDwXqO := hDwXqO)
    ∧ quiescent_DwXqOIdeal (hDwXqOIdeal := hDwXqOIdeal)
    ∧ quiescent_DwXqOReferenceIdeal (hDwXqOReferenceIdeal := hDwXqOReferenceIdeal)
    ∧ quiescent_DwKvS (hDwKvS := hDwKvS)
    ∧ quiescent_DwKvSIdeal (hDwKvSIdeal := hDwKvSIdeal)
    ∧ quiescent_DwKvSReferenceIdeal (hDwKvSReferenceIdeal := hDwKvSReferenceIdeal)
    ∧ quiescent_DwKvO (hDwKvO := hDwKvO)
    ∧ quiescent_DwKvOIdeal (hDwKvOIdeal := hDwKvOIdeal)
    ∧ quiescent_DwKvOReferenceIdeal (hDwKvOReferenceIdeal := hDwKvOReferenceIdeal)
    ∧ quiescent_Adam (hAdam := hAdam)
    ∧ quiescent_AdamIdeal (hAdamIdeal := hAdamIdeal)
    ∧ quiescent_AdamReferenceIdeal (hAdamReferenceIdeal := hAdamReferenceIdeal)
    ∧ quiescent_Sum (hSum := hSum)
    ∧ quiescent_SumIdeal (hSumIdeal := hSumIdeal)
    ∧ quiescent_SumReferenceIdeal (hSumReferenceIdeal := hSumReferenceIdeal)
    ∧ quiescent_AdamO (hAdamO := hAdamO)
    ∧ quiescent_AdamOIdeal (hAdamOIdeal := hAdamOIdeal)
    ∧ quiescent_AdamOReferenceIdeal (hAdamOReferenceIdeal := hAdamOReferenceIdeal)
    ∧ quiescent_AdamUp (hAdamUp := hAdamUp)
    ∧ quiescent_AdamUpIdeal (hAdamUpIdeal := hAdamUpIdeal)
    ∧ quiescent_AdamUpReferenceIdeal (hAdamUpReferenceIdeal := hAdamUpReferenceIdeal)
    ∧ quiescent_AdamBr (hAdamBr := hAdamBr)
    ∧ quiescent_AdamBrIdeal (hAdamBrIdeal := hAdamBrIdeal)
    ∧ quiescent_AdamBrReferenceIdeal (hAdamBrReferenceIdeal := hAdamBrReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamKv (hAdamKv := hAdamKv)
    ∧ quiescent_AdamKvIdeal (hAdamKvIdeal := hAdamKvIdeal)
    ∧ quiescent_AdamKvReferenceIdeal (hAdamKvReferenceIdeal := hAdamKvReferenceIdeal)
    ∧ quiescent_AdamXq (hAdamXq := hAdamXq)
    ∧ quiescent_AdamXqIdeal (hAdamXqIdeal := hAdamXqIdeal)
    ∧ quiescent_AdamXqReferenceIdeal (hAdamXqReferenceIdeal := hAdamXqReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Dh_DhIdeal
    ∧ algebraic_DhIdeal_DhReferenceIdeal (hDhIdeal := hDhIdeal) (hDhReferenceIdeal := hDhReferenceIdeal)
    ∧ preserves_Dx2_Dx2Ideal
    ∧ algebraic_Dx2Ideal_Dx2ReferenceIdeal (hDx2Ideal := hDx2Ideal) (hDx2ReferenceIdeal := hDx2ReferenceIdeal)
    ∧ preserves_Dx_DxIdeal
    ∧ algebraic_DxIdeal_DxReferenceIdeal (hDxIdeal := hDxIdeal) (hDxReferenceIdeal := hDxReferenceIdeal)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_Proj_ProjIdeal
    ∧ algebraic_ProjIdeal_ProjReferenceIdeal (hProjIdeal := hProjIdeal) (hProjReferenceIdeal := hProjReferenceIdeal)
    ∧ preserves_DwDownS_DwDownSIdeal
    ∧ algebraic_DwDownSIdeal_DwDownSReferenceIdeal (hDwDownSIdeal := hDwDownSIdeal) (hDwDownSReferenceIdeal := hDwDownSReferenceIdeal)
    ∧ preserves_DwDownO_DwDownOIdeal
    ∧ algebraic_DwDownOIdeal_DwDownOReferenceIdeal (hDwDownOIdeal := hDwDownOIdeal) (hDwDownOReferenceIdeal := hDwDownOReferenceIdeal)
    ∧ preserves_DwUpS_DwUpSIdeal
    ∧ algebraic_DwUpSIdeal_DwUpSReferenceIdeal (hDwUpSIdeal := hDwUpSIdeal) (hDwUpSReferenceIdeal := hDwUpSReferenceIdeal)
    ∧ preserves_DwUpO_DwUpOIdeal
    ∧ algebraic_DwUpOIdeal_DwUpOReferenceIdeal (hDwUpOIdeal := hDwUpOIdeal) (hDwUpOReferenceIdeal := hDwUpOReferenceIdeal)
    ∧ preserves_O_OIdeal
    ∧ algebraic_OIdeal_OReferenceIdeal (hOIdeal := hOIdeal) (hOReferenceIdeal := hOReferenceIdeal)
    ∧ preserves_DwOS_DwOSIdeal
    ∧ algebraic_DwOSIdeal_DwOSReferenceIdeal (hDwOSIdeal := hDwOSIdeal) (hDwOSReferenceIdeal := hDwOSReferenceIdeal)
    ∧ preserves_DwOO_DwOOIdeal
    ∧ algebraic_DwOOIdeal_DwOOReferenceIdeal (hDwOOIdeal := hDwOOIdeal) (hDwOOReferenceIdeal := hDwOOReferenceIdeal)
    ∧ preserves_DwBrS_DwBrSIdeal
    ∧ algebraic_DwBrSIdeal_DwBrSReferenceIdeal (hDwBrSIdeal := hDwBrSIdeal) (hDwBrSReferenceIdeal := hDwBrSReferenceIdeal)
    ∧ preserves_DwBrO_DwBrOIdeal
    ∧ algebraic_DwBrOIdeal_DwBrOReferenceIdeal (hDwBrOIdeal := hDwBrOIdeal) (hDwBrOReferenceIdeal := hDwBrOReferenceIdeal)
    ∧ preserves_DwXoS_DwXoSIdeal
    ∧ algebraic_DwXoSIdeal_DwXoSReferenceIdeal (hDwXoSIdeal := hDwXoSIdeal) (hDwXoSReferenceIdeal := hDwXoSReferenceIdeal)
    ∧ preserves_DwXoO_DwXoOIdeal
    ∧ algebraic_DwXoOIdeal_DwXoOReferenceIdeal (hDwXoOIdeal := hDwXoOIdeal) (hDwXoOReferenceIdeal := hDwXoOReferenceIdeal)
    ∧ preserves_DwXqS_DwXqSIdeal
    ∧ algebraic_DwXqSIdeal_DwXqSReferenceIdeal (hDwXqSIdeal := hDwXqSIdeal) (hDwXqSReferenceIdeal := hDwXqSReferenceIdeal)
    ∧ preserves_DwXqO_DwXqOIdeal
    ∧ algebraic_DwXqOIdeal_DwXqOReferenceIdeal (hDwXqOIdeal := hDwXqOIdeal) (hDwXqOReferenceIdeal := hDwXqOReferenceIdeal)
    ∧ preserves_DwKvS_DwKvSIdeal
    ∧ algebraic_DwKvSIdeal_DwKvSReferenceIdeal (hDwKvSIdeal := hDwKvSIdeal) (hDwKvSReferenceIdeal := hDwKvSReferenceIdeal)
    ∧ preserves_DwKvO_DwKvOIdeal
    ∧ algebraic_DwKvOIdeal_DwKvOReferenceIdeal (hDwKvOIdeal := hDwKvOIdeal) (hDwKvOReferenceIdeal := hDwKvOReferenceIdeal)
    ∧ preserves_Adam_AdamIdeal
    ∧ algebraic_AdamIdeal_AdamReferenceIdeal (hAdamIdeal := hAdamIdeal) (hAdamReferenceIdeal := hAdamReferenceIdeal)
    ∧ preserves_Sum_SumIdeal
    ∧ algebraic_SumIdeal_SumReferenceIdeal (hSumIdeal := hSumIdeal) (hSumReferenceIdeal := hSumReferenceIdeal)
    ∧ preserves_AdamO_AdamOIdeal
    ∧ algebraic_AdamOIdeal_AdamOReferenceIdeal (hAdamOIdeal := hAdamOIdeal) (hAdamOReferenceIdeal := hAdamOReferenceIdeal)
    ∧ preserves_AdamUp_AdamUpIdeal
    ∧ algebraic_AdamUpIdeal_AdamUpReferenceIdeal (hAdamUpIdeal := hAdamUpIdeal) (hAdamUpReferenceIdeal := hAdamUpReferenceIdeal)
    ∧ preserves_AdamBr_AdamBrIdeal
    ∧ algebraic_AdamBrIdeal_AdamBrReferenceIdeal (hAdamBrIdeal := hAdamBrIdeal) (hAdamBrReferenceIdeal := hAdamBrReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_AdamKv_AdamKvIdeal
    ∧ algebraic_AdamKvIdeal_AdamKvReferenceIdeal (hAdamKvIdeal := hAdamKvIdeal) (hAdamKvReferenceIdeal := hAdamKvReferenceIdeal)
    ∧ preserves_AdamXq_AdamXqIdeal
    ∧ algebraic_AdamXqIdeal_AdamXqReferenceIdeal (hAdamXqIdeal := hAdamXqIdeal) (hAdamXqReferenceIdeal := hAdamXqReferenceIdeal)
-- ==== Pre_finite.lean ====
abbrev S4096x7680 : Shape := ⟨2, ![4096, 7680]⟩
abbrev S4096x1024 : Shape := ⟨2, ![4096, 1024]⟩
abbrev S1024 : Shape := ⟨1, ![1024]⟩
abbrev S8x128x128 : Shape := ⟨3, ![8, 128, 128]⟩
abbrev S8x128 : Shape := ⟨2, ![8, 128]⟩
abbrev S_ : Shape := ⟨0, ![]⟩

class Facts : Prop where
  bcast_S_S4096x7680 : S_.BroadcastsInDim S4096x7680 (![] : Fin 0 → Fin S4096x7680.rank)
  reducesTo_S4096x7680_S_d0_1 : S4096x7680.ReducesTo [0, 1] S_
  h_S_ : 0 < S_.numel
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_arg4 : FVec F S8x128x128 .f32) (main_arg5 : FVec F S8x128 .f32) (main_v14 : IVec S_ 1) (main_v15 : FVec F S1024 .f32) (main_v16 : FVec F S1024 .f32) : IVec S_ 1 :=
  let main_v17 : IVec S1024 1 := cmpf .olt main_v15 main_v16
  let main_c_5 : IVec S_ 1 := constantI S_ 1 1#1
  let main_v18 : IVec S_ 1 := (fun x v => Host.reduce IntOp.andi x v reducesTo_S1024_S_d0 h_S_) main_v17 main_c_5
  let main_v19 : IVec S_ 1 := andi main_v14 main_v18
  let main_v20 : FVec F S8x128x128 .f32 := Host.absf main_arg4
  let main_cst_6 : FVec F S_ .f32 := constant S_ .f32 0x7F800000#32
  let main_v21 : FVec F S8x128x128 .f32 := broadcastInDim S8x128x128 ![] bcast_S_S8x128x128 main_cst_6
  let main_v22 : IVec S8x128x128 1 := cmpf .olt main_v20 main_v21
  let main_c_7 : IVec S_ 1 := constantI S_ 1 1#1
  let main_v23 : IVec S_ 1 := (fun x v => Host.reduce IntOp.andi x v reducesTo_S8x128x128_S_d0_1_2 h_S_) main_v22 main_c_7
  let main_v24 : IVec S_ 1 := andi main_v19 main_v23
  let main_v25 : FVec F S8x128 .f32 := Host.absf main_arg5
  let main_cst_8 : FVec F S_ .f32 := constant S_ .f32 0x7F800000#32
  let main_v26 : FVec F S8x128 .f32 := broadcastInDim S8x128 ![] bcast_S_S8x128 main_cst_8
  let main_v27 : IVec S8x128 1 := cmpf .olt main_v25 main_v26
  let main_c_9 : IVec S_ 1 := constantI S_ 1 1#1
  let main_v28 : IVec S_ 1 := (fun x v => Host.reduce IntOp.andi x v reducesTo_S8x128_S_d0_1 h_S_) main_v27 main_c_9
  let main_v29 : IVec S_ 1 := andi main_v24 main_v28
  main_v29

def fn {F : FTy → Type} [FloatOps F] (main_arg0 : FVec F S4096x7680 .f32) (main_arg1 : FVec F S4096x1024 .bf16) (main_arg2 : FVec F S1024 .f32) (main_arg3 : FVec F S1024 .f32) (main_arg4 : FVec F S8x128x128 .f32) (main_arg5 : FVec F S8x128 .f32) : IVec S_ 1 :=
  let main_v0 : FVec F S4096x7680 .f32 := Host.absf main_arg0
  let main_cst : FVec F S_ .f32 := constant S_ .f32 0x7F800000#32
  let main_v1 : FVec F S4096x7680 .f32 := broadcastInDim S4096x7680 ![] bcast_S_S4096x7680 main_cst
  let main_v2 : IVec S4096x7680 1 := cmpf .olt main_v0 main_v1
  let main_c : IVec S_ 1 := constantI S_ 1 1#1
  let main_v3 : IVec S_ 1 := (fun x v => Host.reduce IntOp.andi x v reducesTo_S4096x7680_S_d0_1 h_S_) main_v2 main_c
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_c_1 : IVec S_ 1 := constantI S_ 1 1#1
  let main_v8 : IVec S_ 1 := (fun x v => Host.reduce IntOp.andi x v reducesTo_S4096x1024_S_d0_1 h_S_) main_v7 main_c_1
  let main_v9 : IVec S_ 1 := andi main_v3 main_v8
  let main_v10 : FVec F S1024 .f32 := Host.absf main_arg2
  let main_cst_2 : FVec F S_ .f32 := constant S_ .f32 0x7F800000#32
  let main_v11 : FVec F S1024 .f32 := broadcastInDim S1024 ![] bcast_S_S1024 main_cst_2
  let main_v12 : IVec S1024 1 := cmpf .olt main_v10 main_v11
  let main_c_3 : IVec S_ 1 := constantI S_ 1 1#1
  let main_v13 : IVec S_ 1 := (fun x v => Host.reduce IntOp.andi x v reducesTo_S1024_S_d0 h_S_) main_v12 main_c_3
  let main_v14 : IVec S_ 1 := andi main_v9 main_v13
  let main_v15 : FVec F S1024 .f32 := Host.absf main_arg3
  let main_cst_4 : FVec F S_ .f32 := constant S_ .f32 0x7F800000#32
  let main_v16 : FVec F S1024 .f32 := broadcastInDim S1024 ![] bcast_S_S1024 main_cst_4
  fn_part1 (F := F) main_arg4 main_arg5 main_v14 main_v15 main_v16
-- ==== Kernel.lean ====
abbrev S4096x7680 : Shape := ⟨2, ![4096, 7680]⟩
abbrev S4096x1024 : Shape := ⟨2, ![4096, 1024]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S128x8 : Shape := ⟨2, ![128, 8]⟩
abbrev S4096x2048 : Shape := ⟨2, ![4096, 2048]⟩
abbrev S128x1024 : Shape := ⟨2, ![128, 1024]⟩
abbrev S128x2048 : Shape := ⟨2, ![128, 2048]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩

abbrev nBuf : Space → Nat
  | .hbm => 14
  | .vmem => 16
  | .smem => 0
  | _ => 0

abbrev bufTy : (tb : Table) → Fin (tcTables nBuf tb) → BufTy
  | .hbm, ⟨0, _⟩ => ⟨S4096x7680, .f32⟩
  | .hbm, ⟨1, _⟩ => ⟨S4096x1024, .bf16⟩
  | .hbm, ⟨2, _⟩ => ⟨S1024, .f32⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S1x1024, .f32⟩
  | .hbm, ⟨7, _⟩ => ⟨S1x1024, .f32⟩
  | .hbm, ⟨8, _⟩ => ⟨S128x8, .f32⟩
  | .hbm, ⟨9, _⟩ => ⟨S4096x2048, .bf16⟩
  | .hbm, ⟨10, _⟩ => ⟨S8x128x128, .f32⟩
  | .hbm, ⟨11, _⟩ => ⟨S128x8, .f32⟩
  | .hbm, ⟨12, _⟩ => ⟨S1x1024, .f32⟩
  | .hbm, ⟨13, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .bf16⟩
  | .local _ .vmem, ⟨5, _⟩ => ⟨S128x1024, .bf16⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S128x8, .f32⟩
  | .local _ .vmem, ⟨10, _⟩ => ⟨S128x2048, .bf16⟩
  | .local _ .vmem, ⟨11, _⟩ => ⟨S128x2048, .bf16⟩
  | .local _ .vmem, ⟨12, _⟩ => ⟨S8x128x128, .f32⟩
  | .local _ .vmem, ⟨13, _⟩ => ⟨S128x8, .f32⟩
  | .local _ .vmem, ⟨14, _⟩ => ⟨S1x1024, .f32⟩
  | .local _ .vmem, ⟨15, _⟩ => ⟨S1x1024, .f32⟩
  | _, _ => ⟨S4096x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v319 : BitVec 1 := Scalar.cmpi .eq arg0 c0_i32
  let v320 : BitVec 32 := Scalar.extui v319
  let c0_i32_124 : BitVec 32 := 0#32
  let v321 : BitVec 1 := Scalar.cmpi .ne v320 c0_i32_124
  v321

def k0_cond2 (i : grid0.Coords) : BitVec 1 :=
  let arg0 : BitVec 32 := BitVec.ofNat 32 (i 0).val
  let c0_i32_125 : BitVec 32 := 0#32
  let v322 : BitVec 1 := Scalar.cmpi .sgt arg0 c0_i32_125
  let v323 : BitVec 32 := Scalar.extui v322
  let c0_i32_126 : BitVec 32 := 0#32
  let v324 : BitVec 1 := Scalar.cmpi .ne v323 c0_i32_126
  v324

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "cubic" => some ((8943 / 200000 : ℝ) : EReal)
  | "cubic3" => some ((26829 / 200000 : ℝ) : EReal)
  | _ => none
-- ==== ReferenceIdeal.lean ====
abbrev S4096x7680 : Shape := ⟨2, ![4096, 7680]⟩
abbrev S4096x1024 : Shape := ⟨2, ![4096, 1024]⟩
abbrev S1024 : Shape := ⟨1, ![1024]⟩
abbrev S8x128x128 : Shape := ⟨3, ![8, 128, 128]⟩
abbrev S8x128 : Shape := ⟨2, ![8, 128]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S32x128x8x128 : Shape := ⟨4, ![32, 128, 8, 128]⟩
abbrev S128x128 : Shape := ⟨2, ![128, 128]⟩
abbrev S1x128x128 : Shape := ⟨3, ![1, 128, 128]⟩
abbrev S8x32x128x128 : Shape := ⟨4, ![8, 32, 128, 128]⟩
abbrev S128x8 : Shape := ⟨2, ![128, 8]⟩
abbrev S1x128x8x1 : Shape := ⟨4, ![1, 128, 8, 1]⟩

abbrev nBuf : Space → Nat
  | .hbm => 238
  | .vmem => 0
  | .smem => 0
  | _ => 0

abbrev hbmTy0_0 (i : Nat) : BufTy := match i % 128 with
  | 0 => ⟨S4096x7680, .f32⟩
  | 1 => ⟨S4096x1024, .bf16⟩
  | 2 => ⟨S1024, .f32⟩
  | 3 => ⟨S1024, .f32⟩
  | 4 => ⟨S8x128x128, .f32⟩
  | 5 => ⟨S8x128, .f32⟩
  | 6 => ⟨S4096x2048, .f32⟩
  | 7 => ⟨S4096x1024, .f32⟩
  | 8 => ⟨S4096x1024, .f32⟩
  | 9 => ⟨S4096x1024, .f32⟩
  | 10 => ⟨S4096x1024, .f32⟩
  | 11 => ⟨S4096x1024, .f32⟩
  | 12 => ⟨S_, .f32⟩
  | 13 => ⟨S4096x1024, .f32⟩
  | 14 => ⟨S4096x1024, .f32⟩
  | 15 => ⟨S_, .f32⟩
  | 16 => ⟨S4096x1024, .f32⟩
  | 17 => ⟨S4096x1024, .f32⟩
  | 18 => ⟨S_, .f32⟩
  | 19 => ⟨S4096x1024, .f32⟩
  | 20 => ⟨S4096x1024, .f32⟩
  | 21 => ⟨S4096x1024, .f32⟩
  | 22 => ⟨S_, .f32⟩
  | 23 => ⟨S4096x1024, .f32⟩
  | 24 => ⟨S4096x1024, .f32⟩
  | 25 => ⟨S4096x1024, .f32⟩
  | 26 => ⟨S_, .f32⟩
  | 27 => ⟨S4096x1024, .f32⟩
  | 28 => ⟨S4096x1024, .f32⟩
  | 29 => ⟨S_, .f32⟩
  | 30 => ⟨S4096x1024, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S_, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S_, .f32⟩
  | 44 => ⟨S4096x1024, .f32⟩
  | 45 => ⟨S4096x1024, .f32⟩
  | 46 => ⟨S_, .f32⟩
  | 47 => ⟨S4096x1024, .f32⟩
  | 48 => ⟨S4096x1024, .f32⟩
  | 49 => ⟨S_, .f32⟩
  | 50 => ⟨S4096x1024, .f32⟩
  | 51 => ⟨S4096x1024, .f32⟩
  | 52 => ⟨S4096x1024, .f32⟩
  | 53 => ⟨S_, .f32⟩
  | 54 => ⟨S4096x1024, .f32⟩
  | 55 => ⟨S4096x1024, .f32⟩
  | 56 => ⟨S4096x1024, .f32⟩
  | 57 => ⟨S_, .f32⟩
  | 58 => ⟨S4096x1024, .f32⟩
  | 59 => ⟨S4096x1024, .f32⟩
  | 60 => ⟨S_, .f32⟩
  | 61 => ⟨S4096x1024, .f32⟩
  | 62 => ⟨S4096x1024, .f32⟩
  | 63 => ⟨S4096x1024, .f32⟩
  | 64 => ⟨S_, .f32⟩
  | 65 => ⟨S4096x1024, .f32⟩
  | 66 => ⟨S4096x1024, .f32⟩
  | 67 => ⟨S_, .f32⟩
  | 68 => ⟨S4096x1024, .f32⟩
  | 69 => ⟨S4096x1024, .f32⟩
  | 70 => ⟨S4096x1024, .f32⟩
  | 71 => ⟨S_, .f32⟩
  | 72 => ⟨S4096, .f32⟩
  | 73 => ⟨S4096x1, .f32⟩
  | 74 => ⟨S_, .f32⟩
  | 75 => ⟨S4096x1, .f32⟩
  | 76 => ⟨S4096x1, .f32⟩
  | 77 => ⟨S4096x1024, .f32⟩
  | 78 => ⟨S4096x1024, .f32⟩
  | 79 => ⟨S4096x1024, .f32⟩
  | 80 => ⟨S_, .f32⟩
  | 81 => ⟨S4096x1024, .f32⟩
  | 82 => ⟨S4096x1024, .f32⟩
  | 83 => ⟨S_, .f32⟩
  | 84 => ⟨S4096, .f32⟩
  | 85 => ⟨S4096x1, .f32⟩
  | 86 => ⟨S_, .f32⟩
  | 87 => ⟨S4096x1, .f32⟩
  | 88 => ⟨S4096x1, .f32⟩
  | 89 => ⟨S4096x1024, .f32⟩
  | 90 => ⟨S4096x1024, .f32⟩
  | 91 => ⟨S_, .f32⟩
  | 92 => ⟨S4096x1, .f32⟩
  | 93 => ⟨S4096x1, .f32⟩
  | 94 => ⟨S4096x1, .f32⟩
  | 95 => ⟨S4096x1, .f32⟩
  | 96 => ⟨S_, .f32⟩
  | 97 => ⟨S4096x1, .f32⟩
  | 98 => ⟨S4096x1, .f32⟩
  | 99 => ⟨S4096x1024, .f32⟩
  | 100 => ⟨S4096x1024, .f32⟩
  | 101 => ⟨S1x1024, .f32⟩
  | 102 => ⟨S4096x1024, .f32⟩
  | 103 => ⟨S4096x1024, .f32⟩
  | 104 => ⟨S1x1024, .f32⟩
  | 105 => ⟨S4096x1024, .f32⟩
  | 106 => ⟨S4096x1024, .f32⟩
  | 107 => ⟨S32x128x8x128, .f32⟩
  | 108 => ⟨S_, .i1⟩
  | 109 => ⟨S128x128, .i1⟩
  | 110 => ⟨S128x128, .i32⟩
  | 111 => ⟨S_, .i32⟩
  | 112 => ⟨S128x128, .i32⟩
  | 113 => ⟨S128x128, .i32⟩
  | 114 => ⟨S128x128, .i32⟩
  | 115 => ⟨S128x128, .i1⟩
  | 116 => ⟨S_, .i1⟩
  | 117 => ⟨S128x128, .i1⟩
  | 118 => ⟨S128x128, .i1⟩
  | 119 => ⟨S1x128x128, .i1⟩
  | 120 => ⟨S_, .f32⟩
  | 121 => ⟨S_, .f32⟩
  | 122 => ⟨S8x128x128, .i1⟩
  | 123 => ⟨S8x128x128, .f32⟩
  | 124 => ⟨S8x128x128, .f32⟩
  | 125 => ⟨S_, .f32⟩
  | 126 => ⟨S8x128x128, .f32⟩
  | 127 => ⟨S8x32x128x128, .f32⟩
  | _ => ⟨S4096x7680, .f32⟩

abbrev hbmTy0_1 (i : Nat) : BufTy := match i % 128 with
  | 0 => ⟨S32x128x8x128, .f32⟩
  | 1 => ⟨S128x8, .f32⟩
  | 2 => ⟨S1x128x8x1, .f32⟩
  | 3 => ⟨S32x128x8x128, .f32⟩
  | 4 => ⟨S32x128x8x128, .f32⟩
  | 5 => ⟨S4096x1024, .f32⟩
  | 6 => ⟨S4096x1024, .f32⟩
  | 7 => ⟨S4096x1024, .f32⟩
  | 8 => ⟨S4096x1024, .f32⟩
  | 9 => ⟨S4096x1024, .f32⟩
  | 10 => ⟨S32x128x8x128, .f32⟩
  | 11 => ⟨S_, .f32⟩
  | 12 => ⟨S128x8, .f32⟩
  | 13 => ⟨S1x128x8x1, .f32⟩
  | 14 => ⟨S_, .f32⟩
  | 15 => ⟨S128x8, .f32⟩
  | 16 => ⟨S8x128, .f32⟩
  | 17 => ⟨S8x32x128x128, .f32⟩
  | 18 => ⟨S8x128x128, .f32⟩
  | 19 => ⟨S8x32x128x128, .f32⟩
  | 20 => ⟨S32x128x8x128, .f32⟩
  | 21 => ⟨S_, .f32⟩
  | 22 => ⟨S8x128x128, .f32⟩
  | 23 => ⟨S8x128x128, .f32⟩
  | 24 => ⟨S4096x1024, .f32⟩
  | 25 => ⟨S_, .f32⟩
  | 26 => ⟨S1024, .f32⟩
  | 27 => ⟨S1x1024, .f32⟩
  | 28 => ⟨S_, .f32⟩
  | 29 => ⟨S1024, .f32⟩
  | 30 => ⟨S4096x1024, .f32⟩
  | 31 => ⟨S_, .f32⟩
  | 32 => ⟨S1024, .f32⟩
  | 33 => ⟨S1x1024, .f32⟩
  | 34 => ⟨S4096x1024, .f32⟩
  | 35 => ⟨S4096x1024, .f32⟩
  | 36 => ⟨S_, .f32⟩
  | 37 => ⟨S1024, .f32⟩
  | 38 => ⟨S4096x1024, .f32⟩
  | 39 => ⟨S_, .f32⟩
  | 40 => ⟨S4096, .f32⟩
  | 41 => ⟨S4096x1, .f32⟩
  | 42 => ⟨S4096x1024, .f32⟩
  | 43 => ⟨S4096x1024, .f32⟩
  | 44 => ⟨S4096x1, .f32⟩
  | 45 => ⟨S4096x1024, .f32⟩
  | 46 => ⟨S_, .f32⟩
  | 47 => ⟨S4096, .f32⟩
  | 48 => ⟨S4096x1, .f32⟩
  | 49 => ⟨S_, .f32⟩
  | 50 => ⟨S4096x1, .f32⟩
  | 51 => ⟨S4096x1, .f32⟩
  | 52 => ⟨S_, .f32⟩
  | 53 => ⟨S4096, .f32⟩
  | 54 => ⟨S4096x1024, .f32⟩
  | 55 => ⟨S4096x1024, .f32⟩
  | 56 => ⟨S4096x1024, .f32⟩
  | 57 => ⟨S_, .f32⟩
  | 58 => ⟨S4096, .f32⟩
  | 59 => ⟨S4096x1, .f32⟩
  | 60 => ⟨S4096x1024, .f32⟩
  | 61 => ⟨S4096x1, .f32⟩
  | 62 => ⟨S_, .f32⟩
  | 63 => ⟨S4096x1, .f32⟩
  | 64 => ⟨S4096x1, .f32⟩
  | 65 => ⟨S_, .f32⟩
  | 66 => ⟨S4096, .f32⟩
  | 67 => ⟨S4096x1024, .f32⟩
  | 68 => ⟨S4096x1024, .f32⟩
  | 69 => ⟨S4096x1024, .f32⟩
  | 70 => ⟨S4096x1024, .f32⟩
  | 71 => ⟨S_, .f32⟩
  | 72 => ⟨S4096x1024, .f32⟩
  | 73 => ⟨S4096x1024, .f32⟩
  | 74 => ⟨S4096x1024, .f32⟩
  | 75 => ⟨S_, .f32⟩
  | 76 => ⟨S4096x1024, .f32⟩
  | 77 => ⟨S4096x1024, .f32⟩
  | 78 => ⟨S4096x1024, .f32⟩
  | 79 => ⟨S_, .f32⟩
  | 80 => ⟨S4096x1024, .f32⟩
  | 81 => ⟨S4096x1024, .f32⟩
  | 82 => ⟨S_, .f32⟩
  | 83 => ⟨S4096x1024, .f32⟩
  | 84 => ⟨S4096x1024, .f32⟩
  | 85 => ⟨S4096x1024, .f32⟩
  | 86 => ⟨S4096x1024, .f32⟩
  | 87 => ⟨S4096x1024, .f32⟩
  | 88 => ⟨S4096x1024, .f32⟩
  | 89 => ⟨S_, .f32⟩
  | 90 => ⟨S4096x1024, .f32⟩
  | 91 => ⟨S4096x1024, .f32⟩
  | 92 => ⟨S4096x1024, .f32⟩
  | 93 => ⟨S_, .f32⟩
  | 94 => ⟨S4096x1024, .f32⟩
  | 95 => ⟨S4096x1024, .f32⟩
  | 96 => ⟨S4096x1024, .f32⟩
  | 97 => ⟨S_, .f32⟩
  | 98 => ⟨S4096x1024, .f32⟩
  | 99 => ⟨S4096x1024, .f32⟩
  | 100 => ⟨S_, .f32⟩
  | 101 => ⟨S4096x1024, .f32⟩
  | 102 => ⟨S4096x1024, .f32⟩
  | 103 => ⟨S4096x1024, .f32⟩
  | 104 => ⟨S4096x1024, .f32⟩
  | 105 => ⟨S4096x2048, .f32⟩
  | 106 => ⟨S4096x2048, .bf16⟩
  | 107 => ⟨S128x8, .f32⟩
  | 108 => ⟨S1x1024, .f32⟩
  | 109 => ⟨S1x1024, .f32⟩
  | _ => ⟨S4096x7680, .f32⟩

abbrev hbmTy (i : Nat) : BufTy := match i / 128 with
  | 0 => hbmTy0_0 i
  | 1 => hbmTy0_1 i
  | _ => ⟨S4096x7680, .f32⟩

abbrev bufTy : (tb : Table) → Fin (tcTables nBuf tb) → BufTy
  | .hbm, ⟨i, _⟩ => hbmTy i
  | _, _ => ⟨S4096x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_v40 : Ref sig .tc := ⟨.hbm, 59, rfl⟩
abbrev main_cst_12 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_13 : Ref sig .tc := ⟨.hbm, 64, rfl⟩
abbrev main_v44 : Ref sig .tc := ⟨.hbm, 65, rfl⟩
abbrev main_v45 : Ref sig .tc := ⟨.hbm, 66, rfl⟩
abbrev main_cst_14 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_15 : Ref sig .tc := ⟨.hbm, 71, rfl⟩
abbrev main_v49 : Ref sig .tc := ⟨.hbm, 72, rfl⟩
abbrev main_v50 : Ref sig .tc := ⟨.hbm, 73, rfl⟩
abbrev main_cst_16 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_17 : Ref sig .tc := ⟨.hbm, 80, rfl⟩
abbrev main_v56 : Ref sig .tc := ⟨.hbm, 81, rfl⟩
abbrev main_v57 : Ref sig .tc := ⟨.hbm, 82, rfl⟩
abbrev main_cst_18 : Ref sig .tc := ⟨.hbm, 83, rfl⟩
abbrev main_v58 : Ref sig .tc := ⟨.hbm, 84, rfl⟩
abbrev main_v59 : Ref sig .tc := ⟨.hbm, 85, rfl⟩
abbrev main_cst_19 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_20 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_21 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c : Ref sig .tc := ⟨.hbm, 108, rfl⟩
abbrev main_v79 : Ref sig .tc := ⟨.hbm, 109, rfl⟩
abbrev main_call0_v0 : Ref sig .tc := ⟨.hbm, 110, rfl⟩
abbrev main_call0_c : Ref sig .tc := ⟨.hbm, 111, rfl⟩
abbrev main_call0_v1 : Ref sig .tc := ⟨.hbm, 112, rfl⟩
abbrev main_call0_v2 : Ref sig .tc := ⟨.hbm, 113, rfl⟩
abbrev main_call0_v3 : Ref sig .tc := ⟨.hbm, 114, rfl⟩
abbrev main_call0_v4 : Ref sig .tc := ⟨.hbm, 115, rfl⟩
abbrev main_call0_c_0 : Ref sig .tc := ⟨.hbm, 116, rfl⟩
abbrev main_call0_v5 : Ref sig .tc := ⟨.hbm, 117, rfl⟩
abbrev main_v80 : Ref sig .tc := ⟨.hbm, 118, rfl⟩
abbrev main_v81 : Ref sig .tc := ⟨.hbm, 119, rfl⟩
abbrev main_cst_22 : Ref sig .tc := ⟨.hbm, 120, rfl⟩
abbrev main_call1_v0 : Ref sig .tc := ⟨.hbm, 121, rfl⟩
abbrev main_v82_1 : Ref sig .tc := ⟨.hbm, 122, rfl⟩
abbrev main_call1_v2 : Ref sig .tc := ⟨.hbm, 123, rfl⟩
abbrev main_v82_0 : Ref sig .tc := ⟨.hbm, 124, rfl⟩
abbrev main_call1_cst : Ref sig .tc := ⟨.hbm, 125, rfl⟩
abbrev main_v82_2 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_23 : Ref sig .tc := ⟨.hbm, 139, rfl⟩
abbrev main_v95 : Ref sig .tc := ⟨.hbm, 140, rfl⟩
abbrev main_v96 : Ref sig .tc := ⟨.hbm, 141, rfl⟩
abbrev main_cst_24 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_call2_cst : Ref sig .tc := ⟨.hbm, 149, rfl⟩
abbrev main_call2_v0 : Ref sig .tc := ⟨.hbm, 150, rfl⟩
abbrev main_v103 : Ref sig .tc := ⟨.hbm, 151, rfl⟩
abbrev main_v104 : Ref sig .tc := ⟨.hbm, 152, rfl⟩
abbrev main_cst_25 : Ref sig .tc := ⟨.hbm, 153, rfl⟩
abbrev main_v105 : Ref sig .tc := ⟨.hbm, 154, rfl⟩
abbrev main_v106 : Ref sig .tc := ⟨.hbm, 155, rfl⟩
abbrev main_cst_26 : Ref sig .tc := ⟨.hbm, 156, rfl⟩
abbrev main_v107 : Ref sig .tc := ⟨.hbm, 157, rfl⟩
abbrev main_v108 : Ref sig .tc := ⟨.hbm, 158, rfl⟩
abbrev main_cst_27 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_cst_28 : Ref sig .tc := ⟨.hbm, 164, rfl⟩
abbrev main_v113 : Ref sig .tc := ⟨.hbm, 165, rfl⟩
abbrev main_v114 : Ref sig .tc := ⟨.hbm, 166, rfl⟩
abbrev main_cst_29 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_cst_30 : Ref sig .tc := ⟨.hbm, 174, rfl⟩
abbrev main_v121 : Ref sig .tc := ⟨.hbm, 175, rfl⟩
abbrev main_v122 : Ref sig .tc := ⟨.hbm, 176, rfl⟩
abbrev main_cst_31 : Ref sig .tc := ⟨.hbm, 177, rfl⟩
abbrev main_v123 : Ref sig .tc := ⟨.hbm, 178, rfl⟩
abbrev main_v124 : Ref sig .tc := ⟨.hbm, 179, rfl⟩
abbrev main_cst_32 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_cst_33 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_cst_34 : Ref sig .tc := ⟨.hbm, 190, rfl⟩
abbrev main_v133 : Ref sig .tc := ⟨.hbm, 191, rfl⟩
abbrev main_v134 : Ref sig .tc := ⟨.hbm, 192, rfl⟩
abbrev main_cst_35 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_cst_36 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_cst_37 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_cst_38 : Ref sig .tc := ⟨.hbm, 207, rfl⟩
abbrev main_v146 : Ref sig .tc := ⟨.hbm, 208, rfl⟩
abbrev main_v147 : Ref sig .tc := ⟨.hbm, 209, rfl⟩
abbrev main_cst_39 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_cst_40 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_cst_41 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_cst_42 : Ref sig .tc := ⟨.hbm, 225, rfl⟩
abbrev main_v160 : Ref sig .tc := ⟨.hbm, 226, rfl⟩
abbrev main_v161 : Ref sig .tc := ⟨.hbm, 227, rfl⟩
abbrev main_cst_43 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩

abbrev nD : Nat := 1
abbrev τ : Topo := Topo.v7x

variable {F : FTy → Type} [FloatOps F]
-- ==== Dh.lean ====
abbrev S4096x2048 : Shape := ⟨2, ![4096, 2048]⟩
abbrev S4096x8192 : Shape := ⟨2, ![4096, 8192]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S8192x2048, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhReferenceIdeal.lean ====
abbrev S4096x2048 : Shape := ⟨2, ![4096, 2048]⟩
abbrev S4096x8192 : Shape := ⟨2, ![4096, 8192]⟩
abbrev S8192x2048 : Shape := ⟨2, ![8192, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S8192x2048, .bf16⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .i1⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S8192x2048, .f32⟩
  | .hbm, ⟨17, _⟩ => ⟨S4096x2048, .f32⟩
  | .hbm, ⟨18, _⟩ => ⟨S4096x2048, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Dx2.lean ====
abbrev S4096x8192 : Shape := ⟨2, ![4096, 8192]⟩
abbrev S4096x2048 : Shape := ⟨2, ![4096, 2048]⟩
abbrev S2048x8192 : Shape := ⟨2, ![2048, 8192]⟩
abbrev S1024x8192 : Shape := ⟨2, ![1024, 8192]⟩
abbrev S512x8192 : Shape := ⟨2, ![512, 8192]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .f32⟩
  | .hbm, ⟨2, _⟩ => ⟨S2048x8192, .bf16⟩
  | .hbm, ⟨3, _⟩ => ⟨S4096x2048, .f32⟩
  | .local _ .vmem, ⟨0, _⟩ => ⟨S1024x8192, .bf16⟩
  | .local _ .vmem, ⟨1, _⟩ => ⟨S1024x8192, .bf16⟩
  | .local _ .vmem, ⟨2, _⟩ => ⟨S512x8192, .bf16⟩
  | .local _ .vmem, ⟨3, _⟩ => ⟨S512x8192, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Dx2ReferenceIdeal.lean ====
abbrev S4096x8192 : Shape := ⟨2, ![4096, 8192]⟩
abbrev S4096x2048 : Shape := ⟨2, ![4096, 2048]⟩
abbrev S2048x8192 : Shape := ⟨2, ![2048, 8192]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .f32⟩
  | .hbm, ⟨2, _⟩ => ⟨S2048x8192, .bf16⟩
  | .hbm, ⟨3, _⟩ => ⟨S_, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S2048x8192, .f32⟩
  | .hbm, ⟨9, _⟩ => ⟨S4096x8192, .f32⟩
  | .hbm, ⟨10, _⟩ => ⟨S4096x8192, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Dx.lean ====
abbrev S4096x2048 : Shape := ⟨2, ![4096, 2048]⟩
abbrev S4096x1536 : Shape := ⟨2, ![4096, 1536]⟩
abbrev S2x4096x2048 : Shape := ⟨3, ![2, 4096, 2048]⟩
abbrev S2048x7680 : Shape := ⟨2, ![2048, 7680]⟩
abbrev S1024x2048 : Shape := ⟨2, ![1024, 2048]⟩
abbrev S1024x1536 : Shape := ⟨2, ![1024, 1536]⟩
abbrev S1x1024x2048 : Shape := ⟨3, ![1, 1024, 2048]⟩
abbrev S512x7680 : Shape := ⟨2, ![512, 7680]⟩
abbrev S1024x512 : Shape := ⟨2, ![1024, 512]⟩
abbrev S512x2048 : Shape := ⟨2, ![512, 2048]⟩
abbrev S512x1536 : Shape := ⟨2, ![512, 1536]⟩

abbrev nBuf : Space → Nat
  | .hbm => 6
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S4096x1536, .bf16⟩
  | .hbm, ⟨2, _⟩ => ⟨S2x4096x2048, .bf16⟩
  | .hbm, ⟨3, _⟩ => ⟨S4096x2048, .f32⟩
  | .hbm, ⟨4, _⟩ => ⟨S2048x7680, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x1536, .bf16⟩
  | .local _ .vmem, ⟨3, _⟩ => ⟨S1024x1536, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S512x7680, .bf16⟩
  | .local _ .vmem, ⟨9, _⟩ => ⟨S512x7680, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x7680 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DxReferenceIdeal.lean ====
abbrev S4096x2048 : Shape := ⟨2, ![4096, 2048]⟩
abbrev S4096x1536 : Shape := ⟨2, ![4096, 1536]⟩
abbrev S2x4096x2048 : Shape := ⟨3, ![2, 4096, 2048]⟩
abbrev S2048x7680 : Shape := ⟨2, ![2048, 7680]⟩
abbrev S1x4096x2048 : Shape := ⟨3, ![1, 4096, 2048]⟩
abbrev S_ : Shape := ⟨0, ![]⟩
abbrev S4096x7680 : Shape := ⟨2, ![4096, 7680]⟩

abbrev nBuf : Space → Nat
  | .hbm => 30
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1536, .bf16⟩
  | .hbm, ⟨2, _⟩ => ⟨S2x4096x2048, .bf16⟩
  | .hbm, ⟨3, _⟩ => ⟨S4096x2048, .f32⟩
  | .hbm, ⟨4, _⟩ => ⟨S2048x7680, .bf16⟩
  | .hbm, ⟨5, _⟩ => ⟨S4096x2048, .f32⟩
  | .hbm, ⟨6, _⟩ => ⟨S4096x1536, .f32⟩
  | .hbm, ⟨7, _⟩ => ⟨S1x4096x2048, .bf16⟩
  | .hbm, ⟨8, _⟩ => ⟨S4096x2048, .bf16⟩
  | .hbm, ⟨9, _⟩ => ⟨S4096x2048, .f32⟩
  | .hbm, ⟨10, _⟩ => ⟨S1x4096x2048, .bf16⟩
  | .hbm, ⟨11, _⟩ => ⟨S4096x2048, .bf16⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S2048x7680, .f32⟩
  | .hbm, ⟨16, _⟩ => ⟨S4096x7680, .f32⟩
  | .hbm, ⟨17, _⟩ => ⟨S4096x2048, .f32⟩
  | .hbm, ⟨18, _⟩ => ⟨S4096x1536, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S4096x7680, .f32⟩
  | .hbm, ⟨28, _⟩ => ⟨S4096x2048, .f32⟩
  | .hbm, ⟨29, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Up.lean ====
abbrev S4096x2048 : Shape := ⟨2, ![4096, 2048]⟩
abbrev S2048x8192 : Shape := ⟨2, ![2048, 8192]⟩
abbrev S4096x8192 : Shape := ⟨2, ![4096, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpReferenceIdeal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | .hbm, ⟨5, _⟩ => ⟨S4096x8192, .bf16⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Down.lean ====
abbrev S4096x8192 : Shape := ⟨2, ![4096, 8192]⟩
abbrev S8192x2048 : Shape := ⟨2, ![8192, 2048]⟩
abbrev S4096x2048 : Shape := ⟨2, ![4096, 2048]⟩
abbrev S1024x8192 : Shape := ⟨2, ![1024, 8192]⟩
abbrev S8192x512 : Shape := ⟨2, ![8192, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x2048, .f32⟩
  | .local _ .vmem, ⟨0, _⟩ => ⟨S1024x8192, .bf16⟩
  | .local _ .vmem, ⟨1, _⟩ => ⟨S1024x8192, .bf16⟩
  | .local _ .vmem, ⟨2, _⟩ => ⟨S8192x512, .bf16⟩
  | .local _ .vmem, ⟨3, _⟩ => ⟨S8192x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownReferenceIdeal.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x8192, .f32⟩
  | .hbm, ⟨7, _⟩ => ⟨S8192x2048, .f32⟩
  | .hbm, ⟨8, _⟩ => ⟨S4096x2048, .f32⟩
  | .hbm, ⟨9, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proj.lean ====
abbrev S4096x2048 : Shape := ⟨2, ![4096, 2048]⟩
abbrev S2048x7680 : Shape := ⟨2, ![2048, 7680]⟩
abbrev S4096x7680 : Shape := ⟨2, ![4096, 7680]⟩
abbrev S1024x2048 : Shape := ⟨2, ![1024, 2048]⟩
abbrev S2048x1280 : Shape := ⟨2, ![2048, 1280]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x7680, .bf16⟩
  | .hbm, ⟨2, _⟩ => ⟨S4096x7680, .f32⟩
  | .local _ .vmem, ⟨0, _⟩ => ⟨S1024x2048, .bf16⟩
  | .local _ .vmem, ⟨1, _⟩ => ⟨S1024x2048, .bf16⟩
  | .local _ .vmem, ⟨2, _⟩ => ⟨S2048x1280, .bf16⟩
  | .local _ .vmem, ⟨3, _⟩ => ⟨S2048x1280, .bf16⟩
  | .local _ .vmem, ⟨4, _⟩ => ⟨S1024x1280, .f32⟩
  | .local _ .vmem, ⟨5, _⟩ => ⟨S1024x1280, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjReferenceIdeal.lean ====
abbrev S4096x2048 : Shape := ⟨2, ![4096, 2048]⟩
abbrev S2048x7680 : Shape := ⟨2, ![2048, 7680]⟩
abbrev S4096x7680 : Shape := ⟨2, ![4096, 7680]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x7680, .bf16⟩
  | .hbm, ⟨2, _⟩ => ⟨S4096x2048, .f32⟩
  | .hbm, ⟨3, _⟩ => ⟨S2048x7680, .f32⟩
  | .hbm, ⟨4, _⟩ => ⟨S4096x7680, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwDownS.lean ====
abbrev S4096x8192 : Shape := ⟨2, ![4096, 8192]⟩
abbrev S4096x2048 : Shape := ⟨2, ![4096, 2048]⟩
abbrev S_ : Shape := ⟨0, ![]⟩
abbrev S1 : Shape := ⟨1, ![1]⟩
abbrev S8192x1024 : Shape := ⟨2, ![8192, 1024]⟩
abbrev S4096x1024 : Shape := ⟨2, ![4096, 1024]⟩
abbrev S1024x1024 : Shape := ⟨2, ![1024, 1024]⟩

abbrev nBuf : Space → Nat
  | .hbm => 7
  | .vmem => 5
  | .smem => 1
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S_, .i32⟩
  | .hbm, ⟨3, _⟩ => ⟨S1, .i32⟩
  | .hbm, ⟨4, _⟩ => ⟨S_, .i32⟩
  | .hbm, ⟨5, _⟩ => ⟨S1, .i32⟩
  | .hbm, ⟨6, _⟩ => ⟨S8192x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | .local _ .smem, ⟨0, _⟩ => ⟨S1, .i32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v3 : Ref sig .tc := ⟨.hbm, 6, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwDownSReferenceIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩
abbrev S8192x1024 : Shape := ⟨2, ![8192, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S_, .f32⟩
  | .hbm, ⟨3, _⟩ => ⟨S8192x2048, .f32⟩
  | .hbm, ⟨4, _⟩ => ⟨S4096x8192, .f32⟩
  | .hbm, ⟨5, _⟩ => ⟨S4096x2048, .f32⟩
  | .hbm, ⟨6, _⟩ => ⟨S4096x2048, .f32⟩
  | .hbm, ⟨7, _⟩ => ⟨S2048x8192, .f32⟩
  | .hbm, ⟨8, _⟩ => ⟨S8192x2048, .f32⟩
  | .hbm, ⟨9, _⟩ => ⟨S8192x1024, .f32⟩
  | .hbm, ⟨10, _⟩ => ⟨S8192x1024, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwDownO.lean ====
abbrev S4096x8192 : Shape := ⟨2, ![4096, 8192]⟩
abbrev S4096x2048 : Shape := ⟨2, ![4096, 2048]⟩
abbrev S8192x1024 : Shape := ⟨2, ![8192, 1024]⟩
abbrev S_ : Shape := ⟨0, ![]⟩
abbrev S1 : Shape := ⟨1, ![1]⟩
abbrev S4096x1024 : Shape := ⟨2, ![4096, 1024]⟩
abbrev S1024x1024 : Shape := ⟨2, ![1024, 1024]⟩

abbrev nBuf : Space → Nat
  | .hbm => 5
  | .vmem => 7
  | .smem => 1
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x1024, .bf16⟩
  | .hbm, ⟨3, _⟩ => ⟨S_, .i32⟩
  | .hbm, ⟨4, _⟩ => ⟨S8192x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .smem, ⟨0, _⟩ => ⟨S1, .i32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DwDownOReferenceIdeal.lean ====
abbrev S4096x8192 : Shape := ⟨2, ![4096, 8192]⟩
abbrev S4096x2048 : Shape := ⟨2, ![4096, 2048]⟩
abbrev S8192x1024 : Shape := ⟨2, ![8192, 1024]⟩
abbrev S_ : Shape := ⟨0, ![]⟩
abbrev S8192x2048 : Shape := ⟨2, ![8192, 2048]⟩
abbrev S2048x8192 : Shape := ⟨2, ![2048, 8192]⟩

abbrev nBuf : Space → Nat
  | .hbm => 14
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x1024, .bf16⟩
  | .hbm, ⟨3, _⟩ => ⟨S_, .f32⟩
  | .hbm, ⟨4, _⟩ => ⟨S8192x2048, .f32⟩
  | .hbm, ⟨5, _⟩ => ⟨S4096x8192, .f32⟩
  | .hbm, ⟨6, _⟩ => ⟨S4096x2048, .f32⟩
  | .hbm, ⟨7, _⟩ => ⟨S4096x2048, .f32⟩
  | .hbm, ⟨8, _⟩ => ⟨S2048x8192, .f32⟩
  | .hbm, ⟨9, _⟩ => ⟨S8192x2048, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== DwUpS.lean ====
abbrev S4096x2048 : Shape := ⟨2, ![4096, 2048]⟩
abbrev S4096x8192 : Shape := ⟨2, ![4096, 8192]⟩
abbrev S_ : Shape := ⟨0, ![]⟩
abbrev S1 : Shape := ⟨1, ![1]⟩
abbrev S1024x8192 : Shape := ⟨2, ![1024, 8192]⟩
abbrev S4096x1024 : Shape := ⟨2, ![4096, 1024]⟩
abbrev S1024x1024 : Shape := ⟨2, ![1024, 1024]⟩

abbrev nBuf : Space → Nat
  | .hbm => 7
  | .vmem => 5
  | .smem => 1
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .i32⟩
  | .hbm, ⟨3, _⟩ => ⟨S1, .i32⟩
  | .hbm, ⟨4, _⟩ => ⟨S_, .i32⟩
  | .hbm, ⟨5, _⟩ => ⟨S1, .i32⟩
  | .hbm, ⟨6, _⟩ => ⟨S1024x8192, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v3 : Ref sig .tc := ⟨.hbm, 6, rfl⟩
abbrev main_v2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![c0_i32.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwUpSReferenceIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S1024x8192 : Shape := ⟨2, ![1024, 8192]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S1024x8192, .f32⟩
  | .hbm, ⟨10, _⟩ => ⟨S1024x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwUpO.lean ====
abbrev S4096x2048 : Shape := ⟨2, ![4096, 2048]⟩
abbrev S4096x8192 : Shape := ⟨2, ![4096, 8192]⟩
abbrev S1024x8192 : Shape := ⟨2, ![1024, 8192]⟩
abbrev S_ : Shape := ⟨0, ![]⟩
abbrev S1 : Shape := ⟨1, ![1]⟩
abbrev S4096x1024 : Shape := ⟨2, ![4096, 1024]⟩
abbrev S1024x1024 : Shape := ⟨2, ![1024, 1024]⟩

abbrev nBuf : Space → Nat
  | .hbm => 5
  | .vmem => 7
  | .smem => 1
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S1024x8192, .bf16⟩
  | .hbm, ⟨3, _⟩ => ⟨S_, .i32⟩
  | .hbm, ⟨4, _⟩ => ⟨S1024x8192, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![c0_i32.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DwUpOReferenceIdeal.lean ====
abbrev S4096x2048 : Shape := ⟨2, ![4096, 2048]⟩
abbrev S4096x8192 : Shape := ⟨2, ![4096, 8192]⟩
abbrev S1024x8192 : Shape := ⟨2, ![1024, 8192]⟩
abbrev S_ : Shape := ⟨0, ![]⟩
abbrev S2048x8192 : Shape := ⟨2, ![2048, 8192]⟩
abbrev S8192x2048 : Shape := ⟨2, ![8192, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S1024x8192, .bf16⟩
  | .hbm, ⟨3, _⟩ => ⟨S_, .f32⟩
  | .hbm, ⟨4, _⟩ => ⟨S2048x8192, .f32⟩
  | .hbm, ⟨5, _⟩ => ⟨S4096x2048, .f32⟩
  | .hbm, ⟨6, _⟩ => ⟨S4096x8192, .f32⟩
  | .hbm, ⟨7, _⟩ => ⟨S4096x8192, .f32⟩
  | .hbm, ⟨8, _⟩ => ⟨S8192x2048, .f32⟩
  | .hbm, ⟨9, _⟩ => ⟨S2048x8192, .f32⟩
  | .hbm, ⟨10, _⟩ => ⟨S1024x8192, .f32⟩
  | .hbm, ⟨11, _⟩ => ⟨S1024x8192, .f32⟩
  | .hbm, ⟨12, _⟩ => ⟨S1024x8192, .f32⟩
  | .hbm, ⟨13, _⟩ => ⟨S1024x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== O.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OReferenceIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S4096x2048, .f32⟩
  | .hbm, ⟨9, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DwOS.lean ====
abbrev S4096x2048 : Shape := ⟨2, ![4096, 2048]⟩
abbrev S_ : Shape := ⟨0, ![]⟩
abbrev S1 : Shape := ⟨1, ![1]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 7
  | .vmem => 5
  | .smem => 1
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .i32⟩
  | .hbm, ⟨3, _⟩ => ⟨S1, .i32⟩
  | .hbm, ⟨4, _⟩ => ⟨S_, .i32⟩
  | .hbm, ⟨5, _⟩ => ⟨S1, .i32⟩
  | .hbm, ⟨6, _⟩ => ⟨S2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v3 : Ref sig .tc := ⟨.hbm, 6, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwOSReferenceIdeal.lean ====
abbrev S4096x2048 : Shape := ⟨2, ![4096, 2048]⟩
abbrev S_ : Shape := ⟨0, ![]⟩
abbrev S2048x2048 : Shape := ⟨2, ![2048, 2048]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x1024, .f32⟩
  | .hbm, ⟨10, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwOO.lean ====
abbrev S4096x2048 : Shape := ⟨2, ![4096, 2048]⟩
abbrev S2048x1024 : Shape := ⟨2, ![2048, 1024]⟩
abbrev S_ : Shape := ⟨0, ![]⟩
abbrev S1 : Shape := ⟨1, ![1]⟩
abbrev S4096x1024 : Shape := ⟨2, ![4096, 1024]⟩
abbrev S1024x1024 : Shape := ⟨2, ![1024, 1024]⟩

abbrev nBuf : Space → Nat
  | .hbm => 5
  | .vmem => 7
  | .smem => 1
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x1024, .bf16⟩
  | .hbm, ⟨3, _⟩ => ⟨S_, .i32⟩
  | .hbm, ⟨4, _⟩ => ⟨S2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DwOOReferenceIdeal.lean ====
abbrev S4096x2048 : Shape := ⟨2, ![4096, 2048]⟩
abbrev S2048x1024 : Shape := ⟨2, ![2048, 1024]⟩
abbrev S_ : Shape := ⟨0, ![]⟩
abbrev S2048x2048 : Shape := ⟨2, ![2048, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x1024, .bf16⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S2048x2048, .f32⟩
  | .hbm, ⟨9, _⟩ => ⟨S2048x2048, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== DwBrS.lean ====
abbrev S4096x1024 : Shape := ⟨2, ![4096, 1024]⟩
abbrev S4096x2048 : Shape := ⟨2, ![4096, 2048]⟩
abbrev S_ : Shape := ⟨0, ![]⟩
abbrev S1 : Shape := ⟨1, ![1]⟩
abbrev S512x2048 : Shape := ⟨2, ![512, 2048]⟩
abbrev S4096x512 : Shape := ⟨2, ![4096, 512]⟩
abbrev S512x1024 : Shape := ⟨2, ![512, 1024]⟩

abbrev nBuf : Space → Nat
  | .hbm => 7
  | .vmem => 5
  | .smem => 1
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .i32⟩
  | .hbm, ⟨3, _⟩ => ⟨S1, .i32⟩
  | .hbm, ⟨4, _⟩ => ⟨S_, .i32⟩
  | .hbm, ⟨5, _⟩ => ⟨S1, .i32⟩
  | .hbm, ⟨6, _⟩ => ⟨S512x2048, .bf16⟩
  | .local _ .vmem, ⟨0, _⟩ => ⟨S4096x512, .bf16⟩
  | .local _ .vmem, ⟨1, _⟩ => ⟨S4096x1024, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | .local _ .smem, ⟨0, _⟩ => ⟨S1, .i32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v3 : Ref sig .tc := ⟨.hbm, 6, rfl⟩
abbrev main_v2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![c0_i32.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwBrSReferenceIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S512x2048 : Shape := ⟨2, ![512, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S512x2048, .f32⟩
  | .hbm, ⟨10, _⟩ => ⟨S512x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwBrO.lean ====
abbrev S4096x1024 : Shape := ⟨2, ![4096, 1024]⟩
abbrev S4096x2048 : Shape := ⟨2, ![4096, 2048]⟩
abbrev S512x2048 : Shape := ⟨2, ![512, 2048]⟩
abbrev S_ : Shape := ⟨0, ![]⟩
abbrev S1 : Shape := ⟨1, ![1]⟩
abbrev S4096x512 : Shape := ⟨2, ![4096, 512]⟩
abbrev S512x1024 : Shape := ⟨2, ![512, 1024]⟩

abbrev nBuf : Space → Nat
  | .hbm => 5
  | .vmem => 7
  | .smem => 1
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S512x2048, .bf16⟩
  | .hbm, ⟨3, _⟩ => ⟨S_, .i32⟩
  | .hbm, ⟨4, _⟩ => ⟨S512x2048, .bf16⟩
  | .local _ .vmem, ⟨0, _⟩ => ⟨S4096x512, .bf16⟩
  | .local _ .vmem, ⟨1, _⟩ => ⟨S4096x1024, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .smem, ⟨0, _⟩ => ⟨S1, .i32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![c0_i32.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DwBrOReferenceIdeal.lean ====
abbrev S4096x1024 : Shape := ⟨2, ![4096, 1024]⟩
abbrev S4096x2048 : Shape := ⟨2, ![4096, 2048]⟩
abbrev S512x2048 : Shape := ⟨2, ![512, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S512x2048, .bf16⟩
  | .hbm, ⟨3, _⟩ => ⟨S_, .f32⟩
  | .hbm, ⟨4, _⟩ => ⟨S1024x2048, .f32⟩
  | .hbm, ⟨5, _⟩ => ⟨S4096x1024, .f32⟩
  | .hbm, ⟨6, _⟩ => ⟨S4096x2048, .f32⟩
  | .hbm, ⟨7, _⟩ => ⟨S4096x2048, .f32⟩
  | .hbm, ⟨8, _⟩ => ⟨S2048x1024, .f32⟩
  | .hbm, ⟨9, _⟩ => ⟨S1024x2048, .f32⟩
  | .hbm, ⟨10, _⟩ => ⟨S512x2048, .f32⟩
  | .hbm, ⟨11, _⟩ => ⟨S512x2048, .f32⟩
  | .hbm, ⟨12, _⟩ => ⟨S512x2048, .f32⟩
  | .hbm, ⟨13, _⟩ => ⟨S512x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== DwXoS.lean ====
abbrev S4096x512 : Shape := ⟨2, ![4096, 512]⟩
abbrev S4096x2048 : Shape := ⟨2, ![4096, 2048]⟩
abbrev S_ : Shape := ⟨0, ![]⟩
abbrev S1 : Shape := ⟨1, ![1]⟩
abbrev S256x2048 : Shape := ⟨2, ![256, 2048]⟩
abbrev S4096x256 : Shape := ⟨2, ![4096, 256]⟩
abbrev S4096x1024 : Shape := ⟨2, ![4096, 1024]⟩
abbrev S256x1024 : Shape := ⟨2, ![256, 1024]⟩

abbrev nBuf : Space → Nat
  | .hbm => 7
  | .vmem => 5
  | .smem => 1
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S_, .i32⟩
  | .hbm, ⟨3, _⟩ => ⟨S1, .i32⟩
  | .hbm, ⟨4, _⟩ => ⟨S_, .i32⟩
  | .hbm, ⟨5, _⟩ => ⟨S1, .i32⟩
  | .hbm, ⟨6, _⟩ => ⟨S256x2048, .bf16⟩
  | .local _ .vmem, ⟨0, _⟩ => ⟨S4096x256, .bf16⟩
  | .local _ .vmem, ⟨1, _⟩ => ⟨S4096x1024, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | .local _ .smem, ⟨0, _⟩ => ⟨S1, .i32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v3 : Ref sig .tc := ⟨.hbm, 6, rfl⟩
abbrev main_v2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![c0_i32.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwXoSReferenceIdeal.lean ====
abbrev S4096x512 : Shape := ⟨2, ![4096, 512]⟩
abbrev S4096x2048 : Shape := ⟨2, ![4096, 2048]⟩
abbrev S_ : Shape := ⟨0, ![]⟩
abbrev S512x2048 : Shape := ⟨2, ![512, 2048]⟩
abbrev S2048x512 : Shape := ⟨2, ![2048, 512]⟩
abbrev S256x2048 : Shape := ⟨2, ![256, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S_, .f32⟩
  | .hbm, ⟨3, _⟩ => ⟨S512x2048, .f32⟩
  | .hbm, ⟨4, _⟩ => ⟨S4096x512, .f32⟩
  | .hbm, ⟨5, _⟩ => ⟨S4096x2048, .f32⟩
  | .hbm, ⟨6, _⟩ => ⟨S4096x2048, .f32⟩
  | .hbm, ⟨7, _⟩ => ⟨S2048x512, .f32⟩
  | .hbm, ⟨8, _⟩ => ⟨S512x2048, .f32⟩
  | .hbm, ⟨9, _⟩ => ⟨S256x2048, .f32⟩
  | .hbm, ⟨10, _⟩ => ⟨S256x2048, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwXoO.lean ====
abbrev S4096x512 : Shape := ⟨2, ![4096, 512]⟩
abbrev S4096x2048 : Shape := ⟨2, ![4096, 2048]⟩
abbrev S256x2048 : Shape := ⟨2, ![256, 2048]⟩
abbrev S_ : Shape := ⟨0, ![]⟩
abbrev S1 : Shape := ⟨1, ![1]⟩
abbrev S4096x256 : Shape := ⟨2, ![4096, 256]⟩
abbrev S4096x1024 : Shape := ⟨2, ![4096, 1024]⟩
abbrev S256x1024 : Shape := ⟨2, ![256, 1024]⟩

abbrev nBuf : Space → Nat
  | .hbm => 5
  | .vmem => 7
  | .smem => 1
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S256x2048, .bf16⟩
  | .hbm, ⟨3, _⟩ => ⟨S_, .i32⟩
  | .hbm, ⟨4, _⟩ => ⟨S256x2048, .bf16⟩
  | .local _ .vmem, ⟨0, _⟩ => ⟨S4096x256, .bf16⟩
  | .local _ .vmem, ⟨1, _⟩ => ⟨S4096x1024, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .smem, ⟨0, _⟩ => ⟨S1, .i32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![c0_i32.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DwXoOReferenceIdeal.lean ====
abbrev S4096x512 : Shape := ⟨2, ![4096, 512]⟩
abbrev S4096x2048 : Shape := ⟨2, ![4096, 2048]⟩
abbrev S256x2048 : Shape := ⟨2, ![256, 2048]⟩
abbrev S_ : Shape := ⟨0, ![]⟩
abbrev S512x2048 : Shape := ⟨2, ![512, 2048]⟩
abbrev S2048x512 : Shape := ⟨2, ![2048, 512]⟩

abbrev nBuf : Space → Nat
  | .hbm => 14
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S256x2048, .bf16⟩
  | .hbm, ⟨3, _⟩ => ⟨S_, .f32⟩
  | .hbm, ⟨4, _⟩ => ⟨S512x2048, .f32⟩
  | .hbm, ⟨5, _⟩ => ⟨S4096x512, .f32⟩
  | .hbm, ⟨6, _⟩ => ⟨S4096x2048, .f32⟩
  | .hbm, ⟨7, _⟩ => ⟨S4096x2048, .f32⟩
  | .hbm, ⟨8, _⟩ => ⟨S2048x512, .f32⟩
  | .hbm, ⟨9, _⟩ => ⟨S512x2048, .f32⟩
  | .hbm, ⟨10, _⟩ => ⟨S256x2048, .f32⟩
  | .hbm, ⟨11, _⟩ => ⟨S256x2048, .f32⟩
  | .hbm, ⟨12, _⟩ => ⟨S256x2048, .f32⟩
  | .hbm, ⟨13, _⟩ => ⟨S256x2048, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== DwXqS.lean ====
abbrev S4096x2048 : Shape := ⟨2, ![4096, 2048]⟩
abbrev S4096x512 : Shape := ⟨2, ![4096, 512]⟩
abbrev S_ : Shape := ⟨0, ![]⟩
abbrev S1 : Shape := ⟨1, ![1]⟩
abbrev S2048x256 : Shape := ⟨2, ![2048, 256]⟩
abbrev S4096x1024 : Shape := ⟨2, ![4096, 1024]⟩
abbrev S4096x256 : Shape := ⟨2, ![4096, 256]⟩
abbrev S1024x256 : Shape := ⟨2, ![1024, 256]⟩

abbrev nBuf : Space → Nat
  | .hbm => 7
  | .vmem => 5
  | .smem => 1
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S_, .i32⟩
  | .hbm, ⟨3, _⟩ => ⟨S1, .i32⟩
  | .hbm, ⟨4, _⟩ => ⟨S_, .i32⟩
  | .hbm, ⟨5, _⟩ => ⟨S1, .i32⟩
  | .hbm, ⟨6, _⟩ => ⟨S2048x256, .bf16⟩
  | .local _ .vmem, ⟨0, _⟩ => ⟨S4096x1024, .bf16⟩
  | .local _ .vmem, ⟨1, _⟩ => ⟨S4096x1024, .bf16⟩
  | .local _ .vmem, ⟨2, _⟩ => ⟨S4096x256, .bf16⟩
  | .local _ .vmem, ⟨3, _⟩ => ⟨S1024x256, .bf16⟩
  | .local _ .vmem, ⟨4, _⟩ => ⟨S1024x256, .bf16⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v3 : Ref sig .tc := ⟨.hbm, 6, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwXqSReferenceIdeal.lean ====
abbrev S4096x2048 : Shape := ⟨2, ![4096, 2048]⟩
abbrev S4096x512 : Shape := ⟨2, ![4096, 512]⟩
abbrev S_ : Shape := ⟨0, ![]⟩
abbrev S2048x512 : Shape := ⟨2, ![2048, 512]⟩
abbrev S512x2048 : Shape := ⟨2, ![512, 2048]⟩
abbrev S2048x256 : Shape := ⟨2, ![2048, 256]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S_, .f32⟩
  | .hbm, ⟨3, _⟩ => ⟨S2048x512, .f32⟩
  | .hbm, ⟨4, _⟩ => ⟨S4096x2048, .f32⟩
  | .hbm, ⟨5, _⟩ => ⟨S4096x512, .f32⟩
  | .hbm, ⟨6, _⟩ => ⟨S4096x512, .f32⟩
  | .hbm, ⟨7, _⟩ => ⟨S512x2048, .f32⟩
  | .hbm, ⟨8, _⟩ => ⟨S2048x512, .f32⟩
  | .hbm, ⟨9, _⟩ => ⟨S2048x256, .f32⟩
  | .hbm, ⟨10, _⟩ => ⟨S2048x256, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwXqO.lean ====
abbrev S4096x2048 : Shape := ⟨2, ![4096, 2048]⟩
abbrev S4096x512 : Shape := ⟨2, ![4096, 512]⟩
abbrev S2048x256 : Shape := ⟨2, ![2048, 256]⟩
abbrev S_ : Shape := ⟨0, ![]⟩
abbrev S1 : Shape := ⟨1, ![1]⟩
abbrev S4096x1024 : Shape := ⟨2, ![4096, 1024]⟩
abbrev S4096x256 : Shape := ⟨2, ![4096, 256]⟩
abbrev S1024x256 : Shape := ⟨2, ![1024, 256]⟩

abbrev nBuf : Space → Nat
  | .hbm => 5
  | .vmem => 7
  | .smem => 1
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S2048x256, .bf16⟩
  | .hbm, ⟨3, _⟩ => ⟨S_, .i32⟩
  | .hbm, ⟨4, _⟩ => ⟨S2048x256, .bf16⟩
  | .local _ .vmem, ⟨0, _⟩ => ⟨S4096x1024, .bf16⟩
  | .local _ .vmem, ⟨1, _⟩ => ⟨S4096x1024, .bf16⟩
  | .local _ .vmem, ⟨2, _⟩ => ⟨S4096x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DwXqOReferenceIdeal.lean ====
abbrev S4096x2048 : Shape := ⟨2, ![4096, 2048]⟩
abbrev S4096x512 : Shape := ⟨2, ![4096, 512]⟩
abbrev S2048x256 : Shape := ⟨2, ![2048, 256]⟩
abbrev S_ : Shape := ⟨0, ![]⟩
abbrev S2048x512 : Shape := ⟨2, ![2048, 512]⟩
abbrev S512x2048 : Shape := ⟨2, ![512, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S2048x256, .bf16⟩
  | .hbm, ⟨3, _⟩ => ⟨S_, .f32⟩
  | .hbm, ⟨4, _⟩ => ⟨S2048x512, .f32⟩
  | .hbm, ⟨5, _⟩ => ⟨S4096x2048, .f32⟩
  | .hbm, ⟨6, _⟩ => ⟨S4096x512, .f32⟩
  | .hbm, ⟨7, _⟩ => ⟨S4096x512, .f32⟩
  | .hbm, ⟨8, _⟩ => ⟨S512x2048, .f32⟩
  | .hbm, ⟨9, _⟩ => ⟨S2048x512, .f32⟩
  | .hbm, ⟨10, _⟩ => ⟨S2048x256, .f32⟩
  | .hbm, ⟨11, _⟩ => ⟨S2048x256, .f32⟩
  | .hbm, ⟨12, _⟩ => ⟨S2048x256, .f32⟩
  | .hbm, ⟨13, _⟩ => ⟨S2048x256, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== DwKvS.lean ====
abbrev S256x2048 : Shape := ⟨2, ![256, 2048]⟩
abbrev S256x1024 : Shape := ⟨2, ![256, 1024]⟩
abbrev S_ : Shape := ⟨0, ![]⟩
abbrev S1 : Shape := ⟨1, ![1]⟩
abbrev S2048x512 : Shape := ⟨2, ![2048, 512]⟩
abbrev S256x512 : Shape := ⟨2, ![256, 512]⟩
abbrev S1024x512 : Shape := ⟨2, ![1024, 512]⟩

abbrev nBuf : Space → Nat
  | .hbm => 7
  | .vmem => 5
  | .smem => 1
  | _ => 0

abbrev bufTy : (tb : Table) → Fin (tcTables nBuf tb) → BufTy
  | .hbm, ⟨0, _⟩ => ⟨S256x2048, .bf16⟩
  | .hbm, ⟨1, _⟩ => ⟨S256x1024, .bf16⟩
  | .hbm, ⟨2, _⟩ => ⟨S_, .i32⟩
  | .hbm, ⟨3, _⟩ => ⟨S1, .i32⟩
  | .hbm, ⟨4, _⟩ => ⟨S_, .i32⟩
  | .hbm, ⟨5, _⟩ => ⟨S1, .i32⟩
  | .hbm, ⟨6, _⟩ => ⟨S2048x512, .bf16⟩
  | .local _ .vmem, ⟨0, _⟩ => ⟨S256x1024, .bf16⟩
  | .local _ .vmem, ⟨1, _⟩ => ⟨S256x1024, .bf16⟩
  | .local _ .vmem, ⟨2, _⟩ => ⟨S256x512, .bf16⟩
  | .local _ .vmem, ⟨3, _⟩ => ⟨S1024x512, .bf16⟩
  | .local _ .vmem, ⟨4, _⟩ => ⟨S1024x512, .bf16⟩
  | .local _ .smem, ⟨0, _⟩ => ⟨S1, .i32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v3 : Ref sig .tc := ⟨.hbm, 6, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwKvSReferenceIdeal.lean ====
abbrev S256x2048 : Shape := ⟨2, ![256, 2048]⟩
abbrev S256x1024 : Shape := ⟨2, ![256, 1024]⟩
abbrev S_ : Shape := ⟨0, ![]⟩
abbrev S2048x1024 : Shape := ⟨2, ![2048, 1024]⟩
abbrev S1024x2048 : Shape := ⟨2, ![1024, 2048]⟩
abbrev S2048x512 : Shape := ⟨2, ![2048, 512]⟩

abbrev nBuf : Space → Nat
  | .hbm => 11
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x1024, .bf16⟩
  | .hbm, ⟨2, _⟩ => ⟨S_, .f32⟩
  | .hbm, ⟨3, _⟩ => ⟨S2048x1024, .f32⟩
  | .hbm, ⟨4, _⟩ => ⟨S256x2048, .f32⟩
  | .hbm, ⟨5, _⟩ => ⟨S256x1024, .f32⟩
  | .hbm, ⟨6, _⟩ => ⟨S256x1024, .f32⟩
  | .hbm, ⟨7, _⟩ => ⟨S1024x2048, .f32⟩
  | .hbm, ⟨8, _⟩ => ⟨S2048x1024, .f32⟩
  | .hbm, ⟨9, _⟩ => ⟨S2048x512, .f32⟩
  | .hbm, ⟨10, _⟩ => ⟨S2048x512, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwKvO.lean ====
abbrev S256x2048 : Shape := ⟨2, ![256, 2048]⟩
abbrev S256x1024 : Shape := ⟨2, ![256, 1024]⟩
abbrev S2048x512 : Shape := ⟨2, ![2048, 512]⟩
abbrev S_ : Shape := ⟨0, ![]⟩
abbrev S1 : Shape := ⟨1, ![1]⟩
abbrev S256x512 : Shape := ⟨2, ![256, 512]⟩
abbrev S1024x512 : Shape := ⟨2, ![1024, 512]⟩

abbrev nBuf : Space → Nat
  | .hbm => 5
  | .vmem => 7
  | .smem => 1
  | _ => 0

abbrev bufTy : (tb : Table) → Fin (tcTables nBuf tb) → BufTy
  | .hbm, ⟨0, _⟩ => ⟨S256x2048, .bf16⟩
  | .hbm, ⟨1, _⟩ => ⟨S256x1024, .bf16⟩
  | .hbm, ⟨2, _⟩ => ⟨S2048x512, .bf16⟩
  | .hbm, ⟨3, _⟩ => ⟨S_, .i32⟩
  | .hbm, ⟨4, _⟩ => ⟨S2048x512, .bf16⟩
  | .local _ .vmem, ⟨0, _⟩ => ⟨S256x1024, .bf16⟩
  | .local _ .vmem, ⟨1, _⟩ => ⟨S256x1024, .bf16⟩
  | .local _ .vmem, ⟨2, _⟩ => ⟨S256x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .smem, ⟨0, _⟩ => ⟨S1, .i32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DwKvOReferenceIdeal.lean ====
abbrev S256x2048 : Shape := ⟨2, ![256, 2048]⟩
abbrev S256x1024 : Shape := ⟨2, ![256, 1024]⟩
abbrev S2048x512 : Shape := ⟨2, ![2048, 512]⟩
abbrev S_ : Shape := ⟨0, ![]⟩
abbrev S2048x1024 : Shape := ⟨2, ![2048, 1024]⟩
abbrev S1024x2048 : Shape := ⟨2, ![1024, 2048]⟩

abbrev nBuf : Space → Nat
  | .hbm => 14
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x1024, .bf16⟩
  | .hbm, ⟨2, _⟩ => ⟨S2048x512, .bf16⟩
  | .hbm, ⟨3, _⟩ => ⟨S_, .f32⟩
  | .hbm, ⟨4, _⟩ => ⟨S2048x1024, .f32⟩
  | .hbm, ⟨5, _⟩ => ⟨S256x2048, .f32⟩
  | .hbm, ⟨6, _⟩ => ⟨S256x1024, .f32⟩
  | .hbm, ⟨7, _⟩ => ⟨S256x1024, .f32⟩
  | .hbm, ⟨8, _⟩ => ⟨S1024x2048, .f32⟩
  | .hbm, ⟨9, _⟩ => ⟨S2048x1024, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S2048x512, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Adam.lean ====
abbrev S2360x128 : Shape := ⟨2, ![2360, 128]⟩
abbrev S1x2360x128 : Shape := ⟨3, ![1, 2360, 128]⟩
abbrev S1x40x128 : Shape := ⟨3, ![1, 40, 128]⟩
abbrev S40x128 : Shape := ⟨2, ![40, 128]⟩

abbrev nBuf : Space → Nat
  | .hbm => 11
  | .vmem => 16
  | .smem => 0
  | _ => 0

abbrev bufTy : (tb : Table) → Fin (tcTables nBuf tb) → BufTy
  | .hbm, ⟨0, _⟩ => ⟨S2360x128, .f32⟩
  | .hbm, ⟨1, _⟩ => ⟨S2360x128, .f32⟩
  | .hbm, ⟨2, _⟩ => ⟨S2360x128, .f32⟩
  | .hbm, ⟨3, _⟩ => ⟨S2360x128, .f32⟩
  | .hbm, ⟨4, _⟩ => ⟨S1x2360x128, .f32⟩
  | .hbm, ⟨5, _⟩ => ⟨S1x2360x128, .f32⟩
  | .hbm, ⟨6, _⟩ => ⟨S1x2360x128, .f32⟩
  | .hbm, ⟨7, _⟩ => ⟨S1x2360x128, .f32⟩
  | .hbm, ⟨8, _⟩ => ⟨S1x2360x128, .f32⟩
  | .hbm, ⟨9, _⟩ => ⟨S1x2360x128, .f32⟩
  | .hbm, ⟨10, _⟩ => ⟨S1x2360x128, .f32⟩
  | .local _ .vmem, ⟨0, _⟩ => ⟨S1x40x128, .f32⟩
  | .local _ .vmem, ⟨1, _⟩ => ⟨S1x40x128, .f32⟩
  | .local _ .vmem, ⟨2, _⟩ => ⟨S40x128, .f32⟩
  | .local _ .vmem, ⟨3, _⟩ => ⟨S40x128, .f32⟩
  | .local _ .vmem, ⟨4, _⟩ => ⟨S1x40x128, .f32⟩
  | .local _ .vmem, ⟨5, _⟩ => ⟨S1x40x128, .f32⟩
  | .local _ .vmem, ⟨6, _⟩ => ⟨S1x40x128, .f32⟩
  | .local _ .vmem, ⟨7, _⟩ => ⟨S1x40x128, .f32⟩
  | .local _ .vmem, ⟨8, _⟩ => ⟨S1x40x128, .f32⟩
  | .local _ .vmem, ⟨9, _⟩ => ⟨S1x40x128, .f32⟩
  | .local _ .vmem, ⟨10, _⟩ => ⟨S1x40x128, .f32⟩
  | .local _ .vmem, ⟨11, _⟩ => ⟨S1x40x128, .f32⟩
  | .local _ .vmem, ⟨12, _⟩ => ⟨S1x40x128, .f32⟩
  | .local _ .vmem, ⟨13, _⟩ => ⟨S1x40x128, .f32⟩
  | .local _ .vmem, ⟨14, _⟩ => ⟨S1x40x128, .f32⟩
  | .local _ .vmem, ⟨15, _⟩ => ⟨S1x40x128, .f32⟩
  | _, _ => ⟨S2360x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![59], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x40x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S40x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x40x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x40x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x40x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x40x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x40x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x40x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamReferenceIdeal.lean ====
abbrev S2360x128 : Shape := ⟨2, ![2360, 128]⟩
abbrev S_ : Shape := ⟨0, ![]⟩
abbrev S1x2360x128 : Shape := ⟨3, ![1, 2360, 128]⟩

abbrev nBuf : Space → Nat
  | .hbm => 41
  | .vmem => 0
  | .smem => 0
  | _ => 0

abbrev bufTy : (tb : Table) → Fin (tcTables nBuf tb) → BufTy
  | .hbm, ⟨0, _⟩ => ⟨S2360x128, .f32⟩
  | .hbm, ⟨1, _⟩ => ⟨S2360x128, .f32⟩
  | .hbm, ⟨2, _⟩ => ⟨S2360x128, .f32⟩
  | .hbm, ⟨3, _⟩ => ⟨S2360x128, .f32⟩
  | .hbm, ⟨4, _⟩ => ⟨S_, .f32⟩
  | .hbm, ⟨5, _⟩ => ⟨S2360x128, .f32⟩
  | .hbm, ⟨6, _⟩ => ⟨S2360x128, .f32⟩
  | .hbm, ⟨7, _⟩ => ⟨S_, .f32⟩
  | .hbm, ⟨8, _⟩ => ⟨S2360x128, .f32⟩
  | .hbm, ⟨9, _⟩ => ⟨S2360x128, .f32⟩
  | .hbm, ⟨10, _⟩ => ⟨S2360x128, .f32⟩
  | .hbm, ⟨11, _⟩ => ⟨S_, .f32⟩
  | .hbm, ⟨12, _⟩ => ⟨S2360x128, .f32⟩
  | .hbm, ⟨13, _⟩ => ⟨S2360x128, .f32⟩
  | .hbm, ⟨14, _⟩ => ⟨S2360x128, .f32⟩
  | .hbm, ⟨15, _⟩ => ⟨S_, .f32⟩
  | .hbm, ⟨16, _⟩ => ⟨S2360x128, .f32⟩
  | .hbm, ⟨17, _⟩ => ⟨S2360x128, .f32⟩
  | .hbm, ⟨18, _⟩ => ⟨S2360x128, .f32⟩
  | .hbm, ⟨19, _⟩ => ⟨S_, .f32⟩
  | .hbm, ⟨20, _⟩ => ⟨S2360x128, .f32⟩
  | .hbm, ⟨21, _⟩ => ⟨S2360x128, .f32⟩
  | .hbm, ⟨22, _⟩ => ⟨S_, .f32⟩
  | .hbm, ⟨23, _⟩ => ⟨S2360x128, .f32⟩
  | .hbm, ⟨24, _⟩ => ⟨S2360x128, .f32⟩
  | .hbm, ⟨25, _⟩ => ⟨S2360x128, .f32⟩
  | .hbm, ⟨26, _⟩ => ⟨S_, .f32⟩
  | .hbm, ⟨27, _⟩ => ⟨S2360x128, .f32⟩
  | .hbm, ⟨28, _⟩ => ⟨S2360x128, .f32⟩
  | .hbm, ⟨29, _⟩ => ⟨S2360x128, .f32⟩
  | .hbm, ⟨30, _⟩ => ⟨S_, .f32⟩
  | .hbm, ⟨31, _⟩ => ⟨S2360x128, .f32⟩
  | .hbm, ⟨32, _⟩ => ⟨S2360x128, .f32⟩
  | .hbm, ⟨33, _⟩ => ⟨S2360x128, .f32⟩
  | .hbm, ⟨34, _⟩ => ⟨S_, .f32⟩
  | .hbm, ⟨35, _⟩ => ⟨S2360x128, .f32⟩
  | .hbm, ⟨36, _⟩ => ⟨S2360x128, .f32⟩
  | .hbm, ⟨37, _⟩ => ⟨S1x2360x128, .f32⟩
  | .hbm, ⟨38, _⟩ => ⟨S1x2360x128, .f32⟩
  | .hbm, ⟨39, _⟩ => ⟨S1x2360x128, .f32⟩
  | .hbm, ⟨40, _⟩ => ⟨S1x2360x128, .f32⟩
  | _, _ => ⟨S2360x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Sum.lean ====
abbrev S8x2360x128 : Shape := ⟨3, ![8, 2360, 128]⟩
abbrev S2360x128 : Shape := ⟨2, ![2360, 128]⟩
abbrev S8x472x128 : Shape := ⟨3, ![8, 472, 128]⟩
abbrev S472x128 : Shape := ⟨2, ![472, 128]⟩
abbrev S1x472x128 : Shape := ⟨3, ![1, 472, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x2360x128, .f32⟩
  | .hbm, ⟨1, _⟩ => ⟨S2360x128, .f32⟩
  | .local _ .vmem, ⟨0, _⟩ => ⟨S8x472x128, .f32⟩
  | .local _ .vmem, ⟨1, _⟩ => ⟨S8x472x128, .f32⟩
  | .local _ .vmem, ⟨2, _⟩ => ⟨S472x128, .f32⟩
  | .local _ .vmem, ⟨3, _⟩ => ⟨S472x128, .f32⟩
  | _, _ => ⟨S8x2360x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x472x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S472x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumReferenceIdeal.lean ====
abbrev S8x2360x128 : Shape := ⟨3, ![8, 2360, 128]⟩
abbrev S_ : Shape := ⟨0, ![]⟩
abbrev S2360x128 : Shape := ⟨2, ![2360, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2360x128, .f32⟩
  | .hbm, ⟨1, _⟩ => ⟨S_, .f32⟩
  | .hbm, ⟨2, _⟩ => ⟨S2360x128, .f32⟩
  | _, _ => ⟨S8x2360x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamO.lean ====
abbrev S2x512x2048 : Shape := ⟨3, ![2, 512, 2048]⟩
abbrev S512x2048 : Shape := ⟨2, ![512, 2048]⟩
abbrev S1x256x2048 : Shape := ⟨3, ![1, 256, 2048]⟩
abbrev S256x2048 : Shape := ⟨2, ![256, 2048]⟩

abbrev nBuf : Space → Nat
  | .hbm => 13
  | .vmem => 32
  | .smem => 0
  | _ => 0

abbrev bufTy : (tb : Table) → Fin (tcTables nBuf tb) → BufTy
  | .hbm, ⟨0, _⟩ => ⟨S2x512x2048, .f32⟩
  | .hbm, ⟨1, _⟩ => ⟨S512x2048, .f32⟩
  | .hbm, ⟨2, _⟩ => ⟨S512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .hbm, ⟨11, _⟩ => ⟨S2x512x2048, .f32⟩
  | .hbm, ⟨12, _⟩ => ⟨S2x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S256x2048, .f32⟩
  | .local _ .vmem, ⟨3, _⟩ => ⟨S256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .vmem, ⟨18, _⟩ => ⟨S256x2048, .f32⟩
  | .local _ .vmem, ⟨19, _⟩ => ⟨S256x2048, .f32⟩
  | .local _ .vmem, ⟨20, _⟩ => ⟨S1x256x2048, .f32⟩
  | .local _ .vmem, ⟨21, _⟩ => ⟨S1x256x2048, .f32⟩
  | .local _ .vmem, ⟨22, _⟩ => ⟨S1x256x2048, .f32⟩
  | .local _ .vmem, ⟨23, _⟩ => ⟨S1x256x2048, .f32⟩
  | .local _ .vmem, ⟨24, _⟩ => ⟨S1x256x2048, .f32⟩
  | .local _ .vmem, ⟨25, _⟩ => ⟨S1x256x2048, .f32⟩
  | .local _ .vmem, ⟨26, _⟩ => ⟨S1x256x2048, .f32⟩
  | .local _ .vmem, ⟨27, _⟩ => ⟨S1x256x2048, .f32⟩
  | .local _ .vmem, ⟨28, _⟩ => ⟨S1x256x2048, .f32⟩
  | .local _ .vmem, ⟨29, _⟩ => ⟨S1x256x2048, .f32⟩
  | .local _ .vmem, ⟨30, _⟩ => ⟨S1x256x2048, .f32⟩
  | .local _ .vmem, ⟨31, _⟩ => ⟨S1x256x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== AdamOReferenceIdeal.lean ====
abbrev S2x512x2048 : Shape := ⟨3, ![2, 512, 2048]⟩
abbrev S512x2048 : Shape := ⟨2, ![512, 2048]⟩
abbrev S1x512x2048 : Shape := ⟨3, ![1, 512, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S512x2048, .f32⟩
  | .hbm, ⟨2, _⟩ => ⟨S512x2048, .f32⟩
  | .hbm, ⟨3, _⟩ => ⟨S2x512x2048, .f32⟩
  | .hbm, ⟨4, _⟩ => ⟨S2x512x2048, .f32⟩
  | .hbm, ⟨5, _⟩ => ⟨S1x512x2048, .f32⟩
  | .hbm, ⟨6, _⟩ => ⟨S1x512x2048, .f32⟩
  | .hbm, ⟨7, _⟩ => ⟨S2x512x2048, .f32⟩
  | .hbm, ⟨8, _⟩ => ⟨S_, .f32⟩
  | .hbm, ⟨9, _⟩ => ⟨S2x512x2048, .f32⟩
  | .hbm, ⟨10, _⟩ => ⟨S2x512x2048, .f32⟩
  | .hbm, ⟨11, _⟩ => ⟨S_, .f32⟩
  | .hbm, ⟨12, _⟩ => ⟨S2x512x2048, .f32⟩
  | .hbm, ⟨13, _⟩ => ⟨S2x512x2048, .f32⟩
  | .hbm, ⟨14, _⟩ => ⟨S2x512x2048, .f32⟩
  | .hbm, ⟨15, _⟩ => ⟨S_, .f32⟩
  | .hbm, ⟨16, _⟩ => ⟨S2x512x2048, .f32⟩
  | .hbm, ⟨17, _⟩ => ⟨S2x512x2048, .f32⟩
  | .hbm, ⟨18, _⟩ => ⟨S2x512x2048, .f32⟩
  | .hbm, ⟨19, _⟩ => ⟨S_, .f32⟩
  | .hbm, ⟨20, _⟩ => ⟨S2x512x2048, .f32⟩
  | .hbm, ⟨21, _⟩ => ⟨S2x512x2048, .f32⟩
  | .hbm, ⟨22, _⟩ => ⟨S2x512x2048, .f32⟩
  | .hbm, ⟨23, _⟩ => ⟨S_, .f32⟩
  | .hbm, ⟨24, _⟩ => ⟨S2x512x2048, .f32⟩
  | .hbm, ⟨25, _⟩ => ⟨S2x512x2048, .f32⟩
  | .hbm, ⟨26, _⟩ => ⟨S_, .f32⟩
  | .hbm, ⟨27, _⟩ => ⟨S2x512x2048, .f32⟩
  | .hbm, ⟨28, _⟩ => ⟨S2x512x2048, .f32⟩
  | .hbm, ⟨29, _⟩ => ⟨S2x512x2048, .f32⟩
  | .hbm, ⟨30, _⟩ => ⟨S_, .f32⟩
  | .hbm, ⟨31, _⟩ => ⟨S2x512x2048, .f32⟩
  | .hbm, ⟨32, _⟩ => ⟨S2x512x2048, .f32⟩
  | .hbm, ⟨33, _⟩ => ⟨S2x512x2048, .f32⟩
  | .hbm, ⟨34, _⟩ => ⟨S_, .f32⟩
  | .hbm, ⟨35, _⟩ => ⟨S2x512x2048, .f32⟩
  | .hbm, ⟨36, _⟩ => ⟨S2x512x2048, .f32⟩
  | .hbm, ⟨37, _⟩ => ⟨S2x512x2048, .f32⟩
  | .hbm, ⟨38, _⟩ => ⟨S_, .f32⟩
  | .hbm, ⟨39, _⟩ => ⟨S2x512x2048, .f32⟩
  | .hbm, ⟨40, _⟩ => ⟨S2x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamUp.lean ====
abbrev S2x2048x2048 : Shape := ⟨3, ![2, 2048, 2048]⟩
abbrev S2048x2048 : Shape := ⟨2, ![2048, 2048]⟩
abbrev S1x256x2048 : Shape := ⟨3, ![1, 256, 2048]⟩
abbrev S256x2048 : Shape := ⟨2, ![256, 2048]⟩

abbrev nBuf : Space → Nat
  | .hbm => 13
  | .vmem => 32
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2048x2048, .f32⟩
  | .hbm, ⟨3, _⟩ => ⟨S2x2048x2048, .f32⟩
  | .hbm, ⟨4, _⟩ => ⟨S2x2048x2048, .f32⟩
  | .hbm, ⟨5, _⟩ => ⟨S2x2048x2048, .f32⟩
  | .hbm, ⟨6, _⟩ => ⟨S2x2048x2048, .f32⟩
  | .hbm, ⟨7, _⟩ => ⟨S2x2048x2048, .f32⟩
  | .hbm, ⟨8, _⟩ => ⟨S2x2048x2048, .f32⟩
  | .hbm, ⟨9, _⟩ => ⟨S2x2048x2048, .f32⟩
  | .hbm, ⟨10, _⟩ => ⟨S2x2048x2048, .f32⟩
  | .hbm, ⟨11, _⟩ => ⟨S2x2048x2048, .f32⟩
  | .hbm, ⟨12, _⟩ => ⟨S2x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S256x2048, .f32⟩
  | .local _ .vmem, ⟨3, _⟩ => ⟨S256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .vmem, ⟨18, _⟩ => ⟨S256x2048, .f32⟩
  | .local _ .vmem, ⟨19, _⟩ => ⟨S256x2048, .f32⟩
  | .local _ .vmem, ⟨20, _⟩ => ⟨S1x256x2048, .f32⟩
  | .local _ .vmem, ⟨21, _⟩ => ⟨S1x256x2048, .f32⟩
  | .local _ .vmem, ⟨22, _⟩ => ⟨S1x256x2048, .f32⟩
  | .local _ .vmem, ⟨23, _⟩ => ⟨S1x256x2048, .f32⟩
  | .local _ .vmem, ⟨24, _⟩ => ⟨S1x256x2048, .f32⟩
  | .local _ .vmem, ⟨25, _⟩ => ⟨S1x256x2048, .f32⟩
  | .local _ .vmem, ⟨26, _⟩ => ⟨S1x256x2048, .f32⟩
  | .local _ .vmem, ⟨27, _⟩ => ⟨S1x256x2048, .f32⟩
  | .local _ .vmem, ⟨28, _⟩ => ⟨S1x256x2048, .f32⟩
  | .local _ .vmem, ⟨29, _⟩ => ⟨S1x256x2048, .f32⟩
  | .local _ .vmem, ⟨30, _⟩ => ⟨S1x256x2048, .f32⟩
  | .local _ .vmem, ⟨31, _⟩ => ⟨S1x256x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== AdamUpReferenceIdeal.lean ====
abbrev S2x2048x2048 : Shape := ⟨3, ![2, 2048, 2048]⟩
abbrev S2048x2048 : Shape := ⟨2, ![2048, 2048]⟩
abbrev S1x2048x2048 : Shape := ⟨3, ![1, 2048, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2048x2048, .f32⟩
  | .hbm, ⟨3, _⟩ => ⟨S2x2048x2048, .f32⟩
  | .hbm, ⟨4, _⟩ => ⟨S2x2048x2048, .f32⟩
  | .hbm, ⟨5, _⟩ => ⟨S1x2048x2048, .f32⟩
  | .hbm, ⟨6, _⟩ => ⟨S1x2048x2048, .f32⟩
  | .hbm, ⟨7, _⟩ => ⟨S2x2048x2048, .f32⟩
  | .hbm, ⟨8, _⟩ => ⟨S_, .f32⟩
  | .hbm, ⟨9, _⟩ => ⟨S2x2048x2048, .f32⟩
  | .hbm, ⟨10, _⟩ => ⟨S2x2048x2048, .f32⟩
  | .hbm, ⟨11, _⟩ => ⟨S_, .f32⟩
  | .hbm, ⟨12, _⟩ => ⟨S2x2048x2048, .f32⟩
  | .hbm, ⟨13, _⟩ => ⟨S2x2048x2048, .f32⟩
  | .hbm, ⟨14, _⟩ => ⟨S2x2048x2048, .f32⟩
  | .hbm, ⟨15, _⟩ => ⟨S_, .f32⟩
  | .hbm, ⟨16, _⟩ => ⟨S2x2048x2048, .f32⟩
  | .hbm, ⟨17, _⟩ => ⟨S2x2048x2048, .f32⟩
  | .hbm, ⟨18, _⟩ => ⟨S2x2048x2048, .f32⟩
  | .hbm, ⟨19, _⟩ => ⟨S_, .f32⟩
  | .hbm, ⟨20, _⟩ => ⟨S2x2048x2048, .f32⟩
  | .hbm, ⟨21, _⟩ => ⟨S2x2048x2048, .f32⟩
  | .hbm, ⟨22, _⟩ => ⟨S2x2048x2048, .f32⟩
  | .hbm, ⟨23, _⟩ => ⟨S_, .f32⟩
  | .hbm, ⟨24, _⟩ => ⟨S2x2048x2048, .f32⟩
  | .hbm, ⟨25, _⟩ => ⟨S2x2048x2048, .f32⟩
  | .hbm, ⟨26, _⟩ => ⟨S_, .f32⟩
  | .hbm, ⟨27, _⟩ => ⟨S2x2048x2048, .f32⟩
  | .hbm, ⟨28, _⟩ => ⟨S2x2048x2048, .f32⟩
  | .hbm, ⟨29, _⟩ => ⟨S2x2048x2048, .f32⟩
  | .hbm, ⟨30, _⟩ => ⟨S_, .f32⟩
  | .hbm, ⟨31, _⟩ => ⟨S2x2048x2048, .f32⟩
  | .hbm, ⟨32, _⟩ => ⟨S2x2048x2048, .f32⟩
  | .hbm, ⟨33, _⟩ => ⟨S2x2048x2048, .f32⟩
  | .hbm, ⟨34, _⟩ => ⟨S_, .f32⟩
  | .hbm, ⟨35, _⟩ => ⟨S2x2048x2048, .f32⟩
  | .hbm, ⟨36, _⟩ => ⟨S2x2048x2048, .f32⟩
  | .hbm, ⟨37, _⟩ => ⟨S2x2048x2048, .f32⟩
  | .hbm, ⟨38, _⟩ => ⟨S_, .f32⟩
  | .hbm, ⟨39, _⟩ => ⟨S2x2048x2048, .f32⟩
  | .hbm, ⟨40, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamBr.lean ====
abbrev S2x1024x512 : Shape := ⟨3, ![2, 1024, 512]⟩
abbrev S1024x512 : Shape := ⟨2, ![1024, 512]⟩
abbrev S1x256x512 : Shape := ⟨3, ![1, 256, 512]⟩
abbrev S256x512 : Shape := ⟨2, ![256, 512]⟩

abbrev nBuf : Space → Nat
  | .hbm => 13
  | .vmem => 32
  | .smem => 0
  | _ => 0

abbrev bufTy : (tb : Table) → Fin (tcTables nBuf tb) → BufTy
  | .hbm, ⟨0, _⟩ => ⟨S2x1024x512, .f32⟩
  | .hbm, ⟨1, _⟩ => ⟨S1024x512, .f32⟩
  | .hbm, ⟨2, _⟩ => ⟨S1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .hbm, ⟨11, _⟩ => ⟨S2x1024x512, .f32⟩
  | .hbm, ⟨12, _⟩ => ⟨S2x1024x512, .f32⟩
  | .local _ .vmem, ⟨0, _⟩ => ⟨S1x256x512, .f32⟩
  | .local _ .vmem, ⟨1, _⟩ => ⟨S1x256x512, .f32⟩
  | .local _ .vmem, ⟨2, _⟩ => ⟨S256x512, .f32⟩
  | .local _ .vmem, ⟨3, _⟩ => ⟨S256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S256x512, .f32⟩
  | .local _ .vmem, ⟨19, _⟩ => ⟨S256x512, .f32⟩
  | .local _ .vmem, ⟨20, _⟩ => ⟨S1x256x512, .f32⟩
  | .local _ .vmem, ⟨21, _⟩ => ⟨S1x256x512, .f32⟩
  | .local _ .vmem, ⟨22, _⟩ => ⟨S1x256x512, .f32⟩
  | .local _ .vmem, ⟨23, _⟩ => ⟨S1x256x512, .f32⟩
  | .local _ .vmem, ⟨24, _⟩ => ⟨S1x256x512, .f32⟩
  | .local _ .vmem, ⟨25, _⟩ => ⟨S1x256x512, .f32⟩
  | .local _ .vmem, ⟨26, _⟩ => ⟨S1x256x512, .f32⟩
  | .local _ .vmem, ⟨27, _⟩ => ⟨S1x256x512, .f32⟩
  | .local _ .vmem, ⟨28, _⟩ => ⟨S1x256x512, .f32⟩
  | .local _ .vmem, ⟨29, _⟩ => ⟨S1x256x512, .f32⟩
  | .local _ .vmem, ⟨30, _⟩ => ⟨S1x256x512, .f32⟩
  | .local _ .vmem, ⟨31, _⟩ => ⟨S1x256x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== AdamBrReferenceIdeal.lean ====
abbrev S2x1024x512 : Shape := ⟨3, ![2, 1024, 512]⟩
abbrev S1024x512 : Shape := ⟨2, ![1024, 512]⟩
abbrev S1x1024x512 : Shape := ⟨3, ![1, 1024, 512]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S1024x512, .f32⟩
  | .hbm, ⟨2, _⟩ => ⟨S1024x512, .f32⟩
  | .hbm, ⟨3, _⟩ => ⟨S2x1024x512, .f32⟩
  | .hbm, ⟨4, _⟩ => ⟨S2x1024x512, .f32⟩
  | .hbm, ⟨5, _⟩ => ⟨S1x1024x512, .f32⟩
  | .hbm, ⟨6, _⟩ => ⟨S1x1024x512, .f32⟩
  | .hbm, ⟨7, _⟩ => ⟨S2x1024x512, .f32⟩
  | .hbm, ⟨8, _⟩ => ⟨S_, .f32⟩
  | .hbm, ⟨9, _⟩ => ⟨S2x1024x512, .f32⟩
  | .hbm, ⟨10, _⟩ => ⟨S2x1024x512, .f32⟩
  | .hbm, ⟨11, _⟩ => ⟨S_, .f32⟩
  | .hbm, ⟨12, _⟩ => ⟨S2x1024x512, .f32⟩
  | .hbm, ⟨13, _⟩ => ⟨S2x1024x512, .f32⟩
  | .hbm, ⟨14, _⟩ => ⟨S2x1024x512, .f32⟩
  | .hbm, ⟨15, _⟩ => ⟨S_, .f32⟩
  | .hbm, ⟨16, _⟩ => ⟨S2x1024x512, .f32⟩
  | .hbm, ⟨17, _⟩ => ⟨S2x1024x512, .f32⟩
  | .hbm, ⟨18, _⟩ => ⟨S2x1024x512, .f32⟩
  | .hbm, ⟨19, _⟩ => ⟨S_, .f32⟩
  | .hbm, ⟨20, _⟩ => ⟨S2x1024x512, .f32⟩
  | .hbm, ⟨21, _⟩ => ⟨S2x1024x512, .f32⟩
  | .hbm, ⟨22, _⟩ => ⟨S2x1024x512, .f32⟩
  | .hbm, ⟨23, _⟩ => ⟨S_, .f32⟩
  | .hbm, ⟨24, _⟩ => ⟨S2x1024x512, .f32⟩
  | .hbm, ⟨25, _⟩ => ⟨S2x1024x512, .f32⟩
  | .hbm, ⟨26, _⟩ => ⟨S_, .f32⟩
  | .hbm, ⟨27, _⟩ => ⟨S2x1024x512, .f32⟩
  | .hbm, ⟨28, _⟩ => ⟨S2x1024x512, .f32⟩
  | .hbm, ⟨29, _⟩ => ⟨S2x1024x512, .f32⟩
  | .hbm, ⟨30, _⟩ => ⟨S_, .f32⟩
  | .hbm, ⟨31, _⟩ => ⟨S2x1024x512, .f32⟩
  | .hbm, ⟨32, _⟩ => ⟨S2x1024x512, .f32⟩
  | .hbm, ⟨33, _⟩ => ⟨S2x1024x512, .f32⟩
  | .hbm, ⟨34, _⟩ => ⟨S_, .f32⟩
  | .hbm, ⟨35, _⟩ => ⟨S2x1024x512, .f32⟩
  | .hbm, ⟨36, _⟩ => ⟨S2x1024x512, .f32⟩
  | .hbm, ⟨37, _⟩ => ⟨S2x1024x512, .f32⟩
  | .hbm, ⟨38, _⟩ => ⟨S_, .f32⟩
  | .hbm, ⟨39, _⟩ => ⟨S2x1024x512, .f32⟩
  | .hbm, ⟨40, _⟩ => ⟨S2x1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamIn.lean ====
abbrev S2x2048x1920 : Shape := ⟨3, ![2, 2048, 1920]⟩
abbrev S2048x1920 : Shape := ⟨2, ![2048, 1920]⟩
abbrev S1x256x1920 : Shape := ⟨3, ![1, 256, 1920]⟩
abbrev S256x1920 : Shape := ⟨2, ![256, 1920]⟩

abbrev nBuf : Space → Nat
  | .hbm => 13
  | .vmem => 32
  | .smem => 0
  | _ => 0

abbrev bufTy : (tb : Table) → Fin (tcTables nBuf tb) → BufTy
  | .hbm, ⟨0, _⟩ => ⟨S2x2048x1920, .f32⟩
  | .hbm, ⟨1, _⟩ => ⟨S2048x1920, .f32⟩
  | .hbm, ⟨2, _⟩ => ⟨S2048x1920, .f32⟩
  | .hbm, ⟨3, _⟩ => ⟨S2x2048x1920, .f32⟩
  | .hbm, ⟨4, _⟩ => ⟨S2x2048x1920, .f32⟩
  | .hbm, ⟨5, _⟩ => ⟨S2x2048x1920, .f32⟩
  | .hbm, ⟨6, _⟩ => ⟨S2x2048x1920, .f32⟩
  | .hbm, ⟨7, _⟩ => ⟨S2x2048x1920, .f32⟩
  | .hbm, ⟨8, _⟩ => ⟨S2x2048x1920, .f32⟩
  | .hbm, ⟨9, _⟩ => ⟨S2x2048x1920, .f32⟩
  | .hbm, ⟨10, _⟩ => ⟨S2x2048x1920, .f32⟩
  | .hbm, ⟨11, _⟩ => ⟨S2x2048x1920, .f32⟩
  | .hbm, ⟨12, _⟩ => ⟨S2x2048x1920, .f32⟩
  | .local _ .vmem, ⟨0, _⟩ => ⟨S1x256x1920, .f32⟩
  | .local _ .vmem, ⟨1, _⟩ => ⟨S1x256x1920, .f32⟩
  | .local _ .vmem, ⟨2, _⟩ => ⟨S256x1920, .f32⟩
  | .local _ .vmem, ⟨3, _⟩ => ⟨S256x1920, .f32⟩
  | .local _ .vmem, ⟨4, _⟩ => ⟨S1x256x1920, .f32⟩
  | .local _ .vmem, ⟨5, _⟩ => ⟨S1x256x1920, .f32⟩
  | .local _ .vmem, ⟨6, _⟩ => ⟨S1x256x1920, .f32⟩
  | .local _ .vmem, ⟨7, _⟩ => ⟨S1x256x1920, .f32⟩
  | .local _ .vmem, ⟨8, _⟩ => ⟨S1x256x1920, .f32⟩
  | .local _ .vmem, ⟨9, _⟩ => ⟨S1x256x1920, .f32⟩
  | .local _ .vmem, ⟨10, _⟩ => ⟨S1x256x1920, .f32⟩
  | .local _ .vmem, ⟨11, _⟩ => ⟨S1x256x1920, .f32⟩
  | .local _ .vmem, ⟨12, _⟩ => ⟨S1x256x1920, .f32⟩
  | .local _ .vmem, ⟨13, _⟩ => ⟨S1x256x1920, .f32⟩
  | .local _ .vmem, ⟨14, _⟩ => ⟨S1x256x1920, .f32⟩
  | .local _ .vmem, ⟨15, _⟩ => ⟨S1x256x1920, .f32⟩
  | .local _ .vmem, ⟨16, _⟩ => ⟨S1x256x1920, .f32⟩
  | .local _ .vmem, ⟨17, _⟩ => ⟨S1x256x1920, .f32⟩
  | .local _ .vmem, ⟨18, _⟩ => ⟨S256x1920, .f32⟩
  | .local _ .vmem, ⟨19, _⟩ => ⟨S256x1920, .f32⟩
  | .local _ .vmem, ⟨20, _⟩ => ⟨S1x256x1920, .f32⟩
  | .local _ .vmem, ⟨21, _⟩ => ⟨S1x256x1920, .f32⟩
  | .local _ .vmem, ⟨22, _⟩ => ⟨S1x256x1920, .f32⟩
  | .local _ .vmem, ⟨23, _⟩ => ⟨S1x256x1920, .f32⟩
  | .local _ .vmem, ⟨24, _⟩ => ⟨S1x256x1920, .f32⟩
  | .local _ .vmem, ⟨25, _⟩ => ⟨S1x256x1920, .f32⟩
  | .local _ .vmem, ⟨26, _⟩ => ⟨S1x256x1920, .f32⟩
  | .local _ .vmem, ⟨27, _⟩ => ⟨S1x256x1920, .f32⟩
  | .local _ .vmem, ⟨28, _⟩ => ⟨S1x256x1920, .f32⟩
  | .local _ .vmem, ⟨29, _⟩ => ⟨S1x256x1920, .f32⟩
  | .local _ .vmem, ⟨30, _⟩ => ⟨S1x256x1920, .f32⟩
  | .local _ .vmem, ⟨31, _⟩ => ⟨S1x256x1920, .f32⟩
  | _, _ => ⟨S2x2048x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x256x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1920 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1920 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1920 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1920 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1920 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1920 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x256x1920 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1920 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x1920 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x1920 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x1920 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x1920 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x1920 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x1920 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== AdamInReferenceIdeal.lean ====
abbrev S2x2048x1920 : Shape := ⟨3, ![2, 2048, 1920]⟩
abbrev S2048x1920 : Shape := ⟨2, ![2048, 1920]⟩
abbrev S1x2048x1920 : Shape := ⟨3, ![1, 2048, 1920]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x2048x1920, .f32⟩
  | .hbm, ⟨1, _⟩ => ⟨S2048x1920, .f32⟩
  | .hbm, ⟨2, _⟩ => ⟨S2048x1920, .f32⟩
  | .hbm, ⟨3, _⟩ => ⟨S2x2048x1920, .f32⟩
  | .hbm, ⟨4, _⟩ => ⟨S2x2048x1920, .f32⟩
  | .hbm, ⟨5, _⟩ => ⟨S1x2048x1920, .f32⟩
  | .hbm, ⟨6, _⟩ => ⟨S1x2048x1920, .f32⟩
  | .hbm, ⟨7, _⟩ => ⟨S2x2048x1920, .f32⟩
  | .hbm, ⟨8, _⟩ => ⟨S_, .f32⟩
  | .hbm, ⟨9, _⟩ => ⟨S2x2048x1920, .f32⟩
  | .hbm, ⟨10, _⟩ => ⟨S2x2048x1920, .f32⟩
  | .hbm, ⟨11, _⟩ => ⟨S_, .f32⟩
  | .hbm, ⟨12, _⟩ => ⟨S2x2048x1920, .f32⟩
  | .hbm, ⟨13, _⟩ => ⟨S2x2048x1920, .f32⟩
  | .hbm, ⟨14, _⟩ => ⟨S2x2048x1920, .f32⟩
  | .hbm, ⟨15, _⟩ => ⟨S_, .f32⟩
  | .hbm, ⟨16, _⟩ => ⟨S2x2048x1920, .f32⟩
  | .hbm, ⟨17, _⟩ => ⟨S2x2048x1920, .f32⟩
  | .hbm, ⟨18, _⟩ => ⟨S2x2048x1920, .f32⟩
  | .hbm, ⟨19, _⟩ => ⟨S_, .f32⟩
  | .hbm, ⟨20, _⟩ => ⟨S2x2048x1920, .f32⟩
  | .hbm, ⟨21, _⟩ => ⟨S2x2048x1920, .f32⟩
  | .hbm, ⟨22, _⟩ => ⟨S2x2048x1920, .f32⟩
  | .hbm, ⟨23, _⟩ => ⟨S_, .f32⟩
  | .hbm, ⟨24, _⟩ => ⟨S2x2048x1920, .f32⟩
  | .hbm, ⟨25, _⟩ => ⟨S2x2048x1920, .f32⟩
  | .hbm, ⟨26, _⟩ => ⟨S_, .f32⟩
  | .hbm, ⟨27, _⟩ => ⟨S2x2048x1920, .f32⟩
  | .hbm, ⟨28, _⟩ => ⟨S2x2048x1920, .f32⟩
  | .hbm, ⟨29, _⟩ => ⟨S2x2048x1920, .f32⟩
  | .hbm, ⟨30, _⟩ => ⟨S_, .f32⟩
  | .hbm, ⟨31, _⟩ => ⟨S2x2048x1920, .f32⟩
  | .hbm, ⟨32, _⟩ => ⟨S2x2048x1920, .f32⟩
  | .hbm, ⟨33, _⟩ => ⟨S2x2048x1920, .f32⟩
  | .hbm, ⟨34, _⟩ => ⟨S_, .f32⟩
  | .hbm, ⟨35, _⟩ => ⟨S2x2048x1920, .f32⟩
  | .hbm, ⟨36, _⟩ => ⟨S2x2048x1920, .f32⟩
  | .hbm, ⟨37, _⟩ => ⟨S2x2048x1920, .f32⟩
  | .hbm, ⟨38, _⟩ => ⟨S_, .f32⟩
  | .hbm, ⟨39, _⟩ => ⟨S2x2048x1920, .f32⟩
  | .hbm, ⟨40, _⟩ => ⟨S2x2048x1920, .f32⟩
  | _, _ => ⟨S2x2048x1920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamKv.lean ====
abbrev S2x512x1024 : Shape := ⟨3, ![2, 512, 1024]⟩
abbrev S512x1024 : Shape := ⟨2, ![512, 1024]⟩
abbrev S1x256x1024 : Shape := ⟨3, ![1, 256, 1024]⟩
abbrev S256x1024 : Shape := ⟨2, ![256, 1024]⟩

abbrev nBuf : Space → Nat
  | .hbm => 13
  | .vmem => 32
  | .smem => 0
  | _ => 0

abbrev bufTy : (tb : Table) → Fin (tcTables nBuf tb) → BufTy
  | .hbm, ⟨0, _⟩ => ⟨S2x512x1024, .f32⟩
  | .hbm, ⟨1, _⟩ => ⟨S512x1024, .f32⟩
  | .hbm, ⟨2, _⟩ => ⟨S512x1024, .f32⟩
  | .hbm, ⟨3, _⟩ => ⟨S2x512x1024, .f32⟩
  | .hbm, ⟨4, _⟩ => ⟨S2x512x1024, .f32⟩
  | .hbm, ⟨5, _⟩ => ⟨S2x512x1024, .f32⟩
  | .hbm, ⟨6, _⟩ => ⟨S2x512x1024, .f32⟩
  | .hbm, ⟨7, _⟩ => ⟨S2x512x1024, .f32⟩
  | .hbm, ⟨8, _⟩ => ⟨S2x512x1024, .f32⟩
  | .hbm, ⟨9, _⟩ => ⟨S2x512x1024, .f32⟩
  | .hbm, ⟨10, _⟩ => ⟨S2x512x1024, .f32⟩
  | .hbm, ⟨11, _⟩ => ⟨S2x512x1024, .f32⟩
  | .hbm, ⟨12, _⟩ => ⟨S2x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S256x1024, .f32⟩
  | .local _ .vmem, ⟨19, _⟩ => ⟨S256x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x256x1024, .f32⟩
  | .local _ .vmem, ⟨23, _⟩ => ⟨S1x256x1024, .f32⟩
  | .local _ .vmem, ⟨24, _⟩ => ⟨S1x256x1024, .f32⟩
  | .local _ .vmem, ⟨25, _⟩ => ⟨S1x256x1024, .f32⟩
  | .local _ .vmem, ⟨26, _⟩ => ⟨S1x256x1024, .f32⟩
  | .local _ .vmem, ⟨27, _⟩ => ⟨S1x256x1024, .f32⟩
  | .local _ .vmem, ⟨28, _⟩ => ⟨S1x256x1024, .f32⟩
  | .local _ .vmem, ⟨29, _⟩ => ⟨S1x256x1024, .f32⟩
  | .local _ .vmem, ⟨30, _⟩ => ⟨S1x256x1024, .f32⟩
  | .local _ .vmem, ⟨31, _⟩ => ⟨S1x256x1024, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== AdamKvReferenceIdeal.lean ====
abbrev S2x512x1024 : Shape := ⟨3, ![2, 512, 1024]⟩
abbrev S512x1024 : Shape := ⟨2, ![512, 1024]⟩
abbrev S1x512x1024 : Shape := ⟨3, ![1, 512, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S512x1024, .f32⟩
  | .hbm, ⟨2, _⟩ => ⟨S512x1024, .f32⟩
  | .hbm, ⟨3, _⟩ => ⟨S2x512x1024, .f32⟩
  | .hbm, ⟨4, _⟩ => ⟨S2x512x1024, .f32⟩
  | .hbm, ⟨5, _⟩ => ⟨S1x512x1024, .f32⟩
  | .hbm, ⟨6, _⟩ => ⟨S1x512x1024, .f32⟩
  | .hbm, ⟨7, _⟩ => ⟨S2x512x1024, .f32⟩
  | .hbm, ⟨8, _⟩ => ⟨S_, .f32⟩
  | .hbm, ⟨9, _⟩ => ⟨S2x512x1024, .f32⟩
  | .hbm, ⟨10, _⟩ => ⟨S2x512x1024, .f32⟩
  | .hbm, ⟨11, _⟩ => ⟨S_, .f32⟩
  | .hbm, ⟨12, _⟩ => ⟨S2x512x1024, .f32⟩
  | .hbm, ⟨13, _⟩ => ⟨S2x512x1024, .f32⟩
  | .hbm, ⟨14, _⟩ => ⟨S2x512x1024, .f32⟩
  | .hbm, ⟨15, _⟩ => ⟨S_, .f32⟩
  | .hbm, ⟨16, _⟩ => ⟨S2x512x1024, .f32⟩
  | .hbm, ⟨17, _⟩ => ⟨S2x512x1024, .f32⟩
  | .hbm, ⟨18, _⟩ => ⟨S2x512x1024, .f32⟩
  | .hbm, ⟨19, _⟩ => ⟨S_, .f32⟩
  | .hbm, ⟨20, _⟩ => ⟨S2x512x1024, .f32⟩
  | .hbm, ⟨21, _⟩ => ⟨S2x512x1024, .f32⟩
  | .hbm, ⟨22, _⟩ => ⟨S2x512x1024, .f32⟩
  | .hbm, ⟨23, _⟩ => ⟨S_, .f32⟩
  | .hbm, ⟨24, _⟩ => ⟨S2x512x1024, .f32⟩
  | .hbm, ⟨25, _⟩ => ⟨S2x512x1024, .f32⟩
  | .hbm, ⟨26, _⟩ => ⟨S_, .f32⟩
  | .hbm, ⟨27, _⟩ => ⟨S2x512x1024, .f32⟩
  | .hbm, ⟨28, _⟩ => ⟨S2x512x1024, .f32⟩
  | .hbm, ⟨29, _⟩ => ⟨S2x512x1024, .f32⟩
  | .hbm, ⟨30, _⟩ => ⟨S_, .f32⟩
  | .hbm, ⟨31, _⟩ => ⟨S2x512x1024, .f32⟩
  | .hbm, ⟨32, _⟩ => ⟨S2x512x1024, .f32⟩
  | .hbm, ⟨33, _⟩ => ⟨S2x512x1024, .f32⟩
  | .hbm, ⟨34, _⟩ => ⟨S_, .f32⟩
  | .hbm, ⟨35, _⟩ => ⟨S2x512x1024, .f32⟩
  | .hbm, ⟨36, _⟩ => ⟨S2x512x1024, .f32⟩
  | .hbm, ⟨37, _⟩ => ⟨S2x512x1024, .f32⟩
  | .hbm, ⟨38, _⟩ => ⟨S_, .f32⟩
  | .hbm, ⟨39, _⟩ => ⟨S2x512x1024, .f32⟩
  | .hbm, ⟨40, _⟩ => ⟨S2x512x1024, .f32⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamXq.lean ====
abbrev S2x512x512 : Shape := ⟨3, ![2, 512, 512]⟩
abbrev S512x512 : Shape := ⟨2, ![512, 512]⟩
abbrev S1x256x512 : Shape := ⟨3, ![1, 256, 512]⟩
abbrev S256x512 : Shape := ⟨2, ![256, 512]⟩

abbrev nBuf : Space → Nat
  | .hbm => 13
  | .vmem => 32
  | .smem => 0
  | _ => 0

abbrev bufTy : (tb : Table) → Fin (tcTables nBuf tb) → BufTy
  | .hbm, ⟨0, _⟩ => ⟨S2x512x512, .f32⟩
  | .hbm, ⟨1, _⟩ => ⟨S512x512, .f32⟩
  | .hbm, ⟨2, _⟩ => ⟨S512x512, .f32⟩
  | .hbm, ⟨3, _⟩ => ⟨S2x512x512, .f32⟩
  | .hbm, ⟨4, _⟩ => ⟨S2x512x512, .f32⟩
  | .hbm, ⟨5, _⟩ => ⟨S2x512x512, .f32⟩
  | .hbm, ⟨6, _⟩ => ⟨S2x512x512, .f32⟩
  | .hbm, ⟨7, _⟩ => ⟨S2x512x512, .f32⟩
  | .hbm, ⟨8, _⟩ => ⟨S2x512x512, .f32⟩
  | .hbm, ⟨9, _⟩ => ⟨S2x512x512, .f32⟩
  | .hbm, ⟨10, _⟩ => ⟨S2x512x512, .f32⟩
  | .hbm, ⟨11, _⟩ => ⟨S2x512x512, .f32⟩
  | .hbm, ⟨12, _⟩ => ⟨S2x512x512, .f32⟩
  | .local _ .vmem, ⟨0, _⟩ => ⟨S1x256x512, .f32⟩
  | .local _ .vmem, ⟨1, _⟩ => ⟨S1x256x512, .f32⟩
  | .local _ .vmem, ⟨2, _⟩ => ⟨S256x512, .f32⟩
  | .local _ .vmem, ⟨3, _⟩ => ⟨S256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S256x512, .f32⟩
  | .local _ .vmem, ⟨19, _⟩ => ⟨S256x512, .f32⟩
  | .local _ .vmem, ⟨20, _⟩ => ⟨S1x256x512, .f32⟩
  | .local _ .vmem, ⟨21, _⟩ => ⟨S1x256x512, .f32⟩
  | .local _ .vmem, ⟨22, _⟩ => ⟨S1x256x512, .f32⟩
  | .local _ .vmem, ⟨23, _⟩ => ⟨S1x256x512, .f32⟩
  | .local _ .vmem, ⟨24, _⟩ => ⟨S1x256x512, .f32⟩
  | .local _ .vmem, ⟨25, _⟩ => ⟨S1x256x512, .f32⟩
  | .local _ .vmem, ⟨26, _⟩ => ⟨S1x256x512, .f32⟩
  | .local _ .vmem, ⟨27, _⟩ => ⟨S1x256x512, .f32⟩
  | .local _ .vmem, ⟨28, _⟩ => ⟨S1x256x512, .f32⟩
  | .local _ .vmem, ⟨29, _⟩ => ⟨S1x256x512, .f32⟩
  | .local _ .vmem, ⟨30, _⟩ => ⟨S1x256x512, .f32⟩
  | .local _ .vmem, ⟨31, _⟩ => ⟨S1x256x512, .f32⟩
  | _, _ => ⟨S2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== AdamXqReferenceIdeal.lean ====
abbrev S2x512x512 : Shape := ⟨3, ![2, 512, 512]⟩
abbrev S512x512 : Shape := ⟨2, ![512, 512]⟩
abbrev S1x512x512 : Shape := ⟨3, ![1, 512, 512]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S512x512, .f32⟩
  | .hbm, ⟨2, _⟩ => ⟨S512x512, .f32⟩
  | .hbm, ⟨3, _⟩ => ⟨S2x512x512, .f32⟩
  | .hbm, ⟨4, _⟩ => ⟨S2x512x512, .f32⟩
  | .hbm, ⟨5, _⟩ => ⟨S1x512x512, .f32⟩
  | .hbm, ⟨6, _⟩ => ⟨S1x512x512, .f32⟩
  | .hbm, ⟨7, _⟩ => ⟨S2x512x512, .f32⟩
  | .hbm, ⟨8, _⟩ => ⟨S_, .f32⟩
  | .hbm, ⟨9, _⟩ => ⟨S2x512x512, .f32⟩
  | .hbm, ⟨10, _⟩ => ⟨S2x512x512, .f32⟩
  | .hbm, ⟨11, _⟩ => ⟨S_, .f32⟩
  | .hbm, ⟨12, _⟩ => ⟨S2x512x512, .f32⟩
  | .hbm, ⟨13, _⟩ => ⟨S2x512x512, .f32⟩
  | .hbm, ⟨14, _⟩ => ⟨S2x512x512, .f32⟩
  | .hbm, ⟨15, _⟩ => ⟨S_, .f32⟩
  | .hbm, ⟨16, _⟩ => ⟨S2x512x512, .f32⟩
  | .hbm, ⟨17, _⟩ => ⟨S2x512x512, .f32⟩
  | .hbm, ⟨18, _⟩ => ⟨S2x512x512, .f32⟩
  | .hbm, ⟨19, _⟩ => ⟨S_, .f32⟩
  | .hbm, ⟨20, _⟩ => ⟨S2x512x512, .f32⟩
  | .hbm, ⟨21, _⟩ => ⟨S2x512x512, .f32⟩
  | .hbm, ⟨22, _⟩ => ⟨S2x512x512, .f32⟩
  | .hbm, ⟨23, _⟩ => ⟨S_, .f32⟩
  | .hbm, ⟨24, _⟩ => ⟨S2x512x512, .f32⟩
  | .hbm, ⟨25, _⟩ => ⟨S2x512x512, .f32⟩
  | .hbm, ⟨26, _⟩ => ⟨S_, .f32⟩
  | .hbm, ⟨27, _⟩ => ⟨S2x512x512, .f32⟩
  | .hbm, ⟨28, _⟩ => ⟨S2x512x512, .f32⟩
  | .hbm, ⟨29, _⟩ => ⟨S2x512x512, .f32⟩
  | .hbm, ⟨30, _⟩ => ⟨S_, .f32⟩
  | .hbm, ⟨31, _⟩ => ⟨S2x512x512, .f32⟩
  | .hbm, ⟨32, _⟩ => ⟨S2x512x512, .f32⟩
  | .hbm, ⟨33, _⟩ => ⟨S2x512x512, .f32⟩
  | .hbm, ⟨34, _⟩ => ⟨S_, .f32⟩
  | .hbm, ⟨35, _⟩ => ⟨S2x512x512, .f32⟩
  | .hbm, ⟨36, _⟩ => ⟨S2x512x512, .f32⟩
  | .hbm, ⟨37, _⟩ => ⟨S2x512x512, .f32⟩
  | .hbm, ⟨38, _⟩ => ⟨S_, .f32⟩
  | .hbm, ⟨39, _⟩ => ⟨S2x512x512, .f32⟩
  | .hbm, ⟨40, _⟩ => ⟨S2x512x512, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Proof.Product.lean ====
/- Matrix products over the extended reals: what a product of two blocks over zeros is at an entry, and a block of a
   whole array read at an entry. -/
module

public import Idealize.ShloMosaic.Lib.ValueIdx
public import Idealize.ShloMosaic.Lib.IdealHost
public import Idealize.ShloMosaic.PureOps.Ideal.Laws
public import Idealize.ShloMosaic.Lib.ValueLayout
public import Idealize.ShloMosaic.Lib.Pipeline.Value

@[expose] public section

noncomputable section

namespace Cert.Product

open Idealize.ShloMosaic Idealize.ShloMosaic.ValueIdx

variable {a b k : ℕ} {φ ψ : FTy}

/-- Two indices of a matrix with the same coordinates are one. -/
theorem pair_ext {p q : (⟨2, ![a, b]⟩ : Shape).Idx} (h0 : (p 0).val = (q 0).val) (h1 : (p 1).val = (q 1).val) : p = q :=
  funext fun ax => Fin.ext (by
    match ax with
    | ⟨0, _⟩ => exact h0
    | ⟨1, _⟩ => exact h1)

theorem origin : (![0, 0] : Fin 2 → Nat) = fun _ => 0 := funext fun ax => by fin_cases ax <;> rfl

/-- Two indices of a stack of matrices with the same coordinates are one. -/
theorem triple_ext {p q : (⟨3, ![k, a, b]⟩ : Shape).Idx} (h0 : (p 0).val = (q 0).val) (h1 : (p 1).val = (q 1).val)
    (h2 : (p 2).val = (q 2).val) : p = q := funext fun ax => Fin.ext (by
  match ax with
  | ⟨0, _⟩ => exact h0
  | ⟨1, _⟩ => exact h1
  | ⟨2, _⟩ => exact h2)
theorem origin3 : (![0, 0, 0] : Fin 3 → Nat) = fun _ => 0 := funext fun ax => by fin_cases ax <;> rfl

/-- The square root of two, as the programs' literal. -/
abbrev root : EReal := FloatOps.ofBits (F := Ideal) .f32 0x3FB504F3#32

/-- A row of the first operand against a row of the second. -/
def rows (X : (⟨2, ![a, k]⟩ : Shape).Idx → EReal) (Y : (⟨2, ![b, k]⟩ : Shape).Idx → EReal) (i : Fin a) (j : Fin b) : EReal :=
  ∑ q : Fin k, X (ix2 i q) * Y (ix2 j q)
/-- A row of the first operand against a column of the second. -/
def rowcol (X : (⟨2, ![a, k]⟩ : Shape).Idx → EReal) (Y : (⟨2, ![k, b]⟩ : Shape).Idx → EReal) (i : Fin a) (j : Fin b) : EReal :=
  ∑ q : Fin k, X (ix2 i q) * Y (ix2 q j)
/-- A column of the first operand against a column of the second. -/
def cols (X : (⟨2, ![k, a]⟩ : Shape).Idx → EReal) (Y : (⟨2, ![k, b]⟩ : Shape).Idx → EReal) (i : Fin a) (j : Fin b) : EReal :=
  ∑ q : Fin k, X (ix2 q i) * Y (ix2 q j)

/-- Two such sums are one when their factors are. -/
theorem eq_rows {X : (⟨2, ![a, k]⟩ : Shape).Idx → EReal} {Y : (⟨2, ![b, k]⟩ : Shape).Idx → EReal} {i : Fin a} {j : Fin b}
    {f g : Fin k → EReal} (h : ∀ q, f q = X (ix2 i q)) (h' : ∀ q, g q = Y (ix2 j q)) : ∑ q, f q * g q = rows X Y i j :=
  Finset.sum_congr rfl fun q _ => congrArg₂ (· * ·) (h q) (h' q)
theorem eq_rowcol {X : (⟨2, ![a, k]⟩ : Shape).Idx → EReal} {Y : (⟨2, ![k, b]⟩ : Shape).Idx → EReal} {i : Fin a} {j : Fin b}
    {f g : Fin k → EReal} (h : ∀ q, f q = X (ix2 i q)) (h' : ∀ q, g q = Y (ix2 q j)) : ∑ q, f q * g q = rowcol X Y i j :=
  Finset.sum_congr rfl fun q _ => congrArg₂ (· * ·) (h q) (h' q)
theorem eq_cols {X : (⟨2, ![k, a]⟩ : Shape).Idx → EReal} {Y : (⟨2, ![k, b]⟩ : Shape).Idx → EReal} {i : Fin a} {j : Fin b}
    {f g : Fin k → EReal} (h : ∀ q, f q = X (ix2 q i)) (h' : ∀ q, g q = Y (ix2 q j)) : ∑ q, f q * g q = cols X Y i j :=
  Finset.sum_congr rfl fun q _ => congrArg₂ (· * ·) (h q) (h' q)

section Matmul

variable (prec : Option ContractPrecision) (i : Fin a) (j : Fin b)

theorem matmul_rows (D : DotDims ⟨2, ![a, k]⟩ ⟨2, ![b, k]⟩ ⟨2, ![a, b]⟩) (X : FVec Ideal ⟨2, ![a, k]⟩ φ)
    (Y : FVec Ideal ⟨2, ![b, k]⟩ ψ) (hr : D.contr.rank = 1) (hs : D.contr.size ⟨0, by omega⟩ = k)
    (hl : ∀ q, D.lhsIdx (ix2 i j) ((contrEquiv1 D k hr hs).symm q) = ix2 i q)
    (hr' : ∀ q, D.rhsIdx (ix2 i j) ((contrEquiv1 D k hr hs).symm q) = ix2 j q) :
    matmul D prec X Y (constant ⟨2, ![a, b]⟩ .f32 0x00000000#32) (ix2 i j) = rows X Y i j := by
  show FloatOps.matmul D prec X Y (constant ⟨2, ![a, b]⟩ .f32 0x00000000#32) (ix2 i j) = _
  rw [Ideal.matmul_constant_zero_apply, ← Equiv.sum_comp (contrEquiv1 D k hr hs).symm]
  exact Finset.sum_congr rfl fun q _ => by rw [hl, hr']
theorem matmul_rowcol (D : DotDims ⟨2, ![a, k]⟩ ⟨2, ![k, b]⟩ ⟨2, ![a, b]⟩) (X : FVec Ideal ⟨2, ![a, k]⟩ φ)
    (Y : FVec Ideal ⟨2, ![k, b]⟩ ψ) (hr : D.contr.rank = 1) (hs : D.contr.size ⟨0, by omega⟩ = k)
    (hl : ∀ q, D.lhsIdx (ix2 i j) ((contrEquiv1 D k hr hs).symm q) = ix2 i q)
    (hr' : ∀ q, D.rhsIdx (ix2 i j) ((contrEquiv1 D k hr hs).symm q) = ix2 q j) :
    matmul D prec X Y (constant ⟨2, ![a, b]⟩ .f32 0x00000000#32) (ix2 i j) = rowcol X Y i j := by
  show FloatOps.matmul D prec X Y (constant ⟨2, ![a, b]⟩ .f32 0x00000000#32) (ix2 i j) = _
  rw [Ideal.matmul_constant_zero_apply, ← Equiv.sum_comp (contrEquiv1 D k hr hs).symm]
  exact Finset.sum_congr rfl fun q _ => by rw [hl, hr']
theorem matmul_cols (D : DotDims ⟨2, ![k, a]⟩ ⟨2, ![k, b]⟩ ⟨2, ![a, b]⟩) (X : FVec Ideal ⟨2, ![k, a]⟩ φ)
    (Y : FVec Ideal ⟨2, ![k, b]⟩ ψ) (hr : D.contr.rank = 1) (hs : D.contr.size ⟨0, by omega⟩ = k)
    (hl : ∀ q, D.lhsIdx (ix2 i j) ((contrEquiv1 D k hr hs).symm q) = ix2 q i)
    (hr' : ∀ q, D.rhsIdx (ix2 i j) ((contrEquiv1 D k hr hs).symm q) = ix2 q j) :
    matmul D prec X Y (constant ⟨2, ![a, b]⟩ .f32 0x00000000#32) (ix2 i j) = cols X Y i j := by
  show FloatOps.matmul D prec X Y (constant ⟨2, ![a, b]⟩ .f32 0x00000000#32) (ix2 i j) = _
  rw [Ideal.matmul_constant_zero_apply, ← Equiv.sum_comp (contrEquiv1 D k hr hs).symm]
  exact Finset.sum_congr rfl fun q _ => by rw [hl, hr']

end Matmul

end Cert.Product

end
-- ==== Proof.Dh.lean ====
/- The gradient of the hidden layer: each block of the kernel's result is the product's block times the derivative of the
   squared rectifier, and the reference's masked product is the same array. -/
module

public import proofs.«01_k».proof.Proof.Product
public import proofs.«01_k».proof.Proof.Gen.DhIdeal.Value
public import proofs.«01_k».proof.Proof.Gen.DhReferenceIdeal.Run
public import proofs.«01_k».proof.Proof.Gen.DhReferenceIdeal.Read

@[expose] public section

noncomputable section

namespace Cert.DhIdeal.Grad

open Cert.DhIdeal Cert.DhIdeal.Gen Cert.Product Idealize.ShloMosaic Idealize.ShloMosaic.ValueIdx
open Idealize.ShloMosaic.TcCoe Idealize.SL.Sem

/-- Zero and two, as the programs' literals. -/
abbrev nil : EReal := FloatOps.ofBits (F := Ideal) .f32 0x00000000#32
abbrev two : EReal := FloatOps.ofBits (F := Ideal) .f32 0x40000000#32

/-- The result: the gradient against the weight's rows, times twice the rectified value. -/
def grad (dr : S4096x2048.Idx → EReal) (h : S4096x8192.Idx → EReal) (w : S8192x2048.Idx → EReal) : S4096x8192.Idx → EReal :=
  fun i => rows dr w (i 0) (i 1) * (two * max (h i) nil)

theorem body (x y : Vec Ideal S1024x2048 .bf16) (z : Vec Ideal S1024x1024 .bf16) (j : S1024x1024.Idx) :
    out0_3 x y z j = rows x y (j 0) (j 1) * (two * max (z j) nil) := by
  unfold out0_3 r0_0 r0_1
  rw [View.canon_unit_zero origin, View.ld_unit_zero (S := S1024x2048) origin, View.ld_unit_zero (S := S1024x2048) origin,
    View.ld_unit_zero (S := S1024x1024) origin]
  obtain ⟨p, q, rfl⟩ : ∃ p q, j = ix2 p q := ⟨j 0, j 1, pair_ext rfl rfl⟩
  exact congrArg (· * (two * max (z (ix2 p q)) nil)) (matmul_rows none p q dot_S1024x2048_S1024x2048_S1024x1024_1_1_0_0_n_n x y
    rfl rfl (fun _ => pair_ext rfl rfl) (fun _ => pair_ext rfl rfl))

variable (m : (ℓ : Loc nD τ sig) → Buf (Elt Ideal) ℓ) (ρ : Dev nD → PrngReg) (c : Dev nD)

theorem at0 : ∀ t : Fin cfg0.N, win0_0.index t 0 = win0_3.index t 0 ∧ win0_0.index t 1 = 0 :=
  (by decide +kernel : ∀ t : Fin grid0.N, win0_0.index t 0 = win0_3.index t 0 ∧ win0_0.index t 1 = 0)
theorem at1 : ∀ t : Fin cfg0.N, win0_1.index t 0 = win0_3.index t 1 ∧ win0_1.index t 1 = 0 :=
  (by decide +kernel : ∀ t : Fin grid0.N, win0_1.index t 0 = win0_3.index t 1 ∧ win0_1.index t 1 = 0)
theorem at2 : ∀ t : Fin cfg0.N, win0_2.index t 0 = win0_3.index t 0 ∧ win0_2.index t 1 = win0_3.index t 1 :=
  (by decide +kernel : ∀ t : Fin grid0.N, win0_2.index t 0 = win0_3.index t 0 ∧ win0_2.index t 1 = win0_3.index t 1)
theorem flush3 : ∀ t : Fin cfg0.N, win0_3.flush t = true := (by decide +kernel : ∀ t : Fin grid0.N, win0_3.flush t = true)
theorem cover3 : ∀ (p : Fin 4) (q : Fin 8), ∃ t : Fin cfg0.N, win0_3.index t 0 = p.val ∧ win0_3.index t 1 = q.val :=
  (by decide +kernel : ∀ (p : Fin 4) (q : Fin 8), ∃ t : Fin grid0.N, win0_3.index t 0 = p.val ∧ win0_3.index t 1 = q.val)

theorem block0 (t : Fin cfg0.N) (j : S1024x2048.Idx) (i : S4096x2048.Idx)
    (h0 : (i 0).val = win0_0.index t 0 * 1024 + (j 0).val) (h1 : (i 1).val = win0_0.index t 1 * 2048 + (j 1).val) :
    iblk m c 0 t j = m ((c : Thread nD τ).loc main_arg0) i := by
  unfold iblk
  rw [View.read_apply]
  show V m c main_arg0 _ = _
  rw [V_main_arg0]
  exact congrArg _ (pair_ext (by show win0_0.index t 0 * 1024 + 1 * (j 0).val = _; omega)
    (by show win0_0.index t 1 * 2048 + 1 * (j 1).val = _; omega))
theorem block1 (t : Fin cfg0.N) (j : S1024x2048.Idx) (i : S8192x2048.Idx)
    (h0 : (i 0).val = win0_1.index t 0 * 1024 + (j 0).val) (h1 : (i 1).val = win0_1.index t 1 * 2048 + (j 1).val) :
    iblk m c 1 t j = m ((c : Thread nD τ).loc main_arg2) i := by
  unfold iblk
  rw [View.read_apply]
  show V m c main_arg2 _ = _
  rw [V_main_arg2]
  exact congrArg _ (pair_ext (by show win0_1.index t 0 * 1024 + 1 * (j 0).val = _; omega)
    (by show win0_1.index t 1 * 2048 + 1 * (j 1).val = _; omega))
theorem block2 (t : Fin cfg0.N) (j : S1024x1024.Idx) (i : S4096x8192.Idx)
    (h0 : (i 0).val = win0_2.index t 0 * 1024 + (j 0).val) (h1 : (i 1).val = win0_2.index t 1 * 1024 + (j 1).val) :
    iblk m c 2 t j = m ((c : Thread nD τ).loc main_arg1) i := by
  unfold iblk
  rw [View.read_apply]
  show V m c main_arg1 _ = _
  rw [V_main_arg1]
  exact congrArg _ (pair_ext (by show win0_2.index t 0 * 1024 + 1 * (j 0).val = _; omega)
    (by show win0_2.index t 1 * 1024 + 1 * (j 1).val = _; omega))

theorem final : (dats m 0 c).arrAt 3 cfg0.N = grad (m ((c : Thread nD τ).loc main_arg0)) (m ((c : Thread nD τ).loc main_arg1))
    (m ((c : Thread nD τ).loc main_arg2)) := by
  refine (dats m 0 c).arrAt_eq_of_cover 3 _ (fun t _ => ?_) fun i => ?_
  · rw [Value.flushed3]
    funext j
    rw [View.read_apply]
    have e0 (p : S4096x8192.Idx) (hp : p = ((cfg0.win 3).blk t).view.emb j) : (p 0).val = win0_3.index t 0 * 1024 + (j 0).val
        ∧ (p 1).val = win0_3.index t 1 * 1024 + (j 1).val := by
      subst hp
      exact ⟨by show win0_3.index t 0 * 1024 + 1 * (j 0).val = _; omega,
        by show win0_3.index t 1 * 1024 + 1 * (j 1).val = _; omega⟩
    refine (body _ _ _ j).trans ?_
    generalize hp : ((cfg0.win 3).blk t).view.emb j = p
    obtain ⟨p0, p1⟩ := e0 p hp.symm
    refine congrArg₂ (· * ·) (eq_rows (fun q => block0 m c t _ _ ?_ ?_) (fun q => block1 m c t _ _ ?_ ?_))
      (congrArg (two * max · nil) (block2 m c t _ _ ?_ ?_))
    · rw [(at0 t).1]; exact p0
    · rw [(at0 t).2]; exact (Nat.zero_add _).symm
    · rw [(at1 t).1]; exact p1
    · rw [(at1 t).2]; exact (Nat.zero_add _).symm
    · rw [(at2 t).1]; exact p0
    · rw [(at2 t).2]; exact p1
  · have hi0 : (i 0).val < 4096 := (i 0).isLt
    have hi1 : (i 1).val < 8192 := (i 1).isLt
    obtain ⟨t, ht0, ht1⟩ := cover3 ⟨(i 0).val / 1024, by omega⟩ ⟨(i 1).val / 1024, by omega⟩
    refine ⟨t, flush3 t, ?_⟩
    show i ∈ ((View.whole main_v0).slice (win0_3.rect t)).set
    rw [View.set_slice_whole, Rect.mem_set_unit]
    intro a
    match a with
    | ⟨0, _⟩ => show win0_3.index t 0 * 1024 ≤ (i 0).val ∧ (i 0).val < win0_3.index t 0 * 1024 + 1024
                rw [ht0]; show (i 0).val / 1024 * 1024 ≤ _ ∧ _ < (i 0).val / 1024 * 1024 + 1024; omega
    | ⟨1, _⟩ => show win0_3.index t 1 * 1024 ≤ (i 1).val ∧ (i 1).val < win0_3.index t 1 * 1024 + 1024
                rw [ht1]; show (i 1).val / 1024 * 1024 ≤ _ ∧ _ < (i 1).val / 1024 * 1024 + 1024; omega

/-- The kernel's run: its results are the functions above of its arguments, which it keeps. -/
theorem run : θ_run defs (onTc (τ := τ) (main (F := Ideal))) ⟨m, fun _ => 0, ρ⟩ fun r => ∀ c : Dev nD,
      r.2.mem ((c : Thread nD τ).loc main_v0) = grad (m ((c : Thread nD τ).loc main_arg0)) (m ((c : Thread nD τ).loc main_arg1))
    (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

/-- Where the mask is off the rectified value is zero, and so is the product. -/
theorem masked (a h : EReal) : Scalar.select (FloatOps.cmpf (F := Ideal) (φ := .f32) .ogt h nil) (a * (two * max h nil)) nil
    = a * (two * max h nil) := by
  have hn : nil = 0 := Ideal.ofBits_zero_f32
  rw [hn]
  show Scalar.select (BitVec.ofBool (decide ((0 : EReal) < h))) _ _ = _
  by_cases hp : (0 : EReal) < h
  · rw [decide_eq_true hp]; rfl
  · rw [decide_eq_false hp, max_eq_right (not_lt.mp hp), mul_zero, mul_zero]; rfl

/-- The reference's result is the same function of the arguments. -/
theorem reference (x0 : S4096x2048.Idx → EReal) (x1 : S4096x8192.Idx → EReal) (x2 : S8192x2048.Idx → EReal) :
    Cert.DhReferenceIdeal.Read.val_main_v15 (F := Ideal) x0 x1 x2 = grad x0 x1 x2 := funext fun i => by
  rw [Cert.DhReferenceIdeal.Read.val_main_v15_apply, Cert.DhReferenceIdeal.Read.val_main_v14_apply]
  have e : Cert.DhReferenceIdeal.Read.val_main_v12 (F := Ideal) x0 x1 x2 i = grad x0 x1 x2 i := by
    rw [Cert.DhReferenceIdeal.Read.val_main_v12_apply, Cert.DhReferenceIdeal.Read.val_main_v11_apply]
    exact congrArg₂ (· * ·) (eq_rows (fun _ => congrArg x0 (pair_ext rfl rfl))
      (fun _ => congrArg x2 (pair_ext rfl rfl))) rfl
  rw [e]
  exact masked _ _

end Cert.DhIdeal.Grad

end
-- ==== Proof.Dx2.lean ====
/- The gradient of the up-projection's input: each block of the kernel's result is the product's block with the residual
   stream's gradient added, and the reference's one product is the same array. -/
module

public import proofs.«01_k».proof.Proof.Product
public import proofs.«01_k».proof.Proof.Gen.Dx2Ideal.Value
public import proofs.«01_k».proof.Proof.Gen.Dx2ReferenceIdeal.Run
public import proofs.«01_k».proof.Proof.Gen.Dx2ReferenceIdeal.Read

@[expose] public section

noncomputable section

namespace Cert.Dx2Ideal.Grad

open Cert.Dx2Ideal Cert.Dx2Ideal.Gen Cert.Product Idealize.ShloMosaic Idealize.ShloMosaic.ValueIdx
open Idealize.ShloMosaic.TcCoe Idealize.SL.Sem

/-- The result: the gradient against the weight's rows, and the scaled gradient of the residual stream. -/
def grad (dh : S4096x8192.Idx → EReal) (dr : S4096x2048.Idx → EReal) (w : S2048x8192.Idx → EReal) : S4096x2048.Idx → EReal :=
  fun i => rows dh w (i 0) (i 1) + root * dr i

theorem body (x : Vec Ideal S1024x8192 .bf16) (y : Vec Ideal S512x8192 .bf16) (z : Vec Ideal S1024x512 .f32)
    (j : S1024x512.Idx) : out0_3 x y z j = rows x y (j 0) (j 1) + root * z j := by
  unfold out0_3 r0_0 r0_1 r0_2
  rw [View.canon_unit_zero origin, View.ld_unit_zero (S := S1024x8192) origin, View.ld_unit_zero (S := S512x8192) origin,
    View.ld_unit_zero (S := S1024x512) origin]
  obtain ⟨p, q, rfl⟩ : ∃ p q, j = ix2 p q := ⟨j 0, j 1, pair_ext rfl rfl⟩
  exact congrArg (· + root * z (ix2 p q)) (matmul_rows none p q dot_S1024x8192_S512x8192_S1024x512_1_1_0_0_n_n x y rfl rfl
    (fun _ => pair_ext rfl rfl) (fun _ => pair_ext rfl rfl))

variable (m : (ℓ : Loc nD τ sig) → Buf (Elt Ideal) ℓ) (ρ : Dev nD → PrngReg) (c : Dev nD)

theorem at0 : ∀ t : Fin cfg0.N, win0_0.index t 0 = win0_3.index t 0 ∧ win0_0.index t 1 = 0 :=
  (by decide +kernel : ∀ t : Fin grid0.N, win0_0.index t 0 = win0_3.index t 0 ∧ win0_0.index t 1 = 0)
theorem at1 : ∀ t : Fin cfg0.N, win0_1.index t 0 = win0_3.index t 1 ∧ win0_1.index t 1 = 0 :=
  (by decide +kernel : ∀ t : Fin grid0.N, win0_1.index t 0 = win0_3.index t 1 ∧ win0_1.index t 1 = 0)
theorem at2 : ∀ t : Fin cfg0.N, win0_2.index t 0 = win0_3.index t 0 ∧ win0_2.index t 1 = win0_3.index t 1 :=
  (by decide +kernel : ∀ t : Fin grid0.N, win0_2.index t 0 = win0_3.index t 0 ∧ win0_2.index t 1 = win0_3.index t 1)
theorem flush : ∀ t : Fin cfg0.N, win0_3.flush t = true := (by decide +kernel : ∀ t : Fin grid0.N, win0_3.flush t = true)
theorem cover : ∀ (p : Fin 4) (q : Fin 4), ∃ t : Fin cfg0.N, win0_3.index t 0 = p.val ∧ win0_3.index t 1 = q.val :=
  (by decide +kernel : ∀ (p : Fin 4) (q : Fin 4), ∃ t : Fin grid0.N, win0_3.index t 0 = p.val ∧ win0_3.index t 1 = q.val)

theorem block0 (t : Fin cfg0.N) (j : S1024x8192.Idx) (i : S4096x8192.Idx)
    (h0 : (i 0).val = win0_0.index t 0 * 1024 + (j 0).val) (h1 : (i 1).val = win0_0.index t 1 * 8192 + (j 1).val) :
    iblk m c 0 t j = m ((c : Thread nD τ).loc main_arg0) i := by
  unfold iblk
  rw [View.read_apply]
  show V m c main_arg0 _ = _
  rw [V_main_arg0]
  exact congrArg _ (pair_ext (by show win0_0.index t 0 * 1024 + 1 * (j 0).val = _; omega)
    (by show win0_0.index t 1 * 8192 + 1 * (j 1).val = _; omega))
theorem block1 (t : Fin cfg0.N) (j : S512x8192.Idx) (i : S2048x8192.Idx)
    (h0 : (i 0).val = win0_1.index t 0 * 512 + (j 0).val) (h1 : (i 1).val = win0_1.index t 1 * 8192 + (j 1).val) :
    iblk m c 1 t j = m ((c : Thread nD τ).loc main_arg2) i := by
  unfold iblk
  rw [View.read_apply]
  show V m c main_arg2 _ = _
  rw [V_main_arg2]
  exact congrArg _ (pair_ext (by show win0_1.index t 0 * 512 + 1 * (j 0).val = _; omega)
    (by show win0_1.index t 1 * 8192 + 1 * (j 1).val = _; omega))
theorem block2 (t : Fin cfg0.N) (j : S1024x512.Idx) (i : S4096x2048.Idx)
    (h0 : (i 0).val = win0_2.index t 0 * 1024 + (j 0).val) (h1 : (i 1).val = win0_2.index t 1 * 512 + (j 1).val) :
    iblk m c 2 t j = m ((c : Thread nD τ).loc main_arg1) i := by
  unfold iblk
  rw [View.read_apply]
  show V m c main_arg1 _ = _
  rw [V_main_arg1]
  exact congrArg _ (pair_ext (by show win0_2.index t 0 * 1024 + 1 * (j 0).val = _; omega)
    (by show win0_2.index t 1 * 512 + 1 * (j 1).val = _; omega))

theorem final : (dats m 0 c).arrAt 3 cfg0.N = grad (m ((c : Thread nD τ).loc main_arg0)) (m ((c : Thread nD τ).loc main_arg1))
    (m ((c : Thread nD τ).loc main_arg2)) := by
  refine (dats m 0 c).arrAt_eq_of_cover 3 _ (fun t _ => ?_) fun i => ?_
  · rw [Value.flushed3]
    funext j
    rw [View.read_apply]
    have e0 (p : S4096x2048.Idx) (hp : p = ((cfg0.win 3).blk t).view.emb j) : (p 0).val = win0_3.index t 0 * 1024 + (j 0).val
        ∧ (p 1).val = win0_3.index t 1 * 512 + (j 1).val := by
      subst hp
      exact ⟨by show win0_3.index t 0 * 1024 + 1 * (j 0).val = _; omega,
        by show win0_3.index t 1 * 512 + 1 * (j 1).val = _; omega⟩
    refine (body _ _ _ j).trans ?_
    generalize hp : ((cfg0.win 3).blk t).view.emb j = p
    obtain ⟨p0, p1⟩ := e0 p hp.symm
    refine congrArg₂ (· + ·) (Finset.sum_congr rfl fun q _ => congrArg₂ (· * ·) (block0 m c t _ _ ?_ ?_) (block1 m c t _ _ ?_ ?_))
      (congrArg (root * ·) (block2 m c t _ _ ?_ ?_))
    · rw [(at0 t).1]; exact p0
    · rw [(at0 t).2]; exact (Nat.zero_add _).symm
    · rw [(at1 t).1]; exact p1
    · rw [(at1 t).2]; exact (Nat.zero_add _).symm
    · rw [(at2 t).1]; exact p0
    · rw [(at2 t).2]; exact p1
  · have hi0 : (i 0).val < 4096 := (i 0).isLt
    have hi1 : (i 1).val < 2048 := (i 1).isLt
    obtain ⟨t, ht0, ht1⟩ := cover ⟨(i 0).val / 1024, by omega⟩ ⟨(i 1).val / 512, by omega⟩
    refine ⟨t, flush t, ?_⟩
    show i ∈ ((View.whole main_v0).slice (win0_3.rect t)).set
    rw [View.set_slice_whole, Rect.mem_set_unit]
    intro a
    match a with
    | ⟨0, _⟩ => show win0_3.index t 0 * 1024 ≤ (i 0).val ∧ (i 0).val < win0_3.index t 0 * 1024 + 1024
                rw [ht0]; show (i 0).val / 1024 * 1024 ≤ _ ∧ _ < (i 0).val / 1024 * 1024 + 1024; omega
    | ⟨1, _⟩ => show win0_3.index t 1 * 512 ≤ (i 1).val ∧ (i 1).val < win0_3.index t 1 * 512 + 512
                rw [ht1]; show (i 1).val / 512 * 512 ≤ _ ∧ _ < (i 1).val / 512 * 512 + 512; omega

/-- The kernel's run: its result is the gradient of its arguments, which it keeps. -/
theorem run : θ_run defs (onTc (τ := τ) (main (F := Ideal))) ⟨m, fun _ => 0, ρ⟩ fun r => ∀ c : Dev nD,
      r.2.mem ((c : Thread nD τ).loc main_v0) = grad (m ((c : Thread nD τ).loc main_arg0)) (m ((c : Thread nD τ).loc main_arg1))
        (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

/-- The reference's result is the same function of the arguments. -/
theorem reference (x0 : S4096x8192.Idx → EReal) (x1 : S4096x2048.Idx → EReal) (x2 : S2048x8192.Idx → EReal) :
    Cert.Dx2ReferenceIdeal.Read.val_main_v9 (F := Ideal) x0 x1 x2 = grad x0 x1 x2 := funext fun i => by
  rw [Cert.Dx2ReferenceIdeal.Read.val_main_v9_apply, Cert.Dx2ReferenceIdeal.Read.val_main_v6_apply,
    Cert.Dx2ReferenceIdeal.Read.val_main_v8_apply, Cert.Dx2ReferenceIdeal.Read.val_main_v7_apply]
  exact congrArg₂ (· + ·) (Finset.sum_congr rfl fun q _ => congrArg₂ (· * ·) (congrArg x0 (pair_ext rfl rfl))
    (congrArg x2 (pair_ext rfl rfl))) rfl

end Cert.Dx2Ideal.Grad

end
-- ==== Proof.Dx.lean ====
/- The gradient of the input projection's input: each block of the kernel's result is the scaled residual gradient and
   four products' blocks, one per stretch of the joined weight, and the reference's one product of the joined gradient is
   the same array. -/
module

public import proofs.«01_k».proof.Proof.Product
public import proofs.«01_k».proof.Proof.Gen.DxIdeal.Value
public import proofs.«01_k».proof.Proof.Gen.DxReferenceIdeal.Run
public import proofs.«01_k».proof.Proof.Gen.DxReferenceIdeal.Read

@[expose] public section

noncomputable section

namespace Cert.DxIdeal.Grad

open Cert.DxIdeal Cert.DxIdeal.Gen Cert.Product Idealize.ShloMosaic Idealize.ShloMosaic.ValueIdx
open Idealize.ShloMosaic.TcCoe Idealize.SL.Sem

/-- The columns of a joined weight from `o` on. -/
def slab {a : ℕ} (w : (⟨2, ![a, 7680]⟩ : Shape).Idx → EReal) (o n : ℕ) (h : o + n ≤ 7680) : (⟨2, ![a, n]⟩ : Shape).Idx → EReal :=
  fun p => w (ix2 (p 0) ⟨o + (p 1).val, by have : (p 1).val < n := (p 1).isLt; omega⟩)
/-- One plane of a stack. -/
def plane {k a b : ℕ} (x : (⟨3, ![k, a, b]⟩ : Shape).Idx → EReal) (g : Fin k) : (⟨2, ![a, b]⟩ : Shape).Idx → EReal :=
  fun p => x (ix3 g (p 0) (p 1))

/-- The result: the scaled residual gradient and the four stretches' products, added one after another. -/
def grad (uv : S4096x2048.Idx → EReal) (qkv : S4096x1536.Idx → EReal) (g : S2x4096x2048.Idx → EReal)
    (dr : S4096x2048.Idx → EReal) (w : S2048x7680.Idx → EReal) : S4096x2048.Idx → EReal := fun i =>
  root * dr i + rows uv (slab w 0 2048 (by omega)) (i 0) (i 1) + rows qkv (slab w 2048 1536 (by omega)) (i 0) (i 1)
    + rows (plane g 0) (slab w 3584 2048 (by omega)) (i 0) (i 1) + rows (plane g 1) (slab w 5632 2048 (by omega)) (i 0) (i 1)

section Loads

variable (w : Vec Ideal S512x7680 .bf16)

theorem load_uv : View.ld (Val := Elt Ideal) (e' := .bf16) w r0_2 = slab w 0 2048 (by omega) := funext fun p =>
  congrArg w (pair_ext (by show 0 + 1 * (p 0).val = (p 0).val; omega) (by show 0 + 1 * (p 1).val = 0 + (p 1).val; omega))
theorem load_qkv : View.ld (Val := Elt Ideal) (e' := .bf16) w r0_4 = slab w 2048 1536 (by omega) := funext fun p =>
  congrArg w (pair_ext (by show 0 + 1 * (p 0).val = (p 0).val; omega) (by show 2048 + 1 * (p 1).val = 2048 + (p 1).val; omega))
theorem load_first : View.ld (Val := Elt Ideal) (e' := .bf16) w r0_6 = slab w 3584 2048 (by omega) := funext fun p =>
  congrArg w (pair_ext (by show 0 + 1 * (p 0).val = (p 0).val; omega) (by show 3584 + 1 * (p 1).val = 3584 + (p 1).val; omega))
theorem load_second : View.ld (Val := Elt Ideal) (e' := .bf16) w r0_7 = slab w 5632 2048 (by omega) := funext fun p =>
  congrArg w (pair_ext (by show 0 + 1 * (p 0).val = (p 0).val; omega) (by show 5632 + 1 * (p 1).val = 5632 + (p 1).val; omega))
theorem flat (x : Vec Ideal S1x1024x2048 .bf16) :
    shapeCast S1024x2048 x shapeCasts_S1x1024x2048_S1024x2048 = plane (k := 1) (a := 1024) (b := 2048) x 0 := funext fun p => by
  obtain ⟨i, j, rfl⟩ : ∃ i j, p = ix2 i j := ⟨p 0, p 1, pair_ext rfl rfl⟩
  exact shapeCast_1ab_ab_apply ..

end Loads

theorem body (x0 : Vec Ideal S1024x2048 .bf16) (x1 : Vec Ideal S1024x1536 .bf16) (x2 x3 : Vec Ideal S1x1024x2048 .bf16)
    (x4 : Vec Ideal S512x7680 .bf16) (x5 : Vec Ideal S1024x512 .f32) (j : S1024x512.Idx) :
    out0_6 x0 x1 x2 x3 x4 x5 j = root * x5 j + rows x0 (slab x4 0 2048 (by omega)) (j 0) (j 1)
      + rows x1 (slab x4 2048 1536 (by omega)) (j 0) (j 1)
      + rows (plane (k := 1) (a := 1024) (b := 2048) x2 0) (slab x4 3584 2048 (by omega)) (j 0) (j 1)
      + rows (plane (k := 1) (a := 1024) (b := 2048) x3 0) (slab x4 5632 2048 (by omega)) (j 0) (j 1) := by
  unfold out0_6
  rw [View.canon_unit_zero origin, View.ld_unit_zero (S := S1024x512) origin, View.ld_unit_zero (S := S1024x2048) origin,
    View.ld_unit_zero (S := S1024x1536) origin, View.ld_unit_zero (S := S1x1024x2048) origin3,
    View.ld_unit_zero (S := S1x1024x2048) origin3, load_uv, load_qkv, load_first, load_second]
  obtain ⟨p, q, rfl⟩ : ∃ p q, j = ix2 p q := ⟨j 0, j 1, pair_ext rfl rfl⟩
  exact congrArg₂ (· + ·) (congrArg₂ (· + ·) (congrArg₂ (· + ·) (congrArg (root * x5 (ix2 p q) + ·)
    (matmul_rows none p q dot_S1024x2048_S512x2048_S1024x512_1_1_0_0_n_n _ _ rfl rfl (fun _ => pair_ext rfl rfl) (fun _ => pair_ext rfl rfl)))
    (matmul_rows none p q dot_S1024x1536_S512x1536_S1024x512_1_1_0_0_n_n _ _ rfl rfl (fun _ => pair_ext rfl rfl) (fun _ => pair_ext rfl rfl)))
    ((matmul_rows none p q dot_S1024x2048_S512x2048_S1024x512_1_1_0_0_n_n _ _ rfl rfl (fun _ => pair_ext rfl rfl) (fun _ => pair_ext rfl rfl)).trans (congrArg (fun X => rows X _ p q) (flat x2))))
    ((matmul_rows none p q dot_S1024x2048_S512x2048_S1024x512_1_1_0_0_n_n _ _ rfl rfl (fun _ => pair_ext rfl rfl) (fun _ => pair_ext rfl rfl)).trans (congrArg (fun X => rows X _ p q) (flat x3)))

variable (m : (ℓ : Loc nD τ sig) → Buf (Elt Ideal) ℓ) (ρ : Dev nD → PrngReg) (c : Dev nD)

theorem at0 : ∀ t : Fin cfg0.N, win0_0.index t 0 = win0_6.index t 0 ∧ win0_0.index t 1 = 0 :=
  (by decide +kernel : ∀ t : Fin grid0.N, win0_0.index t 0 = win0_6.index t 0 ∧ win0_0.index t 1 = 0)
theorem at1 : ∀ t : Fin cfg0.N, win0_1.index t 0 = win0_6.index t 0 ∧ win0_1.index t 1 = 0 :=
  (by decide +kernel : ∀ t : Fin grid0.N, win0_1.index t 0 = win0_6.index t 0 ∧ win0_1.index t 1 = 0)
theorem at2 : ∀ t : Fin cfg0.N, win0_2.index t 0 = 0 ∧ win0_2.index t 1 = win0_6.index t 0 ∧ win0_2.index t 2 = 0 :=
  (by decide +kernel : ∀ t : Fin grid0.N, win0_2.index t 0 = 0 ∧ win0_2.index t 1 = win0_6.index t 0 ∧ win0_2.index t 2 = 0)
theorem at3 : ∀ t : Fin cfg0.N, win0_3.index t 0 = 1 ∧ win0_3.index t 1 = win0_6.index t 0 ∧ win0_3.index t 2 = 0 :=
  (by decide +kernel : ∀ t : Fin grid0.N, win0_3.index t 0 = 1 ∧ win0_3.index t 1 = win0_6.index t 0 ∧ win0_3.index t 2 = 0)
theorem at4 : ∀ t : Fin cfg0.N, win0_4.index t 0 = win0_6.index t 1 ∧ win0_4.index t 1 = 0 :=
  (by decide +kernel : ∀ t : Fin grid0.N, win0_4.index t 0 = win0_6.index t 1 ∧ win0_4.index t 1 = 0)
theorem at5 : ∀ t : Fin cfg0.N, win0_5.index t 0 = win0_6.index t 0 ∧ win0_5.index t 1 = win0_6.index t 1 :=
  (by decide +kernel : ∀ t : Fin grid0.N, win0_5.index t 0 = win0_6.index t 0 ∧ win0_5.index t 1 = win0_6.index t 1)
theorem flush6 : ∀ t : Fin cfg0.N, win0_6.flush t = true := (by decide +kernel : ∀ t : Fin grid0.N, win0_6.flush t = true)
theorem cover6 : ∀ (p : Fin 4) (q : Fin 4), ∃ t : Fin cfg0.N, win0_6.index t 0 = p.val ∧ win0_6.index t 1 = q.val :=
  (by decide +kernel : ∀ (p : Fin 4) (q : Fin 4), ∃ t : Fin grid0.N, win0_6.index t 0 = p.val ∧ win0_6.index t 1 = q.val)

theorem block0 (t : Fin cfg0.N) (j : S1024x2048.Idx) (i : S4096x2048.Idx)
    (h0 : (i 0).val = win0_0.index t 0 * 1024 + (j 0).val) (h1 : (i 1).val = win0_0.index t 1 * 2048 + (j 1).val) :
    iblk m c 0 t j = m ((c : Thread nD τ).loc main_arg0) i := by
  unfold iblk
  rw [View.read_apply]
  show V m c main_arg0 _ = _
  rw [V_main_arg0]
  exact congrArg _ (pair_ext (by show win0_0.index t 0 * 1024 + 1 * (j 0).val = _; omega)
    (by show win0_0.index t 1 * 2048 + 1 * (j 1).val = _; omega))
theorem block1 (t : Fin cfg0.N) (j : S1024x1536.Idx) (i : S4096x1536.Idx)
    (h0 : (i 0).val = win0_1.index t 0 * 1024 + (j 0).val) (h1 : (i 1).val = win0_1.index t 1 * 1536 + (j 1).val) :
    iblk m c 1 t j = m ((c : Thread nD τ).loc main_arg1) i := by
  unfold iblk
  rw [View.read_apply]
  show V m c main_arg1 _ = _
  rw [V_main_arg1]
  exact congrArg _ (pair_ext (by show win0_1.index t 0 * 1024 + 1 * (j 0).val = _; omega)
    (by show win0_1.index t 1 * 1536 + 1 * (j 1).val = _; omega))
theorem block4 (t : Fin cfg0.N) (j : S512x7680.Idx) (i : S2048x7680.Idx)
    (h0 : (i 0).val = win0_4.index t 0 * 512 + (j 0).val) (h1 : (i 1).val = win0_4.index t 1 * 7680 + (j 1).val) :
    iblk m c 4 t j = m ((c : Thread nD τ).loc main_arg4) i := by
  unfold iblk
  rw [View.read_apply]
  show V m c main_arg4 _ = _
  rw [V_main_arg4]
  exact congrArg _ (pair_ext (by show win0_4.index t 0 * 512 + 1 * (j 0).val = _; omega)
    (by show win0_4.index t 1 * 7680 + 1 * (j 1).val = _; omega))
theorem block5 (t : Fin cfg0.N) (j : S1024x512.Idx) (i : S4096x2048.Idx)
    (h0 : (i 0).val = win0_5.index t 0 * 1024 + (j 0).val) (h1 : (i 1).val = win0_5.index t 1 * 512 + (j 1).val) :
    iblk m c 5 t j = m ((c : Thread nD τ).loc main_arg3) i := by
  unfold iblk
  rw [View.read_apply]
  show V m c main_arg3 _ = _
  rw [V_main_arg3]
  exact congrArg _ (pair_ext (by show win0_5.index t 0 * 1024 + 1 * (j 0).val = _; omega)
    (by show win0_5.index t 1 * 512 + 1 * (j 1).val = _; omega))
theorem block2 (t : Fin cfg0.N) (j : S1x1024x2048.Idx) (i : S2x4096x2048.Idx)
    (h0 : (i 0).val = win0_2.index t 0 * 1 + (j 0).val) (h1 : (i 1).val = win0_2.index t 1 * 1024 + (j 1).val)
    (h2 : (i 2).val = win0_2.index t 2 * 2048 + (j 2).val) : iblk m c 2 t j = m ((c : Thread nD τ).loc main_arg2) i := by
  unfold iblk
  rw [View.read_apply]
  show V m c main_arg2 _ = _
  rw [V_main_arg2]
  exact congrArg _ (triple_ext (by show win0_2.index t 0 * 1 + 1 * (j 0).val = _; omega)
    (by show win0_2.index t 1 * 1024 + 1 * (j 1).val = _; omega) (by show win0_2.index t 2 * 2048 + 1 * (j 2).val = _; omega))
theorem block3 (t : Fin cfg0.N) (j : S1x1024x2048.Idx) (i : S2x4096x2048.Idx)
    (h0 : (i 0).val = win0_3.index t 0 * 1 + (j 0).val) (h1 : (i 1).val = win0_3.index t 1 * 1024 + (j 1).val)
    (h2 : (i 2).val = win0_3.index t 2 * 2048 + (j 2).val) : iblk m c 3 t j = m ((c : Thread nD τ).loc main_arg2) i := by
  unfold iblk
  rw [View.read_apply]
  show V m c main_arg2 _ = _
  rw [V_main_arg2]
  exact congrArg _ (triple_ext (by show win0_3.index t 0 * 1 + 1 * (j 0).val = _; omega)
    (by show win0_3.index t 1 * 1024 + 1 * (j 1).val = _; omega) (by show win0_3.index t 2 * 2048 + 1 * (j 2).val = _; omega))
/-- A stretch of the weight's block is the stretch of the whole weight's row. -/
theorem stretch (t : Fin cfg0.N) (o n : ℕ) (h : o + n ≤ 7680) (j : Fin 512) (i : Fin 2048)
    (hi : i.val = win0_6.index t 1 * 512 + j.val) (q : Fin n) :
    slab (a := 512) (iblk m c 4 t) o n h (ix2 j q) = slab (a := 2048) (m ((c : Thread nD τ).loc main_arg4)) o n h (ix2 i q) :=
  block4 m c t _ _ (by rw [(at4 t).1]; exact hi) (by rw [(at4 t).2]; exact (Nat.zero_add _).symm)

theorem final : (dats m 0 c).arrAt 6 cfg0.N = grad (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_cover 6 _ (fun t _ => ?_) fun i => ?_
  · rw [Value.flushed6]
    funext j
    rw [View.read_apply]
    have e0 (p : S4096x2048.Idx) (hp : p = ((cfg0.win 6).blk t).view.emb j) : (p 0).val = win0_6.index t 0 * 1024 + (j 0).val
        ∧ (p 1).val = win0_6.index t 1 * 512 + (j 1).val := by
      subst hp
      exact ⟨by show win0_6.index t 0 * 1024 + 1 * (j 0).val = _; omega,
        by show win0_6.index t 1 * 512 + 1 * (j 1).val = _; omega⟩
    refine (body _ _ _ _ _ _ j).trans ?_
    generalize hp : ((cfg0.win 6).blk t).view.emb j = p
    obtain ⟨p0, p1⟩ := e0 p hp.symm
    refine congrArg₂ (· + ·) (congrArg₂ (· + ·) (congrArg₂ (· + ·) (congrArg₂ (· + ·) (congrArg (root * ·) (block5 m c t _ _ ?_ ?_))
      (eq_rows (fun q => block0 m c t _ _ ?_ ?_) (stretch m c t 0 2048 _ _ _ p1)))
      (eq_rows (fun q => block1 m c t _ _ ?_ ?_) (stretch m c t 2048 1536 _ _ _ p1)))
      (eq_rows (fun q => block2 m c t _ _ ?_ ?_ ?_) (stretch m c t 3584 2048 _ _ _ p1)))
      (eq_rows (fun q => block3 m c t _ _ ?_ ?_ ?_) (stretch m c t 5632 2048 _ _ _ p1))
    · rw [(at5 t).1]; exact p0
    · rw [(at5 t).2]; exact p1
    · rw [(at0 t).1]; exact p0
    · rw [(at0 t).2]; exact (Nat.zero_add _).symm
    · rw [(at1 t).1]; exact p0
    · rw [(at1 t).2]; exact (Nat.zero_add _).symm
    · rw [(at2 t).1]; rfl
    · rw [(at2 t).2.1]; exact p0
    · rw [(at2 t).2.2]; exact (Nat.zero_add _).symm
    · rw [(at3 t).1]; rfl
    · rw [(at3 t).2.1]; exact p0
    · rw [(at3 t).2.2]; exact (Nat.zero_add _).symm
  · have hi0 : (i 0).val < 4096 := (i 0).isLt
    have hi1 : (i 1).val < 2048 := (i 1).isLt
    obtain ⟨t, ht0, ht1⟩ := cover6 ⟨(i 0).val / 1024, by omega⟩ ⟨(i 1).val / 512, by omega⟩
    refine ⟨t, flush6 t, ?_⟩
    show i ∈ ((View.whole main_v0).slice (win0_6.rect t)).set
    rw [View.set_slice_whole, Rect.mem_set_unit]
    intro a
    match a with
    | ⟨0, _⟩ => show win0_6.index t 0 * 1024 ≤ (i 0).val ∧ (i 0).val < win0_6.index t 0 * 1024 + 1024
                rw [ht0]; show (i 0).val / 1024 * 1024 ≤ _ ∧ _ < (i 0).val / 1024 * 1024 + 1024; omega
    | ⟨1, _⟩ => show win0_6.index t 1 * 512 ≤ (i 1).val ∧ (i 1).val < win0_6.index t 1 * 512 + 512
                rw [ht1]; show (i 1).val / 512 * 512 ≤ _ ∧ _ < (i 1).val / 512 * 512 + 512; omega

/-- The kernel's run: its results are the functions above of its arguments, which it keeps. -/
theorem run : θ_run defs (onTc (τ := τ) (main (F := Ideal))) ⟨m, fun _ => 0, ρ⟩ fun r => ∀ c : Dev nD,
      r.2.mem ((c : Thread nD τ).loc main_v0) = grad (m ((c : Thread nD τ).loc main_arg0)) (m ((c : Thread nD τ).loc main_arg1))
    (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

/-! ## The reference -/

/-- A sum over the joined axis, stretch by stretch. -/
theorem sum_joined (f : Fin 7680 → EReal) : ∑ q, f q = ∑ q : Fin 2048, f ⟨0 + q.val, by omega⟩
    + ∑ q : Fin 1536, f ⟨2048 + q.val, by omega⟩ + ∑ q : Fin 2048, f ⟨3584 + q.val, by omega⟩
    + ∑ q : Fin 2048, f ⟨5632 + q.val, by omega⟩ := by
  have e := Fin.sum_univ_add (a := 2048 + 1536 + 2048) (b := 2048) (show Fin (2048 + 1536 + 2048 + 2048) → EReal from f)
  rw [Fin.sum_univ_add (a := 2048 + 1536) (b := 2048), Fin.sum_univ_add (a := 2048) (b := 1536)] at e
  refine Eq.trans e (congrArg₂ (· + ·) (congrArg₂ (· + ·) (congrArg₂ (· + ·) ?_ rfl) rfl) rfl)
  exact Finset.sum_congr rfl fun q _ => congrArg f (Fin.ext (Nat.zero_add _).symm)

section Reference

variable (x0 : S4096x2048.Idx → EReal) (x1 : S4096x1536.Idx → EReal) (x2 : S2x4096x2048.Idx → EReal)
  (x3 : S4096x2048.Idx → EReal) (x4 : S2048x7680.Idx → EReal) (p : Fin 4096)

open Cert.DxReferenceIdeal in
/-- The joined gradient, one stretch at a time. -/
theorem joined0 (q : Fin 2048) : Read.val_main_v19 (F := Ideal) x0 x1 x2 (ix2 p ⟨0 + q.val, by omega⟩) = x0 (ix2 p q) := by
  unfold Read.val_main_v19
  refine Eq.trans (concatenate_apply_piece (t := ⟨2, ![4096, 7680]⟩) 1 _ _ _ 0 (by show 0 < 4; decide) ⟨2, ![4096, 2048]⟩ _ rfl rfl 0 rfl (ix2 p q) (fun b hb => ?_) rfl) rfl
  match b with
  | ⟨0, _⟩ => rfl
  | ⟨1, _⟩ => exact absurd rfl hb
open Cert.DxReferenceIdeal in
theorem joined1 (q : Fin 1536) : Read.val_main_v19 (F := Ideal) x0 x1 x2 (ix2 p ⟨2048 + q.val, by omega⟩) = x1 (ix2 p q) := by
  unfold Read.val_main_v19
  refine Eq.trans (concatenate_apply_piece (t := ⟨2, ![4096, 7680]⟩) 1 _ _ _ 1 (by show 1 < 4; decide) ⟨2, ![4096, 1536]⟩ _ rfl rfl 2048 rfl (ix2 p q) (fun b hb => ?_) rfl) rfl
  match b with
  | ⟨0, _⟩ => rfl
  | ⟨1, _⟩ => exact absurd rfl hb
open Cert.DxReferenceIdeal in
theorem joined2 (q : Fin 2048) : Read.val_main_v19 (F := Ideal) x0 x1 x2 (ix2 p ⟨3584 + q.val, by omega⟩) = x2 (ix3 0 p q) := by
  unfold Read.val_main_v19
  refine Eq.trans (concatenate_apply_piece (t := ⟨2, ![4096, 7680]⟩) 1 _ _ _ 2 (by show 2 < 4; decide) ⟨2, ![4096, 2048]⟩ _ rfl rfl 3584 rfl (ix2 p q) (fun b hb => ?_) rfl) ?_
  · match b with
    | ⟨0, _⟩ => rfl
    | ⟨1, _⟩ => exact absurd rfl hb
  · rw [Read.val_main_v4_apply, Read.val_main_v3_apply, Read.val_main_v2_apply]
    exact congrArg x2 (triple_ext rfl (by show (p.val * 2048 + q.val) / 2048 % 4096 = p.val; omega)
      (by show (p.val * 2048 + q.val) % 2048 = q.val; omega))
open Cert.DxReferenceIdeal in
theorem joined3 (q : Fin 2048) : Read.val_main_v19 (F := Ideal) x0 x1 x2 (ix2 p ⟨5632 + q.val, by omega⟩) = x2 (ix3 1 p q) := by
  unfold Read.val_main_v19
  refine Eq.trans (concatenate_apply_piece (t := ⟨2, ![4096, 7680]⟩) 1 _ _ _ 3 (by show 3 < 4; decide) ⟨2, ![4096, 2048]⟩ _ rfl rfl 5632 rfl (ix2 p q) (fun b hb => ?_) rfl) ?_
  · match b with
    | ⟨0, _⟩ => rfl
    | ⟨1, _⟩ => exact absurd rfl hb
  · rw [Read.val_main_v7_apply, Read.val_main_v6_apply, Read.val_main_v5_apply]
    exact congrArg x2 (triple_ext rfl (by show (p.val * 2048 + q.val) / 2048 % 4096 = p.val; omega)
      (by show (p.val * 2048 + q.val) % 2048 = q.val; omega))

/-- The reference's result is the same function of the arguments. -/
theorem reference : Cert.DxReferenceIdeal.Read.val_main_v21 (F := Ideal) x0 x1 x2 x3 x4 = grad x0 x1 x2 x3 x4 := funext fun i => by
  rw [Cert.DxReferenceIdeal.Read.val_main_v21_apply, Cert.DxReferenceIdeal.Read.val_main_v20_apply,
    Cert.DxReferenceIdeal.Read.val_main_v18_apply, Cert.DxReferenceIdeal.Read.val_main_v17_apply, sum_joined]
  obtain ⟨p, r, rfl⟩ : ∃ p r, i = ix2 p r := ⟨i 0, i 1, pair_ext rfl rfl⟩
  have e (q : Fin 7680) : Cert.DxReferenceIdeal.Read.lidx_main_v20 (ix2 p r) q = ix2 p q := pair_ext rfl rfl
  have e' (q : Fin 7680) : Cert.DxReferenceIdeal.Read.ridx_main_v20 (ix2 p r) q = ix2 r q := pair_ext rfl rfl
  simp only [e, e', joined0, joined1, joined2, joined3]
  show root * x3 (ix2 p r) + _ = _
  rw [← add_assoc, ← add_assoc, ← add_assoc]
  rfl

end Reference

end Cert.DxIdeal.Grad

end
-- ==== Proof.Up.lean ====
/- The up-projection: each block of the kernel's two results is the product's block and the square of its rectified
   values, and the reference's product and its squared rectifier are the same arrays. -/
module

public import proofs.«01_k».proof.Proof.Product
public import proofs.«01_k».proof.Proof.Gen.UpIdeal.Value
public import proofs.«01_k».proof.Proof.Gen.UpReferenceIdeal.Run
public import proofs.«01_k».proof.Proof.Gen.UpReferenceIdeal.Read

@[expose] public section

noncomputable section

namespace Cert.UpIdeal.Grad

open Cert.UpIdeal Cert.UpIdeal.Gen Cert.Product Idealize.ShloMosaic Idealize.ShloMosaic.ValueIdx
open Idealize.ShloMosaic.TcCoe Idealize.SL.Sem

/-- Zero, as the programs' literal. -/
abbrev nil : EReal := FloatOps.ofBits (F := Ideal) .f32 0x00000000#32

/-- The hidden layer before its rectifier. -/
def hidden (x : S4096x2048.Idx → EReal) (w : S2048x8192.Idx → EReal) : S4096x8192.Idx → EReal :=
  fun i => rowcol x w (i 0) (i 1)
/-- The hidden layer: the rectified values squared. -/
def squared (x : S4096x2048.Idx → EReal) (w : S2048x8192.Idx → EReal) : S4096x8192.Idx → EReal :=
  fun i => max (hidden x w i) nil * max (hidden x w i) nil

theorem product (x : Vec Ideal S1024x2048 .bf16) (y : Vec Ideal S2048x1024 .bf16) (j : S1024x1024.Idx) :
    k0_pay1 x y j = rowcol x y (j 0) (j 1) := by
  obtain ⟨p, q, rfl⟩ : ∃ p q, j = ix2 p q := ⟨j 0, j 1, pair_ext rfl rfl⟩
  exact matmul_rowcol none p q dot_S1024x2048_S2048x1024_S1024x1024_1_0_0_1_n_n x y rfl rfl
    (fun _ => pair_ext rfl rfl) (fun _ => pair_ext rfl rfl)
theorem body (x : Vec Ideal S1024x2048 .bf16) (y : Vec Ideal S2048x1024 .bf16) (j : S1024x1024.Idx) :
    out0_2 x y j = rowcol x y (j 0) (j 1) := by
  unfold out0_2 r0_0 r0_1 r0_2
  rw [View.canon_unit_zero origin, View.ld_unit_zero (S := S1024x2048) origin, View.ld_unit_zero (S := S2048x1024) origin]
  exact product x y j
theorem body_squared (x : Vec Ideal S1024x2048 .bf16) (y : Vec Ideal S2048x1024 .bf16) (j : S1024x1024.Idx) :
    out0_3 x y j = max (rowcol x y (j 0) (j 1)) nil * max (rowcol x y (j 0) (j 1)) nil := by
  unfold out0_3 r0_0 r0_1 r0_2
  rw [View.canon_unit_zero origin, View.ld_unit_zero (S := S1024x2048) origin, View.ld_unit_zero (S := S2048x1024) origin]
  exact congrArg (fun v => max v nil * max v nil) (product x y j)

variable (m : (ℓ : Loc nD τ sig) → Buf (Elt Ideal) ℓ) (ρ : Dev nD → PrngReg) (c : Dev nD)

theorem at0 : ∀ t : Fin cfg0.N, win0_0.index t 0 = win0_2.index t 0 ∧ win0_0.index t 1 = 0 :=
  (by decide +kernel : ∀ t : Fin grid0.N, win0_0.index t 0 = win0_2.index t 0 ∧ win0_0.index t 1 = 0)
theorem at1 : ∀ t : Fin cfg0.N, win0_1.index t 0 = 0 ∧ win0_1.index t 1 = win0_2.index t 1 :=
  (by decide +kernel : ∀ t : Fin grid0.N, win0_1.index t 0 = 0 ∧ win0_1.index t 1 = win0_2.index t 1)
theorem at3 : ∀ t : Fin cfg0.N, win0_3.index t 0 = win0_2.index t 0 ∧ win0_3.index t 1 = win0_2.index t 1 :=
  (by decide +kernel : ∀ t : Fin grid0.N, win0_3.index t 0 = win0_2.index t 0 ∧ win0_3.index t 1 = win0_2.index t 1)
theorem flush2 : ∀ t : Fin cfg0.N, win0_2.flush t = true := (by decide +kernel : ∀ t : Fin grid0.N, win0_2.flush t = true)
theorem cover2 : ∀ (p : Fin 4) (q : Fin 8), ∃ t : Fin cfg0.N, win0_2.index t 0 = p.val ∧ win0_2.index t 1 = q.val :=
  (by decide +kernel : ∀ (p : Fin 4) (q : Fin 8), ∃ t : Fin grid0.N, win0_2.index t 0 = p.val ∧ win0_2.index t 1 = q.val)
theorem flush3 : ∀ t : Fin cfg0.N, win0_3.flush t = true := (by decide +kernel : ∀ t : Fin grid0.N, win0_3.flush t = true)
theorem cover3 : ∀ (p : Fin 4) (q : Fin 8), ∃ t : Fin cfg0.N, win0_3.index t 0 = p.val ∧ win0_3.index t 1 = q.val :=
  (by decide +kernel : ∀ (p : Fin 4) (q : Fin 8), ∃ t : Fin grid0.N, win0_3.index t 0 = p.val ∧ win0_3.index t 1 = q.val)

theorem block0 (t : Fin cfg0.N) (j : S1024x2048.Idx) (i : S4096x2048.Idx)
    (h0 : (i 0).val = win0_0.index t 0 * 1024 + (j 0).val) (h1 : (i 1).val = win0_0.index t 1 * 2048 + (j 1).val) :
    iblk m c 0 t j = m ((c : Thread nD τ).loc main_arg0) i := by
  unfold iblk
  rw [View.read_apply]
  show V m c main_arg0 _ = _
  rw [V_main_arg0]
  exact congrArg _ (pair_ext (by show win0_0.index t 0 * 1024 + 1 * (j 0).val = _; omega)
    (by show win0_0.index t 1 * 2048 + 1 * (j 1).val = _; omega))
theorem block1 (t : Fin cfg0.N) (j : S2048x1024.Idx) (i : S2048x8192.Idx)
    (h0 : (i 0).val = win0_1.index t 0 * 2048 + (j 0).val) (h1 : (i 1).val = win0_1.index t 1 * 1024 + (j 1).val) :
    iblk m c 1 t j = m ((c : Thread nD τ).loc main_arg1) i := by
  unfold iblk
  rw [View.read_apply]
  show V m c main_arg1 _ = _
  rw [V_main_arg1]
  exact congrArg _ (pair_ext (by show win0_1.index t 0 * 2048 + 1 * (j 0).val = _; omega)
    (by show win0_1.index t 1 * 1024 + 1 * (j 1).val = _; omega))

/-- The product at a point's entry is the whole arrays' product where the block sits. -/
theorem blocks (t : Fin cfg0.N) (j : S1024x1024.Idx) (p : S4096x8192.Idx) (p0 : (p 0).val = win0_2.index t 0 * 1024 + (j 0).val)
    (p1 : (p 1).val = win0_2.index t 1 * 1024 + (j 1).val) :
    rowcol (a := 1024) (b := 1024) (k := 2048) (iblk m c 0 t) (iblk m c 1 t) (j 0) (j 1)
      = hidden (m ((c : Thread nD τ).loc main_arg0)) (m ((c : Thread nD τ).loc main_arg1)) p := by
  refine eq_rowcol (fun q => block0 m c t _ _ ?_ ?_) (fun q => block1 m c t _ _ ?_ ?_)
  · rw [(at0 t).1]; exact p0
  · rw [(at0 t).2]; exact (Nat.zero_add _).symm
  · rw [(at1 t).1]; exact (Nat.zero_add _).symm
  · rw [(at1 t).2]; exact p1
theorem final2 : (dats m 0 c).arrAt 2 cfg0.N = hidden (m ((c : Thread nD τ).loc main_arg0)) (m ((c : Thread nD τ).loc main_arg1)) := by
  refine (dats m 0 c).arrAt_eq_of_cover 2 _ (fun t _ => ?_) fun i => ?_
  · rw [Value.flushed2]
    funext j
    rw [View.read_apply]
    have e0 (p : S4096x8192.Idx) (hp : p = ((cfg0.win 2).blk t).view.emb j) : (p 0).val = win0_2.index t 0 * 1024 + (j 0).val
        ∧ (p 1).val = win0_2.index t 1 * 1024 + (j 1).val := by
      subst hp
      exact ⟨by show win0_2.index t 0 * 1024 + 1 * (j 0).val = _; omega,
        by show win0_2.index t 1 * 1024 + 1 * (j 1).val = _; omega⟩
    refine (body _ _ j).trans ?_
    generalize hp : ((cfg0.win 2).blk t).view.emb j = p
    obtain ⟨p0, p1⟩ := e0 p hp.symm
    exact blocks m c t j p p0 p1
  · have hi0 : (i 0).val < 4096 := (i 0).isLt
    have hi1 : (i 1).val < 8192 := (i 1).isLt
    obtain ⟨t, ht0, ht1⟩ := cover2 ⟨(i 0).val / 1024, by omega⟩ ⟨(i 1).val / 1024, by omega⟩
    refine ⟨t, flush2 t, ?_⟩
    show i ∈ ((View.whole main_v0_0).slice (win0_2.rect t)).set
    rw [View.set_slice_whole, Rect.mem_set_unit]
    intro a
    match a with
    | ⟨0, _⟩ => show win0_2.index t 0 * 1024 ≤ (i 0).val ∧ (i 0).val < win0_2.index t 0 * 1024 + 1024
                rw [ht0]; show (i 0).val / 1024 * 1024 ≤ _ ∧ _ < (i 0).val / 1024 * 1024 + 1024; omega
    | ⟨1, _⟩ => show win0_2.index t 1 * 1024 ≤ (i 1).val ∧ (i 1).val < win0_2.index t 1 * 1024 + 1024
                rw [ht1]; show (i 1).val / 1024 * 1024 ≤ _ ∧ _ < (i 1).val / 1024 * 1024 + 1024; omega
theorem final3 : (dats m 0 c).arrAt 3 cfg0.N = squared (m ((c : Thread nD τ).loc main_arg0)) (m ((c : Thread nD τ).loc main_arg1)) := by
  refine (dats m 0 c).arrAt_eq_of_cover 3 _ (fun t _ => ?_) fun i => ?_
  · rw [Value.flushed3]
    funext j
    rw [View.read_apply]
    have e0 (p : S4096x8192.Idx) (hp : p = ((cfg0.win 3).blk t).view.emb j) : (p 0).val = win0_3.index t 0 * 1024 + (j 0).val
        ∧ (p 1).val = win0_3.index t 1 * 1024 + (j 1).val := by
      subst hp
      exact ⟨by show win0_3.index t 0 * 1024 + 1 * (j 0).val = _; omega,
        by show win0_3.index t 1 * 1024 + 1 * (j 1).val = _; omega⟩
    refine (body_squared _ _ j).trans ?_
    generalize hp : ((cfg0.win 3).blk t).view.emb j = p
    obtain ⟨p0, p1⟩ := e0 p hp.symm
    rw [(at3 t).1] at p0
    rw [(at3 t).2] at p1
    exact congrArg (fun v => max v nil * max v nil) (blocks m c t j p p0 p1)
  · have hi0 : (i 0).val < 4096 := (i 0).isLt
    have hi1 : (i 1).val < 8192 := (i 1).isLt
    obtain ⟨t, ht0, ht1⟩ := cover3 ⟨(i 0).val / 1024, by omega⟩ ⟨(i 1).val / 1024, by omega⟩
    refine ⟨t, flush3 t, ?_⟩
    show i ∈ ((View.whole main_v0_1).slice (win0_3.rect t)).set
    rw [View.set_slice_whole, Rect.mem_set_unit]
    intro a
    match a with
    | ⟨0, _⟩ => show win0_3.index t 0 * 1024 ≤ (i 0).val ∧ (i 0).val < win0_3.index t 0 * 1024 + 1024
                rw [ht0]; show (i 0).val / 1024 * 1024 ≤ _ ∧ _ < (i 0).val / 1024 * 1024 + 1024; omega
    | ⟨1, _⟩ => show win0_3.index t 1 * 1024 ≤ (i 1).val ∧ (i 1).val < win0_3.index t 1 * 1024 + 1024
                rw [ht1]; show (i 1).val / 1024 * 1024 ≤ _ ∧ _ < (i 1).val / 1024 * 1024 + 1024; omega

/-- The kernel's run: its results are the functions above of its arguments, which it keeps. -/
theorem run : θ_run defs (onTc (τ := τ) (main (F := Ideal))) ⟨m, fun _ => 0, ρ⟩ fun r => ∀ c : Dev nD,
      r.2.mem ((c : Thread nD τ).loc main_v0_0) = hidden (m ((c : Thread nD τ).loc main_arg0)) (m ((c : Thread nD τ).loc main_arg1))
       ∧ r.2.mem ((c : Thread nD τ).loc main_v0_1) = squared (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2.1.trans (final3 m c), (h c).2.2⟩) (Value.run_blocks m ρ)

/-- The reference's product is the same function of the arguments, -/
theorem reference_product (x0 : S4096x2048.Idx → EReal) (x1 : S2048x8192.Idx → EReal) (i : S4096x8192.Idx) :
    Cert.UpReferenceIdeal.Read.val_main_v2 (F := Ideal) x0 x1 i = hidden x0 x1 i := by
  rw [Cert.UpReferenceIdeal.Read.val_main_v2_apply]
  exact eq_rowcol (fun _ => congrArg x0 (pair_ext rfl rfl)) (fun _ => congrArg x1 (pair_ext rfl rfl))
/-- and so are its two results. -/
theorem reference_hidden (x0 : S4096x2048.Idx → EReal) (x1 : S2048x8192.Idx → EReal) :
    Cert.UpReferenceIdeal.Read.val_main_v3 (F := Ideal) x0 x1 = hidden x0 x1 := funext fun i => reference_product x0 x1 i
theorem reference_squared (x0 : S4096x2048.Idx → EReal) (x1 : S2048x8192.Idx → EReal) :
    Cert.UpReferenceIdeal.Read.val_main_v6 (F := Ideal) x0 x1 = squared x0 x1 := funext fun i =>
  congrArg (fun v => max v nil * max v nil) (reference_product x0 x1 i)

end Cert.UpIdeal.Grad

end
-- ==== Proof.Down.lean ====
/- The down-projection: each block of the kernel's result is the product's block with the scaled residual stream added,
   and the reference's sum is the same array. -/
module

public import proofs.«01_k».proof.Proof.Product
public import proofs.«01_k».proof.Proof.Gen.DownIdeal.Value
public import proofs.«01_k».proof.Proof.Gen.DownReferenceIdeal.Run
public import proofs.«01_k».proof.Proof.Gen.DownReferenceIdeal.Read

@[expose] public section

noncomputable section

namespace Cert.DownIdeal.Grad

open Cert.DownIdeal Cert.DownIdeal.Gen Cert.Product Idealize.ShloMosaic Idealize.ShloMosaic.ValueIdx
open Idealize.ShloMosaic.TcCoe Idealize.SL.Sem

/-- The result: the hidden layer through the weight, and the scaled residual stream. -/
def stream (x : S4096x8192.Idx → EReal) (w : S8192x2048.Idx → EReal) (r : S4096x2048.Idx → EReal) : S4096x2048.Idx → EReal :=
  fun i => rowcol x w (i 0) (i 1) + root * r i

theorem body (x : Vec Ideal S1024x8192 .bf16) (y : Vec Ideal S8192x512 .bf16) (z : Vec Ideal S1024x512 .f32)
    (j : S1024x512.Idx) : out0_3 x y z j = rowcol x y (j 0) (j 1) + root * z j := by
  unfold out0_3 r0_0 r0_1 r0_2
  rw [View.canon_unit_zero origin, View.ld_unit_zero (S := S1024x8192) origin, View.ld_unit_zero (S := S8192x512) origin,
    View.ld_unit_zero (S := S1024x512) origin]
  obtain ⟨p, q, rfl⟩ : ∃ p q, j = ix2 p q := ⟨j 0, j 1, pair_ext rfl rfl⟩
  exact congrArg (· + root * z (ix2 p q)) (matmul_rowcol none p q dot_S1024x8192_S8192x512_S1024x512_1_0_0_1_n_n x y rfl rfl
    (fun _ => pair_ext rfl rfl) (fun _ => pair_ext rfl rfl))

variable (m : (ℓ : Loc nD τ sig) → Buf (Elt Ideal) ℓ) (ρ : Dev nD → PrngReg) (c : Dev nD)

theorem at0 : ∀ t : Fin cfg0.N, win0_0.index t 0 = win0_3.index t 0 ∧ win0_0.index t 1 = 0 :=
  (by decide +kernel : ∀ t : Fin grid0.N, win0_0.index t 0 = win0_3.index t 0 ∧ win0_0.index t 1 = 0)
theorem at1 : ∀ t : Fin cfg0.N, win0_1.index t 0 = 0 ∧ win0_1.index t 1 = win0_3.index t 1 :=
  (by decide +kernel : ∀ t : Fin grid0.N, win0_1.index t 0 = 0 ∧ win0_1.index t 1 = win0_3.index t 1)
theorem at2 : ∀ t : Fin cfg0.N, win0_2.index t 0 = win0_3.index t 0 ∧ win0_2.index t 1 = win0_3.index t 1 :=
  (by decide +kernel : ∀ t : Fin grid0.N, win0_2.index t 0 = win0_3.index t 0 ∧ win0_2.index t 1 = win0_3.index t 1)
theorem flush3 : ∀ t : Fin cfg0.N, win0_3.flush t = true := (by decide +kernel : ∀ t : Fin grid0.N, win0_3.flush t = true)
theorem cover3 : ∀ (p : Fin 4) (q : Fin 4), ∃ t : Fin cfg0.N, win0_3.index t 0 = p.val ∧ win0_3.index t 1 = q.val :=
  (by decide +kernel : ∀ (p : Fin 4) (q : Fin 4), ∃ t : Fin grid0.N, win0_3.index t 0 = p.val ∧ win0_3.index t 1 = q.val)

theorem block0 (t : Fin cfg0.N) (j : S1024x8192.Idx) (i : S4096x8192.Idx)
    (h0 : (i 0).val = win0_0.index t 0 * 1024 + (j 0).val) (h1 : (i 1).val = win0_0.index t 1 * 8192 + (j 1).val) :
    iblk m c 0 t j = m ((c : Thread nD τ).loc main_arg0) i := by
  unfold iblk
  rw [View.read_apply]
  show V m c main_arg0 _ = _
  rw [V_main_arg0]
  exact congrArg _ (pair_ext (by show win0_0.index t 0 * 1024 + 1 * (j 0).val = _; omega)
    (by show win0_0.index t 1 * 8192 + 1 * (j 1).val = _; omega))
theorem block1 (t : Fin cfg0.N) (j : S8192x512.Idx) (i : S8192x2048.Idx)
    (h0 : (i 0).val = win0_1.index t 0 * 8192 + (j 0).val) (h1 : (i 1).val = win0_1.index t 1 * 512 + (j 1).val) :
    iblk m c 1 t j = m ((c : Thread nD τ).loc main_arg1) i := by
  unfold iblk
  rw [View.read_apply]
  show V m c main_arg1 _ = _
  rw [V_main_arg1]
  exact congrArg _ (pair_ext (by show win0_1.index t 0 * 8192 + 1 * (j 0).val = _; omega)
    (by show win0_1.index t 1 * 512 + 1 * (j 1).val = _; omega))
theorem block2 (t : Fin cfg0.N) (j : S1024x512.Idx) (i : S4096x2048.Idx)
    (h0 : (i 0).val = win0_2.index t 0 * 1024 + (j 0).val) (h1 : (i 1).val = win0_2.index t 1 * 512 + (j 1).val) :
    iblk m c 2 t j = m ((c : Thread nD τ).loc main_arg2) i := by
  unfold iblk
  rw [View.read_apply]
  show V m c main_arg2 _ = _
  rw [V_main_arg2]
  exact congrArg _ (pair_ext (by show win0_2.index t 0 * 1024 + 1 * (j 0).val = _; omega)
    (by show win0_2.index t 1 * 512 + 1 * (j 1).val = _; omega))

theorem final : (dats m 0 c).arrAt 3 cfg0.N = stream (m ((c : Thread nD τ).loc main_arg0)) (m ((c : Thread nD τ).loc main_arg1))
    (m ((c : Thread nD τ).loc main_arg2)) := by
  refine (dats m 0 c).arrAt_eq_of_cover 3 _ (fun t _ => ?_) fun i => ?_
  · rw [Value.flushed3]
    funext j
    rw [View.read_apply]
    have e0 (p : S4096x2048.Idx) (hp : p = ((cfg0.win 3).blk t).view.emb j) : (p 0).val = win0_3.index t 0 * 1024 + (j 0).val
        ∧ (p 1).val = win0_3.index t 1 * 512 + (j 1).val := by
      subst hp
      exact ⟨by show win0_3.index t 0 * 1024 + 1 * (j 0).val = _; omega,
        by show win0_3.index t 1 * 512 + 1 * (j 1).val = _; omega⟩
    refine (body _ _ _ j).trans ?_
    generalize hp : ((cfg0.win 3).blk t).view.emb j = p
    obtain ⟨p0, p1⟩ := e0 p hp.symm
    refine congrArg₂ (· + ·) (eq_rowcol (fun q => block0 m c t _ _ ?_ ?_) (fun q => block1 m c t _ _ ?_ ?_))
      (congrArg (root * ·) (block2 m c t _ _ ?_ ?_))
    · rw [(at0 t).1]; exact p0
    · rw [(at0 t).2]; exact (Nat.zero_add _).symm
    · rw [(at1 t).1]; exact (Nat.zero_add _).symm
    · rw [(at1 t).2]; exact p1
    · rw [(at2 t).1]; exact p0
    · rw [(at2 t).2]; exact p1
  · have hi0 : (i 0).val < 4096 := (i 0).isLt
    have hi1 : (i 1).val < 2048 := (i 1).isLt
    obtain ⟨t, ht0, ht1⟩ := cover3 ⟨(i 0).val / 1024, by omega⟩ ⟨(i 1).val / 512, by omega⟩
    refine ⟨t, flush3 t, ?_⟩
    show i ∈ ((View.whole main_v0).slice (win0_3.rect t)).set
    rw [View.set_slice_whole, Rect.mem_set_unit]
    intro a
    match a with
    | ⟨0, _⟩ => show win0_3.index t 0 * 1024 ≤ (i 0).val ∧ (i 0).val < win0_3.index t 0 * 1024 + 1024
                rw [ht0]; show (i 0).val / 1024 * 1024 ≤ _ ∧ _ < (i 0).val / 1024 * 1024 + 1024; omega
    | ⟨1, _⟩ => show win0_3.index t 1 * 512 ≤ (i 1).val ∧ (i 1).val < win0_3.index t 1 * 512 + 512
                rw [ht1]; show (i 1).val / 512 * 512 ≤ _ ∧ _ < (i 1).val / 512 * 512 + 512; omega

/-- The kernel's run: its results are the functions above of its arguments, which it keeps. -/
theorem run : θ_run defs (onTc (τ := τ) (main (F := Ideal))) ⟨m, fun _ => 0, ρ⟩ fun r => ∀ c : Dev nD,
      r.2.mem ((c : Thread nD τ).loc main_v0) = stream (m ((c : Thread nD τ).loc main_arg0)) (m ((c : Thread nD τ).loc main_arg1))
    (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

/-- The reference's result is the same function of the arguments, its two summands the other way round. -/
theorem reference (x0 : S4096x8192.Idx → EReal) (x1 : S8192x2048.Idx → EReal) (x2 : S4096x2048.Idx → EReal) :
    Cert.DownReferenceIdeal.Read.val_main_v5 (F := Ideal) x0 x1 x2 = stream x0 x1 x2 := funext fun i => by
  rw [Cert.DownReferenceIdeal.Read.val_main_v5_apply, Cert.DownReferenceIdeal.Read.val_main_v4_apply,
    Cert.DownReferenceIdeal.Read.val_main_v1_apply, Cert.DownReferenceIdeal.Read.val_main_v0_apply]
  refine Eq.trans ?_ (add_comm (root * x2 i) (rowcol x0 x1 (i 0) (i 1)))
  exact congrArg (root * x2 i + ·) (eq_rowcol (fun _ => congrArg x0 (pair_ext rfl rfl))
    (fun _ => congrArg x1 (pair_ext rfl rfl)))

end Cert.DownIdeal.Grad

end
-- ==== Proof.Proj.lean ====
/- The input projection: each block of the kernel's result is the product's block, and the reference's product is the
   same array. -/
module

public import proofs.«01_k».proof.Proof.Product
public import proofs.«01_k».proof.Proof.Gen.ProjIdeal.Value
public import proofs.«01_k».proof.Proof.Gen.ProjReferenceIdeal.Run
public import proofs.«01_k».proof.Proof.Gen.ProjReferenceIdeal.Read

@[expose] public section

noncomputable section

namespace Cert.ProjIdeal.Grad

open Cert.ProjIdeal Cert.ProjIdeal.Gen Cert.Product Idealize.ShloMosaic Idealize.ShloMosaic.ValueIdx
open Idealize.ShloMosaic.TcCoe Idealize.SL.Sem

/-- The result: the normalised stream through the joined weight. -/
def joined (x : S4096x2048.Idx → EReal) (w : S2048x7680.Idx → EReal) : S4096x7680.Idx → EReal :=
  fun i => rowcol x w (i 0) (i 1)

theorem body (x : Vec Ideal S1024x2048 .bf16) (y : Vec Ideal S2048x1280 .bf16) (j : S1024x1280.Idx) :
    out0_2 x y j = rowcol x y (j 0) (j 1) := by
  unfold out0_2 r0_0 r0_1 r0_2
  rw [View.canon_unit_zero origin, View.ld_unit_zero (S := S1024x2048) origin, View.ld_unit_zero (S := S2048x1280) origin]
  obtain ⟨p, q, rfl⟩ : ∃ p q, j = ix2 p q := ⟨j 0, j 1, pair_ext rfl rfl⟩
  exact matmul_rowcol none p q dot_S1024x2048_S2048x1280_S1024x1280_1_0_0_1_n_n x y rfl rfl
    (fun _ => pair_ext rfl rfl) (fun _ => pair_ext rfl rfl)

variable (m : (ℓ : Loc nD τ sig) → Buf (Elt Ideal) ℓ) (ρ : Dev nD → PrngReg) (c : Dev nD)

theorem at0 : ∀ t : Fin cfg0.N, win0_0.index t 0 = win0_2.index t 0 ∧ win0_0.index t 1 = 0 :=
  (by decide +kernel : ∀ t : Fin grid0.N, win0_0.index t 0 = win0_2.index t 0 ∧ win0_0.index t 1 = 0)
theorem at1 : ∀ t : Fin cfg0.N, win0_1.index t 0 = 0 ∧ win0_1.index t 1 = win0_2.index t 1 :=
  (by decide +kernel : ∀ t : Fin grid0.N, win0_1.index t 0 = 0 ∧ win0_1.index t 1 = win0_2.index t 1)
theorem flush2 : ∀ t : Fin cfg0.N, win0_2.flush t = true := (by decide +kernel : ∀ t : Fin grid0.N, win0_2.flush t = true)
theorem cover2 : ∀ (p : Fin 4) (q : Fin 6), ∃ t : Fin cfg0.N, win0_2.index t 0 = p.val ∧ win0_2.index t 1 = q.val :=
  (by decide +kernel : ∀ (p : Fin 4) (q : Fin 6), ∃ t : Fin grid0.N, win0_2.index t 0 = p.val ∧ win0_2.index t 1 = q.val)

theorem block0 (t : Fin cfg0.N) (j : S1024x2048.Idx) (i : S4096x2048.Idx)
    (h0 : (i 0).val = win0_0.index t 0 * 1024 + (j 0).val) (h1 : (i 1).val = win0_0.index t 1 * 2048 + (j 1).val) :
    iblk m c 0 t j = m ((c : Thread nD τ).loc main_arg0) i := by
  unfold iblk
  rw [View.read_apply]
  show V m c main_arg0 _ = _
  rw [V_main_arg0]
  exact congrArg _ (pair_ext (by show win0_0.index t 0 * 1024 + 1 * (j 0).val = _; omega)
    (by show win0_0.index t 1 * 2048 + 1 * (j 1).val = _; omega))
theorem block1 (t : Fin cfg0.N) (j : S2048x1280.Idx) (i : S2048x7680.Idx)
    (h0 : (i 0).val = win0_1.index t 0 * 2048 + (j 0).val) (h1 : (i 1).val = win0_1.index t 1 * 1280 + (j 1).val) :
    iblk m c 1 t j = m ((c : Thread nD τ).loc main_arg1) i := by
  unfold iblk
  rw [View.read_apply]
  show V m c main_arg1 _ = _
  rw [V_main_arg1]
  exact congrArg _ (pair_ext (by show win0_1.index t 0 * 2048 + 1 * (j 0).val = _; omega)
    (by show win0_1.index t 1 * 1280 + 1 * (j 1).val = _; omega))

theorem final : (dats m 0 c).arrAt 2 cfg0.N = joined (m ((c : Thread nD τ).loc main_arg0)) (m ((c : Thread nD τ).loc main_arg1)) := by
  refine (dats m 0 c).arrAt_eq_of_cover 2 _ (fun t _ => ?_) fun i => ?_
  · rw [Value.flushed2]
    funext j
    rw [View.read_apply]
    have e0 (p : S4096x7680.Idx) (hp : p = ((cfg0.win 2).blk t).view.emb j) : (p 0).val = win0_2.index t 0 * 1024 + (j 0).val
        ∧ (p 1).val = win0_2.index t 1 * 1280 + (j 1).val := by
      subst hp
      exact ⟨by show win0_2.index t 0 * 1024 + 1 * (j 0).val = _; omega,
        by show win0_2.index t 1 * 1280 + 1 * (j 1).val = _; omega⟩
    refine (body _ _ j).trans ?_
    generalize hp : ((cfg0.win 2).blk t).view.emb j = p
    obtain ⟨p0, p1⟩ := e0 p hp.symm
    refine eq_rowcol (fun q => block0 m c t _ _ ?_ ?_) (fun q => block1 m c t _ _ ?_ ?_)
    · rw [(at0 t).1]; exact p0
    · rw [(at0 t).2]; exact (Nat.zero_add _).symm
    · rw [(at1 t).1]; exact (Nat.zero_add _).symm
    · rw [(at1 t).2]; exact p1
  · have hi0 : (i 0).val < 4096 := (i 0).isLt
    have hi1 : (i 1).val < 7680 := (i 1).isLt
    obtain ⟨t, ht0, ht1⟩ := cover2 ⟨(i 0).val / 1024, by omega⟩ ⟨(i 1).val / 1280, by omega⟩
    refine ⟨t, flush2 t, ?_⟩
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024
                rw [ht0]; show (i 0).val / 1024 * 1024 ≤ _ ∧ _ < (i 0).val / 1024 * 1024 + 1024; omega
    | ⟨1, _⟩ => show win0_2.index t 1 * 1280 ≤ (i 1).val ∧ (i 1).val < win0_2.index t 1 * 1280 + 1280
                rw [ht1]; show (i 1).val / 1280 * 1280 ≤ _ ∧ _ < (i 1).val / 1280 * 1280 + 1280; omega

/-- The kernel's run: its results are the functions above of its arguments, which it keeps. -/
theorem run : θ_run defs (onTc (τ := τ) (main (F := Ideal))) ⟨m, fun _ => 0, ρ⟩ fun r => ∀ c : Dev nD,
      r.2.mem ((c : Thread nD τ).loc main_v0) = joined (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

/-- The reference's result is the same function of the arguments. -/
theorem reference (x0 : S4096x2048.Idx → EReal) (x1 : S2048x7680.Idx → EReal) :
    Cert.ProjReferenceIdeal.Read.val_main_v2 (F := Ideal) x0 x1 = joined x0 x1 := funext fun i => by
  rw [Cert.ProjReferenceIdeal.Read.val_main_v2_apply]
  exact eq_rowcol (fun _ => congrArg x0 (pair_ext rfl rfl)) (fun _ => congrArg x1 (pair_ext rfl rfl))

end Cert.ProjIdeal.Grad

end
-- ==== Proof.Half.lean ====
/- Half of a weight's gradient, in tiles: a tile of the products of columns of two operands is the products of columns
   of two blocks of them, where the blocks lie as the tile does, moved by the half's offset. -/
module

public import proofs.«01_k».proof.Proof.Product

@[expose] public section

noncomputable section

namespace Cert.Half

open Cert.Product Idealize.ShloMosaic Idealize.ShloMosaic.ValueIdx

variable {k M N a b T T' o o' p p' r s : ℕ}

/-- The products of the columns of two operands, from the column `o` of the first and the column `o'` of the second on. -/
def part (o o' : ℕ) (h : o + a ≤ M) (h' : o' + b ≤ N) (A : (⟨2, ![k, M]⟩ : Shape).Idx → EReal) (B : (⟨2, ![k, N]⟩ : Shape).Idx → EReal) :
    (⟨2, ![a, b]⟩ : Shape).Idx → EReal := fun i => cols A B
  ⟨o + (i 0).val, Nat.lt_of_lt_of_le (Nat.add_lt_add_left (show (i 0).val < a from (i 0).isLt) o) h⟩
  ⟨o' + (i 1).val, Nat.lt_of_lt_of_le (Nat.add_lt_add_left (show (i 1).val < b from (i 1).isLt) o') h'⟩

/-- The same with what the sibling core sent. -/
def partPlus (o o' : ℕ) (h : o + a ≤ M) (h' : o' + b ≤ N) (A : (⟨2, ![k, M]⟩ : Shape).Idx → EReal)
    (B : (⟨2, ![k, N]⟩ : Shape).Idx → EReal) (G : (⟨2, ![a, b]⟩ : Shape).Idx → EReal) : (⟨2, ![a, b]⟩ : Shape).Idx → EReal :=
  fun i => part o o' h h' A B i + G i

/-- The entry `(j, j')` of the block numbered `x` is the entry `i` of the array, if `i` has the block's coordinates. -/
theorem at_block {x : Fin 2 → ℕ} (hx : x = ![p, p']) {u i : (⟨2, ![M, N]⟩ : Shape).Idx} {j j' : ℕ}
    (u0 : (u 0).val = x 0 * T + 1 * j) (u1 : (u 1).val = x 1 * T' + 1 * j') (i0 : (i 0).val = p * T + j)
    (i1 : (i 1).val = p' * T' + j') : u = i := by
  subst hx
  exact pair_ext ((u0.trans (congrArg (p * T + ·) (Nat.one_mul j))).trans i0.symm)
    ((u1.trans (congrArg (p' * T' + ·) (Nat.one_mul j'))).trans i1.symm)

/-- Blocks of the same number have their entries at the same places. -/
theorem same_block {x y : Fin 2 → ℕ} (h : x = y) {u v : (⟨2, ![M, N]⟩ : Shape).Idx} {j j' : ℕ} (u0 : (u 0).val = x 0 * T + 1 * j)
    (u1 : (u 1).val = x 1 * T' + 1 * j') (v0 : (v 0).val = y 0 * T + 1 * j) (v1 : (v 1).val = y 1 * T' + 1 * j') : u = v := by
  subst h
  exact pair_ext (u0.trans v0.symm) (u1.trans v1.symm)

/-- An entry lies in the tile whose numbers are the quotients of its coordinates. -/
theorem in_tile (hT : 0 < T) (hT' : 0 < T') {x : Fin 2 → ℕ} (i : (⟨2, ![M, N]⟩ : Shape).Idx)
    (hx : x = ![(i 0).val / T, (i 1).val / T']) (hin) : i ∈ (Rect.block (s := ⟨2, ![M, N]⟩) ![T, T'] x hin).set := by
  subst hx
  rw [Rect.mem_set_unit]
  have bounds (n : ℕ) {t : ℕ} (ht : 0 < t) : n / t * t ≤ n ∧ n < n / t * t + t := ⟨Nat.div_mul_le_self n t, Nat.lt_div_mul_add ht⟩
  intro ax
  match ax with
  | ⟨0, _⟩ => exact bounds _ hT
  | ⟨1, _⟩ => exact bounds _ hT'

variable {X : (⟨2, ![k, T]⟩ : Shape).Idx → EReal} {Y : (⟨2, ![k, T']⟩ : Shape).Idx → EReal}
  {A : (⟨2, ![k, M]⟩ : Shape).Idx → EReal} {B : (⟨2, ![k, N]⟩ : Shape).Idx → EReal}

/-- A tile of the half: block `p` of the first operand's columns against block `p'` of the second's is tile `(r, s)`. -/
theorem tile {h : o + a ≤ M} {h' : o' + b ≤ N}
    (hX : ∀ j i, (i 0).val = 0 * k + (j 0).val → (i 1).val = p * T + (j 1).val → X j = A i)
    (hY : ∀ j i, (i 0).val = 0 * k + (j 0).val → (i 1).val = p' * T' + (j 1).val → Y j = B i)
    (e : p * T = o + r * T) (e' : p' * T' = o' + s * T') (j : (⟨2, ![T, T']⟩ : Shape).Idx) {x : Fin 2 → ℕ} (hx : x = ![r, s])
    {u : (⟨2, ![a, b]⟩ : Shape).Idx} (u0 : (u 0).val = x 0 * T + 1 * (j 0).val) (u1 : (u 1).val = x 1 * T' + 1 * (j 1).val) :
    cols X Y (j 0) (j 1) = part o o' h h' A B u := by
  subst hx
  refine eq_cols (fun q => hX _ _ ?_ ?_) (fun q => hY _ _ ?_ ?_)
  · show q.val = 0 * k + q.val; omega
  · show o + (u 0).val = p * T + (j 0).val
    rw [u0, e]; show o + (r * T + 1 * (j 0).val) = _; omega
  · show q.val = 0 * k + q.val; omega
  · show o' + (u 1).val = p' * T' + (j 1).val
    rw [u1, e']; show o' + (s * T' + 1 * (j 1).val) = _; omega

theorem tile_plus {h : o + a ≤ M} {h' : o' + b ≤ N}
    (hX : ∀ j i, (i 0).val = 0 * k + (j 0).val → (i 1).val = p * T + (j 1).val → X j = A i)
    (hY : ∀ j i, (i 0).val = 0 * k + (j 0).val → (i 1).val = p' * T' + (j 1).val → Y j = B i)
    (e : p * T = o + r * T) (e' : p' * T' = o' + s * T') (j : (⟨2, ![T, T']⟩ : Shape).Idx) {x : Fin 2 → ℕ} (hx : x = ![r, s])
    {u : (⟨2, ![a, b]⟩ : Shape).Idx} (u0 : (u 0).val = x 0 * T + 1 * (j 0).val) (u1 : (u 1).val = x 1 * T' + 1 * (j 1).val)
    {z : EReal} {G : (⟨2, ![a, b]⟩ : Shape).Idx → EReal} (hz : z = G u) :
    cols X Y (j 0) (j 1) + z = partPlus o o' h h' A B G u := by
  rw [hz, tile (h := h) (h' := h') hX hY e e' j hx u0 u1]; rfl

end Cert.Half

end
-- ==== Proof.DwDownS.lean ====
/- The half of the gradient of `w_down` that goes to the sibling core: the later half of the second operand's columns.
   The prefetched table holds the half's number, which places the second operand's block. -/
module

public import proofs.«01_k».proof.Proof.Half
public import proofs.«01_k».proof.Proof.Gen.DwDownS.Frame
public import proofs.«01_k».proof.Proof.Gen.DwDownSIdeal.Frame
public import proofs.«01_k».proof.Proof.Gen.DwDownSReferenceIdeal.Run
public import proofs.«01_k».proof.Proof.Gen.DwDownSReferenceIdeal.Read
public import Idealize.ShloMosaic.Lib.Pipeline.Value
public import Idealize.ShloMosaic.Lib.StableHlo.Run

@[expose] public section

noncomputable section

open Idealize.ShloMosaic Idealize.ShloMosaic.TcCoe Idealize.ShloMosaic.ValueIdx Idealize.ShloMosaic.Tactic Idealize.SL.Sem

namespace Cert.DwDownS.Gen

variable {F : FTy → Type} [FloatOps F] (m : (ℓ : Loc nD τ sig) → Buf (Elt F) ℓ)

theorem table : tbl m 0 = fun _ => (1#32 : BitVec 32) := by
  show StableHlo.after hostOps0 _ (Proc.devRef .tc main_v2) = _
  after_results
  funext i
  simp only [subi, broadcastInDim, constantI]
  decide
theorem placed (i : grid0.Coords) : cc0_transform_1 inb_S1_S1_0 numel1_S1 (tbl m) i = ![0, 1] := by
  unfold cc0_transform_1 Pipeline.Prefetch.Contents.at
  rw [table m]
  revert i
  decide +kernel
theorem ok : Ok m := fun i =>
  ⟨fun a => by rw [placed m i]; revert a; decide, .inr (Affine.block_words_dvd (of_decide_eq_true rfl) (by decide))⟩

end Cert.DwDownS.Gen

namespace Cert.DwDownSIdeal.Gen

variable {F : FTy → Type} [FloatOps F] (m : (ℓ : Loc nD τ sig) → Buf (Elt F) ℓ)

theorem table : tbl m 0 = fun _ => (1#32 : BitVec 32) := by
  show StableHlo.after hostOps0 _ (Proc.devRef .tc main_v2) = _
  after_results
  funext i
  simp only [subi, broadcastInDim, constantI]
  decide
theorem placed (i : grid0.Coords) : cc0_transform_1 inb_S1_S1_0 numel1_S1 (tbl m) i = ![0, 1] := by
  unfold cc0_transform_1 Pipeline.Prefetch.Contents.at
  rw [table m]
  revert i
  decide +kernel
theorem ok : Ok m := fun i =>
  ⟨fun a => by rw [placed m i]; revert a; decide, .inr (Affine.block_words_dvd (of_decide_eq_true rfl) (by decide))⟩

end Cert.DwDownSIdeal.Gen

namespace Cert.DwDownSIdeal.Grad

open Cert.DwDownSIdeal Cert.DwDownSIdeal.Gen Cert.Product Cert.Half

variable (m : (ℓ : Loc nD τ sig) → Buf (Elt Ideal) ℓ) (ρ : Dev nD → PrngReg) (c : Dev nD)

/-- The result. -/
def half (a : S4096x8192.Idx → EReal) (b : S4096x2048.Idx → EReal) : S8192x1024.Idx → EReal :=
  part 0 1024 (by decide) (by decide) a b

theorem pay (x : Vec Ideal S4096x1024 .bf16) (y : Vec Ideal S4096x1024 .bf16) (j : S1024x1024.Idx) :
    k0_pay1 x y j = cols x y (j 0) (j 1) := by
  obtain ⟨p, q, rfl⟩ : ∃ p q, j = ix2 p q := ⟨j 0, j 1, pair_ext rfl rfl⟩
  exact matmul_cols (φ := .bf16) (ψ := .bf16) none p q dot_S4096x1024_S4096x1024_S1024x1024_0_0_1_1_n_n x y rfl rfl
    (fun _ => pair_ext rfl rfl) (fun _ => pair_ext rfl rfl)

/-- The operands' blocks at a point, with their shapes. -/
def blk0 (t : Fin (cfgM m (ok m)).N) : Vec Ideal S4096x1024 .bf16 := iblk m (ok m) c 0 t
def blk1 (t : Fin (cfgM m (ok m)).N) : Vec Ideal S4096x1024 .bf16 := iblk m (ok m) c 1 t

theorem stored (i : grid0.Coords) (arg3 : Memref sig .tc .vmem S4096x1024 .bf16) (h3 : arg3.IsWhole) (arg4 : Memref sig .tc .vmem S4096x1024 .bf16) (h4 : arg4.IsWhole)
    (arg5 : Memref sig .tc .vmem S1024x1024 .bf16) (h5 : arg5.IsWhole)
    (x : Vec Ideal S4096x1024 .bf16) (y : Vec Ideal S4096x1024 .bf16) (T : TbBuf0 (F := Ideal) c tbM0_0) :
    out0_A_2 c i arg3 h3 arg4 h4 arg5 h5 x y T = k0_pay1 x y := by
  unfold out0_A_2
  rw [View.read_writes_eq_canon _ _ _ (fun y => cover0_A_2 (y := y) ..)]
  unfold kernelRun0_A
  dsimp only
  sl_unfold_words
  simp only [View.readAt_eq_ld, h3.read_unread, h4.read_unread,
    View.ld_unit_zero (S := S4096x1024) origin]
  rw [View.canon_unit_zero origin]

/-- What a point writes back, entry by entry. -/
theorem written (t : Fin (cfgM m (ok m)).N) (j : S1024x1024.Idx) :
    ((dats m (ok m) 0 c).flushed 2 t : Vec Ideal S1024x1024 .bf16) j = cols (blk0 m c t) (blk1 m c t) (j 0) (j 1) :=
  (congrFun ((after0_2 m (ok m) c t).trans
    (stored c (grid0.coords t) _ _ _ _ _ _ (blk0 m c t) (blk1 m c t) _)) j).trans (pay (blk0 m c t) (blk1 m c t) j)

theorem moved : ∀ i : grid0.Coords, cc0_transform_0 i = ![0, (i 0).val] := by decide +kernel
theorem result : ∀ i : grid0.Coords, cc0_transform_2 i = ![(i 0).val, 0] := by decide +kernel
theorem point : ∀ p : Fin 8, ∃ t : Fin grid0.N, (grid0.coords t 0).val = p.val := by decide +kernel

theorem block0 (t : Fin (cfgM m (ok m)).N) (j : S4096x1024.Idx) (i : S4096x8192.Idx) (h0 : (i 0).val = 0 * 4096 + (j 0).val)
    (h1 : (i 1).val = (grid0.coords t 0).val * 1024 + (j 1).val) : blk0 m c t j = m ((c : Thread nD τ).loc main_arg0) i := by
  show V m c main_arg0 ((((cfgM m (ok m)).win 0).blk t).view.emb j) = _
  rw [V_main_arg0]
  exact congrArg _ (at_block (T := 4096) (T' := 1024) (moved _) rfl rfl h0 h1)
theorem block1 (t : Fin (cfgM m (ok m)).N) (j : S4096x1024.Idx) (i : S4096x2048.Idx) (h0 : (i 0).val = 0 * 4096 + (j 0).val)
    (h1 : (i 1).val = 1 * 1024 + (j 1).val) : blk1 m c t j = m ((c : Thread nD τ).loc main_arg1) i := by
  show V m c main_arg1 ((((cfgM m (ok m)).win 1).blk t).view.emb j) = _
  rw [V_main_arg1]
  exact congrArg _ (at_block (T := 4096) (T' := 1024) (placed m _) rfl rfl h0 h1)

theorem final : (dats m (ok m) 0 c).arrAt 2 (cfgM m (ok m)).N = half (m ((c : Thread nD τ).loc main_arg0)) (m ((c : Thread nD τ).loc main_arg1)) := by
  refine (dats m (ok m) 0 c).arrAt_eq_of_cover 2 _
    (fun t _ => funext fun (j : S1024x1024.Idx) => (written m c t j).trans ?_) fun (i : S8192x1024.Idx) => ?_
  · exact tile (h := by decide) (h' := by decide) (block0 m c t) (block1 m c t) (Nat.zero_add _).symm rfl j (result _) rfl rfl
  · obtain ⟨t, ht⟩ := point ⟨(i 0).val / 1024, Nat.div_lt_of_lt_mul (show (i 0).val < 1024 * 8 from (i 0).isLt)⟩
    refine ⟨t, flush0_2 (adm m (ok m)) t, ?_⟩
    show i ∈ ((View.whole main_v3).slice (Rect.block (s := S8192x1024) S1024x1024.size (cc0_transform_2 (grid0.coords t)) (hinb0_2 _))).set
    rw [View.set_slice_whole]
    refine in_tile (T := 1024) (T' := 1024) (by decide) (by decide) i ?_ _
    rw [result, ht, Nat.div_eq_of_lt (show (i 1).val < 1024 from (i 1).isLt)]

/-- The kernel's run: its result is the function above of its arguments, which it keeps. -/
theorem run : θ_run defs (onTc (τ := τ) (main (F := Ideal))) ⟨m, fun _ => 0, ρ⟩ fun r => ∀ c : Dev nD,
      r.2.mem ((c : Thread nD τ).loc main_v3) = half (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final m c), h.2 c⟩)
    (θ_run_and (run_main m ρ (ok m)) (unchanged m ρ (ok m)))

/-- The reference's result is the same function of the arguments. -/
theorem reference (x0 : S4096x8192.Idx → EReal) (x1 : S4096x2048.Idx → EReal) :
    Cert.DwDownSReferenceIdeal.Read.val_main_v7 (F := Ideal) x0 x1 = half x0 x1 := funext fun i => by
  rw [Cert.DwDownSReferenceIdeal.Read.val_main_v7_apply, Cert.DwDownSReferenceIdeal.Read.val_main_v6_apply,
    Cert.DwDownSReferenceIdeal.Read.val_main_v5_apply, Cert.DwDownSReferenceIdeal.Read.val_main_v4_apply]
  exact Eq.trans (Finset.sum_congr rfl fun q _ => mul_comm _ _) (eq_cols (fun _ => congrArg x0 (pair_ext rfl (Nat.zero_add _).symm))
    (fun _ => congrArg x1 (pair_ext rfl rfl)))

end Cert.DwDownSIdeal.Grad

end
-- ==== Proof.DwDownO.lean ====
/- The half of the gradient of `w_down` that stays: the earlier half of the second operand's columns, and what the sibling core sent.
   The prefetched table holds the half's number, which places the second operand's block. -/
module

public import proofs.«01_k».proof.Proof.Half
public import proofs.«01_k».proof.Proof.Gen.DwDownO.Frame
public import proofs.«01_k».proof.Proof.Gen.DwDownOIdeal.Frame
public import proofs.«01_k».proof.Proof.Gen.DwDownOReferenceIdeal.Run
public import proofs.«01_k».proof.Proof.Gen.DwDownOReferenceIdeal.Read
public import Idealize.ShloMosaic.Lib.Pipeline.Value
public import Idealize.ShloMosaic.Lib.StableHlo.Run

@[expose] public section

noncomputable section

open Idealize.ShloMosaic Idealize.ShloMosaic.TcCoe Idealize.ShloMosaic.ValueIdx Idealize.ShloMosaic.Tactic Idealize.SL.Sem

namespace Cert.DwDownO.Gen

variable {F : FTy → Type} [FloatOps F] (m : (ℓ : Loc nD τ sig) → Buf (Elt F) ℓ)

theorem table : tbl m 0 = fun _ => (0#32 : BitVec 32) := by
  show StableHlo.after hostOps0 _ (Proc.devRef .tc main_v0) = _
  after_results
  funext i
  simp only [broadcastInDim, constantI]
theorem placed (i : grid0.Coords) : cc0_transform_1 inb_S1_S1_0 numel1_S1 (tbl m) i = ![0, 0] := by
  unfold cc0_transform_1 Pipeline.Prefetch.Contents.at
  rw [table m]
  revert i
  decide +kernel
theorem ok : Ok m := fun i =>
  ⟨fun a => by rw [placed m i]; revert a; decide, .inr (Affine.block_words_dvd (of_decide_eq_true rfl) (by decide))⟩

end Cert.DwDownO.Gen

namespace Cert.DwDownOIdeal.Gen

variable {F : FTy → Type} [FloatOps F] (m : (ℓ : Loc nD τ sig) → Buf (Elt F) ℓ)

theorem table : tbl m 0 = fun _ => (0#32 : BitVec 32) := by
  show StableHlo.after hostOps0 _ (Proc.devRef .tc main_v0) = _
  after_results
  funext i
  simp only [broadcastInDim, constantI]
theorem placed (i : grid0.Coords) : cc0_transform_1 inb_S1_S1_0 numel1_S1 (tbl m) i = ![0, 0] := by
  unfold cc0_transform_1 Pipeline.Prefetch.Contents.at
  rw [table m]
  revert i
  decide +kernel
theorem ok : Ok m := fun i =>
  ⟨fun a => by rw [placed m i]; revert a; decide, .inr (Affine.block_words_dvd (of_decide_eq_true rfl) (by decide))⟩

end Cert.DwDownOIdeal.Gen

namespace Cert.DwDownOIdeal.Grad

open Cert.DwDownOIdeal Cert.DwDownOIdeal.Gen Cert.Product Cert.Half

variable (m : (ℓ : Loc nD τ sig) → Buf (Elt Ideal) ℓ) (ρ : Dev nD → PrngReg) (c : Dev nD)

/-- The result, with what came. -/
def half (a : S4096x8192.Idx → EReal) (b : S4096x2048.Idx → EReal) (g : S8192x1024.Idx → EReal) : S8192x1024.Idx → EReal :=
  partPlus 0 0 (by decide) (by decide) a b g

theorem pay (x : Vec Ideal S4096x1024 .bf16) (y : Vec Ideal S4096x1024 .bf16) (z : Vec Ideal S1024x1024 .bf16) (j : S1024x1024.Idx) :
    k0_pay1 x y z j = cols x y (j 0) (j 1) + z j := by
  obtain ⟨p, q, rfl⟩ : ∃ p q, j = ix2 p q := ⟨j 0, j 1, pair_ext rfl rfl⟩
  exact congrArg (· + z (ix2 p q)) (matmul_cols (φ := .bf16) (ψ := .bf16) none p q dot_S4096x1024_S4096x1024_S1024x1024_0_0_1_1_n_n x y rfl rfl
    (fun _ => pair_ext rfl rfl) (fun _ => pair_ext rfl rfl))

/-- The operands' blocks at a point, with their shapes. -/
def blk0 (t : Fin (cfgM m (ok m)).N) : Vec Ideal S4096x1024 .bf16 := iblk m (ok m) c 0 t
def blk1 (t : Fin (cfgM m (ok m)).N) : Vec Ideal S4096x1024 .bf16 := iblk m (ok m) c 1 t
def blk2 (t : Fin (cfgM m (ok m)).N) : Vec Ideal S1024x1024 .bf16 := iblk m (ok m) c 2 t

theorem stored (i : grid0.Coords) (arg3 : Memref sig .tc .vmem S4096x1024 .bf16) (h3 : arg3.IsWhole) (arg4 : Memref sig .tc .vmem S4096x1024 .bf16) (h4 : arg4.IsWhole)
    (arg5 : Memref sig .tc .vmem S1024x1024 .bf16) (h5 : arg5.IsWhole) (arg6 : Memref sig .tc .vmem S1024x1024 .bf16) (h6 : arg6.IsWhole)
    (x : Vec Ideal S4096x1024 .bf16) (y : Vec Ideal S4096x1024 .bf16) (z : Vec Ideal S1024x1024 .bf16) (T : TbBuf0 (F := Ideal) c tbM0_0) :
    out0_A_3 c i arg3 h3 arg4 h4 arg5 h5 arg6 h6 x y z T = k0_pay1 x y z := by
  unfold out0_A_3
  rw [View.read_writes_eq_canon _ _ _ (fun y => cover0_A_3 (y := y) ..)]
  unfold kernelRun0_A
  dsimp only
  sl_unfold_words
  simp only [View.readAt_eq_ld, h3.read_unread, h4.read_unread, h5.read_unread,
    View.ld_unit_zero (S := S4096x1024) origin, View.ld_unit_zero (S := S1024x1024) origin]
  rw [View.canon_unit_zero origin]

/-- What a point writes back, entry by entry. -/
theorem written (t : Fin (cfgM m (ok m)).N) (j : S1024x1024.Idx) :
    ((dats m (ok m) 0 c).flushed 3 t : Vec Ideal S1024x1024 .bf16) j = cols (blk0 m c t) (blk1 m c t) (j 0) (j 1) + blk2 m c t j :=
  (congrFun ((after0_3 m (ok m) c t).trans
    (stored c (grid0.coords t) _ _ _ _ _ _ _ _ (blk0 m c t) (blk1 m c t) (blk2 m c t) _)) j).trans (pay (blk0 m c t) (blk1 m c t) (blk2 m c t) j)

theorem moved : ∀ i : grid0.Coords, cc0_transform_0 i = ![0, (i 0).val] := by decide +kernel
theorem result : ∀ i : grid0.Coords, cc0_transform_3 i = ![(i 0).val, 0] := by decide +kernel
theorem point : ∀ p : Fin 8, ∃ t : Fin grid0.N, (grid0.coords t 0).val = p.val := by decide +kernel

theorem block0 (t : Fin (cfgM m (ok m)).N) (j : S4096x1024.Idx) (i : S4096x8192.Idx) (h0 : (i 0).val = 0 * 4096 + (j 0).val)
    (h1 : (i 1).val = (grid0.coords t 0).val * 1024 + (j 1).val) : blk0 m c t j = m ((c : Thread nD τ).loc main_arg0) i := by
  show V m c main_arg0 ((((cfgM m (ok m)).win 0).blk t).view.emb j) = _
  rw [V_main_arg0]
  exact congrArg _ (at_block (T := 4096) (T' := 1024) (moved _) rfl rfl h0 h1)
theorem block1 (t : Fin (cfgM m (ok m)).N) (j : S4096x1024.Idx) (i : S4096x2048.Idx) (h0 : (i 0).val = 0 * 4096 + (j 0).val)
    (h1 : (i 1).val = 0 * 1024 + (j 1).val) : blk1 m c t j = m ((c : Thread nD τ).loc main_arg1) i := by
  show V m c main_arg1 ((((cfgM m (ok m)).win 1).blk t).view.emb j) = _
  rw [V_main_arg1]
  exact congrArg _ (at_block (T := 4096) (T' := 1024) (placed m _) rfl rfl h0 h1)
theorem gotten : ∀ i : grid0.Coords, cc0_transform_2 i = cc0_transform_3 i := by decide +kernel
theorem block2 (t : Fin (cfgM m (ok m)).N) (j : S1024x1024.Idx) :
    blk2 m c t j = m ((c : Thread nD τ).loc main_arg2) ((((cfgM m (ok m)).win 3).blk t).view.emb j) := by
  show V m c main_arg2 ((((cfgM m (ok m)).win 2).blk t).view.emb j) = _
  rw [V_main_arg2]
  exact congrArg _ (same_block (T := 1024) (T' := 1024) (gotten (grid0.coords t)) rfl rfl rfl rfl)

theorem final : (dats m (ok m) 0 c).arrAt 3 (cfgM m (ok m)).N = half (m ((c : Thread nD τ).loc main_arg0)) (m ((c : Thread nD τ).loc main_arg1)) (m ((c : Thread nD τ).loc main_arg2)) := by
  refine (dats m (ok m) 0 c).arrAt_eq_of_cover 3 _
    (fun t _ => funext fun (j : S1024x1024.Idx) => (written m c t j).trans ?_) fun (i : S8192x1024.Idx) => ?_
  · exact tile_plus (h := by decide) (h' := by decide) (block0 m c t) (block1 m c t) (Nat.zero_add _).symm rfl j (result _) rfl rfl (block2 m c t j)
  · obtain ⟨t, ht⟩ := point ⟨(i 0).val / 1024, Nat.div_lt_of_lt_mul (show (i 0).val < 1024 * 8 from (i 0).isLt)⟩
    refine ⟨t, flush0_3 (adm m (ok m)) t, ?_⟩
    show i ∈ ((View.whole main_v1).slice (Rect.block (s := S8192x1024) S1024x1024.size (cc0_transform_3 (grid0.coords t)) (hinb0_3 _))).set
    rw [View.set_slice_whole]
    refine in_tile (T := 1024) (T' := 1024) (by decide) (by decide) i ?_ _
    rw [result, ht, Nat.div_eq_of_lt (show (i 1).val < 1024 from (i 1).isLt)]

/-- The kernel's run: its result is the function above of its arguments, which it keeps. -/
theorem run : θ_run defs (onTc (τ := τ) (main (F := Ideal))) ⟨m, fun _ => 0, ρ⟩ fun r => ∀ c : Dev nD,
      r.2.mem ((c : Thread nD τ).loc main_v1) = half (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 3).trans (final m c), h.2 c⟩)
    (θ_run_and (run_main m ρ (ok m)) (unchanged m ρ (ok m)))

/-- The reference's result is the same function of the arguments. -/
theorem reference (x0 : S4096x8192.Idx → EReal) (x1 : S4096x2048.Idx → EReal) (x2 : S8192x1024.Idx → EReal) :
    Cert.DwDownOReferenceIdeal.Read.val_main_v9 (F := Ideal) x0 x1 x2 = half x0 x1 x2 := funext fun i => by
  rw [Cert.DwDownOReferenceIdeal.Read.val_main_v9_apply, Cert.DwDownOReferenceIdeal.Read.val_main_v8_apply,
    Cert.DwDownOReferenceIdeal.Read.val_main_v6_apply, Cert.DwDownOReferenceIdeal.Read.val_main_v5_apply,
    Cert.DwDownOReferenceIdeal.Read.val_main_v4_apply]
  refine congrArg (· + x2 i) ?_
  exact Eq.trans (Finset.sum_congr rfl fun q _ => mul_comm _ _) (eq_cols (fun _ => congrArg x0 (pair_ext rfl (Nat.zero_add _).symm))
    (fun _ => congrArg x1 (pair_ext rfl (Nat.zero_add _).symm)))

end Cert.DwDownOIdeal.Grad

end
-- ==== Proof.DwUpS.lean ====
/- The half of the gradient of `w_up` that goes to the sibling core: the later half of the first operand's columns.
   The prefetched table holds the half's number, which places the first operand's block. -/
module

public import proofs.«01_k».proof.Proof.Half
public import proofs.«01_k».proof.Proof.Gen.DwUpS.Frame
public import proofs.«01_k».proof.Proof.Gen.DwUpSIdeal.Frame
public import proofs.«01_k».proof.Proof.Gen.DwUpSReferenceIdeal.Run
public import proofs.«01_k».proof.Proof.Gen.DwUpSReferenceIdeal.Read
public import Idealize.ShloMosaic.Lib.Pipeline.Value
public import Idealize.ShloMosaic.Lib.StableHlo.Run

@[expose] public section

noncomputable section

open Idealize.ShloMosaic Idealize.ShloMosaic.TcCoe Idealize.ShloMosaic.ValueIdx Idealize.ShloMosaic.Tactic Idealize.SL.Sem

namespace Cert.DwUpS.Gen

variable {F : FTy → Type} [FloatOps F] (m : (ℓ : Loc nD τ sig) → Buf (Elt F) ℓ)

theorem table : tbl m 0 = fun _ => (1#32 : BitVec 32) := by
  show StableHlo.after hostOps0 _ (Proc.devRef .tc main_v2) = _
  after_results
  funext i
  simp only [subi, broadcastInDim, constantI]
  decide
theorem placed (i : grid0.Coords) : cc0_transform_0 inb_S1_S1_0 numel1_S1 (tbl m) i = ![0, 1] := by
  unfold cc0_transform_0 Pipeline.Prefetch.Contents.at
  rw [table m]
  revert i
  decide +kernel
theorem ok : Ok m := fun i =>
  ⟨fun a => by rw [placed m i]; revert a; decide, .inr (Affine.block_words_dvd (of_decide_eq_true rfl) (by decide))⟩

end Cert.DwUpS.Gen

namespace Cert.DwUpSIdeal.Gen

variable {F : FTy → Type} [FloatOps F] (m : (ℓ : Loc nD τ sig) → Buf (Elt F) ℓ)

theorem table : tbl m 0 = fun _ => (1#32 : BitVec 32) := by
  show StableHlo.after hostOps0 _ (Proc.devRef .tc main_v2) = _
  after_results
  funext i
  simp only [subi, broadcastInDim, constantI]
  decide
theorem placed (i : grid0.Coords) : cc0_transform_0 inb_S1_S1_0 numel1_S1 (tbl m) i = ![0, 1] := by
  unfold cc0_transform_0 Pipeline.Prefetch.Contents.at
  rw [table m]
  revert i
  decide +kernel
theorem ok : Ok m := fun i =>
  ⟨fun a => by rw [placed m i]; revert a; decide, .inr (Affine.block_words_dvd (of_decide_eq_true rfl) (by decide))⟩

end Cert.DwUpSIdeal.Gen

namespace Cert.DwUpSIdeal.Grad

open Cert.DwUpSIdeal Cert.DwUpSIdeal.Gen Cert.Product Cert.Half

variable (m : (ℓ : Loc nD τ sig) → Buf (Elt Ideal) ℓ) (ρ : Dev nD → PrngReg) (c : Dev nD)

/-- The result. -/
def half (a : S4096x2048.Idx → EReal) (b : S4096x8192.Idx → EReal) : S1024x8192.Idx → EReal :=
  part 1024 0 (by decide) (by decide) a b

theorem pay (x : Vec Ideal S4096x1024 .bf16) (y : Vec Ideal S4096x1024 .bf16) (j : S1024x1024.Idx) :
    k0_pay1 x y j = cols x y (j 0) (j 1) := by
  obtain ⟨p, q, rfl⟩ : ∃ p q, j = ix2 p q := ⟨j 0, j 1, pair_ext rfl rfl⟩
  exact matmul_cols (φ := .bf16) (ψ := .bf16) none p q dot_S4096x1024_S4096x1024_S1024x1024_0_0_1_1_n_n x y rfl rfl
    (fun _ => pair_ext rfl rfl) (fun _ => pair_ext rfl rfl)

/-- The operands' blocks at a point, with their shapes. -/
def blk0 (t : Fin (cfgM m (ok m)).N) : Vec Ideal S4096x1024 .bf16 := iblk m (ok m) c 0 t
def blk1 (t : Fin (cfgM m (ok m)).N) : Vec Ideal S4096x1024 .bf16 := iblk m (ok m) c 1 t

theorem stored (i : grid0.Coords) (arg3 : Memref sig .tc .vmem S4096x1024 .bf16) (h3 : arg3.IsWhole) (arg4 : Memref sig .tc .vmem S4096x1024 .bf16) (h4 : arg4.IsWhole)
    (arg5 : Memref sig .tc .vmem S1024x1024 .bf16) (h5 : arg5.IsWhole)
    (x : Vec Ideal S4096x1024 .bf16) (y : Vec Ideal S4096x1024 .bf16) (T : TbBuf0 (F := Ideal) c tbM0_0) :
    out0_A_2 c i arg3 h3 arg4 h4 arg5 h5 x y T = k0_pay1 x y := by
  unfold out0_A_2
  rw [View.read_writes_eq_canon _ _ _ (fun y => cover0_A_2 (y := y) ..)]
  unfold kernelRun0_A
  dsimp only
  sl_unfold_words
  simp only [View.readAt_eq_ld, h3.read_unread, h4.read_unread,
    View.ld_unit_zero (S := S4096x1024) origin]
  rw [View.canon_unit_zero origin]

/-- What a point writes back, entry by entry. -/
theorem written (t : Fin (cfgM m (ok m)).N) (j : S1024x1024.Idx) :
    ((dats m (ok m) 0 c).flushed 2 t : Vec Ideal S1024x1024 .bf16) j = cols (blk0 m c t) (blk1 m c t) (j 0) (j 1) :=
  (congrFun ((after0_2 m (ok m) c t).trans
    (stored c (grid0.coords t) _ _ _ _ _ _ (blk0 m c t) (blk1 m c t) _)) j).trans (pay (blk0 m c t) (blk1 m c t) j)

theorem moved : ∀ i : grid0.Coords, cc0_transform_1 i = ![0, (i 1).val] := by decide +kernel
theorem result : ∀ i : grid0.Coords, cc0_transform_2 i = ![0, (i 1).val] := by decide +kernel
theorem point : ∀ p : Fin 8, ∃ t : Fin grid0.N, (grid0.coords t 1).val = p.val := by decide +kernel

theorem block0 (t : Fin (cfgM m (ok m)).N) (j : S4096x1024.Idx) (i : S4096x2048.Idx) (h0 : (i 0).val = 0 * 4096 + (j 0).val)
    (h1 : (i 1).val = 1 * 1024 + (j 1).val) : blk0 m c t j = m ((c : Thread nD τ).loc main_arg0) i := by
  show V m c main_arg0 ((((cfgM m (ok m)).win 0).blk t).view.emb j) = _
  rw [V_main_arg0]
  exact congrArg _ (at_block (T := 4096) (T' := 1024) (placed m _) rfl rfl h0 h1)
theorem block1 (t : Fin (cfgM m (ok m)).N) (j : S4096x1024.Idx) (i : S4096x8192.Idx) (h0 : (i 0).val = 0 * 4096 + (j 0).val)
    (h1 : (i 1).val = (grid0.coords t 1).val * 1024 + (j 1).val) : blk1 m c t j = m ((c : Thread nD τ).loc main_arg1) i := by
  show V m c main_arg1 ((((cfgM m (ok m)).win 1).blk t).view.emb j) = _
  rw [V_main_arg1]
  exact congrArg _ (at_block (T := 4096) (T' := 1024) (moved _) rfl rfl h0 h1)

theorem final : (dats m (ok m) 0 c).arrAt 2 (cfgM m (ok m)).N = half (m ((c : Thread nD τ).loc main_arg0)) (m ((c : Thread nD τ).loc main_arg1)) := by
  refine (dats m (ok m) 0 c).arrAt_eq_of_cover 2 _
    (fun t _ => funext fun (j : S1024x1024.Idx) => (written m c t j).trans ?_) fun (i : S1024x8192.Idx) => ?_
  · exact tile (h := by decide) (h' := by decide) (block0 m c t) (block1 m c t) rfl (Nat.zero_add _).symm j (result _) rfl rfl
  · obtain ⟨t, ht⟩ := point ⟨(i 1).val / 1024, Nat.div_lt_of_lt_mul (show (i 1).val < 1024 * 8 from (i 1).isLt)⟩
    refine ⟨t, flush0_2 (adm m (ok m)) t, ?_⟩
    show i ∈ ((View.whole main_v3).slice (Rect.block (s := S1024x8192) S1024x1024.size (cc0_transform_2 (grid0.coords t)) (hinb0_2 _))).set
    rw [View.set_slice_whole]
    refine in_tile (T := 1024) (T' := 1024) (by decide) (by decide) i ?_ _
    rw [result, ht, Nat.div_eq_of_lt (show (i 0).val < 1024 from (i 0).isLt)]

/-- The kernel's run: its result is the function above of its arguments, which it keeps. -/
theorem run : θ_run defs (onTc (τ := τ) (main (F := Ideal))) ⟨m, fun _ => 0, ρ⟩ fun r => ∀ c : Dev nD,
      r.2.mem ((c : Thread nD τ).loc main_v3) = half (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final m c), h.2 c⟩)
    (θ_run_and (run_main m ρ (ok m)) (unchanged m ρ (ok m)))

/-- The reference's result is the same function of the arguments. -/
theorem reference (x0 : S4096x2048.Idx → EReal) (x1 : S4096x8192.Idx → EReal) :
    Cert.DwUpSReferenceIdeal.Read.val_main_v7 (F := Ideal) x0 x1 = half x0 x1 := funext fun i => by
  rw [Cert.DwUpSReferenceIdeal.Read.val_main_v7_apply, Cert.DwUpSReferenceIdeal.Read.val_main_v6_apply,
    Cert.DwUpSReferenceIdeal.Read.val_main_v5_apply, Cert.DwUpSReferenceIdeal.Read.val_main_v4_apply]
  exact Eq.trans (Finset.sum_congr rfl fun q _ => mul_comm _ _) (eq_cols (fun _ => congrArg x0 (pair_ext rfl rfl))
    (fun _ => congrArg x1 (pair_ext rfl (Nat.zero_add _).symm)))

end Cert.DwUpSIdeal.Grad

end
-- ==== Proof.DwUpO.lean ====
/- The half of the gradient of `w_up` that stays: the earlier half of the first operand's columns, and what the sibling core sent.
   The prefetched table holds the half's number, which places the first operand's block. -/
module

public import proofs.«01_k».proof.Proof.Half
public import proofs.«01_k».proof.Proof.Gen.DwUpO.Frame
public import proofs.«01_k».proof.Proof.Gen.DwUpOIdeal.Frame
public import proofs.«01_k».proof.Proof.Gen.DwUpOReferenceIdeal.Run
public import proofs.«01_k».proof.Proof.Gen.DwUpOReferenceIdeal.Read
public import Idealize.ShloMosaic.Lib.Pipeline.Value
public import Idealize.ShloMosaic.Lib.StableHlo.Run

@[expose] public section

noncomputable section

open Idealize.ShloMosaic Idealize.ShloMosaic.TcCoe Idealize.ShloMosaic.ValueIdx Idealize.ShloMosaic.Tactic Idealize.SL.Sem

namespace Cert.DwUpO.Gen

variable {F : FTy → Type} [FloatOps F] (m : (ℓ : Loc nD τ sig) → Buf (Elt F) ℓ)

theorem table : tbl m 0 = fun _ => (0#32 : BitVec 32) := by
  show StableHlo.after hostOps0 _ (Proc.devRef .tc main_v0) = _
  after_results
  funext i
  simp only [broadcastInDim, constantI]
theorem placed (i : grid0.Coords) : cc0_transform_0 inb_S1_S1_0 numel1_S1 (tbl m) i = ![0, 0] := by
  unfold cc0_transform_0 Pipeline.Prefetch.Contents.at
  rw [table m]
  revert i
  decide +kernel
theorem ok : Ok m := fun i =>
  ⟨fun a => by rw [placed m i]; revert a; decide, .inr (Affine.block_words_dvd (of_decide_eq_true rfl) (by decide))⟩

end Cert.DwUpO.Gen

namespace Cert.DwUpOIdeal.Gen

variable {F : FTy → Type} [FloatOps F] (m : (ℓ : Loc nD τ sig) → Buf (Elt F) ℓ)

theorem table : tbl m 0 = fun _ => (0#32 : BitVec 32) := by
  show StableHlo.after hostOps0 _ (Proc.devRef .tc main_v0) = _
  after_results
  funext i
  simp only [broadcastInDim, constantI]
theorem placed (i : grid0.Coords) : cc0_transform_0 inb_S1_S1_0 numel1_S1 (tbl m) i = ![0, 0] := by
  unfold cc0_transform_0 Pipeline.Prefetch.Contents.at
  rw [table m]
  revert i
  decide +kernel
theorem ok : Ok m := fun i =>
  ⟨fun a => by rw [placed m i]; revert a; decide, .inr (Affine.block_words_dvd (of_decide_eq_true rfl) (by decide))⟩

end Cert.DwUpOIdeal.Gen

namespace Cert.DwUpOIdeal.Grad

open Cert.DwUpOIdeal Cert.DwUpOIdeal.Gen Cert.Product Cert.Half

variable (m : (ℓ : Loc nD τ sig) → Buf (Elt Ideal) ℓ) (ρ : Dev nD → PrngReg) (c : Dev nD)

/-- The result, with what came. -/
def half (a : S4096x2048.Idx → EReal) (b : S4096x8192.Idx → EReal) (g : S1024x8192.Idx → EReal) : S1024x8192.Idx → EReal :=
  partPlus 0 0 (by decide) (by decide) a b g

theorem pay (x : Vec Ideal S4096x1024 .bf16) (y : Vec Ideal S4096x1024 .bf16) (z : Vec Ideal S1024x1024 .bf16) (j : S1024x1024.Idx) :
    k0_pay1 x y z j = cols x y (j 0) (j 1) + z j := by
  obtain ⟨p, q, rfl⟩ : ∃ p q, j = ix2 p q := ⟨j 0, j 1, pair_ext rfl rfl⟩
  exact congrArg (· + z (ix2 p q)) (matmul_cols (φ := .bf16) (ψ := .bf16) none p q dot_S4096x1024_S4096x1024_S1024x1024_0_0_1_1_n_n x y rfl rfl
    (fun _ => pair_ext rfl rfl) (fun _ => pair_ext rfl rfl))

/-- The operands' blocks at a point, with their shapes. -/
def blk0 (t : Fin (cfgM m (ok m)).N) : Vec Ideal S4096x1024 .bf16 := iblk m (ok m) c 0 t
def blk1 (t : Fin (cfgM m (ok m)).N) : Vec Ideal S4096x1024 .bf16 := iblk m (ok m) c 1 t
def blk2 (t : Fin (cfgM m (ok m)).N) : Vec Ideal S1024x1024 .bf16 := iblk m (ok m) c 2 t

theorem stored (i : grid0.Coords) (arg3 : Memref sig .tc .vmem S4096x1024 .bf16) (h3 : arg3.IsWhole) (arg4 : Memref sig .tc .vmem S4096x1024 .bf16) (h4 : arg4.IsWhole)
    (arg5 : Memref sig .tc .vmem S1024x1024 .bf16) (h5 : arg5.IsWhole) (arg6 : Memref sig .tc .vmem S1024x1024 .bf16) (h6 : arg6.IsWhole)
    (x : Vec Ideal S4096x1024 .bf16) (y : Vec Ideal S4096x1024 .bf16) (z : Vec Ideal S1024x1024 .bf16) (T : TbBuf0 (F := Ideal) c tbM0_0) :
    out0_A_3 c i arg3 h3 arg4 h4 arg5 h5 arg6 h6 x y z T = k0_pay1 x y z := by
  unfold out0_A_3
  rw [View.read_writes_eq_canon _ _ _ (fun y => cover0_A_3 (y := y) ..)]
  unfold kernelRun0_A
  dsimp only
  sl_unfold_words
  simp only [View.readAt_eq_ld, h3.read_unread, h4.read_unread, h5.read_unread,
    View.ld_unit_zero (S := S4096x1024) origin, View.ld_unit_zero (S := S1024x1024) origin]
  rw [View.canon_unit_zero origin]

/-- What a point writes back, entry by entry. -/
theorem written (t : Fin (cfgM m (ok m)).N) (j : S1024x1024.Idx) :
    ((dats m (ok m) 0 c).flushed 3 t : Vec Ideal S1024x1024 .bf16) j = cols (blk0 m c t) (blk1 m c t) (j 0) (j 1) + blk2 m c t j :=
  (congrFun ((after0_3 m (ok m) c t).trans
    (stored c (grid0.coords t) _ _ _ _ _ _ _ _ (blk0 m c t) (blk1 m c t) (blk2 m c t) _)) j).trans (pay (blk0 m c t) (blk1 m c t) (blk2 m c t) j)

theorem moved : ∀ i : grid0.Coords, cc0_transform_1 i = ![0, (i 1).val] := by decide +kernel
theorem result : ∀ i : grid0.Coords, cc0_transform_3 i = ![0, (i 1).val] := by decide +kernel
theorem point : ∀ p : Fin 8, ∃ t : Fin grid0.N, (grid0.coords t 1).val = p.val := by decide +kernel

theorem block0 (t : Fin (cfgM m (ok m)).N) (j : S4096x1024.Idx) (i : S4096x2048.Idx) (h0 : (i 0).val = 0 * 4096 + (j 0).val)
    (h1 : (i 1).val = 0 * 1024 + (j 1).val) : blk0 m c t j = m ((c : Thread nD τ).loc main_arg0) i := by
  show V m c main_arg0 ((((cfgM m (ok m)).win 0).blk t).view.emb j) = _
  rw [V_main_arg0]
  exact congrArg _ (at_block (T := 4096) (T' := 1024) (placed m _) rfl rfl h0 h1)
theorem block1 (t : Fin (cfgM m (ok m)).N) (j : S4096x1024.Idx) (i : S4096x8192.Idx) (h0 : (i 0).val = 0 * 4096 + (j 0).val)
    (h1 : (i 1).val = (grid0.coords t 1).val * 1024 + (j 1).val) : blk1 m c t j = m ((c : Thread nD τ).loc main_arg1) i := by
  show V m c main_arg1 ((((cfgM m (ok m)).win 1).blk t).view.emb j) = _
  rw [V_main_arg1]
  exact congrArg _ (at_block (T := 4096) (T' := 1024) (moved _) rfl rfl h0 h1)
theorem gotten : ∀ i : grid0.Coords, cc0_transform_2 i = cc0_transform_3 i := by decide +kernel
theorem block2 (t : Fin (cfgM m (ok m)).N) (j : S1024x1024.Idx) :
    blk2 m c t j = m ((c : Thread nD τ).loc main_arg2) ((((cfgM m (ok m)).win 3).blk t).view.emb j) := by
  show V m c main_arg2 ((((cfgM m (ok m)).win 2).blk t).view.emb j) = _
  rw [V_main_arg2]
  exact congrArg _ (same_block (T := 1024) (T' := 1024) (gotten (grid0.coords t)) rfl rfl rfl rfl)

theorem final : (dats m (ok m) 0 c).arrAt 3 (cfgM m (ok m)).N = half (m ((c : Thread nD τ).loc main_arg0)) (m ((c : Thread nD τ).loc main_arg1)) (m ((c : Thread nD τ).loc main_arg2)) := by
  refine (dats m (ok m) 0 c).arrAt_eq_of_cover 3 _
    (fun t _ => funext fun (j : S1024x1024.Idx) => (written m c t j).trans ?_) fun (i : S1024x8192.Idx) => ?_
  · exact tile_plus (h := by decide) (h' := by decide) (block0 m c t) (block1 m c t) rfl (Nat.zero_add _).symm j (result _) rfl rfl (block2 m c t j)
  · obtain ⟨t, ht⟩ := point ⟨(i 1).val / 1024, Nat.div_lt_of_lt_mul (show (i 1).val < 1024 * 8 from (i 1).isLt)⟩
    refine ⟨t, flush0_3 (adm m (ok m)) t, ?_⟩
    show i ∈ ((View.whole main_v1).slice (Rect.block (s := S1024x8192) S1024x1024.size (cc0_transform_3 (grid0.coords t)) (hinb0_3 _))).set
    rw [View.set_slice_whole]
    refine in_tile (T := 1024) (T' := 1024) (by decide) (by decide) i ?_ _
    rw [result, ht, Nat.div_eq_of_lt (show (i 0).val < 1024 from (i 0).isLt)]

/-- The kernel's run: its result is the function above of its arguments, which it keeps. -/
theorem run : θ_run defs (onTc (τ := τ) (main (F := Ideal))) ⟨m, fun _ => 0, ρ⟩ fun r => ∀ c : Dev nD,
      r.2.mem ((c : Thread nD τ).loc main_v1) = half (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 3).trans (final m c), h.2 c⟩)
    (θ_run_and (run_main m ρ (ok m)) (unchanged m ρ (ok m)))

/-- The reference's result is the same function of the arguments. -/
theorem reference (x0 : S4096x2048.Idx → EReal) (x1 : S4096x8192.Idx → EReal) (x2 : S1024x8192.Idx → EReal) :
    Cert.DwUpOReferenceIdeal.Read.val_main_v9 (F := Ideal) x0 x1 x2 = half x0 x1 x2 := funext fun i => by
  rw [Cert.DwUpOReferenceIdeal.Read.val_main_v9_apply, Cert.DwUpOReferenceIdeal.Read.val_main_v8_apply,
    Cert.DwUpOReferenceIdeal.Read.val_main_v6_apply, Cert.DwUpOReferenceIdeal.Read.val_main_v5_apply,
    Cert.DwUpOReferenceIdeal.Read.val_main_v4_apply]
  refine congrArg (· + x2 i) ?_
  exact Eq.trans (Finset.sum_congr rfl fun q _ => mul_comm _ _) (eq_cols (fun _ => congrArg x0 (pair_ext rfl (Nat.zero_add _).symm))
    (fun _ => congrArg x1 (pair_ext rfl (Nat.zero_add _).symm)))

end Cert.DwUpOIdeal.Grad

end
-- ==== Proof.O.lean ====
/- The output projection: each block of the kernel's result is the product's block with the scaled residual stream added,
   and the reference's sum is the same array. -/
module

public import proofs.«01_k».proof.Proof.Product
public import proofs.«01_k».proof.Proof.Gen.OIdeal.Value
public import proofs.«01_k».proof.Proof.Gen.OReferenceIdeal.Run
public import proofs.«01_k».proof.Proof.Gen.OReferenceIdeal.Read

@[expose] public section

noncomputable section

namespace Cert.OIdeal.Grad

open Cert.OIdeal Cert.OIdeal.Gen Cert.Product Idealize.ShloMosaic Idealize.ShloMosaic.ValueIdx
open Idealize.ShloMosaic.TcCoe Idealize.SL.Sem

/-- The result: the heads through the weight, and the scaled residual stream. -/
def stream (x : S4096x2048.Idx → EReal) (w : S2048x2048.Idx → EReal) (r : S4096x2048.Idx → EReal) : S4096x2048.Idx → EReal :=
  fun i => rowcol x w (i 0) (i 1) + root * r i

theorem body (x : Vec Ideal S1024x2048 .bf16) (y : Vec Ideal S2048x1024 .bf16) (z : Vec Ideal S1024x1024 .f32)
    (j : S1024x1024.Idx) : out0_3 x y z j = rowcol x y (j 0) (j 1) + root * z j := by
  unfold out0_3 r0_0 r0_1 r0_2
  rw [View.canon_unit_zero origin, View.ld_unit_zero (S := S1024x2048) origin, View.ld_unit_zero (S := S2048x1024) origin,
    View.ld_unit_zero (S := S1024x1024) origin]
  obtain ⟨p, q, rfl⟩ : ∃ p q, j = ix2 p q := ⟨j 0, j 1, pair_ext rfl rfl⟩
  exact congrArg (· + root * z (ix2 p q)) (matmul_rowcol none p q dot_S1024x2048_S2048x1024_S1024x1024_1_0_0_1_n_n x y rfl rfl
    (fun _ => pair_ext rfl rfl) (fun _ => pair_ext rfl rfl))

variable (m : (ℓ : Loc nD τ sig) → Buf (Elt Ideal) ℓ) (ρ : Dev nD → PrngReg) (c : Dev nD)

theorem at0 : ∀ t : Fin cfg0.N, win0_0.index t 0 = win0_3.index t 0 ∧ win0_0.index t 1 = 0 :=
  (by decide +kernel : ∀ t : Fin grid0.N, win0_0.index t 0 = win0_3.index t 0 ∧ win0_0.index t 1 = 0)
theorem at1 : ∀ t : Fin cfg0.N, win0_1.index t 0 = 0 ∧ win0_1.index t 1 = win0_3.index t 1 :=
  (by decide +kernel : ∀ t : Fin grid0.N, win0_1.index t 0 = 0 ∧ win0_1.index t 1 = win0_3.index t 1)
theorem at2 : ∀ t : Fin cfg0.N, win0_2.index t 0 = win0_3.index t 0 ∧ win0_2.index t 1 = win0_3.index t 1 :=
  (by decide +kernel : ∀ t : Fin grid0.N, win0_2.index t 0 = win0_3.index t 0 ∧ win0_2.index t 1 = win0_3.index t 1)
theorem flush3 : ∀ t : Fin cfg0.N, win0_3.flush t = true := (by decide +kernel : ∀ t : Fin grid0.N, win0_3.flush t = true)
theorem cover3 : ∀ (p : Fin 4) (q : Fin 2), ∃ t : Fin cfg0.N, win0_3.index t 0 = p.val ∧ win0_3.index t 1 = q.val :=
  (by decide +kernel : ∀ (p : Fin 4) (q : Fin 2), ∃ t : Fin grid0.N, win0_3.index t 0 = p.val ∧ win0_3.index t 1 = q.val)

theorem block0 (t : Fin cfg0.N) (j : S1024x2048.Idx) (i : S4096x2048.Idx)
    (h0 : (i 0).val = win0_0.index t 0 * 1024 + (j 0).val) (h1 : (i 1).val = win0_0.index t 1 * 2048 + (j 1).val) :
    iblk m c 0 t j = m ((c : Thread nD τ).loc main_arg0) i := by
  unfold iblk
  rw [View.read_apply]
  show V m c main_arg0 _ = _
  rw [V_main_arg0]
  exact congrArg _ (pair_ext (by show win0_0.index t 0 * 1024 + 1 * (j 0).val = _; omega)
    (by show win0_0.index t 1 * 2048 + 1 * (j 1).val = _; omega))
theorem block1 (t : Fin cfg0.N) (j : S2048x1024.Idx) (i : S2048x2048.Idx)
    (h0 : (i 0).val = win0_1.index t 0 * 2048 + (j 0).val) (h1 : (i 1).val = win0_1.index t 1 * 1024 + (j 1).val) :
    iblk m c 1 t j = m ((c : Thread nD τ).loc main_arg1) i := by
  unfold iblk
  rw [View.read_apply]
  show V m c main_arg1 _ = _
  rw [V_main_arg1]
  exact congrArg _ (pair_ext (by show win0_1.index t 0 * 2048 + 1 * (j 0).val = _; omega)
    (by show win0_1.index t 1 * 1024 + 1 * (j 1).val = _; omega))
theorem block2 (t : Fin cfg0.N) (j : S1024x1024.Idx) (i : S4096x2048.Idx)
    (h0 : (i 0).val = win0_2.index t 0 * 1024 + (j 0).val) (h1 : (i 1).val = win0_2.index t 1 * 1024 + (j 1).val) :
    iblk m c 2 t j = m ((c : Thread nD τ).loc main_arg2) i := by
  unfold iblk
  rw [View.read_apply]
  show V m c main_arg2 _ = _
  rw [V_main_arg2]
  exact congrArg _ (pair_ext (by show win0_2.index t 0 * 1024 + 1 * (j 0).val = _; omega)
    (by show win0_2.index t 1 * 1024 + 1 * (j 1).val = _; omega))

theorem final : (dats m 0 c).arrAt 3 cfg0.N = stream (m ((c : Thread nD τ).loc main_arg0)) (m ((c : Thread nD τ).loc main_arg1))
    (m ((c : Thread nD τ).loc main_arg2)) := by
  refine (dats m 0 c).arrAt_eq_of_cover 3 _ (fun t _ => ?_) fun i => ?_
  · rw [Value.flushed3]
    funext j
    rw [View.read_apply]
    have e0 (p : S4096x2048.Idx) (hp : p = ((cfg0.win 3).blk t).view.emb j) : (p 0).val = win0_3.index t 0 * 1024 + (j 0).val
        ∧ (p 1).val = win0_3.index t 1 * 1024 + (j 1).val := by
      subst hp
      exact ⟨by show win0_3.index t 0 * 1024 + 1 * (j 0).val = _; omega,
        by show win0_3.index t 1 * 1024 + 1 * (j 1).val = _; omega⟩
    refine (body _ _ _ j).trans ?_
    generalize hp : ((cfg0.win 3).blk t).view.emb j = p
    obtain ⟨p0, p1⟩ := e0 p hp.symm
    refine congrArg₂ (· + ·) (eq_rowcol (fun q => block0 m c t _ _ ?_ ?_) (fun q => block1 m c t _ _ ?_ ?_))
      (congrArg (root * ·) (block2 m c t _ _ ?_ ?_))
    · rw [(at0 t).1]; exact p0
    · rw [(at0 t).2]; exact (Nat.zero_add _).symm
    · rw [(at1 t).1]; exact (Nat.zero_add _).symm
    · rw [(at1 t).2]; exact p1
    · rw [(at2 t).1]; exact p0
    · rw [(at2 t).2]; exact p1
  · have hi0 : (i 0).val < 4096 := (i 0).isLt
    have hi1 : (i 1).val < 2048 := (i 1).isLt
    obtain ⟨t, ht0, ht1⟩ := cover3 ⟨(i 0).val / 1024, by omega⟩ ⟨(i 1).val / 1024, by omega⟩
    refine ⟨t, flush3 t, ?_⟩
    show i ∈ ((View.whole main_v0).slice (win0_3.rect t)).set
    rw [View.set_slice_whole, Rect.mem_set_unit]
    intro a
    match a with
    | ⟨0, _⟩ => show win0_3.index t 0 * 1024 ≤ (i 0).val ∧ (i 0).val < win0_3.index t 0 * 1024 + 1024
                rw [ht0]; show (i 0).val / 1024 * 1024 ≤ _ ∧ _ < (i 0).val / 1024 * 1024 + 1024; omega
    | ⟨1, _⟩ => show win0_3.index t 1 * 1024 ≤ (i 1).val ∧ (i 1).val < win0_3.index t 1 * 1024 + 1024
                rw [ht1]; show (i 1).val / 1024 * 1024 ≤ _ ∧ _ < (i 1).val / 1024 * 1024 + 1024; omega

/-- The kernel's run: its results are the functions above of its arguments, which it keeps. -/
theorem run : θ_run defs (onTc (τ := τ) (main (F := Ideal))) ⟨m, fun _ => 0, ρ⟩ fun r => ∀ c : Dev nD,
      r.2.mem ((c : Thread nD τ).loc main_v0) = stream (m ((c : Thread nD τ).loc main_arg0)) (m ((c : Thread nD τ).loc main_arg1))
    (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

/-- The reference's result is the same function of the arguments, its two summands the other way round. -/
theorem reference (x0 : S4096x2048.Idx → EReal) (x1 : S2048x2048.Idx → EReal) (x2 : S4096x2048.Idx → EReal) :
    Cert.OReferenceIdeal.Read.val_main_v5 (F := Ideal) x0 x1 x2 = stream x0 x1 x2 := funext fun i => by
  rw [Cert.OReferenceIdeal.Read.val_main_v5_apply, Cert.OReferenceIdeal.Read.val_main_v4_apply,
    Cert.OReferenceIdeal.Read.val_main_v1_apply, Cert.OReferenceIdeal.Read.val_main_v0_apply]
  refine Eq.trans ?_ (add_comm (root * x2 i) (rowcol x0 x1 (i 0) (i 1)))
  exact congrArg (root * x2 i + ·) (eq_rowcol (fun _ => congrArg x0 (pair_ext rfl rfl))
    (fun _ => congrArg x1 (pair_ext rfl rfl)))

end Cert.OIdeal.Grad

end
-- ==== Proof.DwOS.lean ====
/- The half of the gradient of `w_o` that goes to the sibling core: the later half of the second operand's columns.
   The prefetched table holds the half's number, which places the second operand's block. -/
module

public import proofs.«01_k».proof.Proof.Half
public import proofs.«01_k».proof.Proof.Gen.DwOS.Frame
public import proofs.«01_k».proof.Proof.Gen.DwOSIdeal.Frame
public import proofs.«01_k».proof.Proof.Gen.DwOSReferenceIdeal.Run
public import proofs.«01_k».proof.Proof.Gen.DwOSReferenceIdeal.Read
public import Idealize.ShloMosaic.Lib.Pipeline.Value
public import Idealize.ShloMosaic.Lib.StableHlo.Run

@[expose] public section

noncomputable section

open Idealize.ShloMosaic Idealize.ShloMosaic.TcCoe Idealize.ShloMosaic.ValueIdx Idealize.ShloMosaic.Tactic Idealize.SL.Sem

namespace Cert.DwOS.Gen

variable {F : FTy → Type} [FloatOps F] (m : (ℓ : Loc nD τ sig) → Buf (Elt F) ℓ)

theorem table : tbl m 0 = fun _ => (1#32 : BitVec 32) := by
  show StableHlo.after hostOps0 _ (Proc.devRef .tc main_v2) = _
  after_results
  funext i
  simp only [subi, broadcastInDim, constantI]
  decide
theorem placed (i : grid0.Coords) : cc0_transform_1 inb_S1_S1_0 numel1_S1 (tbl m) i = ![0, 1] := by
  unfold cc0_transform_1 Pipeline.Prefetch.Contents.at
  rw [table m]
  revert i
  decide +kernel
theorem ok : Ok m := fun i =>
  ⟨fun a => by rw [placed m i]; revert a; decide, .inr (Affine.block_words_dvd (of_decide_eq_true rfl) (by decide))⟩

end Cert.DwOS.Gen

namespace Cert.DwOSIdeal.Gen

variable {F : FTy → Type} [FloatOps F] (m : (ℓ : Loc nD τ sig) → Buf (Elt F) ℓ)

theorem table : tbl m 0 = fun _ => (1#32 : BitVec 32) := by
  show StableHlo.after hostOps0 _ (Proc.devRef .tc main_v2) = _
  after_results
  funext i
  simp only [subi, broadcastInDim, constantI]
  decide
theorem placed (i : grid0.Coords) : cc0_transform_1 inb_S1_S1_0 numel1_S1 (tbl m) i = ![0, 1] := by
  unfold cc0_transform_1 Pipeline.Prefetch.Contents.at
  rw [table m]
  revert i
  decide +kernel
theorem ok : Ok m := fun i =>
  ⟨fun a => by rw [placed m i]; revert a; decide, .inr (Affine.block_words_dvd (of_decide_eq_true rfl) (by decide))⟩

end Cert.DwOSIdeal.Gen

namespace Cert.DwOSIdeal.Grad

open Cert.DwOSIdeal Cert.DwOSIdeal.Gen Cert.Product Cert.Half

variable (m : (ℓ : Loc nD τ sig) → Buf (Elt Ideal) ℓ) (ρ : Dev nD → PrngReg) (c : Dev nD)

/-- The result. -/
def half (a : S4096x2048.Idx → EReal) (b : S4096x2048.Idx → EReal) : S2048x1024.Idx → EReal :=
  part 0 1024 (by decide) (by decide) a b

theorem pay (x : Vec Ideal S4096x1024 .bf16) (y : Vec Ideal S4096x1024 .bf16) (j : S1024x1024.Idx) :
    k0_pay1 x y j = cols x y (j 0) (j 1) := by
  obtain ⟨p, q, rfl⟩ : ∃ p q, j = ix2 p q := ⟨j 0, j 1, pair_ext rfl rfl⟩
  exact matmul_cols (φ := .bf16) (ψ := .bf16) none p q dot_S4096x1024_S4096x1024_S1024x1024_0_0_1_1_n_n x y rfl rfl
    (fun _ => pair_ext rfl rfl) (fun _ => pair_ext rfl rfl)

/-- The operands' blocks at a point, with their shapes. -/
def blk0 (t : Fin (cfgM m (ok m)).N) : Vec Ideal S4096x1024 .bf16 := iblk m (ok m) c 0 t
def blk1 (t : Fin (cfgM m (ok m)).N) : Vec Ideal S4096x1024 .bf16 := iblk m (ok m) c 1 t

theorem stored (i : grid0.Coords) (arg3 : Memref sig .tc .vmem S4096x1024 .bf16) (h3 : arg3.IsWhole) (arg4 : Memref sig .tc .vmem S4096x1024 .bf16) (h4 : arg4.IsWhole)
    (arg5 : Memref sig .tc .vmem S1024x1024 .bf16) (h5 : arg5.IsWhole)
    (x : Vec Ideal S4096x1024 .bf16) (y : Vec Ideal S4096x1024 .bf16) (T : TbBuf0 (F := Ideal) c tbM0_0) :
    out0_A_2 c i arg3 h3 arg4 h4 arg5 h5 x y T = k0_pay1 x y := by
  unfold out0_A_2
  rw [View.read_writes_eq_canon _ _ _ (fun y => cover0_A_2 (y := y) ..)]
  unfold kernelRun0_A
  dsimp only
  sl_unfold_words
  simp only [View.readAt_eq_ld, h3.read_unread, h4.read_unread,
    View.ld_unit_zero (S := S4096x1024) origin]
  rw [View.canon_unit_zero origin]

/-- What a point writes back, entry by entry. -/
theorem written (t : Fin (cfgM m (ok m)).N) (j : S1024x1024.Idx) :
    ((dats m (ok m) 0 c).flushed 2 t : Vec Ideal S1024x1024 .bf16) j = cols (blk0 m c t) (blk1 m c t) (j 0) (j 1) :=
  (congrFun ((after0_2 m (ok m) c t).trans
    (stored c (grid0.coords t) _ _ _ _ _ _ (blk0 m c t) (blk1 m c t) _)) j).trans (pay (blk0 m c t) (blk1 m c t) j)

theorem moved : ∀ i : grid0.Coords, cc0_transform_0 i = ![0, (i 0).val] := by decide +kernel
theorem result : ∀ i : grid0.Coords, cc0_transform_2 i = ![(i 0).val, 0] := by decide +kernel
theorem point : ∀ p : Fin 2, ∃ t : Fin grid0.N, (grid0.coords t 0).val = p.val := by decide +kernel

theorem block0 (t : Fin (cfgM m (ok m)).N) (j : S4096x1024.Idx) (i : S4096x2048.Idx) (h0 : (i 0).val = 0 * 4096 + (j 0).val)
    (h1 : (i 1).val = (grid0.coords t 0).val * 1024 + (j 1).val) : blk0 m c t j = m ((c : Thread nD τ).loc main_arg0) i := by
  show V m c main_arg0 ((((cfgM m (ok m)).win 0).blk t).view.emb j) = _
  rw [V_main_arg0]
  exact congrArg _ (at_block (T := 4096) (T' := 1024) (moved _) rfl rfl h0 h1)
theorem block1 (t : Fin (cfgM m (ok m)).N) (j : S4096x1024.Idx) (i : S4096x2048.Idx) (h0 : (i 0).val = 0 * 4096 + (j 0).val)
    (h1 : (i 1).val = 1 * 1024 + (j 1).val) : blk1 m c t j = m ((c : Thread nD τ).loc main_arg1) i := by
  show V m c main_arg1 ((((cfgM m (ok m)).win 1).blk t).view.emb j) = _
  rw [V_main_arg1]
  exact congrArg _ (at_block (T := 4096) (T' := 1024) (placed m _) rfl rfl h0 h1)

theorem final : (dats m (ok m) 0 c).arrAt 2 (cfgM m (ok m)).N = half (m ((c : Thread nD τ).loc main_arg0)) (m ((c : Thread nD τ).loc main_arg1)) := by
  refine (dats m (ok m) 0 c).arrAt_eq_of_cover 2 _
    (fun t _ => funext fun (j : S1024x1024.Idx) => (written m c t j).trans ?_) fun (i : S2048x1024.Idx) => ?_
  · exact tile (h := by decide) (h' := by decide) (block0 m c t) (block1 m c t) (Nat.zero_add _).symm rfl j (result _) rfl rfl
  · obtain ⟨t, ht⟩ := point ⟨(i 0).val / 1024, Nat.div_lt_of_lt_mul (show (i 0).val < 1024 * 2 from (i 0).isLt)⟩
    refine ⟨t, flush0_2 (adm m (ok m)) t, ?_⟩
    show i ∈ ((View.whole main_v3).slice (Rect.block (s := S2048x1024) S1024x1024.size (cc0_transform_2 (grid0.coords t)) (hinb0_2 _))).set
    rw [View.set_slice_whole]
    refine in_tile (T := 1024) (T' := 1024) (by decide) (by decide) i ?_ _
    rw [result, ht, Nat.div_eq_of_lt (show (i 1).val < 1024 from (i 1).isLt)]

/-- The kernel's run: its result is the function above of its arguments, which it keeps. -/
theorem run : θ_run defs (onTc (τ := τ) (main (F := Ideal))) ⟨m, fun _ => 0, ρ⟩ fun r => ∀ c : Dev nD,
      r.2.mem ((c : Thread nD τ).loc main_v3) = half (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final m c), h.2 c⟩)
    (θ_run_and (run_main m ρ (ok m)) (unchanged m ρ (ok m)))

/-- The reference's result is the same function of the arguments. -/
theorem reference (x0 : S4096x2048.Idx → EReal) (x1 : S4096x2048.Idx → EReal) :
    Cert.DwOSReferenceIdeal.Read.val_main_v7 (F := Ideal) x0 x1 = half x0 x1 := funext fun i => by
  rw [Cert.DwOSReferenceIdeal.Read.val_main_v7_apply, Cert.DwOSReferenceIdeal.Read.val_main_v6_apply,
    Cert.DwOSReferenceIdeal.Read.val_main_v5_apply, Cert.DwOSReferenceIdeal.Read.val_main_v4_apply]
  exact Eq.trans (Finset.sum_congr rfl fun q _ => mul_comm _ _) (eq_cols (fun _ => congrArg x0 (pair_ext rfl (Nat.zero_add _).symm))
    (fun _ => congrArg x1 (pair_ext rfl rfl)))

end Cert.DwOSIdeal.Grad

end
-- ==== Proof.DwOO.lean ====
/- The half of the gradient of `w_o` that stays: the earlier half of the second operand's columns, and what the sibling core sent.
   The prefetched table holds the half's number, which places the second operand's block. -/
module

public import proofs.«01_k».proof.Proof.Half
public import proofs.«01_k».proof.Proof.Gen.DwOO.Frame
public import proofs.«01_k».proof.Proof.Gen.DwOOIdeal.Frame
public import proofs.«01_k».proof.Proof.Gen.DwOOReferenceIdeal.Run
public import proofs.«01_k».proof.Proof.Gen.DwOOReferenceIdeal.Read
public import Idealize.ShloMosaic.Lib.Pipeline.Value
public import Idealize.ShloMosaic.Lib.StableHlo.Run

@[expose] public section

noncomputable section

open Idealize.ShloMosaic Idealize.ShloMosaic.TcCoe Idealize.ShloMosaic.ValueIdx Idealize.ShloMosaic.Tactic Idealize.SL.Sem

namespace Cert.DwOO.Gen

variable {F : FTy → Type} [FloatOps F] (m : (ℓ : Loc nD τ sig) → Buf (Elt F) ℓ)

theorem table : tbl m 0 = fun _ => (0#32 : BitVec 32) := by
  show StableHlo.after hostOps0 _ (Proc.devRef .tc main_v0) = _
  after_results
  funext i
  simp only [broadcastInDim, constantI]
theorem placed (i : grid0.Coords) : cc0_transform_1 inb_S1_S1_0 numel1_S1 (tbl m) i = ![0, 0] := by
  unfold cc0_transform_1 Pipeline.Prefetch.Contents.at
  rw [table m]
  revert i
  decide +kernel
theorem ok : Ok m := fun i =>
  ⟨fun a => by rw [placed m i]; revert a; decide, .inr (Affine.block_words_dvd (of_decide_eq_true rfl) (by decide))⟩

end Cert.DwOO.Gen

namespace Cert.DwOOIdeal.Gen

variable {F : FTy → Type} [FloatOps F] (m : (ℓ : Loc nD τ sig) → Buf (Elt F) ℓ)

theorem table : tbl m 0 = fun _ => (0#32 : BitVec 32) := by
  show StableHlo.after hostOps0 _ (Proc.devRef .tc main_v0) = _
  after_results
  funext i
  simp only [broadcastInDim, constantI]
theorem placed (i : grid0.Coords) : cc0_transform_1 inb_S1_S1_0 numel1_S1 (tbl m) i = ![0, 0] := by
  unfold cc0_transform_1 Pipeline.Prefetch.Contents.at
  rw [table m]
  revert i
  decide +kernel
theorem ok : Ok m := fun i =>
  ⟨fun a => by rw [placed m i]; revert a; decide, .inr (Affine.block_words_dvd (of_decide_eq_true rfl) (by decide))⟩

end Cert.DwOOIdeal.Gen

namespace Cert.DwOOIdeal.Grad

open Cert.DwOOIdeal Cert.DwOOIdeal.Gen Cert.Product Cert.Half

variable (m : (ℓ : Loc nD τ sig) → Buf (Elt Ideal) ℓ) (ρ : Dev nD → PrngReg) (c : Dev nD)

/-- The result, with what came. -/
def half (a : S4096x2048.Idx → EReal) (b : S4096x2048.Idx → EReal) (g : S2048x1024.Idx → EReal) : S2048x1024.Idx → EReal :=
  partPlus 0 0 (by decide) (by decide) a b g

theorem pay (x : Vec Ideal S4096x1024 .bf16) (y : Vec Ideal S4096x1024 .bf16) (z : Vec Ideal S1024x1024 .bf16) (j : S1024x1024.Idx) :
    k0_pay1 x y z j = cols x y (j 0) (j 1) + z j := by
  obtain ⟨p, q, rfl⟩ : ∃ p q, j = ix2 p q := ⟨j 0, j 1, pair_ext rfl rfl⟩
  exact congrArg (· + z (ix2 p q)) (matmul_cols (φ := .bf16) (ψ := .bf16) none p q dot_S4096x1024_S4096x1024_S1024x1024_0_0_1_1_n_n x y rfl rfl
    (fun _ => pair_ext rfl rfl) (fun _ => pair_ext rfl rfl))

/-- The operands' blocks at a point, with their shapes. -/
def blk0 (t : Fin (cfgM m (ok m)).N) : Vec Ideal S4096x1024 .bf16 := iblk m (ok m) c 0 t
def blk1 (t : Fin (cfgM m (ok m)).N) : Vec Ideal S4096x1024 .bf16 := iblk m (ok m) c 1 t
def blk2 (t : Fin (cfgM m (ok m)).N) : Vec Ideal S1024x1024 .bf16 := iblk m (ok m) c 2 t

theorem stored (i : grid0.Coords) (arg3 : Memref sig .tc .vmem S4096x1024 .bf16) (h3 : arg3.IsWhole) (arg4 : Memref sig .tc .vmem S4096x1024 .bf16) (h4 : arg4.IsWhole)
    (arg5 : Memref sig .tc .vmem S1024x1024 .bf16) (h5 : arg5.IsWhole) (arg6 : Memref sig .tc .vmem S1024x1024 .bf16) (h6 : arg6.IsWhole)
    (x : Vec Ideal S4096x1024 .bf16) (y : Vec Ideal S4096x1024 .bf16) (z : Vec Ideal S1024x1024 .bf16) (T : TbBuf0 (F := Ideal) c tbM0_0) :
    out0_A_3 c i arg3 h3 arg4 h4 arg5 h5 arg6 h6 x y z T = k0_pay1 x y z := by
  unfold out0_A_3
  rw [View.read_writes_eq_canon _ _ _ (fun y => cover0_A_3 (y := y) ..)]
  unfold kernelRun0_A
  dsimp only
  sl_unfold_words
  simp only [View.readAt_eq_ld, h3.read_unread, h4.read_unread, h5.read_unread,
    View.ld_unit_zero (S := S4096x1024) origin, View.ld_unit_zero (S := S1024x1024) origin]
  rw [View.canon_unit_zero origin]

/-- What a point writes back, entry by entry. -/
theorem written (t : Fin (cfgM m (ok m)).N) (j : S1024x1024.Idx) :
    ((dats m (ok m) 0 c).flushed 3 t : Vec Ideal S1024x1024 .bf16) j = cols (blk0 m c t) (blk1 m c t) (j 0) (j 1) + blk2 m c t j :=
  (congrFun ((after0_3 m (ok m) c t).trans
    (stored c (grid0.coords t) _ _ _ _ _ _ _ _ (blk0 m c t) (blk1 m c t) (blk2 m c t) _)) j).trans (pay (blk0 m c t) (blk1 m c t) (blk2 m c t) j)

theorem moved : ∀ i : grid0.Coords, cc0_transform_0 i = ![0, (i 0).val] := by decide +kernel
theorem result : ∀ i : grid0.Coords, cc0_transform_3 i = ![(i 0).val, 0] := by decide +kernel
theorem point : ∀ p : Fin 2, ∃ t : Fin grid0.N, (grid0.coords t 0).val = p.val := by decide +kernel

theorem block0 (t : Fin (cfgM m (ok m)).N) (j : S4096x1024.Idx) (i : S4096x2048.Idx) (h0 : (i 0).val = 0 * 4096 + (j 0).val)
    (h1 : (i 1).val = (grid0.coords t 0).val * 1024 + (j 1).val) : blk0 m c t j = m ((c : Thread nD τ).loc main_arg0) i := by
  show V m c main_arg0 ((((cfgM m (ok m)).win 0).blk t).view.emb j) = _
  rw [V_main_arg0]
  exact congrArg _ (at_block (T := 4096) (T' := 1024) (moved _) rfl rfl h0 h1)
theorem block1 (t : Fin (cfgM m (ok m)).N) (j : S4096x1024.Idx) (i : S4096x2048.Idx) (h0 : (i 0).val = 0 * 4096 + (j 0).val)
    (h1 : (i 1).val = 0 * 1024 + (j 1).val) : blk1 m c t j = m ((c : Thread nD τ).loc main_arg1) i := by
  show V m c main_arg1 ((((cfgM m (ok m)).win 1).blk t).view.emb j) = _
  rw [V_main_arg1]
  exact congrArg _ (at_block (T := 4096) (T' := 1024) (placed m _) rfl rfl h0 h1)
theorem gotten : ∀ i : grid0.Coords, cc0_transform_2 i = cc0_transform_3 i := by decide +kernel
theorem block2 (t : Fin (cfgM m (ok m)).N) (j : S1024x1024.Idx) :
    blk2 m c t j = m ((c : Thread nD τ).loc main_arg2) ((((cfgM m (ok m)).win 3).blk t).view.emb j) := by
  show V m c main_arg2 ((((cfgM m (ok m)).win 2).blk t).view.emb j) = _
  rw [V_main_arg2]
  exact congrArg _ (same_block (T := 1024) (T' := 1024) (gotten (grid0.coords t)) rfl rfl rfl rfl)

theorem final : (dats m (ok m) 0 c).arrAt 3 (cfgM m (ok m)).N = half (m ((c : Thread nD τ).loc main_arg0)) (m ((c : Thread nD τ).loc main_arg1)) (m ((c : Thread nD τ).loc main_arg2)) := by
  refine (dats m (ok m) 0 c).arrAt_eq_of_cover 3 _
    (fun t _ => funext fun (j : S1024x1024.Idx) => (written m c t j).trans ?_) fun (i : S2048x1024.Idx) => ?_
  · exact tile_plus (h := by decide) (h' := by decide) (block0 m c t) (block1 m c t) (Nat.zero_add _).symm rfl j (result _) rfl rfl (block2 m c t j)
  · obtain ⟨t, ht⟩ := point ⟨(i 0).val / 1024, Nat.div_lt_of_lt_mul (show (i 0).val < 1024 * 2 from (i 0).isLt)⟩
    refine ⟨t, flush0_3 (adm m (ok m)) t, ?_⟩
    show i ∈ ((View.whole main_v1).slice (Rect.block (s := S2048x1024) S1024x1024.size (cc0_transform_3 (grid0.coords t)) (hinb0_3 _))).set
    rw [View.set_slice_whole]
    refine in_tile (T := 1024) (T' := 1024) (by decide) (by decide) i ?_ _
    rw [result, ht, Nat.div_eq_of_lt (show (i 1).val < 1024 from (i 1).isLt)]

/-- The kernel's run: its result is the function above of its arguments, which it keeps. -/
theorem run : θ_run defs (onTc (τ := τ) (main (F := Ideal))) ⟨m, fun _ => 0, ρ⟩ fun r => ∀ c : Dev nD,
      r.2.mem ((c : Thread nD τ).loc main_v1) = half (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 3).trans (final m c), h.2 c⟩)
    (θ_run_and (run_main m ρ (ok m)) (unchanged m ρ (ok m)))

/-- The reference's result is the same function of the arguments. -/
theorem reference (x0 : S4096x2048.Idx → EReal) (x1 : S4096x2048.Idx → EReal) (x2 : S2048x1024.Idx → EReal) :
    Cert.DwOOReferenceIdeal.Read.val_main_v9 (F := Ideal) x0 x1 x2 = half x0 x1 x2 := funext fun i => by
  rw [Cert.DwOOReferenceIdeal.Read.val_main_v9_apply, Cert.DwOOReferenceIdeal.Read.val_main_v8_apply,
    Cert.DwOOReferenceIdeal.Read.val_main_v6_apply, Cert.DwOOReferenceIdeal.Read.val_main_v5_apply,
    Cert.DwOOReferenceIdeal.Read.val_main_v4_apply]
  refine congrArg (· + x2 i) ?_
  exact Eq.trans (Finset.sum_congr rfl fun q _ => mul_comm _ _) (eq_cols (fun _ => congrArg x0 (pair_ext rfl (Nat.zero_add _).symm))
    (fun _ => congrArg x1 (pair_ext rfl (Nat.zero_add _).symm)))

end Cert.DwOOIdeal.Grad

end
-- ==== Proof.DwBrS.lean ====
/- The half of the gradient of `w_br_a` or `w_br_b` that goes to the sibling core: the later half of the first operand's columns.
   The prefetched table holds the half's number, which places the first operand's block. -/
module

public import proofs.«01_k».proof.Proof.Half
public import proofs.«01_k».proof.Proof.Gen.DwBrS.Frame
public import proofs.«01_k».proof.Proof.Gen.DwBrSIdeal.Frame
public import proofs.«01_k».proof.Proof.Gen.DwBrSReferenceIdeal.Run
public import proofs.«01_k».proof.Proof.Gen.DwBrSReferenceIdeal.Read
public import Idealize.ShloMosaic.Lib.Pipeline.Value
public import Idealize.ShloMosaic.Lib.StableHlo.Run

@[expose] public section

noncomputable section

open Idealize.ShloMosaic Idealize.ShloMosaic.TcCoe Idealize.ShloMosaic.ValueIdx Idealize.ShloMosaic.Tactic Idealize.SL.Sem

namespace Cert.DwBrS.Gen

variable {F : FTy → Type} [FloatOps F] (m : (ℓ : Loc nD τ sig) → Buf (Elt F) ℓ)

theorem table : tbl m 0 = fun _ => (1#32 : BitVec 32) := by
  show StableHlo.after hostOps0 _ (Proc.devRef .tc main_v2) = _
  after_results
  funext i
  simp only [subi, broadcastInDim, constantI]
  decide
theorem placed (i : grid0.Coords) : cc0_transform_0 inb_S1_S1_0 numel1_S1 (tbl m) i = ![0, 1] := by
  unfold cc0_transform_0 Pipeline.Prefetch.Contents.at
  rw [table m]
  revert i
  decide +kernel
theorem ok : Ok m := fun i =>
  ⟨fun a => by rw [placed m i]; revert a; decide, .inr (Affine.block_words_dvd (of_decide_eq_true rfl) (by decide))⟩

end Cert.DwBrS.Gen

namespace Cert.DwBrSIdeal.Gen

variable {F : FTy → Type} [FloatOps F] (m : (ℓ : Loc nD τ sig) → Buf (Elt F) ℓ)

theorem table : tbl m 0 = fun _ => (1#32 : BitVec 32) := by
  show StableHlo.after hostOps0 _ (Proc.devRef .tc main_v2) = _
  after_results
  funext i
  simp only [subi, broadcastInDim, constantI]
  decide
theorem placed (i : grid0.Coords) : cc0_transform_0 inb_S1_S1_0 numel1_S1 (tbl m) i = ![0, 1] := by
  unfold cc0_transform_0 Pipeline.Prefetch.Contents.at
  rw [table m]
  revert i
  decide +kernel
theorem ok : Ok m := fun i =>
  ⟨fun a => by rw [placed m i]; revert a; decide, .inr (Affine.block_words_dvd (of_decide_eq_true rfl) (by decide))⟩

end Cert.DwBrSIdeal.Gen

namespace Cert.DwBrSIdeal.Grad

open Cert.DwBrSIdeal Cert.DwBrSIdeal.Gen Cert.Product Cert.Half

variable (m : (ℓ : Loc nD τ sig) → Buf (Elt Ideal) ℓ) (ρ : Dev nD → PrngReg) (c : Dev nD)

/-- The result. -/
def half (a : S4096x1024.Idx → EReal) (b : S4096x2048.Idx → EReal) : S512x2048.Idx → EReal :=
  part 512 0 (by decide) (by decide) a b

theorem pay (x : Vec Ideal S4096x512 .bf16) (y : Vec Ideal S4096x1024 .bf16) (j : S512x1024.Idx) :
    k0_pay1 x y j = cols x y (j 0) (j 1) := by
  obtain ⟨p, q, rfl⟩ : ∃ p q, j = ix2 p q := ⟨j 0, j 1, pair_ext rfl rfl⟩
  exact matmul_cols (φ := .bf16) (ψ := .bf16) none p q dot_S4096x512_S4096x1024_S512x1024_0_0_1_1_n_n x y rfl rfl
    (fun _ => pair_ext rfl rfl) (fun _ => pair_ext rfl rfl)

/-- The operands' blocks at a point, with their shapes. -/
def blk0 (t : Fin (cfgM m (ok m)).N) : Vec Ideal S4096x512 .bf16 := iblk m (ok m) c 0 t
def blk1 (t : Fin (cfgM m (ok m)).N) : Vec Ideal S4096x1024 .bf16 := iblk m (ok m) c 1 t

theorem stored (i : grid0.Coords) (arg3 : Memref sig .tc .vmem S4096x512 .bf16) (h3 : arg3.IsWhole) (arg4 : Memref sig .tc .vmem S4096x1024 .bf16) (h4 : arg4.IsWhole)
    (arg5 : Memref sig .tc .vmem S512x1024 .bf16) (h5 : arg5.IsWhole)
    (x : Vec Ideal S4096x512 .bf16) (y : Vec Ideal S4096x1024 .bf16) (T : TbBuf0 (F := Ideal) c tbM0_0) :
    out0_A_2 c i arg3 h3 arg4 h4 arg5 h5 x y T = k0_pay1 x y := by
  unfold out0_A_2
  rw [View.read_writes_eq_canon _ _ _ (fun y => cover0_A_2 (y := y) ..)]
  unfold kernelRun0_A
  dsimp only
  sl_unfold_words
  simp only [View.readAt_eq_ld, h3.read_unread, h4.read_unread,
    View.ld_unit_zero (S := S4096x512) origin, View.ld_unit_zero (S := S4096x1024) origin]
  rw [View.canon_unit_zero origin]

/-- What a point writes back, entry by entry. -/
theorem written (t : Fin (cfgM m (ok m)).N) (j : S512x1024.Idx) :
    ((dats m (ok m) 0 c).flushed 2 t : Vec Ideal S512x1024 .bf16) j = cols (blk0 m c t) (blk1 m c t) (j 0) (j 1) :=
  (congrFun ((after0_2 m (ok m) c t).trans
    (stored c (grid0.coords t) _ _ _ _ _ _ (blk0 m c t) (blk1 m c t) _)) j).trans (pay (blk0 m c t) (blk1 m c t) j)

theorem moved : ∀ i : grid0.Coords, cc0_transform_1 i = ![0, (i 1).val] := by decide +kernel
theorem result : ∀ i : grid0.Coords, cc0_transform_2 i = ![0, (i 1).val] := by decide +kernel
theorem point : ∀ p : Fin 2, ∃ t : Fin grid0.N, (grid0.coords t 1).val = p.val := by decide +kernel

theorem block0 (t : Fin (cfgM m (ok m)).N) (j : S4096x512.Idx) (i : S4096x1024.Idx) (h0 : (i 0).val = 0 * 4096 + (j 0).val)
    (h1 : (i 1).val = 1 * 512 + (j 1).val) : blk0 m c t j = m ((c : Thread nD τ).loc main_arg0) i := by
  show V m c main_arg0 ((((cfgM m (ok m)).win 0).blk t).view.emb j) = _
  rw [V_main_arg0]
  exact congrArg _ (at_block (T := 4096) (T' := 512) (placed m _) rfl rfl h0 h1)
theorem block1 (t : Fin (cfgM m (ok m)).N) (j : S4096x1024.Idx) (i : S4096x2048.Idx) (h0 : (i 0).val = 0 * 4096 + (j 0).val)
    (h1 : (i 1).val = (grid0.coords t 1).val * 1024 + (j 1).val) : blk1 m c t j = m ((c : Thread nD τ).loc main_arg1) i := by
  show V m c main_arg1 ((((cfgM m (ok m)).win 1).blk t).view.emb j) = _
  rw [V_main_arg1]
  exact congrArg _ (at_block (T := 4096) (T' := 1024) (moved _) rfl rfl h0 h1)

theorem final : (dats m (ok m) 0 c).arrAt 2 (cfgM m (ok m)).N = half (m ((c : Thread nD τ).loc main_arg0)) (m ((c : Thread nD τ).loc main_arg1)) := by
  refine (dats m (ok m) 0 c).arrAt_eq_of_cover 2 _
    (fun t _ => funext fun (j : S512x1024.Idx) => (written m c t j).trans ?_) fun (i : S512x2048.Idx) => ?_
  · exact tile (h := by decide) (h' := by decide) (block0 m c t) (block1 m c t) rfl (Nat.zero_add _).symm j (result _) rfl rfl
  · obtain ⟨t, ht⟩ := point ⟨(i 1).val / 1024, Nat.div_lt_of_lt_mul (show (i 1).val < 1024 * 2 from (i 1).isLt)⟩
    refine ⟨t, flush0_2 (adm m (ok m)) t, ?_⟩
    show i ∈ ((View.whole main_v3).slice (Rect.block (s := S512x2048) S512x1024.size (cc0_transform_2 (grid0.coords t)) (hinb0_2 _))).set
    rw [View.set_slice_whole]
    refine in_tile (T := 512) (T' := 1024) (by decide) (by decide) i ?_ _
    rw [result, ht, Nat.div_eq_of_lt (show (i 0).val < 512 from (i 0).isLt)]

/-- The kernel's run: its result is the function above of its arguments, which it keeps. -/
theorem run : θ_run defs (onTc (τ := τ) (main (F := Ideal))) ⟨m, fun _ => 0, ρ⟩ fun r => ∀ c : Dev nD,
      r.2.mem ((c : Thread nD τ).loc main_v3) = half (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final m c), h.2 c⟩)
    (θ_run_and (run_main m ρ (ok m)) (unchanged m ρ (ok m)))

/-- The reference's result is the same function of the arguments. -/
theorem reference (x0 : S4096x1024.Idx → EReal) (x1 : S4096x2048.Idx → EReal) :
    Cert.DwBrSReferenceIdeal.Read.val_main_v7 (F := Ideal) x0 x1 = half x0 x1 := funext fun i => by
  rw [Cert.DwBrSReferenceIdeal.Read.val_main_v7_apply, Cert.DwBrSReferenceIdeal.Read.val_main_v6_apply,
    Cert.DwBrSReferenceIdeal.Read.val_main_v5_apply, Cert.DwBrSReferenceIdeal.Read.val_main_v4_apply]
  exact Eq.trans (Finset.sum_congr rfl fun q _ => mul_comm _ _) (eq_cols (fun _ => congrArg x0 (pair_ext rfl rfl))
    (fun _ => congrArg x1 (pair_ext rfl (Nat.zero_add _).symm)))

end Cert.DwBrSIdeal.Grad

end
-- ==== Proof.DwBrO.lean ====
/- The half of the gradient of `w_br_a` or `w_br_b` that stays: the earlier half of the first operand's columns, and what the sibling core sent.
   The prefetched table holds the half's number, which places the first operand's block. -/
module

public import proofs.«01_k».proof.Proof.Half
public import proofs.«01_k».proof.Proof.Gen.DwBrO.Frame
public import proofs.«01_k».proof.Proof.Gen.DwBrOIdeal.Frame
public import proofs.«01_k».proof.Proof.Gen.DwBrOReferenceIdeal.Run
public import proofs.«01_k».proof.Proof.Gen.DwBrOReferenceIdeal.Read
public import Idealize.ShloMosaic.Lib.Pipeline.Value
public import Idealize.ShloMosaic.Lib.StableHlo.Run

@[expose] public section

noncomputable section

open Idealize.ShloMosaic Idealize.ShloMosaic.TcCoe Idealize.ShloMosaic.ValueIdx Idealize.ShloMosaic.Tactic Idealize.SL.Sem

namespace Cert.DwBrO.Gen

variable {F : FTy → Type} [FloatOps F] (m : (ℓ : Loc nD τ sig) → Buf (Elt F) ℓ)

theorem table : tbl m 0 = fun _ => (0#32 : BitVec 32) := by
  show StableHlo.after hostOps0 _ (Proc.devRef .tc main_v0) = _
  after_results
  funext i
  simp only [broadcastInDim, constantI]
theorem placed (i : grid0.Coords) : cc0_transform_0 inb_S1_S1_0 numel1_S1 (tbl m) i = ![0, 0] := by
  unfold cc0_transform_0 Pipeline.Prefetch.Contents.at
  rw [table m]
  revert i
  decide +kernel
theorem ok : Ok m := fun i =>
  ⟨fun a => by rw [placed m i]; revert a; decide, .inr (Affine.block_words_dvd (of_decide_eq_true rfl) (by decide))⟩

end Cert.DwBrO.Gen

namespace Cert.DwBrOIdeal.Gen

variable {F : FTy → Type} [FloatOps F] (m : (ℓ : Loc nD τ sig) → Buf (Elt F) ℓ)

theorem table : tbl m 0 = fun _ => (0#32 : BitVec 32) := by
  show StableHlo.after hostOps0 _ (Proc.devRef .tc main_v0) = _
  after_results
  funext i
  simp only [broadcastInDim, constantI]
theorem placed (i : grid0.Coords) : cc0_transform_0 inb_S1_S1_0 numel1_S1 (tbl m) i = ![0, 0] := by
  unfold cc0_transform_0 Pipeline.Prefetch.Contents.at
  rw [table m]
  revert i
  decide +kernel
theorem ok : Ok m := fun i =>
  ⟨fun a => by rw [placed m i]; revert a; decide, .inr (Affine.block_words_dvd (of_decide_eq_true rfl) (by decide))⟩

end Cert.DwBrOIdeal.Gen

namespace Cert.DwBrOIdeal.Grad

open Cert.DwBrOIdeal Cert.DwBrOIdeal.Gen Cert.Product Cert.Half

variable (m : (ℓ : Loc nD τ sig) → Buf (Elt Ideal) ℓ) (ρ : Dev nD → PrngReg) (c : Dev nD)

/-- The result, with what came. -/
def half (a : S4096x1024.Idx → EReal) (b : S4096x2048.Idx → EReal) (g : S512x2048.Idx → EReal) : S512x2048.Idx → EReal :=
  partPlus 0 0 (by decide) (by decide) a b g

theorem pay (x : Vec Ideal S4096x512 .bf16) (y : Vec Ideal S4096x1024 .bf16) (z : Vec Ideal S512x1024 .bf16) (j : S512x1024.Idx) :
    k0_pay1 x y z j = cols x y (j 0) (j 1) + z j := by
  obtain ⟨p, q, rfl⟩ : ∃ p q, j = ix2 p q := ⟨j 0, j 1, pair_ext rfl rfl⟩
  exact congrArg (· + z (ix2 p q)) (matmul_cols (φ := .bf16) (ψ := .bf16) none p q dot_S4096x512_S4096x1024_S512x1024_0_0_1_1_n_n x y rfl rfl
    (fun _ => pair_ext rfl rfl) (fun _ => pair_ext rfl rfl))

/-- The operands' blocks at a point, with their shapes. -/
def blk0 (t : Fin (cfgM m (ok m)).N) : Vec Ideal S4096x512 .bf16 := iblk m (ok m) c 0 t
def blk1 (t : Fin (cfgM m (ok m)).N) : Vec Ideal S4096x1024 .bf16 := iblk m (ok m) c 1 t
def blk2 (t : Fin (cfgM m (ok m)).N) : Vec Ideal S512x1024 .bf16 := iblk m (ok m) c 2 t

theorem stored (i : grid0.Coords) (arg3 : Memref sig .tc .vmem S4096x512 .bf16) (h3 : arg3.IsWhole) (arg4 : Memref sig .tc .vmem S4096x1024 .bf16) (h4 : arg4.IsWhole)
    (arg5 : Memref sig .tc .vmem S512x1024 .bf16) (h5 : arg5.IsWhole) (arg6 : Memref sig .tc .vmem S512x1024 .bf16) (h6 : arg6.IsWhole)
    (x : Vec Ideal S4096x512 .bf16) (y : Vec Ideal S4096x1024 .bf16) (z : Vec Ideal S512x1024 .bf16) (T : TbBuf0 (F := Ideal) c tbM0_0) :
    out0_A_3 c i arg3 h3 arg4 h4 arg5 h5 arg6 h6 x y z T = k0_pay1 x y z := by
  unfold out0_A_3
  rw [View.read_writes_eq_canon _ _ _ (fun y => cover0_A_3 (y := y) ..)]
  unfold kernelRun0_A
  dsimp only
  sl_unfold_words
  simp only [View.readAt_eq_ld, h3.read_unread, h4.read_unread, h5.read_unread,
    View.ld_unit_zero (S := S4096x512) origin, View.ld_unit_zero (S := S4096x1024) origin, View.ld_unit_zero (S := S512x1024) origin]
  rw [View.canon_unit_zero origin]

/-- What a point writes back, entry by entry. -/
theorem written (t : Fin (cfgM m (ok m)).N) (j : S512x1024.Idx) :
    ((dats m (ok m) 0 c).flushed 3 t : Vec Ideal S512x1024 .bf16) j = cols (blk0 m c t) (blk1 m c t) (j 0) (j 1) + blk2 m c t j :=
  (congrFun ((after0_3 m (ok m) c t).trans
    (stored c (grid0.coords t) _ _ _ _ _ _ _ _ (blk0 m c t) (blk1 m c t) (blk2 m c t) _)) j).trans (pay (blk0 m c t) (blk1 m c t) (blk2 m c t) j)

theorem moved : ∀ i : grid0.Coords, cc0_transform_1 i = ![0, (i 1).val] := by decide +kernel
theorem result : ∀ i : grid0.Coords, cc0_transform_3 i = ![0, (i 1).val] := by decide +kernel
theorem point : ∀ p : Fin 2, ∃ t : Fin grid0.N, (grid0.coords t 1).val = p.val := by decide +kernel

theorem block0 (t : Fin (cfgM m (ok m)).N) (j : S4096x512.Idx) (i : S4096x1024.Idx) (h0 : (i 0).val = 0 * 4096 + (j 0).val)
    (h1 : (i 1).val = 0 * 512 + (j 1).val) : blk0 m c t j = m ((c : Thread nD τ).loc main_arg0) i := by
  show V m c main_arg0 ((((cfgM m (ok m)).win 0).blk t).view.emb j) = _
  rw [V_main_arg0]
  exact congrArg _ (at_block (T := 4096) (T' := 512) (placed m _) rfl rfl h0 h1)
theorem block1 (t : Fin (cfgM m (ok m)).N) (j : S4096x1024.Idx) (i : S4096x2048.Idx) (h0 : (i 0).val = 0 * 4096 + (j 0).val)
    (h1 : (i 1).val = (grid0.coords t 1).val * 1024 + (j 1).val) : blk1 m c t j = m ((c : Thread nD τ).loc main_arg1) i := by
  show V m c main_arg1 ((((cfgM m (ok m)).win 1).blk t).view.emb j) = _
  rw [V_main_arg1]
  exact congrArg _ (at_block (T := 4096) (T' := 1024) (moved _) rfl rfl h0 h1)
theorem gotten : ∀ i : grid0.Coords, cc0_transform_2 i = cc0_transform_3 i := by decide +kernel
theorem block2 (t : Fin (cfgM m (ok m)).N) (j : S512x1024.Idx) :
    blk2 m c t j = m ((c : Thread nD τ).loc main_arg2) ((((cfgM m (ok m)).win 3).blk t).view.emb j) := by
  show V m c main_arg2 ((((cfgM m (ok m)).win 2).blk t).view.emb j) = _
  rw [V_main_arg2]
  exact congrArg _ (same_block (T := 512) (T' := 1024) (gotten (grid0.coords t)) rfl rfl rfl rfl)

theorem final : (dats m (ok m) 0 c).arrAt 3 (cfgM m (ok m)).N = half (m ((c : Thread nD τ).loc main_arg0)) (m ((c : Thread nD τ).loc main_arg1)) (m ((c : Thread nD τ).loc main_arg2)) := by
  refine (dats m (ok m) 0 c).arrAt_eq_of_cover 3 _
    (fun t _ => funext fun (j : S512x1024.Idx) => (written m c t j).trans ?_) fun (i : S512x2048.Idx) => ?_
  · exact tile_plus (h := by decide) (h' := by decide) (block0 m c t) (block1 m c t) rfl (Nat.zero_add _).symm j (result _) rfl rfl (block2 m c t j)
  · obtain ⟨t, ht⟩ := point ⟨(i 1).val / 1024, Nat.div_lt_of_lt_mul (show (i 1).val < 1024 * 2 from (i 1).isLt)⟩
    refine ⟨t, flush0_3 (adm m (ok m)) t, ?_⟩
    show i ∈ ((View.whole main_v1).slice (Rect.block (s := S512x2048) S512x1024.size (cc0_transform_3 (grid0.coords t)) (hinb0_3 _))).set
    rw [View.set_slice_whole]
    refine in_tile (T := 512) (T' := 1024) (by decide) (by decide) i ?_ _
    rw [result, ht, Nat.div_eq_of_lt (show (i 0).val < 512 from (i 0).isLt)]

/-- The kernel's run: its result is the function above of its arguments, which it keeps. -/
theorem run : θ_run defs (onTc (τ := τ) (main (F := Ideal))) ⟨m, fun _ => 0, ρ⟩ fun r => ∀ c : Dev nD,
      r.2.mem ((c : Thread nD τ).loc main_v1) = half (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 3).trans (final m c), h.2 c⟩)
    (θ_run_and (run_main m ρ (ok m)) (unchanged m ρ (ok m)))

/-- The reference's result is the same function of the arguments. -/
theorem reference (x0 : S4096x1024.Idx → EReal) (x1 : S4096x2048.Idx → EReal) (x2 : S512x2048.Idx → EReal) :
    Cert.DwBrOReferenceIdeal.Read.val_main_v9 (F := Ideal) x0 x1 x2 = half x0 x1 x2 := funext fun i => by
  rw [Cert.DwBrOReferenceIdeal.Read.val_main_v9_apply, Cert.DwBrOReferenceIdeal.Read.val_main_v8_apply,
    Cert.DwBrOReferenceIdeal.Read.val_main_v6_apply, Cert.DwBrOReferenceIdeal.Read.val_main_v5_apply,
    Cert.DwBrOReferenceIdeal.Read.val_main_v4_apply]
  refine congrArg (· + x2 i) ?_
  exact Eq.trans (Finset.sum_congr rfl fun q _ => mul_comm _ _) (eq_cols (fun _ => congrArg x0 (pair_ext rfl (Nat.zero_add _).symm))
    (fun _ => congrArg x1 (pair_ext rfl (Nat.zero_add _).symm)))

end Cert.DwBrOIdeal.Grad

end
-- ==== Proof.DwXoS.lean ====
/- The half of the gradient of `w_xo` that goes to the sibling core: the later half of the first operand's columns.
   The prefetched table holds the half's number, which places the first operand's block. -/
module

public import proofs.«01_k».proof.Proof.Half
public import proofs.«01_k».proof.Proof.Gen.DwXoS.Frame
public import proofs.«01_k».proof.Proof.Gen.DwXoSIdeal.Frame
public import proofs.«01_k».proof.Proof.Gen.DwXoSReferenceIdeal.Run
public import proofs.«01_k».proof.Proof.Gen.DwXoSReferenceIdeal.Read
public import Idealize.ShloMosaic.Lib.Pipeline.Value
public import Idealize.ShloMosaic.Lib.StableHlo.Run

@[expose] public section

noncomputable section

open Idealize.ShloMosaic Idealize.ShloMosaic.TcCoe Idealize.ShloMosaic.ValueIdx Idealize.ShloMosaic.Tactic Idealize.SL.Sem

namespace Cert.DwXoS.Gen

variable {F : FTy → Type} [FloatOps F] (m : (ℓ : Loc nD τ sig) → Buf (Elt F) ℓ)

theorem table : tbl m 0 = fun _ => (1#32 : BitVec 32) := by
  show StableHlo.after hostOps0 _ (Proc.devRef .tc main_v2) = _
  after_results
  funext i
  simp only [subi, broadcastInDim, constantI]
  decide
theorem placed (i : grid0.Coords) : cc0_transform_0 inb_S1_S1_0 numel1_S1 (tbl m) i = ![0, 1] := by
  unfold cc0_transform_0 Pipeline.Prefetch.Contents.at
  rw [table m]
  revert i
  decide +kernel
theorem ok : Ok m := fun i =>
  ⟨fun a => by rw [placed m i]; revert a; decide, .inr (Affine.block_words_dvd (of_decide_eq_true rfl) (by decide))⟩

end Cert.DwXoS.Gen

namespace Cert.DwXoSIdeal.Gen

variable {F : FTy → Type} [FloatOps F] (m : (ℓ : Loc nD τ sig) → Buf (Elt F) ℓ)

theorem table : tbl m 0 = fun _ => (1#32 : BitVec 32) := by
  show StableHlo.after hostOps0 _ (Proc.devRef .tc main_v2) = _
  after_results
  funext i
  simp only [subi, broadcastInDim, constantI]
  decide
theorem placed (i : grid0.Coords) : cc0_transform_0 inb_S1_S1_0 numel1_S1 (tbl m) i = ![0, 1] := by
  unfold cc0_transform_0 Pipeline.Prefetch.Contents.at
  rw [table m]
  revert i
  decide +kernel
theorem ok : Ok m := fun i =>
  ⟨fun a => by rw [placed m i]; revert a; decide, .inr (Affine.block_words_dvd (of_decide_eq_true rfl) (by decide))⟩

end Cert.DwXoSIdeal.Gen

namespace Cert.DwXoSIdeal.Grad

open Cert.DwXoSIdeal Cert.DwXoSIdeal.Gen Cert.Product Cert.Half

variable (m : (ℓ : Loc nD τ sig) → Buf (Elt Ideal) ℓ) (ρ : Dev nD → PrngReg) (c : Dev nD)

/-- The result. -/
def half (a : S4096x512.Idx → EReal) (b : S4096x2048.Idx → EReal) : S256x2048.Idx → EReal :=
  part 256 0 (by decide) (by decide) a b

theorem pay (x : Vec Ideal S4096x256 .bf16) (y : Vec Ideal S4096x1024 .bf16) (j : S256x1024.Idx) :
    k0_pay1 x y j = cols x y (j 0) (j 1) := by
  obtain ⟨p, q, rfl⟩ : ∃ p q, j = ix2 p q := ⟨j 0, j 1, pair_ext rfl rfl⟩
  exact matmul_cols (φ := .bf16) (ψ := .bf16) none p q dot_S4096x256_S4096x1024_S256x1024_0_0_1_1_n_n x y rfl rfl
    (fun _ => pair_ext rfl rfl) (fun _ => pair_ext rfl rfl)

/-- The operands' blocks at a point, with their shapes. -/
def blk0 (t : Fin (cfgM m (ok m)).N) : Vec Ideal S4096x256 .bf16 := iblk m (ok m) c 0 t
def blk1 (t : Fin (cfgM m (ok m)).N) : Vec Ideal S4096x1024 .bf16 := iblk m (ok m) c 1 t

theorem stored (i : grid0.Coords) (arg3 : Memref sig .tc .vmem S4096x256 .bf16) (h3 : arg3.IsWhole) (arg4 : Memref sig .tc .vmem S4096x1024 .bf16) (h4 : arg4.IsWhole)
    (arg5 : Memref sig .tc .vmem S256x1024 .bf16) (h5 : arg5.IsWhole)
    (x : Vec Ideal S4096x256 .bf16) (y : Vec Ideal S4096x1024 .bf16) (T : TbBuf0 (F := Ideal) c tbM0_0) :
    out0_A_2 c i arg3 h3 arg4 h4 arg5 h5 x y T = k0_pay1 x y := by
  unfold out0_A_2
  rw [View.read_writes_eq_canon _ _ _ (fun y => cover0_A_2 (y := y) ..)]
  unfold kernelRun0_A
  dsimp only
  sl_unfold_words
  simp only [View.readAt_eq_ld, h3.read_unread, h4.read_unread,
    View.ld_unit_zero (S := S4096x256) origin, View.ld_unit_zero (S := S4096x1024) origin]
  rw [View.canon_unit_zero origin]

/-- What a point writes back, entry by entry. -/
theorem written (t : Fin (cfgM m (ok m)).N) (j : S256x1024.Idx) :
    ((dats m (ok m) 0 c).flushed 2 t : Vec Ideal S256x1024 .bf16) j = cols (blk0 m c t) (blk1 m c t) (j 0) (j 1) :=
  (congrFun ((after0_2 m (ok m) c t).trans
    (stored c (grid0.coords t) _ _ _ _ _ _ (blk0 m c t) (blk1 m c t) _)) j).trans (pay (blk0 m c t) (blk1 m c t) j)

theorem moved : ∀ i : grid0.Coords, cc0_transform_1 i = ![0, (i 1).val] := by decide +kernel
theorem result : ∀ i : grid0.Coords, cc0_transform_2 i = ![0, (i 1).val] := by decide +kernel
theorem point : ∀ p : Fin 2, ∃ t : Fin grid0.N, (grid0.coords t 1).val = p.val := by decide +kernel

theorem block0 (t : Fin (cfgM m (ok m)).N) (j : S4096x256.Idx) (i : S4096x512.Idx) (h0 : (i 0).val = 0 * 4096 + (j 0).val)
    (h1 : (i 1).val = 1 * 256 + (j 1).val) : blk0 m c t j = m ((c : Thread nD τ).loc main_arg0) i := by
  show V m c main_arg0 ((((cfgM m (ok m)).win 0).blk t).view.emb j) = _
  rw [V_main_arg0]
  exact congrArg _ (at_block (T := 4096) (T' := 256) (placed m _) rfl rfl h0 h1)
theorem block1 (t : Fin (cfgM m (ok m)).N) (j : S4096x1024.Idx) (i : S4096x2048.Idx) (h0 : (i 0).val = 0 * 4096 + (j 0).val)
    (h1 : (i 1).val = (grid0.coords t 1).val * 1024 + (j 1).val) : blk1 m c t j = m ((c : Thread nD τ).loc main_arg1) i := by
  show V m c main_arg1 ((((cfgM m (ok m)).win 1).blk t).view.emb j) = _
  rw [V_main_arg1]
  exact congrArg _ (at_block (T := 4096) (T' := 1024) (moved _) rfl rfl h0 h1)

theorem final : (dats m (ok m) 0 c).arrAt 2 (cfgM m (ok m)).N = half (m ((c : Thread nD τ).loc main_arg0)) (m ((c : Thread nD τ).loc main_arg1)) := by
  refine (dats m (ok m) 0 c).arrAt_eq_of_cover 2 _
    (fun t _ => funext fun (j : S256x1024.Idx) => (written m c t j).trans ?_) fun (i : S256x2048.Idx) => ?_
  · exact tile (h := by decide) (h' := by decide) (block0 m c t) (block1 m c t) rfl (Nat.zero_add _).symm j (result _) rfl rfl
  · obtain ⟨t, ht⟩ := point ⟨(i 1).val / 1024, Nat.div_lt_of_lt_mul (show (i 1).val < 1024 * 2 from (i 1).isLt)⟩
    refine ⟨t, flush0_2 (adm m (ok m)) t, ?_⟩
    show i ∈ ((View.whole main_v3).slice (Rect.block (s := S256x2048) S256x1024.size (cc0_transform_2 (grid0.coords t)) (hinb0_2 _))).set
    rw [View.set_slice_whole]
    refine in_tile (T := 256) (T' := 1024) (by decide) (by decide) i ?_ _
    rw [result, ht, Nat.div_eq_of_lt (show (i 0).val < 256 from (i 0).isLt)]

/-- The kernel's run: its result is the function above of its arguments, which it keeps. -/
theorem run : θ_run defs (onTc (τ := τ) (main (F := Ideal))) ⟨m, fun _ => 0, ρ⟩ fun r => ∀ c : Dev nD,
      r.2.mem ((c : Thread nD τ).loc main_v3) = half (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final m c), h.2 c⟩)
    (θ_run_and (run_main m ρ (ok m)) (unchanged m ρ (ok m)))

/-- The reference's result is the same function of the arguments. -/
theorem reference (x0 : S4096x512.Idx → EReal) (x1 : S4096x2048.Idx → EReal) :
    Cert.DwXoSReferenceIdeal.Read.val_main_v7 (F := Ideal) x0 x1 = half x0 x1 := funext fun i => by
  rw [Cert.DwXoSReferenceIdeal.Read.val_main_v7_apply, Cert.DwXoSReferenceIdeal.Read.val_main_v6_apply,
    Cert.DwXoSReferenceIdeal.Read.val_main_v5_apply, Cert.DwXoSReferenceIdeal.Read.val_main_v4_apply]
  exact Eq.trans (Finset.sum_congr rfl fun q _ => mul_comm _ _) (eq_cols (fun _ => congrArg x0 (pair_ext rfl rfl))
    (fun _ => congrArg x1 (pair_ext rfl (Nat.zero_add _).symm)))

end Cert.DwXoSIdeal.Grad

end
-- ==== Proof.DwXoO.lean ====
/- The half of the gradient of `w_xo` that stays: the earlier half of the first operand's columns, and what the sibling core sent.
   The prefetched table holds the half's number, which places the first operand's block. -/
module

public import proofs.«01_k».proof.Proof.Half
public import proofs.«01_k».proof.Proof.Gen.DwXoO.Frame
public import proofs.«01_k».proof.Proof.Gen.DwXoOIdeal.Frame
public import proofs.«01_k».proof.Proof.Gen.DwXoOReferenceIdeal.Run
public import proofs.«01_k».proof.Proof.Gen.DwXoOReferenceIdeal.Read
public import Idealize.ShloMosaic.Lib.Pipeline.Value
public import Idealize.ShloMosaic.Lib.StableHlo.Run

@[expose] public section

noncomputable section

open Idealize.ShloMosaic Idealize.ShloMosaic.TcCoe Idealize.ShloMosaic.ValueIdx Idealize.ShloMosaic.Tactic Idealize.SL.Sem

namespace Cert.DwXoO.Gen

variable {F : FTy → Type} [FloatOps F] (m : (ℓ : Loc nD τ sig) → Buf (Elt F) ℓ)

theorem table : tbl m 0 = fun _ => (0#32 : BitVec 32) := by
  show StableHlo.after hostOps0 _ (Proc.devRef .tc main_v0) = _
  after_results
  funext i
  simp only [broadcastInDim, constantI]
theorem placed (i : grid0.Coords) : cc0_transform_0 inb_S1_S1_0 numel1_S1 (tbl m) i = ![0, 0] := by
  unfold cc0_transform_0 Pipeline.Prefetch.Contents.at
  rw [table m]
  revert i
  decide +kernel
theorem ok : Ok m := fun i =>
  ⟨fun a => by rw [placed m i]; revert a; decide, .inr (Affine.block_words_dvd (of_decide_eq_true rfl) (by decide))⟩

end Cert.DwXoO.Gen

namespace Cert.DwXoOIdeal.Gen

variable {F : FTy → Type} [FloatOps F] (m : (ℓ : Loc nD τ sig) → Buf (Elt F) ℓ)

theorem table : tbl m 0 = fun _ => (0#32 : BitVec 32) := by
  show StableHlo.after hostOps0 _ (Proc.devRef .tc main_v0) = _
  after_results
  funext i
  simp only [broadcastInDim, constantI]
theorem placed (i : grid0.Coords) : cc0_transform_0 inb_S1_S1_0 numel1_S1 (tbl m) i = ![0, 0] := by
  unfold cc0_transform_0 Pipeline.Prefetch.Contents.at
  rw [table m]
  revert i
  decide +kernel
theorem ok : Ok m := fun i =>
  ⟨fun a => by rw [placed m i]; revert a; decide, .inr (Affine.block_words_dvd (of_decide_eq_true rfl) (by decide))⟩

end Cert.DwXoOIdeal.Gen

namespace Cert.DwXoOIdeal.Grad

open Cert.DwXoOIdeal Cert.DwXoOIdeal.Gen Cert.Product Cert.Half

variable (m : (ℓ : Loc nD τ sig) → Buf (Elt Ideal) ℓ) (ρ : Dev nD → PrngReg) (c : Dev nD)

/-- The result, with what came. -/
def half (a : S4096x512.Idx → EReal) (b : S4096x2048.Idx → EReal) (g : S256x2048.Idx → EReal) : S256x2048.Idx → EReal :=
  partPlus 0 0 (by decide) (by decide) a b g

theorem pay (x : Vec Ideal S4096x256 .bf16) (y : Vec Ideal S4096x1024 .bf16) (z : Vec Ideal S256x1024 .bf16) (j : S256x1024.Idx) :
    k0_pay1 x y z j = cols x y (j 0) (j 1) + z j := by
  obtain ⟨p, q, rfl⟩ : ∃ p q, j = ix2 p q := ⟨j 0, j 1, pair_ext rfl rfl⟩
  exact congrArg (· + z (ix2 p q)) (matmul_cols (φ := .bf16) (ψ := .bf16) none p q dot_S4096x256_S4096x1024_S256x1024_0_0_1_1_n_n x y rfl rfl
    (fun _ => pair_ext rfl rfl) (fun _ => pair_ext rfl rfl))

/-- The operands' blocks at a point, with their shapes. -/
def blk0 (t : Fin (cfgM m (ok m)).N) : Vec Ideal S4096x256 .bf16 := iblk m (ok m) c 0 t
def blk1 (t : Fin (cfgM m (ok m)).N) : Vec Ideal S4096x1024 .bf16 := iblk m (ok m) c 1 t
def blk2 (t : Fin (cfgM m (ok m)).N) : Vec Ideal S256x1024 .bf16 := iblk m (ok m) c 2 t

theorem stored (i : grid0.Coords) (arg3 : Memref sig .tc .vmem S4096x256 .bf16) (h3 : arg3.IsWhole) (arg4 : Memref sig .tc .vmem S4096x1024 .bf16) (h4 : arg4.IsWhole)
    (arg5 : Memref sig .tc .vmem S256x1024 .bf16) (h5 : arg5.IsWhole) (arg6 : Memref sig .tc .vmem S256x1024 .bf16) (h6 : arg6.IsWhole)
    (x : Vec Ideal S4096x256 .bf16) (y : Vec Ideal S4096x1024 .bf16) (z : Vec Ideal S256x1024 .bf16) (T : TbBuf0 (F := Ideal) c tbM0_0) :
    out0_A_3 c i arg3 h3 arg4 h4 arg5 h5 arg6 h6 x y z T = k0_pay1 x y z := by
  unfold out0_A_3
  rw [View.read_writes_eq_canon _ _ _ (fun y => cover0_A_3 (y := y) ..)]
  unfold kernelRun0_A
  dsimp only
  sl_unfold_words
  simp only [View.readAt_eq_ld, h3.read_unread, h4.read_unread, h5.read_unread,
    View.ld_unit_zero (S := S4096x256) origin, View.ld_unit_zero (S := S4096x1024) origin, View.ld_unit_zero (S := S256x1024) origin]
  rw [View.canon_unit_zero origin]

/-- What a point writes back, entry by entry. -/
theorem written (t : Fin (cfgM m (ok m)).N) (j : S256x1024.Idx) :
    ((dats m (ok m) 0 c).flushed 3 t : Vec Ideal S256x1024 .bf16) j = cols (blk0 m c t) (blk1 m c t) (j 0) (j 1) + blk2 m c t j :=
  (congrFun ((after0_3 m (ok m) c t).trans
    (stored c (grid0.coords t) _ _ _ _ _ _ _ _ (blk0 m c t) (blk1 m c t) (blk2 m c t) _)) j).trans (pay (blk0 m c t) (blk1 m c t) (blk2 m c t) j)

theorem moved : ∀ i : grid0.Coords, cc0_transform_1 i = ![0, (i 1).val] := by decide +kernel
theorem result : ∀ i : grid0.Coords, cc0_transform_3 i = ![0, (i 1).val] := by decide +kernel
theorem point : ∀ p : Fin 2, ∃ t : Fin grid0.N, (grid0.coords t 1).val = p.val := by decide +kernel

theorem block0 (t : Fin (cfgM m (ok m)).N) (j : S4096x256.Idx) (i : S4096x512.Idx) (h0 : (i 0).val = 0 * 4096 + (j 0).val)
    (h1 : (i 1).val = 0 * 256 + (j 1).val) : blk0 m c t j = m ((c : Thread nD τ).loc main_arg0) i := by
  show V m c main_arg0 ((((cfgM m (ok m)).win 0).blk t).view.emb j) = _
  rw [V_main_arg0]
  exact congrArg _ (at_block (T := 4096) (T' := 256) (placed m _) rfl rfl h0 h1)
theorem block1 (t : Fin (cfgM m (ok m)).N) (j : S4096x1024.Idx) (i : S4096x2048.Idx) (h0 : (i 0).val = 0 * 4096 + (j 0).val)
    (h1 : (i 1).val = (grid0.coords t 1).val * 1024 + (j 1).val) : blk1 m c t j = m ((c : Thread nD τ).loc main_arg1) i := by
  show V m c main_arg1 ((((cfgM m (ok m)).win 1).blk t).view.emb j) = _
  rw [V_main_arg1]
  exact congrArg _ (at_block (T := 4096) (T' := 1024) (moved _) rfl rfl h0 h1)
theorem gotten : ∀ i : grid0.Coords, cc0_transform_2 i = cc0_transform_3 i := by decide +kernel
theorem block2 (t : Fin (cfgM m (ok m)).N) (j : S256x1024.Idx) :
    blk2 m c t j = m ((c : Thread nD τ).loc main_arg2) ((((cfgM m (ok m)).win 3).blk t).view.emb j) := by
  show V m c main_arg2 ((((cfgM m (ok m)).win 2).blk t).view.emb j) = _
  rw [V_main_arg2]
  exact congrArg _ (same_block (T := 256) (T' := 1024) (gotten (grid0.coords t)) rfl rfl rfl rfl)

theorem final : (dats m (ok m) 0 c).arrAt 3 (cfgM m (ok m)).N = half (m ((c : Thread nD τ).loc main_arg0)) (m ((c : Thread nD τ).loc main_arg1)) (m ((c : Thread nD τ).loc main_arg2)) := by
  refine (dats m (ok m) 0 c).arrAt_eq_of_cover 3 _
    (fun t _ => funext fun (j : S256x1024.Idx) => (written m c t j).trans ?_) fun (i : S256x2048.Idx) => ?_
  · exact tile_plus (h := by decide) (h' := by decide) (block0 m c t) (block1 m c t) rfl (Nat.zero_add _).symm j (result _) rfl rfl (block2 m c t j)
  · obtain ⟨t, ht⟩ := point ⟨(i 1).val / 1024, Nat.div_lt_of_lt_mul (show (i 1).val < 1024 * 2 from (i 1).isLt)⟩
    refine ⟨t, flush0_3 (adm m (ok m)) t, ?_⟩
    show i ∈ ((View.whole main_v1).slice (Rect.block (s := S256x2048) S256x1024.size (cc0_transform_3 (grid0.coords t)) (hinb0_3 _))).set
    rw [View.set_slice_whole]
    refine in_tile (T := 256) (T' := 1024) (by decide) (by decide) i ?_ _
    rw [result, ht, Nat.div_eq_of_lt (show (i 0).val < 256 from (i 0).isLt)]

/-- The kernel's run: its result is the function above of its arguments, which it keeps. -/
theorem run : θ_run defs (onTc (τ := τ) (main (F := Ideal))) ⟨m, fun _ => 0, ρ⟩ fun r => ∀ c : Dev nD,
      r.2.mem ((c : Thread nD τ).loc main_v1) = half (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 3).trans (final m c), h.2 c⟩)
    (θ_run_and (run_main m ρ (ok m)) (unchanged m ρ (ok m)))

/-- The reference's result is the same function of the arguments. -/
theorem reference (x0 : S4096x512.Idx → EReal) (x1 : S4096x2048.Idx → EReal) (x2 : S256x2048.Idx → EReal) :
    Cert.DwXoOReferenceIdeal.Read.val_main_v9 (F := Ideal) x0 x1 x2 = half x0 x1 x2 := funext fun i => by
  rw [Cert.DwXoOReferenceIdeal.Read.val_main_v9_apply, Cert.DwXoOReferenceIdeal.Read.val_main_v8_apply,
    Cert.DwXoOReferenceIdeal.Read.val_main_v6_apply, Cert.DwXoOReferenceIdeal.Read.val_main_v5_apply,
    Cert.DwXoOReferenceIdeal.Read.val_main_v4_apply]
  refine congrArg (· + x2 i) ?_
  exact Eq.trans (Finset.sum_congr rfl fun q _ => mul_comm _ _) (eq_cols (fun _ => congrArg x0 (pair_ext rfl (Nat.zero_add _).symm))
    (fun _ => congrArg x1 (pair_ext rfl (Nat.zero_add _).symm)))

end Cert.DwXoOIdeal.Grad

end
-- ==== Proof.DwXqS.lean ====
/- The half of the gradient of `w_xq` that goes to the sibling core: the later half of the second operand's columns.
   The prefetched table holds the half's number, which places the second operand's block. -/
module

public import proofs.«01_k».proof.Proof.Half
public import proofs.«01_k».proof.Proof.Gen.DwXqS.Frame
public import proofs.«01_k».proof.Proof.Gen.DwXqSIdeal.Frame
public import proofs.«01_k».proof.Proof.Gen.DwXqSReferenceIdeal.Run
public import proofs.«01_k».proof.Proof.Gen.DwXqSReferenceIdeal.Read
public import Idealize.ShloMosaic.Lib.Pipeline.Value
public import Idealize.ShloMosaic.Lib.StableHlo.Run

@[expose] public section

noncomputable section

open Idealize.ShloMosaic Idealize.ShloMosaic.TcCoe Idealize.ShloMosaic.ValueIdx Idealize.ShloMosaic.Tactic Idealize.SL.Sem

namespace Cert.DwXqS.Gen

variable {F : FTy → Type} [FloatOps F] (m : (ℓ : Loc nD τ sig) → Buf (Elt F) ℓ)

theorem table : tbl m 0 = fun _ => (1#32 : BitVec 32) := by
  show StableHlo.after hostOps0 _ (Proc.devRef .tc main_v2) = _
  after_results
  funext i
  simp only [subi, broadcastInDim, constantI]
  decide
theorem placed (i : grid0.Coords) : cc0_transform_1 inb_S1_S1_0 numel1_S1 (tbl m) i = ![0, 1] := by
  unfold cc0_transform_1 Pipeline.Prefetch.Contents.at
  rw [table m]
  revert i
  decide +kernel
theorem ok : Ok m := fun i =>
  ⟨fun a => by rw [placed m i]; revert a; decide, .inr (Affine.block_words_dvd (of_decide_eq_true rfl) (by decide))⟩

end Cert.DwXqS.Gen

namespace Cert.DwXqSIdeal.Gen

variable {F : FTy → Type} [FloatOps F] (m : (ℓ : Loc nD τ sig) → Buf (Elt F) ℓ)

theorem table : tbl m 0 = fun _ => (1#32 : BitVec 32) := by
  show StableHlo.after hostOps0 _ (Proc.devRef .tc main_v2) = _
  after_results
  funext i
  simp only [subi, broadcastInDim, constantI]
  decide
theorem placed (i : grid0.Coords) : cc0_transform_1 inb_S1_S1_0 numel1_S1 (tbl m) i = ![0, 1] := by
  unfold cc0_transform_1 Pipeline.Prefetch.Contents.at
  rw [table m]
  revert i
  decide +kernel
theorem ok : Ok m := fun i =>
  ⟨fun a => by rw [placed m i]; revert a; decide, .inr (Affine.block_words_dvd (of_decide_eq_true rfl) (by decide))⟩

end Cert.DwXqSIdeal.Gen

namespace Cert.DwXqSIdeal.Grad

open Cert.DwXqSIdeal Cert.DwXqSIdeal.Gen Cert.Product Cert.Half

variable (m : (ℓ : Loc nD τ sig) → Buf (Elt Ideal) ℓ) (ρ : Dev nD → PrngReg) (c : Dev nD)

/-- The result. -/
def half (a : S4096x2048.Idx → EReal) (b : S4096x512.Idx → EReal) : S2048x256.Idx → EReal :=
  part 0 256 (by decide) (by decide) a b

theorem pay (x : Vec Ideal S4096x1024 .bf16) (y : Vec Ideal S4096x256 .bf16) (j : S1024x256.Idx) :
    k0_pay1 x y j = cols x y (j 0) (j 1) := by
  obtain ⟨p, q, rfl⟩ : ∃ p q, j = ix2 p q := ⟨j 0, j 1, pair_ext rfl rfl⟩
  exact matmul_cols (φ := .bf16) (ψ := .bf16) none p q dot_S4096x1024_S4096x256_S1024x256_0_0_1_1_n_n x y rfl rfl
    (fun _ => pair_ext rfl rfl) (fun _ => pair_ext rfl rfl)

/-- The operands' blocks at a point, with their shapes. -/
def blk0 (t : Fin (cfgM m (ok m)).N) : Vec Ideal S4096x1024 .bf16 := iblk m (ok m) c 0 t
def blk1 (t : Fin (cfgM m (ok m)).N) : Vec Ideal S4096x256 .bf16 := iblk m (ok m) c 1 t

theorem stored (i : grid0.Coords) (arg3 : Memref sig .tc .vmem S4096x1024 .bf16) (h3 : arg3.IsWhole) (arg4 : Memref sig .tc .vmem S4096x256 .bf16) (h4 : arg4.IsWhole)
    (arg5 : Memref sig .tc .vmem S1024x256 .bf16) (h5 : arg5.IsWhole)
    (x : Vec Ideal S4096x1024 .bf16) (y : Vec Ideal S4096x256 .bf16) (T : TbBuf0 (F := Ideal) c tbM0_0) :
    out0_A_2 c i arg3 h3 arg4 h4 arg5 h5 x y T = k0_pay1 x y := by
  unfold out0_A_2
  rw [View.read_writes_eq_canon _ _ _ (fun y => cover0_A_2 (y := y) ..)]
  unfold kernelRun0_A
  dsimp only
  sl_unfold_words
  simp only [View.readAt_eq_ld, h3.read_unread, h4.read_unread,
    View.ld_unit_zero (S := S4096x1024) origin, View.ld_unit_zero (S := S4096x256) origin]
  rw [View.canon_unit_zero origin]

/-- What a point writes back, entry by entry. -/
theorem written (t : Fin (cfgM m (ok m)).N) (j : S1024x256.Idx) :
    ((dats m (ok m) 0 c).flushed 2 t : Vec Ideal S1024x256 .bf16) j = cols (blk0 m c t) (blk1 m c t) (j 0) (j 1) :=
  (congrFun ((after0_2 m (ok m) c t).trans
    (stored c (grid0.coords t) _ _ _ _ _ _ (blk0 m c t) (blk1 m c t) _)) j).trans (pay (blk0 m c t) (blk1 m c t) j)

theorem moved : ∀ i : grid0.Coords, cc0_transform_0 i = ![0, (i 0).val] := by decide +kernel
theorem result : ∀ i : grid0.Coords, cc0_transform_2 i = ![(i 0).val, 0] := by decide +kernel
theorem point : ∀ p : Fin 2, ∃ t : Fin grid0.N, (grid0.coords t 0).val = p.val := by decide +kernel

theorem block0 (t : Fin (cfgM m (ok m)).N) (j : S4096x1024.Idx) (i : S4096x2048.Idx) (h0 : (i 0).val = 0 * 4096 + (j 0).val)
    (h1 : (i 1).val = (grid0.coords t 0).val * 1024 + (j 1).val) : blk0 m c t j = m ((c : Thread nD τ).loc main_arg0) i := by
  show V m c main_arg0 ((((cfgM m (ok m)).win 0).blk t).view.emb j) = _
  rw [V_main_arg0]
  exact congrArg _ (at_block (T := 4096) (T' := 1024) (moved _) rfl rfl h0 h1)
theorem block1 (t : Fin (cfgM m (ok m)).N) (j : S4096x256.Idx) (i : S4096x512.Idx) (h0 : (i 0).val = 0 * 4096 + (j 0).val)
    (h1 : (i 1).val = 1 * 256 + (j 1).val) : blk1 m c t j = m ((c : Thread nD τ).loc main_arg1) i := by
  show V m c main_arg1 ((((cfgM m (ok m)).win 1).blk t).view.emb j) = _
  rw [V_main_arg1]
  exact congrArg _ (at_block (T := 4096) (T' := 256) (placed m _) rfl rfl h0 h1)

theorem final : (dats m (ok m) 0 c).arrAt 2 (cfgM m (ok m)).N = half (m ((c : Thread nD τ).loc main_arg0)) (m ((c : Thread nD τ).loc main_arg1)) := by
  refine (dats m (ok m) 0 c).arrAt_eq_of_cover 2 _
    (fun t _ => funext fun (j : S1024x256.Idx) => (written m c t j).trans ?_) fun (i : S2048x256.Idx) => ?_
  · exact tile (h := by decide) (h' := by decide) (block0 m c t) (block1 m c t) (Nat.zero_add _).symm rfl j (result _) rfl rfl
  · obtain ⟨t, ht⟩ := point ⟨(i 0).val / 1024, Nat.div_lt_of_lt_mul (show (i 0).val < 1024 * 2 from (i 0).isLt)⟩
    refine ⟨t, flush0_2 (adm m (ok m)) t, ?_⟩
    show i ∈ ((View.whole main_v3).slice (Rect.block (s := S2048x256) S1024x256.size (cc0_transform_2 (grid0.coords t)) (hinb0_2 _))).set
    rw [View.set_slice_whole]
    refine in_tile (T := 1024) (T' := 256) (by decide) (by decide) i ?_ _
    rw [result, ht, Nat.div_eq_of_lt (show (i 1).val < 256 from (i 1).isLt)]

/-- The kernel's run: its result is the function above of its arguments, which it keeps. -/
theorem run : θ_run defs (onTc (τ := τ) (main (F := Ideal))) ⟨m, fun _ => 0, ρ⟩ fun r => ∀ c : Dev nD,
      r.2.mem ((c : Thread nD τ).loc main_v3) = half (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final m c), h.2 c⟩)
    (θ_run_and (run_main m ρ (ok m)) (unchanged m ρ (ok m)))

/-- The reference's result is the same function of the arguments. -/
theorem reference (x0 : S4096x2048.Idx → EReal) (x1 : S4096x512.Idx → EReal) :
    Cert.DwXqSReferenceIdeal.Read.val_main_v7 (F := Ideal) x0 x1 = half x0 x1 := funext fun i => by
  rw [Cert.DwXqSReferenceIdeal.Read.val_main_v7_apply, Cert.DwXqSReferenceIdeal.Read.val_main_v6_apply,
    Cert.DwXqSReferenceIdeal.Read.val_main_v5_apply, Cert.DwXqSReferenceIdeal.Read.val_main_v4_apply]
  exact Eq.trans (Finset.sum_congr rfl fun q _ => mul_comm _ _) (eq_cols (fun _ => congrArg x0 (pair_ext rfl (Nat.zero_add _).symm))
    (fun _ => congrArg x1 (pair_ext rfl rfl)))

end Cert.DwXqSIdeal.Grad

end
-- ==== Proof.DwXqO.lean ====
/- The half of the gradient of `w_xq` that stays: the earlier half of the second operand's columns, and what the sibling core sent.
   The prefetched table holds the half's number, which places the second operand's block. -/
module

public import proofs.«01_k».proof.Proof.Half
public import proofs.«01_k».proof.Proof.Gen.DwXqO.Frame
public import proofs.«01_k».proof.Proof.Gen.DwXqOIdeal.Frame
public import proofs.«01_k».proof.Proof.Gen.DwXqOReferenceIdeal.Run
public import proofs.«01_k».proof.Proof.Gen.DwXqOReferenceIdeal.Read
public import Idealize.ShloMosaic.Lib.Pipeline.Value
public import Idealize.ShloMosaic.Lib.StableHlo.Run

@[expose] public section

noncomputable section

open Idealize.ShloMosaic Idealize.ShloMosaic.TcCoe Idealize.ShloMosaic.ValueIdx Idealize.ShloMosaic.Tactic Idealize.SL.Sem

namespace Cert.DwXqO.Gen

variable {F : FTy → Type} [FloatOps F] (m : (ℓ : Loc nD τ sig) → Buf (Elt F) ℓ)

theorem table : tbl m 0 = fun _ => (0#32 : BitVec 32) := by
  show StableHlo.after hostOps0 _ (Proc.devRef .tc main_v0) = _
  after_results
  funext i
  simp only [broadcastInDim, constantI]
theorem placed (i : grid0.Coords) : cc0_transform_1 inb_S1_S1_0 numel1_S1 (tbl m) i = ![0, 0] := by
  unfold cc0_transform_1 Pipeline.Prefetch.Contents.at
  rw [table m]
  revert i
  decide +kernel
theorem ok : Ok m := fun i =>
  ⟨fun a => by rw [placed m i]; revert a; decide, .inr (Affine.block_words_dvd (of_decide_eq_true rfl) (by decide))⟩

end Cert.DwXqO.Gen

namespace Cert.DwXqOIdeal.Gen

variable {F : FTy → Type} [FloatOps F] (m : (ℓ : Loc nD τ sig) → Buf (Elt F) ℓ)

theorem table : tbl m 0 = fun _ => (0#32 : BitVec 32) := by
  show StableHlo.after hostOps0 _ (Proc.devRef .tc main_v0) = _
  after_results
  funext i
  simp only [broadcastInDim, constantI]
theorem placed (i : grid0.Coords) : cc0_transform_1 inb_S1_S1_0 numel1_S1 (tbl m) i = ![0, 0] := by
  unfold cc0_transform_1 Pipeline.Prefetch.Contents.at
  rw [table m]
  revert i
  decide +kernel
theorem ok : Ok m := fun i =>
  ⟨fun a => by rw [placed m i]; revert a; decide, .inr (Affine.block_words_dvd (of_decide_eq_true rfl) (by decide))⟩

end Cert.DwXqOIdeal.Gen

namespace Cert.DwXqOIdeal.Grad

open Cert.DwXqOIdeal Cert.DwXqOIdeal.Gen Cert.Product Cert.Half

variable (m : (ℓ : Loc nD τ sig) → Buf (Elt Ideal) ℓ) (ρ : Dev nD → PrngReg) (c : Dev nD)

/-- The result, with what came. -/
def half (a : S4096x2048.Idx → EReal) (b : S4096x512.Idx → EReal) (g : S2048x256.Idx → EReal) : S2048x256.Idx → EReal :=
  partPlus 0 0 (by decide) (by decide) a b g

theorem pay (x : Vec Ideal S4096x1024 .bf16) (y : Vec Ideal S4096x256 .bf16) (z : Vec Ideal S1024x256 .bf16) (j : S1024x256.Idx) :
    k0_pay1 x y z j = cols x y (j 0) (j 1) + z j := by
  obtain ⟨p, q, rfl⟩ : ∃ p q, j = ix2 p q := ⟨j 0, j 1, pair_ext rfl rfl⟩
  exact congrArg (· + z (ix2 p q)) (matmul_cols (φ := .bf16) (ψ := .bf16) none p q dot_S4096x1024_S4096x256_S1024x256_0_0_1_1_n_n x y rfl rfl
    (fun _ => pair_ext rfl rfl) (fun _ => pair_ext rfl rfl))

/-- The operands' blocks at a point, with their shapes. -/
def blk0 (t : Fin (cfgM m (ok m)).N) : Vec Ideal S4096x1024 .bf16 := iblk m (ok m) c 0 t
def blk1 (t : Fin (cfgM m (ok m)).N) : Vec Ideal S4096x256 .bf16 := iblk m (ok m) c 1 t
def blk2 (t : Fin (cfgM m (ok m)).N) : Vec Ideal S1024x256 .bf16 := iblk m (ok m) c 2 t

theorem stored (i : grid0.Coords) (arg3 : Memref sig .tc .vmem S4096x1024 .bf16) (h3 : arg3.IsWhole) (arg4 : Memref sig .tc .vmem S4096x256 .bf16) (h4 : arg4.IsWhole)
    (arg5 : Memref sig .tc .vmem S1024x256 .bf16) (h5 : arg5.IsWhole) (arg6 : Memref sig .tc .vmem S1024x256 .bf16) (h6 : arg6.IsWhole)
    (x : Vec Ideal S4096x1024 .bf16) (y : Vec Ideal S4096x256 .bf16) (z : Vec Ideal S1024x256 .bf16) (T : TbBuf0 (F := Ideal) c tbM0_0) :
    out0_A_3 c i arg3 h3 arg4 h4 arg5 h5 arg6 h6 x y z T = k0_pay1 x y z := by
  unfold out0_A_3
  rw [View.read_writes_eq_canon _ _ _ (fun y => cover0_A_3 (y := y) ..)]
  unfold kernelRun0_A
  dsimp only
  sl_unfold_words
  simp only [View.readAt_eq_ld, h3.read_unread, h4.read_unread, h5.read_unread,
    View.ld_unit_zero (S := S4096x1024) origin, View.ld_unit_zero (S := S4096x256) origin, View.ld_unit_zero (S := S1024x256) origin]
  rw [View.canon_unit_zero origin]

/-- What a point writes back, entry by entry. -/
theorem written (t : Fin (cfgM m (ok m)).N) (j : S1024x256.Idx) :
    ((dats m (ok m) 0 c).flushed 3 t : Vec Ideal S1024x256 .bf16) j = cols (blk0 m c t) (blk1 m c t) (j 0) (j 1) + blk2 m c t j :=
  (congrFun ((after0_3 m (ok m) c t).trans
    (stored c (grid0.coords t) _ _ _ _ _ _ _ _ (blk0 m c t) (blk1 m c t) (blk2 m c t) _)) j).trans (pay (blk0 m c t) (blk1 m c t) (blk2 m c t) j)

theorem moved : ∀ i : grid0.Coords, cc0_transform_0 i = ![0, (i 0).val] := by decide +kernel
theorem result : ∀ i : grid0.Coords, cc0_transform_3 i = ![(i 0).val, 0] := by decide +kernel
theorem point : ∀ p : Fin 2, ∃ t : Fin grid0.N, (grid0.coords t 0).val = p.val := by decide +kernel

theorem block0 (t : Fin (cfgM m (ok m)).N) (j : S4096x1024.Idx) (i : S4096x2048.Idx) (h0 : (i 0).val = 0 * 4096 + (j 0).val)
    (h1 : (i 1).val = (grid0.coords t 0).val * 1024 + (j 1).val) : blk0 m c t j = m ((c : Thread nD τ).loc main_arg0) i := by
  show V m c main_arg0 ((((cfgM m (ok m)).win 0).blk t).view.emb j) = _
  rw [V_main_arg0]
  exact congrArg _ (at_block (T := 4096) (T' := 1024) (moved _) rfl rfl h0 h1)
theorem block1 (t : Fin (cfgM m (ok m)).N) (j : S4096x256.Idx) (i : S4096x512.Idx) (h0 : (i 0).val = 0 * 4096 + (j 0).val)
    (h1 : (i 1).val = 0 * 256 + (j 1).val) : blk1 m c t j = m ((c : Thread nD τ).loc main_arg1) i := by
  show V m c main_arg1 ((((cfgM m (ok m)).win 1).blk t).view.emb j) = _
  rw [V_main_arg1]
  exact congrArg _ (at_block (T := 4096) (T' := 256) (placed m _) rfl rfl h0 h1)
theorem gotten : ∀ i : grid0.Coords, cc0_transform_2 i = cc0_transform_3 i := by decide +kernel
theorem block2 (t : Fin (cfgM m (ok m)).N) (j : S1024x256.Idx) :
    blk2 m c t j = m ((c : Thread nD τ).loc main_arg2) ((((cfgM m (ok m)).win 3).blk t).view.emb j) := by
  show V m c main_arg2 ((((cfgM m (ok m)).win 2).blk t).view.emb j) = _
  rw [V_main_arg2]
  exact congrArg _ (same_block (T := 1024) (T' := 256) (gotten (grid0.coords t)) rfl rfl rfl rfl)

theorem final : (dats m (ok m) 0 c).arrAt 3 (cfgM m (ok m)).N = half (m ((c : Thread nD τ).loc main_arg0)) (m ((c : Thread nD τ).loc main_arg1)) (m ((c : Thread nD τ).loc main_arg2)) := by
  refine (dats m (ok m) 0 c).arrAt_eq_of_cover 3 _
    (fun t _ => funext fun (j : S1024x256.Idx) => (written m c t j).trans ?_) fun (i : S2048x256.Idx) => ?_
  · exact tile_plus (h := by decide) (h' := by decide) (block0 m c t) (block1 m c t) (Nat.zero_add _).symm rfl j (result _) rfl rfl (block2 m c t j)
  · obtain ⟨t, ht⟩ := point ⟨(i 0).val / 1024, Nat.div_lt_of_lt_mul (show (i 0).val < 1024 * 2 from (i 0).isLt)⟩
    refine ⟨t, flush0_3 (adm m (ok m)) t, ?_⟩
    show i ∈ ((View.whole main_v1).slice (Rect.block (s := S2048x256) S1024x256.size (cc0_transform_3 (grid0.coords t)) (hinb0_3 _))).set
    rw [View.set_slice_whole]
    refine in_tile (T := 1024) (T' := 256) (by decide) (by decide) i ?_ _
    rw [result, ht, Nat.div_eq_of_lt (show (i 1).val < 256 from (i 1).isLt)]

/-- The kernel's run: its result is the function above of its arguments, which it keeps. -/
theorem run : θ_run defs (onTc (τ := τ) (main (F := Ideal))) ⟨m, fun _ => 0, ρ⟩ fun r => ∀ c : Dev nD,
      r.2.mem ((c : Thread nD τ).loc main_v1) = half (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 3).trans (final m c), h.2 c⟩)
    (θ_run_and (run_main m ρ (ok m)) (unchanged m ρ (ok m)))

/-- The reference's result is the same function of the arguments. -/
theorem reference (x0 : S4096x2048.Idx → EReal) (x1 : S4096x512.Idx → EReal) (x2 : S2048x256.Idx → EReal) :
    Cert.DwXqOReferenceIdeal.Read.val_main_v9 (F := Ideal) x0 x1 x2 = half x0 x1 x2 := funext fun i => by
  rw [Cert.DwXqOReferenceIdeal.Read.val_main_v9_apply, Cert.DwXqOReferenceIdeal.Read.val_main_v8_apply,
    Cert.DwXqOReferenceIdeal.Read.val_main_v6_apply, Cert.DwXqOReferenceIdeal.Read.val_main_v5_apply,
    Cert.DwXqOReferenceIdeal.Read.val_main_v4_apply]
  refine congrArg (· + x2 i) ?_
  exact Eq.trans (Finset.sum_congr rfl fun q _ => mul_comm _ _) (eq_cols (fun _ => congrArg x0 (pair_ext rfl (Nat.zero_add _).symm))
    (fun _ => congrArg x1 (pair_ext rfl (Nat.zero_add _).symm)))

end Cert.DwXqOIdeal.Grad

end
-- ==== Proof.DwKvS.lean ====
/- The half of the gradient of `w_xkv` that goes to the sibling core: the later half of the second operand's columns.
   The prefetched table holds the half's number, which places the second operand's block. -/
module

public import proofs.«01_k».proof.Proof.Half
public import proofs.«01_k».proof.Proof.Gen.DwKvS.Frame
public import proofs.«01_k».proof.Proof.Gen.DwKvSIdeal.Frame
public import proofs.«01_k».proof.Proof.Gen.DwKvSReferenceIdeal.Run
public import proofs.«01_k».proof.Proof.Gen.DwKvSReferenceIdeal.Read
public import Idealize.ShloMosaic.Lib.Pipeline.Value
public import Idealize.ShloMosaic.Lib.StableHlo.Run

@[expose] public section

noncomputable section

open Idealize.ShloMosaic Idealize.ShloMosaic.TcCoe Idealize.ShloMosaic.ValueIdx Idealize.ShloMosaic.Tactic Idealize.SL.Sem

namespace Cert.DwKvS.Gen

variable {F : FTy → Type} [FloatOps F] (m : (ℓ : Loc nD τ sig) → Buf (Elt F) ℓ)

theorem table : tbl m 0 = fun _ => (1#32 : BitVec 32) := by
  show StableHlo.after hostOps0 _ (Proc.devRef .tc main_v2) = _
  after_results
  funext i
  simp only [subi, broadcastInDim, constantI]
  decide
theorem placed (i : grid0.Coords) : cc0_transform_1 inb_S1_S1_0 numel1_S1 (tbl m) i = ![0, 1] := by
  unfold cc0_transform_1 Pipeline.Prefetch.Contents.at
  rw [table m]
  revert i
  decide +kernel
theorem ok : Ok m := fun i =>
  ⟨fun a => by rw [placed m i]; revert a; decide, .inr (Affine.block_words_dvd (of_decide_eq_true rfl) (by decide))⟩

end Cert.DwKvS.Gen

namespace Cert.DwKvSIdeal.Gen

variable {F : FTy → Type} [FloatOps F] (m : (ℓ : Loc nD τ sig) → Buf (Elt F) ℓ)

theorem table : tbl m 0 = fun _ => (1#32 : BitVec 32) := by
  show StableHlo.after hostOps0 _ (Proc.devRef .tc main_v2) = _
  after_results
  funext i
  simp only [subi, broadcastInDim, constantI]
  decide
theorem placed (i : grid0.Coords) : cc0_transform_1 inb_S1_S1_0 numel1_S1 (tbl m) i = ![0, 1] := by
  unfold cc0_transform_1 Pipeline.Prefetch.Contents.at
  rw [table m]
  revert i
  decide +kernel
theorem ok : Ok m := fun i =>
  ⟨fun a => by rw [placed m i]; revert a; decide, .inr (Affine.block_words_dvd (of_decide_eq_true rfl) (by decide))⟩

end Cert.DwKvSIdeal.Gen

namespace Cert.DwKvSIdeal.Grad

open Cert.DwKvSIdeal Cert.DwKvSIdeal.Gen Cert.Product Cert.Half

variable (m : (ℓ : Loc nD τ sig) → Buf (Elt Ideal) ℓ) (ρ : Dev nD → PrngReg) (c : Dev nD)

/-- The result. -/
def half (a : S256x2048.Idx → EReal) (b : S256x1024.Idx → EReal) : S2048x512.Idx → EReal :=
  part 0 512 (by decide) (by decide) a b

theorem pay (x : Vec Ideal S256x1024 .bf16) (y : Vec Ideal S256x512 .bf16) (j : S1024x512.Idx) :
    k0_pay1 x y j = cols x y (j 0) (j 1) := by
  obtain ⟨p, q, rfl⟩ : ∃ p q, j = ix2 p q := ⟨j 0, j 1, pair_ext rfl rfl⟩
  exact matmul_cols (φ := .bf16) (ψ := .bf16) none p q dot_S256x1024_S256x512_S1024x512_0_0_1_1_n_n x y rfl rfl
    (fun _ => pair_ext rfl rfl) (fun _ => pair_ext rfl rfl)

/-- The operands' blocks at a point, with their shapes. -/
def blk0 (t : Fin (cfgM m (ok m)).N) : Vec Ideal S256x1024 .bf16 := iblk m (ok m) c 0 t
def blk1 (t : Fin (cfgM m (ok m)).N) : Vec Ideal S256x512 .bf16 := iblk m (ok m) c 1 t

theorem stored (i : grid0.Coords) (arg3 : Memref sig .tc .vmem S256x1024 .bf16) (h3 : arg3.IsWhole) (arg4 : Memref sig .tc .vmem S256x512 .bf16) (h4 : arg4.IsWhole)
    (arg5 : Memref sig .tc .vmem S1024x512 .bf16) (h5 : arg5.IsWhole)
    (x : Vec Ideal S256x1024 .bf16) (y : Vec Ideal S256x512 .bf16) (T : TbBuf0 (F := Ideal) c tbM0_0) :
    out0_A_2 c i arg3 h3 arg4 h4 arg5 h5 x y T = k0_pay1 x y := by
  unfold out0_A_2
  rw [View.read_writes_eq_canon _ _ _ (fun y => cover0_A_2 (y := y) ..)]
  unfold kernelRun0_A
  dsimp only
  sl_unfold_words
  simp only [View.readAt_eq_ld, h3.read_unread, h4.read_unread,
    View.ld_unit_zero (S := S256x1024) origin, View.ld_unit_zero (S := S256x512) origin]
  rw [View.canon_unit_zero origin]

/-- What a point writes back, entry by entry. -/
theorem written (t : Fin (cfgM m (ok m)).N) (j : S1024x512.Idx) :
    ((dats m (ok m) 0 c).flushed 2 t : Vec Ideal S1024x512 .bf16) j = cols (blk0 m c t) (blk1 m c t) (j 0) (j 1) :=
  (congrFun ((after0_2 m (ok m) c t).trans
    (stored c (grid0.coords t) _ _ _ _ _ _ (blk0 m c t) (blk1 m c t) _)) j).trans (pay (blk0 m c t) (blk1 m c t) j)

theorem moved : ∀ i : grid0.Coords, cc0_transform_0 i = ![0, (i 0).val] := by decide +kernel
theorem result : ∀ i : grid0.Coords, cc0_transform_2 i = ![(i 0).val, 0] := by decide +kernel
theorem point : ∀ p : Fin 2, ∃ t : Fin grid0.N, (grid0.coords t 0).val = p.val := by decide +kernel

theorem block0 (t : Fin (cfgM m (ok m)).N) (j : S256x1024.Idx) (i : S256x2048.Idx) (h0 : (i 0).val = 0 * 256 + (j 0).val)
    (h1 : (i 1).val = (grid0.coords t 0).val * 1024 + (j 1).val) : blk0 m c t j = m ((c : Thread nD τ).loc main_arg0) i := by
  show V m c main_arg0 ((((cfgM m (ok m)).win 0).blk t).view.emb j) = _
  rw [V_main_arg0]
  exact congrArg _ (at_block (T := 256) (T' := 1024) (moved _) rfl rfl h0 h1)
theorem block1 (t : Fin (cfgM m (ok m)).N) (j : S256x512.Idx) (i : S256x1024.Idx) (h0 : (i 0).val = 0 * 256 + (j 0).val)
    (h1 : (i 1).val = 1 * 512 + (j 1).val) : blk1 m c t j = m ((c : Thread nD τ).loc main_arg1) i := by
  show V m c main_arg1 ((((cfgM m (ok m)).win 1).blk t).view.emb j) = _
  rw [V_main_arg1]
  exact congrArg _ (at_block (T := 256) (T' := 512) (placed m _) rfl rfl h0 h1)

theorem final : (dats m (ok m) 0 c).arrAt 2 (cfgM m (ok m)).N = half (m ((c : Thread nD τ).loc main_arg0)) (m ((c : Thread nD τ).loc main_arg1)) := by
  refine (dats m (ok m) 0 c).arrAt_eq_of_cover 2 _
    (fun t _ => funext fun (j : S1024x512.Idx) => (written m c t j).trans ?_) fun (i : S2048x512.Idx) => ?_
  · exact tile (h := by decide) (h' := by decide) (block0 m c t) (block1 m c t) (Nat.zero_add _).symm rfl j (result _) rfl rfl
  · obtain ⟨t, ht⟩ := point ⟨(i 0).val / 1024, Nat.div_lt_of_lt_mul (show (i 0).val < 1024 * 2 from (i 0).isLt)⟩
    refine ⟨t, flush0_2 (adm m (ok m)) t, ?_⟩
    show i ∈ ((View.whole main_v3).slice (Rect.block (s := S2048x512) S1024x512.size (cc0_transform_2 (grid0.coords t)) (hinb0_2 _))).set
    rw [View.set_slice_whole]
    refine in_tile (T := 1024) (T' := 512) (by decide) (by decide) i ?_ _
    rw [result, ht, Nat.div_eq_of_lt (show (i 1).val < 512 from (i 1).isLt)]

/-- The kernel's run: its result is the function above of its arguments, which it keeps. -/
theorem run : θ_run defs (onTc (τ := τ) (main (F := Ideal))) ⟨m, fun _ => 0, ρ⟩ fun r => ∀ c : Dev nD,
      r.2.mem ((c : Thread nD τ).loc main_v3) = half (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final m c), h.2 c⟩)
    (θ_run_and (run_main m ρ (ok m)) (unchanged m ρ (ok m)))

/-- The reference's result is the same function of the arguments. -/
theorem reference (x0 : S256x2048.Idx → EReal) (x1 : S256x1024.Idx → EReal) :
    Cert.DwKvSReferenceIdeal.Read.val_main_v7 (F := Ideal) x0 x1 = half x0 x1 := funext fun i => by
  rw [Cert.DwKvSReferenceIdeal.Read.val_main_v7_apply, Cert.DwKvSReferenceIdeal.Read.val_main_v6_apply,
    Cert.DwKvSReferenceIdeal.Read.val_main_v5_apply, Cert.DwKvSReferenceIdeal.Read.val_main_v4_apply]
  exact Eq.trans (Finset.sum_congr rfl fun q _ => mul_comm _ _) (eq_cols (fun _ => congrArg x0 (pair_ext rfl (Nat.zero_add _).symm))
    (fun _ => congrArg x1 (pair_ext rfl rfl)))

end Cert.DwKvSIdeal.Grad

end
-- ==== Proof.DwKvO.lean ====
/- The half of the gradient of `w_xkv` that stays: the earlier half of the second operand's columns, and what the sibling core sent.
   The prefetched table holds the half's number, which places the second operand's block. -/
module

public import proofs.«01_k».proof.Proof.Half
public import proofs.«01_k».proof.Proof.Gen.DwKvO.Frame
public import proofs.«01_k».proof.Proof.Gen.DwKvOIdeal.Frame
public import proofs.«01_k».proof.Proof.Gen.DwKvOReferenceIdeal.Run
public import proofs.«01_k».proof.Proof.Gen.DwKvOReferenceIdeal.Read
public import Idealize.ShloMosaic.Lib.Pipeline.Value
public import Idealize.ShloMosaic.Lib.StableHlo.Run

@[expose] public section

noncomputable section

open Idealize.ShloMosaic Idealize.ShloMosaic.TcCoe Idealize.ShloMosaic.ValueIdx Idealize.ShloMosaic.Tactic Idealize.SL.Sem

namespace Cert.DwKvO.Gen

variable {F : FTy → Type} [FloatOps F] (m : (ℓ : Loc nD τ sig) → Buf (Elt F) ℓ)

theorem table : tbl m 0 = fun _ => (0#32 : BitVec 32) := by
  show StableHlo.after hostOps0 _ (Proc.devRef .tc main_v0) = _
  after_results
  funext i
  simp only [broadcastInDim, constantI]
theorem placed (i : grid0.Coords) : cc0_transform_1 inb_S1_S1_0 numel1_S1 (tbl m) i = ![0, 0] := by
  unfold cc0_transform_1 Pipeline.Prefetch.Contents.at
  rw [table m]
  revert i
  decide +kernel
theorem ok : Ok m := fun i =>
  ⟨fun a => by rw [placed m i]; revert a; decide, .inr (Affine.block_words_dvd (of_decide_eq_true rfl) (by decide))⟩

end Cert.DwKvO.Gen

namespace Cert.DwKvOIdeal.Gen

variable {F : FTy → Type} [FloatOps F] (m : (ℓ : Loc nD τ sig) → Buf (Elt F) ℓ)

theorem table : tbl m 0 = fun _ => (0#32 : BitVec 32) := by
  show StableHlo.after hostOps0 _ (Proc.devRef .tc main_v0) = _
  after_results
  funext i
  simp only [broadcastInDim, constantI]
theorem placed (i : grid0.Coords) : cc0_transform_1 inb_S1_S1_0 numel1_S1 (tbl m) i = ![0, 0] := by
  unfold cc0_transform_1 Pipeline.Prefetch.Contents.at
  rw [table m]
  revert i
  decide +kernel
theorem ok : Ok m := fun i =>
  ⟨fun a => by rw [placed m i]; revert a; decide, .inr (Affine.block_words_dvd (of_decide_eq_true rfl) (by decide))⟩

end Cert.DwKvOIdeal.Gen

namespace Cert.DwKvOIdeal.Grad

open Cert.DwKvOIdeal Cert.DwKvOIdeal.Gen Cert.Product Cert.Half

variable (m : (ℓ : Loc nD τ sig) → Buf (Elt Ideal) ℓ) (ρ : Dev nD → PrngReg) (c : Dev nD)

/-- The result, with what came. -/
def half (a : S256x2048.Idx → EReal) (b : S256x1024.Idx → EReal) (g : S2048x512.Idx → EReal) : S2048x512.Idx → EReal :=
  partPlus 0 0 (by decide) (by decide) a b g

theorem pay (x : Vec Ideal S256x1024 .bf16) (y : Vec Ideal S256x512 .bf16) (z : Vec Ideal S1024x512 .bf16) (j : S1024x512.Idx) :
    k0_pay1 x y z j = cols x y (j 0) (j 1) + z j := by
  obtain ⟨p, q, rfl⟩ : ∃ p q, j = ix2 p q := ⟨j 0, j 1, pair_ext rfl rfl⟩
  exact congrArg (· + z (ix2 p q)) (matmul_cols (φ := .bf16) (ψ := .bf16) none p q dot_S256x1024_S256x512_S1024x512_0_0_1_1_n_n x y rfl rfl
    (fun _ => pair_ext rfl rfl) (fun _ => pair_ext rfl rfl))

/-- The operands' blocks at a point, with their shapes. -/
def blk0 (t : Fin (cfgM m (ok m)).N) : Vec Ideal S256x1024 .bf16 := iblk m (ok m) c 0 t
def blk1 (t : Fin (cfgM m (ok m)).N) : Vec Ideal S256x512 .bf16 := iblk m (ok m) c 1 t
def blk2 (t : Fin (cfgM m (ok m)).N) : Vec Ideal S1024x512 .bf16 := iblk m (ok m) c 2 t

theorem stored (i : grid0.Coords) (arg3 : Memref sig .tc .vmem S256x1024 .bf16) (h3 : arg3.IsWhole) (arg4 : Memref sig .tc .vmem S256x512 .bf16) (h4 : arg4.IsWhole)
    (arg5 : Memref sig .tc .vmem S1024x512 .bf16) (h5 : arg5.IsWhole) (arg6 : Memref sig .tc .vmem S1024x512 .bf16) (h6 : arg6.IsWhole)
    (x : Vec Ideal S256x1024 .bf16) (y : Vec Ideal S256x512 .bf16) (z : Vec Ideal S1024x512 .bf16) (T : TbBuf0 (F := Ideal) c tbM0_0) :
    out0_A_3 c i arg3 h3 arg4 h4 arg5 h5 arg6 h6 x y z T = k0_pay1 x y z := by
  unfold out0_A_3
  rw [View.read_writes_eq_canon _ _ _ (fun y => cover0_A_3 (y := y) ..)]
  unfold kernelRun0_A
  dsimp only
  sl_unfold_words
  simp only [View.readAt_eq_ld, h3.read_unread, h4.read_unread, h5.read_unread,
    View.ld_unit_zero (S := S256x1024) origin, View.ld_unit_zero (S := S256x512) origin, View.ld_unit_zero (S := S1024x512) origin]
  rw [View.canon_unit_zero origin]

/-- What a point writes back, entry by entry. -/
theorem written (t : Fin (cfgM m (ok m)).N) (j : S1024x512.Idx) :
    ((dats m (ok m) 0 c).flushed 3 t : Vec Ideal S1024x512 .bf16) j = cols (blk0 m c t) (blk1 m c t) (j 0) (j 1) + blk2 m c t j :=
  (congrFun ((after0_3 m (ok m) c t).trans
    (stored c (grid0.coords t) _ _ _ _ _ _ _ _ (blk0 m c t) (blk1 m c t) (blk2 m c t) _)) j).trans (pay (blk0 m c t) (blk1 m c t) (blk2 m c t) j)

theorem moved : ∀ i : grid0.Coords, cc0_transform_0 i = ![0, (i 0).val] := by decide +kernel
theorem result : ∀ i : grid0.Coords, cc0_transform_3 i = ![(i 0).val, 0] := by decide +kernel
theorem point : ∀ p : Fin 2, ∃ t : Fin grid0.N, (grid0.coords t 0).val = p.val := by decide +kernel

theorem block0 (t : Fin (cfgM m (ok m)).N) (j : S256x1024.Idx) (i : S256x2048.Idx) (h0 : (i 0).val = 0 * 256 + (j 0).val)
    (h1 : (i 1).val = (grid0.coords t 0).val * 1024 + (j 1).val) : blk0 m c t j = m ((c : Thread nD τ).loc main_arg0) i := by
  show V m c main_arg0 ((((cfgM m (ok m)).win 0).blk t).view.emb j) = _
  rw [V_main_arg0]
  exact congrArg _ (at_block (T := 256) (T' := 1024) (moved _) rfl rfl h0 h1)
theorem block1 (t : Fin (cfgM m (ok m)).N) (j : S256x512.Idx) (i : S256x1024.Idx) (h0 : (i 0).val = 0 * 256 + (j 0).val)
    (h1 : (i 1).val = 0 * 512 + (j 1).val) : blk1 m c t j = m ((c : Thread nD τ).loc main_arg1) i := by
  show V m c main_arg1 ((((cfgM m (ok m)).win 1).blk t).view.emb j) = _
  rw [V_main_arg1]
  exact congrArg _ (at_block (T := 256) (T' := 512) (placed m _) rfl rfl h0 h1)
theorem gotten : ∀ i : grid0.Coords, cc0_transform_2 i = cc0_transform_3 i := by decide +kernel
theorem block2 (t : Fin (cfgM m (ok m)).N) (j : S1024x512.Idx) :
    blk2 m c t j = m ((c : Thread nD τ).loc main_arg2) ((((cfgM m (ok m)).win 3).blk t).view.emb j) := by
  show V m c main_arg2 ((((cfgM m (ok m)).win 2).blk t).view.emb j) = _
  rw [V_main_arg2]
  exact congrArg _ (same_block (T := 1024) (T' := 512) (gotten (grid0.coords t)) rfl rfl rfl rfl)

theorem final : (dats m (ok m) 0 c).arrAt 3 (cfgM m (ok m)).N = half (m ((c : Thread nD τ).loc main_arg0)) (m ((c : Thread nD τ).loc main_arg1)) (m ((c : Thread nD τ).loc main_arg2)) := by
  refine (dats m (ok m) 0 c).arrAt_eq_of_cover 3 _
    (fun t _ => funext fun (j : S1024x512.Idx) => (written m c t j).trans ?_) fun (i : S2048x512.Idx) => ?_
  · exact tile_plus (h := by decide) (h' := by decide) (block0 m c t) (block1 m c t) (Nat.zero_add _).symm rfl j (result _) rfl rfl (block2 m c t j)
  · obtain ⟨t, ht⟩ := point ⟨(i 0).val / 1024, Nat.div_lt_of_lt_mul (show (i 0).val < 1024 * 2 from (i 0).isLt)⟩
    refine ⟨t, flush0_3 (adm m (ok m)) t, ?_⟩
    show i ∈ ((View.whole main_v1).slice (Rect.block (s := S2048x512) S1024x512.size (cc0_transform_3 (grid0.coords t)) (hinb0_3 _))).set
    rw [View.set_slice_whole]
    refine in_tile (T := 1024) (T' := 512) (by decide) (by decide) i ?_ _
    rw [result, ht, Nat.div_eq_of_lt (show (i 1).val < 512 from (i 1).isLt)]

/-- The kernel's run: its result is the function above of its arguments, which it keeps. -/
theorem run : θ_run defs (onTc (τ := τ) (main (F := Ideal))) ⟨m, fun _ => 0, ρ⟩ fun r => ∀ c : Dev nD,
      r.2.mem ((c : Thread nD τ).loc main_v1) = half (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 3).trans (final m c), h.2 c⟩)
    (θ_run_and (run_main m ρ (ok m)) (unchanged m ρ (ok m)))

/-- The reference's result is the same function of the arguments. -/
theorem reference (x0 : S256x2048.Idx → EReal) (x1 : S256x1024.Idx → EReal) (x2 : S2048x512.Idx → EReal) :
    Cert.DwKvOReferenceIdeal.Read.val_main_v9 (F := Ideal) x0 x1 x2 = half x0 x1 x2 := funext fun i => by
  rw [Cert.DwKvOReferenceIdeal.Read.val_main_v9_apply, Cert.DwKvOReferenceIdeal.Read.val_main_v8_apply,
    Cert.DwKvOReferenceIdeal.Read.val_main_v6_apply, Cert.DwKvOReferenceIdeal.Read.val_main_v5_apply,
    Cert.DwKvOReferenceIdeal.Read.val_main_v4_apply]
  refine congrArg (· + x2 i) ?_
  exact Eq.trans (Finset.sum_congr rfl fun q _ => mul_comm _ _) (eq_cols (fun _ => congrArg x0 (pair_ext rfl (Nat.zero_add _).symm))
    (fun _ => congrArg x1 (pair_ext rfl (Nat.zero_add _).symm)))

end Cert.DwKvOIdeal.Grad

end
-- ==== Proof.Step.lean ====
/- One step of AdamW, entry by entry: what the optimiser's body computes of a block, and the results over two layers. -/
module

public import proofs.«01_k».proof.Proof.Product
public import Idealize.ShloMosaic.Lib.Pipeline.Value

@[expose] public section

noncomputable section

namespace Cert.Step

open Cert.Product Idealize.ShloMosaic Idealize.ShloMosaic.ValueIdx

/-- A float word's number. -/
abbrev num (b : BitVec 32) : EReal := FloatOps.ofBits (F := Ideal) .f32 b

/-- The first moment's step. -/
def moment (g m : EReal) : EReal := num 0x3F666666#32 * m + num 0x3DCCCCCD#32 * g
/-- The second moment's step. -/
def spread (g v : EReal) : EReal := num 0x3F7FBE77#32 * v + num 0x3A83126F#32 * (g * g)
/-- A quotient. -/
abbrev over (a b : EReal) : EReal := FloatOps.divf (F := Ideal) (φ := .f32) a b
/-- The weight's step. -/
def delta (w g m v : EReal) : EReal :=
  num 0xBA83126F#32 * (over (over (moment g m) (num 0x3F26BD02#32))
    (FloatOps.sqrt (F := Ideal) (φ := .f32) (over (spread g v) (num 0x3C231ACC#32)) + num 0x322BCC77#32) + num 0x3C23D70A#32 * w)

/-- The four results, as functions of the weight, its gradient and its moments. -/
abbrev keep (_ g _ _ : EReal) : EReal := g
abbrev first (_ g m _ : EReal) : EReal := moment g m
abbrev second (_ g _ v : EReal) : EReal := spread g v

variable {a b : ℕ}

/-- A function of a block of the four arrays, entry by entry. -/
def each (f : EReal → EReal → EReal → EReal → EReal) (w : (⟨3, ![1, a, b]⟩ : Shape).Idx → EReal)
    (g : (⟨2, ![a, b]⟩ : Shape).Idx → EReal) (m v : (⟨3, ![1, a, b]⟩ : Shape).Idx → EReal) : (⟨3, ![1, a, b]⟩ : Shape).Idx → EReal :=
  fun i => f (w (ix3 0 (i 1) (i 2))) (g (ix2 (i 1) (i 2))) (m (ix3 0 (i 1) (i 2))) (v (ix3 0 (i 1) (i 2)))

/-- The same of the stacks of all layers, the gradient being one layer's, -/
def layered {n : ℕ} (f : EReal → EReal → EReal → EReal → EReal) (w : (⟨3, ![n, a, b]⟩ : Shape).Idx → EReal)
    (g : (⟨2, ![a, b]⟩ : Shape).Idx → EReal) (m v : (⟨3, ![n, a, b]⟩ : Shape).Idx → EReal) : (⟨3, ![n, a, b]⟩ : Shape).Idx → EReal :=
  fun i => f (w i) (g (ix2 (i 1) (i 2))) (m i) (v i)
/-- the two layers' gradients one above the other, -/
def stacked (g0 g1 : (⟨2, ![a, b]⟩ : Shape).Idx → EReal) : (⟨3, ![2, a, b]⟩ : Shape).Idx → EReal :=
  fun i => if (i 0).val = 0 then g0 (ix2 (i 1) (i 2)) else g1 (ix2 (i 1) (i 2))
/-- and the function with each layer's own gradient. -/
def stepped (f : EReal → EReal → EReal → EReal → EReal) (w : (⟨3, ![2, a, b]⟩ : Shape).Idx → EReal)
    (g0 g1 : (⟨2, ![a, b]⟩ : Shape).Idx → EReal) (m v : (⟨3, ![2, a, b]⟩ : Shape).Idx → EReal) :
    (⟨3, ![2, a, b]⟩ : Shape).Idx → EReal :=
  fun i => f (w i) (stacked g0 g1 i) (m i) (v i)

section Layers

variable (f : EReal → EReal → EReal → EReal → EReal) (w m v : (⟨3, ![2, a, b]⟩ : Shape).Idx → EReal)
  (g0 g1 : (⟨2, ![a, b]⟩ : Shape).Idx → EReal) (i : (⟨3, ![2, a, b]⟩ : Shape).Idx)

theorem stepped_first (h : (i 0).val = 0) : stepped f w g0 g1 m v i = layered f w g0 m v i := by
  unfold stepped stacked layered
  rw [if_pos h]
theorem stepped_second (h : (i 0).val = 1) : stepped f w g0 g1 m v i = layered f w g1 m v i := by
  unfold stepped stacked layered
  rw [if_neg (by omega)]
theorem concatenated (x0 x1 : (⟨3, ![1, a, b]⟩ : Shape).Idx → EReal) (h) (h0 : ∀ j, x0 j = g0 (ix2 (j 1) (j 2)))
    (h1 : ∀ j, x1 j = g1 (ix2 (j 1) (j 2))) :
    concatenate (⟨3, ![2, a, b]⟩ : Shape) 0 [⟨⟨3, ![1, a, b]⟩, x0⟩, ⟨⟨3, ![1, a, b]⟩, x1⟩] h i = stacked g0 g1 i := by
  have hi : (i 0).val < 2 := (i 0).isLt
  by_cases hc : (i 0).val = 0
  · refine ((concatenate_pair_apply_left 0 x0 x1 h i rfl (ix3 0 (i 1) (i 2)) fun c => ?_).trans (h0 _)).trans ?_
    · match c with
      | ⟨0, _⟩ => exact hc.symm
      | ⟨1, _⟩ => rfl
      | ⟨2, _⟩ => rfl
    · unfold stacked
      rw [if_pos hc]
      rfl
  · refine ((concatenate_pair_apply_right 0 x0 x1 h i rfl rfl (ix3 0 (i 1) (i 2)) (fun c => ?_) ?_).trans (h1 _)).trans ?_
    · match c with
      | ⟨0, _⟩ => exact fun hn => absurd rfl hn
      | ⟨1, _⟩ => exact fun _ => rfl
      | ⟨2, _⟩ => exact fun _ => rfl
    · show 0 + 1 = (i 0).val
      omega
    · unfold stacked
      rw [if_neg hc]
      rfl

end Layers

section Body

variable (x0 x2 x3 : FVec Ideal (⟨3, ![1, a, b]⟩ : Shape) .f32) (x1 : FVec Ideal (⟨2, ![a, b]⟩ : Shape) .f32)
  (h : (⟨3, ![1, a, b]⟩ : Shape).ShapeCasts ⟨2, ![a, b]⟩) (h' : (⟨2, ![a, b]⟩ : Shape).ShapeCasts ⟨3, ![1, a, b]⟩)
  (j : (⟨3, ![1, a, b]⟩ : Shape).Idx)

theorem stack (x : FVec Ideal (⟨2, ![a, b]⟩ : Shape) .f32) : shapeCast ⟨3, ![1, a, b]⟩ x h' j = x (ix2 (j 1) (j 2)) := by
  obtain ⟨u, p, q, rfl⟩ : ∃ (u : Fin 1) (p : Fin a) (q : Fin b), j = ix3 u p q := ⟨j 0, j 1, j 2, triple_ext rfl rfl rfl⟩
  exact shapeCast_ab_1ab_apply ..

/-- The moments as the body computes them. -/
abbrev moments : FVec Ideal (⟨2, ![a, b]⟩ : Shape) .f32 :=
  addf (mulf (broadcast _ (Scalar.ofBits .f32 0x3F666666#32)) (shapeCast ⟨2, ![a, b]⟩ x2 h))
    (mulf (broadcast _ (Scalar.ofBits .f32 0x3DCCCCCD#32)) x1)
abbrev spreads : FVec Ideal (⟨2, ![a, b]⟩ : Shape) .f32 :=
  addf (mulf (broadcast _ (Scalar.ofBits .f32 0x3F7FBE77#32)) (shapeCast ⟨2, ![a, b]⟩ x3 h))
    (mulf (broadcast _ (Scalar.ofBits .f32 0x3A83126F#32)) (mulf x1 x1))
/-- The weight's step as the body computes it. -/
abbrev deltas : FVec Ideal (⟨2, ![a, b]⟩ : Shape) .f32 :=
  mulf (broadcast _ (Scalar.ofBits .f32 0xBA83126F#32)) (addf (divf (divf (moments x2 x1 h) (broadcast _ (Scalar.ofBits .f32 0x3F26BD02#32)))
      (addf (sqrt (divf (spreads x3 x1 h) (broadcast _ (Scalar.ofBits .f32 0x3C231ACC#32)))) (broadcast _ (Scalar.ofBits .f32 0x322BCC77#32))))
    (mulf (broadcast _ (Scalar.ofBits .f32 0x3C23D70A#32)) (shapeCast ⟨2, ![a, b]⟩ x0 h)))

theorem moments_apply (p : Fin a) (q : Fin b) : moments x2 x1 h (ix2 p q) = moment (x1 (ix2 p q)) (x2 (ix3 0 p q)) :=
  congrArg (moment (x1 (ix2 p q))) (shapeCast_1ab_ab_apply ..)
theorem spreads_apply (p : Fin a) (q : Fin b) : spreads x3 x1 h (ix2 p q) = spread (x1 (ix2 p q)) (x3 (ix3 0 p q)) :=
  congrArg (spread (x1 (ix2 p q))) (shapeCast_1ab_ab_apply ..)
theorem deltas_apply (p : Fin a) (q : Fin b) :
    deltas x0 x2 x3 x1 h (ix2 p q) = delta (x0 (ix3 0 p q)) (x1 (ix2 p q)) (x2 (ix3 0 p q)) (x3 (ix3 0 p q)) := by
  show num 0xBA83126F#32 * (over (over (moments x2 x1 h (ix2 p q)) (num 0x3F26BD02#32))
    (FloatOps.sqrt (F := Ideal) (φ := .f32) (over (spreads x3 x1 h (ix2 p q)) (num 0x3C231ACC#32)) + num 0x322BCC77#32)
      + num 0x3C23D70A#32 * shapeCast ⟨2, ![a, b]⟩ x0 h (ix2 p q)) = _
  rw [moments_apply, spreads_apply, shapeCast_1ab_ab_apply]
  rfl

/-- The four stored blocks. -/
theorem stored_keep : shapeCast ⟨3, ![1, a, b]⟩ x1 h' j = each keep x0 x1 x2 x3 j := stack h' j x1
theorem stored_delta : shapeCast ⟨3, ![1, a, b]⟩ (deltas x0 x2 x3 x1 h) h' j = each delta x0 x1 x2 x3 j :=
  (stack h' j _).trans (deltas_apply x0 x2 x3 x1 h _ _)
theorem stored_first : shapeCast ⟨3, ![1, a, b]⟩ (moments x2 x1 h) h' j = each first x0 x1 x2 x3 j :=
  (stack h' j _).trans (moments_apply x2 x1 h _ _)
theorem stored_second : shapeCast ⟨3, ![1, a, b]⟩ (spreads x3 x1 h) h' j = each second x0 x1 x2 x3 j :=
  (stack h' j _).trans (spreads_apply x3 x1 h _ _)

end Body

/-! ## Blocks of one layer's rows -/

section Rows

variable {A B n : ℕ} {x : Fin 3 → ℕ}

/-- A result over two layers from what it is in each. -/
theorem two_layers {f : EReal → EReal → EReal → EReal → EReal} {w m v R : (⟨3, ![2, a, b]⟩ : Shape).Idx → EReal}
    {g0 g1 : (⟨2, ![a, b]⟩ : Shape).Idx → EReal} (h0 : ∀ i, (i 0).val = 0 → R i = layered f w g0 m v i)
    (h1 : ∀ i, (i 0).val = 1 → R i = layered f w g1 m v i) : R = stepped f w g0 g1 m v := funext fun i => by
  have hi : (i 0).val < 2 := (i 0).isLt
  by_cases h : (i 0).val = 0
  · exact (h0 i h).trans (stepped_first _ _ _ _ _ _ i h).symm
  · exact (h1 i (by omega)).trans (stepped_second _ _ _ _ _ _ i (by omega)).symm

/-- An entry of the layer `l` lies in the block of rows that its row's quotient numbers. -/
theorem in_rows {l : ℕ} (ha : 0 < a) (i : (⟨3, ![n, A, B]⟩ : Shape).Idx) (h : (i 0).val = l) (hx : x = ![l, (i 1).val / a, 0]) (ax : Fin 3) :
    x ax * ![1, a, B] ax ≤ (i ax).val ∧ (i ax).val < x ax * ![1, a, B] ax + ![1, a, B] ax := by
  subst hx
  have h2 : (i 2).val < B := (i 2).isLt
  match ax with
  | ⟨0, _⟩ => show l * 1 ≤ (i 0).val ∧ (i 0).val < l * 1 + 1
              omega
  | ⟨1, _⟩ => exact ⟨Nat.div_mul_le_self _ _, Nat.lt_div_mul_add ha⟩
  | ⟨2, _⟩ => show 0 * B ≤ (i 2).val ∧ (i 2).val < 0 * B + B
              omega

/-- The step of the blocks is that of the arrays where the blocks lie: the gradient's block has the rows of the others'. -/
theorem block_steps (f : EReal → EReal → EReal → EReal → EReal) {y : Fin 2 → ℕ}
    {X0 X2 X3 : (⟨3, ![1, a, B]⟩ : Shape).Idx → EReal} {X1 : (⟨2, ![a, B]⟩ : Shape).Idx → EReal}
    {W M V : (⟨3, ![n, A, B]⟩ : Shape).Idx → EReal} {G : (⟨2, ![A, B]⟩ : Shape).Idx → EReal}
    (u : (⟨3, ![1, a, B]⟩ : Shape).Idx → (⟨3, ![n, A, B]⟩ : Shape).Idx) (u' : (⟨2, ![a, B]⟩ : Shape).Idx → (⟨2, ![A, B]⟩ : Shape).Idx)
    (h1 : ∀ j, (u j 1).val = x 1 * a + 1 * (j 1).val) (h2 : ∀ j, (u j 2).val = x 2 * B + 1 * (j 2).val)
    (k0 : ∀ j, (u' j 0).val = y 0 * a + 1 * (j 0).val) (k1 : ∀ j, (u' j 1).val = y 1 * B + 1 * (j 1).val)
    (e0 : y 0 = x 1) (e1 : y 1 = x 2) (r0 : ∀ j, X0 j = W (u j)) (r1 : ∀ j, X1 j = G (u' j)) (r2 : ∀ j, X2 j = M (u j))
    (r3 : ∀ j, X3 j = V (u j)) (j : (⟨3, ![1, a, B]⟩ : Shape).Idx) : each f X0 X1 X2 X3 j = layered f W G M V (u j) := by
  have ej : (ix3 0 (j 1) (j 2) : (⟨3, ![1, a, B]⟩ : Shape).Idx) = j :=
    triple_ext (by have h : (j 0).val < 1 := (j 0).isLt; show 0 = (j 0).val; omega) rfl rfl
  have eg : u' (ix2 (j 1) (j 2)) = ix2 (u j 1) (u j 2) :=
    pair_ext ((k0 _).trans (by rw [e0]; exact (h1 j).symm)) ((k1 _).trans (by rw [e1]; exact (h2 j).symm))
  unfold each layered
  rw [ej, r0, r1, r2, r3, eg]
  rfl

end Rows

end Cert.Step

end
-- ==== Proof.Adam.lean ====
/- AdamW on the packed small weights: each block of the kernel's four results is the pointwise step of the blocks, and so is the
   reference. -/
module

public import proofs.«01_k».proof.Proof.Step
public import proofs.«01_k».proof.Proof.Gen.AdamIdeal.Value
public import proofs.«01_k».proof.Proof.Gen.AdamReferenceIdeal.Run
public import proofs.«01_k».proof.Proof.Gen.AdamReferenceIdeal.Read
public import Idealize.ShloMosaic.Lib.StableHlo.Run

@[expose] public section

noncomputable section

namespace Cert.AdamIdeal.Grad

open Cert.AdamIdeal Cert.AdamIdeal.Gen Cert.Product Cert.Step Idealize.ShloMosaic Idealize.ShloMosaic.ValueIdx
open Idealize.ShloMosaic.TcCoe Idealize.SL.Sem

section Body

variable (x0 : Vec Ideal S1x40x128 .f32) (x1 : Vec Ideal S40x128 .f32) (x2 x3 : Vec Ideal S1x40x128 .f32) (j : S1x40x128.Idx)

theorem body4 : out0_4 x0 x1 x2 x3 j = each keep x0 x1 x2 x3 j := by
  unfold out0_4
  rw [View.canon_unit_zero origin3, View.ld_unit_zero (S := S40x128) origin]
  exact stored_keep x0 x2 x3 x1 shapeCasts_S40x128_S1x40x128 j
theorem body5 : out0_5 x0 x1 x2 x3 j = each delta x0 x1 x2 x3 j := by
  unfold out0_5
  rw [View.canon_unit_zero origin3, View.ld_unit_zero (S := S40x128) origin]
  simp only [View.ld_unit_zero (S := S1x40x128) origin3]
  exact stored_delta x0 x2 x3 x1 shapeCasts_S1x40x128_S40x128 shapeCasts_S40x128_S1x40x128 j
theorem body6 : out0_6 x0 x1 x2 x3 j = each first x0 x1 x2 x3 j := by
  unfold out0_6
  rw [View.canon_unit_zero origin3, View.ld_unit_zero (S := S40x128) origin, View.ld_unit_zero (S := S1x40x128) origin3]
  exact stored_first x0 x2 x3 x1 shapeCasts_S1x40x128_S40x128 shapeCasts_S40x128_S1x40x128 j
theorem body7 : out0_7 x0 x1 x2 x3 j = each second x0 x1 x2 x3 j := by
  unfold out0_7
  rw [View.canon_unit_zero origin3, View.ld_unit_zero (S := S40x128) origin, View.ld_unit_zero (S := S1x40x128) origin3]
  exact stored_second x0 x2 x3 x1 shapeCasts_S1x40x128_S40x128 shapeCasts_S40x128_S1x40x128 j

end Body

variable (m : (ℓ : Loc nD τ sig) → Buf (Elt Ideal) ℓ) (ρ : Dev nD → PrngReg) (c : Dev nD)

theorem at0 : ∀ t : Fin cfg0.N, win0_0.index t = ![0, t.val, 0] ∧ win0_1.index t = ![t.val, 0] :=
  (by decide +kernel : ∀ t : Fin grid0.N, win0_0.index t = ![0, t.val, 0] ∧ win0_1.index t = ![t.val, 0])

/-- A matrix as a stack of one. -/
def up (x : S2360x128.Idx → EReal) : S1x2360x128.Idx → EReal := fun i => x (ix2 (i 1) (i 2))
theorem layer (x : S2360x128.Idx → EReal) : broadcastInDim S1x2360x128 ![1, 2] bcast_S2360x128_S1x2360x128_1_2 x = up x :=
  funext fun i => broadcastInDim_apply _ bcast_S2360x128_S1x2360x128_1_2 x i (ix2 (i 1) (i 2)) fun a => match a with
    | ⟨0, _⟩ => by show (i 1).val = if (2360 : Nat) = 1 then 0 else (i 1).val; rw [if_neg (by decide)]
    | ⟨1, _⟩ => by show (i 2).val = if (128 : Nat) = 1 then 0 else (i 2).val; rw [if_neg (by decide)]
theorem V0 : V m c main_v0 = up (m ((c : Thread nD τ).loc main_arg0)) := by
  refine Eq.trans ?_ (layer _)
  show StableHlo.after hostOps0 _ (Proc.devRef .tc main_v0) = _
  after_results
theorem V1 : V m c main_v1 = up (m ((c : Thread nD τ).loc main_arg2)) := by
  refine Eq.trans ?_ (layer _)
  show StableHlo.after hostOps0 _ (Proc.devRef .tc main_v1) = _
  after_results
theorem V2 : V m c main_v2 = up (m ((c : Thread nD τ).loc main_arg3)) := by
  refine Eq.trans ?_ (layer _)
  show StableHlo.after hostOps0 _ (Proc.devRef .tc main_v2) = _
  after_results

/-- The arrays' step, entry by entry. -/
abbrev whole (f : EReal → EReal → EReal → EReal → EReal) : S1x2360x128.Idx → EReal :=
  layered f (up (m ((c : Thread nD τ).loc main_arg0))) (m ((c : Thread nD τ).loc main_arg1))
    (up (m ((c : Thread nD τ).loc main_arg2))) (up (m ((c : Thread nD τ).loc main_arg3)))

theorem blocks (f : EReal → EReal → EReal → EReal → EReal) (t : Fin cfg0.N) (j : S1x40x128.Idx) :
    each f (iblk m c 0 t) (iblk m c 1 t) (iblk m c 2 t) (iblk m c 3 t) j = whole m c f ((win0_0.rect t).idx j) :=
  block_steps f (x := win0_0.index t) (y := win0_1.index t) (win0_0.rect t).idx (win0_1.rect t).idx (fun _ => rfl) (fun _ => rfl)
    (fun _ => rfl) (fun _ => rfl) (by rw [(at0 t).1, (at0 t).2]; rfl) (by rw [(at0 t).1, (at0 t).2]; rfl) (fun _ => congrFun (V0 m c) _)
    (fun _ => congrFun (V_main_arg1 m c) _) (fun _ => congrFun (V1 m c) _) (fun _ => congrFun (V2 m c) _) j
/-- Every entry of a result lies in some point's block. -/
theorem covered (i : S1x2360x128.Idx) : ∃ t : Fin cfg0.N, i ∈ (win0_0.rect t).set := by
  have hi : (i 1).val / 40 < cfg0.N := by
    rw [show cfg0.N = 59 from by decide +kernel]
    exact Nat.div_lt_of_lt_mul (show (i 1).val < 40 * 59 from (i 1).isLt)
  exact ⟨⟨_, hi⟩, Rect.mem_set_unit.2
    (in_rows (by decide) i (Nat.lt_one_iff.1 (show (i 0).val < 1 from (i 0).isLt)) (at0 ⟨_, hi⟩).1)⟩

theorem final4 : (dats m 0 c).arrAt 4 cfg0.N = whole m c keep := by
  refine (dats m 0 c).arrAt_eq_of_cover 4 _
    (fun t _ => (Value.flushed4 ..).trans (funext fun j => (body4 _ _ _ _ j).trans (blocks m c _ t j)))
    fun i => (covered i).imp fun t ht => ⟨flush0_4 t, ?_⟩
  show i ∈ ((View.whole main_v3_0).slice (win0_4.rect t)).set
  rw [View.set_slice_whole]
  exact ht
theorem final5 : (dats m 0 c).arrAt 5 cfg0.N = whole m c delta := by
  refine (dats m 0 c).arrAt_eq_of_cover 5 _
    (fun t _ => (Value.flushed5 ..).trans (funext fun j => (body5 _ _ _ _ j).trans (blocks m c _ t j)))
    fun i => (covered i).imp fun t ht => ⟨flush0_5 t, ?_⟩
  show i ∈ ((View.whole main_v3_1).slice (win0_5.rect t)).set
  rw [View.set_slice_whole]
  exact ht
theorem final6 : (dats m 0 c).arrAt 6 cfg0.N = whole m c first := by
  refine (dats m 0 c).arrAt_eq_of_cover 6 _
    (fun t _ => (Value.flushed6 ..).trans (funext fun j => (body6 _ _ _ _ j).trans (blocks m c _ t j)))
    fun i => (covered i).imp fun t ht => ⟨flush0_6 t, ?_⟩
  show i ∈ ((View.whole main_v3_2).slice (win0_6.rect t)).set
  rw [View.set_slice_whole]
  exact ht
theorem final7 : (dats m 0 c).arrAt 7 cfg0.N = whole m c second := by
  refine (dats m 0 c).arrAt_eq_of_cover 7 _
    (fun t _ => (Value.flushed7 ..).trans (funext fun j => (body7 _ _ _ _ j).trans (blocks m c _ t j)))
    fun i => (covered i).imp fun t ht => ⟨flush0_7 t, ?_⟩
  show i ∈ ((View.whole main_v3_3).slice (win0_7.rect t)).set
  rw [View.set_slice_whole]
  exact ht

/-- The kernel's run: its results are the steps of its arguments, which it keeps. -/
theorem run : θ_run defs (onTc (τ := τ) (main (F := Ideal))) ⟨m, fun _ => 0, ρ⟩ fun r => ∀ c : Dev nD,
      r.2.mem ((c : Thread nD τ).loc main_v3_0) = whole m c keep
      ∧ r.2.mem ((c : Thread nD τ).loc main_v3_1) = whole m c delta
      ∧ r.2.mem ((c : Thread nD τ).loc main_v3_2) = whole m c first
      ∧ r.2.mem ((c : Thread nD τ).loc main_v3_3) = whole m c second
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2.1.trans (final6 m c),
    (h c).2.2.2.1.trans (final7 m c), (h c).2.2.2.2⟩) (Value.run_blocks m ρ)

section Reference

open Cert.AdamReferenceIdeal.Read

variable (x0 x1 x2 x3 : S2360x128.Idx → EReal)

theorem reference_grad : val_main_v24 (F := Ideal) x1 = layered keep (up x0) x1 (up x2) (up x3) := layer x1
theorem reference_moment : val_main_v26 (F := Ideal) x1 x2 = layered first (up x0) x1 (up x2) (up x3) :=
  (layer (val_main_v4 (F := Ideal) x1 x2)).trans rfl
theorem reference_spread : val_main_v27 (F := Ideal) x1 x3 = layered second (up x0) x1 (up x2) (up x3) :=
  (layer (val_main_v10 (F := Ideal) x1 x3)).trans rfl
theorem reference_delta : val_main_v25 (F := Ideal) x0 x1 x2 x3 = layered delta (up x0) x1 (up x2) (up x3) :=
  (layer (val_main_v23 (F := Ideal) x0 x1 x2 x3)).trans rfl

end Reference

end Cert.AdamIdeal.Grad

end
-- ==== Proof.Sum.lean ====
/- The sum of the packed small gradients over the eight devices: each block of the kernel's result adds the block's eight slots,
   one after the other, and the reference sums over the axis of the slots. -/
module

public import proofs.«01_k».proof.Proof.Product
public import proofs.«01_k».proof.Proof.Gen.SumIdeal.Value
public import proofs.«01_k».proof.Proof.Gen.SumReferenceIdeal.Run
public import proofs.«01_k».proof.Proof.Gen.SumReferenceIdeal.Read

@[expose] public section

noncomputable section

namespace Cert.SumIdeal.Grad

open Cert.SumIdeal Cert.SumIdeal.Gen Cert.Product Idealize.ShloMosaic Idealize.ShloMosaic.ValueIdx
open Idealize.ShloMosaic.TcCoe Idealize.SL.Sem

/-- The result: the slots' sum, entry by entry. -/
def total (x : S8x2360x128.Idx → EReal) : S2360x128.Idx → EReal := fun i => ∑ k : Fin 8, x (ix3 k (i 0) (i 1))

/-- One slot of a block, as the matrix that the body adds. -/
theorem slot (x : Vec Ideal S8x472x128 .f32) (k : Fin 8) (inb : ∀ a, ![k.val, 0, 0] a + S1x472x128.size a ≤ S8x472x128.size a)
    (p : Fin 472) (q : Fin 128) :
    shapeCast S472x128 (View.ld (Val := Elt Ideal) (e' := .f32) x (Rect.unit (s := S8x472x128) ![k.val, 0, 0] S1x472x128.size inb))
      shapeCasts_S1x472x128_S472x128 (ix2 p q) = x (ix3 k p q) :=
  (shapeCast_1ab_ab_apply ..).trans (congrArg x (triple_ext (by show k.val + 1 * 0 = k.val; omega)
    (by show 0 + 1 * p.val = p.val; omega) (by show 0 + 1 * q.val = q.val; omega)))

theorem body (x : Vec Ideal S8x472x128 .f32) (j : S472x128.Idx) : out0_1 x j = ∑ k : Fin 8, x (ix3 k (j 0) (j 1)) := by
  unfold out0_1 r0_8
  rw [View.canon_unit_zero origin, Fin.sum_univ_eight]
  obtain ⟨p, q, rfl⟩ : ∃ p q, j = ix2 p q := ⟨j 0, j 1, pair_ext rfl rfl⟩
  exact congrArg₂ (· + ·) (congrArg₂ (· + ·) (congrArg₂ (· + ·) (congrArg₂ (· + ·) (congrArg₂ (· + ·) (congrArg₂ (· + ·)
    (congrArg₂ (· + ·) (slot x 0 inb_S8x472x128_S1x472x128_0_0_0 p q) (slot x 1 inb_S8x472x128_S1x472x128_1_0_0 p q))
    (slot x 2 inb_S8x472x128_S1x472x128_2_0_0 p q)) (slot x 3 inb_S8x472x128_S1x472x128_3_0_0 p q))
    (slot x 4 inb_S8x472x128_S1x472x128_4_0_0 p q)) (slot x 5 inb_S8x472x128_S1x472x128_5_0_0 p q))
    (slot x 6 inb_S8x472x128_S1x472x128_6_0_0 p q)) (slot x 7 inb_S8x472x128_S1x472x128_7_0_0 p q)

variable (m : (ℓ : Loc nD τ sig) → Buf (Elt Ideal) ℓ) (ρ : Dev nD → PrngReg) (c : Dev nD)

theorem at0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem at1 : ∀ t : Fin cfg0.N, win0_1.index t 0 = t.val ∧ win0_1.index t 1 = 0 :=
  (by decide +kernel : ∀ t : Fin grid0.N, win0_1.index t 0 = t.val ∧ win0_1.index t 1 = 0)
theorem flush1 : ∀ t : Fin cfg0.N, win0_1.flush t = true := (by decide +kernel : ∀ t : Fin grid0.N, win0_1.flush t = true)

theorem block0 (t : Fin cfg0.N) (j : S8x472x128.Idx) (i : S8x2360x128.Idx) (h0 : (i 0).val = (j 0).val)
    (h1 : (i 1).val = t.val * 472 + (j 1).val) (h2 : (i 2).val = (j 2).val) :
    iblk m c 0 t j = m ((c : Thread nD τ).loc main_arg0) i := by
  obtain ⟨a0, a1, a2⟩ := at0 t
  unfold iblk
  rw [View.read_apply]
  show V m c main_arg0 _ = _
  rw [V_main_arg0]
  exact congrArg _ (triple_ext (by show win0_0.index t 0 * 8 + 1 * (j 0).val = _; omega)
    (by show win0_0.index t 1 * 472 + 1 * (j 1).val = _; omega) (by show win0_0.index t 2 * 128 + 1 * (j 2).val = _; omega))

theorem final : (dats m 0 c).arrAt 1 cfg0.N = total (m ((c : Thread nD τ).loc main_arg0)) := by
  refine (dats m 0 c).arrAt_eq_of_cover 1 _ (fun t _ => ?_) fun i => ?_
  · rw [Value.flushed1]
    funext j
    rw [View.read_apply]
    obtain ⟨a0, a1⟩ := at1 t
    have e0 (p : S2360x128.Idx) (hp : p = ((cfg0.win 1).blk t).view.emb j) : (p 0).val = t.val * 472 + (j 0).val
        ∧ (p 1).val = (j 1).val := by
      subst hp
      exact ⟨by show win0_1.index t 0 * 472 + 1 * (j 0).val = _; omega, by show win0_1.index t 1 * 128 + 1 * (j 1).val = _; omega⟩
    refine (body _ j).trans ?_
    generalize hp : ((cfg0.win 1).blk t).view.emb j = p
    obtain ⟨p0, p1⟩ := e0 p hp.symm
    exact Finset.sum_congr (M := EReal) rfl fun k _ => block0 m c t (ix3 k (j 0) (j 1)) (ix3 k (p 0) (p 1)) rfl p0 p1
  · have hi0 : (i 0).val < 2360 := (i 0).isLt
    have hi1 : (i 1).val < 128 := (i 1).isLt
    have hN : cfg0.N = 5 := by decide +kernel
    obtain ⟨t, ht⟩ : ∃ t : Fin cfg0.N, t.val = (i 0).val / 472 := ⟨⟨(i 0).val / 472, by omega⟩, rfl⟩
    refine ⟨t, flush1 t, ?_⟩
    obtain ⟨a0, a1⟩ := at1 t
    show i ∈ ((View.whole main_v0).slice (win0_1.rect t)).set
    rw [View.set_slice_whole, Rect.mem_set_unit]
    intro a
    match a with
    | ⟨0, _⟩ => show win0_1.index t 0 * 472 ≤ (i 0).val ∧ (i 0).val < win0_1.index t 0 * 472 + 472
                rw [a0, ht]; show (i 0).val / 472 * 472 ≤ _ ∧ _ < (i 0).val / 472 * 472 + 472; omega
    | ⟨1, _⟩ => show win0_1.index t 1 * 128 ≤ (i 1).val ∧ (i 1).val < win0_1.index t 1 * 128 + 128
                rw [a1]; omega

/-- The kernel's run: its result is the sum of its argument's slots, and it keeps the argument. -/
theorem run : θ_run defs (onTc (τ := τ) (main (F := Ideal))) ⟨m, fun _ => 0, ρ⟩ fun r => ∀ c : Dev nD,
      r.2.mem ((c : Thread nD τ).loc main_v0) = total (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

/-- The reference's result is the same sum. -/
theorem reference (x0 : S8x2360x128.Idx → EReal) :
    Cert.SumReferenceIdeal.Read.val_main_v0 (F := Ideal) x0 = total x0 := funext fun i => by
  rw [Cert.SumReferenceIdeal.Read.val_main_v0_apply]
  have e : ∑ k : Fin 8, x0 (Cert.SumReferenceIdeal.Read.idx_main_v0 i k) = total x0 i :=
    Finset.sum_congr rfl fun k _ => congrArg x0 (triple_ext rfl rfl rfl)
  rw [e]
  exact (congrArg (· + total x0 i) Ideal.ofBits_zero_f32).trans (zero_add _)

end Cert.SumIdeal.Grad

end
-- ==== Proof.AdamO.lean ====
/- AdamW on a shard of the weight of the output projection: a call for each layer, the second writing into what the first returns. Each entry of
   the four results is the step of its layer's gradient, and so is the reference's. -/
module

public import proofs.«01_k».proof.Proof.Step
public import proofs.«01_k».proof.Proof.Gen.AdamOIdeal.Frame
public import proofs.«01_k».proof.Proof.Gen.AdamOReferenceIdeal.Run
public import proofs.«01_k».proof.Proof.Gen.AdamOReferenceIdeal.Read
public import Idealize.ShloMosaic.Lib.StableHlo.Run

@[expose] public section

noncomputable section

namespace Cert.AdamOIdeal.Grad

open Cert.AdamOIdeal Cert.AdamOIdeal.Gen Cert.Product Cert.Step Idealize.ShloMosaic Idealize.ShloMosaic.ValueIdx
open Idealize.ShloMosaic.TcCoe Idealize.ShloMosaic.Tactic Idealize.SL Idealize.SL.RA Idealize.SL.BI Idealize.SL.Sem
open scoped Idealize.SL.BI
open Idealize.SL.BI.BIBase Idealize.SL.BI.Laws Idealize.SL.ProofMode Idealize.ShloMosaic.Rounds
open Idealize.ShloMosaic.Pipeline (Dat cellOf)

section Body

/-! The stored blocks: of the first call, -/

variable (x0 : Vec Ideal S1x256x2048 .f32) (x1 : Vec Ideal S256x2048 .f32) (x2 x3 : Vec Ideal S1x256x2048 .f32) (j : S1x256x2048.Idx)

theorem body0_4 : out0_4 x0 x1 x2 x3 j = each keep x0 x1 x2 x3 j := by
  unfold out0_4
  rw [View.canon_unit_zero origin3, View.ld_unit_zero (S := S256x2048) origin]
  exact stored_keep x0 x2 x3 x1 shapeCasts_S256x2048_S1x256x2048 j
theorem body0_5 : out0_5 x0 x1 x2 x3 j = each delta x0 x1 x2 x3 j := by
  unfold out0_5
  rw [View.canon_unit_zero origin3, View.ld_unit_zero (S := S256x2048) origin]
  simp only [View.ld_unit_zero (S := S1x256x2048) origin3]
  exact stored_delta x0 x2 x3 x1 shapeCasts_S1x256x2048_S256x2048 shapeCasts_S256x2048_S1x256x2048 j
theorem body0_6 : out0_6 x0 x1 x2 x3 j = each first x0 x1 x2 x3 j := by
  unfold out0_6
  rw [View.canon_unit_zero origin3, View.ld_unit_zero (S := S256x2048) origin, View.ld_unit_zero (S := S1x256x2048) origin3]
  exact stored_first x0 x2 x3 x1 shapeCasts_S1x256x2048_S256x2048 shapeCasts_S256x2048_S1x256x2048 j
theorem body0_7 : out0_7 x0 x1 x2 x3 j = each second x0 x1 x2 x3 j := by
  unfold out0_7
  rw [View.canon_unit_zero origin3, View.ld_unit_zero (S := S256x2048) origin, View.ld_unit_zero (S := S1x256x2048) origin3]
  exact stored_second x0 x2 x3 x1 shapeCasts_S1x256x2048_S256x2048 shapeCasts_S256x2048_S1x256x2048 j

/-! and of the second. -/

variable (c : Dev nD) (i : grid1.Coords)
  (arg1 : Memref sig .tc .vmem S1x256x2048 .f32) (h1 : arg1.IsWhole) (arg2 : Memref sig .tc .vmem S256x2048 .f32) (h2 : arg2.IsWhole)
  (arg3 : Memref sig .tc .vmem S1x256x2048 .f32) (h3 : arg3.IsWhole) (arg4 : Memref sig .tc .vmem S1x256x2048 .f32) (h4 : arg4.IsWhole)
  (arg9 : Memref sig .tc .vmem S1x256x2048 .f32) (h9 : arg9.IsWhole) (arg10 : Memref sig .tc .vmem S1x256x2048 .f32) (h10 : arg10.IsWhole)
  (arg11 : Memref sig .tc .vmem S1x256x2048 .f32) (h11 : arg11.IsWhole) (arg12 : Memref sig .tc .vmem S1x256x2048 .f32) (h12 : arg12.IsWhole)

theorem body1_4 : out1_A_4 c i arg1 h1 arg2 h2 arg3 h3 arg4 h4 arg9 h9 arg10 h10 arg11 h11 arg12 h12 x0 x1 x2 x3 j = each keep x0 x1 x2 x3 j := by
  unfold out1_A_4
  rw [View.read_writes_eq_canon _ _ _ (fun y => cover1_A_4 (y := y) ..)]
  unfold kernelRun1_A
  dsimp only
  sl_unfold_words
  simp only [View.readAt_eq_ld, h1.read_unread, h2.read_unread, h3.read_unread, h4.read_unread,
    View.ld_unit_zero (S := S256x2048) origin, View.ld_unit_zero (S := S1x256x2048) origin3]
  rw [View.canon_unit_zero origin3]
  exact stored_keep x0 x2 x3 x1 shapeCasts_S256x2048_S1x256x2048 j
theorem body1_5 : out1_A_5 c i arg1 h1 arg2 h2 arg3 h3 arg4 h4 arg9 h9 arg10 h10 arg11 h11 arg12 h12 x0 x1 x2 x3 j = each delta x0 x1 x2 x3 j := by
  unfold out1_A_5
  rw [View.read_writes_eq_canon _ _ _ (fun y => cover1_A_5 (y := y) ..)]
  unfold kernelRun1_A
  dsimp only
  sl_unfold_words
  simp only [View.readAt_eq_ld, h1.read_unread, h2.read_unread, h3.read_unread, h4.read_unread,
    View.ld_unit_zero (S := S256x2048) origin, View.ld_unit_zero (S := S1x256x2048) origin3]
  rw [View.canon_unit_zero origin3]
  exact stored_delta x0 x2 x3 x1 shapeCasts_S1x256x2048_S256x2048 shapeCasts_S256x2048_S1x256x2048 j
theorem body1_6 : out1_A_6 c i arg1 h1 arg2 h2 arg3 h3 arg4 h4 arg9 h9 arg10 h10 arg11 h11 arg12 h12 x0 x1 x2 x3 j = each first x0 x1 x2 x3 j := by
  unfold out1_A_6
  rw [View.read_writes_eq_canon _ _ _ (fun y => cover1_A_6 (y := y) ..)]
  unfold kernelRun1_A
  dsimp only
  sl_unfold_words
  simp only [View.readAt_eq_ld, h1.read_unread, h2.read_unread, h3.read_unread, h4.read_unread,
    View.ld_unit_zero (S := S256x2048) origin, View.ld_unit_zero (S := S1x256x2048) origin3]
  rw [View.canon_unit_zero origin3]
  exact stored_first x0 x2 x3 x1 shapeCasts_S1x256x2048_S256x2048 shapeCasts_S256x2048_S1x256x2048 j
theorem body1_7 : out1_A_7 c i arg1 h1 arg2 h2 arg3 h3 arg4 h4 arg9 h9 arg10 h10 arg11 h11 arg12 h12 x0 x1 x2 x3 j = each second x0 x1 x2 x3 j := by
  unfold out1_A_7
  rw [View.read_writes_eq_canon _ _ _ (fun y => cover1_A_7 (y := y) ..)]
  unfold kernelRun1_A
  dsimp only
  sl_unfold_words
  simp only [View.readAt_eq_ld, h1.read_unread, h2.read_unread, h3.read_unread, h4.read_unread,
    View.ld_unit_zero (S := S256x2048) origin, View.ld_unit_zero (S := S1x256x2048) origin3]
  rw [View.canon_unit_zero origin3]
  exact stored_second x0 x2 x3 x1 shapeCasts_S1x256x2048_S256x2048 shapeCasts_S256x2048_S1x256x2048 j

end Body

/-! ## What each call leaves -/

variable (V : (c : Dev nD) → (b : Ref sig .tc) → Buf (Elt Ideal) ((c : Thread nD τ).loc b)) (c : Dev nD)

theorem at0 : ∀ t : Fin cfg0.N, win0_0.index t = ![1, t.val, 0] ∧ win0_1.index t = ![t.val, 0] :=
  (by decide +kernel : ∀ t : Fin grid0.N, win0_0.index t = ![1, t.val, 0] ∧ win0_1.index t = ![t.val, 0])
theorem blocks0 (f : EReal → EReal → EReal → EReal → EReal) (t : Fin cfg0.N) (j : S1x256x2048.Idx) :
    each f (iblk0 V c 0 t) (iblk0 V c 1 t) (iblk0 V c 2 t) (iblk0 V c 3 t) j
      = layered f (V c main_arg0) (V c main_arg2) (V c main_arg3) (V c main_arg4) ((win0_0.rect t).idx j) :=
  block_steps f (x := win0_0.index t) (y := win0_1.index t) (win0_0.rect t).idx (win0_1.rect t).idx (fun _ => rfl) (fun _ => rfl)
    (fun _ => rfl) (fun _ => rfl) (by rw [(at0 t).1, (at0 t).2]; rfl) (by rw [(at0 t).1, (at0 t).2]; rfl) (fun _ => rfl) (fun _ => rfl)
    (fun _ => rfl) (fun _ => rfl) j
theorem covered0 (i : S2x512x2048.Idx) (h : (i 0).val = 1) : ∃ t : Fin cfg0.N, i ∈ (win0_0.rect t).set := by
  have hi : (i 1).val / 256 < cfg0.N := by
    rw [show cfg0.N = 2 from by decide +kernel]
    exact Nat.div_lt_of_lt_mul (show (i 1).val < 256 * 2 from (i 1).isLt)
  exact ⟨⟨_, hi⟩, Rect.mem_set_unit.2 (in_rows (by decide) i h (at0 ⟨_, hi⟩).1)⟩

theorem left0_4 (i : S2x512x2048.Idx) (h : (i 0).val = 1) : (dat0 V c).arrAt 4 cfg0.N i
    = layered keep (V c main_arg0) (V c main_arg2) (V c main_arg3) (V c main_arg4) i := by
  obtain ⟨t, ht⟩ := covered0 i h
  refine (dat0 V c).arrAt_apply_of_mem 4 (layered keep (V c main_arg0) (V c main_arg2) (V c main_arg3) (V c main_arg4))
    (fun t _ => (after0_4 ..).trans (funext fun j => (body0_4 _ _ _ _ j).trans (blocks0 V c keep t j))) cfg0.N t i t.isLt (flush0_4 t) ?_
  show i ∈ ((View.whole main_v0_0).slice (win0_4.rect t)).set
  rw [View.set_slice_whole]
  exact ht
theorem left0_5 (i : S2x512x2048.Idx) (h : (i 0).val = 1) : (dat0 V c).arrAt 5 cfg0.N i
    = layered delta (V c main_arg0) (V c main_arg2) (V c main_arg3) (V c main_arg4) i := by
  obtain ⟨t, ht⟩ := covered0 i h
  refine (dat0 V c).arrAt_apply_of_mem 5 (layered delta (V c main_arg0) (V c main_arg2) (V c main_arg3) (V c main_arg4))
    (fun t _ => (after0_5 ..).trans (funext fun j => (body0_5 _ _ _ _ j).trans (blocks0 V c delta t j))) cfg0.N t i t.isLt (flush0_5 t) ?_
  show i ∈ ((View.whole main_v0_1).slice (win0_5.rect t)).set
  rw [View.set_slice_whole]
  exact ht
theorem left0_6 (i : S2x512x2048.Idx) (h : (i 0).val = 1) : (dat0 V c).arrAt 6 cfg0.N i
    = layered first (V c main_arg0) (V c main_arg2) (V c main_arg3) (V c main_arg4) i := by
  obtain ⟨t, ht⟩ := covered0 i h
  refine (dat0 V c).arrAt_apply_of_mem 6 (layered first (V c main_arg0) (V c main_arg2) (V c main_arg3) (V c main_arg4))
    (fun t _ => (after0_6 ..).trans (funext fun j => (body0_6 _ _ _ _ j).trans (blocks0 V c first t j))) cfg0.N t i t.isLt (flush0_6 t) ?_
  show i ∈ ((View.whole main_v0_2).slice (win0_6.rect t)).set
  rw [View.set_slice_whole]
  exact ht
theorem left0_7 (i : S2x512x2048.Idx) (h : (i 0).val = 1) : (dat0 V c).arrAt 7 cfg0.N i
    = layered second (V c main_arg0) (V c main_arg2) (V c main_arg3) (V c main_arg4) i := by
  obtain ⟨t, ht⟩ := covered0 i h
  refine (dat0 V c).arrAt_apply_of_mem 7 (layered second (V c main_arg0) (V c main_arg2) (V c main_arg3) (V c main_arg4))
    (fun t _ => (after0_7 ..).trans (funext fun j => (body0_7 _ _ _ _ j).trans (blocks0 V c second t j))) cfg0.N t i t.isLt (flush0_7 t) ?_
  show i ∈ ((View.whole main_v0_3).slice (win0_7.rect t)).set
  rw [View.set_slice_whole]
  exact ht

theorem at1 : ∀ t : Fin cfg1.N, win1_0.index t = ![0, t.val, 0] ∧ win1_1.index t = ![t.val, 0] :=
  (by decide +kernel : ∀ t : Fin grid1.N, win1_0.index t = ![0, t.val, 0] ∧ win1_1.index t = ![t.val, 0])
theorem blocks1 (f : EReal → EReal → EReal → EReal → EReal) (t : Fin cfg1.N) (j : S1x256x2048.Idx) :
    each f (iblk1 V c 0 t) (iblk1 V c 1 t) (iblk1 V c 2 t) (iblk1 V c 3 t) j
      = layered f (V c main_arg0) (V c main_arg1) (V c main_arg3) (V c main_arg4) ((win1_0.rect t).idx j) :=
  block_steps f (x := win1_0.index t) (y := win1_1.index t) (win1_0.rect t).idx (win1_1.rect t).idx (fun _ => rfl) (fun _ => rfl)
    (fun _ => rfl) (fun _ => rfl) (by rw [(at1 t).1, (at1 t).2]; rfl) (by rw [(at1 t).1, (at1 t).2]; rfl) (fun _ => rfl) (fun _ => rfl)
    (fun _ => rfl) (fun _ => rfl) j
theorem covered1 (i : S2x512x2048.Idx) (h : (i 0).val = 0) : ∃ t : Fin cfg1.N, i ∈ (win1_0.rect t).set := by
  have hi : (i 1).val / 256 < cfg1.N := by
    rw [show cfg1.N = 2 from by decide +kernel]
    exact Nat.div_lt_of_lt_mul (show (i 1).val < 256 * 2 from (i 1).isLt)
  exact ⟨⟨_, hi⟩, Rect.mem_set_unit.2 (in_rows (by decide) i h (at1 ⟨_, hi⟩).1)⟩

theorem outs1_4 (t : Fin cfg1.N) : (outsAt1 V c t).1 = each keep (iblk1 V c 0 t) (iblk1 V c 1 t) (iblk1 V c 2 t) (iblk1 V c 3 t) := by
  unfold outsAt1
  dsimp only
  generalize iblk1 V c 0 t = y0, iblk1 V c 1 t = y1, iblk1 V c 2 t = y2, iblk1 V c 3 t = y3
  exact funext fun j => body1_4 y0 y1 y2 y3 j ..
theorem left1_4 (i : S2x512x2048.Idx) (h : (i 0).val = 0) : (dat1 V c).arrAt 4 cfg1.N i
    = layered keep (V c main_arg0) (V c main_arg1) (V c main_arg3) (V c main_arg4) i := by
  obtain ⟨t, ht⟩ := covered1 i h
  refine (dat1 V c).arrAt_apply_of_mem 4 (layered keep (V c main_arg0) (V c main_arg1) (V c main_arg3) (V c main_arg4))
    (fun t _ => (after1_4 ..).trans (funext fun j => (congrFun (outs1_4 V c t) j).trans (blocks1 V c keep t j))) cfg1.N t i t.isLt (flush1_4 t) ?_
  show i ∈ ((View.whole main_v1_0).slice (win1_4.rect t)).set
  rw [View.set_slice_whole]
  exact ht
theorem outs1_5 (t : Fin cfg1.N) : (outsAt1 V c t).2.1 = each delta (iblk1 V c 0 t) (iblk1 V c 1 t) (iblk1 V c 2 t) (iblk1 V c 3 t) := by
  unfold outsAt1
  dsimp only
  generalize iblk1 V c 0 t = y0, iblk1 V c 1 t = y1, iblk1 V c 2 t = y2, iblk1 V c 3 t = y3
  exact funext fun j => body1_5 y0 y1 y2 y3 j ..
theorem left1_5 (i : S2x512x2048.Idx) (h : (i 0).val = 0) : (dat1 V c).arrAt 5 cfg1.N i
    = layered delta (V c main_arg0) (V c main_arg1) (V c main_arg3) (V c main_arg4) i := by
  obtain ⟨t, ht⟩ := covered1 i h
  refine (dat1 V c).arrAt_apply_of_mem 5 (layered delta (V c main_arg0) (V c main_arg1) (V c main_arg3) (V c main_arg4))
    (fun t _ => (after1_5 ..).trans (funext fun j => (congrFun (outs1_5 V c t) j).trans (blocks1 V c delta t j))) cfg1.N t i t.isLt (flush1_5 t) ?_
  show i ∈ ((View.whole main_v1_1).slice (win1_5.rect t)).set
  rw [View.set_slice_whole]
  exact ht
theorem outs1_6 (t : Fin cfg1.N) : (outsAt1 V c t).2.2.1 = each first (iblk1 V c 0 t) (iblk1 V c 1 t) (iblk1 V c 2 t) (iblk1 V c 3 t) := by
  unfold outsAt1
  dsimp only
  generalize iblk1 V c 0 t = y0, iblk1 V c 1 t = y1, iblk1 V c 2 t = y2, iblk1 V c 3 t = y3
  exact funext fun j => body1_6 y0 y1 y2 y3 j ..
theorem left1_6 (i : S2x512x2048.Idx) (h : (i 0).val = 0) : (dat1 V c).arrAt 6 cfg1.N i
    = layered first (V c main_arg0) (V c main_arg1) (V c main_arg3) (V c main_arg4) i := by
  obtain ⟨t, ht⟩ := covered1 i h
  refine (dat1 V c).arrAt_apply_of_mem 6 (layered first (V c main_arg0) (V c main_arg1) (V c main_arg3) (V c main_arg4))
    (fun t _ => (after1_6 ..).trans (funext fun j => (congrFun (outs1_6 V c t) j).trans (blocks1 V c first t j))) cfg1.N t i t.isLt (flush1_6 t) ?_
  show i ∈ ((View.whole main_v1_2).slice (win1_6.rect t)).set
  rw [View.set_slice_whole]
  exact ht
theorem outs1_7 (t : Fin cfg1.N) : (outsAt1 V c t).2.2.2 = each second (iblk1 V c 0 t) (iblk1 V c 1 t) (iblk1 V c 2 t) (iblk1 V c 3 t) := by
  unfold outsAt1
  dsimp only
  generalize iblk1 V c 0 t = y0, iblk1 V c 1 t = y1, iblk1 V c 2 t = y2, iblk1 V c 3 t = y3
  exact funext fun j => body1_7 y0 y1 y2 y3 j ..
theorem left1_7 (i : S2x512x2048.Idx) (h : (i 0).val = 0) : (dat1 V c).arrAt 7 cfg1.N i
    = layered second (V c main_arg0) (V c main_arg1) (V c main_arg3) (V c main_arg4) i := by
  obtain ⟨t, ht⟩ := covered1 i h
  refine (dat1 V c).arrAt_apply_of_mem 7 (layered second (V c main_arg0) (V c main_arg1) (V c main_arg3) (V c main_arg4))
    (fun t _ => (after1_7 ..).trans (funext fun j => (congrFun (outs1_7 V c t) j).trans (blocks1 V c second t j))) cfg1.N t i t.isLt (flush1_7 t) ?_
  show i ∈ ((View.whole main_v1_3).slice (win1_7.rect t)).set
  rw [View.set_slice_whole]
  exact ht

/-- What the second call does not write. -/
theorem outside (i : S2x512x2048.Idx) (h : (i 0).val = 1) (t : Fin cfg1.N) : i ∉ (win1_0.rect t).set := fun hm => by
  have h0 : win1_0.index t 0 * 1 ≤ (i 0).val ∧ (i 0).val < win1_0.index t 0 * 1 + 1 := Rect.mem_set_unit.1 hm 0
  rw [(at1 t).1, h] at h0
  exact absurd h0.2 (show ¬ 1 < 0 * 1 + 1 by decide)

/-! ## The results -/

variable (m : (ℓ : Loc nD τ sig) → Buf (Elt Ideal) ℓ) (ρ : Dev nD → PrngReg)

/-- The stepped arrays of both layers. -/
abbrev whole (f : EReal → EReal → EReal → EReal → EReal) : S2x512x2048.Idx → EReal :=
  stepped f (m ((c : Thread nD τ).loc main_arg0)) (m ((c : Thread nD τ).loc main_arg1)) (m ((c : Thread nD τ).loc main_arg2))
    (m ((c : Thread nD τ).loc main_arg3)) (m ((c : Thread nD τ).loc main_arg4))

theorem kept (a : Ref sig .tc) (h : a ∈ argRefs) : V2 m ρ c a = m ((c : Thread nD τ).loc a) := W2_args m ρ c a h

theorem carried4 : W2 m ρ c (Proc.devRef .tc main_v1_0) = W1 m ρ c (Proc.devRef .tc main_v0_0) := by
  show StableHlo.after hostOps1 _ (Proc.devRef .tc main_v1_0) = _
  after_results
  rfl
theorem final4 : W3 m ρ c main_v1_0 = whole c m keep := by
  refine (W3_arr m ρ c 4).trans (two_layers (fun i h => ?_) fun i h => ?_)
  · rw [left1_4 (V2 m ρ) c i h, kept c m ρ main_arg0 (by decide), kept c m ρ main_arg1 (by decide), kept c m ρ main_arg3 (by decide),
      kept c m ρ main_arg4 (by decide)]
  · refine ((dat1 (V2 m ρ) c).arrAt_apply_of_forall_not_mem 4 cfg1.N i fun t _ _ => ?_).trans
      ((congrFun ((carried4 c m ρ).trans (W1_arr m ρ c 4)) i).trans (left0_4 (V0 m ρ) c i h))
    show i ∉ ((View.whole main_v1_0).slice (win1_4.rect t)).set
    rw [View.set_slice_whole]
    exact outside i h t
theorem carried5 : W2 m ρ c (Proc.devRef .tc main_v1_1) = W1 m ρ c (Proc.devRef .tc main_v0_1) := by
  show StableHlo.after hostOps1 _ (Proc.devRef .tc main_v1_1) = _
  after_results
  rfl
theorem final5 : W3 m ρ c main_v1_1 = whole c m delta := by
  refine (W3_arr m ρ c 5).trans (two_layers (fun i h => ?_) fun i h => ?_)
  · rw [left1_5 (V2 m ρ) c i h, kept c m ρ main_arg0 (by decide), kept c m ρ main_arg1 (by decide), kept c m ρ main_arg3 (by decide),
      kept c m ρ main_arg4 (by decide)]
  · refine ((dat1 (V2 m ρ) c).arrAt_apply_of_forall_not_mem 5 cfg1.N i fun t _ _ => ?_).trans
      ((congrFun ((carried5 c m ρ).trans (W1_arr m ρ c 5)) i).trans (left0_5 (V0 m ρ) c i h))
    show i ∉ ((View.whole main_v1_1).slice (win1_5.rect t)).set
    rw [View.set_slice_whole]
    exact outside i h t
theorem carried6 : W2 m ρ c (Proc.devRef .tc main_v1_2) = W1 m ρ c (Proc.devRef .tc main_v0_2) := by
  show StableHlo.after hostOps1 _ (Proc.devRef .tc main_v1_2) = _
  after_results
  rfl
theorem final6 : W3 m ρ c main_v1_2 = whole c m first := by
  refine (W3_arr m ρ c 6).trans (two_layers (fun i h => ?_) fun i h => ?_)
  · rw [left1_6 (V2 m ρ) c i h, kept c m ρ main_arg0 (by decide), kept c m ρ main_arg1 (by decide), kept c m ρ main_arg3 (by decide),
      kept c m ρ main_arg4 (by decide)]
  · refine ((dat1 (V2 m ρ) c).arrAt_apply_of_forall_not_mem 6 cfg1.N i fun t _ _ => ?_).trans
      ((congrFun ((carried6 c m ρ).trans (W1_arr m ρ c 6)) i).trans (left0_6 (V0 m ρ) c i h))
    show i ∉ ((View.whole main_v1_2).slice (win1_6.rect t)).set
    rw [View.set_slice_whole]
    exact outside i h t
theorem carried7 : W2 m ρ c (Proc.devRef .tc main_v1_3) = W1 m ρ c (Proc.devRef .tc main_v0_3) := by
  show StableHlo.after hostOps1 _ (Proc.devRef .tc main_v1_3) = _
  after_results
  rfl
theorem final7 : W3 m ρ c main_v1_3 = whole c m second := by
  refine (W3_arr m ρ c 7).trans (two_layers (fun i h => ?_) fun i h => ?_)
  · rw [left1_7 (V2 m ρ) c i h, kept c m ρ main_arg0 (by decide), kept c m ρ main_arg1 (by decide), kept c m ρ main_arg3 (by decide),
      kept c m ρ main_arg4 (by decide)]
  · refine ((dat1 (V2 m ρ) c).arrAt_apply_of_forall_not_mem 7 cfg1.N i fun t _ _ => ?_).trans
      ((congrFun ((carried7 c m ρ).trans (W1_arr m ρ c 7)) i).trans (left0_7 (V0 m ρ) c i h))
    show i ∉ ((View.whole main_v1_3).slice (win1_7.rect t)).set
    rw [View.set_slice_whole]
    exact outside i h t

set_option backward.isDefEq.respectTransparency.types false in
/-- Both calls' run, and what memory holds after it. -/
theorem run_both : θ_run defs (onTc (τ := τ) (main (F := Ideal))) ⟨m, fun _ => 0, ρ⟩ fun r => ∀ c : Dev nD,
    ∀ b ∈ Pipeline.ucRefs τ sig, r.2.mem (((c : Thread nD τ)).1, b) = W3 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ))
        ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h _ => h)

/-- The kernel's run: its results are the steps of its arguments, which it keeps. -/
theorem run : θ_run defs (onTc (τ := τ) (main (F := Ideal))) ⟨m, fun _ => 0, ρ⟩ fun r => ∀ c : Dev nD,
      r.2.mem ((c : Thread nD τ).loc main_v1_0) = whole c m keep
      ∧ r.2.mem ((c : Thread nD τ).loc main_v1_1) = whole c m delta
      ∧ r.2.mem ((c : Thread nD τ).loc main_v1_2) = whole c m first
      ∧ r.2.mem ((c : Thread nD τ).loc main_v1_3) = whole c m second
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c _ (mem_uc main_v1_0 (by decide))).trans (final4 c m ρ),
    (h c _ (mem_uc main_v1_1 (by decide))).trans (final5 c m ρ),
    (h c _ (mem_uc main_v1_2 (by decide))).trans (final6 c m ρ),
    (h c _ (mem_uc main_v1_3 (by decide))).trans (final7 c m ρ),
    (h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c)⟩) (run_both m ρ)

section Reference

open Cert.AdamOReferenceIdeal.Read

variable (w m v : S2x512x2048.Idx → EReal) (g0 g1 : S512x2048.Idx → EReal)

theorem reference_stack (i : S2x512x2048.Idx) : val_main_v2 (F := Ideal) g0 g1 i = stacked g0 g1 i :=
  concatenated g0 g1 i _ _ _ (fun j => (val_main_v0_apply (F := Ideal) g0 j).trans (congrArg g0 (pair_ext rfl rfl)))
    fun j => (val_main_v1_apply (F := Ideal) g1 j).trans (congrArg g1 (pair_ext rfl rfl))
theorem reference_grad : val_main_v2 (F := Ideal) g0 g1 = stepped keep w g0 g1 m v := funext fun i => reference_stack g0 g1 i
theorem reference_moment : val_main_v7 (F := Ideal) g0 g1 m = stepped first w g0 g1 m v := funext fun i =>
  congrArg (fun g => moment g (m i)) (reference_stack g0 g1 i)
theorem reference_spread : val_main_v13 (F := Ideal) g0 g1 v = stepped second w g0 g1 m v := funext fun i =>
  congrArg (fun g => spread g (v i)) (reference_stack g0 g1 i)
theorem reference_delta : val_main_v26 (F := Ideal) w g0 g1 m v = stepped delta w g0 g1 m v := funext fun i =>
  congrArg (fun g => delta (w i) g (m i) (v i)) (reference_stack g0 g1 i)

end Reference

end Cert.AdamOIdeal.Grad

end
-- ==== Proof.AdamUp.lean ====
/- AdamW on a shard of the weight of the up-projection and of the down-projection: a call for each layer, the second writing into what the first returns. Each entry of
   the four results is the step of its layer's gradient, and so is the reference's. -/
module

public import proofs.«01_k».proof.Proof.Step
public import proofs.«01_k».proof.Proof.Gen.AdamUpIdeal.Frame
public import proofs.«01_k».proof.Proof.Gen.AdamUpReferenceIdeal.Run
public import proofs.«01_k».proof.Proof.Gen.AdamUpReferenceIdeal.Read
public import Idealize.ShloMosaic.Lib.StableHlo.Run

@[expose] public section

noncomputable section

namespace Cert.AdamUpIdeal.Grad

open Cert.AdamUpIdeal Cert.AdamUpIdeal.Gen Cert.Product Cert.Step Idealize.ShloMosaic Idealize.ShloMosaic.ValueIdx
open Idealize.ShloMosaic.TcCoe Idealize.ShloMosaic.Tactic Idealize.SL Idealize.SL.RA Idealize.SL.BI Idealize.SL.Sem
open scoped Idealize.SL.BI
open Idealize.SL.BI.BIBase Idealize.SL.BI.Laws Idealize.SL.ProofMode Idealize.ShloMosaic.Rounds
open Idealize.ShloMosaic.Pipeline (Dat cellOf)

section Body

/-! The stored blocks: of the first call, -/

variable (x0 : Vec Ideal S1x256x2048 .f32) (x1 : Vec Ideal S256x2048 .f32) (x2 x3 : Vec Ideal S1x256x2048 .f32) (j : S1x256x2048.Idx)

theorem body0_4 : out0_4 x0 x1 x2 x3 j = each keep x0 x1 x2 x3 j := by
  unfold out0_4
  rw [View.canon_unit_zero origin3, View.ld_unit_zero (S := S256x2048) origin]
  exact stored_keep x0 x2 x3 x1 shapeCasts_S256x2048_S1x256x2048 j
theorem body0_5 : out0_5 x0 x1 x2 x3 j = each delta x0 x1 x2 x3 j := by
  unfold out0_5
  rw [View.canon_unit_zero origin3, View.ld_unit_zero (S := S256x2048) origin]
  simp only [View.ld_unit_zero (S := S1x256x2048) origin3]
  exact stored_delta x0 x2 x3 x1 shapeCasts_S1x256x2048_S256x2048 shapeCasts_S256x2048_S1x256x2048 j
theorem body0_6 : out0_6 x0 x1 x2 x3 j = each first x0 x1 x2 x3 j := by
  unfold out0_6
  rw [View.canon_unit_zero origin3, View.ld_unit_zero (S := S256x2048) origin, View.ld_unit_zero (S := S1x256x2048) origin3]
  exact stored_first x0 x2 x3 x1 shapeCasts_S1x256x2048_S256x2048 shapeCasts_S256x2048_S1x256x2048 j
theorem body0_7 : out0_7 x0 x1 x2 x3 j = each second x0 x1 x2 x3 j := by
  unfold out0_7
  rw [View.canon_unit_zero origin3, View.ld_unit_zero (S := S256x2048) origin, View.ld_unit_zero (S := S1x256x2048) origin3]
  exact stored_second x0 x2 x3 x1 shapeCasts_S1x256x2048_S256x2048 shapeCasts_S256x2048_S1x256x2048 j

/-! and of the second. -/

variable (c : Dev nD) (i : grid1.Coords)
  (arg1 : Memref sig .tc .vmem S1x256x2048 .f32) (h1 : arg1.IsWhole) (arg2 : Memref sig .tc .vmem S256x2048 .f32) (h2 : arg2.IsWhole)
  (arg3 : Memref sig .tc .vmem S1x256x2048 .f32) (h3 : arg3.IsWhole) (arg4 : Memref sig .tc .vmem S1x256x2048 .f32) (h4 : arg4.IsWhole)
  (arg9 : Memref sig .tc .vmem S1x256x2048 .f32) (h9 : arg9.IsWhole) (arg10 : Memref sig .tc .vmem S1x256x2048 .f32) (h10 : arg10.IsWhole)
  (arg11 : Memref sig .tc .vmem S1x256x2048 .f32) (h11 : arg11.IsWhole) (arg12 : Memref sig .tc .vmem S1x256x2048 .f32) (h12 : arg12.IsWhole)

theorem body1_4 : out1_A_4 c i arg1 h1 arg2 h2 arg3 h3 arg4 h4 arg9 h9 arg10 h10 arg11 h11 arg12 h12 x0 x1 x2 x3 j = each keep x0 x1 x2 x3 j := by
  unfold out1_A_4
  rw [View.read_writes_eq_canon _ _ _ (fun y => cover1_A_4 (y := y) ..)]
  unfold kernelRun1_A
  dsimp only
  sl_unfold_words
  simp only [View.readAt_eq_ld, h1.read_unread, h2.read_unread, h3.read_unread, h4.read_unread,
    View.ld_unit_zero (S := S256x2048) origin, View.ld_unit_zero (S := S1x256x2048) origin3]
  rw [View.canon_unit_zero origin3]
  exact stored_keep x0 x2 x3 x1 shapeCasts_S256x2048_S1x256x2048 j
theorem body1_5 : out1_A_5 c i arg1 h1 arg2 h2 arg3 h3 arg4 h4 arg9 h9 arg10 h10 arg11 h11 arg12 h12 x0 x1 x2 x3 j = each delta x0 x1 x2 x3 j := by
  unfold out1_A_5
  rw [View.read_writes_eq_canon _ _ _ (fun y => cover1_A_5 (y := y) ..)]
  unfold kernelRun1_A
  dsimp only
  sl_unfold_words
  simp only [View.readAt_eq_ld, h1.read_unread, h2.read_unread, h3.read_unread, h4.read_unread,
    View.ld_unit_zero (S := S256x2048) origin, View.ld_unit_zero (S := S1x256x2048) origin3]
  rw [View.canon_unit_zero origin3]
  exact stored_delta x0 x2 x3 x1 shapeCasts_S1x256x2048_S256x2048 shapeCasts_S256x2048_S1x256x2048 j
theorem body1_6 : out1_A_6 c i arg1 h1 arg2 h2 arg3 h3 arg4 h4 arg9 h9 arg10 h10 arg11 h11 arg12 h12 x0 x1 x2 x3 j = each first x0 x1 x2 x3 j := by
  unfold out1_A_6
  rw [View.read_writes_eq_canon _ _ _ (fun y => cover1_A_6 (y := y) ..)]
  unfold kernelRun1_A
  dsimp only
  sl_unfold_words
  simp only [View.readAt_eq_ld, h1.read_unread, h2.read_unread, h3.read_unread, h4.read_unread,
    View.ld_unit_zero (S := S256x2048) origin, View.ld_unit_zero (S := S1x256x2048) origin3]
  rw [View.canon_unit_zero origin3]
  exact stored_first x0 x2 x3 x1 shapeCasts_S1x256x2048_S256x2048 shapeCasts_S256x2048_S1x256x2048 j
theorem body1_7 : out1_A_7 c i arg1 h1 arg2 h2 arg3 h3 arg4 h4 arg9 h9 arg10 h10 arg11 h11 arg12 h12 x0 x1 x2 x3 j = each second x0 x1 x2 x3 j := by
  unfold out1_A_7
  rw [View.read_writes_eq_canon _ _ _ (fun y => cover1_A_7 (y := y) ..)]
  unfold kernelRun1_A
  dsimp only
  sl_unfold_words
  simp only [View.readAt_eq_ld, h1.read_unread, h2.read_unread, h3.read_unread, h4.read_unread,
    View.ld_unit_zero (S := S256x2048) origin, View.ld_unit_zero (S := S1x256x2048) origin3]
  rw [View.canon_unit_zero origin3]
  exact stored_second x0 x2 x3 x1 shapeCasts_S1x256x2048_S256x2048 shapeCasts_S256x2048_S1x256x2048 j

end Body

/-! ## What each call leaves -/

variable (V : (c : Dev nD) → (b : Ref sig .tc) → Buf (Elt Ideal) ((c : Thread nD τ).loc b)) (c : Dev nD)

theorem at0 : ∀ t : Fin cfg0.N, win0_0.index t = ![1, t.val, 0] ∧ win0_1.index t = ![t.val, 0] :=
  (by decide +kernel : ∀ t : Fin grid0.N, win0_0.index t = ![1, t.val, 0] ∧ win0_1.index t = ![t.val, 0])
theorem blocks0 (f : EReal → EReal → EReal → EReal → EReal) (t : Fin cfg0.N) (j : S1x256x2048.Idx) :
    each f (iblk0 V c 0 t) (iblk0 V c 1 t) (iblk0 V c 2 t) (iblk0 V c 3 t) j
      = layered f (V c main_arg0) (V c main_arg2) (V c main_arg3) (V c main_arg4) ((win0_0.rect t).idx j) :=
  block_steps f (x := win0_0.index t) (y := win0_1.index t) (win0_0.rect t).idx (win0_1.rect t).idx (fun _ => rfl) (fun _ => rfl)
    (fun _ => rfl) (fun _ => rfl) (by rw [(at0 t).1, (at0 t).2]; rfl) (by rw [(at0 t).1, (at0 t).2]; rfl) (fun _ => rfl) (fun _ => rfl)
    (fun _ => rfl) (fun _ => rfl) j
theorem covered0 (i : S2x2048x2048.Idx) (h : (i 0).val = 1) : ∃ t : Fin cfg0.N, i ∈ (win0_0.rect t).set := by
  have hi : (i 1).val / 256 < cfg0.N := by
    rw [show cfg0.N = 8 from by decide +kernel]
    exact Nat.div_lt_of_lt_mul (show (i 1).val < 256 * 8 from (i 1).isLt)
  exact ⟨⟨_, hi⟩, Rect.mem_set_unit.2 (in_rows (by decide) i h (at0 ⟨_, hi⟩).1)⟩

theorem left0_4 (i : S2x2048x2048.Idx) (h : (i 0).val = 1) : (dat0 V c).arrAt 4 cfg0.N i
    = layered keep (V c main_arg0) (V c main_arg2) (V c main_arg3) (V c main_arg4) i := by
  obtain ⟨t, ht⟩ := covered0 i h
  refine (dat0 V c).arrAt_apply_of_mem 4 (layered keep (V c main_arg0) (V c main_arg2) (V c main_arg3) (V c main_arg4))
    (fun t _ => (after0_4 ..).trans (funext fun j => (body0_4 _ _ _ _ j).trans (blocks0 V c keep t j))) cfg0.N t i t.isLt (flush0_4 t) ?_
  show i ∈ ((View.whole main_v0_0).slice (win0_4.rect t)).set
  rw [View.set_slice_whole]
  exact ht
theorem left0_5 (i : S2x2048x2048.Idx) (h : (i 0).val = 1) : (dat0 V c).arrAt 5 cfg0.N i
    = layered delta (V c main_arg0) (V c main_arg2) (V c main_arg3) (V c main_arg4) i := by
  obtain ⟨t, ht⟩ := covered0 i h
  refine (dat0 V c).arrAt_apply_of_mem 5 (layered delta (V c main_arg0) (V c main_arg2) (V c main_arg3) (V c main_arg4))
    (fun t _ => (after0_5 ..).trans (funext fun j => (body0_5 _ _ _ _ j).trans (blocks0 V c delta t j))) cfg0.N t i t.isLt (flush0_5 t) ?_
  show i ∈ ((View.whole main_v0_1).slice (win0_5.rect t)).set
  rw [View.set_slice_whole]
  exact ht
theorem left0_6 (i : S2x2048x2048.Idx) (h : (i 0).val = 1) : (dat0 V c).arrAt 6 cfg0.N i
    = layered first (V c main_arg0) (V c main_arg2) (V c main_arg3) (V c main_arg4) i := by
  obtain ⟨t, ht⟩ := covered0 i h
  refine (dat0 V c).arrAt_apply_of_mem 6 (layered first (V c main_arg0) (V c main_arg2) (V c main_arg3) (V c main_arg4))
    (fun t _ => (after0_6 ..).trans (funext fun j => (body0_6 _ _ _ _ j).trans (blocks0 V c first t j))) cfg0.N t i t.isLt (flush0_6 t) ?_
  show i ∈ ((View.whole main_v0_2).slice (win0_6.rect t)).set
  rw [View.set_slice_whole]
  exact ht
theorem left0_7 (i : S2x2048x2048.Idx) (h : (i 0).val = 1) : (dat0 V c).arrAt 7 cfg0.N i
    = layered second (V c main_arg0) (V c main_arg2) (V c main_arg3) (V c main_arg4) i := by
  obtain ⟨t, ht⟩ := covered0 i h
  refine (dat0 V c).arrAt_apply_of_mem 7 (layered second (V c main_arg0) (V c main_arg2) (V c main_arg3) (V c main_arg4))
    (fun t _ => (after0_7 ..).trans (funext fun j => (body0_7 _ _ _ _ j).trans (blocks0 V c second t j))) cfg0.N t i t.isLt (flush0_7 t) ?_
  show i ∈ ((View.whole main_v0_3).slice (win0_7.rect t)).set
  rw [View.set_slice_whole]
  exact ht

theorem at1 : ∀ t : Fin cfg1.N, win1_0.index t = ![0, t.val, 0] ∧ win1_1.index t = ![t.val, 0] :=
  (by decide +kernel : ∀ t : Fin grid1.N, win1_0.index t = ![0, t.val, 0] ∧ win1_1.index t = ![t.val, 0])
theorem blocks1 (f : EReal → EReal → EReal → EReal → EReal) (t : Fin cfg1.N) (j : S1x256x2048.Idx) :
    each f (iblk1 V c 0 t) (iblk1 V c 1 t) (iblk1 V c 2 t) (iblk1 V c 3 t) j
      = layered f (V c main_arg0) (V c main_arg1) (V c main_arg3) (V c main_arg4) ((win1_0.rect t).idx j) :=
  block_steps f (x := win1_0.index t) (y := win1_1.index t) (win1_0.rect t).idx (win1_1.rect t).idx (fun _ => rfl) (fun _ => rfl)
    (fun _ => rfl) (fun _ => rfl) (by rw [(at1 t).1, (at1 t).2]; rfl) (by rw [(at1 t).1, (at1 t).2]; rfl) (fun _ => rfl) (fun _ => rfl)
    (fun _ => rfl) (fun _ => rfl) j
theorem covered1 (i : S2x2048x2048.Idx) (h : (i 0).val = 0) : ∃ t : Fin cfg1.N, i ∈ (win1_0.rect t).set := by
  have hi : (i 1).val / 256 < cfg1.N := by
    rw [show cfg1.N = 8 from by decide +kernel]
    exact Nat.div_lt_of_lt_mul (show (i 1).val < 256 * 8 from (i 1).isLt)
  exact ⟨⟨_, hi⟩, Rect.mem_set_unit.2 (in_rows (by decide) i h (at1 ⟨_, hi⟩).1)⟩

theorem outs1_4 (t : Fin cfg1.N) : (outsAt1 V c t).1 = each keep (iblk1 V c 0 t) (iblk1 V c 1 t) (iblk1 V c 2 t) (iblk1 V c 3 t) := by
  unfold outsAt1
  dsimp only
  generalize iblk1 V c 0 t = y0, iblk1 V c 1 t = y1, iblk1 V c 2 t = y2, iblk1 V c 3 t = y3
  exact funext fun j => body1_4 y0 y1 y2 y3 j ..
theorem left1_4 (i : S2x2048x2048.Idx) (h : (i 0).val = 0) : (dat1 V c).arrAt 4 cfg1.N i
    = layered keep (V c main_arg0) (V c main_arg1) (V c main_arg3) (V c main_arg4) i := by
  obtain ⟨t, ht⟩ := covered1 i h
  refine (dat1 V c).arrAt_apply_of_mem 4 (layered keep (V c main_arg0) (V c main_arg1) (V c main_arg3) (V c main_arg4))
    (fun t _ => (after1_4 ..).trans (funext fun j => (congrFun (outs1_4 V c t) j).trans (blocks1 V c keep t j))) cfg1.N t i t.isLt (flush1_4 t) ?_
  show i ∈ ((View.whole main_v1_0).slice (win1_4.rect t)).set
  rw [View.set_slice_whole]
  exact ht
theorem outs1_5 (t : Fin cfg1.N) : (outsAt1 V c t).2.1 = each delta (iblk1 V c 0 t) (iblk1 V c 1 t) (iblk1 V c 2 t) (iblk1 V c 3 t) := by
  unfold outsAt1
  dsimp only
  generalize iblk1 V c 0 t = y0, iblk1 V c 1 t = y1, iblk1 V c 2 t = y2, iblk1 V c 3 t = y3
  exact funext fun j => body1_5 y0 y1 y2 y3 j ..
theorem left1_5 (i : S2x2048x2048.Idx) (h : (i 0).val = 0) : (dat1 V c).arrAt 5 cfg1.N i
    = layered delta (V c main_arg0) (V c main_arg1) (V c main_arg3) (V c main_arg4) i := by
  obtain ⟨t, ht⟩ := covered1 i h
  refine (dat1 V c).arrAt_apply_of_mem 5 (layered delta (V c main_arg0) (V c main_arg1) (V c main_arg3) (V c main_arg4))
    (fun t _ => (after1_5 ..).trans (funext fun j => (congrFun (outs1_5 V c t) j).trans (blocks1 V c delta t j))) cfg1.N t i t.isLt (flush1_5 t) ?_
  show i ∈ ((View.whole main_v1_1).slice (win1_5.rect t)).set
  rw [View.set_slice_whole]
  exact ht
theorem outs1_6 (t : Fin cfg1.N) : (outsAt1 V c t).2.2.1 = each first (iblk1 V c 0 t) (iblk1 V c 1 t) (iblk1 V c 2 t) (iblk1 V c 3 t) := by
  unfold outsAt1
  dsimp only
  generalize iblk1 V c 0 t = y0, iblk1 V c 1 t = y1, iblk1 V c 2 t = y2, iblk1 V c 3 t = y3
  exact funext fun j => body1_6 y0 y1 y2 y3 j ..
theorem left1_6 (i : S2x2048x2048.Idx) (h : (i 0).val = 0) : (dat1 V c).arrAt 6 cfg1.N i
    = layered first (V c main_arg0) (V c main_arg1) (V c main_arg3) (V c main_arg4) i := by
  obtain ⟨t, ht⟩ := covered1 i h
  refine (dat1 V c).arrAt_apply_of_mem 6 (layered first (V c main_arg0) (V c main_arg1) (V c main_arg3) (V c main_arg4))
    (fun t _ => (after1_6 ..).trans (funext fun j => (congrFun (outs1_6 V c t) j).trans (blocks1 V c first t j))) cfg1.N t i t.isLt (flush1_6 t) ?_
  show i ∈ ((View.whole main_v1_2).slice (win1_6.rect t)).set
  rw [View.set_slice_whole]
  exact ht
theorem outs1_7 (t : Fin cfg1.N) : (outsAt1 V c t).2.2.2 = each second (iblk1 V c 0 t) (iblk1 V c 1 t) (iblk1 V c 2 t) (iblk1 V c 3 t) := by
  unfold outsAt1
  dsimp only
  generalize iblk1 V c 0 t = y0, iblk1 V c 1 t = y1, iblk1 V c 2 t = y2, iblk1 V c 3 t = y3
  exact funext fun j => body1_7 y0 y1 y2 y3 j ..
theorem left1_7 (i : S2x2048x2048.Idx) (h : (i 0).val = 0) : (dat1 V c).arrAt 7 cfg1.N i
    = layered second (V c main_arg0) (V c main_arg1) (V c main_arg3) (V c main_arg4) i := by
  obtain ⟨t, ht⟩ := covered1 i h
  refine (dat1 V c).arrAt_apply_of_mem 7 (layered second (V c main_arg0) (V c main_arg1) (V c main_arg3) (V c main_arg4))
    (fun t _ => (after1_7 ..).trans (funext fun j => (congrFun (outs1_7 V c t) j).trans (blocks1 V c second t j))) cfg1.N t i t.isLt (flush1_7 t) ?_
  show i ∈ ((View.whole main_v1_3).slice (win1_7.rect t)).set
  rw [View.set_slice_whole]
  exact ht

/-- What the second call does not write. -/
theorem outside (i : S2x2048x2048.Idx) (h : (i 0).val = 1) (t : Fin cfg1.N) : i ∉ (win1_0.rect t).set := fun hm => by
  have h0 : win1_0.index t 0 * 1 ≤ (i 0).val ∧ (i 0).val < win1_0.index t 0 * 1 + 1 := Rect.mem_set_unit.1 hm 0
  rw [(at1 t).1, h] at h0
  exact absurd h0.2 (show ¬ 1 < 0 * 1 + 1 by decide)

/-! ## The results -/

variable (m : (ℓ : Loc nD τ sig) → Buf (Elt Ideal) ℓ) (ρ : Dev nD → PrngReg)

/-- The stepped arrays of both layers. -/
abbrev whole (f : EReal → EReal → EReal → EReal → EReal) : S2x2048x2048.Idx → EReal :=
  stepped f (m ((c : Thread nD τ).loc main_arg0)) (m ((c : Thread nD τ).loc main_arg1)) (m ((c : Thread nD τ).loc main_arg2))
    (m ((c : Thread nD τ).loc main_arg3)) (m ((c : Thread nD τ).loc main_arg4))

theorem kept (a : Ref sig .tc) (h : a ∈ argRefs) : V2 m ρ c a = m ((c : Thread nD τ).loc a) := W2_args m ρ c a h

theorem carried4 : W2 m ρ c (Proc.devRef .tc main_v1_0) = W1 m ρ c (Proc.devRef .tc main_v0_0) := by
  show StableHlo.after hostOps1 _ (Proc.devRef .tc main_v1_0) = _
  after_results
  rfl
theorem final4 : W3 m ρ c main_v1_0 = whole c m keep := by
  refine (W3_arr m ρ c 4).trans (two_layers (fun i h => ?_) fun i h => ?_)
  · rw [left1_4 (V2 m ρ) c i h, kept c m ρ main_arg0 (by decide), kept c m ρ main_arg1 (by decide), kept c m ρ main_arg3 (by decide),
      kept c m ρ main_arg4 (by decide)]
  · refine ((dat1 (V2 m ρ) c).arrAt_apply_of_forall_not_mem 4 cfg1.N i fun t _ _ => ?_).trans
      ((congrFun ((carried4 c m ρ).trans (W1_arr m ρ c 4)) i).trans (left0_4 (V0 m ρ) c i h))
    show i ∉ ((View.whole main_v1_0).slice (win1_4.rect t)).set
    rw [View.set_slice_whole]
    exact outside i h t
theorem carried5 : W2 m ρ c (Proc.devRef .tc main_v1_1) = W1 m ρ c (Proc.devRef .tc main_v0_1) := by
  show StableHlo.after hostOps1 _ (Proc.devRef .tc main_v1_1) = _
  after_results
  rfl
theorem final5 : W3 m ρ c main_v1_1 = whole c m delta := by
  refine (W3_arr m ρ c 5).trans (two_layers (fun i h => ?_) fun i h => ?_)
  · rw [left1_5 (V2 m ρ) c i h, kept c m ρ main_arg0 (by decide), kept c m ρ main_arg1 (by decide), kept c m ρ main_arg3 (by decide),
      kept c m ρ main_arg4 (by decide)]
  · refine ((dat1 (V2 m ρ) c).arrAt_apply_of_forall_not_mem 5 cfg1.N i fun t _ _ => ?_).trans
      ((congrFun ((carried5 c m ρ).trans (W1_arr m ρ c 5)) i).trans (left0_5 (V0 m ρ) c i h))
    show i ∉ ((View.whole main_v1_1).slice (win1_5.rect t)).set
    rw [View.set_slice_whole]
    exact outside i h t
theorem carried6 : W2 m ρ c (Proc.devRef .tc main_v1_2) = W1 m ρ c (Proc.devRef .tc main_v0_2) := by
  show StableHlo.after hostOps1 _ (Proc.devRef .tc main_v1_2) = _
  after_results
  rfl
theorem final6 : W3 m ρ c main_v1_2 = whole c m first := by
  refine (W3_arr m ρ c 6).trans (two_layers (fun i h => ?_) fun i h => ?_)
  · rw [left1_6 (V2 m ρ) c i h, kept c m ρ main_arg0 (by decide), kept c m ρ main_arg1 (by decide), kept c m ρ main_arg3 (by decide),
      kept c m ρ main_arg4 (by decide)]
  · refine ((dat1 (V2 m ρ) c).arrAt_apply_of_forall_not_mem 6 cfg1.N i fun t _ _ => ?_).trans
      ((congrFun ((carried6 c m ρ).trans (W1_arr m ρ c 6)) i).trans (left0_6 (V0 m ρ) c i h))
    show i ∉ ((View.whole main_v1_2).slice (win1_6.rect t)).set
    rw [View.set_slice_whole]
    exact outside i h t
theorem carried7 : W2 m ρ c (Proc.devRef .tc main_v1_3) = W1 m ρ c (Proc.devRef .tc main_v0_3) := by
  show StableHlo.after hostOps1 _ (Proc.devRef .tc main_v1_3) = _
  after_results
  rfl
theorem final7 : W3 m ρ c main_v1_3 = whole c m second := by
  refine (W3_arr m ρ c 7).trans (two_layers (fun i h => ?_) fun i h => ?_)
  · rw [left1_7 (V2 m ρ) c i h, kept c m ρ main_arg0 (by decide), kept c m ρ main_arg1 (by decide), kept c m ρ main_arg3 (by decide),
      kept c m ρ main_arg4 (by decide)]
  · refine ((dat1 (V2 m ρ) c).arrAt_apply_of_forall_not_mem 7 cfg1.N i fun t _ _ => ?_).trans
      ((congrFun ((carried7 c m ρ).trans (W1_arr m ρ c 7)) i).trans (left0_7 (V0 m ρ) c i h))
    show i ∉ ((View.whole main_v1_3).slice (win1_7.rect t)).set
    rw [View.set_slice_whole]
    exact outside i h t

set_option backward.isDefEq.respectTransparency.types false in
/-- Both calls' run, and what memory holds after it. -/
theorem run_both : θ_run defs (onTc (τ := τ) (main (F := Ideal))) ⟨m, fun _ => 0, ρ⟩ fun r => ∀ c : Dev nD,
    ∀ b ∈ Pipeline.ucRefs τ sig, r.2.mem (((c : Thread nD τ)).1, b) = W3 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ))
        ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h _ => h)

/-- The kernel's run: its results are the steps of its arguments, which it keeps. -/
theorem run : θ_run defs (onTc (τ := τ) (main (F := Ideal))) ⟨m, fun _ => 0, ρ⟩ fun r => ∀ c : Dev nD,
      r.2.mem ((c : Thread nD τ).loc main_v1_0) = whole c m keep
      ∧ r.2.mem ((c : Thread nD τ).loc main_v1_1) = whole c m delta
      ∧ r.2.mem ((c : Thread nD τ).loc main_v1_2) = whole c m first
      ∧ r.2.mem ((c : Thread nD τ).loc main_v1_3) = whole c m second
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c _ (mem_uc main_v1_0 (by decide))).trans (final4 c m ρ),
    (h c _ (mem_uc main_v1_1 (by decide))).trans (final5 c m ρ),
    (h c _ (mem_uc main_v1_2 (by decide))).trans (final6 c m ρ),
    (h c _ (mem_uc main_v1_3 (by decide))).trans (final7 c m ρ),
    (h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c)⟩) (run_both m ρ)

section Reference

open Cert.AdamUpReferenceIdeal.Read

variable (w m v : S2x2048x2048.Idx → EReal) (g0 g1 : S2048x2048.Idx → EReal)

theorem reference_stack (i : S2x2048x2048.Idx) : val_main_v2 (F := Ideal) g0 g1 i = stacked g0 g1 i :=
  concatenated g0 g1 i _ _ _ (fun j => (val_main_v0_apply (F := Ideal) g0 j).trans (congrArg g0 (pair_ext rfl rfl)))
    fun j => (val_main_v1_apply (F := Ideal) g1 j).trans (congrArg g1 (pair_ext rfl rfl))
theorem reference_grad : val_main_v2 (F := Ideal) g0 g1 = stepped keep w g0 g1 m v := funext fun i => reference_stack g0 g1 i
theorem reference_moment : val_main_v7 (F := Ideal) g0 g1 m = stepped first w g0 g1 m v := funext fun i =>
  congrArg (fun g => moment g (m i)) (reference_stack g0 g1 i)
theorem reference_spread : val_main_v13 (F := Ideal) g0 g1 v = stepped second w g0 g1 m v := funext fun i =>
  congrArg (fun g => spread g (v i)) (reference_stack g0 g1 i)
theorem reference_delta : val_main_v26 (F := Ideal) w g0 g1 m v = stepped delta w g0 g1 m v := funext fun i =>
  congrArg (fun g => delta (w i) g (m i) (v i)) (reference_stack g0 g1 i)

end Reference

end Cert.AdamUpIdeal.Grad

end
-- ==== Proof.AdamBr.lean ====
/- AdamW on a shard of the weight of either branch: a call for each layer, the second writing into what the first returns. Each entry of
   the four results is the step of its layer's gradient, and so is the reference's. -/
module

public import proofs.«01_k».proof.Proof.Step
public import proofs.«01_k».proof.Proof.Gen.AdamBrIdeal.Frame
public import proofs.«01_k».proof.Proof.Gen.AdamBrReferenceIdeal.Run
public import proofs.«01_k».proof.Proof.Gen.AdamBrReferenceIdeal.Read
public import Idealize.ShloMosaic.Lib.StableHlo.Run

@[expose] public section

noncomputable section

namespace Cert.AdamBrIdeal.Grad

open Cert.AdamBrIdeal Cert.AdamBrIdeal.Gen Cert.Product Cert.Step Idealize.ShloMosaic Idealize.ShloMosaic.ValueIdx
open Idealize.ShloMosaic.TcCoe Idealize.ShloMosaic.Tactic Idealize.SL Idealize.SL.RA Idealize.SL.BI Idealize.SL.Sem
open scoped Idealize.SL.BI
open Idealize.SL.BI.BIBase Idealize.SL.BI.Laws Idealize.SL.ProofMode Idealize.ShloMosaic.Rounds
open Idealize.ShloMosaic.Pipeline (Dat cellOf)

section Body

/-! The stored blocks: of the first call, -/

variable (x0 : Vec Ideal S1x256x512 .f32) (x1 : Vec Ideal S256x512 .f32) (x2 x3 : Vec Ideal S1x256x512 .f32) (j : S1x256x512.Idx)

theorem body0_4 : out0_4 x0 x1 x2 x3 j = each keep x0 x1 x2 x3 j := by
  unfold out0_4
  rw [View.canon_unit_zero origin3, View.ld_unit_zero (S := S256x512) origin]
  exact stored_keep x0 x2 x3 x1 shapeCasts_S256x512_S1x256x512 j
theorem body0_5 : out0_5 x0 x1 x2 x3 j = each delta x0 x1 x2 x3 j := by
  unfold out0_5
  rw [View.canon_unit_zero origin3, View.ld_unit_zero (S := S256x512) origin]
  simp only [View.ld_unit_zero (S := S1x256x512) origin3]
  exact stored_delta x0 x2 x3 x1 shapeCasts_S1x256x512_S256x512 shapeCasts_S256x512_S1x256x512 j
theorem body0_6 : out0_6 x0 x1 x2 x3 j = each first x0 x1 x2 x3 j := by
  unfold out0_6
  rw [View.canon_unit_zero origin3, View.ld_unit_zero (S := S256x512) origin, View.ld_unit_zero (S := S1x256x512) origin3]
  exact stored_first x0 x2 x3 x1 shapeCasts_S1x256x512_S256x512 shapeCasts_S256x512_S1x256x512 j
theorem body0_7 : out0_7 x0 x1 x2 x3 j = each second x0 x1 x2 x3 j := by
  unfold out0_7
  rw [View.canon_unit_zero origin3, View.ld_unit_zero (S := S256x512) origin, View.ld_unit_zero (S := S1x256x512) origin3]
  exact stored_second x0 x2 x3 x1 shapeCasts_S1x256x512_S256x512 shapeCasts_S256x512_S1x256x512 j

/-! and of the second. -/

variable (c : Dev nD) (i : grid1.Coords)
  (arg1 : Memref sig .tc .vmem S1x256x512 .f32) (h1 : arg1.IsWhole) (arg2 : Memref sig .tc .vmem S256x512 .f32) (h2 : arg2.IsWhole)
  (arg3 : Memref sig .tc .vmem S1x256x512 .f32) (h3 : arg3.IsWhole) (arg4 : Memref sig .tc .vmem S1x256x512 .f32) (h4 : arg4.IsWhole)
  (arg9 : Memref sig .tc .vmem S1x256x512 .f32) (h9 : arg9.IsWhole) (arg10 : Memref sig .tc .vmem S1x256x512 .f32) (h10 : arg10.IsWhole)
  (arg11 : Memref sig .tc .vmem S1x256x512 .f32) (h11 : arg11.IsWhole) (arg12 : Memref sig .tc .vmem S1x256x512 .f32) (h12 : arg12.IsWhole)

theorem body1_4 : out1_A_4 c i arg1 h1 arg2 h2 arg3 h3 arg4 h4 arg9 h9 arg10 h10 arg11 h11 arg12 h12 x0 x1 x2 x3 j = each keep x0 x1 x2 x3 j := by
  unfold out1_A_4
  rw [View.read_writes_eq_canon _ _ _ (fun y => cover1_A_4 (y := y) ..)]
  unfold kernelRun1_A
  dsimp only
  sl_unfold_words
  simp only [View.readAt_eq_ld, h1.read_unread, h2.read_unread, h3.read_unread, h4.read_unread,
    View.ld_unit_zero (S := S256x512) origin, View.ld_unit_zero (S := S1x256x512) origin3]
  rw [View.canon_unit_zero origin3]
  exact stored_keep x0 x2 x3 x1 shapeCasts_S256x512_S1x256x512 j
theorem body1_5 : out1_A_5 c i arg1 h1 arg2 h2 arg3 h3 arg4 h4 arg9 h9 arg10 h10 arg11 h11 arg12 h12 x0 x1 x2 x3 j = each delta x0 x1 x2 x3 j := by
  unfold out1_A_5
  rw [View.read_writes_eq_canon _ _ _ (fun y => cover1_A_5 (y := y) ..)]
  unfold kernelRun1_A
  dsimp only
  sl_unfold_words
  simp only [View.readAt_eq_ld, h1.read_unread, h2.read_unread, h3.read_unread, h4.read_unread,
    View.ld_unit_zero (S := S256x512) origin, View.ld_unit_zero (S := S1x256x512) origin3]
  rw [View.canon_unit_zero origin3]
  exact stored_delta x0 x2 x3 x1 shapeCasts_S1x256x512_S256x512 shapeCasts_S256x512_S1x256x512 j
theorem body1_6 : out1_A_6 c i arg1 h1 arg2 h2 arg3 h3 arg4 h4 arg9 h9 arg10 h10 arg11 h11 arg12 h12 x0 x1 x2 x3 j = each first x0 x1 x2 x3 j := by
  unfold out1_A_6
  rw [View.read_writes_eq_canon _ _ _ (fun y => cover1_A_6 (y := y) ..)]
  unfold kernelRun1_A
  dsimp only
  sl_unfold_words
  simp only [View.readAt_eq_ld, h1.read_unread, h2.read_unread, h3.read_unread, h4.read_unread,
    View.ld_unit_zero (S := S256x512) origin, View.ld_unit_zero (S := S1x256x512) origin3]
  rw [View.canon_unit_zero origin3]
  exact stored_first x0 x2 x3 x1 shapeCasts_S1x256x512_S256x512 shapeCasts_S256x512_S1x256x512 j
theorem body1_7 : out1_A_7 c i arg1 h1 arg2 h2 arg3 h3 arg4 h4 arg9 h9 arg10 h10 arg11 h11 arg12 h12 x0 x1 x2 x3 j = each second x0 x1 x2 x3 j := by
  unfold out1_A_7
  rw [View.read_writes_eq_canon _ _ _ (fun y => cover1_A_7 (y := y) ..)]
  unfold kernelRun1_A
  dsimp only
  sl_unfold_words
  simp only [View.readAt_eq_ld, h1.read_unread, h2.read_unread, h3.read_unread, h4.read_unread,
    View.ld_unit_zero (S := S256x512) origin, View.ld_unit_zero (S := S1x256x512) origin3]
  rw [View.canon_unit_zero origin3]
  exact stored_second x0 x2 x3 x1 shapeCasts_S1x256x512_S256x512 shapeCasts_S256x512_S1x256x512 j

end Body

/-! ## What each call leaves -/

variable (V : (c : Dev nD) → (b : Ref sig .tc) → Buf (Elt Ideal) ((c : Thread nD τ).loc b)) (c : Dev nD)

theorem at0 : ∀ t : Fin cfg0.N, win0_0.index t = ![1, t.val, 0] ∧ win0_1.index t = ![t.val, 0] :=
  (by decide +kernel : ∀ t : Fin grid0.N, win0_0.index t = ![1, t.val, 0] ∧ win0_1.index t = ![t.val, 0])
theorem blocks0 (f : EReal → EReal → EReal → EReal → EReal) (t : Fin cfg0.N) (j : S1x256x512.Idx) :
    each f (iblk0 V c 0 t) (iblk0 V c 1 t) (iblk0 V c 2 t) (iblk0 V c 3 t) j
      = layered f (V c main_arg0) (V c main_arg2) (V c main_arg3) (V c main_arg4) ((win0_0.rect t).idx j) :=
  block_steps f (x := win0_0.index t) (y := win0_1.index t) (win0_0.rect t).idx (win0_1.rect t).idx (fun _ => rfl) (fun _ => rfl)
    (fun _ => rfl) (fun _ => rfl) (by rw [(at0 t).1, (at0 t).2]; rfl) (by rw [(at0 t).1, (at0 t).2]; rfl) (fun _ => rfl) (fun _ => rfl)
    (fun _ => rfl) (fun _ => rfl) j
theorem covered0 (i : S2x1024x512.Idx) (h : (i 0).val = 1) : ∃ t : Fin cfg0.N, i ∈ (win0_0.rect t).set := by
  have hi : (i 1).val / 256 < cfg0.N := by
    rw [show cfg0.N = 4 from by decide +kernel]
    exact Nat.div_lt_of_lt_mul (show (i 1).val < 256 * 4 from (i 1).isLt)
  exact ⟨⟨_, hi⟩, Rect.mem_set_unit.2 (in_rows (by decide) i h (at0 ⟨_, hi⟩).1)⟩

theorem left0_4 (i : S2x1024x512.Idx) (h : (i 0).val = 1) : (dat0 V c).arrAt 4 cfg0.N i
    = layered keep (V c main_arg0) (V c main_arg2) (V c main_arg3) (V c main_arg4) i := by
  obtain ⟨t, ht⟩ := covered0 i h
  refine (dat0 V c).arrAt_apply_of_mem 4 (layered keep (V c main_arg0) (V c main_arg2) (V c main_arg3) (V c main_arg4))
    (fun t _ => (after0_4 ..).trans (funext fun j => (body0_4 _ _ _ _ j).trans (blocks0 V c keep t j))) cfg0.N t i t.isLt (flush0_4 t) ?_
  show i ∈ ((View.whole main_v0_0).slice (win0_4.rect t)).set
  rw [View.set_slice_whole]
  exact ht
theorem left0_5 (i : S2x1024x512.Idx) (h : (i 0).val = 1) : (dat0 V c).arrAt 5 cfg0.N i
    = layered delta (V c main_arg0) (V c main_arg2) (V c main_arg3) (V c main_arg4) i := by
  obtain ⟨t, ht⟩ := covered0 i h
  refine (dat0 V c).arrAt_apply_of_mem 5 (layered delta (V c main_arg0) (V c main_arg2) (V c main_arg3) (V c main_arg4))
    (fun t _ => (after0_5 ..).trans (funext fun j => (body0_5 _ _ _ _ j).trans (blocks0 V c delta t j))) cfg0.N t i t.isLt (flush0_5 t) ?_
  show i ∈ ((View.whole main_v0_1).slice (win0_5.rect t)).set
  rw [View.set_slice_whole]
  exact ht
theorem left0_6 (i : S2x1024x512.Idx) (h : (i 0).val = 1) : (dat0 V c).arrAt 6 cfg0.N i
    = layered first (V c main_arg0) (V c main_arg2) (V c main_arg3) (V c main_arg4) i := by
  obtain ⟨t, ht⟩ := covered0 i h
  refine (dat0 V c).arrAt_apply_of_mem 6 (layered first (V c main_arg0) (V c main_arg2) (V c main_arg3) (V c main_arg4))
    (fun t _ => (after0_6 ..).trans (funext fun j => (body0_6 _ _ _ _ j).trans (blocks0 V c first t j))) cfg0.N t i t.isLt (flush0_6 t) ?_
  show i ∈ ((View.whole main_v0_2).slice (win0_6.rect t)).set
  rw [View.set_slice_whole]
  exact ht
theorem left0_7 (i : S2x1024x512.Idx) (h : (i 0).val = 1) : (dat0 V c).arrAt 7 cfg0.N i
    = layered second (V c main_arg0) (V c main_arg2) (V c main_arg3) (V c main_arg4) i := by
  obtain ⟨t, ht⟩ := covered0 i h
  refine (dat0 V c).arrAt_apply_of_mem 7 (layered second (V c main_arg0) (V c main_arg2) (V c main_arg3) (V c main_arg4))
    (fun t _ => (after0_7 ..).trans (funext fun j => (body0_7 _ _ _ _ j).trans (blocks0 V c second t j))) cfg0.N t i t.isLt (flush0_7 t) ?_
  show i ∈ ((View.whole main_v0_3).slice (win0_7.rect t)).set
  rw [View.set_slice_whole]
  exact ht

theorem at1 : ∀ t : Fin cfg1.N, win1_0.index t = ![0, t.val, 0] ∧ win1_1.index t = ![t.val, 0] :=
  (by decide +kernel : ∀ t : Fin grid1.N, win1_0.index t = ![0, t.val, 0] ∧ win1_1.index t = ![t.val, 0])
theorem blocks1 (f : EReal → EReal → EReal → EReal → EReal) (t : Fin cfg1.N) (j : S1x256x512.Idx) :
    each f (iblk1 V c 0 t) (iblk1 V c 1 t) (iblk1 V c 2 t) (iblk1 V c 3 t) j
      = layered f (V c main_arg0) (V c main_arg1) (V c main_arg3) (V c main_arg4) ((win1_0.rect t).idx j) :=
  block_steps f (x := win1_0.index t) (y := win1_1.index t) (win1_0.rect t).idx (win1_1.rect t).idx (fun _ => rfl) (fun _ => rfl)
    (fun _ => rfl) (fun _ => rfl) (by rw [(at1 t).1, (at1 t).2]; rfl) (by rw [(at1 t).1, (at1 t).2]; rfl) (fun _ => rfl) (fun _ => rfl)
    (fun _ => rfl) (fun _ => rfl) j
theorem covered1 (i : S2x1024x512.Idx) (h : (i 0).val = 0) : ∃ t : Fin cfg1.N, i ∈ (win1_0.rect t).set := by
  have hi : (i 1).val / 256 < cfg1.N := by
    rw [show cfg1.N = 4 from by decide +kernel]
    exact Nat.div_lt_of_lt_mul (show (i 1).val < 256 * 4 from (i 1).isLt)
  exact ⟨⟨_, hi⟩, Rect.mem_set_unit.2 (in_rows (by decide) i h (at1 ⟨_, hi⟩).1)⟩

theorem outs1_4 (t : Fin cfg1.N) : (outsAt1 V c t).1 = each keep (iblk1 V c 0 t) (iblk1 V c 1 t) (iblk1 V c 2 t) (iblk1 V c 3 t) := by
  unfold outsAt1
  dsimp only
  generalize iblk1 V c 0 t = y0, iblk1 V c 1 t = y1, iblk1 V c 2 t = y2, iblk1 V c 3 t = y3
  exact funext fun j => body1_4 y0 y1 y2 y3 j ..
theorem left1_4 (i : S2x1024x512.Idx) (h : (i 0).val = 0) : (dat1 V c).arrAt 4 cfg1.N i
    = layered keep (V c main_arg0) (V c main_arg1) (V c main_arg3) (V c main_arg4) i := by
  obtain ⟨t, ht⟩ := covered1 i h
  refine (dat1 V c).arrAt_apply_of_mem 4 (layered keep (V c main_arg0) (V c main_arg1) (V c main_arg3) (V c main_arg4))
    (fun t _ => (after1_4 ..).trans (funext fun j => (congrFun (outs1_4 V c t) j).trans (blocks1 V c keep t j))) cfg1.N t i t.isLt (flush1_4 t) ?_
  show i ∈ ((View.whole main_v1_0).slice (win1_4.rect t)).set
  rw [View.set_slice_whole]
  exact ht
theorem outs1_5 (t : Fin cfg1.N) : (outsAt1 V c t).2.1 = each delta (iblk1 V c 0 t) (iblk1 V c 1 t) (iblk1 V c 2 t) (iblk1 V c 3 t) := by
  unfold outsAt1
  dsimp only
  generalize iblk1 V c 0 t = y0, iblk1 V c 1 t = y1, iblk1 V c 2 t = y2, iblk1 V c 3 t = y3
  exact funext fun j => body1_5 y0 y1 y2 y3 j ..
theorem left1_5 (i : S2x1024x512.Idx) (h : (i 0).val = 0) : (dat1 V c).arrAt 5 cfg1.N i
    = layered delta (V c main_arg0) (V c main_arg1) (V c main_arg3) (V c main_arg4) i := by
  obtain ⟨t, ht⟩ := covered1 i h
  refine (dat1 V c).arrAt_apply_of_mem 5 (layered delta (V c main_arg0) (V c main_arg1) (V c main_arg3) (V c main_arg4))
    (fun t _ => (after1_5 ..).trans (funext fun j => (congrFun (outs1_5 V c t) j).trans (blocks1 V c delta t j))) cfg1.N t i t.isLt (flush1_5 t) ?_
  show i ∈ ((View.whole main_v1_1).slice (win1_5.rect t)).set
  rw [View.set_slice_whole]
  exact ht
theorem outs1_6 (t : Fin cfg1.N) : (outsAt1 V c t).2.2.1 = each first (iblk1 V c 0 t) (iblk1 V c 1 t) (iblk1 V c 2 t) (iblk1 V c 3 t) := by
  unfold outsAt1
  dsimp only
  generalize iblk1 V c 0 t = y0, iblk1 V c 1 t = y1, iblk1 V c 2 t = y2, iblk1 V c 3 t = y3
  exact funext fun j => body1_6 y0 y1 y2 y3 j ..
theorem left1_6 (i : S2x1024x512.Idx) (h : (i 0).val = 0) : (dat1 V c).arrAt 6 cfg1.N i
    = layered first (V c main_arg0) (V c main_arg1) (V c main_arg3) (V c main_arg4) i := by
  obtain ⟨t, ht⟩ := covered1 i h
  refine (dat1 V c).arrAt_apply_of_mem 6 (layered first (V c main_arg0) (V c main_arg1) (V c main_arg3) (V c main_arg4))
    (fun t _ => (after1_6 ..).trans (funext fun j => (congrFun (outs1_6 V c t) j).trans (blocks1 V c first t j))) cfg1.N t i t.isLt (flush1_6 t) ?_
  show i ∈ ((View.whole main_v1_2).slice (win1_6.rect t)).set
  rw [View.set_slice_whole]
  exact ht
theorem outs1_7 (t : Fin cfg1.N) : (outsAt1 V c t).2.2.2 = each second (iblk1 V c 0 t) (iblk1 V c 1 t) (iblk1 V c 2 t) (iblk1 V c 3 t) := by
  unfold outsAt1
  dsimp only
  generalize iblk1 V c 0 t = y0, iblk1 V c 1 t = y1, iblk1 V c 2 t = y2, iblk1 V c 3 t = y3
  exact funext fun j => body1_7 y0 y1 y2 y3 j ..
theorem left1_7 (i : S2x1024x512.Idx) (h : (i 0).val = 0) : (dat1 V c).arrAt 7 cfg1.N i
    = layered second (V c main_arg0) (V c main_arg1) (V c main_arg3) (V c main_arg4) i := by
  obtain ⟨t, ht⟩ := covered1 i h
  refine (dat1 V c).arrAt_apply_of_mem 7 (layered second (V c main_arg0) (V c main_arg1) (V c main_arg3) (V c main_arg4))
    (fun t _ => (after1_7 ..).trans (funext fun j => (congrFun (outs1_7 V c t) j).trans (blocks1 V c second t j))) cfg1.N t i t.isLt (flush1_7 t) ?_
  show i ∈ ((View.whole main_v1_3).slice (win1_7.rect t)).set
  rw [View.set_slice_whole]
  exact ht

/-- What the second call does not write. -/
theorem outside (i : S2x1024x512.Idx) (h : (i 0).val = 1) (t : Fin cfg1.N) : i ∉ (win1_0.rect t).set := fun hm => by
  have h0 : win1_0.index t 0 * 1 ≤ (i 0).val ∧ (i 0).val < win1_0.index t 0 * 1 + 1 := Rect.mem_set_unit.1 hm 0
  rw [(at1 t).1, h] at h0
  exact absurd h0.2 (show ¬ 1 < 0 * 1 + 1 by decide)

/-! ## The results -/

variable (m : (ℓ : Loc nD τ sig) → Buf (Elt Ideal) ℓ) (ρ : Dev nD → PrngReg)

/-- The stepped arrays of both layers. -/
abbrev whole (f : EReal → EReal → EReal → EReal → EReal) : S2x1024x512.Idx → EReal :=
  stepped f (m ((c : Thread nD τ).loc main_arg0)) (m ((c : Thread nD τ).loc main_arg1)) (m ((c : Thread nD τ).loc main_arg2))
    (m ((c : Thread nD τ).loc main_arg3)) (m ((c : Thread nD τ).loc main_arg4))

theorem kept (a : Ref sig .tc) (h : a ∈ argRefs) : V2 m ρ c a = m ((c : Thread nD τ).loc a) := W2_args m ρ c a h

theorem carried4 : W2 m ρ c (Proc.devRef .tc main_v1_0) = W1 m ρ c (Proc.devRef .tc main_v0_0) := by
  show StableHlo.after hostOps1 _ (Proc.devRef .tc main_v1_0) = _
  after_results
  rfl
theorem final4 : W3 m ρ c main_v1_0 = whole c m keep := by
  refine (W3_arr m ρ c 4).trans (two_layers (fun i h => ?_) fun i h => ?_)
  · rw [left1_4 (V2 m ρ) c i h, kept c m ρ main_arg0 (by decide), kept c m ρ main_arg1 (by decide), kept c m ρ main_arg3 (by decide),
      kept c m ρ main_arg4 (by decide)]
  · refine ((dat1 (V2 m ρ) c).arrAt_apply_of_forall_not_mem 4 cfg1.N i fun t _ _ => ?_).trans
      ((congrFun ((carried4 c m ρ).trans (W1_arr m ρ c 4)) i).trans (left0_4 (V0 m ρ) c i h))
    show i ∉ ((View.whole main_v1_0).slice (win1_4.rect t)).set
    rw [View.set_slice_whole]
    exact outside i h t
theorem carried5 : W2 m ρ c (Proc.devRef .tc main_v1_1) = W1 m ρ c (Proc.devRef .tc main_v0_1) := by
  show StableHlo.after hostOps1 _ (Proc.devRef .tc main_v1_1) = _
  after_results
  rfl
theorem final5 : W3 m ρ c main_v1_1 = whole c m delta := by
  refine (W3_arr m ρ c 5).trans (two_layers (fun i h => ?_) fun i h => ?_)
  · rw [left1_5 (V2 m ρ) c i h, kept c m ρ main_arg0 (by decide), kept c m ρ main_arg1 (by decide), kept c m ρ main_arg3 (by decide),
      kept c m ρ main_arg4 (by decide)]
  · refine ((dat1 (V2 m ρ) c).arrAt_apply_of_forall_not_mem 5 cfg1.N i fun t _ _ => ?_).trans
      ((congrFun ((carried5 c m ρ).trans (W1_arr m ρ c 5)) i).trans (left0_5 (V0 m ρ) c i h))
    show i ∉ ((View.whole main_v1_1).slice (win1_5.rect t)).set
    rw [View.set_slice_whole]
    exact outside i h t
theorem carried6 : W2 m ρ c (Proc.devRef .tc main_v1_2) = W1 m ρ c (Proc.devRef .tc main_v0_2) := by
  show StableHlo.after hostOps1 _ (Proc.devRef .tc main_v1_2) = _
  after_results
  rfl
theorem final6 : W3 m ρ c main_v1_2 = whole c m first := by
  refine (W3_arr m ρ c 6).trans (two_layers (fun i h => ?_) fun i h => ?_)
  · rw [left1_6 (V2 m ρ) c i h, kept c m ρ main_arg0 (by decide), kept c m ρ main_arg1 (by decide), kept c m ρ main_arg3 (by decide),
      kept c m ρ main_arg4 (by decide)]
  · refine ((dat1 (V2 m ρ) c).arrAt_apply_of_forall_not_mem 6 cfg1.N i fun t _ _ => ?_).trans
      ((congrFun ((carried6 c m ρ).trans (W1_arr m ρ c 6)) i).trans (left0_6 (V0 m ρ) c i h))
    show i ∉ ((View.whole main_v1_2).slice (win1_6.rect t)).set
    rw [View.set_slice_whole]
    exact outside i h t
theorem carried7 : W2 m ρ c (Proc.devRef .tc main_v1_3) = W1 m ρ c (Proc.devRef .tc main_v0_3) := by
  show StableHlo.after hostOps1 _ (Proc.devRef .tc main_v1_3) = _
  after_results
  rfl
theorem final7 : W3 m ρ c main_v1_3 = whole c m second := by
  refine (W3_arr m ρ c 7).trans (two_layers (fun i h => ?_) fun i h => ?_)
  · rw [left1_7 (V2 m ρ) c i h, kept c m ρ main_arg0 (by decide), kept c m ρ main_arg1 (by decide), kept c m ρ main_arg3 (by decide),
      kept c m ρ main_arg4 (by decide)]
  · refine ((dat1 (V2 m ρ) c).arrAt_apply_of_forall_not_mem 7 cfg1.N i fun t _ _ => ?_).trans
      ((congrFun ((carried7 c m ρ).trans (W1_arr m ρ c 7)) i).trans (left0_7 (V0 m ρ) c i h))
    show i ∉ ((View.whole main_v1_3).slice (win1_7.rect t)).set
    rw [View.set_slice_whole]
    exact outside i h t

set_option backward.isDefEq.respectTransparency.types false in
/-- Both calls' run, and what memory holds after it. -/
theorem run_both : θ_run defs (onTc (τ := τ) (main (F := Ideal))) ⟨m, fun _ => 0, ρ⟩ fun r => ∀ c : Dev nD,
    ∀ b ∈ Pipeline.ucRefs τ sig, r.2.mem (((c : Thread nD τ)).1, b) = W3 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ))
        ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h _ => h)

/-- The kernel's run: its results are the steps of its arguments, which it keeps. -/
theorem run : θ_run defs (onTc (τ := τ) (main (F := Ideal))) ⟨m, fun _ => 0, ρ⟩ fun r => ∀ c : Dev nD,
      r.2.mem ((c : Thread nD τ).loc main_v1_0) = whole c m keep
      ∧ r.2.mem ((c : Thread nD τ).loc main_v1_1) = whole c m delta
      ∧ r.2.mem ((c : Thread nD τ).loc main_v1_2) = whole c m first
      ∧ r.2.mem ((c : Thread nD τ).loc main_v1_3) = whole c m second
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c _ (mem_uc main_v1_0 (by decide))).trans (final4 c m ρ),
    (h c _ (mem_uc main_v1_1 (by decide))).trans (final5 c m ρ),
    (h c _ (mem_uc main_v1_2 (by decide))).trans (final6 c m ρ),
    (h c _ (mem_uc main_v1_3 (by decide))).trans (final7 c m ρ),
    (h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c)⟩) (run_both m ρ)

section Reference

open Cert.AdamBrReferenceIdeal.Read

variable (w m v : S2x1024x512.Idx → EReal) (g0 g1 : S1024x512.Idx → EReal)

theorem reference_stack (i : S2x1024x512.Idx) : val_main_v2 (F := Ideal) g0 g1 i = stacked g0 g1 i :=
  concatenated g0 g1 i _ _ _ (fun j => (val_main_v0_apply (F := Ideal) g0 j).trans (congrArg g0 (pair_ext rfl rfl)))
    fun j => (val_main_v1_apply (F := Ideal) g1 j).trans (congrArg g1 (pair_ext rfl rfl))
theorem reference_grad : val_main_v2 (F := Ideal) g0 g1 = stepped keep w g0 g1 m v := funext fun i => reference_stack g0 g1 i
theorem reference_moment : val_main_v7 (F := Ideal) g0 g1 m = stepped first w g0 g1 m v := funext fun i =>
  congrArg (fun g => moment g (m i)) (reference_stack g0 g1 i)
theorem reference_spread : val_main_v13 (F := Ideal) g0 g1 v = stepped second w g0 g1 m v := funext fun i =>
  congrArg (fun g => spread g (v i)) (reference_stack g0 g1 i)
theorem reference_delta : val_main_v26 (F := Ideal) w g0 g1 m v = stepped delta w g0 g1 m v := funext fun i =>
  congrArg (fun g => delta (w i) g (m i) (v i)) (reference_stack g0 g1 i)

end Reference

end Cert.AdamBrIdeal.Grad

end
-- ==== Proof.AdamIn.lean ====
/- AdamW on a shard of the weight of the input projection: a call for each layer, the second writing into what the first returns. Each entry of
   the four results is the step of its layer's gradient, and so is the reference's. -/
module

public import proofs.«01_k».proof.Proof.Step
public import proofs.«01_k».proof.Proof.Gen.AdamInIdeal.Frame
public import proofs.«01_k».proof.Proof.Gen.AdamInReferenceIdeal.Run
public import proofs.«01_k».proof.Proof.Gen.AdamInReferenceIdeal.Read
public import Idealize.ShloMosaic.Lib.StableHlo.Run

@[expose] public section

noncomputable section

namespace Cert.AdamInIdeal.Grad

open Cert.AdamInIdeal Cert.AdamInIdeal.Gen Cert.Product Cert.Step Idealize.ShloMosaic Idealize.ShloMosaic.ValueIdx
open Idealize.ShloMosaic.TcCoe Idealize.ShloMosaic.Tactic Idealize.SL Idealize.SL.RA Idealize.SL.BI Idealize.SL.Sem
open scoped Idealize.SL.BI
open Idealize.SL.BI.BIBase Idealize.SL.BI.Laws Idealize.SL.ProofMode Idealize.ShloMosaic.Rounds
open Idealize.ShloMosaic.Pipeline (Dat cellOf)

section Body

/-! The stored blocks: of the first call, -/

variable (x0 : Vec Ideal S1x256x1920 .f32) (x1 : Vec Ideal S256x1920 .f32) (x2 x3 : Vec Ideal S1x256x1920 .f32) (j : S1x256x1920.Idx)

theorem body0_4 : out0_4 x0 x1 x2 x3 j = each keep x0 x1 x2 x3 j := by
  unfold out0_4
  rw [View.canon_unit_zero origin3, View.ld_unit_zero (S := S256x1920) origin]
  exact stored_keep x0 x2 x3 x1 shapeCasts_S256x1920_S1x256x1920 j
theorem body0_5 : out0_5 x0 x1 x2 x3 j = each delta x0 x1 x2 x3 j := by
  unfold out0_5
  rw [View.canon_unit_zero origin3, View.ld_unit_zero (S := S256x1920) origin]
  simp only [View.ld_unit_zero (S := S1x256x1920) origin3]
  exact stored_delta x0 x2 x3 x1 shapeCasts_S1x256x1920_S256x1920 shapeCasts_S256x1920_S1x256x1920 j
theorem body0_6 : out0_6 x0 x1 x2 x3 j = each first x0 x1 x2 x3 j := by
  unfold out0_6
  rw [View.canon_unit_zero origin3, View.ld_unit_zero (S := S256x1920) origin, View.ld_unit_zero (S := S1x256x1920) origin3]
  exact stored_first x0 x2 x3 x1 shapeCasts_S1x256x1920_S256x1920 shapeCasts_S256x1920_S1x256x1920 j
theorem body0_7 : out0_7 x0 x1 x2 x3 j = each second x0 x1 x2 x3 j := by
  unfold out0_7
  rw [View.canon_unit_zero origin3, View.ld_unit_zero (S := S256x1920) origin, View.ld_unit_zero (S := S1x256x1920) origin3]
  exact stored_second x0 x2 x3 x1 shapeCasts_S1x256x1920_S256x1920 shapeCasts_S256x1920_S1x256x1920 j

/-! and of the second. -/

variable (c : Dev nD) (i : grid1.Coords)
  (arg1 : Memref sig .tc .vmem S1x256x1920 .f32) (h1 : arg1.IsWhole) (arg2 : Memref sig .tc .vmem S256x1920 .f32) (h2 : arg2.IsWhole)
  (arg3 : Memref sig .tc .vmem S1x256x1920 .f32) (h3 : arg3.IsWhole) (arg4 : Memref sig .tc .vmem S1x256x1920 .f32) (h4 : arg4.IsWhole)
  (arg9 : Memref sig .tc .vmem S1x256x1920 .f32) (h9 : arg9.IsWhole) (arg10 : Memref sig .tc .vmem S1x256x1920 .f32) (h10 : arg10.IsWhole)
  (arg11 : Memref sig .tc .vmem S1x256x1920 .f32) (h11 : arg11.IsWhole) (arg12 : Memref sig .tc .vmem S1x256x1920 .f32) (h12 : arg12.IsWhole)

theorem body1_4 : out1_A_4 c i arg1 h1 arg2 h2 arg3 h3 arg4 h4 arg9 h9 arg10 h10 arg11 h11 arg12 h12 x0 x1 x2 x3 j = each keep x0 x1 x2 x3 j := by
  unfold out1_A_4
  rw [View.read_writes_eq_canon _ _ _ (fun y => cover1_A_4 (y := y) ..)]
  unfold kernelRun1_A
  dsimp only
  sl_unfold_words
  simp only [View.readAt_eq_ld, h1.read_unread, h2.read_unread, h3.read_unread, h4.read_unread,
    View.ld_unit_zero (S := S256x1920) origin, View.ld_unit_zero (S := S1x256x1920) origin3]
  rw [View.canon_unit_zero origin3]
  exact stored_keep x0 x2 x3 x1 shapeCasts_S256x1920_S1x256x1920 j
theorem body1_5 : out1_A_5 c i arg1 h1 arg2 h2 arg3 h3 arg4 h4 arg9 h9 arg10 h10 arg11 h11 arg12 h12 x0 x1 x2 x3 j = each delta x0 x1 x2 x3 j := by
  unfold out1_A_5
  rw [View.read_writes_eq_canon _ _ _ (fun y => cover1_A_5 (y := y) ..)]
  unfold kernelRun1_A
  dsimp only
  sl_unfold_words
  simp only [View.readAt_eq_ld, h1.read_unread, h2.read_unread, h3.read_unread, h4.read_unread,
    View.ld_unit_zero (S := S256x1920) origin, View.ld_unit_zero (S := S1x256x1920) origin3]
  rw [View.canon_unit_zero origin3]
  exact stored_delta x0 x2 x3 x1 shapeCasts_S1x256x1920_S256x1920 shapeCasts_S256x1920_S1x256x1920 j
theorem body1_6 : out1_A_6 c i arg1 h1 arg2 h2 arg3 h3 arg4 h4 arg9 h9 arg10 h10 arg11 h11 arg12 h12 x0 x1 x2 x3 j = each first x0 x1 x2 x3 j := by
  unfold out1_A_6
  rw [View.read_writes_eq_canon _ _ _ (fun y => cover1_A_6 (y := y) ..)]
  unfold kernelRun1_A
  dsimp only
  sl_unfold_words
  simp only [View.readAt_eq_ld, h1.read_unread, h2.read_unread, h3.read_unread, h4.read_unread,
    View.ld_unit_zero (S := S256x1920) origin, View.ld_unit_zero (S := S1x256x1920) origin3]
  rw [View.canon_unit_zero origin3]
  exact stored_first x0 x2 x3 x1 shapeCasts_S1x256x1920_S256x1920 shapeCasts_S256x1920_S1x256x1920 j
theorem body1_7 : out1_A_7 c i arg1 h1 arg2 h2 arg3 h3 arg4 h4 arg9 h9 arg10 h10 arg11 h11 arg12 h12 x0 x1 x2 x3 j = each second x0 x1 x2 x3 j := by
  unfold out1_A_7
  rw [View.read_writes_eq_canon _ _ _ (fun y => cover1_A_7 (y := y) ..)]
  unfold kernelRun1_A
  dsimp only
  sl_unfold_words
  simp only [View.readAt_eq_ld, h1.read_unread, h2.read_unread, h3.read_unread, h4.read_unread,
    View.ld_unit_zero (S := S256x1920) origin, View.ld_unit_zero (S := S1x256x1920) origin3]
  rw [View.canon_unit_zero origin3]
  exact stored_second x0 x2 x3 x1 shapeCasts_S1x256x1920_S256x1920 shapeCasts_S256x1920_S1x256x1920 j

end Body

/-! ## What each call leaves -/

variable (V : (c : Dev nD) → (b : Ref sig .tc) → Buf (Elt Ideal) ((c : Thread nD τ).loc b)) (c : Dev nD)

theorem at0 : ∀ t : Fin cfg0.N, win0_0.index t = ![1, t.val, 0] ∧ win0_1.index t = ![t.val, 0] :=
  (by decide +kernel : ∀ t : Fin grid0.N, win0_0.index t = ![1, t.val, 0] ∧ win0_1.index t = ![t.val, 0])
theorem blocks0 (f : EReal → EReal → EReal → EReal → EReal) (t : Fin cfg0.N) (j : S1x256x1920.Idx) :
    each f (iblk0 V c 0 t) (iblk0 V c 1 t) (iblk0 V c 2 t) (iblk0 V c 3 t) j
      = layered f (V c main_arg0) (V c main_arg2) (V c main_arg3) (V c main_arg4) ((win0_0.rect t).idx j) :=
  block_steps f (x := win0_0.index t) (y := win0_1.index t) (win0_0.rect t).idx (win0_1.rect t).idx (fun _ => rfl) (fun _ => rfl)
    (fun _ => rfl) (fun _ => rfl) (by rw [(at0 t).1, (at0 t).2]; rfl) (by rw [(at0 t).1, (at0 t).2]; rfl) (fun _ => rfl) (fun _ => rfl)
    (fun _ => rfl) (fun _ => rfl) j
theorem covered0 (i : S2x2048x1920.Idx) (h : (i 0).val = 1) : ∃ t : Fin cfg0.N, i ∈ (win0_0.rect t).set := by
  have hi : (i 1).val / 256 < cfg0.N := by
    rw [show cfg0.N = 8 from by decide +kernel]
    exact Nat.div_lt_of_lt_mul (show (i 1).val < 256 * 8 from (i 1).isLt)
  exact ⟨⟨_, hi⟩, Rect.mem_set_unit.2 (in_rows (by decide) i h (at0 ⟨_, hi⟩).1)⟩

theorem left0_4 (i : S2x2048x1920.Idx) (h : (i 0).val = 1) : (dat0 V c).arrAt 4 cfg0.N i
    = layered keep (V c main_arg0) (V c main_arg2) (V c main_arg3) (V c main_arg4) i := by
  obtain ⟨t, ht⟩ := covered0 i h
  refine (dat0 V c).arrAt_apply_of_mem 4 (layered keep (V c main_arg0) (V c main_arg2) (V c main_arg3) (V c main_arg4))
    (fun t _ => (after0_4 ..).trans (funext fun j => (body0_4 _ _ _ _ j).trans (blocks0 V c keep t j))) cfg0.N t i t.isLt (flush0_4 t) ?_
  show i ∈ ((View.whole main_v0_0).slice (win0_4.rect t)).set
  rw [View.set_slice_whole]
  exact ht
theorem left0_5 (i : S2x2048x1920.Idx) (h : (i 0).val = 1) : (dat0 V c).arrAt 5 cfg0.N i
    = layered delta (V c main_arg0) (V c main_arg2) (V c main_arg3) (V c main_arg4) i := by
  obtain ⟨t, ht⟩ := covered0 i h
  refine (dat0 V c).arrAt_apply_of_mem 5 (layered delta (V c main_arg0) (V c main_arg2) (V c main_arg3) (V c main_arg4))
    (fun t _ => (after0_5 ..).trans (funext fun j => (body0_5 _ _ _ _ j).trans (blocks0 V c delta t j))) cfg0.N t i t.isLt (flush0_5 t) ?_
  show i ∈ ((View.whole main_v0_1).slice (win0_5.rect t)).set
  rw [View.set_slice_whole]
  exact ht
theorem left0_6 (i : S2x2048x1920.Idx) (h : (i 0).val = 1) : (dat0 V c).arrAt 6 cfg0.N i
    = layered first (V c main_arg0) (V c main_arg2) (V c main_arg3) (V c main_arg4) i := by
  obtain ⟨t, ht⟩ := covered0 i h
  refine (dat0 V c).arrAt_apply_of_mem 6 (layered first (V c main_arg0) (V c main_arg2) (V c main_arg3) (V c main_arg4))
    (fun t _ => (after0_6 ..).trans (funext fun j => (body0_6 _ _ _ _ j).trans (blocks0 V c first t j))) cfg0.N t i t.isLt (flush0_6 t) ?_
  show i ∈ ((View.whole main_v0_2).slice (win0_6.rect t)).set
  rw [View.set_slice_whole]
  exact ht
theorem left0_7 (i : S2x2048x1920.Idx) (h : (i 0).val = 1) : (dat0 V c).arrAt 7 cfg0.N i
    = layered second (V c main_arg0) (V c main_arg2) (V c main_arg3) (V c main_arg4) i := by
  obtain ⟨t, ht⟩ := covered0 i h
  refine (dat0 V c).arrAt_apply_of_mem 7 (layered second (V c main_arg0) (V c main_arg2) (V c main_arg3) (V c main_arg4))
    (fun t _ => (after0_7 ..).trans (funext fun j => (body0_7 _ _ _ _ j).trans (blocks0 V c second t j))) cfg0.N t i t.isLt (flush0_7 t) ?_
  show i ∈ ((View.whole main_v0_3).slice (win0_7.rect t)).set
  rw [View.set_slice_whole]
  exact ht

theorem at1 : ∀ t : Fin cfg1.N, win1_0.index t = ![0, t.val, 0] ∧ win1_1.index t = ![t.val, 0] :=
  (by decide +kernel : ∀ t : Fin grid1.N, win1_0.index t = ![0, t.val, 0] ∧ win1_1.index t = ![t.val, 0])
theorem blocks1 (f : EReal → EReal → EReal → EReal → EReal) (t : Fin cfg1.N) (j : S1x256x1920.Idx) :
    each f (iblk1 V c 0 t) (iblk1 V c 1 t) (iblk1 V c 2 t) (iblk1 V c 3 t) j
      = layered f (V c main_arg0) (V c main_arg1) (V c main_arg3) (V c main_arg4) ((win1_0.rect t).idx j) :=
  block_steps f (x := win1_0.index t) (y := win1_1.index t) (win1_0.rect t).idx (win1_1.rect t).idx (fun _ => rfl) (fun _ => rfl)
    (fun _ => rfl) (fun _ => rfl) (by rw [(at1 t).1, (at1 t).2]; rfl) (by rw [(at1 t).1, (at1 t).2]; rfl) (fun _ => rfl) (fun _ => rfl)
    (fun _ => rfl) (fun _ => rfl) j
theorem covered1 (i : S2x2048x1920.Idx) (h : (i 0).val = 0) : ∃ t : Fin cfg1.N, i ∈ (win1_0.rect t).set := by
  have hi : (i 1).val / 256 < cfg1.N := by
    rw [show cfg1.N = 8 from by decide +kernel]
    exact Nat.div_lt_of_lt_mul (show (i 1).val < 256 * 8 from (i 1).isLt)
  exact ⟨⟨_, hi⟩, Rect.mem_set_unit.2 (in_rows (by decide) i h (at1 ⟨_, hi⟩).1)⟩

theorem outs1_4 (t : Fin cfg1.N) : (outsAt1 V c t).1 = each keep (iblk1 V c 0 t) (iblk1 V c 1 t) (iblk1 V c 2 t) (iblk1 V c 3 t) := by
  unfold outsAt1
  dsimp only
  generalize iblk1 V c 0 t = y0, iblk1 V c 1 t = y1, iblk1 V c 2 t = y2, iblk1 V c 3 t = y3
  exact funext fun j => body1_4 y0 y1 y2 y3 j ..
theorem left1_4 (i : S2x2048x1920.Idx) (h : (i 0).val = 0) : (dat1 V c).arrAt 4 cfg1.N i
    = layered keep (V c main_arg0) (V c main_arg1) (V c main_arg3) (V c main_arg4) i := by
  obtain ⟨t, ht⟩ := covered1 i h
  refine (dat1 V c).arrAt_apply_of_mem 4 (layered keep (V c main_arg0) (V c main_arg1) (V c main_arg3) (V c main_arg4))
    (fun t _ => (after1_4 ..).trans (funext fun j => (congrFun (outs1_4 V c t) j).trans (blocks1 V c keep t j))) cfg1.N t i t.isLt (flush1_4 t) ?_
  show i ∈ ((View.whole main_v1_0).slice (win1_4.rect t)).set
  rw [View.set_slice_whole]
  exact ht
theorem outs1_5 (t : Fin cfg1.N) : (outsAt1 V c t).2.1 = each delta (iblk1 V c 0 t) (iblk1 V c 1 t) (iblk1 V c 2 t) (iblk1 V c 3 t) := by
  unfold outsAt1
  dsimp only
  generalize iblk1 V c 0 t = y0, iblk1 V c 1 t = y1, iblk1 V c 2 t = y2, iblk1 V c 3 t = y3
  exact funext fun j => body1_5 y0 y1 y2 y3 j ..
theorem left1_5 (i : S2x2048x1920.Idx) (h : (i 0).val = 0) : (dat1 V c).arrAt 5 cfg1.N i
    = layered delta (V c main_arg0) (V c main_arg1) (V c main_arg3) (V c main_arg4) i := by
  obtain ⟨t, ht⟩ := covered1 i h
  refine (dat1 V c).arrAt_apply_of_mem 5 (layered delta (V c main_arg0) (V c main_arg1) (V c main_arg3) (V c main_arg4))
    (fun t _ => (after1_5 ..).trans (funext fun j => (congrFun (outs1_5 V c t) j).trans (blocks1 V c delta t j))) cfg1.N t i t.isLt (flush1_5 t) ?_
  show i ∈ ((View.whole main_v1_1).slice (win1_5.rect t)).set
  rw [View.set_slice_whole]
  exact ht
theorem outs1_6 (t : Fin cfg1.N) : (outsAt1 V c t).2.2.1 = each first (iblk1 V c 0 t) (iblk1 V c 1 t) (iblk1 V c 2 t) (iblk1 V c 3 t) := by
  unfold outsAt1
  dsimp only
  generalize iblk1 V c 0 t = y0, iblk1 V c 1 t = y1, iblk1 V c 2 t = y2, iblk1 V c 3 t = y3
  exact funext fun j => body1_6 y0 y1 y2 y3 j ..
theorem left1_6 (i : S2x2048x1920.Idx) (h : (i 0).val = 0) : (dat1 V c).arrAt 6 cfg1.N i
    = layered first (V c main_arg0) (V c main_arg1) (V c main_arg3) (V c main_arg4) i := by
  obtain ⟨t, ht⟩ := covered1 i h
  refine (dat1 V c).arrAt_apply_of_mem 6 (layered first (V c main_arg0) (V c main_arg1) (V c main_arg3) (V c main_arg4))
    (fun t _ => (after1_6 ..).trans (funext fun j => (congrFun (outs1_6 V c t) j).trans (blocks1 V c first t j))) cfg1.N t i t.isLt (flush1_6 t) ?_
  show i ∈ ((View.whole main_v1_2).slice (win1_6.rect t)).set
  rw [View.set_slice_whole]
  exact ht
theorem outs1_7 (t : Fin cfg1.N) : (outsAt1 V c t).2.2.2 = each second (iblk1 V c 0 t) (iblk1 V c 1 t) (iblk1 V c 2 t) (iblk1 V c 3 t) := by
  unfold outsAt1
  dsimp only
  generalize iblk1 V c 0 t = y0, iblk1 V c 1 t = y1, iblk1 V c 2 t = y2, iblk1 V c 3 t = y3
  exact funext fun j => body1_7 y0 y1 y2 y3 j ..
theorem left1_7 (i : S2x2048x1920.Idx) (h : (i 0).val = 0) : (dat1 V c).arrAt 7 cfg1.N i
    = layered second (V c main_arg0) (V c main_arg1) (V c main_arg3) (V c main_arg4) i := by
  obtain ⟨t, ht⟩ := covered1 i h
  refine (dat1 V c).arrAt_apply_of_mem 7 (layered second (V c main_arg0) (V c main_arg1) (V c main_arg3) (V c main_arg4))
    (fun t _ => (after1_7 ..).trans (funext fun j => (congrFun (outs1_7 V c t) j).trans (blocks1 V c second t j))) cfg1.N t i t.isLt (flush1_7 t) ?_
  show i ∈ ((View.whole main_v1_3).slice (win1_7.rect t)).set
  rw [View.set_slice_whole]
  exact ht

/-- What the second call does not write. -/
theorem outside (i : S2x2048x1920.Idx) (h : (i 0).val = 1) (t : Fin cfg1.N) : i ∉ (win1_0.rect t).set := fun hm => by
  have h0 : win1_0.index t 0 * 1 ≤ (i 0).val ∧ (i 0).val < win1_0.index t 0 * 1 + 1 := Rect.mem_set_unit.1 hm 0
  rw [(at1 t).1, h] at h0
  exact absurd h0.2 (show ¬ 1 < 0 * 1 + 1 by decide)

/-! ## The results -/

variable (m : (ℓ : Loc nD τ sig) → Buf (Elt Ideal) ℓ) (ρ : Dev nD → PrngReg)

/-- The stepped arrays of both layers. -/
abbrev whole (f : EReal → EReal → EReal → EReal → EReal) : S2x2048x1920.Idx → EReal :=
  stepped f (m ((c : Thread nD τ).loc main_arg0)) (m ((c : Thread nD τ).loc main_arg1)) (m ((c : Thread nD τ).loc main_arg2))
    (m ((c : Thread nD τ).loc main_arg3)) (m ((c : Thread nD τ).loc main_arg4))

theorem kept (a : Ref sig .tc) (h : a ∈ argRefs) : V2 m ρ c a = m ((c : Thread nD τ).loc a) := W2_args m ρ c a h

theorem carried4 : W2 m ρ c (Proc.devRef .tc main_v1_0) = W1 m ρ c (Proc.devRef .tc main_v0_0) := by
  show StableHlo.after hostOps1 _ (Proc.devRef .tc main_v1_0) = _
  after_results
  rfl
theorem final4 : W3 m ρ c main_v1_0 = whole c m keep := by
  refine (W3_arr m ρ c 4).trans (two_layers (fun i h => ?_) fun i h => ?_)
  · rw [left1_4 (V2 m ρ) c i h, kept c m ρ main_arg0 (by decide), kept c m ρ main_arg1 (by decide), kept c m ρ main_arg3 (by decide),
      kept c m ρ main_arg4 (by decide)]
  · refine ((dat1 (V2 m ρ) c).arrAt_apply_of_forall_not_mem 4 cfg1.N i fun t _ _ => ?_).trans
      ((congrFun ((carried4 c m ρ).trans (W1_arr m ρ c 4)) i).trans (left0_4 (V0 m ρ) c i h))
    show i ∉ ((View.whole main_v1_0).slice (win1_4.rect t)).set
    rw [View.set_slice_whole]
    exact outside i h t
theorem carried5 : W2 m ρ c (Proc.devRef .tc main_v1_1) = W1 m ρ c (Proc.devRef .tc main_v0_1) := by
  show StableHlo.after hostOps1 _ (Proc.devRef .tc main_v1_1) = _
  after_results
  rfl
theorem final5 : W3 m ρ c main_v1_1 = whole c m delta := by
  refine (W3_arr m ρ c 5).trans (two_layers (fun i h => ?_) fun i h => ?_)
  · rw [left1_5 (V2 m ρ) c i h, kept c m ρ main_arg0 (by decide), kept c m ρ main_arg1 (by decide), kept c m ρ main_arg3 (by decide),
      kept c m ρ main_arg4 (by decide)]
  · refine ((dat1 (V2 m ρ) c).arrAt_apply_of_forall_not_mem 5 cfg1.N i fun t _ _ => ?_).trans
      ((congrFun ((carried5 c m ρ).trans (W1_arr m ρ c 5)) i).trans (left0_5 (V0 m ρ) c i h))
    show i ∉ ((View.whole main_v1_1).slice (win1_5.rect t)).set
    rw [View.set_slice_whole]
    exact outside i h t
theorem carried6 : W2 m ρ c (Proc.devRef .tc main_v1_2) = W1 m ρ c (Proc.devRef .tc main_v0_2) := by
  show StableHlo.after hostOps1 _ (Proc.devRef .tc main_v1_2) = _
  after_results
  rfl
theorem final6 : W3 m ρ c main_v1_2 = whole c m first := by
  refine (W3_arr m ρ c 6).trans (two_layers (fun i h => ?_) fun i h => ?_)
  · rw [left1_6 (V2 m ρ) c i h, kept c m ρ main_arg0 (by decide), kept c m ρ main_arg1 (by decide), kept c m ρ main_arg3 (by decide),
      kept c m ρ main_arg4 (by decide)]
  · refine ((dat1 (V2 m ρ) c).arrAt_apply_of_forall_not_mem 6 cfg1.N i fun t _ _ => ?_).trans
      ((congrFun ((carried6 c m ρ).trans (W1_arr m ρ c 6)) i).trans (left0_6 (V0 m ρ) c i h))
    show i ∉ ((View.whole main_v1_2).slice (win1_6.rect t)).set
    rw [View.set_slice_whole]
    exact outside i h t
theorem carried7 : W2 m ρ c (Proc.devRef .tc main_v1_3) = W1 m ρ c (Proc.devRef .tc main_v0_3) := by
  show StableHlo.after hostOps1 _ (Proc.devRef .tc main_v1_3) = _
  after_results
  rfl
theorem final7 : W3 m ρ c main_v1_3 = whole c m second := by
  refine (W3_arr m ρ c 7).trans (two_layers (fun i h => ?_) fun i h => ?_)
  · rw [left1_7 (V2 m ρ) c i h, kept c m ρ main_arg0 (by decide), kept c m ρ main_arg1 (by decide), kept c m ρ main_arg3 (by decide),
      kept c m ρ main_arg4 (by decide)]
  · refine ((dat1 (V2 m ρ) c).arrAt_apply_of_forall_not_mem 7 cfg1.N i fun t _ _ => ?_).trans
      ((congrFun ((carried7 c m ρ).trans (W1_arr m ρ c 7)) i).trans (left0_7 (V0 m ρ) c i h))
    show i ∉ ((View.whole main_v1_3).slice (win1_7.rect t)).set
    rw [View.set_slice_whole]
    exact outside i h t

set_option backward.isDefEq.respectTransparency.types false in
/-- Both calls' run, and what memory holds after it. -/
theorem run_both : θ_run defs (onTc (τ := τ) (main (F := Ideal))) ⟨m, fun _ => 0, ρ⟩ fun r => ∀ c : Dev nD,
    ∀ b ∈ Pipeline.ucRefs τ sig, r.2.mem (((c : Thread nD τ)).1, b) = W3 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ))
        ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h _ => h)

/-- The kernel's run: its results are the steps of its arguments, which it keeps. -/
theorem run : θ_run defs (onTc (τ := τ) (main (F := Ideal))) ⟨m, fun _ => 0, ρ⟩ fun r => ∀ c : Dev nD,
      r.2.mem ((c : Thread nD τ).loc main_v1_0) = whole c m keep
      ∧ r.2.mem ((c : Thread nD τ).loc main_v1_1) = whole c m delta
      ∧ r.2.mem ((c : Thread nD τ).loc main_v1_2) = whole c m first
      ∧ r.2.mem ((c : Thread nD τ).loc main_v1_3) = whole c m second
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c _ (mem_uc main_v1_0 (by decide))).trans (final4 c m ρ),
    (h c _ (mem_uc main_v1_1 (by decide))).trans (final5 c m ρ),
    (h c _ (mem_uc main_v1_2 (by decide))).trans (final6 c m ρ),
    (h c _ (mem_uc main_v1_3 (by decide))).trans (final7 c m ρ),
    (h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c)⟩) (run_both m ρ)

section Reference

open Cert.AdamInReferenceIdeal.Read

variable (w m v : S2x2048x1920.Idx → EReal) (g0 g1 : S2048x1920.Idx → EReal)

theorem reference_stack (i : S2x2048x1920.Idx) : val_main_v2 (F := Ideal) g0 g1 i = stacked g0 g1 i :=
  concatenated g0 g1 i _ _ _ (fun j => (val_main_v0_apply (F := Ideal) g0 j).trans (congrArg g0 (pair_ext rfl rfl)))
    fun j => (val_main_v1_apply (F := Ideal) g1 j).trans (congrArg g1 (pair_ext rfl rfl))
theorem reference_grad : val_main_v2 (F := Ideal) g0 g1 = stepped keep w g0 g1 m v := funext fun i => reference_stack g0 g1 i
theorem reference_moment : val_main_v7 (F := Ideal) g0 g1 m = stepped first w g0 g1 m v := funext fun i =>
  congrArg (fun g => moment g (m i)) (reference_stack g0 g1 i)
theorem reference_spread : val_main_v13 (F := Ideal) g0 g1 v = stepped second w g0 g1 m v := funext fun i =>
  congrArg (fun g => spread g (v i)) (reference_stack g0 g1 i)
theorem reference_delta : val_main_v26 (F := Ideal) w g0 g1 m v = stepped delta w g0 g1 m v := funext fun i =>
  congrArg (fun g => delta (w i) g (m i) (v i)) (reference_stack g0 g1 i)

end Reference

end Cert.AdamInIdeal.Grad

end
-- ==== Proof.AdamKv.lean ====
/- AdamW on a shard of the weight of the memory's keys and values: a call for each layer, the second writing into what the first returns. Each entry of
   the four results is the step of its layer's gradient, and so is the reference's. -/
module

public import proofs.«01_k».proof.Proof.Step
public import proofs.«01_k».proof.Proof.Gen.AdamKvIdeal.Frame
public import proofs.«01_k».proof.Proof.Gen.AdamKvReferenceIdeal.Run
public import proofs.«01_k».proof.Proof.Gen.AdamKvReferenceIdeal.Read
public import Idealize.ShloMosaic.Lib.StableHlo.Run

@[expose] public section

noncomputable section

namespace Cert.AdamKvIdeal.Grad

open Cert.AdamKvIdeal Cert.AdamKvIdeal.Gen Cert.Product Cert.Step Idealize.ShloMosaic Idealize.ShloMosaic.ValueIdx
open Idealize.ShloMosaic.TcCoe Idealize.ShloMosaic.Tactic Idealize.SL Idealize.SL.RA Idealize.SL.BI Idealize.SL.Sem
open scoped Idealize.SL.BI
open Idealize.SL.BI.BIBase Idealize.SL.BI.Laws Idealize.SL.ProofMode Idealize.ShloMosaic.Rounds
open Idealize.ShloMosaic.Pipeline (Dat cellOf)

section Body

/-! The stored blocks: of the first call, -/

variable (x0 : Vec Ideal S1x256x1024 .f32) (x1 : Vec Ideal S256x1024 .f32) (x2 x3 : Vec Ideal S1x256x1024 .f32) (j : S1x256x1024.Idx)

theorem body0_4 : out0_4 x0 x1 x2 x3 j = each keep x0 x1 x2 x3 j := by
  unfold out0_4
  rw [View.canon_unit_zero origin3, View.ld_unit_zero (S := S256x1024) origin]
  exact stored_keep x0 x2 x3 x1 shapeCasts_S256x1024_S1x256x1024 j
theorem body0_5 : out0_5 x0 x1 x2 x3 j = each delta x0 x1 x2 x3 j := by
  unfold out0_5
  rw [View.canon_unit_zero origin3, View.ld_unit_zero (S := S256x1024) origin]
  simp only [View.ld_unit_zero (S := S1x256x1024) origin3]
  exact stored_delta x0 x2 x3 x1 shapeCasts_S1x256x1024_S256x1024 shapeCasts_S256x1024_S1x256x1024 j
theorem body0_6 : out0_6 x0 x1 x2 x3 j = each first x0 x1 x2 x3 j := by
  unfold out0_6
  rw [View.canon_unit_zero origin3, View.ld_unit_zero (S := S256x1024) origin, View.ld_unit_zero (S := S1x256x1024) origin3]
  exact stored_first x0 x2 x3 x1 shapeCasts_S1x256x1024_S256x1024 shapeCasts_S256x1024_S1x256x1024 j
theorem body0_7 : out0_7 x0 x1 x2 x3 j = each second x0 x1 x2 x3 j := by
  unfold out0_7
  rw [View.canon_unit_zero origin3, View.ld_unit_zero (S := S256x1024) origin, View.ld_unit_zero (S := S1x256x1024) origin3]
  exact stored_second x0 x2 x3 x1 shapeCasts_S1x256x1024_S256x1024 shapeCasts_S256x1024_S1x256x1024 j

/-! and of the second. -/

variable (c : Dev nD) (i : grid1.Coords)
  (arg1 : Memref sig .tc .vmem S1x256x1024 .f32) (h1 : arg1.IsWhole) (arg2 : Memref sig .tc .vmem S256x1024 .f32) (h2 : arg2.IsWhole)
  (arg3 : Memref sig .tc .vmem S1x256x1024 .f32) (h3 : arg3.IsWhole) (arg4 : Memref sig .tc .vmem S1x256x1024 .f32) (h4 : arg4.IsWhole)
  (arg9 : Memref sig .tc .vmem S1x256x1024 .f32) (h9 : arg9.IsWhole) (arg10 : Memref sig .tc .vmem S1x256x1024 .f32) (h10 : arg10.IsWhole)
  (arg11 : Memref sig .tc .vmem S1x256x1024 .f32) (h11 : arg11.IsWhole) (arg12 : Memref sig .tc .vmem S1x256x1024 .f32) (h12 : arg12.IsWhole)

theorem body1_4 : out1_A_4 c i arg1 h1 arg2 h2 arg3 h3 arg4 h4 arg9 h9 arg10 h10 arg11 h11 arg12 h12 x0 x1 x2 x3 j = each keep x0 x1 x2 x3 j := by
  unfold out1_A_4
  rw [View.read_writes_eq_canon _ _ _ (fun y => cover1_A_4 (y := y) ..)]
  unfold kernelRun1_A
  dsimp only
  sl_unfold_words
  simp only [View.readAt_eq_ld, h1.read_unread, h2.read_unread, h3.read_unread, h4.read_unread,
    View.ld_unit_zero (S := S256x1024) origin, View.ld_unit_zero (S := S1x256x1024) origin3]
  rw [View.canon_unit_zero origin3]
  exact stored_keep x0 x2 x3 x1 shapeCasts_S256x1024_S1x256x1024 j
theorem body1_5 : out1_A_5 c i arg1 h1 arg2 h2 arg3 h3 arg4 h4 arg9 h9 arg10 h10 arg11 h11 arg12 h12 x0 x1 x2 x3 j = each delta x0 x1 x2 x3 j := by
  unfold out1_A_5
  rw [View.read_writes_eq_canon _ _ _ (fun y => cover1_A_5 (y := y) ..)]
  unfold kernelRun1_A
  dsimp only
  sl_unfold_words
  simp only [View.readAt_eq_ld, h1.read_unread, h2.read_unread, h3.read_unread, h4.read_unread,
    View.ld_unit_zero (S := S256x1024) origin, View.ld_unit_zero (S := S1x256x1024) origin3]
  rw [View.canon_unit_zero origin3]
  exact stored_delta x0 x2 x3 x1 shapeCasts_S1x256x1024_S256x1024 shapeCasts_S256x1024_S1x256x1024 j
theorem body1_6 : out1_A_6 c i arg1 h1 arg2 h2 arg3 h3 arg4 h4 arg9 h9 arg10 h10 arg11 h11 arg12 h12 x0 x1 x2 x3 j = each first x0 x1 x2 x3 j := by
  unfold out1_A_6
  rw [View.read_writes_eq_canon _ _ _ (fun y => cover1_A_6 (y := y) ..)]
  unfold kernelRun1_A
  dsimp only
  sl_unfold_words
  simp only [View.readAt_eq_ld, h1.read_unread, h2.read_unread, h3.read_unread, h4.read_unread,
    View.ld_unit_zero (S := S256x1024) origin, View.ld_unit_zero (S := S1x256x1024) origin3]
  rw [View.canon_unit_zero origin3]
  exact stored_first x0 x2 x3 x1 shapeCasts_S1x256x1024_S256x1024 shapeCasts_S256x1024_S1x256x1024 j
theorem body1_7 : out1_A_7 c i arg1 h1 arg2 h2 arg3 h3 arg4 h4 arg9 h9 arg10 h10 arg11 h11 arg12 h12 x0 x1 x2 x3 j = each second x0 x1 x2 x3 j := by
  unfold out1_A_7
  rw [View.read_writes_eq_canon _ _ _ (fun y => cover1_A_7 (y := y) ..)]
  unfold kernelRun1_A
  dsimp only
  sl_unfold_words
  simp only [View.readAt_eq_ld, h1.read_unread, h2.read_unread, h3.read_unread, h4.read_unread,
    View.ld_unit_zero (S := S256x1024) origin, View.ld_unit_zero (S := S1x256x1024) origin3]
  rw [View.canon_unit_zero origin3]
  exact stored_second x0 x2 x3 x1 shapeCasts_S1x256x1024_S256x1024 shapeCasts_S256x1024_S1x256x1024 j

end Body

/-! ## What each call leaves -/

variable (V : (c : Dev nD) → (b : Ref sig .tc) → Buf (Elt Ideal) ((c : Thread nD τ).loc b)) (c : Dev nD)

theorem at0 : ∀ t : Fin cfg0.N, win0_0.index t = ![1, t.val, 0] ∧ win0_1.index t = ![t.val, 0] :=
  (by decide +kernel : ∀ t : Fin grid0.N, win0_0.index t = ![1, t.val, 0] ∧ win0_1.index t = ![t.val, 0])
theorem blocks0 (f : EReal → EReal → EReal → EReal → EReal) (t : Fin cfg0.N) (j : S1x256x1024.Idx) :
    each f (iblk0 V c 0 t) (iblk0 V c 1 t) (iblk0 V c 2 t) (iblk0 V c 3 t) j
      = layered f (V c main_arg0) (V c main_arg2) (V c main_arg3) (V c main_arg4) ((win0_0.rect t).idx j) :=
  block_steps f (x := win0_0.index t) (y := win0_1.index t) (win0_0.rect t).idx (win0_1.rect t).idx (fun _ => rfl) (fun _ => rfl)
    (fun _ => rfl) (fun _ => rfl) (by rw [(at0 t).1, (at0 t).2]; rfl) (by rw [(at0 t).1, (at0 t).2]; rfl) (fun _ => rfl) (fun _ => rfl)
    (fun _ => rfl) (fun _ => rfl) j
theorem covered0 (i : S2x512x1024.Idx) (h : (i 0).val = 1) : ∃ t : Fin cfg0.N, i ∈ (win0_0.rect t).set := by
  have hi : (i 1).val / 256 < cfg0.N := by
    rw [show cfg0.N = 2 from by decide +kernel]
    exact Nat.div_lt_of_lt_mul (show (i 1).val < 256 * 2 from (i 1).isLt)
  exact ⟨⟨_, hi⟩, Rect.mem_set_unit.2 (in_rows (by decide) i h (at0 ⟨_, hi⟩).1)⟩

theorem left0_4 (i : S2x512x1024.Idx) (h : (i 0).val = 1) : (dat0 V c).arrAt 4 cfg0.N i
    = layered keep (V c main_arg0) (V c main_arg2) (V c main_arg3) (V c main_arg4) i := by
  obtain ⟨t, ht⟩ := covered0 i h
  refine (dat0 V c).arrAt_apply_of_mem 4 (layered keep (V c main_arg0) (V c main_arg2) (V c main_arg3) (V c main_arg4))
    (fun t _ => (after0_4 ..).trans (funext fun j => (body0_4 _ _ _ _ j).trans (blocks0 V c keep t j))) cfg0.N t i t.isLt (flush0_4 t) ?_
  show i ∈ ((View.whole main_v0_0).slice (win0_4.rect t)).set
  rw [View.set_slice_whole]
  exact ht
theorem left0_5 (i : S2x512x1024.Idx) (h : (i 0).val = 1) : (dat0 V c).arrAt 5 cfg0.N i
    = layered delta (V c main_arg0) (V c main_arg2) (V c main_arg3) (V c main_arg4) i := by
  obtain ⟨t, ht⟩ := covered0 i h
  refine (dat0 V c).arrAt_apply_of_mem 5 (layered delta (V c main_arg0) (V c main_arg2) (V c main_arg3) (V c main_arg4))
    (fun t _ => (after0_5 ..).trans (funext fun j => (body0_5 _ _ _ _ j).trans (blocks0 V c delta t j))) cfg0.N t i t.isLt (flush0_5 t) ?_
  show i ∈ ((View.whole main_v0_1).slice (win0_5.rect t)).set
  rw [View.set_slice_whole]
  exact ht
theorem left0_6 (i : S2x512x1024.Idx) (h : (i 0).val = 1) : (dat0 V c).arrAt 6 cfg0.N i
    = layered first (V c main_arg0) (V c main_arg2) (V c main_arg3) (V c main_arg4) i := by
  obtain ⟨t, ht⟩ := covered0 i h
  refine (dat0 V c).arrAt_apply_of_mem 6 (layered first (V c main_arg0) (V c main_arg2) (V c main_arg3) (V c main_arg4))
    (fun t _ => (after0_6 ..).trans (funext fun j => (body0_6 _ _ _ _ j).trans (blocks0 V c first t j))) cfg0.N t i t.isLt (flush0_6 t) ?_
  show i ∈ ((View.whole main_v0_2).slice (win0_6.rect t)).set
  rw [View.set_slice_whole]
  exact ht
theorem left0_7 (i : S2x512x1024.Idx) (h : (i 0).val = 1) : (dat0 V c).arrAt 7 cfg0.N i
    = layered second (V c main_arg0) (V c main_arg2) (V c main_arg3) (V c main_arg4) i := by
  obtain ⟨t, ht⟩ := covered0 i h
  refine (dat0 V c).arrAt_apply_of_mem 7 (layered second (V c main_arg0) (V c main_arg2) (V c main_arg3) (V c main_arg4))
    (fun t _ => (after0_7 ..).trans (funext fun j => (body0_7 _ _ _ _ j).trans (blocks0 V c second t j))) cfg0.N t i t.isLt (flush0_7 t) ?_
  show i ∈ ((View.whole main_v0_3).slice (win0_7.rect t)).set
  rw [View.set_slice_whole]
  exact ht

theorem at1 : ∀ t : Fin cfg1.N, win1_0.index t = ![0, t.val, 0] ∧ win1_1.index t = ![t.val, 0] :=
  (by decide +kernel : ∀ t : Fin grid1.N, win1_0.index t = ![0, t.val, 0] ∧ win1_1.index t = ![t.val, 0])
theorem blocks1 (f : EReal → EReal → EReal → EReal → EReal) (t : Fin cfg1.N) (j : S1x256x1024.Idx) :
    each f (iblk1 V c 0 t) (iblk1 V c 1 t) (iblk1 V c 2 t) (iblk1 V c 3 t) j
      = layered f (V c main_arg0) (V c main_arg1) (V c main_arg3) (V c main_arg4) ((win1_0.rect t).idx j) :=
  block_steps f (x := win1_0.index t) (y := win1_1.index t) (win1_0.rect t).idx (win1_1.rect t).idx (fun _ => rfl) (fun _ => rfl)
    (fun _ => rfl) (fun _ => rfl) (by rw [(at1 t).1, (at1 t).2]; rfl) (by rw [(at1 t).1, (at1 t).2]; rfl) (fun _ => rfl) (fun _ => rfl)
    (fun _ => rfl) (fun _ => rfl) j
theorem covered1 (i : S2x512x1024.Idx) (h : (i 0).val = 0) : ∃ t : Fin cfg1.N, i ∈ (win1_0.rect t).set := by
  have hi : (i 1).val / 256 < cfg1.N := by
    rw [show cfg1.N = 2 from by decide +kernel]
    exact Nat.div_lt_of_lt_mul (show (i 1).val < 256 * 2 from (i 1).isLt)
  exact ⟨⟨_, hi⟩, Rect.mem_set_unit.2 (in_rows (by decide) i h (at1 ⟨_, hi⟩).1)⟩

theorem outs1_4 (t : Fin cfg1.N) : (outsAt1 V c t).1 = each keep (iblk1 V c 0 t) (iblk1 V c 1 t) (iblk1 V c 2 t) (iblk1 V c 3 t) := by
  unfold outsAt1
  dsimp only
  generalize iblk1 V c 0 t = y0, iblk1 V c 1 t = y1, iblk1 V c 2 t = y2, iblk1 V c 3 t = y3
  exact funext fun j => body1_4 y0 y1 y2 y3 j ..
theorem left1_4 (i : S2x512x1024.Idx) (h : (i 0).val = 0) : (dat1 V c).arrAt 4 cfg1.N i
    = layered keep (V c main_arg0) (V c main_arg1) (V c main_arg3) (V c main_arg4) i := by
  obtain ⟨t, ht⟩ := covered1 i h
  refine (dat1 V c).arrAt_apply_of_mem 4 (layered keep (V c main_arg0) (V c main_arg1) (V c main_arg3) (V c main_arg4))
    (fun t _ => (after1_4 ..).trans (funext fun j => (congrFun (outs1_4 V c t) j).trans (blocks1 V c keep t j))) cfg1.N t i t.isLt (flush1_4 t) ?_
  show i ∈ ((View.whole main_v1_0).slice (win1_4.rect t)).set
  rw [View.set_slice_whole]
  exact ht
theorem outs1_5 (t : Fin cfg1.N) : (outsAt1 V c t).2.1 = each delta (iblk1 V c 0 t) (iblk1 V c 1 t) (iblk1 V c 2 t) (iblk1 V c 3 t) := by
  unfold outsAt1
  dsimp only
  generalize iblk1 V c 0 t = y0, iblk1 V c 1 t = y1, iblk1 V c 2 t = y2, iblk1 V c 3 t = y3
  exact funext fun j => body1_5 y0 y1 y2 y3 j ..
theorem left1_5 (i : S2x512x1024.Idx) (h : (i 0).val = 0) : (dat1 V c).arrAt 5 cfg1.N i
    = layered delta (V c main_arg0) (V c main_arg1) (V c main_arg3) (V c main_arg4) i := by
  obtain ⟨t, ht⟩ := covered1 i h
  refine (dat1 V c).arrAt_apply_of_mem 5 (layered delta (V c main_arg0) (V c main_arg1) (V c main_arg3) (V c main_arg4))
    (fun t _ => (after1_5 ..).trans (funext fun j => (congrFun (outs1_5 V c t) j).trans (blocks1 V c delta t j))) cfg1.N t i t.isLt (flush1_5 t) ?_
  show i ∈ ((View.whole main_v1_1).slice (win1_5.rect t)).set
  rw [View.set_slice_whole]
  exact ht
theorem outs1_6 (t : Fin cfg1.N) : (outsAt1 V c t).2.2.1 = each first (iblk1 V c 0 t) (iblk1 V c 1 t) (iblk1 V c 2 t) (iblk1 V c 3 t) := by
  unfold outsAt1
  dsimp only
  generalize iblk1 V c 0 t = y0, iblk1 V c 1 t = y1, iblk1 V c 2 t = y2, iblk1 V c 3 t = y3
  exact funext fun j => body1_6 y0 y1 y2 y3 j ..
theorem left1_6 (i : S2x512x1024.Idx) (h : (i 0).val = 0) : (dat1 V c).arrAt 6 cfg1.N i
    = layered first (V c main_arg0) (V c main_arg1) (V c main_arg3) (V c main_arg4) i := by
  obtain ⟨t, ht⟩ := covered1 i h
  refine (dat1 V c).arrAt_apply_of_mem 6 (layered first (V c main_arg0) (V c main_arg1) (V c main_arg3) (V c main_arg4))
    (fun t _ => (after1_6 ..).trans (funext fun j => (congrFun (outs1_6 V c t) j).trans (blocks1 V c first t j))) cfg1.N t i t.isLt (flush1_6 t) ?_
  show i ∈ ((View.whole main_v1_2).slice (win1_6.rect t)).set
  rw [View.set_slice_whole]
  exact ht
theorem outs1_7 (t : Fin cfg1.N) : (outsAt1 V c t).2.2.2 = each second (iblk1 V c 0 t) (iblk1 V c 1 t) (iblk1 V c 2 t) (iblk1 V c 3 t) := by
  unfold outsAt1
  dsimp only
  generalize iblk1 V c 0 t = y0, iblk1 V c 1 t = y1, iblk1 V c 2 t = y2, iblk1 V c 3 t = y3
  exact funext fun j => body1_7 y0 y1 y2 y3 j ..
theorem left1_7 (i : S2x512x1024.Idx) (h : (i 0).val = 0) : (dat1 V c).arrAt 7 cfg1.N i
    = layered second (V c main_arg0) (V c main_arg1) (V c main_arg3) (V c main_arg4) i := by
  obtain ⟨t, ht⟩ := covered1 i h
  refine (dat1 V c).arrAt_apply_of_mem 7 (layered second (V c main_arg0) (V c main_arg1) (V c main_arg3) (V c main_arg4))
    (fun t _ => (after1_7 ..).trans (funext fun j => (congrFun (outs1_7 V c t) j).trans (blocks1 V c second t j))) cfg1.N t i t.isLt (flush1_7 t) ?_
  show i ∈ ((View.whole main_v1_3).slice (win1_7.rect t)).set
  rw [View.set_slice_whole]
  exact ht

/-- What the second call does not write. -/
theorem outside (i : S2x512x1024.Idx) (h : (i 0).val = 1) (t : Fin cfg1.N) : i ∉ (win1_0.rect t).set := fun hm => by
  have h0 : win1_0.index t 0 * 1 ≤ (i 0).val ∧ (i 0).val < win1_0.index t 0 * 1 + 1 := Rect.mem_set_unit.1 hm 0
  rw [(at1 t).1, h] at h0
  exact absurd h0.2 (show ¬ 1 < 0 * 1 + 1 by decide)

/-! ## The results -/

variable (m : (ℓ : Loc nD τ sig) → Buf (Elt Ideal) ℓ) (ρ : Dev nD → PrngReg)

/-- The stepped arrays of both layers. -/
abbrev whole (f : EReal → EReal → EReal → EReal → EReal) : S2x512x1024.Idx → EReal :=
  stepped f (m ((c : Thread nD τ).loc main_arg0)) (m ((c : Thread nD τ).loc main_arg1)) (m ((c : Thread nD τ).loc main_arg2))
    (m ((c : Thread nD τ).loc main_arg3)) (m ((c : Thread nD τ).loc main_arg4))

theorem kept (a : Ref sig .tc) (h : a ∈ argRefs) : V2 m ρ c a = m ((c : Thread nD τ).loc a) := W2_args m ρ c a h

theorem carried4 : W2 m ρ c (Proc.devRef .tc main_v1_0) = W1 m ρ c (Proc.devRef .tc main_v0_0) := by
  show StableHlo.after hostOps1 _ (Proc.devRef .tc main_v1_0) = _
  after_results
  rfl
theorem final4 : W3 m ρ c main_v1_0 = whole c m keep := by
  refine (W3_arr m ρ c 4).trans (two_layers (fun i h => ?_) fun i h => ?_)
  · rw [left1_4 (V2 m ρ) c i h, kept c m ρ main_arg0 (by decide), kept c m ρ main_arg1 (by decide), kept c m ρ main_arg3 (by decide),
      kept c m ρ main_arg4 (by decide)]
  · refine ((dat1 (V2 m ρ) c).arrAt_apply_of_forall_not_mem 4 cfg1.N i fun t _ _ => ?_).trans
      ((congrFun ((carried4 c m ρ).trans (W1_arr m ρ c 4)) i).trans (left0_4 (V0 m ρ) c i h))
    show i ∉ ((View.whole main_v1_0).slice (win1_4.rect t)).set
    rw [View.set_slice_whole]
    exact outside i h t
theorem carried5 : W2 m ρ c (Proc.devRef .tc main_v1_1) = W1 m ρ c (Proc.devRef .tc main_v0_1) := by
  show StableHlo.after hostOps1 _ (Proc.devRef .tc main_v1_1) = _
  after_results
  rfl
theorem final5 : W3 m ρ c main_v1_1 = whole c m delta := by
  refine (W3_arr m ρ c 5).trans (two_layers (fun i h => ?_) fun i h => ?_)
  · rw [left1_5 (V2 m ρ) c i h, kept c m ρ main_arg0 (by decide), kept c m ρ main_arg1 (by decide), kept c m ρ main_arg3 (by decide),
      kept c m ρ main_arg4 (by decide)]
  · refine ((dat1 (V2 m ρ) c).arrAt_apply_of_forall_not_mem 5 cfg1.N i fun t _ _ => ?_).trans
      ((congrFun ((carried5 c m ρ).trans (W1_arr m ρ c 5)) i).trans (left0_5 (V0 m ρ) c i h))
    show i ∉ ((View.whole main_v1_1).slice (win1_5.rect t)).set
    rw [View.set_slice_whole]
    exact outside i h t
theorem carried6 : W2 m ρ c (Proc.devRef .tc main_v1_2) = W1 m ρ c (Proc.devRef .tc main_v0_2) := by
  show StableHlo.after hostOps1 _ (Proc.devRef .tc main_v1_2) = _
  after_results
  rfl
theorem final6 : W3 m ρ c main_v1_2 = whole c m first := by
  refine (W3_arr m ρ c 6).trans (two_layers (fun i h => ?_) fun i h => ?_)
  · rw [left1_6 (V2 m ρ) c i h, kept c m ρ main_arg0 (by decide), kept c m ρ main_arg1 (by decide), kept c m ρ main_arg3 (by decide),
      kept c m ρ main_arg4 (by decide)]
  · refine ((dat1 (V2 m ρ) c).arrAt_apply_of_forall_not_mem 6 cfg1.N i fun t _ _ => ?_).trans
      ((congrFun ((carried6 c m ρ).trans (W1_arr m ρ c 6)) i).trans (left0_6 (V0 m ρ) c i h))
    show i ∉ ((View.whole main_v1_2).slice (win1_6.rect t)).set
    rw [View.set_slice_whole]
    exact outside i h t
theorem carried7 : W2 m ρ c (Proc.devRef .tc main_v1_3) = W1 m ρ c (Proc.devRef .tc main_v0_3) := by
  show StableHlo.after hostOps1 _ (Proc.devRef .tc main_v1_3) = _
  after_results
  rfl
theorem final7 : W3 m ρ c main_v1_3 = whole c m second := by
  refine (W3_arr m ρ c 7).trans (two_layers (fun i h => ?_) fun i h => ?_)
  · rw [left1_7 (V2 m ρ) c i h, kept c m ρ main_arg0 (by decide), kept c m ρ main_arg1 (by decide), kept c m ρ main_arg3 (by decide),
      kept c m ρ main_arg4 (by decide)]
  · refine ((dat1 (V2 m ρ) c).arrAt_apply_of_forall_not_mem 7 cfg1.N i fun t _ _ => ?_).trans
      ((congrFun ((carried7 c m ρ).trans (W1_arr m ρ c 7)) i).trans (left0_7 (V0 m ρ) c i h))
    show i ∉ ((View.whole main_v1_3).slice (win1_7.rect t)).set
    rw [View.set_slice_whole]
    exact outside i h t

set_option backward.isDefEq.respectTransparency.types false in
/-- Both calls' run, and what memory holds after it. -/
theorem run_both : θ_run defs (onTc (τ := τ) (main (F := Ideal))) ⟨m, fun _ => 0, ρ⟩ fun r => ∀ c : Dev nD,
    ∀ b ∈ Pipeline.ucRefs τ sig, r.2.mem (((c : Thread nD τ)).1, b) = W3 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ))
        ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h _ => h)

/-- The kernel's run: its results are the steps of its arguments, which it keeps. -/
theorem run : θ_run defs (onTc (τ := τ) (main (F := Ideal))) ⟨m, fun _ => 0, ρ⟩ fun r => ∀ c : Dev nD,
      r.2.mem ((c : Thread nD τ).loc main_v1_0) = whole c m keep
      ∧ r.2.mem ((c : Thread nD τ).loc main_v1_1) = whole c m delta
      ∧ r.2.mem ((c : Thread nD τ).loc main_v1_2) = whole c m first
      ∧ r.2.mem ((c : Thread nD τ).loc main_v1_3) = whole c m second
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c _ (mem_uc main_v1_0 (by decide))).trans (final4 c m ρ),
    (h c _ (mem_uc main_v1_1 (by decide))).trans (final5 c m ρ),
    (h c _ (mem_uc main_v1_2 (by decide))).trans (final6 c m ρ),
    (h c _ (mem_uc main_v1_3 (by decide))).trans (final7 c m ρ),
    (h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c)⟩) (run_both m ρ)

section Reference

open Cert.AdamKvReferenceIdeal.Read

variable (w m v : S2x512x1024.Idx → EReal) (g0 g1 : S512x1024.Idx → EReal)

theorem reference_stack (i : S2x512x1024.Idx) : val_main_v2 (F := Ideal) g0 g1 i = stacked g0 g1 i :=
  concatenated g0 g1 i _ _ _ (fun j => (val_main_v0_apply (F := Ideal) g0 j).trans (congrArg g0 (pair_ext rfl rfl)))
    fun j => (val_main_v1_apply (F := Ideal) g1 j).trans (congrArg g1 (pair_ext rfl rfl))
theorem reference_grad : val_main_v2 (F := Ideal) g0 g1 = stepped keep w g0 g1 m v := funext fun i => reference_stack g0 g1 i
theorem reference_moment : val_main_v7 (F := Ideal) g0 g1 m = stepped first w g0 g1 m v := funext fun i =>
  congrArg (fun g => moment g (m i)) (reference_stack g0 g1 i)
theorem reference_spread : val_main_v13 (F := Ideal) g0 g1 v = stepped second w g0 g1 m v := funext fun i =>
  congrArg (fun g => spread g (v i)) (reference_stack g0 g1 i)
theorem reference_delta : val_main_v26 (F := Ideal) w g0 g1 m v = stepped delta w g0 g1 m v := funext fun i =>
  congrArg (fun g => delta (w i) g (m i) (v i)) (reference_stack g0 g1 i)

end Reference

end Cert.AdamKvIdeal.Grad

end
-- ==== Proof.AdamXq.lean ====
/- AdamW on a shard of the weight of the cross-attention's queries and of its output: a call for each layer, the second writing into what the first returns. Each entry of
   the four results is the step of its layer's gradient, and so is the reference's. -/
module

public import proofs.«01_k».proof.Proof.Step
public import proofs.«01_k».proof.Proof.Gen.AdamXqIdeal.Frame
public import proofs.«01_k».proof.Proof.Gen.AdamXqReferenceIdeal.Run
public import proofs.«01_k».proof.Proof.Gen.AdamXqReferenceIdeal.Read
public import Idealize.ShloMosaic.Lib.StableHlo.Run

@[expose] public section

noncomputable section

namespace Cert.AdamXqIdeal.Grad

open Cert.AdamXqIdeal Cert.AdamXqIdeal.Gen Cert.Product Cert.Step Idealize.ShloMosaic Idealize.ShloMosaic.ValueIdx
open Idealize.ShloMosaic.TcCoe Idealize.ShloMosaic.Tactic Idealize.SL Idealize.SL.RA Idealize.SL.BI Idealize.SL.Sem
open scoped Idealize.SL.BI
open Idealize.SL.BI.BIBase Idealize.SL.BI.Laws Idealize.SL.ProofMode Idealize.ShloMosaic.Rounds
open Idealize.ShloMosaic.Pipeline (Dat cellOf)

section Body

/-! The stored blocks: of the first call, -/

variable (x0 : Vec Ideal S1x256x512 .f32) (x1 : Vec Ideal S256x512 .f32) (x2 x3 : Vec Ideal S1x256x512 .f32) (j : S1x256x512.Idx)

theorem body0_4 : out0_4 x0 x1 x2 x3 j = each keep x0 x1 x2 x3 j := by
  unfold out0_4
  rw [View.canon_unit_zero origin3, View.ld_unit_zero (S := S256x512) origin]
  exact stored_keep x0 x2 x3 x1 shapeCasts_S256x512_S1x256x512 j
theorem body0_5 : out0_5 x0 x1 x2 x3 j = each delta x0 x1 x2 x3 j := by
  unfold out0_5
  rw [View.canon_unit_zero origin3, View.ld_unit_zero (S := S256x512) origin]
  simp only [View.ld_unit_zero (S := S1x256x512) origin3]
  exact stored_delta x0 x2 x3 x1 shapeCasts_S1x256x512_S256x512 shapeCasts_S256x512_S1x256x512 j
theorem body0_6 : out0_6 x0 x1 x2 x3 j = each first x0 x1 x2 x3 j := by
  unfold out0_6
  rw [View.canon_unit_zero origin3, View.ld_unit_zero (S := S256x512) origin, View.ld_unit_zero (S := S1x256x512) origin3]
  exact stored_first x0 x2 x3 x1 shapeCasts_S1x256x512_S256x512 shapeCasts_S256x512_S1x256x512 j
theorem body0_7 : out0_7 x0 x1 x2 x3 j = each second x0 x1 x2 x3 j := by
  unfold out0_7
  rw [View.canon_unit_zero origin3, View.ld_unit_zero (S := S256x512) origin, View.ld_unit_zero (S := S1x256x512) origin3]
  exact stored_second x0 x2 x3 x1 shapeCasts_S1x256x512_S256x512 shapeCasts_S256x512_S1x256x512 j

/-! and of the second. -/

variable (c : Dev nD) (i : grid1.Coords)
  (arg1 : Memref sig .tc .vmem S1x256x512 .f32) (h1 : arg1.IsWhole) (arg2 : Memref sig .tc .vmem S256x512 .f32) (h2 : arg2.IsWhole)
  (arg3 : Memref sig .tc .vmem S1x256x512 .f32) (h3 : arg3.IsWhole) (arg4 : Memref sig .tc .vmem S1x256x512 .f32) (h4 : arg4.IsWhole)
  (arg9 : Memref sig .tc .vmem S1x256x512 .f32) (h9 : arg9.IsWhole) (arg10 : Memref sig .tc .vmem S1x256x512 .f32) (h10 : arg10.IsWhole)
  (arg11 : Memref sig .tc .vmem S1x256x512 .f32) (h11 : arg11.IsWhole) (arg12 : Memref sig .tc .vmem S1x256x512 .f32) (h12 : arg12.IsWhole)

theorem body1_4 : out1_A_4 c i arg1 h1 arg2 h2 arg3 h3 arg4 h4 arg9 h9 arg10 h10 arg11 h11 arg12 h12 x0 x1 x2 x3 j = each keep x0 x1 x2 x3 j := by
  unfold out1_A_4
  rw [View.read_writes_eq_canon _ _ _ (fun y => cover1_A_4 (y := y) ..)]
  unfold kernelRun1_A
  dsimp only
  sl_unfold_words
  simp only [View.readAt_eq_ld, h1.read_unread, h2.read_unread, h3.read_unread, h4.read_unread,
    View.ld_unit_zero (S := S256x512) origin, View.ld_unit_zero (S := S1x256x512) origin3]
  rw [View.canon_unit_zero origin3]
  exact stored_keep x0 x2 x3 x1 shapeCasts_S256x512_S1x256x512 j
theorem body1_5 : out1_A_5 c i arg1 h1 arg2 h2 arg3 h3 arg4 h4 arg9 h9 arg10 h10 arg11 h11 arg12 h12 x0 x1 x2 x3 j = each delta x0 x1 x2 x3 j := by
  unfold out1_A_5
  rw [View.read_writes_eq_canon _ _ _ (fun y => cover1_A_5 (y := y) ..)]
  unfold kernelRun1_A
  dsimp only
  sl_unfold_words
  simp only [View.readAt_eq_ld, h1.read_unread, h2.read_unread, h3.read_unread, h4.read_unread,
    View.ld_unit_zero (S := S256x512) origin, View.ld_unit_zero (S := S1x256x512) origin3]
  rw [View.canon_unit_zero origin3]
  exact stored_delta x0 x2 x3 x1 shapeCasts_S1x256x512_S256x512 shapeCasts_S256x512_S1x256x512 j
theorem body1_6 : out1_A_6 c i arg1 h1 arg2 h2 arg3 h3 arg4 h4 arg9 h9 arg10 h10 arg11 h11 arg12 h12 x0 x1 x2 x3 j = each first x0 x1 x2 x3 j := by
  unfold out1_A_6
  rw [View.read_writes_eq_canon _ _ _ (fun y => cover1_A_6 (y := y) ..)]
  unfold kernelRun1_A
  dsimp only
  sl_unfold_words
  simp only [View.readAt_eq_ld, h1.read_unread, h2.read_unread, h3.read_unread, h4.read_unread,
    View.ld_unit_zero (S := S256x512) origin, View.ld_unit_zero (S := S1x256x512) origin3]
  rw [View.canon_unit_zero origin3]
  exact stored_first x0 x2 x3 x1 shapeCasts_S1x256x512_S256x512 shapeCasts_S256x512_S1x256x512 j
theorem body1_7 : out1_A_7 c i arg1 h1 arg2 h2 arg3 h3 arg4 h4 arg9 h9 arg10 h10 arg11 h11 arg12 h12 x0 x1 x2 x3 j = each second x0 x1 x2 x3 j := by
  unfold out1_A_7
  rw [View.read_writes_eq_canon _ _ _ (fun y => cover1_A_7 (y := y) ..)]
  unfold kernelRun1_A
  dsimp only
  sl_unfold_words
  simp only [View.readAt_eq_ld, h1.read_unread, h2.read_unread, h3.read_unread, h4.read_unread,
    View.ld_unit_zero (S := S256x512) origin, View.ld_unit_zero (S := S1x256x512) origin3]
  rw [View.canon_unit_zero origin3]
  exact stored_second x0 x2 x3 x1 shapeCasts_S1x256x512_S256x512 shapeCasts_S256x512_S1x256x512 j

end Body

/-! ## What each call leaves -/

variable (V : (c : Dev nD) → (b : Ref sig .tc) → Buf (Elt Ideal) ((c : Thread nD τ).loc b)) (c : Dev nD)

theorem at0 : ∀ t : Fin cfg0.N, win0_0.index t = ![1, t.val, 0] ∧ win0_1.index t = ![t.val, 0] :=
  (by decide +kernel : ∀ t : Fin grid0.N, win0_0.index t = ![1, t.val, 0] ∧ win0_1.index t = ![t.val, 0])
theorem blocks0 (f : EReal → EReal → EReal → EReal → EReal) (t : Fin cfg0.N) (j : S1x256x512.Idx) :
    each f (iblk0 V c 0 t) (iblk0 V c 1 t) (iblk0 V c 2 t) (iblk0 V c 3 t) j
      = layered f (V c main_arg0) (V c main_arg2) (V c main_arg3) (V c main_arg4) ((win0_0.rect t).idx j) :=
  block_steps f (x := win0_0.index t) (y := win0_1.index t) (win0_0.rect t).idx (win0_1.rect t).idx (fun _ => rfl) (fun _ => rfl)
    (fun _ => rfl) (fun _ => rfl) (by rw [(at0 t).1, (at0 t).2]; rfl) (by rw [(at0 t).1, (at0 t).2]; rfl) (fun _ => rfl) (fun _ => rfl)
    (fun _ => rfl) (fun _ => rfl) j
theorem covered0 (i : S2x512x512.Idx) (h : (i 0).val = 1) : ∃ t : Fin cfg0.N, i ∈ (win0_0.rect t).set := by
  have hi : (i 1).val / 256 < cfg0.N := by
    rw [show cfg0.N = 2 from by decide +kernel]
    exact Nat.div_lt_of_lt_mul (show (i 1).val < 256 * 2 from (i 1).isLt)
  exact ⟨⟨_, hi⟩, Rect.mem_set_unit.2 (in_rows (by decide) i h (at0 ⟨_, hi⟩).1)⟩

theorem left0_4 (i : S2x512x512.Idx) (h : (i 0).val = 1) : (dat0 V c).arrAt 4 cfg0.N i
    = layered keep (V c main_arg0) (V c main_arg2) (V c main_arg3) (V c main_arg4) i := by
  obtain ⟨t, ht⟩ := covered0 i h
  refine (dat0 V c).arrAt_apply_of_mem 4 (layered keep (V c main_arg0) (V c main_arg2) (V c main_arg3) (V c main_arg4))
    (fun t _ => (after0_4 ..).trans (funext fun j => (body0_4 _ _ _ _ j).trans (blocks0 V c keep t j))) cfg0.N t i t.isLt (flush0_4 t) ?_
  show i ∈ ((View.whole main_v0_0).slice (win0_4.rect t)).set
  rw [View.set_slice_whole]
  exact ht
theorem left0_5 (i : S2x512x512.Idx) (h : (i 0).val = 1) : (dat0 V c).arrAt 5 cfg0.N i
    = layered delta (V c main_arg0) (V c main_arg2) (V c main_arg3) (V c main_arg4) i := by
  obtain ⟨t, ht⟩ := covered0 i h
  refine (dat0 V c).arrAt_apply_of_mem 5 (layered delta (V c main_arg0) (V c main_arg2) (V c main_arg3) (V c main_arg4))
    (fun t _ => (after0_5 ..).trans (funext fun j => (body0_5 _ _ _ _ j).trans (blocks0 V c delta t j))) cfg0.N t i t.isLt (flush0_5 t) ?_
  show i ∈ ((View.whole main_v0_1).slice (win0_5.rect t)).set
  rw [View.set_slice_whole]
  exact ht
theorem left0_6 (i : S2x512x512.Idx) (h : (i 0).val = 1) : (dat0 V c).arrAt 6 cfg0.N i
    = layered first (V c main_arg0) (V c main_arg2) (V c main_arg3) (V c main_arg4) i := by
  obtain ⟨t, ht⟩ := covered0 i h
  refine (dat0 V c).arrAt_apply_of_mem 6 (layered first (V c main_arg0) (V c main_arg2) (V c main_arg3) (V c main_arg4))
    (fun t _ => (after0_6 ..).trans (funext fun j => (body0_6 _ _ _ _ j).trans (blocks0 V c first t j))) cfg0.N t i t.isLt (flush0_6 t) ?_
  show i ∈ ((View.whole main_v0_2).slice (win0_6.rect t)).set
  rw [View.set_slice_whole]
  exact ht
theorem left0_7 (i : S2x512x512.Idx) (h : (i 0).val = 1) : (dat0 V c).arrAt 7 cfg0.N i
    = layered second (V c main_arg0) (V c main_arg2) (V c main_arg3) (V c main_arg4) i := by
  obtain ⟨t, ht⟩ := covered0 i h
  refine (dat0 V c).arrAt_apply_of_mem 7 (layered second (V c main_arg0) (V c main_arg2) (V c main_arg3) (V c main_arg4))
    (fun t _ => (after0_7 ..).trans (funext fun j => (body0_7 _ _ _ _ j).trans (blocks0 V c second t j))) cfg0.N t i t.isLt (flush0_7 t) ?_
  show i ∈ ((View.whole main_v0_3).slice (win0_7.rect t)).set
  rw [View.set_slice_whole]
  exact ht

theorem at1 : ∀ t : Fin cfg1.N, win1_0.index t = ![0, t.val, 0] ∧ win1_1.index t = ![t.val, 0] :=
  (by decide +kernel : ∀ t : Fin grid1.N, win1_0.index t = ![0, t.val, 0] ∧ win1_1.index t = ![t.val, 0])
theorem blocks1 (f : EReal → EReal → EReal → EReal → EReal) (t : Fin cfg1.N) (j : S1x256x512.Idx) :
    each f (iblk1 V c 0 t) (iblk1 V c 1 t) (iblk1 V c 2 t) (iblk1 V c 3 t) j
      = layered f (V c main_arg0) (V c main_arg1) (V c main_arg3) (V c main_arg4) ((win1_0.rect t).idx j) :=
  block_steps f (x := win1_0.index t) (y := win1_1.index t) (win1_0.rect t).idx (win1_1.rect t).idx (fun _ => rfl) (fun _ => rfl)
    (fun _ => rfl) (fun _ => rfl) (by rw [(at1 t).1, (at1 t).2]; rfl) (by rw [(at1 t).1, (at1 t).2]; rfl) (fun _ => rfl) (fun _ => rfl)
    (fun _ => rfl) (fun _ => rfl) j
theorem covered1 (i : S2x512x512.Idx) (h : (i 0).val = 0) : ∃ t : Fin cfg1.N, i ∈ (win1_0.rect t).set := by
  have hi : (i 1).val / 256 < cfg1.N := by
    rw [show cfg1.N = 2 from by decide +kernel]
    exact Nat.div_lt_of_lt_mul (show (i 1).val < 256 * 2 from (i 1).isLt)
  exact ⟨⟨_, hi⟩, Rect.mem_set_unit.2 (in_rows (by decide) i h (at1 ⟨_, hi⟩).1)⟩

theorem outs1_4 (t : Fin cfg1.N) : (outsAt1 V c t).1 = each keep (iblk1 V c 0 t) (iblk1 V c 1 t) (iblk1 V c 2 t) (iblk1 V c 3 t) := by
  unfold outsAt1
  dsimp only
  generalize iblk1 V c 0 t = y0, iblk1 V c 1 t = y1, iblk1 V c 2 t = y2, iblk1 V c 3 t = y3
  exact funext fun j => body1_4 y0 y1 y2 y3 j ..
theorem left1_4 (i : S2x512x512.Idx) (h : (i 0).val = 0) : (dat1 V c).arrAt 4 cfg1.N i
    = layered keep (V c main_arg0) (V c main_arg1) (V c main_arg3) (V c main_arg4) i := by
  obtain ⟨t, ht⟩ := covered1 i h
  refine (dat1 V c).arrAt_apply_of_mem 4 (layered keep (V c main_arg0) (V c main_arg1) (V c main_arg3) (V c main_arg4))
    (fun t _ => (after1_4 ..).trans (funext fun j => (congrFun (outs1_4 V c t) j).trans (blocks1 V c keep t j))) cfg1.N t i t.isLt (flush1_4 t) ?_
  show i ∈ ((View.whole main_v1_0).slice (win1_4.rect t)).set
  rw [View.set_slice_whole]
  exact ht
theorem outs1_5 (t : Fin cfg1.N) : (outsAt1 V c t).2.1 = each delta (iblk1 V c 0 t) (iblk1 V c 1 t) (iblk1 V c 2 t) (iblk1 V c 3 t) := by
  unfold outsAt1
  dsimp only
  generalize iblk1 V c 0 t = y0, iblk1 V c 1 t = y1, iblk1 V c 2 t = y2, iblk1 V c 3 t = y3
  exact funext fun j => body1_5 y0 y1 y2 y3 j ..
theorem left1_5 (i : S2x512x512.Idx) (h : (i 0).val = 0) : (dat1 V c).arrAt 5 cfg1.N i
    = layered delta (V c main_arg0) (V c main_arg1) (V c main_arg3) (V c main_arg4) i := by
  obtain ⟨t, ht⟩ := covered1 i h
  refine (dat1 V c).arrAt_apply_of_mem 5 (layered delta (V c main_arg0) (V c main_arg1) (V c main_arg3) (V c main_arg4))
    (fun t _ => (after1_5 ..).trans (funext fun j => (congrFun (outs1_5 V c t) j).trans (blocks1 V c delta t j))) cfg1.N t i t.isLt (flush1_5 t) ?_
  show i ∈ ((View.whole main_v1_1).slice (win1_5.rect t)).set
  rw [View.set_slice_whole]
  exact ht
theorem outs1_6 (t : Fin cfg1.N) : (outsAt1 V c t).2.2.1 = each first (iblk1 V c 0 t) (iblk1 V c 1 t) (iblk1 V c 2 t) (iblk1 V c 3 t) := by
  unfold outsAt1
  dsimp only
  generalize iblk1 V c 0 t = y0, iblk1 V c 1 t = y1, iblk1 V c 2 t = y2, iblk1 V c 3 t = y3
  exact funext fun j => body1_6 y0 y1 y2 y3 j ..
theorem left1_6 (i : S2x512x512.Idx) (h : (i 0).val = 0) : (dat1 V c).arrAt 6 cfg1.N i
    = layered first (V c main_arg0) (V c main_arg1) (V c main_arg3) (V c main_arg4) i := by
  obtain ⟨t, ht⟩ := covered1 i h
  refine (dat1 V c).arrAt_apply_of_mem 6 (layered first (V c main_arg0) (V c main_arg1) (V c main_arg3) (V c main_arg4))
    (fun t _ => (after1_6 ..).trans (funext fun j => (congrFun (outs1_6 V c t) j).trans (blocks1 V c first t j))) cfg1.N t i t.isLt (flush1_6 t) ?_
  show i ∈ ((View.whole main_v1_2).slice (win1_6.rect t)).set
  rw [View.set_slice_whole]
  exact ht
theorem outs1_7 (t : Fin cfg1.N) : (outsAt1 V c t).2.2.2 = each second (iblk1 V c 0 t) (iblk1 V c 1 t) (iblk1 V c 2 t) (iblk1 V c 3 t) := by
  unfold outsAt1
  dsimp only
  generalize iblk1 V c 0 t = y0, iblk1 V c 1 t = y1, iblk1 V c 2 t = y2, iblk1 V c 3 t = y3
  exact funext fun j => body1_7 y0 y1 y2 y3 j ..
theorem left1_7 (i : S2x512x512.Idx) (h : (i 0).val = 0) : (dat1 V c).arrAt 7 cfg1.N i
    = layered second (V c main_arg0) (V c main_arg1) (V c main_arg3) (V c main_arg4) i := by
  obtain ⟨t, ht⟩ := covered1 i h
  refine (dat1 V c).arrAt_apply_of_mem 7 (layered second (V c main_arg0) (V c main_arg1) (V c main_arg3) (V c main_arg4))
    (fun t _ => (after1_7 ..).trans (funext fun j => (congrFun (outs1_7 V c t) j).trans (blocks1 V c second t j))) cfg1.N t i t.isLt (flush1_7 t) ?_
  show i ∈ ((View.whole main_v1_3).slice (win1_7.rect t)).set
  rw [View.set_slice_whole]
  exact ht

/-- What the second call does not write. -/
theorem outside (i : S2x512x512.Idx) (h : (i 0).val = 1) (t : Fin cfg1.N) : i ∉ (win1_0.rect t).set := fun hm => by
  have h0 : win1_0.index t 0 * 1 ≤ (i 0).val ∧ (i 0).val < win1_0.index t 0 * 1 + 1 := Rect.mem_set_unit.1 hm 0
  rw [(at1 t).1, h] at h0
  exact absurd h0.2 (show ¬ 1 < 0 * 1 + 1 by decide)

/-! ## The results -/

variable (m : (ℓ : Loc nD τ sig) → Buf (Elt Ideal) ℓ) (ρ : Dev nD → PrngReg)

/-- The stepped arrays of both layers. -/
abbrev whole (f : EReal → EReal → EReal → EReal → EReal) : S2x512x512.Idx → EReal :=
  stepped f (m ((c : Thread nD τ).loc main_arg0)) (m ((c : Thread nD τ).loc main_arg1)) (m ((c : Thread nD τ).loc main_arg2))
    (m ((c : Thread nD τ).loc main_arg3)) (m ((c : Thread nD τ).loc main_arg4))

theorem kept (a : Ref sig .tc) (h : a ∈ argRefs) : V2 m ρ c a = m ((c : Thread nD τ).loc a) := W2_args m ρ c a h

theorem carried4 : W2 m ρ c (Proc.devRef .tc main_v1_0) = W1 m ρ c (Proc.devRef .tc main_v0_0) := by
  show StableHlo.after hostOps1 _ (Proc.devRef .tc main_v1_0) = _
  after_results
  rfl
theorem final4 : W3 m ρ c main_v1_0 = whole c m keep := by
  refine (W3_arr m ρ c 4).trans (two_layers (fun i h => ?_) fun i h => ?_)
  · rw [left1_4 (V2 m ρ) c i h, kept c m ρ main_arg0 (by decide), kept c m ρ main_arg1 (by decide), kept c m ρ main_arg3 (by decide),
      kept c m ρ main_arg4 (by decide)]
  · refine ((dat1 (V2 m ρ) c).arrAt_apply_of_forall_not_mem 4 cfg1.N i fun t _ _ => ?_).trans
      ((congrFun ((carried4 c m ρ).trans (W1_arr m ρ c 4)) i).trans (left0_4 (V0 m ρ) c i h))
    show i ∉ ((View.whole main_v1_0).slice (win1_4.rect t)).set
    rw [View.set_slice_whole]
    exact outside i h t
theorem carried5 : W2 m ρ c (Proc.devRef .tc main_v1_1) = W1 m ρ c (Proc.devRef .tc main_v0_1) := by
  show StableHlo.after hostOps1 _ (Proc.devRef .tc main_v1_1) = _
  after_results
  rfl
theorem final5 : W3 m ρ c main_v1_1 = whole c m delta := by
  refine (W3_arr m ρ c 5).trans (two_layers (fun i h => ?_) fun i h => ?_)
  · rw [left1_5 (V2 m ρ) c i h, kept c m ρ main_arg0 (by decide), kept c m ρ main_arg1 (by decide), kept c m ρ main_arg3 (by decide),
      kept c m ρ main_arg4 (by decide)]
  · refine ((dat1 (V2 m ρ) c).arrAt_apply_of_forall_not_mem 5 cfg1.N i fun t _ _ => ?_).trans
      ((congrFun ((carried5 c m ρ).trans (W1_arr m ρ c 5)) i).trans (left0_5 (V0 m ρ) c i h))
    show i ∉ ((View.whole main_v1_1).slice (win1_5.rect t)).set
    rw [View.set_slice_whole]
    exact outside i h t
theorem carried6 : W2 m ρ c (Proc.devRef .tc main_v1_2) = W1 m ρ c (Proc.devRef .tc main_v0_2) := by
  show StableHlo.after hostOps1 _ (Proc.devRef .tc main_v1_2) = _
  after_results
  rfl
theorem final6 : W3 m ρ c main_v1_2 = whole c m first := by
  refine (W3_arr m ρ c 6).trans (two_layers (fun i h => ?_) fun i h => ?_)
  · rw [left1_6 (V2 m ρ) c i h, kept c m ρ main_arg0 (by decide), kept c m ρ main_arg1 (by decide), kept c m ρ main_arg3 (by decide),
      kept c m ρ main_arg4 (by decide)]
  · refine ((dat1 (V2 m ρ) c).arrAt_apply_of_forall_not_mem 6 cfg1.N i fun t _ _ => ?_).trans
      ((congrFun ((carried6 c m ρ).trans (W1_arr m ρ c 6)) i).trans (left0_6 (V0 m ρ) c i h))
    show i ∉ ((View.whole main_v1_2).slice (win1_6.rect t)).set
    rw [View.set_slice_whole]
    exact outside i h t
theorem carried7 : W2 m ρ c (Proc.devRef .tc main_v1_3) = W1 m ρ c (Proc.devRef .tc main_v0_3) := by
  show StableHlo.after hostOps1 _ (Proc.devRef .tc main_v1_3) = _
  after_results
  rfl
theorem final7 : W3 m ρ c main_v1_3 = whole c m second := by
  refine (W3_arr m ρ c 7).trans (two_layers (fun i h => ?_) fun i h => ?_)
  · rw [left1_7 (V2 m ρ) c i h, kept c m ρ main_arg0 (by decide), kept c m ρ main_arg1 (by decide), kept c m ρ main_arg3 (by decide),
      kept c m ρ main_arg4 (by decide)]
  · refine ((dat1 (V2 m ρ) c).arrAt_apply_of_forall_not_mem 7 cfg1.N i fun t _ _ => ?_).trans
      ((congrFun ((carried7 c m ρ).trans (W1_arr m ρ c 7)) i).trans (left0_7 (V0 m ρ) c i h))
    show i ∉ ((View.whole main_v1_3).slice (win1_7.rect t)).set
    rw [View.set_slice_whole]
    exact outside i h t

set_option backward.isDefEq.respectTransparency.types false in
/-- Both calls' run, and what memory holds after it. -/
theorem run_both : θ_run defs (onTc (τ := τ) (main (F := Ideal))) ⟨m, fun _ => 0, ρ⟩ fun r => ∀ c : Dev nD,
    ∀ b ∈ Pipeline.ucRefs τ sig, r.2.mem (((c : Thread nD τ)).1, b) = W3 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ))
        ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h _ => h)

/-- The kernel's run: its results are the steps of its arguments, which it keeps. -/
theorem run : θ_run defs (onTc (τ := τ) (main (F := Ideal))) ⟨m, fun _ => 0, ρ⟩ fun r => ∀ c : Dev nD,
      r.2.mem ((c : Thread nD τ).loc main_v1_0) = whole c m keep
      ∧ r.2.mem ((c : Thread nD τ).loc main_v1_1) = whole c m delta
      ∧ r.2.mem ((c : Thread nD τ).loc main_v1_2) = whole c m first
      ∧ r.2.mem ((c : Thread nD τ).loc main_v1_3) = whole c m second
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c _ (mem_uc main_v1_0 (by decide))).trans (final4 c m ρ),
    (h c _ (mem_uc main_v1_1 (by decide))).trans (final5 c m ρ),
    (h c _ (mem_uc main_v1_2 (by decide))).trans (final6 c m ρ),
    (h c _ (mem_uc main_v1_3 (by decide))).trans (final7 c m ρ),
    (h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c)⟩) (run_both m ρ)

section Reference

open Cert.AdamXqReferenceIdeal.Read

variable (w m v : S2x512x512.Idx → EReal) (g0 g1 : S512x512.Idx → EReal)

theorem reference_stack (i : S2x512x512.Idx) : val_main_v2 (F := Ideal) g0 g1 i = stacked g0 g1 i :=
  concatenated g0 g1 i _ _ _ (fun j => (val_main_v0_apply (F := Ideal) g0 j).trans (congrArg g0 (pair_ext rfl rfl)))
    fun j => (val_main_v1_apply (F := Ideal) g1 j).trans (congrArg g1 (pair_ext rfl rfl))
theorem reference_grad : val_main_v2 (F := Ideal) g0 g1 = stepped keep w g0 g1 m v := funext fun i => reference_stack g0 g1 i
theorem reference_moment : val_main_v7 (F := Ideal) g0 g1 m = stepped first w g0 g1 m v := funext fun i =>
  congrArg (fun g => moment g (m i)) (reference_stack g0 g1 i)
theorem reference_spread : val_main_v13 (F := Ideal) g0 g1 v = stepped second w g0 g1 m v := funext fun i =>
  congrArg (fun g => spread g (v i)) (reference_stack g0 g1 i)
theorem reference_delta : val_main_v26 (F := Ideal) w g0 g1 m v = stepped delta w g0 g1 m v := funext fun i =>
  congrArg (fun g => delta (w i) g (m i) (v i)) (reference_stack g0 g1 i)

end Reference

end Cert.AdamXqIdeal.Grad

end
-- ==== Proof.Lift.lean ====
/- Real numbers among the extended reals: the sums, quotients and literals of the programs, read as real numbers. -/
module

public import Idealize.ShloMosaic.Lib.ValueIdx
public import Idealize.ShloMosaic.Lib.IdealHost
public import Idealize.ShloMosaic.PureOps.Ideal.Laws
public import Idealize.ShloMosaic.Lib.ValueLayout
public import Idealize.ShloMosaic.Lib.ValueLayoutCasts
public import Idealize.ShloMosaic.Lib.Pipeline.Value

@[expose] public section

noncomputable section

namespace Cert.Lift

open Idealize.ShloMosaic Idealize.ShloMosaic.ValueIdx

/-- A finite sum of reals is the same real summed in either type. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- An extended real below plus infinity in absolute value is a real number. -/
theorem real_of_abs_lt_top {x : EReal} (h : max x (-x) < ⊤) : ∃ r : ℝ, x = (r : EReal) := by
  induction x with
  | bot => simp at h
  | coe r => exact ⟨r, rfl⟩
  | top => simp at h

/-- The reciprocal square root of a positive real. -/
theorem rsqrt_pos {x : ℝ} (h : 0 < x) : Ideal.rsqrt (x : EReal) = (((Real.sqrt x)⁻¹ : ℝ) : EReal) := by
  rw [Ideal.rsqrt_coe, if_neg (not_lt.mpr h.le), if_neg h.ne']

/-- A quotient of reals by a nonzero real. -/
theorem div_real {x y : ℝ} (h : y ≠ 0) : Ideal.div (x : EReal) (y : EReal) = ((x / y : ℝ) : EReal) := by
  rw [Ideal.div_coe h, ← EReal.coe_mul, mul_one_div]

/-! ## The float words of the programs -/

theorem word_half : Ideal.ofBits .f32 0x3F000000#32 = ((1 / 2 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul, -EReal.coe_neg]; norm_num
theorem word_one : Ideal.ofBits .f32 0x3F800000#32 = ((1 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_three : Ideal.ofBits .f32 0x40400000#32 = ((3 : ℝ) : EReal) := by
  simp [Ideal.ofBits, Ideal.ieee, -EReal.coe_mul]; norm_num
theorem word_1024 : Ideal.ofBits .f32 0x44800000#32 = ((1024 : ℝ) : EReal) := by
  simp [Ideal.ofBits, Ideal.ieee, -EReal.coe_mul]; norm_num
/-- The float nearest `√(2/π)`. -/
theorem word_root : Ideal.ofBits .f32 0x3F4C422A#32 = ((6693141 / 8388608 : ℝ) : EReal) := by
  simp [Ideal.ofBits, Ideal.ieee, -EReal.coe_mul]; norm_num
/-- The float nearest `1e-5`. -/
theorem word_eps : Ideal.ofBits .f32 0x3727C5AC#32 = ((10995116 / 2 ^ 40 : ℝ) : EReal) := by
  simp [Ideal.ofBits, Ideal.ieee, -EReal.coe_mul]; norm_num

/-! ## Arrays of reals, and what the operations of the programs make of them -/

variable {a b k : Nat} {φ ψ : FTy}

/-- A rank-1 array of reals. -/
def lin (f : Fin a → ℝ) : FVec Ideal ⟨1, ![a]⟩ φ := fun j => ((f (j 0) : ℝ) : EReal)
/-- A rank-2 array of reals. -/
def mat (f : Fin a → Fin b → ℝ) : FVec Ideal ⟨2, ![a, b]⟩ φ := fun j => ((f (j 0) (j 1) : ℝ) : EReal)
/-- A rank-3 array of reals. -/
def cub (f : Fin k → Fin a → Fin b → ℝ) : FVec Ideal ⟨3, ![k, a, b]⟩ φ := fun j => ((f (j 0) (j 1) (j 2) : ℝ) : EReal)

/-- The same in the kernels' working format. -/
abbrev lin32 (f : Fin a → ℝ) : FVec Ideal ⟨1, ![a]⟩ .f32 := lin f
abbrev mat32 (f : Fin a → Fin b → ℝ) : FVec Ideal ⟨2, ![a, b]⟩ .f32 := mat f
abbrev mat16 (f : Fin a → Fin b → ℝ) : FVec Ideal ⟨2, ![a, b]⟩ .bf16 := mat f
abbrev cub32 (f : Fin k → Fin a → Fin b → ℝ) : FVec Ideal ⟨3, ![k, a, b]⟩ .f32 := cub f

theorem lin_at (f : Fin a → ℝ) (i : Fin a) : lin (φ := φ) f (ix1 i) = (f i : EReal) := rfl
theorem mat_at (f : Fin a → Fin b → ℝ) (i : Fin a) (j : Fin b) : mat (φ := φ) f (ix2 i j) = (f i j : EReal) := rfl
theorem cub_at (f : Fin k → Fin a → Fin b → ℝ) (l : Fin k) (i : Fin a) (j : Fin b) :
    cub (φ := φ) f (ix3 l i j) = (f l i j : EReal) := rfl

theorem eq_lin {X : FVec Ideal ⟨1, ![a]⟩ φ} {f : Fin a → ℝ} (h : ∀ i, X (ix1 i) = (f i : EReal)) : X = lin f :=
  funext fun j => by rw [eq_ix1 j]; exact h _
theorem eq_mat {X : FVec Ideal ⟨2, ![a, b]⟩ φ} {f : Fin a → Fin b → ℝ} (h : ∀ i j, X (ix2 i j) = (f i j : EReal)) :
    X = mat f :=
  funext fun j => by rw [eq_ix2 j]; exact h _ _
theorem eq_cub {X : FVec Ideal ⟨3, ![k, a, b]⟩ φ} {f : Fin k → Fin a → Fin b → ℝ}
    (h : ∀ l i j, X (ix3 l i j) = (f l i j : EReal)) : X = cub f :=
  funext fun j => by rw [eq_ix3 j]; exact h _ _ _

/-! ### Elementwise -/

theorem add_mat (f g : Fin a → Fin b → ℝ) : addf (mat (φ := φ) f) (mat g) = mat fun i j => f i j + g i j :=
  eq_mat fun _ _ => (EReal.coe_add _ _).symm
theorem sub_mat (f g : Fin a → Fin b → ℝ) : subf (mat (φ := φ) f) (mat g) = mat fun i j => f i j - g i j :=
  eq_mat fun _ _ => (EReal.coe_sub _ _).symm
theorem mul_mat (f g : Fin a → Fin b → ℝ) : mulf (mat (φ := φ) f) (mat g) = mat fun i j => f i j * g i j :=
  eq_mat fun _ _ => (EReal.coe_mul _ _).symm
theorem tanh_mat (f : Fin a → Fin b → ℝ) : tanh (mat (φ := φ) f) = mat fun i j => Real.tanh (f i j) :=
  eq_mat fun _ _ => rfl
theorem trunc_mat (f : Fin a → Fin b → ℝ) (h : ψ.bits < φ.bits) : truncf ψ (mat (φ := φ) f) h = mat f := rfl
theorem ext_mat (f : Fin a → Fin b → ℝ) (h : φ.bits < ψ.bits) : extf ψ (mat (φ := φ) f) h = mat f := rfl
theorem add_cub (f g : Fin k → Fin a → Fin b → ℝ) :
    addf (cub (φ := φ) f) (cub g) = cub fun l i j => f l i j + g l i j :=
  eq_cub fun _ _ _ => (EReal.coe_add _ _).symm
/-- A scalar spread over a matrix. -/
theorem splat_mat {x : Ideal φ} {r : ℝ} (h : x = ((r : ℝ) : EReal)) :
    (broadcast (⟨2, ![a, b]⟩ : Shape) x : FVec Ideal ⟨2, ![a, b]⟩ φ) = mat fun _ _ => r :=
  eq_mat fun _ _ => h
/-- A quotient by a nonzero constant. -/
theorem div_mat (f : Fin a → Fin b → ℝ) {y : ℝ} (hy : y ≠ 0) :
    divf (mat (φ := φ) f) (mat fun _ _ => y) = mat fun i j => f i j / y :=
  eq_mat fun _ _ => div_real hy
/-- A reciprocal square root of positive elements. -/
theorem rsqrt_mat (f : Fin a → Fin b → ℝ) (h : ∀ i j, 0 < f i j) :
    rsqrt (mat (φ := φ) f) = mat fun i j => (Real.sqrt (f i j))⁻¹ :=
  eq_mat fun _ _ => rsqrt_pos (h _ _)

/-! ### Layout -/

/-- One row repeated down the matrix. -/
theorem down_mat (f : Fin 1 → Fin b → ℝ) (h : (⟨2, ![1, b]⟩ : Shape).Broadcasts ⟨2, ![a, b]⟩) :
    broadcastTo ⟨2, ![a, b]⟩ (mat (φ := φ) f) h = mat (φ := φ) fun _ j => f 0 j :=
  eq_mat fun i j => broadcastTo_1b_ab_apply ..
/-- One column repeated along the matrix. -/
theorem along_mat (f : Fin a → Fin 1 → ℝ) (h : (⟨2, ![a, 1]⟩ : Shape).Broadcasts ⟨2, ![a, b]⟩) :
    broadcastTo ⟨2, ![a, b]⟩ (mat (φ := φ) f) h = mat (φ := φ) fun i _ => f i 0 :=
  eq_mat fun i j => (broadcastTo_apply _ h _ (ix2 i 0) fun ax => by
    match ax with
    | ⟨0, _⟩ =>
      show i.val = if a = 1 then 0 else i.val
      split
      · have := i.isLt; omega
      · rfl
    | ⟨1, _⟩ => rfl).trans (mat_at ..)
/-- A list as one column. -/
theorem col_lin (f : Fin a → ℝ) (h : (⟨1, ![a]⟩ : Shape).ShapeCasts ⟨2, ![a, 1]⟩) :
    shapeCast ⟨2, ![a, 1]⟩ (lin (φ := φ) f) h = mat (φ := φ) fun i _ => f i :=
  eq_mat fun i j => shapeCast_a_a1_apply ..
/-- A list as one row. -/
theorem row_lin (f : Fin a → ℝ) (h : (⟨1, ![a]⟩ : Shape).ShapeCasts ⟨2, ![1, a]⟩) :
    shapeCast ⟨2, ![1, a]⟩ (lin (φ := φ) f) h = mat (φ := φ) fun _ j => f j :=
  eq_mat fun i j => shapeCast_a_1a_apply ..
/-- One plane as a matrix. -/
theorem flat_cub (f : Fin 1 → Fin a → Fin b → ℝ) (h : (⟨3, ![1, a, b]⟩ : Shape).ShapeCasts ⟨2, ![a, b]⟩) :
    shapeCast ⟨2, ![a, b]⟩ (cub (φ := φ) f) h = mat (φ := φ) (f 0) :=
  eq_mat fun i j => shapeCast_1ab_ab_apply ..
/-- A matrix as one plane. -/
theorem plane_mat (f : Fin a → Fin b → ℝ) (h : (⟨2, ![a, b]⟩ : Shape).ShapeCasts ⟨3, ![1, a, b]⟩) :
    shapeCast ⟨3, ![1, a, b]⟩ (mat (φ := φ) f) h = cub (φ := φ) fun _ => f :=
  eq_cub fun l i j => shapeCast_ab_1ab_apply ..
/-- Columns from `o` on. -/
theorem cut_mat {c : Nat} (o : Nat) (f : Fin a → Fin b → ℝ) (h : (⟨2, ![a, b]⟩ : Shape).Slices ![0, o] ⟨2, ![a, c]⟩)
    (e : Fin c → Fin b) (he : ∀ j, (e j).val = o + j.val) :
    extractStridedSlice ⟨2, ![a, c]⟩ ![0, o] (mat (φ := φ) f) h = mat (φ := φ) fun i j => f i (e j) :=
  eq_mat fun i j => slice2_axis1_apply o _ h i j (e j) (he j)

/-! ### Sums and products -/

/-- The sum of each row. -/
def rowsum (X : FVec Ideal ⟨2, ![a, b]⟩ .f32) (h : (⟨2, ![a, b]⟩ : Shape).Reduces [1] ⟨1, ![a]⟩) :
    FVec Ideal ⟨1, ![a]⟩ .f32 :=
  multiReduction .add [1] ⟨1, ![a]⟩ X 0x00000000#32 h (.inl rfl) rfl
/-- The sum of each column. -/
def colsum (X : FVec Ideal ⟨2, ![a, b]⟩ .f32) (h : (⟨2, ![a, b]⟩ : Shape).Reduces [0] ⟨1, ![b]⟩) :
    FVec Ideal ⟨1, ![b]⟩ .f32 :=
  multiReduction .add [0] ⟨1, ![b]⟩ X 0x00000000#32 h (.inl rfl) rfl
theorem as_rowsum (X : FVec Ideal ⟨2, ![a, b]⟩ .f32) (h : (⟨2, ![a, b]⟩ : Shape).Reduces [1] ⟨1, ![a]⟩)
    (hφ : FKind.Formats .f32) (hacc : (0x00000000#32 : BitVec 32) = 0x00000000#32) :
    multiReduction .add [1] ⟨1, ![a]⟩ X 0x00000000#32 h hφ hacc = rowsum X h := rfl
theorem as_colsum (X : FVec Ideal ⟨2, ![a, b]⟩ .f32) (h : (⟨2, ![a, b]⟩ : Shape).Reduces [0] ⟨1, ![b]⟩)
    (hφ : FKind.Formats .f32) (hacc : (0x00000000#32 : BitVec 32) = 0x00000000#32) :
    multiReduction .add [0] ⟨1, ![b]⟩ X 0x00000000#32 h hφ hacc = colsum X h := rfl
theorem rowsum_mat (f : Fin a → Fin b → ℝ) (h : (⟨2, ![a, b]⟩ : Shape).Reduces [1] ⟨1, ![a]⟩) :
    rowsum (mat f) h = lin fun i => ∑ j, f i j :=
  eq_lin fun i => (Ideal.multiReduction_add_single (mat32 f) _ h (.inl rfl) rfl (ix1 i)).trans <|
    coe_sum Finset.univ fun j => f i j
theorem colsum_mat (f : Fin a → Fin b → ℝ) (h : (⟨2, ![a, b]⟩ : Shape).Reduces [0] ⟨1, ![b]⟩) :
    colsum (mat f) h = lin fun j => ∑ i, f i j :=
  eq_lin fun j => (Ideal.multiReduction_add_single (mat32 f) _ h (.inl rfl) rfl (ix1 j)).trans <|
    coe_sum Finset.univ fun i => f i j

/-- A product of real matrices, over zeros: what the two operands are read at decides which product it is. -/
theorem dot_mat {sl sr : Shape} (D : DotDims sl sr ⟨2, ![a, b]⟩) (prec : Option ContractPrecision) (X : FVec Ideal sl φ)
    (Y : FVec Ideal sr ψ) (hr : D.contr.rank = 1) (hs : D.contr.size ⟨0, by omega⟩ = k)
    (l : Fin a → Fin b → Fin k → ℝ) (r : Fin a → Fin b → Fin k → ℝ)
    (hl : ∀ i j q, X (D.lhsIdx (ix2 i j) ((contrEquiv1 D k hr hs).symm q)) = (l i j q : EReal))
    (hr' : ∀ i j q, Y (D.rhsIdx (ix2 i j) ((contrEquiv1 D k hr hs).symm q)) = (r i j q : EReal)) :
    matmul D prec X Y (constant ⟨2, ![a, b]⟩ .f32 0x00000000#32) = mat fun i j => ∑ q, l i j q * r i j q :=
  eq_mat fun i j => by
    show FloatOps.matmul D prec X Y (constant ⟨2, ![a, b]⟩ .f32 0x00000000#32) (ix2 i j) = _
    rw [Ideal.matmul_constant_zero_apply, ← Equiv.sum_comp (contrEquiv1 D k hr hs).symm, ← coe_sum]
    exact Finset.sum_congr rfl fun q _ => by rw [hl, hr', EReal.coe_mul]

end Cert.Lift

end
-- ==== Proof.Gating.lean ====
/- The mathematics of one chunk of the spatial-gating gradient over the real numbers: 128 tokens, 1024 channels in
   eight groups of 128. Nothing here speaks of a program. -/
module

public import Mathlib.Analysis.SpecialFunctions.Trigonometric.Basic
public import Mathlib.Analysis.SpecialFunctions.Pow.Real

@[expose] public section

noncomputable section

namespace Cert.Gating

/-- The rounded `√(2/π)` of the tanh form of GELU. -/
def root : ℝ := 6693141 / 8388608
/-- The variance's guard. -/
def eps : ℝ := 10995116 / 2 ^ 40

theorem eps_pos : 0 < eps := by unfold eps; positivity

/-- The tanh inside GELU. -/
def th (x : ℝ) : ℝ := Real.tanh (root * (x + 8943 / 200000 * (x * x * x)))
/-- GELU in its tanh form. -/
def gelu (x : ℝ) : ℝ := 1 / 2 * x * (1 + th x)
/-- Its derivative. -/
def dgelu (x : ℝ) : ℝ :=
  1 / 2 * (1 + th x) + 1 / 2 * x * (1 - th x * th x) * (root * (1 + 26829 / 200000 * x * x))

/-! ### Layer normalisation of a row of 1024 -/

/-- The mean of a row. -/
def mean (f : Fin 1024 → ℝ) : ℝ := (∑ c, f c) / 1024
/-- A row less its mean. -/
def ctr (f : Fin 1024 → ℝ) (c : Fin 1024) : ℝ := f c - mean f
/-- Its guarded variance. -/
def gvar (f : Fin 1024 → ℝ) : ℝ := mean (fun c => ctr f c * ctr f c) + eps
/-- The reciprocal standard deviation. -/
def rs (f : Fin 1024 → ℝ) : ℝ := (Real.sqrt (gvar f))⁻¹
/-- The normalised row. -/
def hat (f : Fin 1024 → ℝ) (c : Fin 1024) : ℝ := ctr f c * rs f
/-- The gradient of the normalised row, carried back to the row. -/
def dnorm (f h : Fin 1024 → ℝ) (c : Fin 1024) : ℝ :=
  rs f * (h c - mean h - hat f c * mean fun c => h c * hat f c)

theorem gvar_pos (f : Fin 1024 → ℝ) : 0 < gvar f :=
  add_pos_of_nonneg_of_pos (div_nonneg (Finset.sum_nonneg fun c _ => mul_self_nonneg _) (by norm_num)) eps_pos

/-- Deviations from the mean sum to nothing. -/
theorem sum_ctr (f : Fin 1024 → ℝ) : ∑ c, ctr f c = 0 := by
  simp only [ctr, Finset.sum_sub_distrib, Finset.sum_const, Finset.card_univ, Fintype.card_fin, nsmul_eq_mul, mean]
  ring

theorem rs_sq (f : Fin 1024 → ℝ) : rs f * rs f = 1 / gvar f := by
  unfold rs
  rw [← mul_inv, Real.mul_self_sqrt (gvar_pos f).le, one_div]

/-- The derivative of the normalisation as the chain rule writes it: through the deviations, through the variance, and
    each of the two through the mean. -/
theorem dnorm_chain (f h : Fin 1024 → ℝ) (c : Fin 1024) :
    (h c * rs f + (∑ q, ctr f q * h q) * (-(1 / 2) * (rs f / gvar f)) / 1024 * (2 * ctr f c))
      + ((∑ q, -(h q * rs f))
        + ∑ q, -((∑ q, ctr f q * h q) * (-(1 / 2) * (rs f / gvar f)) / 1024 * (2 * ctr f q))) / 1024
      = dnorm f h c := by
  have e1 : ∑ q, -(h q * rs f) = -(rs f * ∑ q, h q) := by
    rw [Finset.sum_neg_distrib, ← Finset.sum_mul, mul_comm]
  have e2 (z : ℝ) : ∑ q, -(z * (2 * ctr f q)) = 0 := by
    rw [Finset.sum_neg_distrib, ← Finset.mul_sum, ← Finset.mul_sum, sum_ctr]; ring
  have e3 : ∑ q, h q * hat f q = rs f * ∑ q, ctr f q * h q := by
    rw [Finset.mul_sum]; exact Finset.sum_congr rfl fun q _ => by unfold hat; ring
  rw [e1, e2]
  unfold dnorm mean
  rw [e3]
  have hq := rs_sq f
  have e4 : rs f / gvar f = rs f * (rs f * rs f) := by rw [hq, mul_one_div]
  rw [e4]
  unfold hat
  ring

/-- The derivative of GELU as the chain rule writes it, applied to a cotangent `g`. -/
theorem dgelu_chain (x g : ℝ) :
    g * (1 / 2 * (1 + th x))
      + (root * (1 / 2 * (x * g) * ((1 + th x) * (1 - th x)))
        + 8943 / 200000 * (root * (1 / 2 * (x * g) * ((1 + th x) * (1 - th x)))) * (3 * (x * x)))
      = g * dgelu x := by
  unfold dgelu; ring

/-! ### One chunk -/

/-- Channel `k` of group `g`. -/
def chan (g : Fin 8) (k : Fin 128) : Fin 1024 := ⟨128 * g.val + k.val, by omega⟩
/-- The group of a channel. -/
def grp (c : Fin 1024) : Fin 8 := ⟨c.val / 128, by omega⟩
/-- The place of a channel in its group. -/
def lane (c : Fin 1024) : Fin 128 := ⟨c.val % 128, by omega⟩

theorem chan_grp_lane (c : Fin 1024) : chan (grp c) (lane c) = c :=
  Fin.ext (Nat.div_add_mod c.val 128)
theorem grp_chan (g : Fin 8) (k : Fin 128) : grp (chan g k) = g := Fin.ext (by simp only [grp, chan]; omega)
theorem lane_chan (g : Fin 8) (k : Fin 128) : lane (chan g k) = k := Fin.ext (by simp only [lane, chan]; omega)

/-- What the weights are, lower triangle only. -/
def low (w : Fin 8 → Fin 128 → Fin 128 → ℝ) (g : Fin 8) (t s : Fin 128) : ℝ := if s ≤ t then w g t s else 0

/-- One chunk: its gate half `u`, value half `v`, cotangent `d`, and the layer's parameters. -/
structure Chunk where
  u : Fin 128 → Fin 1024 → ℝ
  v : Fin 128 → Fin 1024 → ℝ
  d : Fin 128 → Fin 1024 → ℝ
  γ : Fin 1024 → ℝ
  β : Fin 1024 → ℝ
  w : Fin 8 → Fin 128 → Fin 128 → ℝ
  b : Fin 8 → Fin 128 → ℝ

namespace Chunk

variable (C : Chunk)

/-- The activated value half. -/
def gv (r : Fin 128) (c : Fin 1024) : ℝ := gelu (C.v r c)
/-- It normalised, scaled and shifted. -/
def vn (r : Fin 128) (c : Fin 1024) : ℝ := hat (C.gv r) c * C.γ c + C.β c
/-- The tokens mixed by the triangular weights of group `g`. -/
def mix (g : Fin 8) (t k : Fin 128) : ℝ := (∑ s, low C.w g t s * C.vn s (chan g k)) + C.b g t
/-- The cotangent of the mixed tokens. -/
def dmix (g : Fin 8) (t k : Fin 128) : ℝ := C.d t (chan g k) * gelu (C.u t (chan g k))
/-- The cotangent of the normalised tokens. -/
def dvn (g : Fin 8) (s k : Fin 128) : ℝ := ∑ t, low C.w g t s * C.dmix g t k
/-- The same by channel. -/
def dvc (s : Fin 128) (c : Fin 1024) : ℝ := C.dvn (grp c) s (lane c)
/-- The gradient of the gate half. -/
def du (t : Fin 128) (c : Fin 1024) : ℝ := C.d t c * C.mix (grp c) t (lane c) * dgelu (C.u t c)
/-- The gradient of the value half. -/
def dv (t : Fin 128) (c : Fin 1024) : ℝ := dnorm (C.gv t) (fun c => C.dvc t c * C.γ c) c * dgelu (C.v t c)
/-- The chunk's part of the weights' gradient. -/
def dw (g : Fin 8) (t s : Fin 128) : ℝ := if s ≤ t then ∑ k, C.dmix g t k * C.vn s (chan g k) else 0
/-- … of the token biases' gradient … -/
def db (t : Fin 128) (g : Fin 8) : ℝ := ∑ k, C.dmix g t k
/-- … of the scale's … -/
def dγ (c : Fin 1024) : ℝ := ∑ t, C.dvc t c * hat (C.gv t) c
/-- … and of the shift's. -/
def dβ (c : Fin 1024) : ℝ := ∑ t, C.dvc t c

end Chunk

end Cert.Gating

end
-- ==== Proof.Block.lean ====
/- What the spatial-gating body computes from one chunk's blocks, over the reals: the values it stores, group by group,
   and the eight groups set side by side. -/
module

public import proofs.«01_k».proof.Proof.Lift
public import proofs.«01_k».proof.Proof.Gating
public import proofs.«01_k».proof.Proof.Gen.KernelIdeal.Skeleton

@[expose] public section

noncomputable section

namespace Cert.KernelIdeal.Block

open Cert.KernelIdeal Cert.KernelIdeal.Gen Cert.Lift Cert.Gating Idealize.ShloMosaic Idealize.ShloMosaic.ValueIdx

/-! ## Constants -/

theorem cubic_real : (Named.named κ "cubic" 0x3D372713#32 : Ideal .f32) = ((8943 / 200000 : ℝ) : EReal) :=
  IdealRules.named_const.ideal_named_scalar _ _ _ _ rfl
theorem cubic3_real : (Named.named κ "cubic3" 0x3E095D4F#32 : Ideal .f32) = ((26829 / 200000 : ℝ) : EReal) :=
  IdealRules.named_const.ideal_named_scalar _ _ _ _ rfl
theorem word_zero : (Scalar.ofBits .f32 0x00000000#32 : Ideal .f32) = ((0 : ℝ) : EReal) := by
  show Ideal.ofBits .f32 0x00000000#32 = _
  rw [Ideal.ofBits_zero_f32, EReal.coe_zero]

/-- A splat of a literal or of a named constant, as the matrix of its real. -/
theorem splats {a b : Nat} :
    (broadcast (⟨2, ![a, b]⟩ : Shape) (Scalar.ofBits .f32 0x3F000000#32 : Ideal .f32) = mat (φ := .f32) fun _ _ => 1 / 2)
    ∧ (broadcast (⟨2, ![a, b]⟩ : Shape) (Scalar.ofBits .f32 0x3F800000#32 : Ideal .f32) = mat (φ := .f32) fun _ _ => 1)
    ∧ (broadcast (⟨2, ![a, b]⟩ : Shape) (Scalar.ofBits .f32 0x3F4C422A#32 : Ideal .f32) = mat (φ := .f32) fun _ _ => root)
    ∧ (broadcast (⟨2, ![a, b]⟩ : Shape) (Scalar.ofBits .f32 0x44800000#32 : Ideal .f32) = mat (φ := .f32) fun _ _ => 1024)
    ∧ (broadcast (⟨2, ![a, b]⟩ : Shape) (Scalar.ofBits .f32 0x3727C5AC#32 : Ideal .f32) = mat (φ := .f32) fun _ _ => eps)
    ∧ (broadcast (⟨2, ![a, b]⟩ : Shape) (Scalar.ofBits .f32 0x00000000#32 : Ideal .f32) = mat (φ := .f32) fun _ _ => 0)
    ∧ (broadcast (⟨2, ![a, b]⟩ : Shape) (Named.named κ "cubic" 0x3D372713#32 : Ideal .f32)
        = mat (φ := .f32) fun _ _ => 8943 / 200000)
    ∧ (broadcast (⟨2, ![a, b]⟩ : Shape) (Named.named κ "cubic3" 0x3E095D4F#32 : Ideal .f32)
        = mat (φ := .f32) fun _ _ => 26829 / 200000) :=
  ⟨splat_mat word_half, splat_mat word_one, splat_mat word_root, splat_mat word_1024, splat_mat word_eps,
    splat_mat word_zero, splat_mat cubic_real, splat_mat cubic3_real⟩

/-! ## The elementwise part -/

theorem tanh_u (u : Fin 128 → Fin 1024 → ℝ) :
    (k0_pay25 (F := Ideal) (mat32 u) : FVec Ideal S128x1024 .f32) = mat fun r c => th (u r c) := by
  unfold k0_pay25
  simp only [splats, mul_mat, add_mat, tanh_mat]
  rfl
theorem tanh_v (v : Fin 128 → Fin 1024 → ℝ) :
    (k0_pay27 (F := Ideal) (mat32 v) : FVec Ideal S128x1024 .f32) = mat fun r c => th (v r c) := tanh_u v
theorem gelu_u (u : Fin 128 → Fin 1024 → ℝ) :
    (k0_pay26 (F := Ideal) (mat32 u) : FVec Ideal S128x1024 .f32) = mat fun r c => gelu (u r c) := by
  unfold k0_pay26
  simp only [tanh_u, splats, mul_mat, add_mat]
  rfl
/-- The activated values less their row means. -/
theorem ctr_v (v : Fin 128 → Fin 1024 → ℝ) :
    (k0_pay30 (F := Ideal) (mat32 v) : FVec Ideal S128x1024 .f32) = mat fun r c => ctr (fun c => gelu (v r c)) c := by
  show subf (k0_pay26 (mat32 v)) (broadcastTo S128x1024 (divf (shapeCast S128x1 (rowsum (k0_pay26 (mat32 v))
    reduces_S128x1024_S128) shapeCasts_S128_S128x1) (broadcast S128x1 (Scalar.ofBits .f32 0x44800000#32 : Ideal .f32)))
    broadcasts_S128x1_S128x1024) = _
  simp only [gelu_u, splats, rowsum_mat, col_lin]
  rw [div_mat _ (by norm_num : (1024 : ℝ) ≠ 0)]
  simp only [along_mat, sub_mat]
  rfl
theorem sq_v (v : Fin 128 → Fin 1024 → ℝ) :
    (k0_pay31 (F := Ideal) (mat32 v) : FVec Ideal S128 .f32)
      = lin fun r => ∑ c, ctr (fun c => gelu (v r c)) c * ctr (fun c => gelu (v r c)) c := by
  show rowsum (mulf (k0_pay30 (mat32 v)) (k0_pay30 (mat32 v))) reduces_S128x1024_S128 = _
  simp only [ctr_v, mul_mat, rowsum_mat]
theorem rs_v (v : Fin 128 → Fin 1024 → ℝ) :
    (k0_pay32 (F := Ideal) (k0_pay31 (mat32 v)) : FVec Ideal S128x1 .f32) = mat fun r _ => rs fun c => gelu (v r c) := by
  unfold k0_pay32
  simp only [sq_v, splats, col_lin]
  rw [div_mat _ (by norm_num : (1024 : ℝ) ≠ 0), add_mat]
  exact rsqrt_mat _ fun r _ => gvar_pos fun c => gelu (v r c)
theorem hat_v (v : Fin 128 → Fin 1024 → ℝ) :
    (k0_pay33 (F := Ideal) (k0_pay30 (mat32 v)) (k0_pay31 (mat32 v)) : FVec Ideal S128x1024 .f32)
      = mat fun r c => hat (fun c => gelu (v r c)) c := by
  unfold k0_pay33
  simp only [rs_v, ctr_v, along_mat, mul_mat]
  rfl
theorem vn_v (v : Fin 128 → Fin 1024 → ℝ) (γ β : Fin 1024 → ℝ) :
    (k0_pay34 (F := Ideal) (k0_pay28 (mat32 fun _ => γ)) (k0_pay29 (mat32 fun _ => β)) (k0_pay30 (mat32 v)) (k0_pay31 (mat32 v))
      : FVec Ideal S128x1024 .bf16)
      = mat fun r c => hat (fun c => gelu (v r c)) c * γ c + β c := by
  unfold k0_pay34 k0_pay28 k0_pay29
  simp only [hat_v, shapeCast_self, down_mat, mul_mat, add_mat, trunc_mat]

/-! ## One group -/

theorem slices_grp (g : Fin 8) : S128x1024.Slices ![0, 128 * g.val] S128x128 :=
  ⟨rfl, fun a => by
    match a with
    | ⟨0, _⟩ => show 0 + 128 ≤ 128; omega
    | ⟨1, _⟩ => show 128 * g.val + 128 ≤ 1024; omega⟩

/-- The channels of group `g`. -/
def cut {φ : FTy} (g : Fin 8) (x : FVec Ideal S128x1024 φ) : FVec Ideal S128x128 φ :=
  extractStridedSlice S128x128 ![0, 128 * g.val] x (slices_grp g)
/-- The zeros a product starts from. -/
def zeros : FVec Ideal S128x128 .f32 := constant S128x128 .f32 0x00000000#32
/-- A group's weights, lower triangle only. -/
def wlow (w : Vec Ideal S1x128x128 .f32) : FVec Ideal S128x128 .bf16 :=
  truncf .bf16 (select k0_pay36 (shapeCast S128x128 w shapeCasts_S1x128x128_S128x128)
    (broadcast S128x128 (Scalar.ofBits .f32 0x00000000#32 : Ideal .f32))) bitsLt_bf16_f32
/-- The cotangent of a group's gate. -/
def gGate (g : Fin 8) (vn : FVec Ideal S128x1024 .bf16) (d : FVec Ideal S128x1024 .f32) (w : Vec Ideal S1x128x128 .f32)
    (b : Vec Ideal S128x1 .f32) : FVec Ideal S128x128 .f32 :=
  mulf (cut g d) (addf (matmul dot_S128x128_S128x128_S128x128_1_0_0_1_n_n none (wlow w) (cut g vn) zeros)
    (broadcastTo S128x128 (shapeCast S128x1 b shapeCasts_S128x1_S128x1) broadcasts_S128x1_S128x128))
/-- The cotangent of a group's mixed tokens. -/
def gMix (g : Fin 8) (d gu : FVec Ideal S128x1024 .f32) : FVec Ideal S128x128 .f32 := mulf (cut g d) (cut g gu)
/-- Its row sums. -/
def gBias (g : Fin 8) (d gu : FVec Ideal S128x1024 .f32) : FVec Ideal S128x1 .f32 :=
  shapeCast S128x1 (multiReduction .add [1] S128 (gMix g d gu) 0x00000000#32 reduces_S128x128_S128 (.inl rfl) rfl)
    shapeCasts_S128_S128x1
/-- The weights' gradient of a group. -/
def gWeight (g : Fin 8) (vn : FVec Ideal S128x1024 .bf16) (d gu : FVec Ideal S128x1024 .f32) : FVec Ideal S128x128 .f32 :=
  select k0_pay36 (matmul dot_S128x128_S128x128_S128x128_1_1_0_0_n_n none (truncf .bf16 (gMix g d gu) bitsLt_bf16_f32)
    (cut g vn) zeros) (broadcast S128x128 (Scalar.ofBits .f32 0x00000000#32 : Ideal .f32))
/-- The cotangent of a group's normalised tokens. -/
def gNorm (g : Fin 8) (d gu : FVec Ideal S128x1024 .f32) (w : Vec Ideal S1x128x128 .f32) : FVec Ideal S128x128 .f32 :=
  matmul dot_S128x128_S128x128_S128x128_0_0_1_1_n_n none (wlow w) (truncf .bf16 (gMix g d gu) bitsLt_bf16_f32) zeros

theorem cut_real {φ : FTy} (g : Fin 8) (f : Fin 128 → Fin 1024 → ℝ) :
    cut g (mat (φ := φ) f) = mat fun r k => f r (chan g k) :=
  cut_mat _ f _ (chan g) fun _ => rfl

/-- The mask keeps what is on or below the diagonal. -/
theorem mask_real (f : Fin 128 → Fin 128 → ℝ) :
    select k0_pay36 (mat (φ := .f32) f) (mat (φ := .f32) fun _ _ => 0) = mat fun t s => if s ≤ t then f t s else 0 :=
  eq_mat fun t s => by
    rw [select_apply]
    unfold k0_pay36
    show Scalar.select (IntOp.cmpi .sle (iota .tc S128x128 32 [1] iota_S128x128_d1_w32 (ix2 t s))
      (iota .tc S128x128 32 [0] iota_S128x128_d0_w32 (ix2 t s))) _ _ = _
    rw [iota_single_apply, iota_single_apply]
    show Scalar.select (IntOp.cmpi .sle (BitVec.ofNat 32 s.val) (BitVec.ofNat 32 t.val)) _ _ = _
    have h : IntOp.cmpi .sle (BitVec.ofNat 32 s.val) (BitVec.ofNat 32 t.val) = if s ≤ t then 1#1 else 0#1 := by
      revert s t; decide +kernel
    rw [h]
    split <;> rfl

theorem wlow_real (w : Fin 1 → Fin 128 → Fin 128 → ℝ) :
    wlow (cub32 w) = mat fun t s => if s ≤ t then w 0 t s else 0 := by
  unfold wlow
  rw [flat_cub, splats.2.2.2.2.2.1, mask_real, trunc_mat]

theorem dot_nn (f g : Fin 128 → Fin 128 → ℝ) :
    matmul dot_S128x128_S128x128_S128x128_1_0_0_1_n_n none (mat (φ := .bf16) f) (mat (φ := .bf16) g) zeros
      = mat fun r c => ∑ k, f r k * g k c :=
  dot_mat (k := 128) _ none _ _ rfl rfl _ _ (fun _ _ _ => rfl) (fun _ _ _ => rfl)
theorem dot_nt (f g : Fin 128 → Fin 128 → ℝ) :
    matmul dot_S128x128_S128x128_S128x128_1_1_0_0_n_n none (mat (φ := .bf16) f) (mat (φ := .bf16) g) zeros
      = mat fun r c => ∑ k, f r k * g c k :=
  dot_mat (k := 128) _ none _ _ rfl rfl _ _ (fun _ _ _ => rfl) (fun _ _ _ => rfl)
theorem dot_tn (f g : Fin 128 → Fin 128 → ℝ) :
    matmul dot_S128x128_S128x128_S128x128_0_0_1_1_n_n none (mat (φ := .bf16) f) (mat (φ := .bf16) g) zeros
      = mat fun r c => ∑ k, f k r * g k c :=
  dot_mat (k := 128) _ none _ _ rfl rfl _ _ (fun _ _ _ => rfl) (fun _ _ _ => rfl)

end Cert.KernelIdeal.Block

end
-- ==== Proof.Layer.lean ====
/- The spatial-gating gradient of a whole sequence: 4096 tokens in 32 chunks, the parameters' gradients summed over them.
   Real numbers only. -/
module

public import proofs.«01_k».proof.Proof.Gating

@[expose] public section

noncomputable section

namespace Cert.Gating

/-- Token `r` of chunk `n`. -/
def row (n : Fin 32) (r : Fin 128) : Fin 4096 := ⟨128 * n.val + r.val, by omega⟩
/-- The chunk of a token. -/
def tile (i : Fin 4096) : Fin 32 := ⟨i.val / 128, by omega⟩
/-- Its place in the chunk. -/
def off (i : Fin 4096) : Fin 128 := ⟨i.val % 128, by omega⟩

theorem row_tile_off (i : Fin 4096) : row (tile i) (off i) = i := Fin.ext (Nat.div_add_mod i.val 128)
theorem tile_row (n : Fin 32) (r : Fin 128) : tile (row n r) = n := Fin.ext (by simp only [tile, row]; omega)
theorem off_row (n : Fin 32) (r : Fin 128) : off (row n r) = r := Fin.ext (by simp only [off, row]; omega)

/-- Both halves' gradients of a chunk. -/
def Chunk.halves (C : Chunk) (t : Fin 128) (c : Fin 2048) : ℝ :=
  if h : c.val < 1024 then C.du t ⟨c.val, h⟩ else C.dv t ⟨c.val - 1024, by omega⟩

/-- The layer's arguments: the projected row (its first 2048 columns are the two halves), the cotangent, the scale and
    shift of the normalisation, the mixing weights and the token biases. -/
structure Layer where
  p : Fin 4096 → Fin 7680 → ℝ
  d : Fin 4096 → Fin 1024 → ℝ
  γ : Fin 1024 → ℝ
  β : Fin 1024 → ℝ
  w : Fin 8 → Fin 128 → Fin 128 → ℝ
  b : Fin 8 → Fin 128 → ℝ

namespace Layer

variable (L : Layer)

/-- Chunk `n` of the layer. -/
def chunk (n : Fin 32) : Chunk where
  u r c := L.p (row n r) ⟨c.val, by omega⟩
  v r c := L.p (row n r) ⟨1024 + c.val, by omega⟩
  d r c := L.d (row n r) c
  γ := L.γ
  β := L.β
  w := L.w
  b := L.b
/-- The same by a natural number. -/
def nth (n : ℕ) : Chunk := L.chunk ⟨n % 32, Nat.mod_lt _ (by decide)⟩
theorem nth_val (n : Fin 32) : L.nth n.val = L.chunk n := congrArg L.chunk (Fin.ext (Nat.mod_eq_of_lt n.isLt))

/-- The two halves' gradients, token by token. -/
def halves (i : Fin 4096) (c : Fin 2048) : ℝ := (L.chunk (tile i)).halves (off i) c
/-- The weights' gradient. -/
def dw (g : Fin 8) (t s : Fin 128) : ℝ := ∑ n, (L.chunk n).dw g t s
/-- The token biases' gradient. -/
def db (t : Fin 128) (g : Fin 8) : ℝ := ∑ n, (L.chunk n).db t g
/-- The scale's gradient. -/
def dγ (c : Fin 1024) : ℝ := ∑ n, (L.chunk n).dγ c
/-- The shift's gradient. -/
def dβ (c : Fin 1024) : ℝ := ∑ n, (L.chunk n).dβ c

/-- A sum over the chunks as a running sum up to the last. -/
theorem sum_nth (f : Chunk → ℝ) : ∑ k ∈ Finset.range 32, f (L.nth k) = ∑ n, f (L.chunk n) :=
  (Finset.sum_range fun k => f (L.nth k)).trans (Finset.sum_congr rfl fun n _ => congrArg f (L.nth_val n))

end Layer

end Cert.Gating

end
-- ==== Proof.Stores.lean ====
/- The values the spatial-gating body stores for one chunk of reals: the eight groups side by side, the two halves'
   gradients, and the parameters' sums. -/
module

public import proofs.«01_k».proof.Proof.Block
public import proofs.«01_k».proof.Proof.Layer

@[expose] public section

noncomputable section

namespace Cert.KernelIdeal.Block

open Cert.KernelIdeal Cert.KernelIdeal.Gen Cert.Lift Cert.Gating Idealize.ShloMosaic Idealize.ShloMosaic.ValueIdx

/-! ## One group over the reals -/

section Group

variable (g : Fin 8) (vn d gu : Fin 128 → Fin 1024 → ℝ)

theorem gMix_real : gMix g (mat32 d) (mat32 gu) = mat32 fun t k => d t (chan g k) * gu t (chan g k) := by
  unfold gMix; rw [cut_real, cut_real, mul_mat]
theorem gGate_real (w : Fin 1 → Fin 128 → Fin 128 → ℝ) (b : Fin 128 → Fin 1 → ℝ) :
    gGate g (mat16 vn) (mat32 d) (cub32 w) (mat32 b)
      = mat32 fun t k => d t (chan g k) * ((∑ s, (if s ≤ t then w 0 t s else 0) * vn s (chan g k)) + b t 0) := by
  unfold gGate
  rw [cut_real, cut_real, wlow_real, dot_nn, shapeCast_self, along_mat, add_mat, mul_mat]
theorem gBias_real :
    gBias g (mat32 d) (mat32 gu) = mat32 fun t _ => ∑ k, d t (chan g k) * gu t (chan g k) := by
  show shapeCast S128x1 (rowsum (gMix g (mat32 d) (mat32 gu)) reduces_S128x128_S128) shapeCasts_S128_S128x1 = _
  rw [gMix_real, rowsum_mat, col_lin]
theorem gWeight_real :
    gWeight g (mat16 vn) (mat32 d) (mat32 gu)
      = mat32 fun t s => if s ≤ t then ∑ k, d t (chan g k) * gu t (chan g k) * vn s (chan g k) else 0 := by
  unfold gWeight
  rw [gMix_real, trunc_mat, cut_real, dot_nt, splats.2.2.2.2.2.1, mask_real]
theorem gNorm_real (w : Fin 1 → Fin 128 → Fin 128 → ℝ) :
    gNorm g (mat32 d) (mat32 gu) (cub32 w)
      = mat32 fun s k => ∑ t, (if s ≤ t then w 0 t s else 0) * (d t (chan g k) * gu t (chan g k)) := by
  unfold gNorm
  rw [gMix_real, trunc_mat, wlow_real, dot_tn]

end Group

/-! ## The eight groups -/

theorem inb_plane (g : Fin 8) : ∀ a, (![g.val, 0, 0] : Fin 3 → Nat) a + (![1, 128, 128] : Fin 3 → Nat) a ≤ S8x128x128.size a
  | ⟨0, _⟩ => by show g.val + 1 ≤ 8; omega
  | ⟨1, _⟩ => by show 0 + 128 ≤ 128; omega
  | ⟨2, _⟩ => by show 0 + 128 ≤ 128; omega
theorem inb_col (g : Fin 8) : ∀ a, (![0, g.val] : Fin 2 → Nat) a + (![128, 1] : Fin 2 → Nat) a ≤ S128x8.size a
  | ⟨0, _⟩ => by show 0 + 128 ≤ 128; omega
  | ⟨1, _⟩ => by show g.val + 1 ≤ 8; omega

/-- The plane of group `g`. -/
def plane (x : Vec Ideal S8x128x128 .f32) (g : Fin 8) : Vec Ideal S1x128x128 .f32 :=
  View.ld (Val := Elt Ideal) (e' := .f32) x (Rect.unit (s := S8x128x128) ![g.val, 0, 0] ![1, 128, 128] (inb_plane g))
/-- The column of group `g`. -/
def column (x : Vec Ideal S128x8 .f32) (g : Fin 8) : Vec Ideal S128x1 .f32 :=
  View.ld (Val := Elt Ideal) (e' := .f32) x (Rect.unit (s := S128x8) ![0, g.val] ![128, 1] (inb_col g))

theorem plane_real (w : Fin 8 → Fin 128 → Fin 128 → ℝ) (g : Fin 8) : plane (cub32 w) g = cub32 fun _ => w g :=
  eq_cub (a := 128) (b := 128) (k := 1) fun l i j => by
    unfold plane
    rw [View.ld_unit]
    exact extractStridedSlice_apply _ _ _ _ (ix3 g i j) fun ax => by
      match ax with
      | ⟨0, _⟩ => show g.val = g.val + l.val; omega
      | ⟨1, _⟩ => show i.val = 0 + i.val; omega
      | ⟨2, _⟩ => show j.val = 0 + j.val; omega
theorem column_real (b : Fin 128 → Fin 8 → ℝ) (g : Fin 8) : column (mat32 b) g = mat32 fun t _ => b t g :=
  eq_mat (a := 128) (b := 1) fun i j => by
    unfold column
    rw [View.ld_unit]
    exact extractStridedSlice_apply _ _ _ _ (ix2 i g) fun ax => by
      match ax with
      | ⟨0, _⟩ => show i.val = 0 + i.val; omega
      | ⟨1, _⟩ => show g.val = g.val + j.val; omega

/-- Eight groups set side by side. -/
def side (f : Fin 8 → FVec Ideal S128x128 .f32) : FVec Ideal S128x1024 .f32 :=
  concatenate S128x1024 1 (List.ofFn fun g => ⟨S128x128, f g⟩)
    concatenates_S128x128_S128x128_S128x128_S128x128_S128x128_S128x128_S128x128_S128x128_S128x1024_d1
theorem side_real (f : Fin 8 → Fin 128 → Fin 128 → ℝ) :
    side (fun g => mat32 (f g)) = mat32 fun r c => f (grp c) r (lane c) :=
  eq_mat fun r c => by
    unfold side
    exact concatenate_ofFn_apply (s₁ := S128x128) (t := S128x1024) (N := 8) 1 (fun g => mat32 (f g)) _ rfl 128 rfl (ix2 (n1 := 1024) r c) (grp c) rfl (ix2 r (lane c)) rfl
      fun ax hax => by
        match ax with
        | ⟨0, _⟩ => rfl
        | ⟨1, _⟩ => exact absurd rfl hax
/-- Eight columns set side by side. -/
def sideCol (f : Fin 8 → FVec Ideal S128x1 .f32) : FVec Ideal S128x8 .f32 :=
  concatenate S128x8 1 (List.ofFn fun g => ⟨S128x1, f g⟩)
    concatenates_S128x1_S128x1_S128x1_S128x1_S128x1_S128x1_S128x1_S128x1_S128x8_d1
theorem sideCol_real (f : Fin 8 → Fin 128 → Fin 1 → ℝ) :
    sideCol (fun g => mat32 (f g)) = mat32 fun r g => f g r 0 :=
  eq_mat fun r g => by
    unfold sideCol
    exact concatenate_ofFn_unit_apply (s₁ := S128x1) (t := S128x8) (N := 8) 1 (fun g => mat32 (f g)) _ rfl rfl (ix2 (n1 := 8) r g) g rfl (ix2 r 0)
      fun ax hax => by
        match ax with
        | ⟨0, _⟩ => rfl
        | ⟨1, _⟩ => exact absurd rfl hax

/-- Two halves set side by side. -/
def halves (a b : FVec Ideal S128x1024 .f32) : FVec Ideal S128x2048 .f32 :=
  concatenate S128x2048 1 [⟨S128x1024, a⟩, ⟨S128x1024, b⟩] concatenates_S128x1024_S128x1024_S128x2048_d1
theorem halves_real (a b : Fin 128 → Fin 1024 → ℝ) :
    halves (mat32 a) (mat32 b) = mat32 fun t (c : Fin 2048) =>
      if h : c.val < 1024 then a t ⟨c.val, h⟩ else b t ⟨c.val - 1024, by omega⟩ := by
  refine eq_mat (a := 128) (b := 2048) fun t c => ?_
  unfold halves
  split
  · rename_i h
    exact concatenate_pair_apply_left (t := S128x2048) (s₁ := S128x1024) (s₂ := S128x1024) 1 (mat32 a) (mat32 b) _ (ix2 t c) rfl (ix2 t ⟨c.val, h⟩) fun ax => by
      match ax with
      | ⟨0, _⟩ => rfl
      | ⟨1, _⟩ => rfl
  · rename_i h
    exact concatenate_pair_apply_right (t := S128x2048) (s₁ := S128x1024) (s₂ := S128x1024) 1 (mat32 a) (mat32 b) _ (ix2 t c) rfl rfl (ix2 t ⟨c.val - 1024, by omega⟩)
      (fun ax hax => by
        match ax with
        | ⟨0, _⟩ => rfl
        | ⟨1, _⟩ => exact absurd rfl hax)
      (by show c.val - 1024 + 1024 = c.val; omega)

/-! ## The chain rule through GELU and through the normalisation -/

/-- The cotangent `g` carried through GELU at `x`, whose tanh is `t`. -/
def backGelu (x t g : FVec Ideal S128x1024 .f32) : FVec Ideal S128x1024 .f32 :=
  mulf g (addf (mulf (broadcast S128x1024 (Scalar.ofBits .f32 0x3F000000#32 : Ideal .f32))
      (addf (broadcast S128x1024 (Scalar.ofBits .f32 0x3F800000#32 : Ideal .f32)) t))
    (mulf (mulf (mulf (broadcast S128x1024 (Scalar.ofBits .f32 0x3F000000#32 : Ideal .f32)) x)
        (subf (broadcast S128x1024 (Scalar.ofBits .f32 0x3F800000#32 : Ideal .f32)) (mulf t t)))
      (mulf (broadcast S128x1024 (Scalar.ofBits .f32 0x3F4C422A#32 : Ideal .f32))
        (addf (broadcast S128x1024 (Scalar.ofBits .f32 0x3F800000#32 : Ideal .f32))
          (mulf (mulf (broadcast S128x1024 (Named.named κ "cubic3" 0x3E095D4F#32 : Ideal .f32)) x) x)))))
theorem backGelu_real (x g : Fin 128 → Fin 1024 → ℝ) :
    backGelu (mat32 x) (mat32 fun r c => th (x r c)) (mat32 g) = mat32 fun r c => g r c * dgelu (x r c) := by
  unfold backGelu
  simp only [splats, mul_mat, add_mat, sub_mat]
  rfl

/-- The mean of each row, repeated along it. -/
def rowMean (x : FVec Ideal S128x1024 .f32) : FVec Ideal S128x1024 .f32 :=
  broadcastTo S128x1024 (divf (shapeCast S128x1 (rowsum x reduces_S128x1024_S128) shapeCasts_S128_S128x1)
    (broadcast S128x1 (Scalar.ofBits .f32 0x44800000#32 : Ideal .f32))) broadcasts_S128x1_S128x1024
theorem rowMean_real (x : Fin 128 → Fin 1024 → ℝ) : rowMean (mat32 x) = mat32 fun r _ => mean (x r) := by
  unfold rowMean
  rw [rowsum_mat, col_lin, splats.2.2.2.1, div_mat _ (by norm_num : (1024 : ℝ) ≠ 0), along_mat]
  rfl
/-- The cotangent `y` of the scaled normalisation carried through it. -/
def backNorm (γ : FVec Ideal S1x1024 .f32) (rstd : FVec Ideal S128x1 .f32) (xhat y : FVec Ideal S128x1024 .f32) :
    FVec Ideal S128x1024 .f32 :=
  mulf (broadcastTo S128x1024 rstd broadcasts_S128x1_S128x1024)
    (subf (subf (mulf y (broadcastTo S128x1024 γ broadcasts_S1x1024_S128x1024))
        (rowMean (mulf y (broadcastTo S128x1024 γ broadcasts_S1x1024_S128x1024))))
      (mulf xhat (rowMean (mulf (mulf y (broadcastTo S128x1024 γ broadcasts_S1x1024_S128x1024)) xhat))))
theorem backNorm_real (γ : Fin 1024 → ℝ) (x y : Fin 128 → Fin 1024 → ℝ) :
    backNorm (mat32 fun _ => γ) (mat32 fun r _ => rs (x r)) (mat32 fun r c => hat (x r) c) (mat32 y)
      = mat32 fun r c => dnorm (x r) (fun c => y r c * γ c) c := by
  unfold backNorm
  simp only [down_mat, along_mat, mul_mat, rowMean_real, sub_mat]
  rfl

/-! ## What is stored -/

section Stored

variable (x0 x1 : Vec Ideal S128x1024 .f32) (x2 : Vec Ideal S128x1024 .bf16) (x3 x4 : Vec Ideal S1x1024 .f32)
  (x5 : Vec Ideal S8x128x128 .f32) (x6 : Vec Ideal S128x8 .f32)

/-- The normalised tokens. -/
def vNorm : FVec Ideal S128x1024 .bf16 := k0_pay34 (k0_pay28 x3) (k0_pay29 x4) (k0_pay30 x1) (k0_pay31 x1)
/-- The cotangent of the normalised tokens. -/
def dNorm : FVec Ideal S128x1024 .f32 := side fun g => gNorm g (k0_pay35 x2) (k0_pay26 x0) (plane x5 g)
/-- The two halves' gradients. -/
def sHalves : FVec Ideal S128x2048 .bf16 :=
  truncf .bf16 (halves
    (backGelu x0 (k0_pay25 x0) (side fun g => gGate g (vNorm x1 x3 x4) (k0_pay35 x2) (plane x5 g) (column x6 g)))
    (backGelu x1 (k0_pay27 x1) (backNorm (k0_pay28 x3) (k0_pay32 (k0_pay31 x1)) (k0_pay33 (k0_pay30 x1) (k0_pay31 x1))
      (dNorm x0 x2 x5)))) bitsLt_bf16_f32
/-- The weights' gradient, group by group. -/
def sWeight (g : Fin 8) : FVec Ideal S128x128 .f32 := gWeight g (vNorm x1 x3 x4) (k0_pay35 x2) (k0_pay26 x0)
/-- The token biases' gradient. -/
def sBias : FVec Ideal S128x8 .f32 := sideCol fun g => gBias g (k0_pay35 x2) (k0_pay26 x0)
/-- The scale's gradient. -/
def sScale : FVec Ideal S1x1024 .f32 :=
  shapeCast S1x1024 (colsum (mulf (dNorm x0 x2 x5) (k0_pay33 (k0_pay30 x1) (k0_pay31 x1))) reduces_S128x1024_S1024)
    shapeCasts_S1024_S1x1024
/-- The shift's gradient. -/
def sShift : FVec Ideal S1x1024 .f32 :=
  shapeCast S1x1024 (colsum (dNorm x0 x2 x5) reduces_S128x1024_S1024) shapeCasts_S1024_S1x1024

end Stored

section Real

variable (C : Chunk)

theorem vNorm_real : vNorm (mat32 C.v) (mat32 fun _ => C.γ) (mat32 fun _ => C.β) = mat16 C.vn := vn_v C.v C.γ C.β
theorem cot_real : (k0_pay35 (F := Ideal) (mat16 C.d) : FVec Ideal S128x1024 .f32) = mat32 C.d := rfl
theorem dNorm_real : dNorm (mat32 C.u) (mat16 C.d) (cub32 C.w) = mat32 C.dvc := by
  unfold dNorm
  simp only [cot_real, gelu_u, plane_real, gNorm_real]
  exact side_real C.dvn
theorem sHalves_real :
    sHalves (mat32 C.u) (mat32 C.v) (mat16 C.d) (mat32 fun _ => C.γ) (mat32 fun _ => C.β) (cub32 C.w)
      (mat32 fun t g => C.b g t) = mat16 C.halves := by
  unfold sHalves
  simp only [vNorm_real, cot_real, plane_real, column_real, gGate_real, dNorm_real, tanh_u, tanh_v]
  rw [show k0_pay28 (F := Ideal) (mat32 fun _ => C.γ) = mat32 fun _ => C.γ from shapeCast_self _ _, rs_v, hat_v,
    show backNorm (mat32 fun _ => C.γ) (mat32 fun r _ => rs fun c => gelu (C.v r c))
        (mat32 fun r c => hat (fun c => gelu (C.v r c)) c) (mat32 C.dvc) = _ from backNorm_real C.γ C.gv C.dvc,
    backGelu_real]
  rw [show (side fun g => mat32 fun t k => C.d t (chan g k)
      * ((∑ s, (if s ≤ t then C.w g t s else 0) * C.vn s (chan g k)) + C.b g t))
      = mat32 fun t c => C.d t c * C.mix (grp c) t (lane c) from by
    rw [side_real]; unfold Chunk.mix; simp only [chan_grp_lane]; rfl, backGelu_real, halves_real, trunc_mat]
  rfl
theorem sWeight_real (g : Fin 8) :
    sWeight (mat32 C.u) (mat32 C.v) (mat16 C.d) (mat32 fun _ => C.γ) (mat32 fun _ => C.β) g = mat32 (C.dw g) := by
  unfold sWeight
  rw [vNorm_real, cot_real, gelu_u, gWeight_real]
  rfl
theorem sBias_real : sBias (mat32 C.u) (mat16 C.d) = mat32 C.db := by
  unfold sBias
  simp only [cot_real, gelu_u, gBias_real]
  exact sideCol_real fun g t _ => C.db t g
theorem sScale_real : sScale (mat32 C.u) (mat32 C.v) (mat16 C.d) (cub32 C.w) = mat32 fun _ => C.dγ := by
  unfold sScale
  rw [dNorm_real, hat_v, mul_mat, colsum_mat, row_lin]
  rfl
theorem sShift_real : sShift (mat32 C.u) (mat16 C.d) (cub32 C.w) = mat32 fun _ => C.dβ := by
  unfold sShift
  rw [dNorm_real, colsum_mat, row_lin]
  rfl

end Real

end Cert.KernelIdeal.Block

end
-- ==== Proof.Outs.lean ====
/- What the spatial-gating body leaves in its five output windows, on a chunk of reals: at the first point the chunk's
   own values, at a later one the four sums carried on. -/
module

public import proofs.«01_k».proof.Proof.Stores
public import proofs.«01_k».proof.Proof.Gen.KernelIdeal.Value

@[expose] public section

noncomputable section

namespace Cert.KernelIdeal.Block

open Cert.KernelIdeal Cert.KernelIdeal.Gen Cert.Lift Cert.Gating Idealize.ShloMosaic Idealize.ShloMosaic.ValueIdx
open Idealize.ShloMosaic.TcCoe Idealize.SL.Sem

theorem origin : (![0, 0] : Fin 2 → Nat) = fun _ => 0 := funext fun a => by fin_cases a <;> rfl

/-- Eight planes stored one by one, the last first. -/
def planes (f : Fin 8 → Vec Ideal S1x128x128 .f32) : List (View.Piece (Elt Ideal) S8x128x128 .f32) :=
  List.ofFn fun n : Fin 8 => ⟨Rect.unit (s := S8x128x128) ![n.rev.val, 0, 0] ![1, 128, 128] (inb_plane n.rev), f n.rev⟩
theorem canon_planes (f : Fin 8 → Vec Ideal S1x128x128 .f32) (w : Fin 8 → Fin 128 → Fin 128 → ℝ)
    (hf : ∀ g, f g = cub32 fun _ => w g) : View.canon (planes f) = cub32 w := by
  refine funext fun y => View.canon_apply_of_pieces (cub32 w) (planes f) (fun p hp x => ?_) y ?_
  · obtain ⟨n, rfl⟩ := (List.mem_ofFn' ..).mp hp
    have e : (Rect.unit (s := S8x128x128) ![n.rev.val, 0, 0] ![1, 128, 128] (inb_plane n.rev)).emb x
        = ix3 n.rev (x 1) (x 2) := funext fun ax => by
      match ax with
      | ⟨0, _⟩ => have : (x 0).val < 1 := (x 0).isLt
                  exact Fin.ext (by show n.rev.val + 1 * (x 0).val = n.rev.val; omega)
      | ⟨1, _⟩ => exact Fin.ext (by show 0 + 1 * (x 1).val = (x 1).val; omega)
      | ⟨2, _⟩ => exact Fin.ext (by show 0 + 1 * (x 2).val = (x 2).val; omega)
    show f n.rev x = cub32 w ((Rect.unit (s := S8x128x128) ![n.rev.val, 0, 0] ![1, 128, 128] (inb_plane n.rev)).emb x)
    rw [hf, e]
    rfl
  · have h0 : (y 0).val < 8 := (y 0).isLt
    have h1 : (y 1).val < 128 := (y 1).isLt
    have h2 : (y 2).val < 128 := (y 2).isLt
    refine ⟨_, (List.mem_ofFn' ..).mpr ⟨(⟨(y 0).val, h0⟩ : Fin 8).rev, rfl⟩, ?_⟩
    refine (Rect.mem_set_unit (inb := inb_plane _)).mpr fun ax => ?_
    match ax with
    | ⟨0, _⟩ => show (Fin.rev (Fin.rev ⟨(y 0).val, h0⟩)).val ≤ (y 0).val ∧ (y 0).val < (Fin.rev (Fin.rev ⟨(y 0).val, h0⟩)).val + 1
                rw [Fin.rev_rev]; exact ⟨Nat.le_refl _, Nat.lt_succ_self _⟩
    | ⟨1, _⟩ => show 0 ≤ (y 1).val ∧ (y 1).val < 0 + 128; omega
    | ⟨2, _⟩ => show 0 ≤ (y 2).val ∧ (y 2).val < 0 + 128; omega

/-- A plane carried on: the old one plus the chunk's. -/
theorem grow_plane (p q : Fin 128 → Fin 128 → ℝ) :
    shapeCast S1x128x128 (addf (F := Ideal) (φ := .f32) (shapeCast S128x128 (cub32 fun _ : Fin 1 => p)
      shapeCasts_S1x128x128_S128x128) (mat32 q)) shapeCasts_S128x128_S1x128x128
      = cub32 fun _ : Fin 1 => fun i j => p i j + q i j := by
  rw [flat_cub, add_mat, plane_mat]

section Outs

variable (c : Dev nD) (i : grid0.Coords)
  (arg1 : Memref sig .tc .vmem S128x1024 .f32) (h1 : arg1.IsWhole)
  (arg2 : Memref sig .tc .vmem S128x1024 .f32) (h2 : arg2.IsWhole)
  (arg3 : Memref sig .tc .vmem S128x1024 .bf16) (h3 : arg3.IsWhole)
  (arg4 : Memref sig .tc .vmem S1x1024 .f32) (h4 : arg4.IsWhole)
  (arg5 : Memref sig .tc .vmem S1x1024 .f32) (h5 : arg5.IsWhole)
  (arg6 : Memref sig .tc .vmem S8x128x128 .f32) (h6 : arg6.IsWhole)
  (arg7 : Memref sig .tc .vmem S128x8 .f32) (h7 : arg7.IsWhole)
  (arg8 : Memref sig .tc .vmem S128x2048 .bf16) (h8 : arg8.IsWhole)
  (arg9 : Memref sig .tc .vmem S8x128x128 .f32) (h9 : arg9.IsWhole)
  (arg10 : Memref sig .tc .vmem S128x8 .f32) (h10 : arg10.IsWhole)
  (arg11 : Memref sig .tc .vmem S1x1024 .f32) (h11 : arg11.IsWhole)
  (arg12 : Memref sig .tc .vmem S1x1024 .f32) (h12 : arg12.IsWhole)
  (C : Chunk)

theorem out_A_uv (hc0 : cond0_0 i) (hc1 : ¬cond0_1 i) :
    out0_A_7 (F := Ideal) c i arg1 h1 arg2 h2 arg3 h3 arg4 h4 arg5 h5 arg6 h6 arg7 h7 arg8 h8 arg9 h9 arg10 h10 arg11 h11 arg12 h12
      hc0 hc1 (mat32 C.u) (mat32 C.v) (mat16 C.d) (mat32 fun _ => C.γ) (mat32 fun _ => C.β) (cub32 C.w) (mat32 fun t g => C.b g t)
      = mat16 C.halves := by
  unfold out0_A_7
  rw [View.read_writes_eq_canon _ _ _ (fun y => cover0_A_7 (y := y) ..)]
  unfold kernelRun0_A
  dsimp only
  sl_unfold_words
  simp only [View.readAt_eq_ld, h1.read_unread, h2.read_unread, h3.read_unread, h4.read_unread, h5.read_unread, h6.read_unread, h7.read_unread, h9.read_unread, h10.read_unread, h11.read_unread, h12.read_unread,
    View.ld_unit_zero (S := S128x1024) origin, View.ld_unit_zero (S := S1x1024) origin, View.ld_unit_zero (S := S128x8) origin]
  rw [View.canon_unit_zero origin]
  exact sHalves_real C
theorem out_A_w (hc0 : cond0_0 i) (hc1 : ¬cond0_1 i) :
    out0_A_8 (F := Ideal) c i arg1 h1 arg2 h2 arg3 h3 arg4 h4 arg5 h5 arg6 h6 arg7 h7 arg8 h8 arg9 h9 arg10 h10 arg11 h11 arg12 h12
      hc0 hc1 (mat32 C.u) (mat32 C.v) (mat16 C.d) (mat32 fun _ => C.γ) (mat32 fun _ => C.β) (cub32 C.w) (mat32 fun t g => C.b g t)
      = cub32 C.dw := by
  unfold out0_A_8
  rw [View.read_writes_eq_canon _ _ _ (fun y => cover0_A_8 (y := y) ..)]
  unfold kernelRun0_A
  dsimp only
  sl_unfold_words
  simp only [View.readAt_eq_ld, h1.read_unread, h2.read_unread, h3.read_unread, h4.read_unread, h5.read_unread, h6.read_unread, h7.read_unread, h9.read_unread, h10.read_unread, h11.read_unread, h12.read_unread,
    View.ld_unit_zero (S := S128x1024) origin, View.ld_unit_zero (S := S1x1024) origin, View.ld_unit_zero (S := S128x8) origin]
  exact canon_planes (fun g => shapeCast S1x128x128 (sWeight (mat32 C.u) (mat32 C.v) (mat16 C.d) (mat32 fun _ => C.γ)
      (mat32 fun _ => C.β) g) shapeCasts_S128x128_S1x128x128) C.dw fun g => by rw [sWeight_real, plane_mat]
theorem out_A_b (hc0 : cond0_0 i) (hc1 : ¬cond0_1 i) :
    out0_A_9 (F := Ideal) c i arg1 h1 arg2 h2 arg3 h3 arg4 h4 arg5 h5 arg6 h6 arg7 h7 arg8 h8 arg9 h9 arg10 h10 arg11 h11 arg12 h12
      hc0 hc1 (mat32 C.u) (mat32 C.v) (mat16 C.d) (mat32 fun _ => C.γ) (mat32 fun _ => C.β) (cub32 C.w) (mat32 fun t g => C.b g t)
      = mat32 C.db := by
  unfold out0_A_9
  rw [View.read_writes_eq_canon _ _ _ (fun y => cover0_A_9 (y := y) ..)]
  unfold kernelRun0_A
  dsimp only
  sl_unfold_words
  simp only [View.readAt_eq_ld, h1.read_unread, h2.read_unread, h3.read_unread, h4.read_unread, h5.read_unread, h6.read_unread, h7.read_unread, h9.read_unread, h10.read_unread, h11.read_unread, h12.read_unread,
    View.ld_unit_zero (S := S128x1024) origin, View.ld_unit_zero (S := S1x1024) origin, View.ld_unit_zero (S := S128x8) origin]
  rw [View.canon_unit_zero origin]
  exact sBias_real C
theorem out_A_scale (hc0 : cond0_0 i) (hc1 : ¬cond0_1 i) :
    out0_A_10 (F := Ideal) c i arg1 h1 arg2 h2 arg3 h3 arg4 h4 arg5 h5 arg6 h6 arg7 h7 arg8 h8 arg9 h9 arg10 h10 arg11 h11 arg12 h12
      hc0 hc1 (mat32 C.u) (mat32 C.v) (mat16 C.d) (mat32 fun _ => C.γ) (mat32 fun _ => C.β) (cub32 C.w) (mat32 fun t g => C.b g t)
      = mat32 fun _ => C.dγ := by
  unfold out0_A_10
  rw [View.read_writes_eq_canon _ _ _ (fun y => cover0_A_10 (y := y) ..)]
  unfold kernelRun0_A
  dsimp only
  sl_unfold_words
  simp only [View.readAt_eq_ld, h1.read_unread, h2.read_unread, h3.read_unread, h4.read_unread, h5.read_unread, h6.read_unread, h7.read_unread, h9.read_unread, h10.read_unread, h11.read_unread, h12.read_unread,
    View.ld_unit_zero (S := S128x1024) origin, View.ld_unit_zero (S := S1x1024) origin, View.ld_unit_zero (S := S128x8) origin]
  rw [View.canon_unit_zero origin]
  exact sScale_real C
theorem out_A_shift (hc0 : cond0_0 i) (hc1 : ¬cond0_1 i) :
    out0_A_11 (F := Ideal) c i arg1 h1 arg2 h2 arg3 h3 arg4 h4 arg5 h5 arg6 h6 arg7 h7 arg8 h8 arg9 h9 arg10 h10 arg11 h11 arg12 h12
      hc0 hc1 (mat32 C.u) (mat32 C.v) (mat16 C.d) (mat32 fun _ => C.γ) (mat32 fun _ => C.β) (cub32 C.w) (mat32 fun t g => C.b g t)
      = mat32 fun _ => C.dβ := by
  unfold out0_A_11
  rw [View.read_writes_eq_canon _ _ _ (fun y => cover0_A_11 (y := y) ..)]
  unfold kernelRun0_A
  dsimp only
  sl_unfold_words
  simp only [View.readAt_eq_ld, h1.read_unread, h2.read_unread, h3.read_unread, h4.read_unread, h5.read_unread, h6.read_unread, h7.read_unread, h9.read_unread, h10.read_unread, h11.read_unread, h12.read_unread,
    View.ld_unit_zero (S := S128x1024) origin, View.ld_unit_zero (S := S1x1024) origin, View.ld_unit_zero (S := S128x8) origin]
  rw [View.canon_unit_zero origin]
  exact sShift_real C
theorem out_B_uv (hc0 : ¬cond0_0 i) (hc1 : cond0_1 i)
    (pw : Fin 8 → Fin 128 → Fin 128 → ℝ) (pb : Fin 128 → Fin 8 → ℝ) (pγ pβ : Fin 1024 → ℝ) :
    out0_B_7 (F := Ideal) c i arg1 h1 arg2 h2 arg3 h3 arg4 h4 arg5 h5 arg6 h6 arg7 h7 arg8 h8 arg9 h9 arg10 h10 arg11 h11 arg12 h12
      hc0 hc1 (mat32 C.u) (mat32 C.v) (mat16 C.d) (mat32 fun _ => C.γ) (mat32 fun _ => C.β) (cub32 C.w) (mat32 fun t g => C.b g t)
      (cub32 pw) (mat32 pb) (mat32 fun _ => pγ) (mat32 fun _ => pβ)
      = mat16 C.halves := by
  unfold out0_B_7
  rw [View.read_writes_eq_canon _ _ _ (fun y => cover0_B_7 (y := y) ..)]
  unfold kernelRun0_B
  dsimp only
  sl_unfold_words
  simp only [View.readAt_eq_ld, h1.read_unread, h2.read_unread, h3.read_unread, h4.read_unread, h5.read_unread, h6.read_unread, h7.read_unread, h9.read_unread, h10.read_unread, h11.read_unread, h12.read_unread,
    View.ld_unit_zero (S := S128x1024) origin, View.ld_unit_zero (S := S1x1024) origin, View.ld_unit_zero (S := S128x8) origin]
  rw [View.canon_unit_zero origin]
  exact sHalves_real C
set_option maxHeartbeats 4000000 in
theorem out_B_w (hc0 : ¬cond0_0 i) (hc1 : cond0_1 i)
    (pw : Fin 8 → Fin 128 → Fin 128 → ℝ) (pb : Fin 128 → Fin 8 → ℝ) (pγ pβ : Fin 1024 → ℝ) :
    out0_B_8 (F := Ideal) c i arg1 h1 arg2 h2 arg3 h3 arg4 h4 arg5 h5 arg6 h6 arg7 h7 arg8 h8 arg9 h9 arg10 h10 arg11 h11 arg12 h12
      hc0 hc1 (mat32 C.u) (mat32 C.v) (mat16 C.d) (mat32 fun _ => C.γ) (mat32 fun _ => C.β) (cub32 C.w) (mat32 fun t g => C.b g t)
      (cub32 pw) (mat32 pb) (mat32 fun _ => pγ) (mat32 fun _ => pβ)
      = cub32 fun g i j => pw g i j + C.dw g i j := by
  unfold out0_B_8
  rw [View.read_writes_eq_canon _ _ _ (fun y => cover0_B_8 (y := y) ..)]
  unfold kernelRun0_B
  dsimp only
  sl_unfold_words
  simp only [View.readAt_eq_ld, h1.read_unread, h2.read_unread, h3.read_unread, h4.read_unread, h5.read_unread, h6.read_unread, h7.read_unread, h9.read_unread, h10.read_unread, h11.read_unread, h12.read_unread,
    View.ld_unit_zero (S := S128x1024) origin, View.ld_unit_zero (S := S1x1024) origin, View.ld_unit_zero (S := S128x8) origin]
  exact canon_planes (fun g => shapeCast S1x128x128 (addf (shapeCast S128x128 (plane (cub32 pw) g)
      shapeCasts_S1x128x128_S128x128) (sWeight (mat32 C.u) (mat32 C.v) (mat16 C.d) (mat32 fun _ => C.γ)
      (mat32 fun _ => C.β) g)) shapeCasts_S128x128_S1x128x128) _ fun g => by rw [sWeight_real, plane_real, grow_plane]
theorem out_B_b (hc0 : ¬cond0_0 i) (hc1 : cond0_1 i)
    (pw : Fin 8 → Fin 128 → Fin 128 → ℝ) (pb : Fin 128 → Fin 8 → ℝ) (pγ pβ : Fin 1024 → ℝ) :
    out0_B_9 (F := Ideal) c i arg1 h1 arg2 h2 arg3 h3 arg4 h4 arg5 h5 arg6 h6 arg7 h7 arg8 h8 arg9 h9 arg10 h10 arg11 h11 arg12 h12
      hc0 hc1 (mat32 C.u) (mat32 C.v) (mat16 C.d) (mat32 fun _ => C.γ) (mat32 fun _ => C.β) (cub32 C.w) (mat32 fun t g => C.b g t)
      (cub32 pw) (mat32 pb) (mat32 fun _ => pγ) (mat32 fun _ => pβ)
      = mat32 fun t g => pb t g + C.db t g := by
  unfold out0_B_9
  rw [View.read_writes_eq_canon _ _ _ (fun y => cover0_B_9 (y := y) ..)]
  unfold kernelRun0_B
  dsimp only
  sl_unfold_words
  simp only [View.readAt_eq_ld, h1.read_unread, h2.read_unread, h3.read_unread, h4.read_unread, h5.read_unread, h6.read_unread, h7.read_unread, h9.read_unread, h10.read_unread, h11.read_unread, h12.read_unread,
    View.ld_unit_zero (S := S128x1024) origin, View.ld_unit_zero (S := S1x1024) origin, View.ld_unit_zero (S := S128x8) origin]
  rw [View.canon_unit_zero origin]
  exact (congrArg (addf (F := Ideal) (φ := .f32) (shapeCast S128x8 (mat32 pb) shapeCasts_S128x8_S128x8)) (sBias_real C)).trans
    ((congrArg (addf (F := Ideal) (φ := .f32) · _) (shapeCast_self _ _)).trans (add_mat _ _))
theorem out_B_scale (hc0 : ¬cond0_0 i) (hc1 : cond0_1 i)
    (pw : Fin 8 → Fin 128 → Fin 128 → ℝ) (pb : Fin 128 → Fin 8 → ℝ) (pγ pβ : Fin 1024 → ℝ) :
    out0_B_10 (F := Ideal) c i arg1 h1 arg2 h2 arg3 h3 arg4 h4 arg5 h5 arg6 h6 arg7 h7 arg8 h8 arg9 h9 arg10 h10 arg11 h11 arg12 h12
      hc0 hc1 (mat32 C.u) (mat32 C.v) (mat16 C.d) (mat32 fun _ => C.γ) (mat32 fun _ => C.β) (cub32 C.w) (mat32 fun t g => C.b g t)
      (cub32 pw) (mat32 pb) (mat32 fun _ => pγ) (mat32 fun _ => pβ)
      = mat32 fun _ k => pγ k + C.dγ k := by
  unfold out0_B_10
  rw [View.read_writes_eq_canon _ _ _ (fun y => cover0_B_10 (y := y) ..)]
  unfold kernelRun0_B
  dsimp only
  sl_unfold_words
  simp only [View.readAt_eq_ld, h1.read_unread, h2.read_unread, h3.read_unread, h4.read_unread, h5.read_unread, h6.read_unread, h7.read_unread, h9.read_unread, h10.read_unread, h11.read_unread, h12.read_unread,
    View.ld_unit_zero (S := S128x1024) origin, View.ld_unit_zero (S := S1x1024) origin, View.ld_unit_zero (S := S128x8) origin]
  rw [View.canon_unit_zero origin]
  exact (congrArg (addf (F := Ideal) (φ := .f32) (shapeCast S1x1024 (mat32 fun _ => pγ) shapeCasts_S1x1024_S1x1024)) (sScale_real C)).trans
    ((congrArg (addf (F := Ideal) (φ := .f32) · _) (shapeCast_self _ _)).trans (add_mat _ _))
theorem out_B_shift (hc0 : ¬cond0_0 i) (hc1 : cond0_1 i)
    (pw : Fin 8 → Fin 128 → Fin 128 → ℝ) (pb : Fin 128 → Fin 8 → ℝ) (pγ pβ : Fin 1024 → ℝ) :
    out0_B_11 (F := Ideal) c i arg1 h1 arg2 h2 arg3 h3 arg4 h4 arg5 h5 arg6 h6 arg7 h7 arg8 h8 arg9 h9 arg10 h10 arg11 h11 arg12 h12
      hc0 hc1 (mat32 C.u) (mat32 C.v) (mat16 C.d) (mat32 fun _ => C.γ) (mat32 fun _ => C.β) (cub32 C.w) (mat32 fun t g => C.b g t)
      (cub32 pw) (mat32 pb) (mat32 fun _ => pγ) (mat32 fun _ => pβ)
      = mat32 fun _ k => pβ k + C.dβ k := by
  unfold out0_B_11
  rw [View.read_writes_eq_canon _ _ _ (fun y => cover0_B_11 (y := y) ..)]
  unfold kernelRun0_B
  dsimp only
  sl_unfold_words
  simp only [View.readAt_eq_ld, h1.read_unread, h2.read_unread, h3.read_unread, h4.read_unread, h5.read_unread, h6.read_unread, h7.read_unread, h9.read_unread, h10.read_unread, h11.read_unread, h12.read_unread,
    View.ld_unit_zero (S := S128x1024) origin, View.ld_unit_zero (S := S1x1024) origin, View.ld_unit_zero (S := S128x8) origin]
  rw [View.canon_unit_zero origin]
  exact (congrArg (addf (F := Ideal) (φ := .f32) (shapeCast S1x1024 (mat32 fun _ => pβ) shapeCasts_S1x1024_S1x1024)) (sShift_real C)).trans
    ((congrArg (addf (F := Ideal) (φ := .f32) · _) (shapeCast_self _ _)).trans (add_mat _ _))

end Outs

end Cert.KernelIdeal.Block

end
-- ==== Proof.Fold.lean ====
/- The spatial-gating kernel's run: the parameters' gradients after each point are the sums over the chunks so far, and the
   five result arrays are the layer's. -/
module

public import proofs.«01_k».proof.Proof.Outs
public import Idealize.ShloMosaic.Lib.StableHlo.Run

@[expose] public section

noncomputable section

namespace Cert.KernelIdeal.Fold

open Cert.KernelIdeal Cert.KernelIdeal.Gen Cert.KernelIdeal.Block Cert.Lift Cert.Gating
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The device's six arguments are those of the layer `L`. -/
structure Holds (c : Dev nD) (L : Layer) : Prop where
  p : (m ((c : Thread nD τ).loc main_arg0) : S4096x7680.Idx → EReal) = mat32 L.p
  d : (m ((c : Thread nD τ).loc main_arg1) : S4096x1024.Idx → EReal) = mat16 L.d
  γ : (m ((c : Thread nD τ).loc main_arg2) : S1024.Idx → EReal) = lin32 L.γ
  β : (m ((c : Thread nD τ).loc main_arg3) : S1024.Idx → EReal) = lin32 L.β
  w : (m ((c : Thread nD τ).loc main_arg4) : S8x128x128.Idx → EReal) = cub32 L.w
  b : (m ((c : Thread nD τ).loc main_arg5) : S8x128.Idx → EReal) = mat32 L.b

/-! ## What the windows read -/

theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = t.val ∧ win0_1.index t 1 = 1 :=
  (by decide +kernel : ∀ t : Fin grid0.N, win0_1.index t 0 = t.val ∧ win0_1.index t 1 = 1)
theorem at2 : ∀ t : Fin cfg0.N, win0_2.index t 0 = t.val ∧ win0_2.index t 1 = 0 :=
  (by decide +kernel : ∀ t : Fin grid0.N, win0_2.index t 0 = t.val ∧ win0_2.index t 1 = 0)
theorem at3 : ∀ t : Fin cfg0.N, win0_3.index t 0 = 0 ∧ win0_3.index t 1 = 0 :=
  (by decide +kernel : ∀ t : Fin grid0.N, win0_3.index t 0 = 0 ∧ win0_3.index t 1 = 0)
theorem at4 : ∀ t : Fin cfg0.N, win0_4.index t 0 = 0 ∧ win0_4.index t 1 = 0 :=
  (by decide +kernel : ∀ t : Fin grid0.N, win0_4.index t 0 = 0 ∧ win0_4.index t 1 = 0)
theorem at5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)
theorem at6 : ∀ t : Fin cfg0.N, win0_6.index t 0 = 0 ∧ win0_6.index t 1 = 0 :=
  (by decide +kernel : ∀ t : Fin grid0.N, win0_6.index t 0 = 0 ∧ win0_6.index t 1 = 0)
theorem at7 : ∀ t : Fin cfg0.N, win0_7.index t 0 = t.val ∧ win0_7.index t 1 = 0 :=
  (by decide +kernel : ∀ t : Fin grid0.N, win0_7.index t 0 = t.val ∧ win0_7.index t 1 = 0)

theorem V_scale (c : Dev nD) : V m c main_v0
    = broadcastInDim S1x1024 ![1] bcast_S1024_S1x1024_1 (m ((c : Thread nD τ).loc main_arg2)) := by
  show StableHlo.after hostOps0 _ (Proc.devRef .tc main_v0) = _
  after_results
theorem V_shift (c : Dev nD) : V m c main_v1
    = broadcastInDim S1x1024 ![1] bcast_S1024_S1x1024_1 (m ((c : Thread nD τ).loc main_arg3)) := by
  show StableHlo.after hostOps0 _ (Proc.devRef .tc main_v1) = _
  after_results
theorem V_bias (c : Dev nD) : V m c main_v2
    = transpose S128x8 [1, 0] (m ((c : Thread nD τ).loc main_arg5)) transposes_S8x128_S128x8_1_0 := by
  show StableHlo.after hostOps0 _ (Proc.devRef .tc main_v2) = _
  after_results

/-- Grid point `t` as a chunk number. -/
def num (t : Fin cfg0.N) : Fin 32 := t.cast N_0

section Blocks

variable (c : Dev nD) (L : Layer) (H : Holds m c L) (t : Fin cfg0.N)
include H

theorem block0 : X0_0 m c t = mat32 (L.chunk (num t)).u := by
  funext j
  unfold X0_0 Pipeline.Window.fill
  rw [dif_pos (moved0_0 t j)]
  unfold iblk
  rw [View.read_apply]
  show V m c main_arg0 _ = _
  rw [V_main_arg0]
  refine (congrFun H.p _).trans (congrArg (fun x : ℝ => (x : EReal)) (congrArg₂ L.p (Fin.ext ?_) (Fin.ext ?_)))
  · show win0_0.index t 0 * 128 + 1 * (j 0).val = 128 * t.val + (j 0).val; rw [(at0 t).1]; omega
  · show win0_0.index t 1 * 1024 + 1 * (j 1).val = (j 1).val; rw [(at0 t).2]; omega
theorem block1 : X0_1 m c t = mat32 (L.chunk (num t)).v := by
  funext j
  unfold X0_1 Pipeline.Window.fill
  rw [dif_pos (moved0_1 t j)]
  unfold iblk
  rw [View.read_apply]
  show V m c main_arg0 _ = _
  rw [V_main_arg0]
  refine (congrFun H.p _).trans (congrArg (fun x : ℝ => (x : EReal)) (congrArg₂ L.p (Fin.ext ?_) (Fin.ext ?_)))
  · show win0_1.index t 0 * 128 + 1 * (j 0).val = 128 * t.val + (j 0).val; rw [(at1 t).1]; omega
  · show win0_1.index t 1 * 1024 + 1 * (j 1).val = 1024 + (j 1).val; rw [(at1 t).2]; omega
theorem block2 : iblk m c 2 t = mat16 (L.chunk (num t)).d := by
  funext j
  unfold iblk
  rw [View.read_apply]
  show V m c main_arg1 _ = _
  rw [V_main_arg1]
  refine (congrFun H.d _).trans (congrArg (fun x : ℝ => (x : EReal)) (congrArg₂ L.d (Fin.ext ?_) (Fin.ext ?_)))
  · show win0_2.index t 0 * 128 + 1 * (j 0).val = 128 * t.val + (j 0).val; rw [(at2 t).1]; omega
  · show win0_2.index t 1 * 1024 + 1 * (j 1).val = (j 1).val; rw [(at2 t).2]; omega
theorem block3 : iblk m c 3 t = mat32 fun _ : Fin 1 => L.γ := by
  funext j
  unfold iblk
  rw [View.read_apply]
  show V m c main_v0 _ = _
  rw [V_scale]
  refine (congrFun H.γ _).trans (congrArg (fun x : ℝ => (x : EReal)) (congrArg L.γ (Fin.ext ?_)))
  show win0_3.index t 1 * 1024 + 1 * (j 1).val = (j 1).val; rw [(at3 t).2]; omega
theorem block4 : iblk m c 4 t = mat32 fun _ : Fin 1 => L.β := by
  funext j
  unfold iblk
  rw [View.read_apply]
  show V m c main_v1 _ = _
  rw [V_shift]
  refine (congrFun H.β _).trans (congrArg (fun x : ℝ => (x : EReal)) (congrArg L.β (Fin.ext ?_)))
  show win0_4.index t 1 * 1024 + 1 * (j 1).val = (j 1).val; rw [(at4 t).2]; omega
theorem block5 : iblk m c 5 t = cub32 L.w := by
  funext j
  unfold iblk
  rw [View.read_apply]
  show V m c main_arg4 _ = _
  rw [V_main_arg4]
  refine (congrFun H.w _).trans (congrArg (cub32 L.w) (funext fun ax => Fin.ext ?_))
  match ax with
  | ⟨0, _⟩ => show win0_5.index t 0 * 8 + 1 * (j 0).val = (j 0).val; rw [(at5 t).1]; omega
  | ⟨1, _⟩ => show win0_5.index t 1 * 128 + 1 * (j 1).val = (j 1).val; rw [(at5 t).2.1]; omega
  | ⟨2, _⟩ => show win0_5.index t 2 * 128 + 1 * (j 2).val = (j 2).val; rw [(at5 t).2.2]; omega
theorem block6 : iblk m c 6 t = mat32 fun s g => L.b g s := by
  funext j
  unfold iblk
  rw [View.read_apply]
  show V m c main_v2 _ = _
  rw [V_bias]
  refine (congrFun H.b _).trans (congrArg (fun x : ℝ => (x : EReal)) (congrArg₂ L.b (Fin.ext ?_) (Fin.ext ?_)))
  · show win0_6.index t 1 * 8 + 1 * (j 1).val = (j 1).val; rw [(at6 t).2]; omega
  · show win0_6.index t 0 * 128 + 1 * (j 0).val = (j 0).val; rw [(at6 t).1]; omega

end Blocks

/-! ## What the five windows hold after each point -/

section Points

variable (c : Dev nD) (L : Layer) (H : Holds m c L)

/-- A chunk's quantity summed over the chunks up to `n`. -/
def upto (n : ℕ) (f : Chunk → ℝ) : ℝ := ∑ k ∈ Finset.range (n + 1), f (L.nth k)
theorem upto_zero (f : Chunk → ℝ) : upto L 0 f = f (L.nth 0) := Finset.sum_range_one _
theorem upto_succ (n : ℕ) (f : Chunk → ℝ) : upto L (n + 1) f = upto L n f + f (L.nth (n + 1)) := Finset.sum_range_succ _ _
theorem upto_last (f : Chunk → ℝ) : upto L 31 f = ∑ n, f (L.chunk n) := L.sum_nth f

/-- The five windows after point `n`. -/
def state (n : ℕ) : Vec Ideal S128x2048 .bf16 × Vec Ideal S8x128x128 .f32 × Vec Ideal S128x8 .f32 × Vec Ideal S1x1024 .f32
    × Vec Ideal S1x1024 .f32 :=
  (mat16 (L.nth n).halves, cub32 fun g i j => upto L n fun C => C.dw g i j, mat32 fun t g => upto L n fun C => C.db t g,
    mat32 fun _ k => upto L n fun C => C.dγ k, mat32 fun _ k => upto L n fun C => C.dβ k)

include H in
theorem outs_eq : ∀ (n : ℕ) (h : n < cfg0.N), outsAt0 m c n h = state L n
  | 0, h => by
    refine (outsAt0_A m c ⟨0, h⟩ rfl (by show ¬1 ≤ 0; omega)).trans ?_
    rw [block0 m c L H, block1 m c L H, block2 m c L H, block3 m c L H, block4 m c L H, block5 m c L H, block6 m c L H]
    unfold state
    simp only [upto_zero]
    exact congrArg₂ Prod.mk (out_A_uv (C := L.chunk 0) ..) (congrArg₂ Prod.mk (out_A_w (C := L.chunk 0) ..)
      (congrArg₂ Prod.mk (out_A_b (C := L.chunk 0) ..) (congrArg₂ Prod.mk (out_A_scale (C := L.chunk 0) ..)
        (out_A_shift (C := L.chunk 0) ..))))
  | n + 1, h => by
    have hN : cfg0.N = 32 := N_0
    have ih (q) : outsAt0 m c ((⟨n + 1, h⟩ : Fin cfg0.N).val - 1) q = state L n := outs_eq n _
    have ec : L.chunk (num ⟨n + 1, h⟩) = L.nth (n + 1) := (L.nth_val (num ⟨n + 1, h⟩)).symm
    refine (outsAt0_B m c ⟨n + 1, h⟩ (by show ¬(n + 1) % 32 = 0; omega) (by show 1 ≤ n + 1; omega)).trans ?_
    rw [block0 m c L H, block1 m c L H, block2 m c L H, block3 m c L H, block4 m c L H, block5 m c L H, block6 m c L H, ih,
      ec]
    unfold state
    simp only [upto_succ]
    exact congrArg₂ Prod.mk (out_B_uv (C := L.nth (n + 1)) ..) (congrArg₂ Prod.mk (out_B_w (C := L.nth (n + 1)) ..)
      (congrArg₂ Prod.mk (out_B_b (C := L.nth (n + 1)) ..) (congrArg₂ Prod.mk (out_B_scale (C := L.nth (n + 1)) ..)
        (out_B_shift (C := L.nth (n + 1)) ..))))

/-! ## The five results -/

include H in
theorem final7 : (dats m 0 c).arrAt 7 cfg0.N = (mat16 L.halves : S4096x2048.Idx → EReal) := by
  refine (dats m 0 c).arrAt_eq_of_cover 7 _ (fun t _ => ?_) fun i => ?_
  · rw [Value.flushed7, outs_eq m c L H]
    funext j
    rw [View.read_apply]
    have hj0 : (j 0).val < 128 := (j 0).isLt
    show ((L.nth t.val).halves (j 0) (j 1) : EReal) = mat16 L.halves _
    rw [show L.nth t.val = L.chunk (num t) from L.nth_val (num t)]
    refine congrArg (fun x : ℝ => (x : EReal)) ?_
    unfold Layer.halves
    refine congr (congr (congrArg _ (congrArg L.chunk (Fin.ext ?_))) (Fin.ext ?_)) (Fin.ext ?_)
    · show t.val = (win0_7.index t 0 * 128 + 1 * (j 0).val) / 128; rw [(at7 t).1]; omega
    · show (j 0).val = (win0_7.index t 0 * 128 + 1 * (j 0).val) % 128; rw [(at7 t).1]; omega
    · show (j 1).val = win0_7.index t 1 * 2048 + 1 * (j 1).val; rw [(at7 t).2]; omega
  · have hi0 : (i 0).val < 4096 := (i 0).isLt
    have hi1 : (i 1).val < 2048 := (i 1).isLt
    let t : Fin cfg0.N := (⟨(i 0).val / 128, by omega⟩ : Fin 32).cast N_0.symm
    refine ⟨t, flush0_7 t, ?_⟩
    show i ∈ ((View.whole main_v3_0).slice (win0_7.rect t)).set
    rw [View.set_slice_whole, Rect.mem_set_unit]
    intro a
    match a with
    | ⟨0, _⟩ => show win0_7.index t 0 * 128 ≤ (i 0).val ∧ (i 0).val < win0_7.index t 0 * 128 + 128
                rw [(at7 t).1]; show (i 0).val / 128 * 128 ≤ _ ∧ _ < (i 0).val / 128 * 128 + 128; omega
    | ⟨1, _⟩ => show win0_7.index t 1 * 2048 ≤ (i 1).val ∧ (i 1).val < win0_7.index t 1 * 2048 + 2048
                rw [(at7 t).2]; omega

/-- The last point. -/
def last : Fin cfg0.N := (31 : Fin 32).cast N_0.symm
theorem only_last (t : Fin cfg0.N) (h : t.val % 32 = 31) : t = last := Fin.ext (by
  have : t.val < 32 := lt_of_lt_of_eq t.isLt N_0
  show t.val = 31; omega)

include H in
theorem final8 : (dats m 0 c).arrAt 8 cfg0.N = (cub32 L.dw : S8x128x128.Idx → EReal) := by
  refine (dats m 0 c).arrAt_eq_of_cover 8 _ (fun t hf => ?_) fun i => ⟨last, (flush0_8 last).mpr rfl, ?_⟩
  · obtain rfl := only_last t ((flush0_8 t).mp hf)
    rw [Value.flushed8, outs_eq m c L H]
    have hz : (fun a => win0_8.index last a * main_v3_1.ty.shape.size a) = fun _ => 0 := funext fun a => by fin_cases a <;> decide +kernel
    refine Eq.trans ?_ (Memref.read_access_unit_zero (Elt Ideal) main_v3_1 hz (fun a => by rw [congrFun hz a]; simp) (cub32 L.dw)).symm
    show (state L 31).2.1 = _
    unfold state
    simp only [upto_last]
    rfl
  · show i ∈ ((View.whole main_v3_1).slice (win0_8.rect last)).set
    rw [View.set_slice_whole, Rect.mem_set_unit]
    intro a
    match a with
    | ⟨0, _⟩ => show win0_8.index last 0 * 8 ≤ (i 0).val ∧ (i 0).val < win0_8.index last 0 * 8 + 8
                have : (i 0).val < 8 := (i 0).isLt
                rw [show win0_8.index last 0 = 0 from by decide +kernel]; omega
    | ⟨1, _⟩ => show win0_8.index last 1 * 128 ≤ (i 1).val ∧ (i 1).val < win0_8.index last 1 * 128 + 128
                have : (i 1).val < 128 := (i 1).isLt
                rw [show win0_8.index last 1 = 0 from by decide +kernel]; omega
    | ⟨2, _⟩ => show win0_8.index last 2 * 128 ≤ (i 2).val ∧ (i 2).val < win0_8.index last 2 * 128 + 128
                have : (i 2).val < 128 := (i 2).isLt
                rw [show win0_8.index last 2 = 0 from by decide +kernel]; omega
include H in
theorem final9 : (dats m 0 c).arrAt 9 cfg0.N = (mat32 L.db : S128x8.Idx → EReal) := by
  refine (dats m 0 c).arrAt_eq_of_cover 9 _ (fun t hf => ?_) fun i => ⟨last, (flush0_9 last).mpr rfl, ?_⟩
  · obtain rfl := only_last t ((flush0_9 t).mp hf)
    rw [Value.flushed9, outs_eq m c L H]
    have hz : (fun a => win0_9.index last a * main_v3_2.ty.shape.size a) = fun _ => 0 := funext fun a => by fin_cases a <;> decide +kernel
    refine Eq.trans ?_ (Memref.read_access_unit_zero (Elt Ideal) main_v3_2 hz (fun a => by rw [congrFun hz a]; simp) (mat32 L.db)).symm
    show (state L 31).2.2.1 = _
    unfold state
    simp only [upto_last]
    rfl
  · show i ∈ ((View.whole main_v3_2).slice (win0_9.rect last)).set
    rw [View.set_slice_whole, Rect.mem_set_unit]
    intro a
    match a with
    | ⟨0, _⟩ => show win0_9.index last 0 * 128 ≤ (i 0).val ∧ (i 0).val < win0_9.index last 0 * 128 + 128
                have : (i 0).val < 128 := (i 0).isLt
                rw [show win0_9.index last 0 = 0 from by decide +kernel]; omega
    | ⟨1, _⟩ => show win0_9.index last 1 * 8 ≤ (i 1).val ∧ (i 1).val < win0_9.index last 1 * 8 + 8
                have : (i 1).val < 8 := (i 1).isLt
                rw [show win0_9.index last 1 = 0 from by decide +kernel]; omega
include H in
theorem final10 : (dats m 0 c).arrAt 10 cfg0.N = (mat32 fun _ : Fin 1 => L.dγ : S1x1024.Idx → EReal) := by
  refine (dats m 0 c).arrAt_eq_of_cover 10 _ (fun t hf => ?_) fun i => ⟨last, (flush0_10 last).mpr rfl, ?_⟩
  · obtain rfl := only_last t ((flush0_10 t).mp hf)
    rw [Value.flushed10, outs_eq m c L H]
    have hz : (fun a => win0_10.index last a * main_v3_3.ty.shape.size a) = fun _ => 0 := funext fun a => by fin_cases a <;> decide +kernel
    refine Eq.trans ?_ (Memref.read_access_unit_zero (Elt Ideal) main_v3_3 hz (fun a => by rw [congrFun hz a]; simp) (mat32 fun _ : Fin 1 => L.dγ)).symm
    show (state L 31).2.2.2.1 = _
    unfold state
    simp only [upto_last]
    rfl
  · show i ∈ ((View.whole main_v3_3).slice (win0_10.rect last)).set
    rw [View.set_slice_whole, Rect.mem_set_unit]
    intro a
    match a with
    | ⟨0, _⟩ => show win0_10.index last 0 * 1 ≤ (i 0).val ∧ (i 0).val < win0_10.index last 0 * 1 + 1
                have : (i 0).val < 1 := (i 0).isLt
                rw [show win0_10.index last 0 = 0 from by decide +kernel]; omega
    | ⟨1, _⟩ => show win0_10.index last 1 * 1024 ≤ (i 1).val ∧ (i 1).val < win0_10.index last 1 * 1024 + 1024
                have : (i 1).val < 1024 := (i 1).isLt
                rw [show win0_10.index last 1 = 0 from by decide +kernel]; omega
include H in
theorem final11 : (dats m 0 c).arrAt 11 cfg0.N = (mat32 fun _ : Fin 1 => L.dβ : S1x1024.Idx → EReal) := by
  refine (dats m 0 c).arrAt_eq_of_cover 11 _ (fun t hf => ?_) fun i => ⟨last, (flush0_11 last).mpr rfl, ?_⟩
  · obtain rfl := only_last t ((flush0_11 t).mp hf)
    rw [Value.flushed11, outs_eq m c L H]
    have hz : (fun a => win0_11.index last a * main_v3_4.ty.shape.size a) = fun _ => 0 := funext fun a => by fin_cases a <;> decide +kernel
    refine Eq.trans ?_ (Memref.read_access_unit_zero (Elt Ideal) main_v3_4 hz (fun a => by rw [congrFun hz a]; simp) (mat32 fun _ : Fin 1 => L.dβ)).symm
    show (state L 31).2.2.2.2 = _
    unfold state
    simp only [upto_last]
    rfl
  · show i ∈ ((View.whole main_v3_4).slice (win0_11.rect last)).set
    rw [View.set_slice_whole, Rect.mem_set_unit]
    intro a
    match a with
    | ⟨0, _⟩ => show win0_11.index last 0 * 1 ≤ (i 0).val ∧ (i 0).val < win0_11.index last 0 * 1 + 1
                have : (i 0).val < 1 := (i 0).isLt
                rw [show win0_11.index last 0 = 0 from by decide +kernel]; omega
    | ⟨1, _⟩ => show win0_11.index last 1 * 1024 ≤ (i 1).val ∧ (i 1).val < win0_11.index last 1 * 1024 + 1024
                have : (i 1).val < 1024 := (i 1).isLt
                rw [show win0_11.index last 1 = 0 from by decide +kernel]; omega

end Points

/-- The kernel's run: its five results at the layer's gradients, its arguments kept. -/
theorem run (L : Dev nD → Layer) (H : ∀ c, Holds m c (L c)) :
    θ_run defs (onTc (τ := τ) (main (F := Ideal))) ⟨m, fun _ => 0, ρ⟩ fun r => ∀ c : Dev nD,
      r.2.mem ((c : Thread nD τ).loc main_v3_0) = (mat16 (L c).halves : S4096x2048.Idx → EReal)
      ∧ r.2.mem ((c : Thread nD τ).loc main_v3_1) = (cub32 (L c).dw : S8x128x128.Idx → EReal)
      ∧ r.2.mem ((c : Thread nD τ).loc main_v3_2) = (mat32 (L c).db : S128x8.Idx → EReal)
      ∧ r.2.mem ((c : Thread nD τ).loc main_v3_3) = (mat32 fun _ => (L c).dγ : S1x1024.Idx → EReal)
      ∧ r.2.mem ((c : Thread nD τ).loc main_v3_4) = (mat32 fun _ => (L c).dβ : S1x1024.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final7 m c (L c) (H c)), (h c).2.1.trans (final8 m c (L c) (H c)),
      (h c).2.2.1.trans (final9 m c (L c) (H c)), (h c).2.2.2.1.trans (final10 m c (L c) (H c)),
      (h c).2.2.2.2.1.trans (final11 m c (L c) (H c)), (h c).2.2.2.2.2⟩)
    (Value.run_blocks m ρ)

end Cert.KernelIdeal.Fold

end
-- ==== Proof.Plain.lean ====
/- The reference's arrays over the real numbers: each stage of the forward pass and of its chain rule, as the layer's
   mathematics has it. -/
module

public import proofs.«01_k».proof.Proof.Gen.ReferenceIdeal.Read
public import proofs.«01_k».proof.Proof.Lift
public import proofs.«01_k».proof.Proof.Layer

@[expose] public section

noncomputable section

namespace Cert.ReferenceIdeal.Plain

open Cert.ReferenceIdeal Cert.ReferenceIdeal.Gen Cert.ReferenceIdeal.Read Cert.Lift Cert.Gating
open Idealize.ShloMosaic Idealize.ShloMosaic.ValueIdx

/-! ## The operations on real numbers -/

theorem mul_re (a b : ℝ) : FloatOps.mulf (F := Ideal) (φ := .f32) (a : EReal) (b : EReal) = ((a * b : ℝ) : EReal) :=
  (EReal.coe_mul _ _).symm
theorem add_re (a b : ℝ) : FloatOps.addf (F := Ideal) (φ := .f32) (a : EReal) (b : EReal) = ((a + b : ℝ) : EReal) :=
  (EReal.coe_add _ _).symm
theorem sub_re (a b : ℝ) : FloatOps.subf (F := Ideal) (φ := .f32) (a : EReal) (b : EReal) = ((a - b : ℝ) : EReal) :=
  (EReal.coe_sub _ _).symm
theorem neg_re (a : ℝ) : FloatOps.hostNegf (F := Ideal) (φ := .f32) (a : EReal) = ((-a : ℝ) : EReal) :=
  (EReal.coe_neg _).symm
theorem tanh_re (a : ℝ) : FloatOps.hostUnary (F := Ideal) (φ := .f32) .tanh (a : EReal) = ((Real.tanh a : ℝ) : EReal) :=
  rfl
theorem word_zero : FloatOps.ofBits (F := Ideal) .f32 0x00000000#32 = ((0 : ℝ) : EReal) := Ideal.ofBits_zero_f32
theorem word_44715 : FloatOps.ofBits (F := Ideal) .f32 0x472EAB00#32 = ((44715 : ℝ) : EReal) := by
  show Ideal.ofBits .f32 _ = _
  simp [Ideal.ofBits, Ideal.ieee, -EReal.coe_mul]; norm_num
theorem word_million : FloatOps.ofBits (F := Ideal) .f32 0x49742400#32 = ((1000000 : ℝ) : EReal) := by
  show Ideal.ofBits .f32 _ = _
  simp [Ideal.ofBits, Ideal.ieee, -EReal.coe_mul]; norm_num

theorem div_million (a : ℝ) : FloatOps.hostDivf (F := Ideal) (φ := .f32) (a : EReal) (FloatOps.ofBits .f32 0x49742400#32)
    = ((a / 1000000 : ℝ) : EReal) := by
  rw [word_million]; exact div_real (by norm_num)
theorem div_1024 (a : ℝ) : FloatOps.hostDivf (F := Ideal) (φ := .f32) (a : EReal) (FloatOps.ofBits .f32 0x44800000#32)
    = ((a / 1024 : ℝ) : EReal) := by
  show Ideal.div _ (Ideal.ofBits .f32 0x44800000#32) = _
  rw [word_1024]; exact div_real (by norm_num)
theorem div_nz (a : ℝ) {b : ℝ} (h : b ≠ 0) :
    FloatOps.hostDivf (F := Ideal) (φ := .f32) (a : EReal) (b : EReal) = ((a / b : ℝ) : EReal) := div_real h
theorem w_root : FloatOps.ofBits (F := Ideal) .f32 0x3F4C422A#32 = ((root : ℝ) : EReal) := word_root
theorem w_eps : FloatOps.ofBits (F := Ideal) .f32 0x3727C5AC#32 = ((eps : ℝ) : EReal) := word_eps
theorem w_one : FloatOps.ofBits (F := Ideal) .f32 0x3F800000#32 = ((1 : ℝ) : EReal) := word_one
theorem w_two : FloatOps.ofBits (F := Ideal) .f32 0x40000000#32 = ((2 : ℝ) : EReal) := word_two
theorem w_three : FloatOps.ofBits (F := Ideal) .f32 0x40400000#32 = ((3 : ℝ) : EReal) := word_three
theorem w_half : FloatOps.ofBits (F := Ideal) .f32 0x3F000000#32 = ((1 / 2 : ℝ) : EReal) := word_half
theorem w_neg_half : FloatOps.ofBits (F := Ideal) .f32 0xBF000000#32 = ((-(1 / 2) : ℝ) : EReal) := word_neg_half
/-- A sum that begins at zero. -/
theorem total {n : ℕ} (f : Fin n → ℝ) : (FloatOps.ofBits (F := Ideal) .f32 0x00000000#32 : EReal) + ∑ k, (f k : EReal)
    = ((∑ k, f k : ℝ) : EReal) := by
  rw [word_zero, EReal.coe_zero, zero_add, coe_sum]

/-- A rank-4 array of reals. -/
def quad {a b c e : ℕ} (f : Fin a → Fin b → Fin c → Fin e → ℝ) : FVec Ideal ⟨4, ![a, b, c, e]⟩ .f32 :=
  fun j => ((f (j 0) (j 1) (j 2) (j 3) : ℝ) : EReal)

variable (L : Layer)

/-- The gate half, the value half, and the latter activated. -/
abbrev up (i : Fin 4096) (c : Fin 1024) : ℝ := L.p i ⟨c.val, by omega⟩
abbrev lo (i : Fin 4096) (c : Fin 1024) : ℝ := L.p i ⟨1024 + c.val, by omega⟩
abbrev act (i : Fin 4096) (c : Fin 1024) : ℝ := gelu (lo L i c)

/-! ## The activation -/

theorem u_half : val_main_v1 (F := Ideal) (mat32 L.p) = mat32 (up L) :=
  eq_mat fun i c => by rw [val_main_v1_apply, val_main_v0_apply]; rfl
theorem v_half : val_main_v2 (F := Ideal) (mat32 L.p) = mat32 (lo L) :=
  eq_mat fun i c => by
    rw [val_main_v2_apply, val_main_v0_apply]
    exact congrArg (fun q => ((L.p i q : ℝ) : EReal)) (Fin.ext rfl)

theorem u_tanh : val_main_v15 (F := Ideal) (mat32 L.p) = mat32 fun i c => th (up L i c) :=
  eq_mat fun i c => by
    simp only [val_main_v15_apply, val_main_v14_apply, val_main_v13_apply, val_main_v12_apply, val_main_v11_apply, val_main_v10_apply, val_main_v9_apply, val_main_v8_apply, val_main_v4_apply, val_main_v3_apply, val_main_cst_0_apply, val_main_cst_1_apply, val_main_cst_2_apply,
      u_half, mat_at, mul_re, word_44715, div_million, add_re, w_root, tanh_re, EReal.coe_eq_coe_iff]
    unfold th
    congr 2; ring
theorem u_cdf : val_main_v24 (F := Ideal) (mat32 L.p) = mat32 fun i c => 1 / 2 * (1 + th (up L i c)) :=
  eq_mat fun i c => by
    simp only [val_main_v24_apply, val_main_v23_apply, val_main_v22_apply, val_main_v21_apply, val_main_cst_5_apply, val_main_cst_6_apply, u_tanh, mat_at, w_one, w_half, add_re, mul_re]
theorem u_act : val_main_v25 (F := Ideal) (mat32 L.p) = mat32 fun i c => gelu (up L i c) :=
  eq_mat fun i c => by
    simp only [val_main_v25_apply, u_half, u_cdf, mat_at, mul_re, EReal.coe_eq_coe_iff]
    unfold gelu; ring
theorem u_slope : val_main_v20 (F := Ideal) (mat32 L.p)
    = mat32 fun i c => (1 + th (up L i c)) * (1 - th (up L i c)) :=
  eq_mat fun i c => by
    simp only [val_main_v20_apply, val_main_v19_apply, val_main_v18_apply, val_main_v17_apply, val_main_v16_apply, val_main_cst_3_apply, val_main_cst_4_apply, u_tanh, mat_at, w_one,
      add_re, sub_re, mul_re]
theorem u_square : val_main_v7 (F := Ideal) (mat32 L.p) = mat32 fun i c => 3 * (up L i c * up L i c) :=
  eq_mat fun i c => by
    simp only [val_main_v7_apply, val_main_v6_apply, val_main_v5_apply, val_main_cst_apply, u_half, mat_at, w_three, mul_re]

theorem v_tanh : val_main_v38 (F := Ideal) (mat32 L.p) = mat32 fun i c => th (lo L i c) :=
  eq_mat fun i c => by
    simp only [val_main_v38_apply, val_main_v37_apply, val_main_v36_apply, val_main_v35_apply, val_main_v34_apply, val_main_v33_apply, val_main_v32_apply, val_main_v31_apply, val_main_v27_apply, val_main_v26_apply, val_main_cst_8_apply, val_main_cst_9_apply, val_main_cst_10_apply,
      v_half, mat_at, mul_re, word_44715, div_million, add_re, w_root, tanh_re, EReal.coe_eq_coe_iff]
    unfold th
    congr 2; ring
theorem v_cdf : val_main_v47 (F := Ideal) (mat32 L.p) = mat32 fun i c => 1 / 2 * (1 + th (lo L i c)) :=
  eq_mat fun i c => by
    simp only [val_main_v47_apply, val_main_v46_apply, val_main_v45_apply, val_main_v44_apply, val_main_cst_13_apply, val_main_cst_14_apply, v_tanh, mat_at, w_one, w_half, add_re, mul_re]
theorem v_act : val_main_v48 (F := Ideal) (mat32 L.p) = mat32 fun i c => gelu (lo L i c) :=
  eq_mat fun i c => by
    simp only [val_main_v48_apply, v_half, v_cdf, mat_at, mul_re, EReal.coe_eq_coe_iff]
    unfold gelu; ring
theorem v_slope : val_main_v43 (F := Ideal) (mat32 L.p)
    = mat32 fun i c => (1 + th (lo L i c)) * (1 - th (lo L i c)) :=
  eq_mat fun i c => by
    simp only [val_main_v43_apply, val_main_v42_apply, val_main_v41_apply, val_main_v40_apply, val_main_v39_apply, val_main_cst_11_apply, val_main_cst_12_apply, v_tanh, mat_at, w_one,
      add_re, sub_re, mul_re]
theorem v_square : val_main_v30 (F := Ideal) (mat32 L.p) = mat32 fun i c => 3 * (lo L i c * lo L i c) :=
  eq_mat fun i c => by
    simp only [val_main_v30_apply, val_main_v29_apply, val_main_v28_apply, val_main_cst_7_apply, v_half, mat_at, w_three, mul_re]

/-! ## The normalisation -/

theorem row_total : val_main_v49 (F := Ideal) (mat32 L.p) = lin32 fun i => ∑ c, act L i c :=
  eq_lin fun i => by rw [val_main_v49_apply, v_act, val_main_cst_15_apply]; exact total fun c => act L i c
theorem row_mean : val_main_v52 (F := Ideal) (mat32 L.p) = mat32 fun i _ => mean (act L i) :=
  eq_mat fun i c => by
    rw [val_main_v52_apply, val_main_v51_apply, val_main_v50_apply, val_main_cst_16_apply, row_total]
    exact div_1024 (∑ c, act L i c)
theorem centred : val_main_v54 (F := Ideal) (mat32 L.p) = mat32 fun i c => ctr (act L i) c :=
  eq_mat fun i c => by
    rw [val_main_v54_apply, val_main_v53_apply, row_mean, v_act]
    exact sub_re _ _
theorem centred' : val_main_v63 (F := Ideal) (mat32 L.p) = mat32 fun i c => ctr (act L i) c := centred L
theorem twice : val_main_v57 (F := Ideal) (mat32 L.p) = mat32 fun i c => 2 * ctr (act L i) c :=
  eq_mat fun i c => by
    rw [val_main_v57_apply, val_main_v56_apply, val_main_cst_17_apply, centred, w_two]
    exact mul_re _ _
theorem squares : val_main_v55 (F := Ideal) (mat32 L.p) = mat32 fun i c => ctr (act L i) c * ctr (act L i) c :=
  eq_mat fun i c => by
    rw [val_main_v55_apply, centred]
    exact mul_re _ _
theorem row_squares : val_main_v58 (F := Ideal) (mat32 L.p) = lin32 fun i => ∑ c, ctr (act L i) c * ctr (act L i) c :=
  eq_lin fun i => by
    rw [val_main_v58_apply, squares, val_main_cst_18_apply]; exact total fun c => ctr (act L i) c * ctr (act L i) c
theorem guarded : val_main_v65 (F := Ideal) (mat32 L.p) = mat32 fun i _ => gvar (act L i) :=
  eq_mat fun i c => by
    rw [val_main_v65_apply, val_main_v64_apply, val_main_v61_apply, val_main_v60_apply, val_main_v59_apply,
      val_main_cst_19_apply, val_main_cst_20_apply, row_squares, w_eps]
    exact (congrArg (fun x => FloatOps.addf (F := Ideal) (φ := .f32) x (eps : EReal))
      (div_1024 (∑ c, ctr (act L i) c * ctr (act L i) c))).trans (add_re _ _)
theorem deviation : val_main_v66 (F := Ideal) (mat32 L.p) = mat32 fun i _ => rs (act L i) :=
  eq_mat fun i c => by
    rw [val_main_v66_apply, guarded]
    exact rsqrt_pos (gvar_pos (act L i))
theorem deviation' : val_main_v69 (F := Ideal) (mat32 L.p)
    = mat32 fun i _ => -(1 / 2) * (rs (act L i) / gvar (act L i)) :=
  eq_mat fun i c => by
    rw [val_main_v69_apply, val_main_v68_apply, val_main_cst_21_apply, val_main_v67_apply, guarded, deviation, w_neg_half]
    exact (congrArg _ (div_nz (rs (act L i)) (gvar_pos (act L i)).ne')).trans (mul_re _ _)
theorem normed : val_main_v71 (F := Ideal) (mat32 L.p) = mat32 fun i c => hat (act L i) c :=
  eq_mat fun i c => by
    rw [val_main_v71_apply, val_main_v70_apply, centred', deviation]
    exact mul_re _ _
theorem scaled : val_main_v77 (F := Ideal) (mat32 L.p) (lin32 L.γ) (lin32 L.β)
    = mat32 fun i c => hat (act L i) c * L.γ c + L.β c :=
  eq_mat fun i c => by
    rw [val_main_v77_apply, val_main_v76_apply, val_main_v75_apply, val_main_v74_apply, val_main_v73_apply,
      val_main_v72_apply, normed]
    exact (congrArg (fun x => FloatOps.addf (F := Ideal) (φ := .f32) x (L.β c : EReal))
      (mul_re (hat (act L i) c) (L.γ c))).trans (add_re _ _)

/-! ## Tokens by chunk, channels by group -/

theorem flat_row (n : Fin 32) (r : Fin 128) (g : Fin 8) (k : Fin 128) :
    (((n.val * 128 + r.val) * 8 + g.val) * 128 + k.val) / 1024 = 128 * n.val + r.val := by omega
theorem flat_chan (n : Fin 32) (r : Fin 128) (g : Fin 8) (k : Fin 128) :
    (((n.val * 128 + r.val) * 8 + g.val) * 128 + k.val) % 1024 = 128 * g.val + k.val := by omega
/-- A matrix of tokens and channels at a token and channel of given places. -/
theorem split_at (f : Fin 4096 → Fin 1024 → ℝ) (x : S4096x1024.Idx) (n : Fin 32) (r : Fin 128) (g : Fin 8) (k : Fin 128)
    (h0 : (x 0).val = (((n.val * 128 + r.val) * 8 + g.val) * 128 + k.val) / 1024)
    (h1 : (x 1).val = (((n.val * 128 + r.val) * 8 + g.val) * 128 + k.val) % 1024) :
    mat32 f x = ((f (row n r) (chan g k) : ℝ) : EReal) :=
  congrArg₂ (fun i c => ((f i c : ℝ) : EReal)) (Fin.ext (h0.trans (flat_row n r g k))) (Fin.ext (h1.trans (flat_chan n r g k)))
/-- A rank-4 array at the places of a token and a channel. -/
theorem join_at (f : Fin 32 → Fin 128 → Fin 8 → Fin 128 → ℝ) (x : S32x128x8x128.Idx) (i : Fin 4096) (c : Fin 1024)
    (h0 : (x 0).val = (i.val * 1024 + c.val) / 131072) (h1 : (x 1).val = (i.val * 1024 + c.val) / 1024 % 128)
    (h2 : (x 2).val = (i.val * 1024 + c.val) / 128 % 8) (h3 : (x 3).val = (i.val * 1024 + c.val) % 128) :
    quad f x = ((f (tile i) (off i) (grp c) (lane c) : ℝ) : EReal) := by
  have e0 : x 0 = tile i := Fin.ext (h0.trans (by show _ = i.val / 128; omega))
  have e1 : x 1 = off i := Fin.ext (h1.trans (by show _ = i.val % 128; omega))
  have e2 : x 2 = grp c := Fin.ext (h2.trans (by show _ = c.val / 128; omega))
  have e3 : x 3 = lane c := Fin.ext (h3.trans (by show _ = c.val % 128; omega))
  show ((f (x 0) (x 1) (x 2) (x 3) : ℝ) : EReal) = _
  rw [e0, e1, e2, e3]
/-- A sum over tokens, chunk by chunk. -/
theorem sum_rows (f : Fin 32 → Fin 128 → ℝ) : ∑ i, f (tile i) (off i) = ∑ n, ∑ r, f n r := by
  rw [← Fintype.sum_prod_type']
  exact Finset.sum_nbij' (fun i => (tile i, off i)) (fun p => row p.1 p.2) (fun _ _ => Finset.mem_univ _)
    (fun _ _ => Finset.mem_univ _) (fun i _ => row_tile_off i) (fun p _ => Prod.ext (tile_row _ _) (off_row _ _)) fun _ _ => rfl

theorem by_chunk : val_main_v78 (F := Ideal) (mat32 L.p) (lin32 L.γ) (lin32 L.β)
    = quad fun n r g k => (L.chunk n).vn r (chan g k) :=
  funext fun j => by
    rw [val_main_v78_apply, scaled]
    exact split_at _ _ (j 0) (j 1) (j 2) (j 3) rfl rfl

/-! ## The triangular weights and the mixing -/

theorem at_or_below (t s : Fin 128) :
    Scalar.select (IntOp.cmpi .sge (IntOp.addi (BitVec.ofNat 32 t.val) 0#32) (BitVec.ofNat 32 s.val)) 1#1 0#1
      = if s ≤ t then 1#1 else 0#1 := by
  revert s t; decide +kernel
theorem triangle (j : S8x128x128.Idx) : val_main_v82_1 (F := Ideal) j = if j 2 ≤ j 1 then 1#1 else 0#1 := by
  rw [val_main_v82_1_apply, val_main_v81_apply, val_main_v80_apply, val_main_call0_v4_apply, val_main_call0_v3_apply,
    val_main_call0_v2_apply, val_main_call0_v1_apply, val_main_call0_v0_apply, val_main_call0_c_apply,
    val_main_call0_v5_apply, val_main_call0_c_0_apply, val_main_v79_apply, val_main_c_apply]
  exact at_or_below (j 1) (j 2)
theorem lower : val_main_v82_0 (F := Ideal) (cub32 L.w) = cub32 (low L.w) :=
  funext fun j => by
    rw [val_main_v82_0_apply, triangle, val_main_call1_v2_apply, val_main_call1_v0_apply, val_main_cst_22_apply, word_zero]
    show _ = ((if j 2 ≤ j 1 then L.w (j 0) (j 1) (j 2) else 0 : ℝ) : EReal)
    split <;> rfl
theorem mixed : val_main_v88 (F := Ideal) (mat32 L.p) (lin32 L.γ) (lin32 L.β) (cub32 L.w) (mat32 L.b)
    = quad fun n t g k => (L.chunk n).mix g t k :=
  funext fun j => by
    rw [val_main_v88_apply, val_main_v84_apply, val_main_v83_apply, by_chunk, lower, val_main_v87_apply,
      val_main_v86_apply, val_main_v85_apply]
    have h : (∑ s : Fin 128, (quad fun n r g k => (L.chunk n).vn r (chan g k))
          (lidx_main_v83 (idx_main_v84 j) s) * cub32 (low L.w) (ridx_main_v83 (idx_main_v84 j) s))
        = ((∑ s, low L.w (j 2) (j 1) s * (L.chunk (j 0)).vn s (chan (j 2) (j 3)) : ℝ) : EReal) := by
      rw [← coe_sum]
      exact Finset.sum_congr rfl fun s _ => (EReal.coe_mul _ _).symm.trans (congrArg _ (mul_comm _ _))
    rw [h]
    exact add_re _ _
theorem gate : val_main_v89 (F := Ideal) (mat32 L.p) (lin32 L.γ) (lin32 L.β) (cub32 L.w) (mat32 L.b)
    = mat32 fun i c => (L.chunk (tile i)).mix (grp c) (off i) (lane c) :=
  eq_mat fun i c => by
    rw [val_main_v89_apply, mixed]
    exact join_at _ _ i c rfl rfl rfl rfl

/-! ## The cotangents -/

theorem d_gate : val_main_v93 (F := Ideal) (mat32 L.p) (mat16 L.d) (lin32 L.γ) (lin32 L.β) (cub32 L.w) (mat32 L.b)
    = mat32 fun i c => L.d i c * (L.chunk (tile i)).mix (grp c) (off i) (lane c) :=
  eq_mat fun i c => by
    rw [val_main_v93_apply, gate, val_main_v91_apply]
    exact mul_re _ _
theorem d_value : val_main_v92 (F := Ideal) (mat32 L.p) (mat16 L.d) = mat32 fun i c => gelu (up L i c) * L.d i c :=
  eq_mat fun i c => by
    rw [val_main_v92_apply, u_act, val_main_v91_apply]
    exact mul_re _ _
theorem d_mixed : val_main_v94 (F := Ideal) (mat32 L.p) (mat16 L.d) = quad fun n t g k => (L.chunk n).dmix g t k :=
  funext fun j => by
    rw [val_main_v94_apply, d_value]
    exact (split_at _ _ (j 0) (j 1) (j 2) (j 3) rfl rfl).trans (congrArg _ (mul_comm _ _))
theorem d_turned : val_main_v99 (F := Ideal) (mat32 L.p) (mat16 L.d) = quad fun g n k t => (L.chunk n).dmix g t k :=
  funext fun j => by rw [val_main_v99_apply, d_mixed]; rfl
theorem d_normed : val_main_v102 (F := Ideal) (mat32 L.p) (mat16 L.d) (cub32 L.w)
    = quad fun n s g k => (L.chunk n).dvn g s k :=
  funext fun j => by
    rw [val_main_v102_apply, val_main_v101_apply, d_turned, lower]
    refine Eq.trans ?_ (coe_sum Finset.univ fun t => low L.w (j 2) t (j 1) * (L.chunk (j 0)).dmix (j 2) t (j 3))
    exact Finset.sum_congr rfl fun s _ => (EReal.coe_mul _ _).symm.trans (congrArg _ (mul_comm _ _))
/-- The normalised tokens' cotangent by token and channel, and the same times the scale. -/
abbrev dn (i : Fin 4096) (c : Fin 1024) : ℝ := (L.chunk (tile i)).dvc (off i) c
abbrev dh (i : Fin 4096) (c : Fin 1024) : ℝ := dn L i c * L.γ c
theorem d_channels : val_main_v104 (F := Ideal) (mat32 L.p) (mat16 L.d) (cub32 L.w) = mat32 (dn L) :=
  eq_mat fun i c => by
    rw [val_main_v104_apply, d_normed]
    exact join_at _ _ i c rfl rfl rfl rfl
theorem d_hat : val_main_v112 (F := Ideal) (mat32 L.p) (mat16 L.d) (lin32 L.γ) (cub32 L.w) = mat32 (dh L) :=
  eq_mat fun i c => by
    rw [val_main_v112_apply, val_main_v111_apply, val_main_v72_apply, d_channels]
    exact mul_re _ _

end Cert.ReferenceIdeal.Plain

end
-- ==== Proof.PlainGrad.lean ====
/- The reference's results over the real numbers: the chain rule through the normalisation and the activation, and the
   parameters' gradients summed over the tokens. -/
module

public import proofs.«01_k».proof.Proof.Plain
public import Idealize.ShloMosaic.Lib.TwoAxisContraction

@[expose] public section

noncomputable section

namespace Cert.ReferenceIdeal.Plain

open Cert.ReferenceIdeal Cert.ReferenceIdeal.Gen Cert.ReferenceIdeal.Read Cert.Lift Cert.Gating
open Idealize.ShloMosaic Idealize.ShloMosaic.ValueIdx

variable (L : Layer)

/-! ## Through the normalisation -/

/-- The variance's cotangent over the row's length. -/
abbrev dvar (i : Fin 4096) : ℝ :=
  (∑ q, ctr (act L i) q * dh L i q) * (-(1 / 2) * (rs (act L i) / gvar (act L i))) / 1024

theorem d_ctr : val_main_v118 (F := Ideal) (mat32 L.p) (mat16 L.d) (lin32 L.γ) (cub32 L.w) = mat32 fun i c => dh L i c * rs (act L i) :=
  eq_mat fun i c => by
    rw [val_main_v118_apply, val_main_v117_apply, d_hat, deviation]
    exact mul_re _ _
theorem d_ctr_total : val_main_v121 (F := Ideal) (mat32 L.p) (mat16 L.d) (lin32 L.γ) (cub32 L.w) = lin32 fun i => ∑ q, -(dh L i q * rs (act L i)) :=
  eq_lin fun i => by
    rw [val_main_v121_apply, val_main_cst_30_apply]
    refine Eq.trans ?_ (total fun q => -(dh L i q * rs (act L i)))
    refine congrArg _ (Finset.sum_congr rfl fun q _ => ?_)
    rw [val_main_v120_apply, d_ctr]
    exact neg_re _
theorem d_rs : val_main_v115 (F := Ideal) (mat32 L.p) (mat16 L.d) (lin32 L.γ) (cub32 L.w) = lin32 fun i => ∑ q, ctr (act L i) q * dh L i q :=
  eq_lin fun i => by
    rw [val_main_v115_apply, val_main_cst_29_apply]
    refine Eq.trans ?_ (total fun q => ctr (act L i) q * dh L i q)
    refine congrArg _ (Finset.sum_congr rfl fun q _ => ?_)
    rw [val_main_v114_apply, d_hat, centred']
    exact mul_re _ _
theorem at_col (f : Fin 4096 → ℝ) (x : S4096.Idx) (i : Fin 4096) (h : (x 0).val = i.val * 1 + 0) :
    lin32 f x = ((f i : ℝ) : EReal) :=
  congrArg (fun i => ((f i : ℝ) : EReal)) (Fin.ext (h.trans (by omega)))
theorem d_var : val_main_v125 (F := Ideal) (mat32 L.p) (mat16 L.d) (lin32 L.γ) (cub32 L.w) = lin32 (dvar L) :=
  eq_lin fun i => by
    rw [val_main_v125_apply, val_main_cst_32_apply, Fin.sum_univ_one, val_main_v124_apply, val_main_v123_apply,
      val_main_cst_31_apply, val_main_v119_apply, val_main_v116_apply, d_rs, deviation', at_col _ _ i rfl]
    refine Eq.trans (congrArg _ ?_) ((total fun _ : Fin 1 => dvar L i).trans (by rw [Fin.sum_univ_one]))
    rw [Fin.sum_univ_one]
    exact (congrArg (fun x => FloatOps.hostDivf (F := Ideal) (φ := .f32) x (FloatOps.ofBits .f32 0x44800000#32))
      (mul_re _ _)).trans (div_1024 _)
theorem d_square : val_main_v127 (F := Ideal) (mat32 L.p) (mat16 L.d) (lin32 L.γ) (cub32 L.w) = mat32 fun i c => dvar L i * (2 * ctr (act L i) c) :=
  eq_mat fun i c => by
    rw [val_main_v127_apply, val_main_v126_apply, d_var, twice]
    exact mul_re _ _
theorem d_square_total : val_main_v129 (F := Ideal) (mat32 L.p) (mat16 L.d) (lin32 L.γ) (cub32 L.w) = lin32 fun i => ∑ q, -(dvar L i * (2 * ctr (act L i) q)) :=
  eq_lin fun i => by
    rw [val_main_v129_apply, val_main_cst_33_apply]
    refine Eq.trans ?_ (total fun q => -(dvar L i * (2 * ctr (act L i) q)))
    refine congrArg _ (Finset.sum_congr rfl fun q _ => ?_)
    rw [val_main_v128_apply, d_square]
    exact neg_re _
theorem d_mean : val_main_v135 (F := Ideal) (mat32 L.p) (mat16 L.d) (lin32 L.γ) (cub32 L.w)
    = lin32 fun i => ((∑ q, -(dh L i q * rs (act L i))) + ∑ q, -(dvar L i * (2 * ctr (act L i) q))) / 1024 :=
  eq_lin fun i => by
    rw [val_main_v135_apply, val_main_cst_35_apply, Fin.sum_univ_one, val_main_v134_apply, val_main_v133_apply,
      val_main_cst_34_apply, val_main_v132_apply, val_main_v122_apply, val_main_v130_apply, d_ctr_total,
      d_square_total, at_col _ _ i rfl, at_col _ _ i rfl]
    refine Eq.trans (congrArg _ ?_) ((total fun _ : Fin 1 =>
      ((∑ q, -(dh L i q * rs (act L i))) + ∑ q, -(dvar L i * (2 * ctr (act L i) q))) / 1024).trans
        (by rw [Fin.sum_univ_one]))
    rw [Fin.sum_univ_one]
    exact (congrArg (fun x => FloatOps.hostDivf (F := Ideal) (φ := .f32) x (FloatOps.ofBits .f32 0x44800000#32))
      (add_re _ _)).trans (div_1024 _)
theorem d_act : val_main_v137 (F := Ideal) (mat32 L.p) (mat16 L.d) (lin32 L.γ) (cub32 L.w) = mat32 fun i c => dnorm (act L i) (dh L i) c :=
  eq_mat fun i c => by
    rw [val_main_v137_apply, val_main_v136_apply, val_main_v131_apply, d_ctr, d_square, d_mean]
    exact ((congrArg (fun x => FloatOps.addf (F := Ideal) (φ := .f32) x (((((∑ q, -(dh L i q * rs (act L i)))
      + ∑ q, -(dvar L i * (2 * ctr (act L i) q))) / 1024 : ℝ)) : EReal)) (add_re _ _)).trans (add_re _ _)).trans
        (congrArg _ (dnorm_chain (act L i) (dh L i) c))

/-! ## Through the activation -/

theorem chain (x g : ℝ) : g * (1 / 2 * (1 + th x)) + root * (1 / 2 * (x * g) * ((1 + th x) * (1 - th x)))
    + 44715 * (root * (1 / 2 * (x * g) * ((1 + th x) * (1 - th x))) / 1000000) * (3 * (x * x)) = g * dgelu x := by
  rw [← dgelu_chain]; ring

theorem d_lo : val_main_v151 (F := Ideal) (mat32 L.p) (mat16 L.d) (lin32 L.γ) (cub32 L.w)
    = mat32 fun i c => dnorm (act L i) (dh L i) c * dgelu (lo L i c) :=
  eq_mat fun i c => by
    simp only [val_main_v151_apply, val_main_v150_apply, val_main_v149_apply, val_main_v148_apply, val_main_v147_apply, val_main_v146_apply, val_main_v145_apply, val_main_v144_apply, val_main_v143_apply, val_main_v142_apply, val_main_v141_apply, val_main_v140_apply, val_main_v139_apply, val_main_v138_apply, val_main_cst_36_apply, val_main_cst_37_apply, val_main_cst_38_apply, val_main_cst_39_apply,
      d_act, v_cdf, v_slope, v_square, v_half, mat_at, w_half, w_root, word_44715, mul_re, div_million, add_re, chain]
theorem d_up : val_main_v165 (F := Ideal) (mat32 L.p) (mat16 L.d) (lin32 L.γ) (lin32 L.β) (cub32 L.w) (mat32 L.b)
    = mat32 fun i c => L.d i c * (L.chunk (tile i)).mix (grp c) (off i) (lane c) * dgelu (up L i c) :=
  eq_mat fun i c => by
    simp only [val_main_v165_apply, val_main_v164_apply, val_main_v163_apply, val_main_v162_apply, val_main_v161_apply, val_main_v160_apply, val_main_v159_apply, val_main_v158_apply, val_main_v157_apply, val_main_v156_apply, val_main_v155_apply, val_main_v154_apply, val_main_v153_apply, val_main_v152_apply, val_main_cst_40_apply, val_main_cst_41_apply, val_main_cst_42_apply, val_main_cst_43_apply,
      d_gate, u_cdf, u_slope, u_square, u_half, mat_at, w_half, w_root, word_44715, mul_re, div_million, add_re, chain]

/-! ## The two halves side by side -/

theorem lo_is (i : Fin 4096) (c : Fin 1024) :
    dnorm (act L i) (dh L i) c * dgelu (lo L i c) = (L.chunk (tile i)).dv (off i) c := by
  have h : act L i = (L.chunk (tile i)).gv (off i) := by
    show act L i = act L (row (tile i) (off i)); rw [row_tile_off]
  show _ = dnorm ((L.chunk (tile i)).gv (off i)) (dh L i) c * dgelu (lo L (row (tile i) (off i)) c)
  rw [← h, row_tile_off]
theorem up_is (i : Fin 4096) (c : Fin 1024) :
    L.d i c * (L.chunk (tile i)).mix (grp c) (off i) (lane c) * dgelu (up L i c) = (L.chunk (tile i)).du (off i) c := by
  show _ = L.d (row (tile i) (off i)) c * _ * dgelu (up L (row (tile i) (off i)) c)
  rw [row_tile_off]

/-- Two matrices side by side. -/
def beside (a b : FVec Ideal S4096x1024 .f32) : FVec Ideal S4096x2048 .f32 :=
  concatenate S4096x2048 1 [⟨S4096x1024, a⟩, ⟨S4096x1024, b⟩] concatenates_S4096x1024_S4096x1024_S4096x2048_d1
theorem beside_real (f g : Fin 4096 → Fin 1024 → ℝ) :
    beside (mat32 f) (mat32 g)
      = mat32 fun i (c : Fin 2048) => if h : c.val < 1024 then f i ⟨c.val, h⟩ else g i ⟨c.val - 1024, by omega⟩ :=
  eq_mat fun i c => by
    unfold beside
    split
    · rename_i h
      exact concatenate_pair_apply_left (t := S4096x2048) (s₁ := S4096x1024) (s₂ := S4096x1024) 1 (mat32 f) (mat32 g) _
        (ix2 i c) rfl (ix2 i ⟨c.val, h⟩) fun ax => by
          match ax with
          | ⟨0, _⟩ => rfl
          | ⟨1, _⟩ => rfl
    · rename_i h
      exact concatenate_pair_apply_right (t := S4096x2048) (s₁ := S4096x1024) (s₂ := S4096x1024) 1 (mat32 f) (mat32 g) _
        (ix2 i c) rfl rfl (ix2 i ⟨c.val - 1024, by omega⟩)
        (fun ax hax => by
          match ax with
          | ⟨0, _⟩ => rfl
          | ⟨1, _⟩ => exact absurd rfl hax)
        (by show c.val - 1024 + 1024 = c.val; omega)

theorem halves_eq :
    val_main_v167 (F := Ideal) (mat32 L.p) (mat16 L.d) (lin32 L.γ) (lin32 L.β) (cub32 L.w) (mat32 L.b) = mat16 L.halves := by
  unfold val_main_v167 val_main_v166
  rw [d_up, d_lo]
  show truncf .bf16 (beside (mat32 _) (mat32 _)) _ = _
  rw [beside_real, trunc_mat]
  refine congrArg _ (funext fun i => funext fun c => ?_)
  show _ = (L.chunk (tile i)).halves (off i) c
  unfold Chunk.halves
  split
  · exact up_is L i _
  · exact lo_is L i _

/-! ## The parameters' gradients -/

theorem one_term {f : Fin 1 → EReal} {r : ℝ} (h : f 0 = (r : EReal)) :
    (FloatOps.ofBits (F := Ideal) .f32 0x00000000#32 : EReal) + ∑ k, f k = (r : EReal) := by
  rw [Fin.sum_univ_one, h, word_zero, EReal.coe_zero, zero_add]
/-- A list of channels at a channel counted from the first. -/
theorem at_lane (f : Fin 1024 → ℝ) (x : S1024.Idx) (c : Fin 1024) (h : (x 0).val = 0 * 1024 + c.val) :
    lin32 f x = ((f c : ℝ) : EReal) :=
  congrArg (fun i => ((f i : ℝ) : EReal)) (Fin.ext (h.trans (by omega)))

theorem shift_total : val_main_v105 (F := Ideal) (mat32 L.p) (mat16 L.d) (cub32 L.w) = lin32 L.dβ :=
  eq_lin fun c => by
    rw [val_main_v105_apply, val_main_cst_25_apply, d_channels]
    exact (total fun i => dn L i c).trans (congrArg _ (sum_rows fun n r => (L.chunk n).dvc r c))
theorem shift_eq : val_main_v170 (F := Ideal) (mat32 L.p) (mat16 L.d) (cub32 L.w) = mat32 fun _ => L.dβ :=
  eq_mat fun i c => by
    rw [val_main_v170_apply, val_main_v107_apply, val_main_cst_26_apply]
    refine one_term ?_
    rw [val_main_v106_apply, shift_total]
    exact at_lane _ _ c rfl
theorem hat_is (i : Fin 4096) (c : Fin 1024) : hat (act L i) c = hat ((L.chunk (tile i)).gv (off i)) c := by
  show _ = hat (act L (row (tile i) (off i))) c
  rw [row_tile_off]
theorem scale_total : val_main_v109 (F := Ideal) (mat32 L.p) (mat16 L.d) (cub32 L.w) = lin32 L.dγ :=
  eq_lin fun c => by
    rw [val_main_v109_apply, val_main_cst_27_apply]
    refine Eq.trans (congrArg _ (Finset.sum_congr rfl fun i _ => ?_)) ((total fun i => dn L i c * hat (act L i) c).trans ?_)
    · rw [val_main_v108_apply, d_channels, normed]
      exact (mul_re _ _).trans (congrArg _ (mul_comm _ _))
    · simp only [hat_is]
      exact congrArg _ (sum_rows fun n r => (L.chunk n).dvc r c * hat ((L.chunk n).gv r) c)
theorem scale_eq : val_main_v169 (F := Ideal) (mat32 L.p) (mat16 L.d) (cub32 L.w) = mat32 fun _ => L.dγ :=
  eq_mat fun i c => by
    rw [val_main_v169_apply, val_main_v113_apply, val_main_cst_28_apply]
    refine one_term ?_
    rw [val_main_v110_apply, scale_total]
    exact at_lane _ _ c rfl

/-- The host's sum over the first and last of four axes. -/
theorem sum_outer {n0 n1 n2 n3 : ℕ} (h : (⟨4, ![n0, n1, n2, n3]⟩ : Shape).ReducesTo [0, 3] ⟨2, ![n1, n2]⟩)
    (x : (⟨4, ![n0, n1, n2, n3]⟩ : Shape).Idx → EReal) (z : EReal) (t : Fin n1) (g : Fin n2) :
    Ideal.hostReduceAdd h x z (ix2 t g) = z + ∑ n, ∑ k, x (ix4 n t g k) := by
  unfold Ideal.hostReduceAdd
  rw [← Fintype.sum_prod_type' fun n k => x (ix4 n t g k)]
  refine congrArg _ (Finset.sum_nbij' (fun i => (i 0, i 3)) (fun p => ix4 p.1 t g p.2) (fun _ _ => Finset.mem_univ _)
    (fun p _ => ?_) (fun i hi => ?_) (fun _ _ => rfl) fun i hi => ?_)
  · rw [Finset.mem_filter]
    exact ⟨Finset.mem_univ _, funext fun b => by
      match b with
      | ⟨0, _⟩ => rfl
      | ⟨1, _⟩ => rfl⟩
  · have e := (Finset.mem_filter.mp hi).2
    have e1 : i 1 = t := congrFun e 0
    have e2 : i 2 = g := congrFun e 1
    rw [← e1, ← e2]; exact (eq_ix4 i).symm
  · have e := (Finset.mem_filter.mp hi).2
    have e1 : i 1 = t := congrFun e 0
    have e2 : i 2 = g := congrFun e 1
    rw [← e1, ← e2]; exact congrArg x (eq_ix4 i)

theorem bias_total : val_main_v95 (F := Ideal) (mat32 L.p) (mat16 L.d) = mat32 L.db :=
  eq_mat fun t g => by
    unfold val_main_v95
    rw [d_mixed]
    simp only [Host.reduceAdd, Ideal.hostReduceAdd_def]
    rw [sum_outer, val_main_cst_23_apply]
    refine Eq.trans (congrArg _ ?_) (total fun n => (L.chunk n).db t g)
    exact Finset.sum_congr rfl fun n _ => coe_sum Finset.univ fun k => (L.chunk n).dmix g t k
theorem at_unit (f : Fin 128 → Fin 8 → ℝ) (x : S128x8.Idx) (t : Fin 128) (g : Fin 8)
    (h0 : (x 0).val = t.val) (h1 : (x 1).val = g.val) : mat32 f x = ((f t g : ℝ) : EReal) :=
  congrArg₂ (fun i c => ((f i c : ℝ) : EReal)) (Fin.ext h0) (Fin.ext h1)
theorem bias_again : val_main_v97 (F := Ideal) (mat32 L.p) (mat16 L.d) = mat32 L.db :=
  eq_mat fun t g => by
    unfold val_main_v97
    simp only [Host.reduceAdd, Ideal.hostReduceAdd_def]
    rw [sum_outer, val_main_cst_24_apply, Fin.sum_univ_one]
    refine one_term ?_
    rw [val_main_v96_apply, bias_total]
    exact at_unit _ _ t g (by show (((0 * 128 + t.val) * 8 + g.val) * 1 + 0) / 8 = t.val; omega)
      (by show (((0 * 128 + t.val) * 8 + g.val) * 1 + 0) % 8 = g.val; omega)
theorem bias_eq : val_main_v168 (F := Ideal) (mat32 L.p) (mat16 L.d) = mat32 L.db :=
  eq_mat fun t g => by
    rw [val_main_v168_apply, val_main_v98_apply, bias_again]; rfl

theorem weight_total : val_main_v100 (F := Ideal) (mat32 L.p) (mat16 L.d) (lin32 L.γ) (lin32 L.β)
    = cub32 fun g t s => ∑ n, ∑ k, (L.chunk n).dmix g t k * (L.chunk n).vn s (chan g k) :=
  eq_cub fun g t s => by
    unfold val_main_v100
    rw [d_turned, by_chunk]
    simp only [Host.dotGeneral]
    rw [Ideal.dotGeneral_apply, sum_contr2 _ 32 128 rfl rfl rfl, ← coe_sum]
    refine Finset.sum_congr rfl fun n _ => ?_
    rw [← coe_sum]
    exact Finset.sum_congr rfl fun k _ => (EReal.coe_mul _ _).symm
theorem weight_eq : val_main_v103 (F := Ideal) (mat32 L.p) (mat16 L.d) (lin32 L.γ) (lin32 L.β) = cub32 L.dw :=
  eq_cub fun g t s => by
    rw [val_main_v103_apply, triangle, val_main_call2_v0_apply, val_main_call2_cst_apply, word_zero, weight_total]
    show Scalar.select (if s ≤ t then 1#1 else 0#1) _ _ = ((∑ n, (L.chunk n).dw g t s : ℝ) : EReal)
    unfold Chunk.dw
    split
    · rfl
    · rw [Finset.sum_const_zero]; rfl

end Cert.ReferenceIdeal.Plain

end
-- ==== Proof.Real.lean ====
/- What the precondition says: every argument is an array of real numbers. -/
module

public import proofs.«01_k».proof.Pre_finite
public import proofs.«01_k».proof.Proof.Gen.Pre_finite
public import proofs.«01_k».proof.Proof.Lift
public import proofs.«01_k».proof.Proof.Layer
public import Idealize.ShloMosaic.PureOps.Ideal.Laws

@[expose] public section

noncomputable section

namespace Cert.Real

open Idealize.ShloMosaic Idealize.ShloMosaic.ValueIdx Cert.Lift Cert.Gating

theorem both {a b : BitVec 1} (h : IntOp.andi a b = 1#1) : a = 1#1 ∧ b = 1#1 := by
  revert a b; decide

/-- A conjunction of a list of bits that comes out one. -/
theorem all_of_fold {α : Type*} (f : α → BitVec 1) (l : List α) (a : BitVec 1)
    (h : l.foldl (fun r n => IntOp.andi r (f n)) a = 1#1) : a = 1#1 ∧ ∀ n ∈ l, f n = 1#1 := by
  induction l generalizing a with
  | nil => exact ⟨h, by simp⟩
  | cons b l ih =>
    have h' := ih _ h
    have hb := both h'.1
    refine ⟨hb.1, fun n hn => ?_⟩
    rcases List.mem_cons.mp hn with rfl | hn
    · exact hb.2
    · exact h'.2 n hn

/-- A conjunction over a whole array that comes out one. -/
theorem all_of_reduce {s : Shape} {axes : List (Fin s.rank)} (x : s.Idx → BitVec 1)
    (init : (⟨0, ![]⟩ : Shape).Idx → BitVec 1) (h : s.ReducesTo axes ⟨0, ![]⟩) (hu : 0 < (⟨0, ![]⟩ : Shape).numel)
    (j : (⟨0, ![]⟩ : Shape).Idx) (e : Host.reduce IntOp.andi x init h hu j = 1#1) (i : s.Idx) : x i = 1#1 := by
  have key := (all_of_fold (fun n => x (s.rowMajor.symm n)) _ _ e).2 (s.rowMajor i)
    (List.mem_filter.mpr ⟨List.mem_finRange _, decide_eq_true (funext fun a => a.elim0)⟩)
  rwa [Equiv.symm_apply_apply] at key

theorem word_top : Ideal.ofBits .f32 0x7F800000#32 = ⊤ := by simp [Ideal.ofBits, Ideal.ieee]

/-- An array all of whose elements are below plus infinity in absolute value is an array of reals. -/
theorem reals {s : Shape} {axes : List (Fin s.rank)} (x : FVec Ideal s .f32) (b : FVec Ideal s .f32)
    (init : (⟨0, ![]⟩ : Shape).Idx → BitVec 1) (h : s.ReducesTo axes ⟨0, ![]⟩) (hu : 0 < (⟨0, ![]⟩ : Shape).numel)
    (j : (⟨0, ![]⟩ : Shape).Idx) (hb : ∀ i, b i = (⊤ : EReal))
    (e : Host.reduce IntOp.andi (cmpf .olt (Host.absf x) b) init h hu j = 1#1) :
    ∃ f : s.Idx → ℝ, x = fun i => ((f i : ℝ) : EReal) := by
  have one (i : s.Idx) : ∃ r : ℝ, x i = (r : EReal) := by
    have c : Ideal.cmp .olt (max (x i) (-(x i))) (b i) = 1#1 := all_of_reduce _ _ h hu j e i
    rw [hb] at c
    refine real_of_abs_lt_top ?_
    by_contra hn
    simp [Ideal.cmp, hn] at c
  exact ⟨fun i => (one i).choose, funext fun i => (one i).choose_spec⟩

open Cert.Pre_finite Cert.Pre_finite.Facts in
/-- The precondition, as the layer it makes of the six arguments. -/
theorem layer_of (x0 : FVec Ideal S4096x7680 .f32) (x1 : FVec Ideal S4096x1024 .bf16) (x2 x3 : FVec Ideal S1024 .f32)
    (x4 : FVec Ideal S8x128x128 .f32) (x5 : FVec Ideal S8x128 .f32)
    (h : fn (F := Ideal) x0 x1 x2 x3 x4 x5 = fun _ => 1#1) :
    ∃ L : Layer, x0 = mat32 L.p ∧ x1 = mat16 L.d ∧ x2 = lin32 L.γ ∧ x3 = lin32 L.β ∧ x4 = cub32 L.w ∧ x5 = mat32 L.b := by
  have e := congrFun h (fun a => a.elim0)
  have e5 := both e
  have e4 := both e5.1
  have e3 := both e4.1
  have e2 := both e3.1
  have e1 := both e2.1
  obtain ⟨f0, h0⟩ := reals x0 _ _ _ _ _ (fun _ => word_top) e1.1
  obtain ⟨f1, h1⟩ := reals (extf .f32 x1 bitsLt_bf16_f32) _ _ _ _ _ (fun _ => word_top) e1.2
  obtain ⟨f2, h2⟩ := reals x2 _ _ _ _ _ (fun _ => word_top) e2.2
  obtain ⟨f3, h3⟩ := reals x3 _ _ _ _ _ (fun _ => word_top) e3.2
  obtain ⟨f4, h4⟩ := reals x4 _ _ _ _ _ (fun _ => word_top) e4.2
  obtain ⟨f5, h5⟩ := reals x5 _ _ _ _ _ (fun _ => word_top) e5.2
  refine ⟨⟨fun i j => f0 (ix2 i j), fun i j => f1 (ix2 i j), fun i => f2 (ix1 i), fun i => f3 (ix1 i),
    fun i j k => f4 (ix3 i j k), fun i j => f5 (ix2 i j)⟩, ?_, ?_, ?_, ?_, ?_, ?_⟩
  · exact eq_mat fun i j => congrFun h0 _
  · exact eq_mat fun i j => congrFun h1 _
  · exact eq_lin fun i => congrFun h2 _
  · exact eq_lin fun i => congrFun h3 _
  · exact eq_cub fun i j k => congrFun h4 _
  · exact eq_mat fun i j => congrFun h5 _

end Cert.Real

end
-- ==== Proof.lean ====
/- The proof of every claim of this problem: each program's frame from its generated modules, each value claim from the
   kernel's run at a closed form and the reference's reading of the same form. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Dh
public import proofs.«01_k».proof.Proof.Gen.Dh.Frame
public import proofs.«01_k».proof.Proof.Gen.DhIdeal
public import proofs.«01_k».proof.Proof.Gen.DhIdeal.Frame
public import proofs.«01_k».proof.Proof.Gen.DhReferenceIdeal
public import proofs.«01_k».proof.Proof.Dh
public import proofs.«01_k».proof.Proof.Gen.Dx2
public import proofs.«01_k».proof.Proof.Gen.Dx2.Frame
public import proofs.«01_k».proof.Proof.Gen.Dx2Ideal
public import proofs.«01_k».proof.Proof.Gen.Dx2Ideal.Frame
public import proofs.«01_k».proof.Proof.Gen.Dx2ReferenceIdeal
public import proofs.«01_k».proof.Proof.Dx2
public import proofs.«01_k».proof.Proof.Gen.Dx
public import proofs.«01_k».proof.Proof.Gen.Dx.Frame
public import proofs.«01_k».proof.Proof.Gen.DxIdeal
public import proofs.«01_k».proof.Proof.Gen.DxIdeal.Frame
public import proofs.«01_k».proof.Proof.Gen.DxReferenceIdeal
public import proofs.«01_k».proof.Proof.Dx
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpReferenceIdeal
public import proofs.«01_k».proof.Proof.Up
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownReferenceIdeal
public import proofs.«01_k».proof.Proof.Down
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjReferenceIdeal
public import proofs.«01_k».proof.Proof.Proj
public import proofs.«01_k».proof.Proof.Gen.DwDownS
public import proofs.«01_k».proof.Proof.Gen.DwDownS.Frame
public import proofs.«01_k».proof.Proof.Gen.DwDownSIdeal
public import proofs.«01_k».proof.Proof.Gen.DwDownSIdeal.Frame
public import proofs.«01_k».proof.Proof.Gen.DwDownSReferenceIdeal
public import proofs.«01_k».proof.Proof.DwDownS
public import proofs.«01_k».proof.Proof.Gen.DwDownO
public import proofs.«01_k».proof.Proof.Gen.DwDownO.Frame
public import proofs.«01_k».proof.Proof.Gen.DwDownOIdeal
public import proofs.«01_k».proof.Proof.Gen.DwDownOIdeal.Frame
public import proofs.«01_k».proof.Proof.Gen.DwDownOReferenceIdeal
public import proofs.«01_k».proof.Proof.DwDownO
public import proofs.«01_k».proof.Proof.Gen.DwUpS
public import proofs.«01_k».proof.Proof.Gen.DwUpS.Frame
public import proofs.«01_k».proof.Proof.Gen.DwUpSIdeal
public import proofs.«01_k».proof.Proof.Gen.DwUpSIdeal.Frame
public import proofs.«01_k».proof.Proof.Gen.DwUpSReferenceIdeal
public import proofs.«01_k».proof.Proof.DwUpS
public import proofs.«01_k».proof.Proof.Gen.DwUpO
public import proofs.«01_k».proof.Proof.Gen.DwUpO.Frame
public import proofs.«01_k».proof.Proof.Gen.DwUpOIdeal
public import proofs.«01_k».proof.Proof.Gen.DwUpOIdeal.Frame
public import proofs.«01_k».proof.Proof.Gen.DwUpOReferenceIdeal
public import proofs.«01_k».proof.Proof.DwUpO
public import proofs.«01_k».proof.Proof.Gen.O
public import proofs.«01_k».proof.Proof.Gen.O.Frame
public import proofs.«01_k».proof.Proof.Gen.OIdeal
public import proofs.«01_k».proof.Proof.Gen.OIdeal.Frame
public import proofs.«01_k».proof.Proof.Gen.OReferenceIdeal
public import proofs.«01_k».proof.Proof.O
public import proofs.«01_k».proof.Proof.Gen.DwOS
public import proofs.«01_k».proof.Proof.Gen.DwOS.Frame
public import proofs.«01_k».proof.Proof.Gen.DwOSIdeal
public import proofs.«01_k».proof.Proof.Gen.DwOSIdeal.Frame
public import proofs.«01_k».proof.Proof.Gen.DwOSReferenceIdeal
public import proofs.«01_k».proof.Proof.DwOS
public import proofs.«01_k».proof.Proof.Gen.DwOO
public import proofs.«01_k».proof.Proof.Gen.DwOO.Frame
public import proofs.«01_k».proof.Proof.Gen.DwOOIdeal
public import proofs.«01_k».proof.Proof.Gen.DwOOIdeal.Frame
public import proofs.«01_k».proof.Proof.Gen.DwOOReferenceIdeal
public import proofs.«01_k».proof.Proof.DwOO
public import proofs.«01_k».proof.Proof.Gen.DwBrS
public import proofs.«01_k».proof.Proof.Gen.DwBrS.Frame
public import proofs.«01_k».proof.Proof.Gen.DwBrSIdeal
public import proofs.«01_k».proof.Proof.Gen.DwBrSIdeal.Frame
public import proofs.«01_k».proof.Proof.Gen.DwBrSReferenceIdeal
public import proofs.«01_k».proof.Proof.DwBrS
public import proofs.«01_k».proof.Proof.Gen.DwBrO
public import proofs.«01_k».proof.Proof.Gen.DwBrO.Frame
public import proofs.«01_k».proof.Proof.Gen.DwBrOIdeal
public import proofs.«01_k».proof.Proof.Gen.DwBrOIdeal.Frame
public import proofs.«01_k».proof.Proof.Gen.DwBrOReferenceIdeal
public import proofs.«01_k».proof.Proof.DwBrO
public import proofs.«01_k».proof.Proof.Gen.DwXoS
public import proofs.«01_k».proof.Proof.Gen.DwXoS.Frame
public import proofs.«01_k».proof.Proof.Gen.DwXoSIdeal
public import proofs.«01_k».proof.Proof.Gen.DwXoSIdeal.Frame
public import proofs.«01_k».proof.Proof.Gen.DwXoSReferenceIdeal
public import proofs.«01_k».proof.Proof.DwXoS
public import proofs.«01_k».proof.Proof.Gen.DwXoO
public import proofs.«01_k».proof.Proof.Gen.DwXoO.Frame
public import proofs.«01_k».proof.Proof.Gen.DwXoOIdeal
public import proofs.«01_k».proof.Proof.Gen.DwXoOIdeal.Frame
public import proofs.«01_k».proof.Proof.Gen.DwXoOReferenceIdeal
public import proofs.«01_k».proof.Proof.DwXoO
public import proofs.«01_k».proof.Proof.Gen.DwXqS
public import proofs.«01_k».proof.Proof.Gen.DwXqS.Frame
public import proofs.«01_k».proof.Proof.Gen.DwXqSIdeal
public import proofs.«01_k».proof.Proof.Gen.DwXqSIdeal.Frame
public import proofs.«01_k».proof.Proof.Gen.DwXqSReferenceIdeal
public import proofs.«01_k».proof.Proof.DwXqS
public import proofs.«01_k».proof.Proof.Gen.DwXqO
public import proofs.«01_k».proof.Proof.Gen.DwXqO.Frame
public import proofs.«01_k».proof.Proof.Gen.DwXqOIdeal
public import proofs.«01_k».proof.Proof.Gen.DwXqOIdeal.Frame
public import proofs.«01_k».proof.Proof.Gen.DwXqOReferenceIdeal
public import proofs.«01_k».proof.Proof.DwXqO
public import proofs.«01_k».proof.Proof.Gen.DwKvS
public import proofs.«01_k».proof.Proof.Gen.DwKvS.Frame
public import proofs.«01_k».proof.Proof.Gen.DwKvSIdeal
public import proofs.«01_k».proof.Proof.Gen.DwKvSIdeal.Frame
public import proofs.«01_k».proof.Proof.Gen.DwKvSReferenceIdeal
public import proofs.«01_k».proof.Proof.DwKvS
public import proofs.«01_k».proof.Proof.Gen.DwKvO
public import proofs.«01_k».proof.Proof.Gen.DwKvO.Frame
public import proofs.«01_k».proof.Proof.Gen.DwKvOIdeal
public import proofs.«01_k».proof.Proof.Gen.DwKvOIdeal.Frame
public import proofs.«01_k».proof.Proof.Gen.DwKvOReferenceIdeal
public import proofs.«01_k».proof.Proof.DwKvO
public import proofs.«01_k».proof.Proof.Gen.Adam
public import proofs.«01_k».proof.Proof.Gen.Adam.Frame
public import proofs.«01_k».proof.Proof.Gen.AdamIdeal
public import proofs.«01_k».proof.Proof.Gen.AdamIdeal.Frame
public import proofs.«01_k».proof.Proof.Gen.AdamReferenceIdeal
public import proofs.«01_k».proof.Proof.Adam
public import proofs.«01_k».proof.Proof.Gen.Sum
public import proofs.«01_k».proof.Proof.Gen.Sum.Frame
public import proofs.«01_k».proof.Proof.Gen.SumIdeal
public import proofs.«01_k».proof.Proof.Gen.SumIdeal.Frame
public import proofs.«01_k».proof.Proof.Gen.SumReferenceIdeal
public import proofs.«01_k».proof.Proof.Sum
public import proofs.«01_k».proof.Proof.Gen.AdamO
public import proofs.«01_k».proof.Proof.Gen.AdamO.Frame
public import proofs.«01_k».proof.Proof.Gen.AdamOIdeal
public import proofs.«01_k».proof.Proof.Gen.AdamOIdeal.Frame
public import proofs.«01_k».proof.Proof.Gen.AdamOReferenceIdeal
public import proofs.«01_k».proof.Proof.AdamO
public import proofs.«01_k».proof.Proof.Gen.AdamUp
public import proofs.«01_k».proof.Proof.Gen.AdamUp.Frame
public import proofs.«01_k».proof.Proof.Gen.AdamUpIdeal
public import proofs.«01_k».proof.Proof.Gen.AdamUpIdeal.Frame
public import proofs.«01_k».proof.Proof.Gen.AdamUpReferenceIdeal
public import proofs.«01_k».proof.Proof.AdamUp
public import proofs.«01_k».proof.Proof.Gen.AdamBr
public import proofs.«01_k».proof.Proof.Gen.AdamBr.Frame
public import proofs.«01_k».proof.Proof.Gen.AdamBrIdeal
public import proofs.«01_k».proof.Proof.Gen.AdamBrIdeal.Frame
public import proofs.«01_k».proof.Proof.Gen.AdamBrReferenceIdeal
public import proofs.«01_k».proof.Proof.AdamBr
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInReferenceIdeal
public import proofs.«01_k».proof.Proof.AdamIn
public import proofs.«01_k».proof.Proof.Gen.AdamKv
public import proofs.«01_k».proof.Proof.Gen.AdamKv.Frame
public import proofs.«01_k».proof.Proof.Gen.AdamKvIdeal
public import proofs.«01_k».proof.Proof.Gen.AdamKvIdeal.Frame
public import proofs.«01_k».proof.Proof.Gen.AdamKvReferenceIdeal
public import proofs.«01_k».proof.Proof.AdamKv
public import proofs.«01_k».proof.Proof.Gen.AdamXq
public import proofs.«01_k».proof.Proof.Gen.AdamXq.Frame
public import proofs.«01_k».proof.Proof.Gen.AdamXqIdeal
public import proofs.«01_k».proof.Proof.Gen.AdamXqIdeal.Frame
public import proofs.«01_k».proof.Proof.Gen.AdamXqReferenceIdeal
public import proofs.«01_k».proof.Proof.AdamXq
public import proofs.«01_k».proof.Proof.Fold
public import proofs.«01_k».proof.Proof.PlainGrad
public import proofs.«01_k».proof.Proof.Real
public import Idealize.ShloMosaic.Adequacy
public import Idealize.ShloMosaic.Init

@[expose] public section

noncomputable section

namespace Cert.Proof

open Idealize.ShloMosaic Idealize.SL.Sem Cert.Kernel

/-- The reference runs and leaves its arguments as they were; it declares no semaphore. -/
theorem frame_reference : Cert.quiescent_ReferenceIdeal := fun m ρ _ =>
  (θ_run Cert.ReferenceIdeal.defs _ _).mono (fun r h => ⟨fun c => (h c).2.2.2.2.2, sem_eq_zero_of_no_sems rfl r.2⟩)
    (Cert.ReferenceIdeal.Value.run (F := Ideal) m ρ)

/-- From real arguments both programs reach the layer's gradients. -/
theorem algebraic : Cert.algebraic_KernelIdeal_ReferenceIdeal_pre_finite := by
  intro m g m' g' hpre hargs
  choose L hL using fun c => Cert.Real.layer_of _ _ _ _ _ _ (hpre c)
  refine ⟨_, _, _, _, _, Cert.KernelIdeal.Fold.run m g L fun c => ⟨(hL c).1, (hL c).2.1, (hL c).2.2.1, (hL c).2.2.2.1,
    (hL c).2.2.2.2.1, (hL c).2.2.2.2.2⟩, ?_⟩
  refine (θ_run Cert.ReferenceIdeal.defs _ _).mono (fun r h c => ?_) (Cert.ReferenceIdeal.Value.run (F := Ideal) m' g')
  obtain ⟨a0, a1, a2, a3, a4, a5⟩ := hargs c
  obtain ⟨b0, b1, b2, b3, b4, b5⟩ := hL c
  obtain ⟨r0, r1, r2, r3, r4, rest⟩ := h c
  have e0 := a0.trans b0
  have e1 := a1.trans b1
  have e2 := a2.trans b2
  have e3 := a3.trans b3
  have e4 := a4.trans b4
  have e5 := a5.trans b5
  refine ⟨(r0.trans (Cert.ReferenceIdeal.Read.val_main_v167_eq _)).trans ?_,
    (r1.trans (Cert.ReferenceIdeal.Read.val_main_v103_eq _)).trans ?_,
    (r2.trans (Cert.ReferenceIdeal.Read.val_main_v168_eq _)).trans ?_,
    (r3.trans (Cert.ReferenceIdeal.Read.val_main_v169_eq _)).trans ?_,
    (r4.trans (Cert.ReferenceIdeal.Read.val_main_v170_eq _)).trans ?_, rest⟩
  · refine Eq.trans ?_ (Cert.ReferenceIdeal.Plain.halves_eq (L c)); rw [← e0, ← e1, ← e2, ← e3, ← e4, ← e5]
  · refine Eq.trans ?_ (Cert.ReferenceIdeal.Plain.weight_eq (L c)); rw [← e0, ← e1, ← e2, ← e3]
  · refine Eq.trans ?_ (Cert.ReferenceIdeal.Plain.bias_eq (L c)); rw [← e0, ← e1]
  · refine Eq.trans ?_ (Cert.ReferenceIdeal.Plain.scale_eq (L c)); rw [← e0, ← e1, ← e4]
  · refine Eq.trans ?_ (Cert.ReferenceIdeal.Plain.shift_eq (L c)); rw [← e0, ← e1, ← e4]

/-! ## The hidden layer's gradient -/

theorem frame_Dh_reference : Cert.quiescent_DhReferenceIdeal := fun m ρ _ =>
  (θ_run Cert.DhReferenceIdeal.defs _ _).mono (fun r h => ⟨fun c => (h c).2, sem_eq_zero_of_no_sems rfl r.2⟩)
    (Cert.DhReferenceIdeal.Value.run (F := Ideal) m ρ)
theorem algebraic_Dh : Cert.algebraic_DhIdeal_DhReferenceIdeal := by
  intro m g m' g' _ hargs
  refine ⟨_, Cert.DhIdeal.Grad.run m g, ?_⟩
  refine (θ_run Cert.DhReferenceIdeal.defs _ _).mono (fun r h c => ?_) (Cert.DhReferenceIdeal.Value.run (F := Ideal) m' g')
  obtain ⟨a0, a1, a2⟩ := hargs c
  refine ⟨?_, (h c).2⟩
  · refine ((h c).1.trans (Cert.DhReferenceIdeal.Read.val_main_v15_eq ..)).trans ?_
    rw [a0, a1, a2]
    exact Cert.DhIdeal.Grad.reference ..

/-! ## The up-projection's input gradient -/

theorem frame_Dx2_reference : Cert.quiescent_Dx2ReferenceIdeal := fun m ρ _ =>
  (θ_run Cert.Dx2ReferenceIdeal.defs _ _).mono (fun r h => ⟨fun c => (h c).2, sem_eq_zero_of_no_sems rfl r.2⟩)
    (Cert.Dx2ReferenceIdeal.Value.run (F := Ideal) m ρ)
theorem algebraic_Dx2 : Cert.algebraic_Dx2Ideal_Dx2ReferenceIdeal := by
  intro m g m' g' _ hargs
  refine ⟨_, Cert.Dx2Ideal.Grad.run m g, ?_⟩
  refine (θ_run Cert.Dx2ReferenceIdeal.defs _ _).mono (fun r h c => ?_) (Cert.Dx2ReferenceIdeal.Value.run (F := Ideal) m' g')
  obtain ⟨a0, a1, a2⟩ := hargs c
  refine ⟨?_, (h c).2⟩
  · refine ((h c).1.trans (Cert.Dx2ReferenceIdeal.Read.val_main_v9_eq ..)).trans ?_
    rw [a0, a1, a2]
    exact Cert.Dx2Ideal.Grad.reference ..

/-! ## The input projection's input gradient -/

theorem frame_Dx_reference : Cert.quiescent_DxReferenceIdeal := fun m ρ _ =>
  (θ_run Cert.DxReferenceIdeal.defs _ _).mono (fun r h => ⟨fun c => (h c).2, sem_eq_zero_of_no_sems rfl r.2⟩)
    (Cert.DxReferenceIdeal.Value.run (F := Ideal) m ρ)
theorem algebraic_Dx : Cert.algebraic_DxIdeal_DxReferenceIdeal := by
  intro m g m' g' _ hargs
  refine ⟨_, Cert.DxIdeal.Grad.run m g, ?_⟩
  refine (θ_run Cert.DxReferenceIdeal.defs _ _).mono (fun r h c => ?_) (Cert.DxReferenceIdeal.Value.run (F := Ideal) m' g')
  obtain ⟨a0, a1, a2, a3, a4⟩ := hargs c
  refine ⟨?_, (h c).2⟩
  · refine ((h c).1.trans (Cert.DxReferenceIdeal.Read.val_main_v21_eq ..)).trans ?_
    rw [a0, a1, a2, a3, a4]
    exact Cert.DxIdeal.Grad.reference ..

/-! ## The up-projection -/

theorem frame_Up_reference : Cert.quiescent_UpReferenceIdeal := fun m ρ _ =>
  (θ_run Cert.UpReferenceIdeal.defs _ _).mono (fun r h => ⟨fun c => (h c).2.2, sem_eq_zero_of_no_sems rfl r.2⟩)
    (Cert.UpReferenceIdeal.Value.run (F := Ideal) m ρ)
theorem algebraic_Up : Cert.algebraic_UpIdeal_UpReferenceIdeal := by
  intro m g m' g' _ hargs
  refine ⟨_, _, Cert.UpIdeal.Grad.run m g, ?_⟩
  refine (θ_run Cert.UpReferenceIdeal.defs _ _).mono (fun r h c => ?_) (Cert.UpReferenceIdeal.Value.run (F := Ideal) m' g')
  obtain ⟨a0, a1⟩ := hargs c
  refine ⟨?_, ?_, (h c).2.2⟩
  · refine ((h c).1.trans (Cert.UpReferenceIdeal.Read.val_main_v3_eq ..)).trans ?_
    rw [a0, a1]
    exact Cert.UpIdeal.Grad.reference_hidden ..
  · refine ((h c).2.1.trans (Cert.UpReferenceIdeal.Read.val_main_v6_eq ..)).trans ?_
    rw [a0, a1]
    exact Cert.UpIdeal.Grad.reference_squared ..

/-! ## The down-projection -/

theorem frame_Down_reference : Cert.quiescent_DownReferenceIdeal := fun m ρ _ =>
  (θ_run Cert.DownReferenceIdeal.defs _ _).mono (fun r h => ⟨fun c => (h c).2, sem_eq_zero_of_no_sems rfl r.2⟩)
    (Cert.DownReferenceIdeal.Value.run (F := Ideal) m ρ)
theorem algebraic_Down : Cert.algebraic_DownIdeal_DownReferenceIdeal := by
  intro m g m' g' _ hargs
  refine ⟨_, Cert.DownIdeal.Grad.run m g, ?_⟩
  refine (θ_run Cert.DownReferenceIdeal.defs _ _).mono (fun r h c => ?_) (Cert.DownReferenceIdeal.Value.run (F := Ideal) m' g')
  obtain ⟨a0, a1, a2⟩ := hargs c
  refine ⟨?_, (h c).2⟩
  · refine ((h c).1.trans (Cert.DownReferenceIdeal.Read.val_main_v5_eq ..)).trans ?_
    rw [a0, a1, a2]
    exact Cert.DownIdeal.Grad.reference ..

/-! ## The input projection -/

theorem frame_Proj_reference : Cert.quiescent_ProjReferenceIdeal := fun m ρ _ =>
  (θ_run Cert.ProjReferenceIdeal.defs _ _).mono (fun r h => ⟨fun c => (h c).2, sem_eq_zero_of_no_sems rfl r.2⟩)
    (Cert.ProjReferenceIdeal.Value.run (F := Ideal) m ρ)
theorem algebraic_Proj : Cert.algebraic_ProjIdeal_ProjReferenceIdeal := by
  intro m g m' g' _ hargs
  refine ⟨_, Cert.ProjIdeal.Grad.run m g, ?_⟩
  refine (θ_run Cert.ProjReferenceIdeal.defs _ _).mono (fun r h c => ?_) (Cert.ProjReferenceIdeal.Value.run (F := Ideal) m' g')
  obtain ⟨a0, a1⟩ := hargs c
  refine ⟨?_, (h c).2⟩
  · refine ((h c).1.trans (Cert.ProjReferenceIdeal.Read.val_main_v2_eq ..)).trans ?_
    rw [a0, a1]
    exact Cert.ProjIdeal.Grad.reference ..

/-! ## The sent half of the down-projection's weight gradient -/

theorem frame_DwDownS_reference : Cert.quiescent_DwDownSReferenceIdeal := fun m ρ _ =>
  (θ_run Cert.DwDownSReferenceIdeal.defs _ _).mono (fun r h => ⟨fun c => (h c).2, sem_eq_zero_of_no_sems rfl r.2⟩)
    (Cert.DwDownSReferenceIdeal.Value.run (F := Ideal) m ρ)
theorem algebraic_DwDownS : Cert.algebraic_DwDownSIdeal_DwDownSReferenceIdeal := by
  intro m g m' g' _ hargs
  refine ⟨_, Cert.DwDownSIdeal.Grad.run m g, ?_⟩
  refine (θ_run Cert.DwDownSReferenceIdeal.defs _ _).mono (fun r h c => ?_) (Cert.DwDownSReferenceIdeal.Value.run (F := Ideal) m' g')
  obtain ⟨a0, a1⟩ := hargs c
  refine ⟨?_, (h c).2⟩
  · refine ((h c).1.trans (Cert.DwDownSReferenceIdeal.Read.val_main_v7_eq ..)).trans ?_
    rw [a0, a1]
    exact Cert.DwDownSIdeal.Grad.reference ..

/-! ## The kept half of the down-projection's weight gradient -/

theorem frame_DwDownO_reference : Cert.quiescent_DwDownOReferenceIdeal := fun m ρ _ =>
  (θ_run Cert.DwDownOReferenceIdeal.defs _ _).mono (fun r h => ⟨fun c => (h c).2, sem_eq_zero_of_no_sems rfl r.2⟩)
    (Cert.DwDownOReferenceIdeal.Value.run (F := Ideal) m ρ)
theorem algebraic_DwDownO : Cert.algebraic_DwDownOIdeal_DwDownOReferenceIdeal := by
  intro m g m' g' _ hargs
  refine ⟨_, Cert.DwDownOIdeal.Grad.run m g, ?_⟩
  refine (θ_run Cert.DwDownOReferenceIdeal.defs _ _).mono (fun r h c => ?_) (Cert.DwDownOReferenceIdeal.Value.run (F := Ideal) m' g')
  obtain ⟨a0, a1, a2⟩ := hargs c
  refine ⟨?_, (h c).2⟩
  · refine ((h c).1.trans (Cert.DwDownOReferenceIdeal.Read.val_main_v9_eq ..)).trans ?_
    rw [a0, a1, a2]
    exact Cert.DwDownOIdeal.Grad.reference ..

/-! ## The sent half of the up-projection's weight gradient -/

theorem frame_DwUpS_reference : Cert.quiescent_DwUpSReferenceIdeal := fun m ρ _ =>
  (θ_run Cert.DwUpSReferenceIdeal.defs _ _).mono (fun r h => ⟨fun c => (h c).2, sem_eq_zero_of_no_sems rfl r.2⟩)
    (Cert.DwUpSReferenceIdeal.Value.run (F := Ideal) m ρ)
theorem algebraic_DwUpS : Cert.algebraic_DwUpSIdeal_DwUpSReferenceIdeal := by
  intro m g m' g' _ hargs
  refine ⟨_, Cert.DwUpSIdeal.Grad.run m g, ?_⟩
  refine (θ_run Cert.DwUpSReferenceIdeal.defs _ _).mono (fun r h c => ?_) (Cert.DwUpSReferenceIdeal.Value.run (F := Ideal) m' g')
  obtain ⟨a0, a1⟩ := hargs c
  refine ⟨?_, (h c).2⟩
  · refine ((h c).1.trans (Cert.DwUpSReferenceIdeal.Read.val_main_v7_eq ..)).trans ?_
    rw [a0, a1]
    exact Cert.DwUpSIdeal.Grad.reference ..

/-! ## The kept half of the up-projection's weight gradient -/

theorem frame_DwUpO_reference : Cert.quiescent_DwUpOReferenceIdeal := fun m ρ _ =>
  (θ_run Cert.DwUpOReferenceIdeal.defs _ _).mono (fun r h => ⟨fun c => (h c).2, sem_eq_zero_of_no_sems rfl r.2⟩)
    (Cert.DwUpOReferenceIdeal.Value.run (F := Ideal) m ρ)
theorem algebraic_DwUpO : Cert.algebraic_DwUpOIdeal_DwUpOReferenceIdeal := by
  intro m g m' g' _ hargs
  refine ⟨_, Cert.DwUpOIdeal.Grad.run m g, ?_⟩
  refine (θ_run Cert.DwUpOReferenceIdeal.defs _ _).mono (fun r h c => ?_) (Cert.DwUpOReferenceIdeal.Value.run (F := Ideal) m' g')
  obtain ⟨a0, a1, a2⟩ := hargs c
  refine ⟨?_, (h c).2⟩
  · refine ((h c).1.trans (Cert.DwUpOReferenceIdeal.Read.val_main_v9_eq ..)).trans ?_
    rw [a0, a1, a2]
    exact Cert.DwUpOIdeal.Grad.reference ..

/-! ## The output projection -/

theorem frame_O_reference : Cert.quiescent_OReferenceIdeal := fun m ρ _ =>
  (θ_run Cert.OReferenceIdeal.defs _ _).mono (fun r h => ⟨fun c => (h c).2, sem_eq_zero_of_no_sems rfl r.2⟩)
    (Cert.OReferenceIdeal.Value.run (F := Ideal) m ρ)
theorem algebraic_O : Cert.algebraic_OIdeal_OReferenceIdeal := by
  intro m g m' g' _ hargs
  refine ⟨_, Cert.OIdeal.Grad.run m g, ?_⟩
  refine (θ_run Cert.OReferenceIdeal.defs _ _).mono (fun r h c => ?_) (Cert.OReferenceIdeal.Value.run (F := Ideal) m' g')
  obtain ⟨a0, a1, a2⟩ := hargs c
  refine ⟨?_, (h c).2⟩
  · refine ((h c).1.trans (Cert.OReferenceIdeal.Read.val_main_v5_eq ..)).trans ?_
    rw [a0, a1, a2]
    exact Cert.OIdeal.Grad.reference ..

/-! ## The sent half of the output projection's weight gradient -/

theorem frame_DwOS_reference : Cert.quiescent_DwOSReferenceIdeal := fun m ρ _ =>
  (θ_run Cert.DwOSReferenceIdeal.defs _ _).mono (fun r h => ⟨fun c => (h c).2, sem_eq_zero_of_no_sems rfl r.2⟩)
    (Cert.DwOSReferenceIdeal.Value.run (F := Ideal) m ρ)
theorem algebraic_DwOS : Cert.algebraic_DwOSIdeal_DwOSReferenceIdeal := by
  intro m g m' g' _ hargs
  refine ⟨_, Cert.DwOSIdeal.Grad.run m g, ?_⟩
  refine (θ_run Cert.DwOSReferenceIdeal.defs _ _).mono (fun r h c => ?_) (Cert.DwOSReferenceIdeal.Value.run (F := Ideal) m' g')
  obtain ⟨a0, a1⟩ := hargs c
  refine ⟨?_, (h c).2⟩
  · refine ((h c).1.trans (Cert.DwOSReferenceIdeal.Read.val_main_v7_eq ..)).trans ?_
    rw [a0, a1]
    exact Cert.DwOSIdeal.Grad.reference ..

/-! ## The kept half of the output projection's weight gradient -/

theorem frame_DwOO_reference : Cert.quiescent_DwOOReferenceIdeal := fun m ρ _ =>
  (θ_run Cert.DwOOReferenceIdeal.defs _ _).mono (fun r h => ⟨fun c => (h c).2, sem_eq_zero_of_no_sems rfl r.2⟩)
    (Cert.DwOOReferenceIdeal.Value.run (F := Ideal) m ρ)
theorem algebraic_DwOO : Cert.algebraic_DwOOIdeal_DwOOReferenceIdeal := by
  intro m g m' g' _ hargs
  refine ⟨_, Cert.DwOOIdeal.Grad.run m g, ?_⟩
  refine (θ_run Cert.DwOOReferenceIdeal.defs _ _).mono (fun r h c => ?_) (Cert.DwOOReferenceIdeal.Value.run (F := Ideal) m' g')
  obtain ⟨a0, a1, a2⟩ := hargs c
  refine ⟨?_, (h c).2⟩
  · refine ((h c).1.trans (Cert.DwOOReferenceIdeal.Read.val_main_v9_eq ..)).trans ?_
    rw [a0, a1, a2]
    exact Cert.DwOOIdeal.Grad.reference ..

/-! ## The sent half of the gradient of `w_br_a` or `w_br_b` -/

theorem frame_DwBrS_reference : Cert.quiescent_DwBrSReferenceIdeal := fun m ρ _ =>
  (θ_run Cert.DwBrSReferenceIdeal.defs _ _).mono (fun r h => ⟨fun c => (h c).2, sem_eq_zero_of_no_sems rfl r.2⟩)
    (Cert.DwBrSReferenceIdeal.Value.run (F := Ideal) m ρ)
theorem algebraic_DwBrS : Cert.algebraic_DwBrSIdeal_DwBrSReferenceIdeal := by
  intro m g m' g' _ hargs
  refine ⟨_, Cert.DwBrSIdeal.Grad.run m g, ?_⟩
  refine (θ_run Cert.DwBrSReferenceIdeal.defs _ _).mono (fun r h c => ?_) (Cert.DwBrSReferenceIdeal.Value.run (F := Ideal) m' g')
  obtain ⟨a0, a1⟩ := hargs c
  refine ⟨?_, (h c).2⟩
  · refine ((h c).1.trans (Cert.DwBrSReferenceIdeal.Read.val_main_v7_eq ..)).trans ?_
    rw [a0, a1]
    exact Cert.DwBrSIdeal.Grad.reference ..

/-! ## The kept half of the gradient of `w_br_a` or `w_br_b` -/

theorem frame_DwBrO_reference : Cert.quiescent_DwBrOReferenceIdeal := fun m ρ _ =>
  (θ_run Cert.DwBrOReferenceIdeal.defs _ _).mono (fun r h => ⟨fun c => (h c).2, sem_eq_zero_of_no_sems rfl r.2⟩)
    (Cert.DwBrOReferenceIdeal.Value.run (F := Ideal) m ρ)
theorem algebraic_DwBrO : Cert.algebraic_DwBrOIdeal_DwBrOReferenceIdeal := by
  intro m g m' g' _ hargs
  refine ⟨_, Cert.DwBrOIdeal.Grad.run m g, ?_⟩
  refine (θ_run Cert.DwBrOReferenceIdeal.defs _ _).mono (fun r h c => ?_) (Cert.DwBrOReferenceIdeal.Value.run (F := Ideal) m' g')
  obtain ⟨a0, a1, a2⟩ := hargs c
  refine ⟨?_, (h c).2⟩
  · refine ((h c).1.trans (Cert.DwBrOReferenceIdeal.Read.val_main_v9_eq ..)).trans ?_
    rw [a0, a1, a2]
    exact Cert.DwBrOIdeal.Grad.reference ..

/-! ## The sent half of the gradient of `w_xo` -/

theorem frame_DwXoS_reference : Cert.quiescent_DwXoSReferenceIdeal := fun m ρ _ =>
  (θ_run Cert.DwXoSReferenceIdeal.defs _ _).mono (fun r h => ⟨fun c => (h c).2, sem_eq_zero_of_no_sems rfl r.2⟩)
    (Cert.DwXoSReferenceIdeal.Value.run (F := Ideal) m ρ)
theorem algebraic_DwXoS : Cert.algebraic_DwXoSIdeal_DwXoSReferenceIdeal := by
  intro m g m' g' _ hargs
  refine ⟨_, Cert.DwXoSIdeal.Grad.run m g, ?_⟩
  refine (θ_run Cert.DwXoSReferenceIdeal.defs _ _).mono (fun r h c => ?_) (Cert.DwXoSReferenceIdeal.Value.run (F := Ideal) m' g')
  obtain ⟨a0, a1⟩ := hargs c
  refine ⟨?_, (h c).2⟩
  · refine ((h c).1.trans (Cert.DwXoSReferenceIdeal.Read.val_main_v7_eq ..)).trans ?_
    rw [a0, a1]
    exact Cert.DwXoSIdeal.Grad.reference ..

/-! ## The kept half of the gradient of `w_xo` -/

theorem frame_DwXoO_reference : Cert.quiescent_DwXoOReferenceIdeal := fun m ρ _ =>
  (θ_run Cert.DwXoOReferenceIdeal.defs _ _).mono (fun r h => ⟨fun c => (h c).2, sem_eq_zero_of_no_sems rfl r.2⟩)
    (Cert.DwXoOReferenceIdeal.Value.run (F := Ideal) m ρ)
theorem algebraic_DwXoO : Cert.algebraic_DwXoOIdeal_DwXoOReferenceIdeal := by
  intro m g m' g' _ hargs
  refine ⟨_, Cert.DwXoOIdeal.Grad.run m g, ?_⟩
  refine (θ_run Cert.DwXoOReferenceIdeal.defs _ _).mono (fun r h c => ?_) (Cert.DwXoOReferenceIdeal.Value.run (F := Ideal) m' g')
  obtain ⟨a0, a1, a2⟩ := hargs c
  refine ⟨?_, (h c).2⟩
  · refine ((h c).1.trans (Cert.DwXoOReferenceIdeal.Read.val_main_v9_eq ..)).trans ?_
    rw [a0, a1, a2]
    exact Cert.DwXoOIdeal.Grad.reference ..

/-! ## The sent half of the gradient of `w_xq` -/

theorem frame_DwXqS_reference : Cert.quiescent_DwXqSReferenceIdeal := fun m ρ _ =>
  (θ_run Cert.DwXqSReferenceIdeal.defs _ _).mono (fun r h => ⟨fun c => (h c).2, sem_eq_zero_of_no_sems rfl r.2⟩)
    (Cert.DwXqSReferenceIdeal.Value.run (F := Ideal) m ρ)
theorem algebraic_DwXqS : Cert.algebraic_DwXqSIdeal_DwXqSReferenceIdeal := by
  intro m g m' g' _ hargs
  refine ⟨_, Cert.DwXqSIdeal.Grad.run m g, ?_⟩
  refine (θ_run Cert.DwXqSReferenceIdeal.defs _ _).mono (fun r h c => ?_) (Cert.DwXqSReferenceIdeal.Value.run (F := Ideal) m' g')
  obtain ⟨a0, a1⟩ := hargs c
  refine ⟨?_, (h c).2⟩
  · refine ((h c).1.trans (Cert.DwXqSReferenceIdeal.Read.val_main_v7_eq ..)).trans ?_
    rw [a0, a1]
    exact Cert.DwXqSIdeal.Grad.reference ..

/-! ## The kept half of the gradient of `w_xq` -/

theorem frame_DwXqO_reference : Cert.quiescent_DwXqOReferenceIdeal := fun m ρ _ =>
  (θ_run Cert.DwXqOReferenceIdeal.defs _ _).mono (fun r h => ⟨fun c => (h c).2, sem_eq_zero_of_no_sems rfl r.2⟩)
    (Cert.DwXqOReferenceIdeal.Value.run (F := Ideal) m ρ)
theorem algebraic_DwXqO : Cert.algebraic_DwXqOIdeal_DwXqOReferenceIdeal := by
  intro m g m' g' _ hargs
  refine ⟨_, Cert.DwXqOIdeal.Grad.run m g, ?_⟩
  refine (θ_run Cert.DwXqOReferenceIdeal.defs _ _).mono (fun r h c => ?_) (Cert.DwXqOReferenceIdeal.Value.run (F := Ideal) m' g')
  obtain ⟨a0, a1, a2⟩ := hargs c
  refine ⟨?_, (h c).2⟩
  · refine ((h c).1.trans (Cert.DwXqOReferenceIdeal.Read.val_main_v9_eq ..)).trans ?_
    rw [a0, a1, a2]
    exact Cert.DwXqOIdeal.Grad.reference ..

/-! ## The sent half of the gradient of `w_xkv` -/

theorem frame_DwKvS_reference : Cert.quiescent_DwKvSReferenceIdeal := fun m ρ _ =>
  (θ_run Cert.DwKvSReferenceIdeal.defs _ _).mono (fun r h => ⟨fun c => (h c).2, sem_eq_zero_of_no_sems rfl r.2⟩)
    (Cert.DwKvSReferenceIdeal.Value.run (F := Ideal) m ρ)
theorem algebraic_DwKvS : Cert.algebraic_DwKvSIdeal_DwKvSReferenceIdeal := by
  intro m g m' g' _ hargs
  refine ⟨_, Cert.DwKvSIdeal.Grad.run m g, ?_⟩
  refine (θ_run Cert.DwKvSReferenceIdeal.defs _ _).mono (fun r h c => ?_) (Cert.DwKvSReferenceIdeal.Value.run (F := Ideal) m' g')
  obtain ⟨a0, a1⟩ := hargs c
  refine ⟨?_, (h c).2⟩
  · refine ((h c).1.trans (Cert.DwKvSReferenceIdeal.Read.val_main_v7_eq ..)).trans ?_
    rw [a0, a1]
    exact Cert.DwKvSIdeal.Grad.reference ..

/-! ## The kept half of the gradient of `w_xkv` -/

theorem frame_DwKvO_reference : Cert.quiescent_DwKvOReferenceIdeal := fun m ρ _ =>
  (θ_run Cert.DwKvOReferenceIdeal.defs _ _).mono (fun r h => ⟨fun c => (h c).2, sem_eq_zero_of_no_sems rfl r.2⟩)
    (Cert.DwKvOReferenceIdeal.Value.run (F := Ideal) m ρ)
theorem algebraic_DwKvO : Cert.algebraic_DwKvOIdeal_DwKvOReferenceIdeal := by
  intro m g m' g' _ hargs
  refine ⟨_, Cert.DwKvOIdeal.Grad.run m g, ?_⟩
  refine (θ_run Cert.DwKvOReferenceIdeal.defs _ _).mono (fun r h c => ?_) (Cert.DwKvOReferenceIdeal.Value.run (F := Ideal) m' g')
  obtain ⟨a0, a1, a2⟩ := hargs c
  refine ⟨?_, (h c).2⟩
  · refine ((h c).1.trans (Cert.DwKvOReferenceIdeal.Read.val_main_v9_eq ..)).trans ?_
    rw [a0, a1, a2]
    exact Cert.DwKvOIdeal.Grad.reference ..

/-! ## The optimiser -/

theorem frame_Adam_reference : Cert.quiescent_AdamReferenceIdeal := fun m ρ _ =>
  (θ_run Cert.AdamReferenceIdeal.defs _ _).mono (fun r h => ⟨fun c => (h c).2.2.2.2, sem_eq_zero_of_no_sems rfl r.2⟩)
    (Cert.AdamReferenceIdeal.Value.run (F := Ideal) m ρ)
theorem algebraic_Adam : Cert.algebraic_AdamIdeal_AdamReferenceIdeal := by
  intro m g m' g' _ hargs
  refine ⟨_, _, _, _, Cert.AdamIdeal.Grad.run m g, ?_⟩
  refine (θ_run Cert.AdamReferenceIdeal.defs _ _).mono (fun r h c => ?_) (Cert.AdamReferenceIdeal.Value.run (F := Ideal) m' g')
  obtain ⟨a0, a1, a2, a3⟩ := hargs c
  refine ⟨?_, ?_, ?_, ?_, (h c).2.2.2.2⟩
  · refine ((h c).1.trans (Cert.AdamReferenceIdeal.Read.val_main_v24_eq ..)).trans ?_
    rw [a1]
    exact Cert.AdamIdeal.Grad.reference_grad ..
  · refine ((h c).2.1.trans (Cert.AdamReferenceIdeal.Read.val_main_v25_eq ..)).trans ?_
    rw [a0, a1, a2, a3]
    exact Cert.AdamIdeal.Grad.reference_delta ..
  · refine ((h c).2.2.1.trans (Cert.AdamReferenceIdeal.Read.val_main_v26_eq ..)).trans ?_
    rw [a1, a2]
    exact Cert.AdamIdeal.Grad.reference_moment ..
  · refine ((h c).2.2.2.1.trans (Cert.AdamReferenceIdeal.Read.val_main_v27_eq ..)).trans ?_
    rw [a1, a3]
    exact Cert.AdamIdeal.Grad.reference_spread ..

/-! ## The sum over the devices -/

theorem frame_Sum_reference : Cert.quiescent_SumReferenceIdeal := fun m ρ _ =>
  (θ_run Cert.SumReferenceIdeal.defs _ _).mono (fun r h => ⟨fun c => (h c).2, sem_eq_zero_of_no_sems rfl r.2⟩)
    (Cert.SumReferenceIdeal.Value.run (F := Ideal) m ρ)
theorem algebraic_Sum : Cert.algebraic_SumIdeal_SumReferenceIdeal := by
  intro m g m' g' _ hargs
  refine ⟨_, Cert.SumIdeal.Grad.run m g, ?_⟩
  refine (θ_run Cert.SumReferenceIdeal.defs _ _).mono (fun r h c => ?_) (Cert.SumReferenceIdeal.Value.run (F := Ideal) m' g')
  have a0 := hargs c
  refine ⟨?_, (h c).2⟩
  · refine ((h c).1.trans (Cert.SumReferenceIdeal.Read.val_main_v0_eq ..)).trans ?_
    rw [a0]
    exact Cert.SumIdeal.Grad.reference ..

/-! ## The optimiser of a shard of `w_o` -/

theorem frame_AdamO_reference : Cert.quiescent_AdamOReferenceIdeal := fun m ρ _ =>
  (θ_run Cert.AdamOReferenceIdeal.defs _ _).mono (fun r h => ⟨fun c => (h c).2.2.2.2, sem_eq_zero_of_no_sems rfl r.2⟩)
    (Cert.AdamOReferenceIdeal.Value.run (F := Ideal) m ρ)
theorem algebraic_AdamO : Cert.algebraic_AdamOIdeal_AdamOReferenceIdeal := by
  intro m g m' g' _ hargs
  refine ⟨_, _, _, _, Cert.AdamOIdeal.Grad.run m g, ?_⟩
  refine (θ_run Cert.AdamOReferenceIdeal.defs _ _).mono (fun r h c => ?_) (Cert.AdamOReferenceIdeal.Value.run (F := Ideal) m' g')
  obtain ⟨a0, a1, a2, a3, a4⟩ := hargs c
  refine ⟨?_, ?_, ?_, ?_, (h c).2.2.2.2⟩
  · refine ((h c).1.trans (Cert.AdamOReferenceIdeal.Read.val_main_v2_eq ..)).trans ?_
    rw [a1, a2]
    exact Cert.AdamOIdeal.Grad.reference_grad ..
  · refine ((h c).2.1.trans (Cert.AdamOReferenceIdeal.Read.val_main_v26_eq ..)).trans ?_
    rw [a0, a1, a2, a3, a4]
    exact Cert.AdamOIdeal.Grad.reference_delta ..
  · refine ((h c).2.2.1.trans (Cert.AdamOReferenceIdeal.Read.val_main_v7_eq ..)).trans ?_
    rw [a1, a2, a3]
    exact Cert.AdamOIdeal.Grad.reference_moment ..
  · refine ((h c).2.2.2.1.trans (Cert.AdamOReferenceIdeal.Read.val_main_v13_eq ..)).trans ?_
    rw [a1, a2, a4]
    exact Cert.AdamOIdeal.Grad.reference_spread ..

/-! ## The optimiser of a shard of `w_up` or `w_down` -/

theorem frame_AdamUp_reference : Cert.quiescent_AdamUpReferenceIdeal := fun m ρ _ =>
  (θ_run Cert.AdamUpReferenceIdeal.defs _ _).mono (fun r h => ⟨fun c => (h c).2.2.2.2, sem_eq_zero_of_no_sems rfl r.2⟩)
    (Cert.AdamUpReferenceIdeal.Value.run (F := Ideal) m ρ)
theorem algebraic_AdamUp : Cert.algebraic_AdamUpIdeal_AdamUpReferenceIdeal := by
  intro m g m' g' _ hargs
  refine ⟨_, _, _, _, Cert.AdamUpIdeal.Grad.run m g, ?_⟩
  refine (θ_run Cert.AdamUpReferenceIdeal.defs _ _).mono (fun r h c => ?_) (Cert.AdamUpReferenceIdeal.Value.run (F := Ideal) m' g')
  obtain ⟨a0, a1, a2, a3, a4⟩ := hargs c
  refine ⟨?_, ?_, ?_, ?_, (h c).2.2.2.2⟩
  · refine ((h c).1.trans (Cert.AdamUpReferenceIdeal.Read.val_main_v2_eq ..)).trans ?_
    rw [a1, a2]
    exact Cert.AdamUpIdeal.Grad.reference_grad ..
  · refine ((h c).2.1.trans (Cert.AdamUpReferenceIdeal.Read.val_main_v26_eq ..)).trans ?_
    rw [a0, a1, a2, a3, a4]
    exact Cert.AdamUpIdeal.Grad.reference_delta ..
  · refine ((h c).2.2.1.trans (Cert.AdamUpReferenceIdeal.Read.val_main_v7_eq ..)).trans ?_
    rw [a1, a2, a3]
    exact Cert.AdamUpIdeal.Grad.reference_moment ..
  · refine ((h c).2.2.2.1.trans (Cert.AdamUpReferenceIdeal.Read.val_main_v13_eq ..)).trans ?_
    rw [a1, a2, a4]
    exact Cert.AdamUpIdeal.Grad.reference_spread ..

/-! ## The optimiser of a shard of `w_br_a` or `w_br_b` -/

theorem frame_AdamBr_reference : Cert.quiescent_AdamBrReferenceIdeal := fun m ρ _ =>
  (θ_run Cert.AdamBrReferenceIdeal.defs _ _).mono (fun r h => ⟨fun c => (h c).2.2.2.2, sem_eq_zero_of_no_sems rfl r.2⟩)
    (Cert.AdamBrReferenceIdeal.Value.run (F := Ideal) m ρ)
theorem algebraic_AdamBr : Cert.algebraic_AdamBrIdeal_AdamBrReferenceIdeal := by
  intro m g m' g' _ hargs
  refine ⟨_, _, _, _, Cert.AdamBrIdeal.Grad.run m g, ?_⟩
  refine (θ_run Cert.AdamBrReferenceIdeal.defs _ _).mono (fun r h c => ?_) (Cert.AdamBrReferenceIdeal.Value.run (F := Ideal) m' g')
  obtain ⟨a0, a1, a2, a3, a4⟩ := hargs c
  refine ⟨?_, ?_, ?_, ?_, (h c).2.2.2.2⟩
  · refine ((h c).1.trans (Cert.AdamBrReferenceIdeal.Read.val_main_v2_eq ..)).trans ?_
    rw [a1, a2]
    exact Cert.AdamBrIdeal.Grad.reference_grad ..
  · refine ((h c).2.1.trans (Cert.AdamBrReferenceIdeal.Read.val_main_v26_eq ..)).trans ?_
    rw [a0, a1, a2, a3, a4]
    exact Cert.AdamBrIdeal.Grad.reference_delta ..
  · refine ((h c).2.2.1.trans (Cert.AdamBrReferenceIdeal.Read.val_main_v7_eq ..)).trans ?_
    rw [a1, a2, a3]
    exact Cert.AdamBrIdeal.Grad.reference_moment ..
  · refine ((h c).2.2.2.1.trans (Cert.AdamBrReferenceIdeal.Read.val_main_v13_eq ..)).trans ?_
    rw [a1, a2, a4]
    exact Cert.AdamBrIdeal.Grad.reference_spread ..

/-! ## The optimiser of a shard of `w_in` -/

theorem frame_AdamIn_reference : Cert.quiescent_AdamInReferenceIdeal := fun m ρ _ =>
  (θ_run Cert.AdamInReferenceIdeal.defs _ _).mono (fun r h => ⟨fun c => (h c).2.2.2.2, sem_eq_zero_of_no_sems rfl r.2⟩)
    (Cert.AdamInReferenceIdeal.Value.run (F := Ideal) m ρ)
theorem algebraic_AdamIn : Cert.algebraic_AdamInIdeal_AdamInReferenceIdeal := by
  intro m g m' g' _ hargs
  refine ⟨_, _, _, _, Cert.AdamInIdeal.Grad.run m g, ?_⟩
  refine (θ_run Cert.AdamInReferenceIdeal.defs _ _).mono (fun r h c => ?_) (Cert.AdamInReferenceIdeal.Value.run (F := Ideal) m' g')
  obtain ⟨a0, a1, a2, a3, a4⟩ := hargs c
  refine ⟨?_, ?_, ?_, ?_, (h c).2.2.2.2⟩
  · refine ((h c).1.trans (Cert.AdamInReferenceIdeal.Read.val_main_v2_eq ..)).trans ?_
    rw [a1, a2]
    exact Cert.AdamInIdeal.Grad.reference_grad ..
  · refine ((h c).2.1.trans (Cert.AdamInReferenceIdeal.Read.val_main_v26_eq ..)).trans ?_
    rw [a0, a1, a2, a3, a4]
    exact Cert.AdamInIdeal.Grad.reference_delta ..
  · refine ((h c).2.2.1.trans (Cert.AdamInReferenceIdeal.Read.val_main_v7_eq ..)).trans ?_
    rw [a1, a2, a3]
    exact Cert.AdamInIdeal.Grad.reference_moment ..
  · refine ((h c).2.2.2.1.trans (Cert.AdamInReferenceIdeal.Read.val_main_v13_eq ..)).trans ?_
    rw [a1, a2, a4]
    exact Cert.AdamInIdeal.Grad.reference_spread ..

/-! ## The optimiser of a shard of `w_xkv` -/

theorem frame_AdamKv_reference : Cert.quiescent_AdamKvReferenceIdeal := fun m ρ _ =>
  (θ_run Cert.AdamKvReferenceIdeal.defs _ _).mono (fun r h => ⟨fun c => (h c).2.2.2.2, sem_eq_zero_of_no_sems rfl r.2⟩)
    (Cert.AdamKvReferenceIdeal.Value.run (F := Ideal) m ρ)
theorem algebraic_AdamKv : Cert.algebraic_AdamKvIdeal_AdamKvReferenceIdeal := by
  intro m g m' g' _ hargs
  refine ⟨_, _, _, _, Cert.AdamKvIdeal.Grad.run m g, ?_⟩
  refine (θ_run Cert.AdamKvReferenceIdeal.defs _ _).mono (fun r h c => ?_) (Cert.AdamKvReferenceIdeal.Value.run (F := Ideal) m' g')
  obtain ⟨a0, a1, a2, a3, a4⟩ := hargs c
  refine ⟨?_, ?_, ?_, ?_, (h c).2.2.2.2⟩
  · refine ((h c).1.trans (Cert.AdamKvReferenceIdeal.Read.val_main_v2_eq ..)).trans ?_
    rw [a1, a2]
    exact Cert.AdamKvIdeal.Grad.reference_grad ..
  · refine ((h c).2.1.trans (Cert.AdamKvReferenceIdeal.Read.val_main_v26_eq ..)).trans ?_
    rw [a0, a1, a2, a3, a4]
    exact Cert.AdamKvIdeal.Grad.reference_delta ..
  · refine ((h c).2.2.1.trans (Cert.AdamKvReferenceIdeal.Read.val_main_v7_eq ..)).trans ?_
    rw [a1, a2, a3]
    exact Cert.AdamKvIdeal.Grad.reference_moment ..
  · refine ((h c).2.2.2.1.trans (Cert.AdamKvReferenceIdeal.Read.val_main_v13_eq ..)).trans ?_
    rw [a1, a2, a4]
    exact Cert.AdamKvIdeal.Grad.reference_spread ..

/-! ## The optimiser of a shard of `w_xq` or `w_xo` -/

theorem frame_AdamXq_reference : Cert.quiescent_AdamXqReferenceIdeal := fun m ρ _ =>
  (θ_run Cert.AdamXqReferenceIdeal.defs _ _).mono (fun r h => ⟨fun c => (h c).2.2.2.2, sem_eq_zero_of_no_sems rfl r.2⟩)
    (Cert.AdamXqReferenceIdeal.Value.run (F := Ideal) m ρ)
theorem algebraic_AdamXq : Cert.algebraic_AdamXqIdeal_AdamXqReferenceIdeal := by
  intro m g m' g' _ hargs
  refine ⟨_, _, _, _, Cert.AdamXqIdeal.Grad.run m g, ?_⟩
  refine (θ_run Cert.AdamXqReferenceIdeal.defs _ _).mono (fun r h c => ?_) (Cert.AdamXqReferenceIdeal.Value.run (F := Ideal) m' g')
  obtain ⟨a0, a1, a2, a3, a4⟩ := hargs c
  refine ⟨?_, ?_, ?_, ?_, (h c).2.2.2.2⟩
  · refine ((h c).1.trans (Cert.AdamXqReferenceIdeal.Read.val_main_v2_eq ..)).trans ?_
    rw [a1, a2]
    exact Cert.AdamXqIdeal.Grad.reference_grad ..
  · refine ((h c).2.1.trans (Cert.AdamXqReferenceIdeal.Read.val_main_v26_eq ..)).trans ?_
    rw [a0, a1, a2, a3, a4]
    exact Cert.AdamXqIdeal.Grad.reference_delta ..
  · refine ((h c).2.2.1.trans (Cert.AdamXqReferenceIdeal.Read.val_main_v7_eq ..)).trans ?_
    rw [a1, a2, a3]
    exact Cert.AdamXqIdeal.Grad.reference_moment ..
  · refine ((h c).2.2.2.1.trans (Cert.AdamXqReferenceIdeal.Read.val_main_v13_eq ..)).trans ?_
    rw [a1, a2, a4]
    exact Cert.AdamXqIdeal.Grad.reference_spread ..

/-- Every claim. -/
theorem claim : Cert.Claim := ⟨Cert.Kernel.Gen.facts, Cert.KernelIdeal.Gen.facts, Cert.ReferenceIdeal.Gen.facts,
  Cert.Dh.Gen.facts, Cert.DhIdeal.Gen.facts, Cert.DhReferenceIdeal.Gen.facts,
  Cert.Dx2.Gen.facts, Cert.Dx2Ideal.Gen.facts, Cert.Dx2ReferenceIdeal.Gen.facts,
  Cert.Dx.Gen.facts, Cert.DxIdeal.Gen.facts, Cert.DxReferenceIdeal.Gen.facts,
  Cert.Up.Gen.facts, Cert.UpIdeal.Gen.facts, Cert.UpReferenceIdeal.Gen.facts,
  Cert.Down.Gen.facts, Cert.DownIdeal.Gen.facts, Cert.DownReferenceIdeal.Gen.facts,
  Cert.Proj.Gen.facts, Cert.ProjIdeal.Gen.facts, Cert.ProjReferenceIdeal.Gen.facts,
  Cert.DwDownS.Gen.facts, Cert.DwDownSIdeal.Gen.facts, Cert.DwDownSReferenceIdeal.Gen.facts,
  Cert.DwDownO.Gen.facts, Cert.DwDownOIdeal.Gen.facts, Cert.DwDownOReferenceIdeal.Gen.facts,
  Cert.DwUpS.Gen.facts, Cert.DwUpSIdeal.Gen.facts, Cert.DwUpSReferenceIdeal.Gen.facts,
  Cert.DwUpO.Gen.facts, Cert.DwUpOIdeal.Gen.facts, Cert.DwUpOReferenceIdeal.Gen.facts,
  Cert.O.Gen.facts, Cert.OIdeal.Gen.facts, Cert.OReferenceIdeal.Gen.facts,
  Cert.DwOS.Gen.facts, Cert.DwOSIdeal.Gen.facts, Cert.DwOSReferenceIdeal.Gen.facts,
  Cert.DwOO.Gen.facts, Cert.DwOOIdeal.Gen.facts, Cert.DwOOReferenceIdeal.Gen.facts,
  Cert.DwBrS.Gen.facts, Cert.DwBrSIdeal.Gen.facts, Cert.DwBrSReferenceIdeal.Gen.facts,
  Cert.DwBrO.Gen.facts, Cert.DwBrOIdeal.Gen.facts, Cert.DwBrOReferenceIdeal.Gen.facts,
  Cert.DwXoS.Gen.facts, Cert.DwXoSIdeal.Gen.facts, Cert.DwXoSReferenceIdeal.Gen.facts,
  Cert.DwXoO.Gen.facts, Cert.DwXoOIdeal.Gen.facts, Cert.DwXoOReferenceIdeal.Gen.facts,
  Cert.DwXqS.Gen.facts, Cert.DwXqSIdeal.Gen.facts, Cert.DwXqSReferenceIdeal.Gen.facts,
  Cert.DwXqO.Gen.facts, Cert.DwXqOIdeal.Gen.facts, Cert.DwXqOReferenceIdeal.Gen.facts,
  Cert.DwKvS.Gen.facts, Cert.DwKvSIdeal.Gen.facts, Cert.DwKvSReferenceIdeal.Gen.facts,
  Cert.DwKvO.Gen.facts, Cert.DwKvOIdeal.Gen.facts, Cert.DwKvOReferenceIdeal.Gen.facts,
  Cert.Adam.Gen.facts, Cert.AdamIdeal.Gen.facts, Cert.AdamReferenceIdeal.Gen.facts,
  Cert.Sum.Gen.facts, Cert.SumIdeal.Gen.facts, Cert.SumReferenceIdeal.Gen.facts,
  Cert.AdamO.Gen.facts, Cert.AdamOIdeal.Gen.facts, Cert.AdamOReferenceIdeal.Gen.facts,
  Cert.AdamUp.Gen.facts, Cert.AdamUpIdeal.Gen.facts, Cert.AdamUpReferenceIdeal.Gen.facts,
  Cert.AdamBr.Gen.facts, Cert.AdamBrIdeal.Gen.facts, Cert.AdamBrReferenceIdeal.Gen.facts,
  Cert.AdamIn.Gen.facts, Cert.AdamInIdeal.Gen.facts, Cert.AdamInReferenceIdeal.Gen.facts,
  Cert.AdamKv.Gen.facts, Cert.AdamKvIdeal.Gen.facts, Cert.AdamKvReferenceIdeal.Gen.facts,
  Cert.AdamXq.Gen.facts, Cert.AdamXqIdeal.Gen.facts, Cert.AdamXqReferenceIdeal.Gen.facts,
  Cert.Pre_finite.Gen.facts,
  fun m ρ _ => Cert.Kernel.Gen.frame m ρ, fun m ρ _ => Cert.KernelIdeal.Gen.frame m ρ,
  fun m ρ _ => Cert.KernelIdeal.Gen.frame m ρ, frame_reference,
  fun m ρ _ => frame_reference m ρ trivial,
  fun m ρ _ => Cert.Dh.Gen.frame m ρ, fun m ρ _ => Cert.DhIdeal.Gen.frame m ρ, frame_Dh_reference,
  fun m ρ _ => Cert.Dx2.Gen.frame m ρ, fun m ρ _ => Cert.Dx2Ideal.Gen.frame m ρ, frame_Dx2_reference,
  fun m ρ _ => Cert.Dx.Gen.frame m ρ, fun m ρ _ => Cert.DxIdeal.Gen.frame m ρ, frame_Dx_reference,
  fun m ρ _ => Cert.Up.Gen.frame m ρ, fun m ρ _ => Cert.UpIdeal.Gen.frame m ρ, frame_Up_reference,
  fun m ρ _ => Cert.Down.Gen.frame m ρ, fun m ρ _ => Cert.DownIdeal.Gen.frame m ρ, frame_Down_reference,
  fun m ρ _ => Cert.Proj.Gen.frame m ρ, fun m ρ _ => Cert.ProjIdeal.Gen.frame m ρ, frame_Proj_reference,
  fun m ρ _ => Cert.DwDownS.Gen.frame m ρ (Cert.DwDownS.Gen.ok m), fun m ρ _ => Cert.DwDownSIdeal.Gen.frame m ρ (Cert.DwDownSIdeal.Gen.ok m), frame_DwDownS_reference,
  fun m ρ _ => Cert.DwDownO.Gen.frame m ρ (Cert.DwDownO.Gen.ok m), fun m ρ _ => Cert.DwDownOIdeal.Gen.frame m ρ (Cert.DwDownOIdeal.Gen.ok m), frame_DwDownO_reference,
  fun m ρ _ => Cert.DwUpS.Gen.frame m ρ (Cert.DwUpS.Gen.ok m), fun m ρ _ => Cert.DwUpSIdeal.Gen.frame m ρ (Cert.DwUpSIdeal.Gen.ok m), frame_DwUpS_reference,
  fun m ρ _ => Cert.DwUpO.Gen.frame m ρ (Cert.DwUpO.Gen.ok m), fun m ρ _ => Cert.DwUpOIdeal.Gen.frame m ρ (Cert.DwUpOIdeal.Gen.ok m), frame_DwUpO_reference,
  fun m ρ _ => Cert.O.Gen.frame m ρ, fun m ρ _ => Cert.OIdeal.Gen.frame m ρ, frame_O_reference,
  fun m ρ _ => Cert.DwOS.Gen.frame m ρ (Cert.DwOS.Gen.ok m), fun m ρ _ => Cert.DwOSIdeal.Gen.frame m ρ (Cert.DwOSIdeal.Gen.ok m), frame_DwOS_reference,
  fun m ρ _ => Cert.DwOO.Gen.frame m ρ (Cert.DwOO.Gen.ok m), fun m ρ _ => Cert.DwOOIdeal.Gen.frame m ρ (Cert.DwOOIdeal.Gen.ok m), frame_DwOO_reference,
  fun m ρ _ => Cert.DwBrS.Gen.frame m ρ (Cert.DwBrS.Gen.ok m), fun m ρ _ => Cert.DwBrSIdeal.Gen.frame m ρ (Cert.DwBrSIdeal.Gen.ok m), frame_DwBrS_reference,
  fun m ρ _ => Cert.DwBrO.Gen.frame m ρ (Cert.DwBrO.Gen.ok m), fun m ρ _ => Cert.DwBrOIdeal.Gen.frame m ρ (Cert.DwBrOIdeal.Gen.ok m), frame_DwBrO_reference,
  fun m ρ _ => Cert.DwXoS.Gen.frame m ρ (Cert.DwXoS.Gen.ok m), fun m ρ _ => Cert.DwXoSIdeal.Gen.frame m ρ (Cert.DwXoSIdeal.Gen.ok m), frame_DwXoS_reference,
  fun m ρ _ => Cert.DwXoO.Gen.frame m ρ (Cert.DwXoO.Gen.ok m), fun m ρ _ => Cert.DwXoOIdeal.Gen.frame m ρ (Cert.DwXoOIdeal.Gen.ok m), frame_DwXoO_reference,
  fun m ρ _ => Cert.DwXqS.Gen.frame m ρ (Cert.DwXqS.Gen.ok m), fun m ρ _ => Cert.DwXqSIdeal.Gen.frame m ρ (Cert.DwXqSIdeal.Gen.ok m), frame_DwXqS_reference,
  fun m ρ _ => Cert.DwXqO.Gen.frame m ρ (Cert.DwXqO.Gen.ok m), fun m ρ _ => Cert.DwXqOIdeal.Gen.frame m ρ (Cert.DwXqOIdeal.Gen.ok m), frame_DwXqO_reference,
  fun m ρ _ => Cert.DwKvS.Gen.frame m ρ (Cert.DwKvS.Gen.ok m), fun m ρ _ => Cert.DwKvSIdeal.Gen.frame m ρ (Cert.DwKvSIdeal.Gen.ok m), frame_DwKvS_reference,
  fun m ρ _ => Cert.DwKvO.Gen.frame m ρ (Cert.DwKvO.Gen.ok m), fun m ρ _ => Cert.DwKvOIdeal.Gen.frame m ρ (Cert.DwKvOIdeal.Gen.ok m), frame_DwKvO_reference,
  fun m ρ _ => Cert.Adam.Gen.frame m ρ, fun m ρ _ => Cert.AdamIdeal.Gen.frame m ρ, frame_Adam_reference,
  fun m ρ _ => Cert.Sum.Gen.frame m ρ, fun m ρ _ => Cert.SumIdeal.Gen.frame m ρ, frame_Sum_reference,
  fun m ρ _ => Cert.AdamO.Gen.frame m ρ, fun m ρ _ => Cert.AdamOIdeal.Gen.frame m ρ, frame_AdamO_reference,
  fun m ρ _ => Cert.AdamUp.Gen.frame m ρ, fun m ρ _ => Cert.AdamUpIdeal.Gen.frame m ρ, frame_AdamUp_reference,
  fun m ρ _ => Cert.AdamBr.Gen.frame m ρ, fun m ρ _ => Cert.AdamBrIdeal.Gen.frame m ρ, frame_AdamBr_reference,
  fun m ρ _ => Cert.AdamIn.Gen.frame m ρ, fun m ρ _ => Cert.AdamInIdeal.Gen.frame m ρ, frame_AdamIn_reference,
  fun m ρ _ => Cert.AdamKv.Gen.frame m ρ, fun m ρ _ => Cert.AdamKvIdeal.Gen.frame m ρ, frame_AdamKv_reference,
  fun m ρ _ => Cert.AdamXq.Gen.frame m ρ, fun m ρ _ => Cert.AdamXqIdeal.Gen.frame m ρ, frame_AdamXq_reference,
  ⟨IdealRules.named_const.statement Cert.KernelIdeal.κ "cubic" .f32 0x3D372713#32 _ rfl,
    IdealRules.named_const.statement Cert.KernelIdeal.κ "cubic3" .f32 0x3E095D4F#32 _ rfl⟩, algebraic,
  trivial, algebraic_Dh,
  trivial, algebraic_Dx2,
  trivial, algebraic_Dx,
  trivial, algebraic_Up,
  trivial, algebraic_Down,
  trivial, algebraic_Proj,
  trivial, algebraic_DwDownS,
  trivial, algebraic_DwDownO,
  trivial, algebraic_DwUpS,
  trivial, algebraic_DwUpO,
  trivial, algebraic_O,
  trivial, algebraic_DwOS,
  trivial, algebraic_DwOO,
  trivial, algebraic_DwBrS,
  trivial, algebraic_DwBrO,
  trivial, algebraic_DwXoS,
  trivial, algebraic_DwXoO,
  trivial, algebraic_DwXqS,
  trivial, algebraic_DwXqO,
  trivial, algebraic_DwKvS,
  trivial, algebraic_DwKvO,
  trivial, algebraic_Adam,
  trivial, algebraic_Sum,
  trivial, algebraic_AdamO,
  trivial, algebraic_AdamUp,
  trivial, algebraic_AdamBr,
  trivial, algebraic_AdamIn,
  trivial, algebraic_AdamKv,
  trivial, algebraic_AdamXq⟩

end Cert.Proof

end
